-- ==== Defs.lean ====
def Pre_MixerA (m : (ℓ : Loc Cert.MixerA.nD Cert.MixerA.τ Cert.MixerA.sig) → Buf (Elt Bits) ℓ) : Prop :=
  True

def Pre_MixerAIdeal (m : (ℓ : Loc Cert.MixerAIdeal.nD Cert.MixerAIdeal.τ Cert.MixerAIdeal.sig) → Buf (Elt Ideal) ℓ) : Prop :=
  True

def Pre_MixerAIdeal_finite [hPre_finite : Cert.Pre_finite.Facts] (m : (ℓ : Loc Cert.MixerAIdeal.nD Cert.MixerAIdeal.τ Cert.MixerAIdeal.sig) → Buf (Elt Ideal) ℓ) : Prop :=
  ∀ c : Dev Cert.MixerAIdeal.nD,
    (Cert.Pre_finite.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2))) = (fun _ => 1#1)

def Pre_RefAIdeal (m : (ℓ : Loc Cert.RefAIdeal.nD Cert.RefAIdeal.τ Cert.RefAIdeal.sig) → Buf (Elt Ideal) ℓ) : Prop :=
  True

def Pre_RefAIdeal_finite [hPre_finite : Cert.Pre_finite.Facts] (m : (ℓ : Loc Cert.RefAIdeal.nD Cert.RefAIdeal.τ Cert.RefAIdeal.sig) → Buf (Elt Ideal) ℓ) : Prop :=
  ∀ c : Dev Cert.RefAIdeal.nD,
    (Cert.Pre_finite.fn (F := Ideal) (m ((c.tc : Thread Cert.RefAIdeal.nD Cert.RefAIdeal.τ).loc Cert.RefAIdeal.main_arg0)) (m ((c.tc : Thread Cert.RefAIdeal.nD Cert.RefAIdeal.τ).loc Cert.RefAIdeal.main_arg1)) (m ((c.tc : Thread Cert.RefAIdeal.nD Cert.RefAIdeal.τ).loc Cert.RefAIdeal.main_arg2))) = (fun _ => 1#1)

def Pre_Dy (m : (ℓ : Loc Cert.Dy.nD Cert.Dy.τ Cert.Dy.sig) → Buf (Elt Bits) ℓ) : Prop :=
  True

def Pre_DyIdeal (m : (ℓ : Loc Cert.DyIdeal.nD Cert.DyIdeal.τ Cert.DyIdeal.sig) → Buf (Elt Ideal) ℓ) : Prop :=
  True

def Pre_RefDyIdeal (m : (ℓ : Loc Cert.RefDyIdeal.nD Cert.RefDyIdeal.τ Cert.RefDyIdeal.sig) → Buf (Elt Ideal) ℓ) : Prop :=
  True

def Pre_GradWOut (m : (ℓ : Loc Cert.GradWOut.nD Cert.GradWOut.τ Cert.GradWOut.sig) → Buf (Elt Bits) ℓ) : Prop :=
  True

def Pre_GradWOutIdeal (m : (ℓ : Loc Cert.GradWOutIdeal.nD Cert.GradWOutIdeal.τ Cert.GradWOutIdeal.sig) → Buf (Elt Ideal) ℓ) : Prop :=
  True

def Pre_RefGradWOutIdeal (m : (ℓ : Loc Cert.RefGradWOutIdeal.nD Cert.RefGradWOutIdeal.τ Cert.RefGradWOutIdeal.sig) → Buf (Elt Ideal) ℓ) : Prop :=
  True

def Pre_Dh (m : (ℓ : Loc Cert.Dh.nD Cert.Dh.τ Cert.Dh.sig) → Buf (Elt Bits) ℓ) : Prop :=
  True

def Pre_DhIdeal (m : (ℓ : Loc Cert.DhIdeal.nD Cert.DhIdeal.τ Cert.DhIdeal.sig) → Buf (Elt Ideal) ℓ) : Prop :=
  True

def Pre_RefDhIdeal (m : (ℓ : Loc Cert.RefDhIdeal.nD Cert.RefDhIdeal.τ Cert.RefDhIdeal.sig) → Buf (Elt Ideal) ℓ) : Prop :=
  True

def Pre_Slot [hPre_in_range : Cert.Pre_in_range.Facts] (m : (ℓ : Loc Cert.Slot.nD Cert.Slot.τ Cert.Slot.sig) → Buf (Elt Bits) ℓ) : Prop :=
  ∀ c : Dev Cert.Slot.nD,
    (Cert.Pre_in_range.fn (F := Bits) (m ((c.tc : Thread Cert.Slot.nD Cert.Slot.τ).loc Cert.Slot.main_arg0)) (m ((c.tc : Thread Cert.Slot.nD Cert.Slot.τ).loc Cert.Slot.main_arg1)) (m ((c.tc : Thread Cert.Slot.nD Cert.Slot.τ).loc Cert.Slot.main_arg2))) = (fun _ => 1#1)

def Pre_SlotIdeal [hPre_in_range : Cert.Pre_in_range.Facts] (m : (ℓ : Loc Cert.SlotIdeal.nD Cert.SlotIdeal.τ Cert.SlotIdeal.sig) → Buf (Elt Ideal) ℓ) : Prop :=
  ∀ c : Dev Cert.SlotIdeal.nD,
    (Cert.Pre_in_range.fn (F := Ideal) (m ((c.tc : Thread Cert.SlotIdeal.nD Cert.SlotIdeal.τ).loc Cert.SlotIdeal.main_arg0)) (m ((c.tc : Thread Cert.SlotIdeal.nD Cert.SlotIdeal.τ).loc Cert.SlotIdeal.main_arg1)) (m ((c.tc : Thread Cert.SlotIdeal.nD Cert.SlotIdeal.τ).loc Cert.SlotIdeal.main_arg2))) = (fun _ => 1#1)

def Pre_RefSlotIdeal (m : (ℓ : Loc Cert.RefSlotIdeal.nD Cert.RefSlotIdeal.τ Cert.RefSlotIdeal.sig) → Buf (Elt Ideal) ℓ) : Prop :=
  True

def Pre_RefSlotIdeal_in_range [hPre_in_range : Cert.Pre_in_range.Facts] (m : (ℓ : Loc Cert.RefSlotIdeal.nD Cert.RefSlotIdeal.τ Cert.RefSlotIdeal.sig) → Buf (Elt Ideal) ℓ) : Prop :=
  ∀ c : Dev Cert.RefSlotIdeal.nD,
    (Cert.Pre_in_range.fn (F := Ideal) (m ((c.tc : Thread Cert.RefSlotIdeal.nD Cert.RefSlotIdeal.τ).loc Cert.RefSlotIdeal.main_arg0)) (m ((c.tc : Thread Cert.RefSlotIdeal.nD Cert.RefSlotIdeal.τ).loc Cert.RefSlotIdeal.main_arg1)) (m ((c.tc : Thread Cert.RefSlotIdeal.nD Cert.RefSlotIdeal.τ).loc Cert.RefSlotIdeal.main_arg2))) = (fun _ => 1#1)

def Pre_SlotSecond [hPre_in_range_added : Cert.Pre_in_range_added.Facts] (m : (ℓ : Loc Cert.SlotSecond.nD Cert.SlotSecond.τ Cert.SlotSecond.sig) → Buf (Elt Bits) ℓ) : Prop :=
  ∀ c : Dev Cert.SlotSecond.nD,
    (Cert.Pre_in_range_added.fn (F := Bits) (m ((c.tc : Thread Cert.SlotSecond.nD Cert.SlotSecond.τ).loc Cert.SlotSecond.main_arg0)) (m ((c.tc : Thread Cert.SlotSecond.nD Cert.SlotSecond.τ).loc Cert.SlotSecond.main_arg1)) (m ((c.tc : Thread Cert.SlotSecond.nD Cert.SlotSecond.τ).loc Cert.SlotSecond.main_arg2)) (m ((c.tc : Thread Cert.SlotSecond.nD Cert.SlotSecond.τ).loc Cert.SlotSecond.main_arg3))) = (fun _ => 1#1)

def Pre_SlotSecondIdeal [hPre_in_range_added : Cert.Pre_in_range_added.Facts] (m : (ℓ : Loc Cert.SlotSecondIdeal.nD Cert.SlotSecondIdeal.τ Cert.SlotSecondIdeal.sig) → Buf (Elt Ideal) ℓ) : Prop :=
  ∀ c : Dev Cert.SlotSecondIdeal.nD,
    (Cert.Pre_in_range_added.fn (F := Ideal) (m ((c.tc : Thread Cert.SlotSecondIdeal.nD Cert.SlotSecondIdeal.τ).loc Cert.SlotSecondIdeal.main_arg0)) (m ((c.tc : Thread Cert.SlotSecondIdeal.nD Cert.SlotSecondIdeal.τ).loc Cert.SlotSecondIdeal.main_arg1)) (m ((c.tc : Thread Cert.SlotSecondIdeal.nD Cert.SlotSecondIdeal.τ).loc Cert.SlotSecondIdeal.main_arg2)) (m ((c.tc : Thread Cert.SlotSecondIdeal.nD Cert.SlotSecondIdeal.τ).loc Cert.SlotSecondIdeal.main_arg3))) = (fun _ => 1#1)

def Pre_RefSlotSecondIdeal (m : (ℓ : Loc Cert.RefSlotSecondIdeal.nD Cert.RefSlotSecondIdeal.τ Cert.RefSlotSecondIdeal.sig) → Buf (Elt Ideal) ℓ) : Prop :=
  True

def Pre_RefSlotSecondIdeal_in_range_added [hPre_in_range_added : Cert.Pre_in_range_added.Facts] (m : (ℓ : Loc Cert.RefSlotSecondIdeal.nD Cert.RefSlotSecondIdeal.τ Cert.RefSlotSecondIdeal.sig) → Buf (Elt Ideal) ℓ) : Prop :=
  ∀ c : Dev Cert.RefSlotSecondIdeal.nD,
    (Cert.Pre_in_range_added.fn (F := Ideal) (m ((c.tc : Thread Cert.RefSlotSecondIdeal.nD Cert.RefSlotSecondIdeal.τ).loc Cert.RefSlotSecondIdeal.main_arg0)) (m ((c.tc : Thread Cert.RefSlotSecondIdeal.nD Cert.RefSlotSecondIdeal.τ).loc Cert.RefSlotSecondIdeal.main_arg1)) (m ((c.tc : Thread Cert.RefSlotSecondIdeal.nD Cert.RefSlotSecondIdeal.τ).loc Cert.RefSlotSecondIdeal.main_arg2)) (m ((c.tc : Thread Cert.RefSlotSecondIdeal.nD Cert.RefSlotSecondIdeal.τ).loc Cert.RefSlotSecondIdeal.main_arg3))) = (fun _ => 1#1)

def Pre_SlotOwn [hPre_in_range_added : Cert.Pre_in_range_added.Facts] (m : (ℓ : Loc Cert.SlotOwn.nD Cert.SlotOwn.τ Cert.SlotOwn.sig) → Buf (Elt Bits) ℓ) : Prop :=
  ∀ c : Dev Cert.SlotOwn.nD,
    (Cert.Pre_in_range_added.fn (F := Bits) (m ((c.tc : Thread Cert.SlotOwn.nD Cert.SlotOwn.τ).loc Cert.SlotOwn.main_arg0)) (m ((c.tc : Thread Cert.SlotOwn.nD Cert.SlotOwn.τ).loc Cert.SlotOwn.main_arg1)) (m ((c.tc : Thread Cert.SlotOwn.nD Cert.SlotOwn.τ).loc Cert.SlotOwn.main_arg2)) (m ((c.tc : Thread Cert.SlotOwn.nD Cert.SlotOwn.τ).loc Cert.SlotOwn.main_arg3))) = (fun _ => 1#1)

def Pre_SlotOwnIdeal [hPre_in_range_added : Cert.Pre_in_range_added.Facts] (m : (ℓ : Loc Cert.SlotOwnIdeal.nD Cert.SlotOwnIdeal.τ Cert.SlotOwnIdeal.sig) → Buf (Elt Ideal) ℓ) : Prop :=
  ∀ c : Dev Cert.SlotOwnIdeal.nD,
    (Cert.Pre_in_range_added.fn (F := Ideal) (m ((c.tc : Thread Cert.SlotOwnIdeal.nD Cert.SlotOwnIdeal.τ).loc Cert.SlotOwnIdeal.main_arg0)) (m ((c.tc : Thread Cert.SlotOwnIdeal.nD Cert.SlotOwnIdeal.τ).loc Cert.SlotOwnIdeal.main_arg1)) (m ((c.tc : Thread Cert.SlotOwnIdeal.nD Cert.SlotOwnIdeal.τ).loc Cert.SlotOwnIdeal.main_arg2)) (m ((c.tc : Thread Cert.SlotOwnIdeal.nD Cert.SlotOwnIdeal.τ).loc Cert.SlotOwnIdeal.main_arg3))) = (fun _ => 1#1)

def Pre_RefSlotOwnIdeal (m : (ℓ : Loc Cert.RefSlotOwnIdeal.nD Cert.RefSlotOwnIdeal.τ Cert.RefSlotOwnIdeal.sig) → Buf (Elt Ideal) ℓ) : Prop :=
  True

def Pre_RefSlotOwnIdeal_in_range_added [hPre_in_range_added : Cert.Pre_in_range_added.Facts] (m : (ℓ : Loc Cert.RefSlotOwnIdeal.nD Cert.RefSlotOwnIdeal.τ Cert.RefSlotOwnIdeal.sig) → Buf (Elt Ideal) ℓ) : Prop :=
  ∀ c : Dev Cert.RefSlotOwnIdeal.nD,
    (Cert.Pre_in_range_added.fn (F := Ideal) (m ((c.tc : Thread Cert.RefSlotOwnIdeal.nD Cert.RefSlotOwnIdeal.τ).loc Cert.RefSlotOwnIdeal.main_arg0)) (m ((c.tc : Thread Cert.RefSlotOwnIdeal.nD Cert.RefSlotOwnIdeal.τ).loc Cert.RefSlotOwnIdeal.main_arg1)) (m ((c.tc : Thread Cert.RefSlotOwnIdeal.nD Cert.RefSlotOwnIdeal.τ).loc Cert.RefSlotOwnIdeal.main_arg2)) (m ((c.tc : Thread Cert.RefSlotOwnIdeal.nD Cert.RefSlotOwnIdeal.τ).loc Cert.RefSlotOwnIdeal.main_arg3))) = (fun _ => 1#1)

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_RefOutProjIdeal (m : (ℓ : Loc Cert.RefOutProjIdeal.nD Cert.RefOutProjIdeal.τ Cert.RefOutProjIdeal.sig) → Buf (Elt Ideal) ℓ) : Prop :=
  True

def Pre_PreNorm [hPre_finite_rows : Cert.Pre_finite_rows.Facts] (m : (ℓ : Loc Cert.PreNorm.nD Cert.PreNorm.τ Cert.PreNorm.sig) → Buf (Elt Bits) ℓ) : Prop :=
  ∀ c : Dev Cert.PreNorm.nD,
    (Cert.Pre_finite_rows.fn (F := Bits) (m ((c.tc : Thread Cert.PreNorm.nD Cert.PreNorm.τ).loc Cert.PreNorm.main_arg0)) (m ((c.tc : Thread Cert.PreNorm.nD Cert.PreNorm.τ).loc Cert.PreNorm.main_arg1)) (m ((c.tc : Thread Cert.PreNorm.nD Cert.PreNorm.τ).loc Cert.PreNorm.main_arg2)) (m ((c.tc : Thread Cert.PreNorm.nD Cert.PreNorm.τ).loc Cert.PreNorm.main_arg3)) (m ((c.tc : Thread Cert.PreNorm.nD Cert.PreNorm.τ).loc Cert.PreNorm.main_arg4))) = (fun _ => 1#1)

def Pre_PreNormIdeal [hPre_finite_rows : Cert.Pre_finite_rows.Facts] (m : (ℓ : Loc Cert.PreNormIdeal.nD Cert.PreNormIdeal.τ Cert.PreNormIdeal.sig) → Buf (Elt Ideal) ℓ) : Prop :=
  ∀ c : Dev Cert.PreNormIdeal.nD,
    (Cert.Pre_finite_rows.fn (F := Ideal) (m ((c.tc : Thread Cert.PreNormIdeal.nD Cert.PreNormIdeal.τ).loc Cert.PreNormIdeal.main_arg0)) (m ((c.tc : Thread Cert.PreNormIdeal.nD Cert.PreNormIdeal.τ).loc Cert.PreNormIdeal.main_arg1)) (m ((c.tc : Thread Cert.PreNormIdeal.nD Cert.PreNormIdeal.τ).loc Cert.PreNormIdeal.main_arg2)) (m ((c.tc : Thread Cert.PreNormIdeal.nD Cert.PreNormIdeal.τ).loc Cert.PreNormIdeal.main_arg3)) (m ((c.tc : Thread Cert.PreNormIdeal.nD Cert.PreNormIdeal.τ).loc Cert.PreNormIdeal.main_arg4))) = (fun _ => 1#1)

def Pre_RefPreNormIdeal (m : (ℓ : Loc Cert.RefPreNormIdeal.nD Cert.RefPreNormIdeal.τ Cert.RefPreNormIdeal.sig) → Buf (Elt Ideal) ℓ) : Prop :=
  True

def Pre_RefPreNormIdeal_finite_rows [hPre_finite_rows : Cert.Pre_finite_rows.Facts] (m : (ℓ : Loc Cert.RefPreNormIdeal.nD Cert.RefPreNormIdeal.τ Cert.RefPreNormIdeal.sig) → Buf (Elt Ideal) ℓ) : Prop :=
  ∀ c : Dev Cert.RefPreNormIdeal.nD,
    (Cert.Pre_finite_rows.fn (F := Ideal) (m ((c.tc : Thread Cert.RefPreNormIdeal.nD Cert.RefPreNormIdeal.τ).loc Cert.RefPreNormIdeal.main_arg0)) (m ((c.tc : Thread Cert.RefPreNormIdeal.nD Cert.RefPreNormIdeal.τ).loc Cert.RefPreNormIdeal.main_arg1)) (m ((c.tc : Thread Cert.RefPreNormIdeal.nD Cert.RefPreNormIdeal.τ).loc Cert.RefPreNormIdeal.main_arg2)) (m ((c.tc : Thread Cert.RefPreNormIdeal.nD Cert.RefPreNormIdeal.τ).loc Cert.RefPreNormIdeal.main_arg3)) (m ((c.tc : Thread Cert.RefPreNormIdeal.nD Cert.RefPreNormIdeal.τ).loc Cert.RefPreNormIdeal.main_arg4))) = (fun _ => 1#1)

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_RefAdamInIdeal (m : (ℓ : Loc Cert.RefAdamInIdeal.nD Cert.RefAdamInIdeal.τ Cert.RefAdamInIdeal.sig) → Buf (Elt Ideal) ℓ) : Prop :=
  True

def Pre_AdamOut (m : (ℓ : Loc Cert.AdamOut.nD Cert.AdamOut.τ Cert.AdamOut.sig) → Buf (Elt Bits) ℓ) : Prop :=
  True

def Pre_AdamOutIdeal (m : (ℓ : Loc Cert.AdamOutIdeal.nD Cert.AdamOutIdeal.τ Cert.AdamOutIdeal.sig) → Buf (Elt Ideal) ℓ) : Prop :=
  True

def Pre_RefAdamOutIdeal (m : (ℓ : Loc Cert.RefAdamOutIdeal.nD Cert.RefAdamOutIdeal.τ Cert.RefAdamOutIdeal.sig) → Buf (Elt Ideal) ℓ) : Prop :=
  True

def Pre_AdamModel (m : (ℓ : Loc Cert.AdamModel.nD Cert.AdamModel.τ Cert.AdamModel.sig) → Buf (Elt Bits) ℓ) : Prop :=
  True

def Pre_AdamModelIdeal (m : (ℓ : Loc Cert.AdamModelIdeal.nD Cert.AdamModelIdeal.τ Cert.AdamModelIdeal.sig) → Buf (Elt Ideal) ℓ) : Prop :=
  True

def Pre_RefAdamModelIdeal (m : (ℓ : Loc Cert.RefAdamModelIdeal.nD Cert.RefAdamModelIdeal.τ Cert.RefAdamModelIdeal.sig) → Buf (Elt Ideal) ℓ) : Prop :=
  True

def Pre_AdamMod (m : (ℓ : Loc Cert.AdamMod.nD Cert.AdamMod.τ Cert.AdamMod.sig) → Buf (Elt Bits) ℓ) : Prop :=
  True

def Pre_AdamModIdeal (m : (ℓ : Loc Cert.AdamModIdeal.nD Cert.AdamModIdeal.τ Cert.AdamModIdeal.sig) → Buf (Elt Ideal) ℓ) : Prop :=
  True

def Pre_RefAdamModIdeal (m : (ℓ : Loc Cert.RefAdamModIdeal.nD Cert.RefAdamModIdeal.τ Cert.RefAdamModIdeal.sig) → Buf (Elt Ideal) ℓ) : Prop :=
  True

def Pre_AdamTapsA (m : (ℓ : Loc Cert.AdamTapsA.nD Cert.AdamTapsA.τ Cert.AdamTapsA.sig) → Buf (Elt Bits) ℓ) : Prop :=
  True

def Pre_AdamTapsAIdeal (m : (ℓ : Loc Cert.AdamTapsAIdeal.nD Cert.AdamTapsAIdeal.τ Cert.AdamTapsAIdeal.sig) → Buf (Elt Ideal) ℓ) : Prop :=
  True

def Pre_RefAdamTapsAIdeal (m : (ℓ : Loc Cert.RefAdamTapsAIdeal.nD Cert.RefAdamTapsAIdeal.τ Cert.RefAdamTapsAIdeal.sig) → Buf (Elt Ideal) ℓ) : Prop :=
  True

def Pre_AdamTapsB (m : (ℓ : Loc Cert.AdamTapsB.nD Cert.AdamTapsB.τ Cert.AdamTapsB.sig) → Buf (Elt Bits) ℓ) : Prop :=
  True

def Pre_AdamTapsBIdeal (m : (ℓ : Loc Cert.AdamTapsBIdeal.nD Cert.AdamTapsBIdeal.τ Cert.AdamTapsBIdeal.sig) → Buf (Elt Ideal) ℓ) : Prop :=
  True

def Pre_RefAdamTapsBIdeal (m : (ℓ : Loc Cert.RefAdamTapsBIdeal.nD Cert.RefAdamTapsBIdeal.τ Cert.RefAdamTapsBIdeal.sig) → Buf (Elt Ideal) ℓ) : Prop :=
  True

def Pre_AdamMixer (m : (ℓ : Loc Cert.AdamMixer.nD Cert.AdamMixer.τ Cert.AdamMixer.sig) → Buf (Elt Bits) ℓ) : Prop :=
  True

def Pre_AdamMixerIdeal (m : (ℓ : Loc Cert.AdamMixerIdeal.nD Cert.AdamMixerIdeal.τ Cert.AdamMixerIdeal.sig) → Buf (Elt Ideal) ℓ) : Prop :=
  True

def Pre_RefAdamMixerIdeal (m : (ℓ : Loc Cert.RefAdamMixerIdeal.nD Cert.RefAdamMixerIdeal.τ Cert.RefAdamMixerIdeal.sig) → Buf (Elt Ideal) ℓ) : Prop :=
  True

def Pre_AdamAda (m : (ℓ : Loc Cert.AdamAda.nD Cert.AdamAda.τ Cert.AdamAda.sig) → Buf (Elt Bits) ℓ) : Prop :=
  True

def Pre_AdamAdaIdeal (m : (ℓ : Loc Cert.AdamAdaIdeal.nD Cert.AdamAdaIdeal.τ Cert.AdamAdaIdeal.sig) → Buf (Elt Ideal) ℓ) : Prop :=
  True

def Pre_RefAdamAdaIdeal (m : (ℓ : Loc Cert.RefAdamAdaIdeal.nD Cert.RefAdamAdaIdeal.τ Cert.RefAdamAdaIdeal.sig) → Buf (Elt Ideal) ℓ) : Prop :=
  True

def Pre_Gate [hPre_finite_gate : Cert.Pre_finite_gate.Facts] (m : (ℓ : Loc Cert.Gate.nD Cert.Gate.τ Cert.Gate.sig) → Buf (Elt Bits) ℓ) : Prop :=
  ∀ c : Dev Cert.Gate.nD,
    (Cert.Pre_finite_gate.fn (F := Bits) (m ((c.tc : Thread Cert.Gate.nD Cert.Gate.τ).loc Cert.Gate.main_arg0)) (m ((c.tc : Thread Cert.Gate.nD Cert.Gate.τ).loc Cert.Gate.main_arg1)) (m ((c.tc : Thread Cert.Gate.nD Cert.Gate.τ).loc Cert.Gate.main_arg2)) (m ((c.tc : Thread Cert.Gate.nD Cert.Gate.τ).loc Cert.Gate.main_arg3)) (m ((c.tc : Thread Cert.Gate.nD Cert.Gate.τ).loc Cert.Gate.main_arg4)) (m ((c.tc : Thread Cert.Gate.nD Cert.Gate.τ).loc Cert.Gate.main_arg5))) = (fun _ => 1#1)

def Pre_GateIdeal [hPre_finite_gate : Cert.Pre_finite_gate.Facts] (m : (ℓ : Loc Cert.GateIdeal.nD Cert.GateIdeal.τ Cert.GateIdeal.sig) → Buf (Elt Ideal) ℓ) : Prop :=
  ∀ c : Dev Cert.GateIdeal.nD,
    (Cert.Pre_finite_gate.fn (F := Ideal) (m ((c.tc : Thread Cert.GateIdeal.nD Cert.GateIdeal.τ).loc Cert.GateIdeal.main_arg0)) (m ((c.tc : Thread Cert.GateIdeal.nD Cert.GateIdeal.τ).loc Cert.GateIdeal.main_arg1)) (m ((c.tc : Thread Cert.GateIdeal.nD Cert.GateIdeal.τ).loc Cert.GateIdeal.main_arg2)) (m ((c.tc : Thread Cert.GateIdeal.nD Cert.GateIdeal.τ).loc Cert.GateIdeal.main_arg3)) (m ((c.tc : Thread Cert.GateIdeal.nD Cert.GateIdeal.τ).loc Cert.GateIdeal.main_arg4)) (m ((c.tc : Thread Cert.GateIdeal.nD Cert.GateIdeal.τ).loc Cert.GateIdeal.main_arg5))) = (fun _ => 1#1)

def Pre_RefGateIdeal (m : (ℓ : Loc Cert.RefGateIdeal.nD Cert.RefGateIdeal.τ Cert.RefGateIdeal.sig) → Buf (Elt Ideal) ℓ) : Prop :=
  True

def Pre_RefGateIdeal_finite_gate [hPre_finite_gate : Cert.Pre_finite_gate.Facts] (m : (ℓ : Loc Cert.RefGateIdeal.nD Cert.RefGateIdeal.τ Cert.RefGateIdeal.sig) → Buf (Elt Ideal) ℓ) : Prop :=
  ∀ c : Dev Cert.RefGateIdeal.nD,
    (Cert.Pre_finite_gate.fn (F := Ideal) (m ((c.tc : Thread Cert.RefGateIdeal.nD Cert.RefGateIdeal.τ).loc Cert.RefGateIdeal.main_arg0)) (m ((c.tc : Thread Cert.RefGateIdeal.nD Cert.RefGateIdeal.τ).loc Cert.RefGateIdeal.main_arg1)) (m ((c.tc : Thread Cert.RefGateIdeal.nD Cert.RefGateIdeal.τ).loc Cert.RefGateIdeal.main_arg2)) (m ((c.tc : Thread Cert.RefGateIdeal.nD Cert.RefGateIdeal.τ).loc Cert.RefGateIdeal.main_arg3)) (m ((c.tc : Thread Cert.RefGateIdeal.nD Cert.RefGateIdeal.τ).loc Cert.RefGateIdeal.main_arg4)) (m ((c.tc : Thread Cert.RefGateIdeal.nD Cert.RefGateIdeal.τ).loc Cert.RefGateIdeal.main_arg5))) = (fun _ => 1#1)

def quiescent_MixerA [hMixerA : Cert.MixerA.Facts] : Prop :=
  ∀ (m : (ℓ : Loc Cert.MixerA.nD Cert.MixerA.τ Cert.MixerA.sig) → Buf (Elt Bits) ℓ) (g : Dev Cert.MixerA.nD → PrngReg), Pre_MixerA m →
    θ_run (Cert.MixerA.defs (F := Bits)) (onTc (τ := Cert.MixerA.τ) (Cert.MixerA.main (F := Bits))) ⟨m, fun _ => 0, g⟩ (fun r => (∀ c : Dev Cert.MixerA.nD,
      r.2.mem ((c.tc : Thread Cert.MixerA.nD Cert.MixerA.τ).loc Cert.MixerA.main_arg0) = m ((c.tc : Thread Cert.MixerA.nD Cert.MixerA.τ).loc Cert.MixerA.main_arg0)
      ∧ r.2.mem ((c.tc : Thread Cert.MixerA.nD Cert.MixerA.τ).loc Cert.MixerA.main_arg1) = m ((c.tc : Thread Cert.MixerA.nD Cert.MixerA.τ).loc Cert.MixerA.main_arg1)
      ∧ r.2.mem ((c.tc : Thread Cert.MixerA.nD Cert.MixerA.τ).loc Cert.MixerA.main_arg2) = m ((c.tc : Thread Cert.MixerA.nD Cert.MixerA.τ).loc Cert.MixerA.main_arg2))
      ∧ r.2.sem = fun _ => 0)

def quiescent_MixerAIdeal [hMixerAIdeal : Cert.MixerAIdeal.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
      ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2))
      ∧ r.2.sem = fun _ => 0)

def quiescent_MixerAIdeal_pre_finite [hMixerAIdeal : Cert.MixerAIdeal.Facts] [hPre_finite : Cert.Pre_finite.Facts] : Prop :=
  ∀ (m : (ℓ : Loc Cert.MixerAIdeal.nD Cert.MixerAIdeal.τ Cert.MixerAIdeal.sig) → Buf (Elt Ideal) ℓ) (g : Dev Cert.MixerAIdeal.nD → PrngReg), Pre_MixerAIdeal_finite m →
    θ_run (Cert.MixerAIdeal.defs (F := Ideal)) (onTc (τ := Cert.MixerAIdeal.τ) (Cert.MixerAIdeal.main (F := Ideal))) ⟨m, fun _ => 0, g⟩ (fun r => (∀ c : Dev Cert.MixerAIdeal.nD,
      r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
      ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
      ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2))
      ∧ r.2.sem = fun _ => 0)

def quiescent_RefAIdeal [hRefAIdeal : Cert.RefAIdeal.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2))
      ∧ r.2.sem = fun _ => 0)

def quiescent_RefAIdeal_pre_finite [hRefAIdeal : Cert.RefAIdeal.Facts] [hPre_finite : Cert.Pre_finite.Facts] : Prop :=
  ∀ (m : (ℓ : Loc Cert.RefAIdeal.nD Cert.RefAIdeal.τ Cert.RefAIdeal.sig) → Buf (Elt Ideal) ℓ) (g : Dev Cert.RefAIdeal.nD → PrngReg), Pre_RefAIdeal_finite m →
    θ_run (Cert.RefAIdeal.defs (F := Ideal)) (onTc (τ := Cert.RefAIdeal.τ) (Cert.RefAIdeal.main (F := Ideal))) ⟨m, fun _ => 0, g⟩ (fun r => (∀ c : Dev Cert.RefAIdeal.nD,
      r.2.mem ((c.tc : Thread Cert.RefAIdeal.nD Cert.RefAIdeal.τ).loc Cert.RefAIdeal.main_arg0) = m ((c.tc : Thread Cert.RefAIdeal.nD Cert.RefAIdeal.τ).loc Cert.RefAIdeal.main_arg0)
      ∧ r.2.mem ((c.tc : Thread Cert.RefAIdeal.nD Cert.RefAIdeal.τ).loc Cert.RefAIdeal.main_arg1) = m ((c.tc : Thread Cert.RefAIdeal.nD Cert.RefAIdeal.τ).loc Cert.RefAIdeal.main_arg1)
      ∧ r.2.mem ((c.tc : Thread Cert.RefAIdeal.nD Cert.RefAIdeal.τ).loc Cert.RefAIdeal.main_arg2) = m ((c.tc : Thread Cert.RefAIdeal.nD Cert.RefAIdeal.τ).loc Cert.RefAIdeal.main_arg2))
      ∧ r.2.sem = fun _ => 0)

def quiescent_Dy [hDy : Cert.Dy.Facts] : Prop :=
  ∀ (m : (ℓ : Loc Cert.Dy.nD Cert.Dy.τ Cert.Dy.sig) → Buf (Elt Bits) ℓ) (g : Dev Cert.Dy.nD → PrngReg), Pre_Dy m →
    θ_run (Cert.Dy.defs (F := Bits)) (onTc (τ := Cert.Dy.τ) (Cert.Dy.main (F := Bits))) ⟨m, fun _ => 0, g⟩ (fun r => (∀ c : Dev Cert.Dy.nD,
      r.2.mem ((c.tc : Thread Cert.Dy.nD Cert.Dy.τ).loc Cert.Dy.main_arg0) = m ((c.tc : Thread Cert.Dy.nD Cert.Dy.τ).loc Cert.Dy.main_arg0)
      ∧ r.2.mem ((c.tc : Thread Cert.Dy.nD Cert.Dy.τ).loc Cert.Dy.main_arg1) = m ((c.tc : Thread Cert.Dy.nD Cert.Dy.τ).loc Cert.Dy.main_arg1))
      ∧ r.2.sem = fun _ => 0)

def quiescent_DyIdeal [hDyIdeal : Cert.DyIdeal.Facts] : Prop :=
  ∀ (m : (ℓ : Loc Cert.DyIdeal.nD Cert.DyIdeal.τ Cert.DyIdeal.sig) → Buf (Elt Ideal) ℓ) (g : Dev Cert.DyIdeal.nD → PrngReg), Pre_DyIdeal m →
    θ_run (Cert.DyIdeal.defs (F := Ideal)) (onTc (τ := Cert.DyIdeal.τ) (Cert.DyIdeal.main (F := Ideal))) ⟨m, fun _ => 0, g⟩ (fun r => (∀ c : Dev Cert.DyIdeal.nD,
      r.2.mem ((c.tc : Thread Cert.DyIdeal.nD Cert.DyIdeal.τ).loc Cert.DyIdeal.main_arg0) = m ((c.tc : Thread Cert.DyIdeal.nD Cert.DyIdeal.τ).loc Cert.DyIdeal.main_arg0)
      ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ r.2.sem = fun _ => 0)

def quiescent_RefDyIdeal [hRefDyIdeal : Cert.RefDyIdeal.Facts] : Prop :=
  ∀ (m : (ℓ : Loc Cert.RefDyIdeal.nD Cert.RefDyIdeal.τ Cert.RefDyIdeal.sig) → Buf (Elt Ideal) ℓ) (g : Dev Cert.RefDyIdeal.nD → PrngReg), Pre_RefDyIdeal m →
    θ_run (Cert.RefDyIdeal.defs (F := Ideal)) (onTc (τ := Cert.RefDyIdeal.τ) (Cert.RefDyIdeal.main (F := Ideal))) ⟨m, fun _ => 0, g⟩ (fun r => (∀ c : Dev Cert.RefDyIdeal.nD,
      r.2.mem ((c.tc : Thread Cert.RefDyIdeal.nD Cert.RefDyIdeal.τ).loc Cert.RefDyIdeal.main_arg0) = m ((c.tc : Thread Cert.RefDyIdeal.nD Cert.RefDyIdeal.τ).loc Cert.RefDyIdeal.main_arg0)
      ∧ r.2.mem ((c.tc : Thread Cert.RefDyIdeal.nD Cert.RefDyIdeal.τ).loc Cert.RefDyIdeal.main_arg1) = m ((c.tc : Thread Cert.RefDyIdeal.nD Cert.RefDyIdeal.τ).loc Cert.RefDyIdeal.main_arg1))
      ∧ r.2.sem = fun _ => 0)

def quiescent_GradWOut [hGradWOut : Cert.GradWOut.Facts] : Prop :=
  ∀ (m : (ℓ : Loc Cert.GradWOut.nD Cert.GradWOut.τ Cert.GradWOut.sig) → Buf (Elt Bits) ℓ) (g : Dev Cert.GradWOut.nD → PrngReg), Pre_GradWOut m →
    θ_run (Cert.GradWOut.defs (F := Bits)) (onTc (τ := Cert.GradWOut.τ) (Cert.GradWOut.main (F := Bits))) ⟨m, fun _ => 0, g⟩ (fun r => (∀ c : Dev Cert.GradWOut.nD,
      r.2.mem ((c.tc : Thread Cert.GradWOut.nD Cert.GradWOut.τ).loc Cert.GradWOut.main_arg0) = m ((c.tc : Thread Cert.GradWOut.nD Cert.GradWOut.τ).loc Cert.GradWOut.main_arg0)
      ∧ r.2.mem ((c.tc : Thread Cert.GradWOut.nD Cert.GradWOut.τ).loc Cert.GradWOut.main_arg1) = m ((c.tc : Thread Cert.GradWOut.nD Cert.GradWOut.τ).loc Cert.GradWOut.main_arg1))
      ∧ r.2.sem = fun _ => 0)

def quiescent_GradWOutIdeal [hGradWOutIdeal : Cert.GradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg), Pre_GradWOutIdeal m →
    θ_run (Cert.GradWOutIdeal.defs (F := Ideal)) (onTc (τ := Cert.GradWOutIdeal.τ) (Cert.GradWOutIdeal.main (F := Ideal))) ⟨m, fun _ => 0, g⟩ (fun r => (∀ c : Dev Cert.GradWOutIdeal.nD,
      r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
      ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ r.2.sem = fun _ => 0)

def quiescent_RefGradWOutIdeal [hRefGradWOutIdeal : Cert.RefGradWOutIdeal.Facts] : Prop :=
  ∀ (m : (ℓ : Loc Cert.RefGradWOutIdeal.nD Cert.RefGradWOutIdeal.τ Cert.RefGradWOutIdeal.sig) → Buf (Elt Ideal) ℓ) (g : Dev Cert.RefGradWOutIdeal.nD → PrngReg), Pre_RefGradWOutIdeal m →
    θ_run (Cert.RefGradWOutIdeal.defs (F := Ideal)) (onTc (τ := Cert.RefGradWOutIdeal.τ) (Cert.RefGradWOutIdeal.main (F := Ideal))) ⟨m, fun _ => 0, g⟩ (fun r => (∀ c : Dev Cert.RefGradWOutIdeal.nD,
      r.2.mem ((c.tc : Thread Cert.RefGradWOutIdeal.nD Cert.RefGradWOutIdeal.τ).loc Cert.RefGradWOutIdeal.main_arg0) = m ((c.tc : Thread Cert.RefGradWOutIdeal.nD Cert.RefGradWOutIdeal.τ).loc Cert.RefGradWOutIdeal.main_arg0)
      ∧ r.2.mem ((c.tc : Thread Cert.RefGradWOutIdeal.nD Cert.RefGradWOutIdeal.τ).loc Cert.RefGradWOutIdeal.main_arg1) = m ((c.tc : Thread Cert.RefGradWOutIdeal.nD Cert.RefGradWOutIdeal.τ).loc Cert.RefGradWOutIdeal.main_arg1))
      ∧ r.2.sem = fun _ => 0)

def quiescent_Dh [hDh : Cert.Dh.Facts] : Prop :=
  ∀ (m : (ℓ : Loc Cert.Dh.nD Cert.Dh.τ Cert.Dh.sig) → Buf (Elt Bits) ℓ) (g : Dev Cert.Dh.nD → PrngReg), Pre_Dh m →
    θ_run (Cert.Dh.defs (F := Bits)) (onTc (τ := Cert.Dh.τ) (Cert.Dh.main (F := Bits))) ⟨m, fun _ => 0, g⟩ (fun r => (∀ c : Dev Cert.Dh.nD,
      r.2.mem ((c.tc : Thread Cert.Dh.nD Cert.Dh.τ).loc Cert.Dh.main_arg0) = m ((c.tc : Thread Cert.Dh.nD Cert.Dh.τ).loc Cert.Dh.main_arg0)
      ∧ r.2.mem ((c.tc : Thread Cert.Dh.nD Cert.Dh.τ).loc Cert.Dh.main_arg1) = m ((c.tc : Thread Cert.Dh.nD Cert.Dh.τ).loc Cert.Dh.main_arg1))
      ∧ r.2.sem = fun _ => 0)

def quiescent_DhIdeal [hDhIdeal : Cert.DhIdeal.Facts] : Prop :=
  ∀ (m : (ℓ : Loc Cert.DhIdeal.nD Cert.DhIdeal.τ Cert.DhIdeal.sig) → Buf (Elt Ideal) ℓ) (g : Dev Cert.DhIdeal.nD → PrngReg), Pre_DhIdeal m →
    θ_run (Cert.DhIdeal.defs (F := Ideal)) (onTc (τ := Cert.DhIdeal.τ) (Cert.DhIdeal.main (F := Ideal))) ⟨m, fun _ => 0, g⟩ (fun r => (∀ c : Dev Cert.DhIdeal.nD,
      r.2.mem ((c.tc : Thread Cert.DhIdeal.nD Cert.DhIdeal.τ).loc Cert.DhIdeal.main_arg0) = m ((c.tc : Thread Cert.DhIdeal.nD Cert.DhIdeal.τ).loc Cert.DhIdeal.main_arg0)
      ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ r.2.sem = fun _ => 0)

def quiescent_RefDhIdeal [hRefDhIdeal : Cert.RefDhIdeal.Facts] : Prop :=
  ∀ (m : (ℓ : Loc Cert.RefDhIdeal.nD Cert.RefDhIdeal.τ Cert.RefDhIdeal.sig) → Buf (Elt Ideal) ℓ) (g : Dev Cert.RefDhIdeal.nD → PrngReg), Pre_RefDhIdeal m →
    θ_run (Cert.RefDhIdeal.defs (F := Ideal)) (onTc (τ := Cert.RefDhIdeal.τ) (Cert.RefDhIdeal.main (F := Ideal))) ⟨m, fun _ => 0, g⟩ (fun r => (∀ c : Dev Cert.RefDhIdeal.nD,
      r.2.mem ((c.tc : Thread Cert.RefDhIdeal.nD Cert.RefDhIdeal.τ).loc Cert.RefDhIdeal.main_arg0) = m ((c.tc : Thread Cert.RefDhIdeal.nD Cert.RefDhIdeal.τ).loc Cert.RefDhIdeal.main_arg0)
      ∧ r.2.mem ((c.tc : Thread Cert.RefDhIdeal.nD Cert.RefDhIdeal.τ).loc Cert.RefDhIdeal.main_arg1) = m ((c.tc : Thread Cert.RefDhIdeal.nD Cert.RefDhIdeal.τ).loc Cert.RefDhIdeal.main_arg1))
      ∧ r.2.sem = fun _ => 0)

def quiescent_Slot [hSlot : Cert.Slot.Facts] [hPre_in_range : Cert.Pre_in_range.Facts] : Prop :=
  ∀ (m : (ℓ : Loc Cert.Slot.nD Cert.Slot.τ Cert.Slot.sig) → Buf (Elt Bits) ℓ) (g : Dev Cert.Slot.nD → PrngReg), Pre_Slot m →
    θ_run (Cert.Slot.defs (F := Bits)) (onTc (τ := Cert.Slot.τ) (Cert.Slot.main (F := Bits))) ⟨m, fun _ => 0, g⟩ (fun r => (∀ c : Dev Cert.Slot.nD,
      r.2.mem ((c.tc : Thread Cert.Slot.nD Cert.Slot.τ).loc Cert.Slot.main_arg0) = m ((c.tc : Thread Cert.Slot.nD Cert.Slot.τ).loc Cert.Slot.main_arg0)
      ∧ r.2.mem ((c.tc : Thread Cert.Slot.nD Cert.Slot.τ).loc Cert.Slot.main_arg1) = m ((c.tc : Thread Cert.Slot.nD Cert.Slot.τ).loc Cert.Slot.main_arg1)
      ∧ r.2.mem ((c.tc : Thread Cert.Slot.nD Cert.Slot.τ).loc Cert.Slot.main_arg2) = m ((c.tc : Thread Cert.Slot.nD Cert.Slot.τ).loc Cert.Slot.main_arg2))
      ∧ r.2.sem = fun _ => 0)

def quiescent_SlotIdeal [hSlotIdeal : Cert.SlotIdeal.Facts] [hPre_in_range : Cert.Pre_in_range.Facts] : Prop :=
  ∀ (m : (ℓ : Loc Cert.SlotIdeal.nD Cert.SlotIdeal.τ Cert.SlotIdeal.sig) → Buf (Elt Ideal) ℓ) (g : Dev Cert.SlotIdeal.nD → PrngReg), Pre_SlotIdeal m →
    θ_run (Cert.SlotIdeal.defs (F := Ideal)) (onTc (τ := Cert.SlotIdeal.τ) (Cert.SlotIdeal.main (F := Ideal))) ⟨m, fun _ => 0, g⟩ (fun r => (∀ c : Dev Cert.SlotIdeal.nD,
      r.2.mem ((c.tc : Thread Cert.SlotIdeal.nD Cert.SlotIdeal.τ).loc Cert.SlotIdeal.main_arg0) = m ((c.tc : Thread Cert.SlotIdeal.nD Cert.SlotIdeal.τ).loc Cert.SlotIdeal.main_arg0)
      ∧ r.2.mem ((c.tc : Thread Cert.SlotIdeal.nD Cert.SlotIdeal.τ).loc Cert.SlotIdeal.main_arg1) = m ((c.tc : Thread Cert.SlotIdeal.nD Cert.SlotIdeal.τ).loc Cert.SlotIdeal.main_arg1)
      ∧ r.2.mem ((c.tc : Thread Cert.SlotIdeal.nD Cert.SlotIdeal.τ).loc Cert.SlotIdeal.main_arg2) = m ((c.tc : Thread Cert.SlotIdeal.nD Cert.SlotIdeal.τ).loc Cert.SlotIdeal.main_arg2))
      ∧ r.2.sem = fun _ => 0)

def quiescent_RefSlotIdeal [hRefSlotIdeal : Cert.RefSlotIdeal.Facts] : Prop :=
  ∀ (m : (ℓ : Loc Cert.RefSlotIdeal.nD Cert.RefSlotIdeal.τ Cert.RefSlotIdeal.sig) → Buf (Elt Ideal) ℓ) (g : Dev Cert.RefSlotIdeal.nD → PrngReg), Pre_RefSlotIdeal m →
    θ_run (Cert.RefSlotIdeal.defs (F := Ideal)) (onTc (τ := Cert.RefSlotIdeal.τ) (Cert.RefSlotIdeal.main (F := Ideal))) ⟨m, fun _ => 0, g⟩ (fun r => (∀ c : Dev Cert.RefSlotIdeal.nD,
      r.2.mem ((c.tc : Thread Cert.RefSlotIdeal.nD Cert.RefSlotIdeal.τ).loc Cert.RefSlotIdeal.main_arg0) = m ((c.tc : Thread Cert.RefSlotIdeal.nD Cert.RefSlotIdeal.τ).loc Cert.RefSlotIdeal.main_arg0)
      ∧ r.2.mem ((c.tc : Thread Cert.RefSlotIdeal.nD Cert.RefSlotIdeal.τ).loc Cert.RefSlotIdeal.main_arg1) = m ((c.tc : Thread Cert.RefSlotIdeal.nD Cert.RefSlotIdeal.τ).loc Cert.RefSlotIdeal.main_arg1)
      ∧ r.2.mem ((c.tc : Thread Cert.RefSlotIdeal.nD Cert.RefSlotIdeal.τ).loc Cert.RefSlotIdeal.main_arg2) = m ((c.tc : Thread Cert.RefSlotIdeal.nD Cert.RefSlotIdeal.τ).loc Cert.RefSlotIdeal.main_arg2))
      ∧ r.2.sem = fun _ => 0)

def quiescent_RefSlotIdeal_pre_in_range [hRefSlotIdeal : Cert.RefSlotIdeal.Facts] [hPre_in_range : Cert.Pre_in_range.Facts] : Prop :=
  ∀ (m : (ℓ : Loc Cert.RefSlotIdeal.nD Cert.RefSlotIdeal.τ Cert.RefSlotIdeal.sig) → Buf (Elt Ideal) ℓ) (g : Dev Cert.RefSlotIdeal.nD → PrngReg), Pre_RefSlotIdeal_in_range m →
    θ_run (Cert.RefSlotIdeal.defs (F := Ideal)) (onTc (τ := Cert.RefSlotIdeal.τ) (Cert.RefSlotIdeal.main (F := Ideal))) ⟨m, fun _ => 0, g⟩ (fun r => (∀ c : Dev Cert.RefSlotIdeal.nD,
      r.2.mem ((c.tc : Thread Cert.RefSlotIdeal.nD Cert.RefSlotIdeal.τ).loc Cert.RefSlotIdeal.main_arg0) = m ((c.tc : Thread Cert.RefSlotIdeal.nD Cert.RefSlotIdeal.τ).loc Cert.RefSlotIdeal.main_arg0)
      ∧ r.2.mem ((c.tc : Thread Cert.RefSlotIdeal.nD Cert.RefSlotIdeal.τ).loc Cert.RefSlotIdeal.main_arg1) = m ((c.tc : Thread Cert.RefSlotIdeal.nD Cert.RefSlotIdeal.τ).loc Cert.RefSlotIdeal.main_arg1)
      ∧ r.2.mem ((c.tc : Thread Cert.RefSlotIdeal.nD Cert.RefSlotIdeal.τ).loc Cert.RefSlotIdeal.main_arg2) = m ((c.tc : Thread Cert.RefSlotIdeal.nD Cert.RefSlotIdeal.τ).loc Cert.RefSlotIdeal.main_arg2))
      ∧ r.2.sem = fun _ => 0)

def quiescent_SlotSecond [hSlotSecond : Cert.SlotSecond.Facts] [hPre_in_range_added : Cert.Pre_in_range_added.Facts] : Prop :=
  ∀ (m : (ℓ : Loc Cert.SlotSecond.nD Cert.SlotSecond.τ Cert.SlotSecond.sig) → Buf (Elt Bits) ℓ) (g : Dev Cert.SlotSecond.nD → PrngReg), Pre_SlotSecond m →
    θ_run (Cert.SlotSecond.defs (F := Bits)) (onTc (τ := Cert.SlotSecond.τ) (Cert.SlotSecond.main (F := Bits))) ⟨m, fun _ => 0, g⟩ (fun r => (∀ c : Dev Cert.SlotSecond.nD,
      r.2.mem ((c.tc : Thread Cert.SlotSecond.nD Cert.SlotSecond.τ).loc Cert.SlotSecond.main_arg0) = m ((c.tc : Thread Cert.SlotSecond.nD Cert.SlotSecond.τ).loc Cert.SlotSecond.main_arg0)
      ∧ r.2.mem ((c.tc : Thread Cert.SlotSecond.nD Cert.SlotSecond.τ).loc Cert.SlotSecond.main_arg1) = m ((c.tc : Thread Cert.SlotSecond.nD Cert.SlotSecond.τ).loc Cert.SlotSecond.main_arg1)
      ∧ r.2.mem ((c.tc : Thread Cert.SlotSecond.nD Cert.SlotSecond.τ).loc Cert.SlotSecond.main_arg2) = m ((c.tc : Thread Cert.SlotSecond.nD Cert.SlotSecond.τ).loc Cert.SlotSecond.main_arg2)
      ∧ r.2.mem ((c.tc : Thread Cert.SlotSecond.nD Cert.SlotSecond.τ).loc Cert.SlotSecond.main_arg3) = m ((c.tc : Thread Cert.SlotSecond.nD Cert.SlotSecond.τ).loc Cert.SlotSecond.main_arg3))
      ∧ r.2.sem = fun _ => 0)

def quiescent_SlotSecondIdeal [hSlotSecondIdeal : Cert.SlotSecondIdeal.Facts] [hPre_in_range_added : Cert.Pre_in_range_added.Facts] : Prop :=
  ∀ (m : (ℓ : Loc Cert.SlotSecondIdeal.nD Cert.SlotSecondIdeal.τ Cert.SlotSecondIdeal.sig) → Buf (Elt Ideal) ℓ) (g : Dev Cert.SlotSecondIdeal.nD → PrngReg), Pre_SlotSecondIdeal m →
    θ_run (Cert.SlotSecondIdeal.defs (F := Ideal)) (onTc (τ := Cert.SlotSecondIdeal.τ) (Cert.SlotSecondIdeal.main (F := Ideal))) ⟨m, fun _ => 0, g⟩ (fun r => (∀ c : Dev Cert.SlotSecondIdeal.nD,
      r.2.mem ((c.tc : Thread Cert.SlotSecondIdeal.nD Cert.SlotSecondIdeal.τ).loc Cert.SlotSecondIdeal.main_arg0) = m ((c.tc : Thread Cert.SlotSecondIdeal.nD Cert.SlotSecondIdeal.τ).loc Cert.SlotSecondIdeal.main_arg0)
      ∧ r.2.mem ((c.tc : Thread Cert.SlotSecondIdeal.nD Cert.SlotSecondIdeal.τ).loc Cert.SlotSecondIdeal.main_arg1) = m ((c.tc : Thread Cert.SlotSecondIdeal.nD Cert.SlotSecondIdeal.τ).loc Cert.SlotSecondIdeal.main_arg1)
      ∧ r.2.mem ((c.tc : Thread Cert.SlotSecondIdeal.nD Cert.SlotSecondIdeal.τ).loc Cert.SlotSecondIdeal.main_arg2) = m ((c.tc : Thread Cert.SlotSecondIdeal.nD Cert.SlotSecondIdeal.τ).loc Cert.SlotSecondIdeal.main_arg2)
      ∧ r.2.mem ((c.tc : Thread Cert.SlotSecondIdeal.nD Cert.SlotSecondIdeal.τ).loc Cert.SlotSecondIdeal.main_arg3) = m ((c.tc : Thread Cert.SlotSecondIdeal.nD Cert.SlotSecondIdeal.τ).loc Cert.SlotSecondIdeal.main_arg3))
      ∧ r.2.sem = fun _ => 0)

def quiescent_RefSlotSecondIdeal [hRefSlotSecondIdeal : Cert.RefSlotSecondIdeal.Facts] : Prop :=
  ∀ (m : (ℓ : Loc Cert.RefSlotSecondIdeal.nD Cert.RefSlotSecondIdeal.τ Cert.RefSlotSecondIdeal.sig) → Buf (Elt Ideal) ℓ) (g : Dev Cert.RefSlotSecondIdeal.nD → PrngReg), Pre_RefSlotSecondIdeal m →
    θ_run (Cert.RefSlotSecondIdeal.defs (F := Ideal)) (onTc (τ := Cert.RefSlotSecondIdeal.τ) (Cert.RefSlotSecondIdeal.main (F := Ideal))) ⟨m, fun _ => 0, g⟩ (fun r => (∀ c : Dev Cert.RefSlotSecondIdeal.nD,
      r.2.mem ((c.tc : Thread Cert.RefSlotSecondIdeal.nD Cert.RefSlotSecondIdeal.τ).loc Cert.RefSlotSecondIdeal.main_arg0) = m ((c.tc : Thread Cert.RefSlotSecondIdeal.nD Cert.RefSlotSecondIdeal.τ).loc Cert.RefSlotSecondIdeal.main_arg0)
      ∧ r.2.mem ((c.tc : Thread Cert.RefSlotSecondIdeal.nD Cert.RefSlotSecondIdeal.τ).loc Cert.RefSlotSecondIdeal.main_arg1) = m ((c.tc : Thread Cert.RefSlotSecondIdeal.nD Cert.RefSlotSecondIdeal.τ).loc Cert.RefSlotSecondIdeal.main_arg1)
      ∧ r.2.mem ((c.tc : Thread Cert.RefSlotSecondIdeal.nD Cert.RefSlotSecondIdeal.τ).loc Cert.RefSlotSecondIdeal.main_arg2) = m ((c.tc : Thread Cert.RefSlotSecondIdeal.nD Cert.RefSlotSecondIdeal.τ).loc Cert.RefSlotSecondIdeal.main_arg2)
      ∧ r.2.mem ((c.tc : Thread Cert.RefSlotSecondIdeal.nD Cert.RefSlotSecondIdeal.τ).loc Cert.RefSlotSecondIdeal.main_arg3) = m ((c.tc : Thread Cert.RefSlotSecondIdeal.nD Cert.RefSlotSecondIdeal.τ).loc Cert.RefSlotSecondIdeal.main_arg3))
      ∧ r.2.sem = fun _ => 0)

def quiescent_RefSlotSecondIdeal_pre_in_range_added [hRefSlotSecondIdeal : Cert.RefSlotSecondIdeal.Facts] [hPre_in_range_added : Cert.Pre_in_range_added.Facts] : Prop :=
  ∀ (m : (ℓ : Loc Cert.RefSlotSecondIdeal.nD Cert.RefSlotSecondIdeal.τ Cert.RefSlotSecondIdeal.sig) → Buf (Elt Ideal) ℓ) (g : Dev Cert.RefSlotSecondIdeal.nD → PrngReg), Pre_RefSlotSecondIdeal_in_range_added m →
    θ_run (Cert.RefSlotSecondIdeal.defs (F := Ideal)) (onTc (τ := Cert.RefSlotSecondIdeal.τ) (Cert.RefSlotSecondIdeal.main (F := Ideal))) ⟨m, fun _ => 0, g⟩ (fun r => (∀ c : Dev Cert.RefSlotSecondIdeal.nD,
      r.2.mem ((c.tc : Thread Cert.RefSlotSecondIdeal.nD Cert.RefSlotSecondIdeal.τ).loc Cert.RefSlotSecondIdeal.main_arg0) = m ((c.tc : Thread Cert.RefSlotSecondIdeal.nD Cert.RefSlotSecondIdeal.τ).loc Cert.RefSlotSecondIdeal.main_arg0)
      ∧ r.2.mem ((c.tc : Thread Cert.RefSlotSecondIdeal.nD Cert.RefSlotSecondIdeal.τ).loc Cert.RefSlotSecondIdeal.main_arg1) = m ((c.tc : Thread Cert.RefSlotSecondIdeal.nD Cert.RefSlotSecondIdeal.τ).loc Cert.RefSlotSecondIdeal.main_arg1)
      ∧ r.2.mem ((c.tc : Thread Cert.RefSlotSecondIdeal.nD Cert.RefSlotSecondIdeal.τ).loc Cert.RefSlotSecondIdeal.main_arg2) = m ((c.tc : Thread Cert.RefSlotSecondIdeal.nD Cert.RefSlotSecondIdeal.τ).loc Cert.RefSlotSecondIdeal.main_arg2)
      ∧ r.2.mem ((c.tc : Thread Cert.RefSlotSecondIdeal.nD Cert.RefSlotSecondIdeal.τ).loc Cert.RefSlotSecondIdeal.main_arg3) = m ((c.tc : Thread Cert.RefSlotSecondIdeal.nD Cert.RefSlotSecondIdeal.τ).loc Cert.RefSlotSecondIdeal.main_arg3))
      ∧ r.2.sem = fun _ => 0)

def quiescent_SlotOwn [hSlotOwn : Cert.SlotOwn.Facts] [hPre_in_range_added : Cert.Pre_in_range_added.Facts] : Prop :=
  ∀ (m : (ℓ : Loc Cert.SlotOwn.nD Cert.SlotOwn.τ Cert.SlotOwn.sig) → Buf (Elt Bits) ℓ) (g : Dev Cert.SlotOwn.nD → PrngReg), Pre_SlotOwn m →
    θ_run (Cert.SlotOwn.defs (F := Bits)) (onTc (τ := Cert.SlotOwn.τ) (Cert.SlotOwn.main (F := Bits))) ⟨m, fun _ => 0, g⟩ (fun r => (∀ c : Dev Cert.SlotOwn.nD,
      r.2.mem ((c.tc : Thread Cert.SlotOwn.nD Cert.SlotOwn.τ).loc Cert.SlotOwn.main_arg0) = m ((c.tc : Thread Cert.SlotOwn.nD Cert.SlotOwn.τ).loc Cert.SlotOwn.main_arg0)
      ∧ r.2.mem ((c.tc : Thread Cert.SlotOwn.nD Cert.SlotOwn.τ).loc Cert.SlotOwn.main_arg1) = m ((c.tc : Thread Cert.SlotOwn.nD Cert.SlotOwn.τ).loc Cert.SlotOwn.main_arg1)
      ∧ r.2.mem ((c.tc : Thread Cert.SlotOwn.nD Cert.SlotOwn.τ).loc Cert.SlotOwn.main_arg2) = m ((c.tc : Thread Cert.SlotOwn.nD Cert.SlotOwn.τ).loc Cert.SlotOwn.main_arg2)
      ∧ r.2.mem ((c.tc : Thread Cert.SlotOwn.nD Cert.SlotOwn.τ).loc Cert.SlotOwn.main_arg3) = m ((c.tc : Thread Cert.SlotOwn.nD Cert.SlotOwn.τ).loc Cert.SlotOwn.main_arg3))
      ∧ r.2.sem = fun _ => 0)

def quiescent_SlotOwnIdeal [hSlotOwnIdeal : Cert.SlotOwnIdeal.Facts] [hPre_in_range_added : Cert.Pre_in_range_added.Facts] : Prop :=
  ∀ (m : (ℓ : Loc Cert.SlotOwnIdeal.nD Cert.SlotOwnIdeal.τ Cert.SlotOwnIdeal.sig) → Buf (Elt Ideal) ℓ) (g : Dev Cert.SlotOwnIdeal.nD → PrngReg), Pre_SlotOwnIdeal m →
    θ_run (Cert.SlotOwnIdeal.defs (F := Ideal)) (onTc (τ := Cert.SlotOwnIdeal.τ) (Cert.SlotOwnIdeal.main (F := Ideal))) ⟨m, fun _ => 0, g⟩ (fun r => (∀ c : Dev Cert.SlotOwnIdeal.nD,
      r.2.mem ((c.tc : Thread Cert.SlotOwnIdeal.nD Cert.SlotOwnIdeal.τ).loc Cert.SlotOwnIdeal.main_arg0) = m ((c.tc : Thread Cert.SlotOwnIdeal.nD Cert.SlotOwnIdeal.τ).loc Cert.SlotOwnIdeal.main_arg0)
      ∧ r.2.mem ((c.tc : Thread Cert.SlotOwnIdeal.nD Cert.SlotOwnIdeal.τ).loc Cert.SlotOwnIdeal.main_arg1) = m ((c.tc : Thread Cert.SlotOwnIdeal.nD Cert.SlotOwnIdeal.τ).loc Cert.SlotOwnIdeal.main_arg1)
      ∧ r.2.mem ((c.tc : Thread Cert.SlotOwnIdeal.nD Cert.SlotOwnIdeal.τ).loc Cert.SlotOwnIdeal.main_arg2) = m ((c.tc : Thread Cert.SlotOwnIdeal.nD Cert.SlotOwnIdeal.τ).loc Cert.SlotOwnIdeal.main_arg2)
      ∧ r.2.mem ((c.tc : Thread Cert.SlotOwnIdeal.nD Cert.SlotOwnIdeal.τ).loc Cert.SlotOwnIdeal.main_arg3) = m ((c.tc : Thread Cert.SlotOwnIdeal.nD Cert.SlotOwnIdeal.τ).loc Cert.SlotOwnIdeal.main_arg3))
      ∧ r.2.sem = fun _ => 0)

def quiescent_RefSlotOwnIdeal [hRefSlotOwnIdeal : Cert.RefSlotOwnIdeal.Facts] : Prop :=
  ∀ (m : (ℓ : Loc Cert.RefSlotOwnIdeal.nD Cert.RefSlotOwnIdeal.τ Cert.RefSlotOwnIdeal.sig) → Buf (Elt Ideal) ℓ) (g : Dev Cert.RefSlotOwnIdeal.nD → PrngReg), Pre_RefSlotOwnIdeal m →
    θ_run (Cert.RefSlotOwnIdeal.defs (F := Ideal)) (onTc (τ := Cert.RefSlotOwnIdeal.τ) (Cert.RefSlotOwnIdeal.main (F := Ideal))) ⟨m, fun _ => 0, g⟩ (fun r => (∀ c : Dev Cert.RefSlotOwnIdeal.nD,
      r.2.mem ((c.tc : Thread Cert.RefSlotOwnIdeal.nD Cert.RefSlotOwnIdeal.τ).loc Cert.RefSlotOwnIdeal.main_arg0) = m ((c.tc : Thread Cert.RefSlotOwnIdeal.nD Cert.RefSlotOwnIdeal.τ).loc Cert.RefSlotOwnIdeal.main_arg0)
      ∧ r.2.mem ((c.tc : Thread Cert.RefSlotOwnIdeal.nD Cert.RefSlotOwnIdeal.τ).loc Cert.RefSlotOwnIdeal.main_arg1) = m ((c.tc : Thread Cert.RefSlotOwnIdeal.nD Cert.RefSlotOwnIdeal.τ).loc Cert.RefSlotOwnIdeal.main_arg1)
      ∧ r.2.mem ((c.tc : Thread Cert.RefSlotOwnIdeal.nD Cert.RefSlotOwnIdeal.τ).loc Cert.RefSlotOwnIdeal.main_arg2) = m ((c.tc : Thread Cert.RefSlotOwnIdeal.nD Cert.RefSlotOwnIdeal.τ).loc Cert.RefSlotOwnIdeal.main_arg2)
      ∧ r.2.mem ((c.tc : Thread Cert.RefSlotOwnIdeal.nD Cert.RefSlotOwnIdeal.τ).loc Cert.RefSlotOwnIdeal.main_arg3) = m ((c.tc : Thread Cert.RefSlotOwnIdeal.nD Cert.RefSlotOwnIdeal.τ).loc Cert.RefSlotOwnIdeal.main_arg3))
      ∧ r.2.sem = fun _ => 0)

def quiescent_RefSlotOwnIdeal_pre_in_range_added [hRefSlotOwnIdeal : Cert.RefSlotOwnIdeal.Facts] [hPre_in_range_added : Cert.Pre_in_range_added.Facts] : Prop :=
  ∀ (m : (ℓ : Loc Cert.RefSlotOwnIdeal.nD Cert.RefSlotOwnIdeal.τ Cert.RefSlotOwnIdeal.sig) → Buf (Elt Ideal) ℓ) (g : Dev Cert.RefSlotOwnIdeal.nD → PrngReg), Pre_RefSlotOwnIdeal_in_range_added m →
    θ_run (Cert.RefSlotOwnIdeal.defs (F := Ideal)) (onTc (τ := Cert.RefSlotOwnIdeal.τ) (Cert.RefSlotOwnIdeal.main (F := Ideal))) ⟨m, fun _ => 0, g⟩ (fun r => (∀ c : Dev Cert.RefSlotOwnIdeal.nD,
      r.2.mem ((c.tc : Thread Cert.RefSlotOwnIdeal.nD Cert.RefSlotOwnIdeal.τ).loc Cert.RefSlotOwnIdeal.main_arg0) = m ((c.tc : Thread Cert.RefSlotOwnIdeal.nD Cert.RefSlotOwnIdeal.τ).loc Cert.RefSlotOwnIdeal.main_arg0)
      ∧ r.2.mem ((c.tc : Thread Cert.RefSlotOwnIdeal.nD Cert.RefSlotOwnIdeal.τ).loc Cert.RefSlotOwnIdeal.main_arg1) = m ((c.tc : Thread Cert.RefSlotOwnIdeal.nD Cert.RefSlotOwnIdeal.τ).loc Cert.RefSlotOwnIdeal.main_arg1)
      ∧ r.2.mem ((c.tc : Thread Cert.RefSlotOwnIdeal.nD Cert.RefSlotOwnIdeal.τ).loc Cert.RefSlotOwnIdeal.main_arg2) = m ((c.tc : Thread Cert.RefSlotOwnIdeal.nD Cert.RefSlotOwnIdeal.τ).loc Cert.RefSlotOwnIdeal.main_arg2)
      ∧ r.2.mem ((c.tc : Thread Cert.RefSlotOwnIdeal.nD Cert.RefSlotOwnIdeal.τ).loc Cert.RefSlotOwnIdeal.main_arg3) = m ((c.tc : Thread Cert.RefSlotOwnIdeal.nD Cert.RefSlotOwnIdeal.τ).loc Cert.RefSlotOwnIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ r.2.sem = fun _ => 0)

def quiescent_RefOutProjIdeal [hRefOutProjIdeal : Cert.RefOutProjIdeal.Facts] : Prop :=
  ∀ (m : (ℓ : Loc Cert.RefOutProjIdeal.nD Cert.RefOutProjIdeal.τ Cert.RefOutProjIdeal.sig) → Buf (Elt Ideal) ℓ) (g : Dev Cert.RefOutProjIdeal.nD → PrngReg), Pre_RefOutProjIdeal m →
    θ_run (Cert.RefOutProjIdeal.defs (F := Ideal)) (onTc (τ := Cert.RefOutProjIdeal.τ) (Cert.RefOutProjIdeal.main (F := Ideal))) ⟨m, fun _ => 0, g⟩ (fun r => (∀ c : Dev Cert.RefOutProjIdeal.nD,
      r.2.mem ((c.tc : Thread Cert.RefOutProjIdeal.nD Cert.RefOutProjIdeal.τ).loc Cert.RefOutProjIdeal.main_arg0) = m ((c.tc : Thread Cert.RefOutProjIdeal.nD Cert.RefOutProjIdeal.τ).loc Cert.RefOutProjIdeal.main_arg0)
      ∧ r.2.mem ((c.tc : Thread Cert.RefOutProjIdeal.nD Cert.RefOutProjIdeal.τ).loc Cert.RefOutProjIdeal.main_arg1) = m ((c.tc : Thread Cert.RefOutProjIdeal.nD Cert.RefOutProjIdeal.τ).loc Cert.RefOutProjIdeal.main_arg1))
      ∧ r.2.sem = fun _ => 0)

def quiescent_PreNorm [hPreNorm : Cert.PreNorm.Facts] [hPre_finite_rows : Cert.Pre_finite_rows.Facts] : Prop :=
  ∀ (m : (ℓ : Loc Cert.PreNorm.nD Cert.PreNorm.τ Cert.PreNorm.sig) → Buf (Elt Bits) ℓ) (g : Dev Cert.PreNorm.nD → PrngReg), Pre_PreNorm m →
    θ_run (Cert.PreNorm.defs (F := Bits)) (onTc (τ := Cert.PreNorm.τ) (Cert.PreNorm.main (F := Bits))) ⟨m, fun _ => 0, g⟩ (fun r => (∀ c : Dev Cert.PreNorm.nD,
      r.2.mem ((c.tc : Thread Cert.PreNorm.nD Cert.PreNorm.τ).loc Cert.PreNorm.main_arg0) = m ((c.tc : Thread Cert.PreNorm.nD Cert.PreNorm.τ).loc Cert.PreNorm.main_arg0)
      ∧ r.2.mem ((c.tc : Thread Cert.PreNorm.nD Cert.PreNorm.τ).loc Cert.PreNorm.main_arg1) = m ((c.tc : Thread Cert.PreNorm.nD Cert.PreNorm.τ).loc Cert.PreNorm.main_arg1)
      ∧ r.2.mem ((c.tc : Thread Cert.PreNorm.nD Cert.PreNorm.τ).loc Cert.PreNorm.main_arg2) = m ((c.tc : Thread Cert.PreNorm.nD Cert.PreNorm.τ).loc Cert.PreNorm.main_arg2)
      ∧ r.2.mem ((c.tc : Thread Cert.PreNorm.nD Cert.PreNorm.τ).loc Cert.PreNorm.main_arg3) = m ((c.tc : Thread Cert.PreNorm.nD Cert.PreNorm.τ).loc Cert.PreNorm.main_arg3)
      ∧ r.2.mem ((c.tc : Thread Cert.PreNorm.nD Cert.PreNorm.τ).loc Cert.PreNorm.main_arg4) = m ((c.tc : Thread Cert.PreNorm.nD Cert.PreNorm.τ).loc Cert.PreNorm.main_arg4))
      ∧ r.2.sem = fun _ => 0)

def quiescent_PreNormIdeal [hPreNormIdeal : Cert.PreNormIdeal.Facts] [hPre_finite_rows : Cert.Pre_finite_rows.Facts] : Prop :=
  ∀ (m : (ℓ : Loc Cert.PreNormIdeal.nD Cert.PreNormIdeal.τ Cert.PreNormIdeal.sig) → Buf (Elt Ideal) ℓ) (g : Dev Cert.PreNormIdeal.nD → PrngReg), Pre_PreNormIdeal m →
    θ_run (Cert.PreNormIdeal.defs (F := Ideal)) (onTc (τ := Cert.PreNormIdeal.τ) (Cert.PreNormIdeal.main (F := Ideal))) ⟨m, fun _ => 0, g⟩ (fun r => (∀ c : Dev Cert.PreNormIdeal.nD,
      r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
      ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
      ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
      ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3)
      ∧ r.2.mem ((c.tc : Thread Cert.PreNormIdeal.nD Cert.PreNormIdeal.τ).loc Cert.PreNormIdeal.main_arg4) = m ((c.tc : Thread Cert.PreNormIdeal.nD Cert.PreNormIdeal.τ).loc Cert.PreNormIdeal.main_arg4))
      ∧ r.2.sem = fun _ => 0)

def quiescent_RefPreNormIdeal [hRefPreNormIdeal : Cert.RefPreNormIdeal.Facts] : Prop :=
  ∀ (m : (ℓ : Loc Cert.RefPreNormIdeal.nD Cert.RefPreNormIdeal.τ Cert.RefPreNormIdeal.sig) → Buf (Elt Ideal) ℓ) (g : Dev Cert.RefPreNormIdeal.nD → PrngReg), Pre_RefPreNormIdeal m →
    θ_run (Cert.RefPreNormIdeal.defs (F := Ideal)) (onTc (τ := Cert.RefPreNormIdeal.τ) (Cert.RefPreNormIdeal.main (F := Ideal))) ⟨m, fun _ => 0, g⟩ (fun r => (∀ c : Dev Cert.RefPreNormIdeal.nD,
      r.2.mem ((c.tc : Thread Cert.RefPreNormIdeal.nD Cert.RefPreNormIdeal.τ).loc Cert.RefPreNormIdeal.main_arg0) = m ((c.tc : Thread Cert.RefPreNormIdeal.nD Cert.RefPreNormIdeal.τ).loc Cert.RefPreNormIdeal.main_arg0)
      ∧ r.2.mem ((c.tc : Thread Cert.RefPreNormIdeal.nD Cert.RefPreNormIdeal.τ).loc Cert.RefPreNormIdeal.main_arg1) = m ((c.tc : Thread Cert.RefPreNormIdeal.nD Cert.RefPreNormIdeal.τ).loc Cert.RefPreNormIdeal.main_arg1)
      ∧ r.2.mem ((c.tc : Thread Cert.RefPreNormIdeal.nD Cert.RefPreNormIdeal.τ).loc Cert.RefPreNormIdeal.main_arg2) = m ((c.tc : Thread Cert.RefPreNormIdeal.nD Cert.RefPreNormIdeal.τ).loc Cert.RefPreNormIdeal.main_arg2)
      ∧ r.2.mem ((c.tc : Thread Cert.RefPreNormIdeal.nD Cert.RefPreNormIdeal.τ).loc Cert.RefPreNormIdeal.main_arg3) = m ((c.tc : Thread Cert.RefPreNormIdeal.nD Cert.RefPreNormIdeal.τ).loc Cert.RefPreNormIdeal.main_arg3)
      ∧ r.2.mem ((c.tc : Thread Cert.RefPreNormIdeal.nD Cert.RefPreNormIdeal.τ).loc Cert.RefPreNormIdeal.main_arg4) = m ((c.tc : Thread Cert.RefPreNormIdeal.nD Cert.RefPreNormIdeal.τ).loc Cert.RefPreNormIdeal.main_arg4))
      ∧ r.2.sem = fun _ => 0)

def quiescent_RefPreNormIdeal_pre_finite_rows [hRefPreNormIdeal : Cert.RefPreNormIdeal.Facts] [hPre_finite_rows : Cert.Pre_finite_rows.Facts] : Prop :=
  ∀ (m : (ℓ : Loc Cert.RefPreNormIdeal.nD Cert.RefPreNormIdeal.τ Cert.RefPreNormIdeal.sig) → Buf (Elt Ideal) ℓ) (g : Dev Cert.RefPreNormIdeal.nD → PrngReg), Pre_RefPreNormIdeal_finite_rows m →
    θ_run (Cert.RefPreNormIdeal.defs (F := Ideal)) (onTc (τ := Cert.RefPreNormIdeal.τ) (Cert.RefPreNormIdeal.main (F := Ideal))) ⟨m, fun _ => 0, g⟩ (fun r => (∀ c : Dev Cert.RefPreNormIdeal.nD,
      r.2.mem ((c.tc : Thread Cert.RefPreNormIdeal.nD Cert.RefPreNormIdeal.τ).loc Cert.RefPreNormIdeal.main_arg0) = m ((c.tc : Thread Cert.RefPreNormIdeal.nD Cert.RefPreNormIdeal.τ).loc Cert.RefPreNormIdeal.main_arg0)
      ∧ r.2.mem ((c.tc : Thread Cert.RefPreNormIdeal.nD Cert.RefPreNormIdeal.τ).loc Cert.RefPreNormIdeal.main_arg1) = m ((c.tc : Thread Cert.RefPreNormIdeal.nD Cert.RefPreNormIdeal.τ).loc Cert.RefPreNormIdeal.main_arg1)
      ∧ r.2.mem ((c.tc : Thread Cert.RefPreNormIdeal.nD Cert.RefPreNormIdeal.τ).loc Cert.RefPreNormIdeal.main_arg2) = m ((c.tc : Thread Cert.RefPreNormIdeal.nD Cert.RefPreNormIdeal.τ).loc Cert.RefPreNormIdeal.main_arg2)
      ∧ r.2.mem ((c.tc : Thread Cert.RefPreNormIdeal.nD Cert.RefPreNormIdeal.τ).loc Cert.RefPreNormIdeal.main_arg3) = m ((c.tc : Thread Cert.RefPreNormIdeal.nD Cert.RefPreNormIdeal.τ).loc Cert.RefPreNormIdeal.main_arg3)
      ∧ r.2.mem ((c.tc : Thread Cert.RefPreNormIdeal.nD Cert.RefPreNormIdeal.τ).loc Cert.RefPreNormIdeal.main_arg4) = m ((c.tc : Thread Cert.RefPreNormIdeal.nD Cert.RefPreNormIdeal.τ).loc Cert.RefPreNormIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_RefAdamInIdeal [hRefAdamInIdeal : Cert.RefAdamInIdeal.Facts] : Prop :=
  ∀ (m : (ℓ : Loc Cert.RefAdamInIdeal.nD Cert.RefAdamInIdeal.τ Cert.RefAdamInIdeal.sig) → Buf (Elt Ideal) ℓ) (g : Dev Cert.RefAdamInIdeal.nD → PrngReg), Pre_RefAdamInIdeal m →
    θ_run (Cert.RefAdamInIdeal.defs (F := Ideal)) (onTc (τ := Cert.RefAdamInIdeal.τ) (Cert.RefAdamInIdeal.main (F := Ideal))) ⟨m, fun _ => 0, g⟩ (fun r => (∀ c : Dev Cert.RefAdamInIdeal.nD,
      r.2.mem ((c.tc : Thread Cert.RefAdamInIdeal.nD Cert.RefAdamInIdeal.τ).loc Cert.RefAdamInIdeal.main_arg0) = m ((c.tc : Thread Cert.RefAdamInIdeal.nD Cert.RefAdamInIdeal.τ).loc Cert.RefAdamInIdeal.main_arg0)
      ∧ r.2.mem ((c.tc : Thread Cert.RefAdamInIdeal.nD Cert.RefAdamInIdeal.τ).loc Cert.RefAdamInIdeal.main_arg1) = m ((c.tc : Thread Cert.RefAdamInIdeal.nD Cert.RefAdamInIdeal.τ).loc Cert.RefAdamInIdeal.main_arg1)
      ∧ r.2.mem ((c.tc : Thread Cert.RefAdamInIdeal.nD Cert.RefAdamInIdeal.τ).loc Cert.RefAdamInIdeal.main_arg2) = m ((c.tc : Thread Cert.RefAdamInIdeal.nD Cert.RefAdamInIdeal.τ).loc Cert.RefAdamInIdeal.main_arg2)
      ∧ r.2.mem ((c.tc : Thread Cert.RefAdamInIdeal.nD Cert.RefAdamInIdeal.τ).loc Cert.RefAdamInIdeal.main_arg3) = m ((c.tc : Thread Cert.RefAdamInIdeal.nD Cert.RefAdamInIdeal.τ).loc Cert.RefAdamInIdeal.main_arg3))
      ∧ r.2.sem = fun _ => 0)

def quiescent_AdamOut [hAdamOut : Cert.AdamOut.Facts] : Prop :=
  ∀ (m : (ℓ : Loc Cert.AdamOut.nD Cert.AdamOut.τ Cert.AdamOut.sig) → Buf (Elt Bits) ℓ) (g : Dev Cert.AdamOut.nD → PrngReg), Pre_AdamOut m →
    θ_run (Cert.AdamOut.defs (F := Bits)) (onTc (τ := Cert.AdamOut.τ) (Cert.AdamOut.main (F := Bits))) ⟨m, fun _ => 0, g⟩ (fun r => (∀ c : Dev Cert.AdamOut.nD,
      r.2.mem ((c.tc : Thread Cert.AdamOut.nD Cert.AdamOut.τ).loc Cert.AdamOut.main_arg0) = m ((c.tc : Thread Cert.AdamOut.nD Cert.AdamOut.τ).loc Cert.AdamOut.main_arg0)
      ∧ r.2.mem ((c.tc : Thread Cert.AdamOut.nD Cert.AdamOut.τ).loc Cert.AdamOut.main_arg1) = m ((c.tc : Thread Cert.AdamOut.nD Cert.AdamOut.τ).loc Cert.AdamOut.main_arg1)
      ∧ r.2.mem ((c.tc : Thread Cert.AdamOut.nD Cert.AdamOut.τ).loc Cert.AdamOut.main_arg2) = m ((c.tc : Thread Cert.AdamOut.nD Cert.AdamOut.τ).loc Cert.AdamOut.main_arg2)
      ∧ r.2.mem ((c.tc : Thread Cert.AdamOut.nD Cert.AdamOut.τ).loc Cert.AdamOut.main_arg3) = m ((c.tc : Thread Cert.AdamOut.nD Cert.AdamOut.τ).loc Cert.AdamOut.main_arg3))
      ∧ r.2.sem = fun _ => 0)

def quiescent_AdamOutIdeal [hAdamOutIdeal : Cert.AdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg), Pre_AdamOutIdeal m →
    θ_run (Cert.AdamOutIdeal.defs (F := Ideal)) (onTc (τ := Cert.AdamOutIdeal.τ) (Cert.AdamOutIdeal.main (F := Ideal))) ⟨m, fun _ => 0, g⟩ (fun r => (∀ c : Dev Cert.AdamOutIdeal.nD,
      r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
      ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
      ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
      ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ r.2.sem = fun _ => 0)

def quiescent_RefAdamOutIdeal [hRefAdamOutIdeal : Cert.RefAdamOutIdeal.Facts] : Prop :=
  ∀ (m : (ℓ : Loc Cert.RefAdamOutIdeal.nD Cert.RefAdamOutIdeal.τ Cert.RefAdamOutIdeal.sig) → Buf (Elt Ideal) ℓ) (g : Dev Cert.RefAdamOutIdeal.nD → PrngReg), Pre_RefAdamOutIdeal m →
    θ_run (Cert.RefAdamOutIdeal.defs (F := Ideal)) (onTc (τ := Cert.RefAdamOutIdeal.τ) (Cert.RefAdamOutIdeal.main (F := Ideal))) ⟨m, fun _ => 0, g⟩ (fun r => (∀ c : Dev Cert.RefAdamOutIdeal.nD,
      r.2.mem ((c.tc : Thread Cert.RefAdamOutIdeal.nD Cert.RefAdamOutIdeal.τ).loc Cert.RefAdamOutIdeal.main_arg0) = m ((c.tc : Thread Cert.RefAdamOutIdeal.nD Cert.RefAdamOutIdeal.τ).loc Cert.RefAdamOutIdeal.main_arg0)
      ∧ r.2.mem ((c.tc : Thread Cert.RefAdamOutIdeal.nD Cert.RefAdamOutIdeal.τ).loc Cert.RefAdamOutIdeal.main_arg1) = m ((c.tc : Thread Cert.RefAdamOutIdeal.nD Cert.RefAdamOutIdeal.τ).loc Cert.RefAdamOutIdeal.main_arg1)
      ∧ r.2.mem ((c.tc : Thread Cert.RefAdamOutIdeal.nD Cert.RefAdamOutIdeal.τ).loc Cert.RefAdamOutIdeal.main_arg2) = m ((c.tc : Thread Cert.RefAdamOutIdeal.nD Cert.RefAdamOutIdeal.τ).loc Cert.RefAdamOutIdeal.main_arg2)
      ∧ r.2.mem ((c.tc : Thread Cert.RefAdamOutIdeal.nD Cert.RefAdamOutIdeal.τ).loc Cert.RefAdamOutIdeal.main_arg3) = m ((c.tc : Thread Cert.RefAdamOutIdeal.nD Cert.RefAdamOutIdeal.τ).loc Cert.RefAdamOutIdeal.main_arg3))
      ∧ r.2.sem = fun _ => 0)

def quiescent_AdamModel [hAdamModel : Cert.AdamModel.Facts] : Prop :=
  ∀ (m : (ℓ : Loc Cert.AdamModel.nD Cert.AdamModel.τ Cert.AdamModel.sig) → Buf (Elt Bits) ℓ) (g : Dev Cert.AdamModel.nD → PrngReg), Pre_AdamModel m →
    θ_run (Cert.AdamModel.defs (F := Bits)) (onTc (τ := Cert.AdamModel.τ) (Cert.AdamModel.main (F := Bits))) ⟨m, fun _ => 0, g⟩ (fun r => (∀ c : Dev Cert.AdamModel.nD,
      r.2.mem ((c.tc : Thread Cert.AdamModel.nD Cert.AdamModel.τ).loc Cert.AdamModel.main_arg0) = m ((c.tc : Thread Cert.AdamModel.nD Cert.AdamModel.τ).loc Cert.AdamModel.main_arg0)
      ∧ r.2.mem ((c.tc : Thread Cert.AdamModel.nD Cert.AdamModel.τ).loc Cert.AdamModel.main_arg1) = m ((c.tc : Thread Cert.AdamModel.nD Cert.AdamModel.τ).loc Cert.AdamModel.main_arg1)
      ∧ r.2.mem ((c.tc : Thread Cert.AdamModel.nD Cert.AdamModel.τ).loc Cert.AdamModel.main_arg2) = m ((c.tc : Thread Cert.AdamModel.nD Cert.AdamModel.τ).loc Cert.AdamModel.main_arg2)
      ∧ r.2.mem ((c.tc : Thread Cert.AdamModel.nD Cert.AdamModel.τ).loc Cert.AdamModel.main_arg3) = m ((c.tc : Thread Cert.AdamModel.nD Cert.AdamModel.τ).loc Cert.AdamModel.main_arg3))
      ∧ r.2.sem = fun _ => 0)

def quiescent_AdamModelIdeal [hAdamModelIdeal : Cert.AdamModelIdeal.Facts] : Prop :=
  ∀ (m : (ℓ : Loc Cert.AdamModelIdeal.nD Cert.AdamModelIdeal.τ Cert.AdamModelIdeal.sig) → Buf (Elt Ideal) ℓ) (g : Dev Cert.AdamModelIdeal.nD → PrngReg), Pre_AdamModelIdeal m →
    θ_run (Cert.AdamModelIdeal.defs (F := Ideal)) (onTc (τ := Cert.AdamModelIdeal.τ) (Cert.AdamModelIdeal.main (F := Ideal))) ⟨m, fun _ => 0, g⟩ (fun r => (∀ c : Dev Cert.AdamModelIdeal.nD,
      r.2.mem ((c.tc : Thread Cert.AdamModelIdeal.nD Cert.AdamModelIdeal.τ).loc Cert.AdamModelIdeal.main_arg0) = m ((c.tc : Thread Cert.AdamModelIdeal.nD Cert.AdamModelIdeal.τ).loc Cert.AdamModelIdeal.main_arg0)
      ∧ r.2.mem ((c.tc : Thread Cert.AdamModelIdeal.nD Cert.AdamModelIdeal.τ).loc Cert.AdamModelIdeal.main_arg1) = m ((c.tc : Thread Cert.AdamModelIdeal.nD Cert.AdamModelIdeal.τ).loc Cert.AdamModelIdeal.main_arg1)
      ∧ r.2.mem ((c.tc : Thread Cert.AdamModelIdeal.nD Cert.AdamModelIdeal.τ).loc Cert.AdamModelIdeal.main_arg2) = m ((c.tc : Thread Cert.AdamModelIdeal.nD Cert.AdamModelIdeal.τ).loc Cert.AdamModelIdeal.main_arg2)
      ∧ r.2.mem ((c.tc : Thread Cert.AdamModelIdeal.nD Cert.AdamModelIdeal.τ).loc Cert.AdamModelIdeal.main_arg3) = m ((c.tc : Thread Cert.AdamModelIdeal.nD Cert.AdamModelIdeal.τ).loc Cert.AdamModelIdeal.main_arg3))
      ∧ r.2.sem = fun _ => 0)

def quiescent_RefAdamModelIdeal [hRefAdamModelIdeal : Cert.RefAdamModelIdeal.Facts] : Prop :=
  ∀ (m : (ℓ : Loc Cert.RefAdamModelIdeal.nD Cert.RefAdamModelIdeal.τ Cert.RefAdamModelIdeal.sig) → Buf (Elt Ideal) ℓ) (g : Dev Cert.RefAdamModelIdeal.nD → PrngReg), Pre_RefAdamModelIdeal m →
    θ_run (Cert.RefAdamModelIdeal.defs (F := Ideal)) (onTc (τ := Cert.RefAdamModelIdeal.τ) (Cert.RefAdamModelIdeal.main (F := Ideal))) ⟨m, fun _ => 0, g⟩ (fun r => (∀ c : Dev Cert.RefAdamModelIdeal.nD,
      r.2.mem ((c.tc : Thread Cert.RefAdamModelIdeal.nD Cert.RefAdamModelIdeal.τ).loc Cert.RefAdamModelIdeal.main_arg0) = m ((c.tc : Thread Cert.RefAdamModelIdeal.nD Cert.RefAdamModelIdeal.τ).loc Cert.RefAdamModelIdeal.main_arg0)
      ∧ r.2.mem ((c.tc : Thread Cert.RefAdamModelIdeal.nD Cert.RefAdamModelIdeal.τ).loc Cert.RefAdamModelIdeal.main_arg1) = m ((c.tc : Thread Cert.RefAdamModelIdeal.nD Cert.RefAdamModelIdeal.τ).loc Cert.RefAdamModelIdeal.main_arg1)
      ∧ r.2.mem ((c.tc : Thread Cert.RefAdamModelIdeal.nD Cert.RefAdamModelIdeal.τ).loc Cert.RefAdamModelIdeal.main_arg2) = m ((c.tc : Thread Cert.RefAdamModelIdeal.nD Cert.RefAdamModelIdeal.τ).loc Cert.RefAdamModelIdeal.main_arg2)
      ∧ r.2.mem ((c.tc : Thread Cert.RefAdamModelIdeal.nD Cert.RefAdamModelIdeal.τ).loc Cert.RefAdamModelIdeal.main_arg3) = m ((c.tc : Thread Cert.RefAdamModelIdeal.nD Cert.RefAdamModelIdeal.τ).loc Cert.RefAdamModelIdeal.main_arg3))
      ∧ r.2.sem = fun _ => 0)

def quiescent_AdamMod [hAdamMod : Cert.AdamMod.Facts] : Prop :=
  ∀ (m : (ℓ : Loc Cert.AdamMod.nD Cert.AdamMod.τ Cert.AdamMod.sig) → Buf (Elt Bits) ℓ) (g : Dev Cert.AdamMod.nD → PrngReg), Pre_AdamMod m →
    θ_run (Cert.AdamMod.defs (F := Bits)) (onTc (τ := Cert.AdamMod.τ) (Cert.AdamMod.main (F := Bits))) ⟨m, fun _ => 0, g⟩ (fun r => (∀ c : Dev Cert.AdamMod.nD,
      r.2.mem ((c.tc : Thread Cert.AdamMod.nD Cert.AdamMod.τ).loc Cert.AdamMod.main_arg0) = m ((c.tc : Thread Cert.AdamMod.nD Cert.AdamMod.τ).loc Cert.AdamMod.main_arg0)
      ∧ r.2.mem ((c.tc : Thread Cert.AdamMod.nD Cert.AdamMod.τ).loc Cert.AdamMod.main_arg1) = m ((c.tc : Thread Cert.AdamMod.nD Cert.AdamMod.τ).loc Cert.AdamMod.main_arg1)
      ∧ r.2.mem ((c.tc : Thread Cert.AdamMod.nD Cert.AdamMod.τ).loc Cert.AdamMod.main_arg2) = m ((c.tc : Thread Cert.AdamMod.nD Cert.AdamMod.τ).loc Cert.AdamMod.main_arg2)
      ∧ r.2.mem ((c.tc : Thread Cert.AdamMod.nD Cert.AdamMod.τ).loc Cert.AdamMod.main_arg3) = m ((c.tc : Thread Cert.AdamMod.nD Cert.AdamMod.τ).loc Cert.AdamMod.main_arg3))
      ∧ r.2.sem = fun _ => 0)

def quiescent_AdamModIdeal [hAdamModIdeal : Cert.AdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg), Pre_AdamModIdeal m →
    θ_run (Cert.AdamModIdeal.defs (F := Ideal)) (onTc (τ := Cert.AdamModIdeal.τ) (Cert.AdamModIdeal.main (F := Ideal))) ⟨m, fun _ => 0, g⟩ (fun r => (∀ c : Dev Cert.AdamModIdeal.nD,
      r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
      ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
      ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
      ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ r.2.sem = fun _ => 0)

def quiescent_RefAdamModIdeal [hRefAdamModIdeal : Cert.RefAdamModIdeal.Facts] : Prop :=
  ∀ (m : (ℓ : Loc Cert.RefAdamModIdeal.nD Cert.RefAdamModIdeal.τ Cert.RefAdamModIdeal.sig) → Buf (Elt Ideal) ℓ) (g : Dev Cert.RefAdamModIdeal.nD → PrngReg), Pre_RefAdamModIdeal m →
    θ_run (Cert.RefAdamModIdeal.defs (F := Ideal)) (onTc (τ := Cert.RefAdamModIdeal.τ) (Cert.RefAdamModIdeal.main (F := Ideal))) ⟨m, fun _ => 0, g⟩ (fun r => (∀ c : Dev Cert.RefAdamModIdeal.nD,
      r.2.mem ((c.tc : Thread Cert.RefAdamModIdeal.nD Cert.RefAdamModIdeal.τ).loc Cert.RefAdamModIdeal.main_arg0) = m ((c.tc : Thread Cert.RefAdamModIdeal.nD Cert.RefAdamModIdeal.τ).loc Cert.RefAdamModIdeal.main_arg0)
      ∧ r.2.mem ((c.tc : Thread Cert.RefAdamModIdeal.nD Cert.RefAdamModIdeal.τ).loc Cert.RefAdamModIdeal.main_arg1) = m ((c.tc : Thread Cert.RefAdamModIdeal.nD Cert.RefAdamModIdeal.τ).loc Cert.RefAdamModIdeal.main_arg1)
      ∧ r.2.mem ((c.tc : Thread Cert.RefAdamModIdeal.nD Cert.RefAdamModIdeal.τ).loc Cert.RefAdamModIdeal.main_arg2) = m ((c.tc : Thread Cert.RefAdamModIdeal.nD Cert.RefAdamModIdeal.τ).loc Cert.RefAdamModIdeal.main_arg2)
      ∧ r.2.mem ((c.tc : Thread Cert.RefAdamModIdeal.nD Cert.RefAdamModIdeal.τ).loc Cert.RefAdamModIdeal.main_arg3) = m ((c.tc : Thread Cert.RefAdamModIdeal.nD Cert.RefAdamModIdeal.τ).loc Cert.RefAdamModIdeal.main_arg3))
      ∧ r.2.sem = fun _ => 0)

def quiescent_AdamTapsA [hAdamTapsA : Cert.AdamTapsA.Facts] : Prop :=
  ∀ (m : (ℓ : Loc Cert.AdamTapsA.nD Cert.AdamTapsA.τ Cert.AdamTapsA.sig) → Buf (Elt Bits) ℓ) (g : Dev Cert.AdamTapsA.nD → PrngReg), Pre_AdamTapsA m →
    θ_run (Cert.AdamTapsA.defs (F := Bits)) (onTc (τ := Cert.AdamTapsA.τ) (Cert.AdamTapsA.main (F := Bits))) ⟨m, fun _ => 0, g⟩ (fun r => (∀ c : Dev Cert.AdamTapsA.nD,
      r.2.mem ((c.tc : Thread Cert.AdamTapsA.nD Cert.AdamTapsA.τ).loc Cert.AdamTapsA.main_arg0) = m ((c.tc : Thread Cert.AdamTapsA.nD Cert.AdamTapsA.τ).loc Cert.AdamTapsA.main_arg0)
      ∧ r.2.mem ((c.tc : Thread Cert.AdamTapsA.nD Cert.AdamTapsA.τ).loc Cert.AdamTapsA.main_arg1) = m ((c.tc : Thread Cert.AdamTapsA.nD Cert.AdamTapsA.τ).loc Cert.AdamTapsA.main_arg1)
      ∧ r.2.mem ((c.tc : Thread Cert.AdamTapsA.nD Cert.AdamTapsA.τ).loc Cert.AdamTapsA.main_arg2) = m ((c.tc : Thread Cert.AdamTapsA.nD Cert.AdamTapsA.τ).loc Cert.AdamTapsA.main_arg2)
      ∧ r.2.mem ((c.tc : Thread Cert.AdamTapsA.nD Cert.AdamTapsA.τ).loc Cert.AdamTapsA.main_arg3) = m ((c.tc : Thread Cert.AdamTapsA.nD Cert.AdamTapsA.τ).loc Cert.AdamTapsA.main_arg3))
      ∧ r.2.sem = fun _ => 0)

def quiescent_AdamTapsAIdeal [hAdamTapsAIdeal : Cert.AdamTapsAIdeal.Facts] : Prop :=
  ∀ (m : (ℓ : Loc Cert.AdamTapsAIdeal.nD Cert.AdamTapsAIdeal.τ Cert.AdamTapsAIdeal.sig) → Buf (Elt Ideal) ℓ) (g : Dev Cert.AdamTapsAIdeal.nD → PrngReg), Pre_AdamTapsAIdeal m →
    θ_run (Cert.AdamTapsAIdeal.defs (F := Ideal)) (onTc (τ := Cert.AdamTapsAIdeal.τ) (Cert.AdamTapsAIdeal.main (F := Ideal))) ⟨m, fun _ => 0, g⟩ (fun r => (∀ c : Dev Cert.AdamTapsAIdeal.nD,
      r.2.mem ((c.tc : Thread Cert.AdamTapsAIdeal.nD Cert.AdamTapsAIdeal.τ).loc Cert.AdamTapsAIdeal.main_arg0) = m ((c.tc : Thread Cert.AdamTapsAIdeal.nD Cert.AdamTapsAIdeal.τ).loc Cert.AdamTapsAIdeal.main_arg0)
      ∧ r.2.mem ((c.tc : Thread Cert.AdamTapsAIdeal.nD Cert.AdamTapsAIdeal.τ).loc Cert.AdamTapsAIdeal.main_arg1) = m ((c.tc : Thread Cert.AdamTapsAIdeal.nD Cert.AdamTapsAIdeal.τ).loc Cert.AdamTapsAIdeal.main_arg1)
      ∧ r.2.mem ((c.tc : Thread Cert.AdamTapsAIdeal.nD Cert.AdamTapsAIdeal.τ).loc Cert.AdamTapsAIdeal.main_arg2) = m ((c.tc : Thread Cert.AdamTapsAIdeal.nD Cert.AdamTapsAIdeal.τ).loc Cert.AdamTapsAIdeal.main_arg2)
      ∧ r.2.mem ((c.tc : Thread Cert.AdamTapsAIdeal.nD Cert.AdamTapsAIdeal.τ).loc Cert.AdamTapsAIdeal.main_arg3) = m ((c.tc : Thread Cert.AdamTapsAIdeal.nD Cert.AdamTapsAIdeal.τ).loc Cert.AdamTapsAIdeal.main_arg3))
      ∧ r.2.sem = fun _ => 0)

def quiescent_RefAdamTapsAIdeal [hRefAdamTapsAIdeal : Cert.RefAdamTapsAIdeal.Facts] : Prop :=
  ∀ (m : (ℓ : Loc Cert.RefAdamTapsAIdeal.nD Cert.RefAdamTapsAIdeal.τ Cert.RefAdamTapsAIdeal.sig) → Buf (Elt Ideal) ℓ) (g : Dev Cert.RefAdamTapsAIdeal.nD → PrngReg), Pre_RefAdamTapsAIdeal m →
    θ_run (Cert.RefAdamTapsAIdeal.defs (F := Ideal)) (onTc (τ := Cert.RefAdamTapsAIdeal.τ) (Cert.RefAdamTapsAIdeal.main (F := Ideal))) ⟨m, fun _ => 0, g⟩ (fun r => (∀ c : Dev Cert.RefAdamTapsAIdeal.nD,
      r.2.mem ((c.tc : Thread Cert.RefAdamTapsAIdeal.nD Cert.RefAdamTapsAIdeal.τ).loc Cert.RefAdamTapsAIdeal.main_arg0) = m ((c.tc : Thread Cert.RefAdamTapsAIdeal.nD Cert.RefAdamTapsAIdeal.τ).loc Cert.RefAdamTapsAIdeal.main_arg0)
      ∧ r.2.mem ((c.tc : Thread Cert.RefAdamTapsAIdeal.nD Cert.RefAdamTapsAIdeal.τ).loc Cert.RefAdamTapsAIdeal.main_arg1) = m ((c.tc : Thread Cert.RefAdamTapsAIdeal.nD Cert.RefAdamTapsAIdeal.τ).loc Cert.RefAdamTapsAIdeal.main_arg1)
      ∧ r.2.mem ((c.tc : Thread Cert.RefAdamTapsAIdeal.nD Cert.RefAdamTapsAIdeal.τ).loc Cert.RefAdamTapsAIdeal.main_arg2) = m ((c.tc : Thread Cert.RefAdamTapsAIdeal.nD Cert.RefAdamTapsAIdeal.τ).loc Cert.RefAdamTapsAIdeal.main_arg2)
      ∧ r.2.mem ((c.tc : Thread Cert.RefAdamTapsAIdeal.nD Cert.RefAdamTapsAIdeal.τ).loc Cert.RefAdamTapsAIdeal.main_arg3) = m ((c.tc : Thread Cert.RefAdamTapsAIdeal.nD Cert.RefAdamTapsAIdeal.τ).loc Cert.RefAdamTapsAIdeal.main_arg3))
      ∧ r.2.sem = fun _ => 0)

def quiescent_AdamTapsB [hAdamTapsB : Cert.AdamTapsB.Facts] : Prop :=
  ∀ (m : (ℓ : Loc Cert.AdamTapsB.nD Cert.AdamTapsB.τ Cert.AdamTapsB.sig) → Buf (Elt Bits) ℓ) (g : Dev Cert.AdamTapsB.nD → PrngReg), Pre_AdamTapsB m →
    θ_run (Cert.AdamTapsB.defs (F := Bits)) (onTc (τ := Cert.AdamTapsB.τ) (Cert.AdamTapsB.main (F := Bits))) ⟨m, fun _ => 0, g⟩ (fun r => (∀ c : Dev Cert.AdamTapsB.nD,
      r.2.mem ((c.tc : Thread Cert.AdamTapsB.nD Cert.AdamTapsB.τ).loc Cert.AdamTapsB.main_arg0) = m ((c.tc : Thread Cert.AdamTapsB.nD Cert.AdamTapsB.τ).loc Cert.AdamTapsB.main_arg0)
      ∧ r.2.mem ((c.tc : Thread Cert.AdamTapsB.nD Cert.AdamTapsB.τ).loc Cert.AdamTapsB.main_arg1) = m ((c.tc : Thread Cert.AdamTapsB.nD Cert.AdamTapsB.τ).loc Cert.AdamTapsB.main_arg1)
      ∧ r.2.mem ((c.tc : Thread Cert.AdamTapsB.nD Cert.AdamTapsB.τ).loc Cert.AdamTapsB.main_arg2) = m ((c.tc : Thread Cert.AdamTapsB.nD Cert.AdamTapsB.τ).loc Cert.AdamTapsB.main_arg2)
      ∧ r.2.mem ((c.tc : Thread Cert.AdamTapsB.nD Cert.AdamTapsB.τ).loc Cert.AdamTapsB.main_arg3) = m ((c.tc : Thread Cert.AdamTapsB.nD Cert.AdamTapsB.τ).loc Cert.AdamTapsB.main_arg3))
      ∧ r.2.sem = fun _ => 0)

def quiescent_AdamTapsBIdeal [hAdamTapsBIdeal : Cert.AdamTapsBIdeal.Facts] : Prop :=
  ∀ (m : (ℓ : Loc Cert.AdamTapsBIdeal.nD Cert.AdamTapsBIdeal.τ Cert.AdamTapsBIdeal.sig) → Buf (Elt Ideal) ℓ) (g : Dev Cert.AdamTapsBIdeal.nD → PrngReg), Pre_AdamTapsBIdeal m →
    θ_run (Cert.AdamTapsBIdeal.defs (F := Ideal)) (onTc (τ := Cert.AdamTapsBIdeal.τ) (Cert.AdamTapsBIdeal.main (F := Ideal))) ⟨m, fun _ => 0, g⟩ (fun r => (∀ c : Dev Cert.AdamTapsBIdeal.nD,
      r.2.mem ((c.tc : Thread Cert.AdamTapsBIdeal.nD Cert.AdamTapsBIdeal.τ).loc Cert.AdamTapsBIdeal.main_arg0) = m ((c.tc : Thread Cert.AdamTapsBIdeal.nD Cert.AdamTapsBIdeal.τ).loc Cert.AdamTapsBIdeal.main_arg0)
      ∧ r.2.mem ((c.tc : Thread Cert.AdamTapsBIdeal.nD Cert.AdamTapsBIdeal.τ).loc Cert.AdamTapsBIdeal.main_arg1) = m ((c.tc : Thread Cert.AdamTapsBIdeal.nD Cert.AdamTapsBIdeal.τ).loc Cert.AdamTapsBIdeal.main_arg1)
      ∧ r.2.mem ((c.tc : Thread Cert.AdamTapsBIdeal.nD Cert.AdamTapsBIdeal.τ).loc Cert.AdamTapsBIdeal.main_arg2) = m ((c.tc : Thread Cert.AdamTapsBIdeal.nD Cert.AdamTapsBIdeal.τ).loc Cert.AdamTapsBIdeal.main_arg2)
      ∧ r.2.mem ((c.tc : Thread Cert.AdamTapsBIdeal.nD Cert.AdamTapsBIdeal.τ).loc Cert.AdamTapsBIdeal.main_arg3) = m ((c.tc : Thread Cert.AdamTapsBIdeal.nD Cert.AdamTapsBIdeal.τ).loc Cert.AdamTapsBIdeal.main_arg3))
      ∧ r.2.sem = fun _ => 0)

def quiescent_RefAdamTapsBIdeal [hRefAdamTapsBIdeal : Cert.RefAdamTapsBIdeal.Facts] : Prop :=
  ∀ (m : (ℓ : Loc Cert.RefAdamTapsBIdeal.nD Cert.RefAdamTapsBIdeal.τ Cert.RefAdamTapsBIdeal.sig) → Buf (Elt Ideal) ℓ) (g : Dev Cert.RefAdamTapsBIdeal.nD → PrngReg), Pre_RefAdamTapsBIdeal m →
    θ_run (Cert.RefAdamTapsBIdeal.defs (F := Ideal)) (onTc (τ := Cert.RefAdamTapsBIdeal.τ) (Cert.RefAdamTapsBIdeal.main (F := Ideal))) ⟨m, fun _ => 0, g⟩ (fun r => (∀ c : Dev Cert.RefAdamTapsBIdeal.nD,
      r.2.mem ((c.tc : Thread Cert.RefAdamTapsBIdeal.nD Cert.RefAdamTapsBIdeal.τ).loc Cert.RefAdamTapsBIdeal.main_arg0) = m ((c.tc : Thread Cert.RefAdamTapsBIdeal.nD Cert.RefAdamTapsBIdeal.τ).loc Cert.RefAdamTapsBIdeal.main_arg0)
      ∧ r.2.mem ((c.tc : Thread Cert.RefAdamTapsBIdeal.nD Cert.RefAdamTapsBIdeal.τ).loc Cert.RefAdamTapsBIdeal.main_arg1) = m ((c.tc : Thread Cert.RefAdamTapsBIdeal.nD Cert.RefAdamTapsBIdeal.τ).loc Cert.RefAdamTapsBIdeal.main_arg1)
      ∧ r.2.mem ((c.tc : Thread Cert.RefAdamTapsBIdeal.nD Cert.RefAdamTapsBIdeal.τ).loc Cert.RefAdamTapsBIdeal.main_arg2) = m ((c.tc : Thread Cert.RefAdamTapsBIdeal.nD Cert.RefAdamTapsBIdeal.τ).loc Cert.RefAdamTapsBIdeal.main_arg2)
      ∧ r.2.mem ((c.tc : Thread Cert.RefAdamTapsBIdeal.nD Cert.RefAdamTapsBIdeal.τ).loc Cert.RefAdamTapsBIdeal.main_arg3) = m ((c.tc : Thread Cert.RefAdamTapsBIdeal.nD Cert.RefAdamTapsBIdeal.τ).loc Cert.RefAdamTapsBIdeal.main_arg3))
      ∧ r.2.sem = fun _ => 0)

def quiescent_AdamMixer [hAdamMixer : Cert.AdamMixer.Facts] : Prop :=
  ∀ (m : (ℓ : Loc Cert.AdamMixer.nD Cert.AdamMixer.τ Cert.AdamMixer.sig) → Buf (Elt Bits) ℓ) (g : Dev Cert.AdamMixer.nD → PrngReg), Pre_AdamMixer m →
    θ_run (Cert.AdamMixer.defs (F := Bits)) (onTc (τ := Cert.AdamMixer.τ) (Cert.AdamMixer.main (F := Bits))) ⟨m, fun _ => 0, g⟩ (fun r => (∀ c : Dev Cert.AdamMixer.nD,
      r.2.mem ((c.tc : Thread Cert.AdamMixer.nD Cert.AdamMixer.τ).loc Cert.AdamMixer.main_arg0) = m ((c.tc : Thread Cert.AdamMixer.nD Cert.AdamMixer.τ).loc Cert.AdamMixer.main_arg0)
      ∧ r.2.mem ((c.tc : Thread Cert.AdamMixer.nD Cert.AdamMixer.τ).loc Cert.AdamMixer.main_arg1) = m ((c.tc : Thread Cert.AdamMixer.nD Cert.AdamMixer.τ).loc Cert.AdamMixer.main_arg1)
      ∧ r.2.mem ((c.tc : Thread Cert.AdamMixer.nD Cert.AdamMixer.τ).loc Cert.AdamMixer.main_arg2) = m ((c.tc : Thread Cert.AdamMixer.nD Cert.AdamMixer.τ).loc Cert.AdamMixer.main_arg2)
      ∧ r.2.mem ((c.tc : Thread Cert.AdamMixer.nD Cert.AdamMixer.τ).loc Cert.AdamMixer.main_arg3) = m ((c.tc : Thread Cert.AdamMixer.nD Cert.AdamMixer.τ).loc Cert.AdamMixer.main_arg3))
      ∧ r.2.sem = fun _ => 0)

def quiescent_AdamMixerIdeal [hAdamMixerIdeal : Cert.AdamMixerIdeal.Facts] : Prop :=
  ∀ (m : (ℓ : Loc Cert.AdamMixerIdeal.nD Cert.AdamMixerIdeal.τ Cert.AdamMixerIdeal.sig) → Buf (Elt Ideal) ℓ) (g : Dev Cert.AdamMixerIdeal.nD → PrngReg), Pre_AdamMixerIdeal m →
    θ_run (Cert.AdamMixerIdeal.defs (F := Ideal)) (onTc (τ := Cert.AdamMixerIdeal.τ) (Cert.AdamMixerIdeal.main (F := Ideal))) ⟨m, fun _ => 0, g⟩ (fun r => (∀ c : Dev Cert.AdamMixerIdeal.nD,
      r.2.mem ((c.tc : Thread Cert.AdamMixerIdeal.nD Cert.AdamMixerIdeal.τ).loc Cert.AdamMixerIdeal.main_arg0) = m ((c.tc : Thread Cert.AdamMixerIdeal.nD Cert.AdamMixerIdeal.τ).loc Cert.AdamMixerIdeal.main_arg0)
      ∧ r.2.mem ((c.tc : Thread Cert.AdamMixerIdeal.nD Cert.AdamMixerIdeal.τ).loc Cert.AdamMixerIdeal.main_arg1) = m ((c.tc : Thread Cert.AdamMixerIdeal.nD Cert.AdamMixerIdeal.τ).loc Cert.AdamMixerIdeal.main_arg1)
      ∧ r.2.mem ((c.tc : Thread Cert.AdamMixerIdeal.nD Cert.AdamMixerIdeal.τ).loc Cert.AdamMixerIdeal.main_arg2) = m ((c.tc : Thread Cert.AdamMixerIdeal.nD Cert.AdamMixerIdeal.τ).loc Cert.AdamMixerIdeal.main_arg2)
      ∧ r.2.mem ((c.tc : Thread Cert.AdamMixerIdeal.nD Cert.AdamMixerIdeal.τ).loc Cert.AdamMixerIdeal.main_arg3) = m ((c.tc : Thread Cert.AdamMixerIdeal.nD Cert.AdamMixerIdeal.τ).loc Cert.AdamMixerIdeal.main_arg3))
      ∧ r.2.sem = fun _ => 0)

def quiescent_RefAdamMixerIdeal [hRefAdamMixerIdeal : Cert.RefAdamMixerIdeal.Facts] : Prop :=
  ∀ (m : (ℓ : Loc Cert.RefAdamMixerIdeal.nD Cert.RefAdamMixerIdeal.τ Cert.RefAdamMixerIdeal.sig) → Buf (Elt Ideal) ℓ) (g : Dev Cert.RefAdamMixerIdeal.nD → PrngReg), Pre_RefAdamMixerIdeal m →
    θ_run (Cert.RefAdamMixerIdeal.defs (F := Ideal)) (onTc (τ := Cert.RefAdamMixerIdeal.τ) (Cert.RefAdamMixerIdeal.main (F := Ideal))) ⟨m, fun _ => 0, g⟩ (fun r => (∀ c : Dev Cert.RefAdamMixerIdeal.nD,
      r.2.mem ((c.tc : Thread Cert.RefAdamMixerIdeal.nD Cert.RefAdamMixerIdeal.τ).loc Cert.RefAdamMixerIdeal.main_arg0) = m ((c.tc : Thread Cert.RefAdamMixerIdeal.nD Cert.RefAdamMixerIdeal.τ).loc Cert.RefAdamMixerIdeal.main_arg0)
      ∧ r.2.mem ((c.tc : Thread Cert.RefAdamMixerIdeal.nD Cert.RefAdamMixerIdeal.τ).loc Cert.RefAdamMixerIdeal.main_arg1) = m ((c.tc : Thread Cert.RefAdamMixerIdeal.nD Cert.RefAdamMixerIdeal.τ).loc Cert.RefAdamMixerIdeal.main_arg1)
      ∧ r.2.mem ((c.tc : Thread Cert.RefAdamMixerIdeal.nD Cert.RefAdamMixerIdeal.τ).loc Cert.RefAdamMixerIdeal.main_arg2) = m ((c.tc : Thread Cert.RefAdamMixerIdeal.nD Cert.RefAdamMixerIdeal.τ).loc Cert.RefAdamMixerIdeal.main_arg2)
      ∧ r.2.mem ((c.tc : Thread Cert.RefAdamMixerIdeal.nD Cert.RefAdamMixerIdeal.τ).loc Cert.RefAdamMixerIdeal.main_arg3) = m ((c.tc : Thread Cert.RefAdamMixerIdeal.nD Cert.RefAdamMixerIdeal.τ).loc Cert.RefAdamMixerIdeal.main_arg3))
      ∧ r.2.sem = fun _ => 0)

def quiescent_AdamAda [hAdamAda : Cert.AdamAda.Facts] : Prop :=
  ∀ (m : (ℓ : Loc Cert.AdamAda.nD Cert.AdamAda.τ Cert.AdamAda.sig) → Buf (Elt Bits) ℓ) (g : Dev Cert.AdamAda.nD → PrngReg), Pre_AdamAda m →
    θ_run (Cert.AdamAda.defs (F := Bits)) (onTc (τ := Cert.AdamAda.τ) (Cert.AdamAda.main (F := Bits))) ⟨m, fun _ => 0, g⟩ (fun r => (∀ c : Dev Cert.AdamAda.nD,
      r.2.mem ((c.tc : Thread Cert.AdamAda.nD Cert.AdamAda.τ).loc Cert.AdamAda.main_arg0) = m ((c.tc : Thread Cert.AdamAda.nD Cert.AdamAda.τ).loc Cert.AdamAda.main_arg0)
      ∧ r.2.mem ((c.tc : Thread Cert.AdamAda.nD Cert.AdamAda.τ).loc Cert.AdamAda.main_arg1) = m ((c.tc : Thread Cert.AdamAda.nD Cert.AdamAda.τ).loc Cert.AdamAda.main_arg1)
      ∧ r.2.mem ((c.tc : Thread Cert.AdamAda.nD Cert.AdamAda.τ).loc Cert.AdamAda.main_arg2) = m ((c.tc : Thread Cert.AdamAda.nD Cert.AdamAda.τ).loc Cert.AdamAda.main_arg2)
      ∧ r.2.mem ((c.tc : Thread Cert.AdamAda.nD Cert.AdamAda.τ).loc Cert.AdamAda.main_arg3) = m ((c.tc : Thread Cert.AdamAda.nD Cert.AdamAda.τ).loc Cert.AdamAda.main_arg3)
      ∧ r.2.mem ((c.tc : Thread Cert.AdamAda.nD Cert.AdamAda.τ).loc Cert.AdamAda.main_arg4) = m ((c.tc : Thread Cert.AdamAda.nD Cert.AdamAda.τ).loc Cert.AdamAda.main_arg4))
      ∧ r.2.sem = fun _ => 0)

def quiescent_AdamAdaIdeal [hAdamAdaIdeal : Cert.AdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg), Pre_AdamAdaIdeal m →
    θ_run (Cert.AdamAdaIdeal.defs (F := Ideal)) (onTc (τ := Cert.AdamAdaIdeal.τ) (Cert.AdamAdaIdeal.main (F := Ideal))) ⟨m, fun _ => 0, g⟩ (fun r => (∀ c : Dev Cert.AdamAdaIdeal.nD,
      r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
      ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
      ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
      ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
      ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ r.2.sem = fun _ => 0)

def quiescent_RefAdamAdaIdeal [hRefAdamAdaIdeal : Cert.RefAdamAdaIdeal.Facts] : Prop :=
  ∀ (m : (ℓ : Loc Cert.RefAdamAdaIdeal.nD Cert.RefAdamAdaIdeal.τ Cert.RefAdamAdaIdeal.sig) → Buf (Elt Ideal) ℓ) (g : Dev Cert.RefAdamAdaIdeal.nD → PrngReg), Pre_RefAdamAdaIdeal m →
    θ_run (Cert.RefAdamAdaIdeal.defs (F := Ideal)) (onTc (τ := Cert.RefAdamAdaIdeal.τ) (Cert.RefAdamAdaIdeal.main (F := Ideal))) ⟨m, fun _ => 0, g⟩ (fun r => (∀ c : Dev Cert.RefAdamAdaIdeal.nD,
      r.2.mem ((c.tc : Thread Cert.RefAdamAdaIdeal.nD Cert.RefAdamAdaIdeal.τ).loc Cert.RefAdamAdaIdeal.main_arg0) = m ((c.tc : Thread Cert.RefAdamAdaIdeal.nD Cert.RefAdamAdaIdeal.τ).loc Cert.RefAdamAdaIdeal.main_arg0)
      ∧ r.2.mem ((c.tc : Thread Cert.RefAdamAdaIdeal.nD Cert.RefAdamAdaIdeal.τ).loc Cert.RefAdamAdaIdeal.main_arg1) = m ((c.tc : Thread Cert.RefAdamAdaIdeal.nD Cert.RefAdamAdaIdeal.τ).loc Cert.RefAdamAdaIdeal.main_arg1)
      ∧ r.2.mem ((c.tc : Thread Cert.RefAdamAdaIdeal.nD Cert.RefAdamAdaIdeal.τ).loc Cert.RefAdamAdaIdeal.main_arg2) = m ((c.tc : Thread Cert.RefAdamAdaIdeal.nD Cert.RefAdamAdaIdeal.τ).loc Cert.RefAdamAdaIdeal.main_arg2)
      ∧ r.2.mem ((c.tc : Thread Cert.RefAdamAdaIdeal.nD Cert.RefAdamAdaIdeal.τ).loc Cert.RefAdamAdaIdeal.main_arg3) = m ((c.tc : Thread Cert.RefAdamAdaIdeal.nD Cert.RefAdamAdaIdeal.τ).loc Cert.RefAdamAdaIdeal.main_arg3)
      ∧ r.2.mem ((c.tc : Thread Cert.RefAdamAdaIdeal.nD Cert.RefAdamAdaIdeal.τ).loc Cert.RefAdamAdaIdeal.main_arg4) = m ((c.tc : Thread Cert.RefAdamAdaIdeal.nD Cert.RefAdamAdaIdeal.τ).loc Cert.RefAdamAdaIdeal.main_arg4))
      ∧ r.2.sem = fun _ => 0)

def quiescent_Gate [hGate : Cert.Gate.Facts] [hPre_finite_gate : Cert.Pre_finite_gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5))
      ∧ r.2.sem = fun _ => 0)

def quiescent_GateIdeal [hGateIdeal : Cert.GateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ r.2.sem = fun _ => 0)

def quiescent_RefGateIdeal [hRefGateIdeal : Cert.RefGateIdeal.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2)
      ∧ r.2.mem ((c.tc : Thread Cert.RefGateIdeal.nD Cert.RefGateIdeal.τ).loc Cert.RefGateIdeal.main_arg3) = m ((c.tc : Thread Cert.RefGateIdeal.nD Cert.RefGateIdeal.τ).loc Cert.RefGateIdeal.main_arg3)
      ∧ r.2.mem ((c.tc : Thread Cert.RefGateIdeal.nD Cert.RefGateIdeal.τ).loc Cert.RefGateIdeal.main_arg4) = m ((c.tc : Thread Cert.RefGateIdeal.nD Cert.RefGateIdeal.τ).loc Cert.RefGateIdeal.main_arg4)
      ∧ r.2.mem ((c.tc : Thread Cert.RefGateIdeal.nD Cert.RefGateIdeal.τ).loc Cert.RefGateIdeal.main_arg5) = m ((c.tc : Thread Cert.RefGateIdeal.nD Cert.RefGateIdeal.τ).loc Cert.RefGateIdeal.main_arg5))
      ∧ r.2.sem = fun _ => 0)

def quiescent_RefGateIdeal_pre_finite_gate [hRefGateIdeal : Cert.RefGateIdeal.Facts] [hPre_finite_gate : Cert.Pre_finite_gate.Facts] : Prop :=
  ∀ (m : (ℓ : Loc Cert.RefGateIdeal.nD Cert.RefGateIdeal.τ Cert.RefGateIdeal.sig) → Buf (Elt Ideal) ℓ) (g : Dev Cert.RefGateIdeal.nD → PrngReg), Pre_RefGateIdeal_finite_gate m →
    θ_run (Cert.RefGateIdeal.defs (F := Ideal)) (onTc (τ := Cert.RefGateIdeal.τ) (Cert.RefGateIdeal.main (F := Ideal))) ⟨m, fun _ => 0, g⟩ (fun r => (∀ c : Dev Cert.RefGateIdeal.nD,
      r.2.mem ((c.tc : Thread Cert.RefGateIdeal.nD Cert.RefGateIdeal.τ).loc Cert.RefGateIdeal.main_arg0) = m ((c.tc : Thread Cert.RefGateIdeal.nD Cert.RefGateIdeal.τ).loc Cert.RefGateIdeal.main_arg0)
      ∧ r.2.mem ((c.tc : Thread Cert.RefGateIdeal.nD Cert.RefGateIdeal.τ).loc Cert.RefGateIdeal.main_arg1) = m ((c.tc : Thread Cert.RefGateIdeal.nD Cert.RefGateIdeal.τ).loc Cert.RefGateIdeal.main_arg1)
      ∧ r.2.mem ((c.tc : Thread Cert.RefGateIdeal.nD Cert.RefGateIdeal.τ).loc Cert.RefGateIdeal.main_arg2) = m ((c.tc : Thread Cert.RefGateIdeal.nD Cert.RefGateIdeal.τ).loc Cert.RefGateIdeal.main_arg2)
      ∧ r.2.mem ((c.tc : Thread Cert.RefGateIdeal.nD Cert.RefGateIdeal.τ).loc Cert.RefGateIdeal.main_arg3) = m ((c.tc : Thread Cert.RefGateIdeal.nD Cert.RefGateIdeal.τ).loc Cert.RefGateIdeal.main_arg3)
      ∧ r.2.mem ((c.tc : Thread Cert.RefGateIdeal.nD Cert.RefGateIdeal.τ).loc Cert.RefGateIdeal.main_arg4) = m ((c.tc : Thread Cert.RefGateIdeal.nD Cert.RefGateIdeal.τ).loc Cert.RefGateIdeal.main_arg4)
      ∧ r.2.mem ((c.tc : Thread Cert.RefGateIdeal.nD Cert.RefGateIdeal.τ).loc Cert.RefGateIdeal.main_arg5) = m ((c.tc : Thread Cert.RefGateIdeal.nD Cert.RefGateIdeal.τ).loc Cert.RefGateIdeal.main_arg5))
      ∧ r.2.sem = fun _ => 0)

def preserves_MixerA_MixerAIdeal : Prop :=
  True

def algebraic_MixerAIdeal_RefAIdeal_on_mixer_a_columns_pre_finite [hMixerAIdeal : Cert.MixerAIdeal.Facts] [hRefAIdeal : Cert.RefAIdeal.Facts] [hPre_finite : Cert.Pre_finite.Facts] [hOn_mixer_a_columns : Cert.On_mixer_a_columns.Facts] : Prop :=
  ∀ (m : (ℓ : Loc Cert.MixerAIdeal.nD Cert.MixerAIdeal.τ Cert.MixerAIdeal.sig) → Buf (Elt Ideal) ℓ) (g : Dev Cert.MixerAIdeal.nD → PrngReg)
    (m' : (ℓ : Loc Cert.RefAIdeal.nD Cert.RefAIdeal.τ Cert.RefAIdeal.sig) → Buf (Elt Ideal) ℓ) (g' : Dev Cert.RefAIdeal.nD → PrngReg), Pre_MixerAIdeal_finite m →
    (∀ c : Dev Cert.MixerAIdeal.nD,
      m' ((c.tc : Thread Cert.RefAIdeal.nD Cert.RefAIdeal.τ).loc Cert.RefAIdeal.main_arg0) = m ((c.tc : Thread Cert.MixerAIdeal.nD Cert.MixerAIdeal.τ).loc Cert.MixerAIdeal.main_arg0)
      ∧ m' ((c.tc : Thread Cert.RefAIdeal.nD Cert.RefAIdeal.τ).loc Cert.RefAIdeal.main_arg1) = m ((c.tc : Thread Cert.MixerAIdeal.nD Cert.MixerAIdeal.τ).loc Cert.MixerAIdeal.main_arg1)
      ∧ m' ((c.tc : Thread Cert.RefAIdeal.nD Cert.RefAIdeal.τ).loc Cert.RefAIdeal.main_arg2) = m ((c.tc : Thread Cert.MixerAIdeal.nD Cert.MixerAIdeal.τ).loc Cert.MixerAIdeal.main_arg2)) →
    ∃ (v0 : (c : Dev Cert.MixerAIdeal.nD) → Buf (Elt Ideal) ((c.tc : Thread Cert.MixerAIdeal.nD Cert.MixerAIdeal.τ).loc Cert.MixerAIdeal.main_v1_0)) (v1 : (c : Dev Cert.MixerAIdeal.nD) → Buf (Elt Ideal) ((c.tc : Thread Cert.MixerAIdeal.nD Cert.MixerAIdeal.τ).loc Cert.MixerAIdeal.main_v1_1)),
      θ_run (Cert.MixerAIdeal.defs (F := Ideal)) (onTc (τ := Cert.MixerAIdeal.τ) (Cert.MixerAIdeal.main (F := Ideal))) ⟨m, fun _ => 0, g⟩ (fun r => ∀ c : Dev Cert.MixerAIdeal.nD,
          (∀ i : (⟨2, ![4096, 14336]⟩ : Shape).Idx, (Cert.On_mixer_a_columns.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2))).1 i = 1#1 → r.2.mem ((c.tc : Thread Cert.MixerAIdeal.nD Cert.MixerAIdeal.τ).loc Cert.MixerAIdeal.main_v1_0) i = v0 c i)
          ∧ (∀ i : (⟨2, ![8, 2048]⟩ : Shape).Idx, (Cert.On_mixer_a_columns.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2))).2 i = 1#1 → r.2.mem ((c.tc : Thread Cert.MixerAIdeal.nD Cert.MixerAIdeal.τ).loc Cert.MixerAIdeal.main_v1_1) i = v1 c i)
          ∧ r.2.mem ((c.tc : Thread Cert.MixerAIdeal.nD Cert.MixerAIdeal.τ).loc Cert.MixerAIdeal.main_arg0) = m ((c.tc : Thread Cert.MixerAIdeal.nD Cert.MixerAIdeal.τ).loc Cert.MixerAIdeal.main_arg0)
          ∧ r.2.mem ((c.tc : Thread Cert.MixerAIdeal.nD Cert.MixerAIdeal.τ).loc Cert.MixerAIdeal.main_arg1) = m ((c.tc : Thread Cert.MixerAIdeal.nD Cert.MixerAIdeal.τ).loc Cert.MixerAIdeal.main_arg1)
          ∧ r.2.mem ((c.tc : Thread Cert.MixerAIdeal.nD Cert.MixerAIdeal.τ).loc Cert.MixerAIdeal.main_arg2) = m ((c.tc : Thread Cert.MixerAIdeal.nD Cert.MixerAIdeal.τ).loc Cert.MixerAIdeal.main_arg2))
      ∧ θ_run (Cert.RefAIdeal.defs (F := Ideal)) (onTc (τ := Cert.RefAIdeal.τ) (Cert.RefAIdeal.main (F := Ideal))) ⟨m', fun _ => 0, g'⟩ (fun r => ∀ c : Dev Cert.RefAIdeal.nD,
          (∀ i : (⟨2, ![4096, 14336]⟩ : Shape).Idx, (Cert.On_mixer_a_columns.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2))).1 i = 1#1 → r.2.mem ((c.tc : Thread Cert.RefAIdeal.nD Cert.RefAIdeal.τ).loc Cert.RefAIdeal.main_v81) i = v0 c i)
          ∧ (∀ i : (⟨2, ![8, 2048]⟩ : Shape).Idx, (Cert.On_mixer_a_columns.fn (F := Ideal) (m ((c.tc : Thread Cert.MixerAIdeal.nD Cert.MixerAIdeal.τ).loc Cert.MixerAIdeal.main_arg0)) (m ((c.tc : Thread Cert.MixerAIdeal.nD Cert.MixerAIdeal.τ).loc Cert.MixerAIdeal.main_arg1)) (m ((c.tc : Thread Cert.MixerAIdeal.nD Cert.MixerAIdeal.τ).loc Cert.MixerAIdeal.main_arg2))).2 i = 1#1 → r.2.mem ((c.tc : Thread Cert.RefAIdeal.nD Cert.RefAIdeal.τ).loc Cert.RefAIdeal.main_v82) i = v1 c i)
          ∧ r.2.mem ((c.tc : Thread Cert.RefAIdeal.nD Cert.RefAIdeal.τ).loc Cert.RefAIdeal.main_arg0) = m' ((c.tc : Thread Cert.RefAIdeal.nD Cert.RefAIdeal.τ).loc Cert.RefAIdeal.main_arg0)
          ∧ r.2.mem ((c.tc : Thread Cert.RefAIdeal.nD Cert.RefAIdeal.τ).loc Cert.RefAIdeal.main_arg1) = m' ((c.tc : Thread Cert.RefAIdeal.nD Cert.RefAIdeal.τ).loc Cert.RefAIdeal.main_arg1)
          ∧ r.2.mem ((c.tc : Thread Cert.RefAIdeal.nD Cert.RefAIdeal.τ).loc Cert.RefAIdeal.main_arg2) = m' ((c.tc : Thread Cert.RefAIdeal.nD Cert.RefAIdeal.τ).loc Cert.RefAIdeal.main_arg2))

def preserves_Dy_DyIdeal : Prop :=
  True

def algebraic_DyIdeal_RefDyIdeal [hDyIdeal : Cert.DyIdeal.Facts] [hRefDyIdeal : Cert.RefDyIdeal.Facts] : Prop :=
  ∀ (m : (ℓ : Loc Cert.DyIdeal.nD Cert.DyIdeal.τ Cert.DyIdeal.sig) → Buf (Elt Ideal) ℓ) (g : Dev Cert.DyIdeal.nD → PrngReg)
    (m' : (ℓ : Loc Cert.RefDyIdeal.nD Cert.RefDyIdeal.τ Cert.RefDyIdeal.sig) → Buf (Elt Ideal) ℓ) (g' : Dev Cert.RefDyIdeal.nD → PrngReg), Pre_DyIdeal m →
    (∀ c : Dev Cert.DyIdeal.nD,
      m' ((c.tc : Thread Cert.RefDyIdeal.nD Cert.RefDyIdeal.τ).loc Cert.RefDyIdeal.main_arg0) = m ((c.tc : Thread Cert.DyIdeal.nD Cert.DyIdeal.τ).loc Cert.DyIdeal.main_arg0)
      ∧ m' ((c.tc : Thread Cert.RefDyIdeal.nD Cert.RefDyIdeal.τ).loc Cert.RefDyIdeal.main_arg1) = m ((c.tc : Thread Cert.DyIdeal.nD Cert.DyIdeal.τ).loc Cert.DyIdeal.main_arg1)) →
    ∃ (v0 : (c : Dev Cert.DyIdeal.nD) → Buf (Elt Ideal) ((c.tc : Thread Cert.DyIdeal.nD Cert.DyIdeal.τ).loc Cert.DyIdeal.main_v0)),
      θ_run (Cert.DyIdeal.defs (F := Ideal)) (onTc (τ := Cert.DyIdeal.τ) (Cert.DyIdeal.main (F := Ideal))) ⟨m, fun _ => 0, g⟩ (fun r => ∀ c : Dev Cert.DyIdeal.nD,
          r.2.mem ((c.tc : Thread Cert.DyIdeal.nD Cert.DyIdeal.τ).loc Cert.DyIdeal.main_v0) = v0 c
          ∧ r.2.mem ((c.tc : Thread Cert.DyIdeal.nD Cert.DyIdeal.τ).loc Cert.DyIdeal.main_arg0) = m ((c.tc : Thread Cert.DyIdeal.nD Cert.DyIdeal.τ).loc Cert.DyIdeal.main_arg0)
          ∧ r.2.mem ((c.tc : Thread Cert.DyIdeal.nD Cert.DyIdeal.τ).loc Cert.DyIdeal.main_arg1) = m ((c.tc : Thread Cert.DyIdeal.nD Cert.DyIdeal.τ).loc Cert.DyIdeal.main_arg1))
      ∧ θ_run (Cert.RefDyIdeal.defs (F := Ideal)) (onTc (τ := Cert.RefDyIdeal.τ) (Cert.RefDyIdeal.main (F := Ideal))) ⟨m', fun _ => 0, g'⟩ (fun r => ∀ c : Dev Cert.RefDyIdeal.nD,
          r.2.mem ((c.tc : Thread Cert.RefDyIdeal.nD Cert.RefDyIdeal.τ).loc Cert.RefDyIdeal.main_v4) = v0 c
          ∧ r.2.mem ((c.tc : Thread Cert.RefDyIdeal.nD Cert.RefDyIdeal.τ).loc Cert.RefDyIdeal.main_arg0) = m' ((c.tc : Thread Cert.RefDyIdeal.nD Cert.RefDyIdeal.τ).loc Cert.RefDyIdeal.main_arg0)
          ∧ r.2.mem ((c.tc : Thread Cert.RefDyIdeal.nD Cert.RefDyIdeal.τ).loc Cert.RefDyIdeal.main_arg1) = m' ((c.tc : Thread Cert.RefDyIdeal.nD Cert.RefDyIdeal.τ).loc Cert.RefDyIdeal.main_arg1))

def preserves_GradWOut_GradWOutIdeal : Prop :=
  True

def algebraic_GradWOutIdeal_RefGradWOutIdeal [hGradWOutIdeal : Cert.GradWOutIdeal.Facts] [hRefGradWOutIdeal : Cert.RefGradWOutIdeal.Facts] : Prop :=
  ∀ (m : (ℓ : Loc Cert.GradWOutIdeal.nD Cert.GradWOutIdeal.τ Cert.GradWOutIdeal.sig) → Buf (Elt Ideal) ℓ) (g : Dev Cert.GradWOutIdeal.nD → PrngReg)
    (m' : (ℓ : Loc Cert.RefGradWOutIdeal.nD Cert.RefGradWOutIdeal.τ Cert.RefGradWOutIdeal.sig) → Buf (Elt Ideal) ℓ) (g' : Dev Cert.RefGradWOutIdeal.nD → PrngReg), Pre_GradWOutIdeal m →
    (∀ c : Dev Cert.GradWOutIdeal.nD,
      m' ((c.tc : Thread Cert.RefGradWOutIdeal.nD Cert.RefGradWOutIdeal.τ).loc Cert.RefGradWOutIdeal.main_arg0) = m ((c.tc : Thread Cert.GradWOutIdeal.nD Cert.GradWOutIdeal.τ).loc Cert.GradWOutIdeal.main_arg0)
      ∧ m' ((c.tc : Thread Cert.RefGradWOutIdeal.nD Cert.RefGradWOutIdeal.τ).loc Cert.RefGradWOutIdeal.main_arg1) = m ((c.tc : Thread Cert.GradWOutIdeal.nD Cert.GradWOutIdeal.τ).loc Cert.GradWOutIdeal.main_arg1)) →
    ∃ (v0 : (c : Dev Cert.GradWOutIdeal.nD) → Buf (Elt Ideal) ((c.tc : Thread Cert.GradWOutIdeal.nD Cert.GradWOutIdeal.τ).loc Cert.GradWOutIdeal.main_v0)),
      θ_run (Cert.GradWOutIdeal.defs (F := Ideal)) (onTc (τ := Cert.GradWOutIdeal.τ) (Cert.GradWOutIdeal.main (F := Ideal))) ⟨m, fun _ => 0, g⟩ (fun r => ∀ c : Dev Cert.GradWOutIdeal.nD,
          r.2.mem ((c.tc : Thread Cert.GradWOutIdeal.nD Cert.GradWOutIdeal.τ).loc Cert.GradWOutIdeal.main_v0) = v0 c
          ∧ r.2.mem ((c.tc : Thread Cert.GradWOutIdeal.nD Cert.GradWOutIdeal.τ).loc Cert.GradWOutIdeal.main_arg0) = m ((c.tc : Thread Cert.GradWOutIdeal.nD Cert.GradWOutIdeal.τ).loc Cert.GradWOutIdeal.main_arg0)
          ∧ r.2.mem ((c.tc : Thread Cert.GradWOutIdeal.nD Cert.GradWOutIdeal.τ).loc Cert.GradWOutIdeal.main_arg1) = m ((c.tc : Thread Cert.GradWOutIdeal.nD Cert.GradWOutIdeal.τ).loc Cert.GradWOutIdeal.main_arg1))
      ∧ θ_run (Cert.RefGradWOutIdeal.defs (F := Ideal)) (onTc (τ := Cert.RefGradWOutIdeal.τ) (Cert.RefGradWOutIdeal.main (F := Ideal))) ⟨m', fun _ => 0, g'⟩ (fun r => ∀ c : Dev Cert.RefGradWOutIdeal.nD,
          r.2.mem ((c.tc : Thread Cert.RefGradWOutIdeal.nD Cert.RefGradWOutIdeal.τ).loc Cert.RefGradWOutIdeal.main_v5) = v0 c
          ∧ r.2.mem ((c.tc : Thread Cert.RefGradWOutIdeal.nD Cert.RefGradWOutIdeal.τ).loc Cert.RefGradWOutIdeal.main_arg0) = m' ((c.tc : Thread Cert.RefGradWOutIdeal.nD Cert.RefGradWOutIdeal.τ).loc Cert.RefGradWOutIdeal.main_arg0)
          ∧ r.2.mem ((c.tc : Thread Cert.RefGradWOutIdeal.nD Cert.RefGradWOutIdeal.τ).loc Cert.RefGradWOutIdeal.main_arg1) = m' ((c.tc : Thread Cert.RefGradWOutIdeal.nD Cert.RefGradWOutIdeal.τ).loc Cert.RefGradWOutIdeal.main_arg1))

def preserves_Dh_DhIdeal : Prop :=
  True

def algebraic_DhIdeal_RefDhIdeal [hDhIdeal : Cert.DhIdeal.Facts] [hRefDhIdeal : Cert.RefDhIdeal.Facts] : Prop :=
  ∀ (m : (ℓ : Loc Cert.DhIdeal.nD Cert.DhIdeal.τ Cert.DhIdeal.sig) → Buf (Elt Ideal) ℓ) (g : Dev Cert.DhIdeal.nD → PrngReg)
    (m' : (ℓ : Loc Cert.RefDhIdeal.nD Cert.RefDhIdeal.τ Cert.RefDhIdeal.sig) → Buf (Elt Ideal) ℓ) (g' : Dev Cert.RefDhIdeal.nD → PrngReg), Pre_DhIdeal m →
    (∀ c : Dev Cert.DhIdeal.nD,
      m' ((c.tc : Thread Cert.RefDhIdeal.nD Cert.RefDhIdeal.τ).loc Cert.RefDhIdeal.main_arg0) = m ((c.tc : Thread Cert.DhIdeal.nD Cert.DhIdeal.τ).loc Cert.DhIdeal.main_arg0)
      ∧ m' ((c.tc : Thread Cert.RefDhIdeal.nD Cert.RefDhIdeal.τ).loc Cert.RefDhIdeal.main_arg1) = m ((c.tc : Thread Cert.DhIdeal.nD Cert.DhIdeal.τ).loc Cert.DhIdeal.main_arg1)) →
    ∃ (v0 : (c : Dev Cert.DhIdeal.nD) → Buf (Elt Ideal) ((c.tc : Thread Cert.DhIdeal.nD Cert.DhIdeal.τ).loc Cert.DhIdeal.main_v0)),
      θ_run (Cert.DhIdeal.defs (F := Ideal)) (onTc (τ := Cert.DhIdeal.τ) (Cert.DhIdeal.main (F := Ideal))) ⟨m, fun _ => 0, g⟩ (fun r => ∀ c : Dev Cert.DhIdeal.nD,
          r.2.mem ((c.tc : Thread Cert.DhIdeal.nD Cert.DhIdeal.τ).loc Cert.DhIdeal.main_v0) = v0 c
          ∧ r.2.mem ((c.tc : Thread Cert.DhIdeal.nD Cert.DhIdeal.τ).loc Cert.DhIdeal.main_arg0) = m ((c.tc : Thread Cert.DhIdeal.nD Cert.DhIdeal.τ).loc Cert.DhIdeal.main_arg0)
          ∧ r.2.mem ((c.tc : Thread Cert.DhIdeal.nD Cert.DhIdeal.τ).loc Cert.DhIdeal.main_arg1) = m ((c.tc : Thread Cert.DhIdeal.nD Cert.DhIdeal.τ).loc Cert.DhIdeal.main_arg1))
      ∧ θ_run (Cert.RefDhIdeal.defs (F := Ideal)) (onTc (τ := Cert.RefDhIdeal.τ) (Cert.RefDhIdeal.main (F := Ideal))) ⟨m', fun _ => 0, g'⟩ (fun r => ∀ c : Dev Cert.RefDhIdeal.nD,
          r.2.mem ((c.tc : Thread Cert.RefDhIdeal.nD Cert.RefDhIdeal.τ).loc Cert.RefDhIdeal.main_v21) = v0 c
          ∧ r.2.mem ((c.tc : Thread Cert.RefDhIdeal.nD Cert.RefDhIdeal.τ).loc Cert.RefDhIdeal.main_arg0) = m' ((c.tc : Thread Cert.RefDhIdeal.nD Cert.RefDhIdeal.τ).loc Cert.RefDhIdeal.main_arg0)
          ∧ r.2.mem ((c.tc : Thread Cert.RefDhIdeal.nD Cert.RefDhIdeal.τ).loc Cert.RefDhIdeal.main_arg1) = m' ((c.tc : Thread Cert.RefDhIdeal.nD Cert.RefDhIdeal.τ).loc Cert.RefDhIdeal.main_arg1))

def preserves_Slot_SlotIdeal : Prop :=
  True

def algebraic_SlotIdeal_RefSlotIdeal [hSlotIdeal : Cert.SlotIdeal.Facts] [hRefSlotIdeal : Cert.RefSlotIdeal.Facts] [hPre_in_range : Cert.Pre_in_range.Facts] : Prop :=
  ∀ (m : (ℓ : Loc Cert.SlotIdeal.nD Cert.SlotIdeal.τ Cert.SlotIdeal.sig) → Buf (Elt Ideal) ℓ) (g : Dev Cert.SlotIdeal.nD → PrngReg)
    (m' : (ℓ : Loc Cert.RefSlotIdeal.nD Cert.RefSlotIdeal.τ Cert.RefSlotIdeal.sig) → Buf (Elt Ideal) ℓ) (g' : Dev Cert.RefSlotIdeal.nD → PrngReg), Pre_SlotIdeal m →
    (∀ c : Dev Cert.SlotIdeal.nD,
      m' ((c.tc : Thread Cert.RefSlotIdeal.nD Cert.RefSlotIdeal.τ).loc Cert.RefSlotIdeal.main_arg0) = m ((c.tc : Thread Cert.SlotIdeal.nD Cert.SlotIdeal.τ).loc Cert.SlotIdeal.main_arg0)
      ∧ m' ((c.tc : Thread Cert.RefSlotIdeal.nD Cert.RefSlotIdeal.τ).loc Cert.RefSlotIdeal.main_arg1) = m ((c.tc : Thread Cert.SlotIdeal.nD Cert.SlotIdeal.τ).loc Cert.SlotIdeal.main_arg1)
      ∧ m' ((c.tc : Thread Cert.RefSlotIdeal.nD Cert.RefSlotIdeal.τ).loc Cert.RefSlotIdeal.main_arg2) = m ((c.tc : Thread Cert.SlotIdeal.nD Cert.SlotIdeal.τ).loc Cert.SlotIdeal.main_arg2)) →
    ∃ (v0 : (c : Dev Cert.SlotIdeal.nD) → Buf (Elt Ideal) ((c.tc : Thread Cert.SlotIdeal.nD Cert.SlotIdeal.τ).loc Cert.SlotIdeal.main_v0)),
      θ_run (Cert.SlotIdeal.defs (F := Ideal)) (onTc (τ := Cert.SlotIdeal.τ) (Cert.SlotIdeal.main (F := Ideal))) ⟨m, fun _ => 0, g⟩ (fun r => ∀ c : Dev Cert.SlotIdeal.nD,
          r.2.mem ((c.tc : Thread Cert.SlotIdeal.nD Cert.SlotIdeal.τ).loc Cert.SlotIdeal.main_v0) = v0 c
          ∧ r.2.mem ((c.tc : Thread Cert.SlotIdeal.nD Cert.SlotIdeal.τ).loc Cert.SlotIdeal.main_arg0) = m ((c.tc : Thread Cert.SlotIdeal.nD Cert.SlotIdeal.τ).loc Cert.SlotIdeal.main_arg0)
          ∧ r.2.mem ((c.tc : Thread Cert.SlotIdeal.nD Cert.SlotIdeal.τ).loc Cert.SlotIdeal.main_arg1) = m ((c.tc : Thread Cert.SlotIdeal.nD Cert.SlotIdeal.τ).loc Cert.SlotIdeal.main_arg1)
          ∧ r.2.mem ((c.tc : Thread Cert.SlotIdeal.nD Cert.SlotIdeal.τ).loc Cert.SlotIdeal.main_arg2) = m ((c.tc : Thread Cert.SlotIdeal.nD Cert.SlotIdeal.τ).loc Cert.SlotIdeal.main_arg2))
      ∧ θ_run (Cert.RefSlotIdeal.defs (F := Ideal)) (onTc (τ := Cert.RefSlotIdeal.τ) (Cert.RefSlotIdeal.main (F := Ideal))) ⟨m', fun _ => 0, g'⟩ (fun r => ∀ c : Dev Cert.RefSlotIdeal.nD,
          r.2.mem ((c.tc : Thread Cert.RefSlotIdeal.nD Cert.RefSlotIdeal.τ).loc Cert.RefSlotIdeal.main_v18) = v0 c
          ∧ r.2.mem ((c.tc : Thread Cert.RefSlotIdeal.nD Cert.RefSlotIdeal.τ).loc Cert.RefSlotIdeal.main_arg0) = m' ((c.tc : Thread Cert.RefSlotIdeal.nD Cert.RefSlotIdeal.τ).loc Cert.RefSlotIdeal.main_arg0)
          ∧ r.2.mem ((c.tc : Thread Cert.RefSlotIdeal.nD Cert.RefSlotIdeal.τ).loc Cert.RefSlotIdeal.main_arg1) = m' ((c.tc : Thread Cert.RefSlotIdeal.nD Cert.RefSlotIdeal.τ).loc Cert.RefSlotIdeal.main_arg1)
          ∧ r.2.mem ((c.tc : Thread Cert.RefSlotIdeal.nD Cert.RefSlotIdeal.τ).loc Cert.RefSlotIdeal.main_arg2) = m' ((c.tc : Thread Cert.RefSlotIdeal.nD Cert.RefSlotIdeal.τ).loc Cert.RefSlotIdeal.main_arg2))

def preserves_SlotSecond_SlotSecondIdeal : Prop :=
  True

def algebraic_SlotSecondIdeal_RefSlotSecondIdeal [hSlotSecondIdeal : Cert.SlotSecondIdeal.Facts] [hRefSlotSecondIdeal : Cert.RefSlotSecondIdeal.Facts] [hPre_in_range_added : Cert.Pre_in_range_added.Facts] : Prop :=
  ∀ (m : (ℓ : Loc Cert.SlotSecondIdeal.nD Cert.SlotSecondIdeal.τ Cert.SlotSecondIdeal.sig) → Buf (Elt Ideal) ℓ) (g : Dev Cert.SlotSecondIdeal.nD → PrngReg)
    (m' : (ℓ : Loc Cert.RefSlotSecondIdeal.nD Cert.RefSlotSecondIdeal.τ Cert.RefSlotSecondIdeal.sig) → Buf (Elt Ideal) ℓ) (g' : Dev Cert.RefSlotSecondIdeal.nD → PrngReg), Pre_SlotSecondIdeal m →
    (∀ c : Dev Cert.SlotSecondIdeal.nD,
      m' ((c.tc : Thread Cert.RefSlotSecondIdeal.nD Cert.RefSlotSecondIdeal.τ).loc Cert.RefSlotSecondIdeal.main_arg0) = m ((c.tc : Thread Cert.SlotSecondIdeal.nD Cert.SlotSecondIdeal.τ).loc Cert.SlotSecondIdeal.main_arg0)
      ∧ m' ((c.tc : Thread Cert.RefSlotSecondIdeal.nD Cert.RefSlotSecondIdeal.τ).loc Cert.RefSlotSecondIdeal.main_arg1) = m ((c.tc : Thread Cert.SlotSecondIdeal.nD Cert.SlotSecondIdeal.τ).loc Cert.SlotSecondIdeal.main_arg1)
      ∧ m' ((c.tc : Thread Cert.RefSlotSecondIdeal.nD Cert.RefSlotSecondIdeal.τ).loc Cert.RefSlotSecondIdeal.main_arg2) = m ((c.tc : Thread Cert.SlotSecondIdeal.nD Cert.SlotSecondIdeal.τ).loc Cert.SlotSecondIdeal.main_arg2)
      ∧ m' ((c.tc : Thread Cert.RefSlotSecondIdeal.nD Cert.RefSlotSecondIdeal.τ).loc Cert.RefSlotSecondIdeal.main_arg3) = m ((c.tc : Thread Cert.SlotSecondIdeal.nD Cert.SlotSecondIdeal.τ).loc Cert.SlotSecondIdeal.main_arg3)) →
    ∃ (v0 : (c : Dev Cert.SlotSecondIdeal.nD) → Buf (Elt Ideal) ((c.tc : Thread Cert.SlotSecondIdeal.nD Cert.SlotSecondIdeal.τ).loc Cert.SlotSecondIdeal.main_v0)),
      θ_run (Cert.SlotSecondIdeal.defs (F := Ideal)) (onTc (τ := Cert.SlotSecondIdeal.τ) (Cert.SlotSecondIdeal.main (F := Ideal))) ⟨m, fun _ => 0, g⟩ (fun r => ∀ c : Dev Cert.SlotSecondIdeal.nD,
          r.2.mem ((c.tc : Thread Cert.SlotSecondIdeal.nD Cert.SlotSecondIdeal.τ).loc Cert.SlotSecondIdeal.main_v0) = v0 c
          ∧ r.2.mem ((c.tc : Thread Cert.SlotSecondIdeal.nD Cert.SlotSecondIdeal.τ).loc Cert.SlotSecondIdeal.main_arg0) = m ((c.tc : Thread Cert.SlotSecondIdeal.nD Cert.SlotSecondIdeal.τ).loc Cert.SlotSecondIdeal.main_arg0)
          ∧ r.2.mem ((c.tc : Thread Cert.SlotSecondIdeal.nD Cert.SlotSecondIdeal.τ).loc Cert.SlotSecondIdeal.main_arg1) = m ((c.tc : Thread Cert.SlotSecondIdeal.nD Cert.SlotSecondIdeal.τ).loc Cert.SlotSecondIdeal.main_arg1)
          ∧ r.2.mem ((c.tc : Thread Cert.SlotSecondIdeal.nD Cert.SlotSecondIdeal.τ).loc Cert.SlotSecondIdeal.main_arg2) = m ((c.tc : Thread Cert.SlotSecondIdeal.nD Cert.SlotSecondIdeal.τ).loc Cert.SlotSecondIdeal.main_arg2)
          ∧ r.2.mem ((c.tc : Thread Cert.SlotSecondIdeal.nD Cert.SlotSecondIdeal.τ).loc Cert.SlotSecondIdeal.main_arg3) = m ((c.tc : Thread Cert.SlotSecondIdeal.nD Cert.SlotSecondIdeal.τ).loc Cert.SlotSecondIdeal.main_arg3))
      ∧ θ_run (Cert.RefSlotSecondIdeal.defs (F := Ideal)) (onTc (τ := Cert.RefSlotSecondIdeal.τ) (Cert.RefSlotSecondIdeal.main (F := Ideal))) ⟨m', fun _ => 0, g'⟩ (fun r => ∀ c : Dev Cert.RefSlotSecondIdeal.nD,
          r.2.mem ((c.tc : Thread Cert.RefSlotSecondIdeal.nD Cert.RefSlotSecondIdeal.τ).loc Cert.RefSlotSecondIdeal.main_v20) = v0 c
          ∧ r.2.mem ((c.tc : Thread Cert.RefSlotSecondIdeal.nD Cert.RefSlotSecondIdeal.τ).loc Cert.RefSlotSecondIdeal.main_arg0) = m' ((c.tc : Thread Cert.RefSlotSecondIdeal.nD Cert.RefSlotSecondIdeal.τ).loc Cert.RefSlotSecondIdeal.main_arg0)
          ∧ r.2.mem ((c.tc : Thread Cert.RefSlotSecondIdeal.nD Cert.RefSlotSecondIdeal.τ).loc Cert.RefSlotSecondIdeal.main_arg1) = m' ((c.tc : Thread Cert.RefSlotSecondIdeal.nD Cert.RefSlotSecondIdeal.τ).loc Cert.RefSlotSecondIdeal.main_arg1)
          ∧ r.2.mem ((c.tc : Thread Cert.RefSlotSecondIdeal.nD Cert.RefSlotSecondIdeal.τ).loc Cert.RefSlotSecondIdeal.main_arg2) = m' ((c.tc : Thread Cert.RefSlotSecondIdeal.nD Cert.RefSlotSecondIdeal.τ).loc Cert.RefSlotSecondIdeal.main_arg2)
          ∧ r.2.mem ((c.tc : Thread Cert.RefSlotSecondIdeal.nD Cert.RefSlotSecondIdeal.τ).loc Cert.RefSlotSecondIdeal.main_arg3) = m' ((c.tc : Thread Cert.RefSlotSecondIdeal.nD Cert.RefSlotSecondIdeal.τ).loc Cert.RefSlotSecondIdeal.main_arg3))

def preserves_SlotOwn_SlotOwnIdeal : Prop :=
  True

def algebraic_SlotOwnIdeal_RefSlotOwnIdeal [hSlotOwnIdeal : Cert.SlotOwnIdeal.Facts] [hRefSlotOwnIdeal : Cert.RefSlotOwnIdeal.Facts] [hPre_in_range_added : Cert.Pre_in_range_added.Facts] : Prop :=
  ∀ (m : (ℓ : Loc Cert.SlotOwnIdeal.nD Cert.SlotOwnIdeal.τ Cert.SlotOwnIdeal.sig) → Buf (Elt Ideal) ℓ) (g : Dev Cert.SlotOwnIdeal.nD → PrngReg)
    (m' : (ℓ : Loc Cert.RefSlotOwnIdeal.nD Cert.RefSlotOwnIdeal.τ Cert.RefSlotOwnIdeal.sig) → Buf (Elt Ideal) ℓ) (g' : Dev Cert.RefSlotOwnIdeal.nD → PrngReg), Pre_SlotOwnIdeal m →
    (∀ c : Dev Cert.SlotOwnIdeal.nD,
      m' ((c.tc : Thread Cert.RefSlotOwnIdeal.nD Cert.RefSlotOwnIdeal.τ).loc Cert.RefSlotOwnIdeal.main_arg0) = m ((c.tc : Thread Cert.SlotOwnIdeal.nD Cert.SlotOwnIdeal.τ).loc Cert.SlotOwnIdeal.main_arg0)
      ∧ m' ((c.tc : Thread Cert.RefSlotOwnIdeal.nD Cert.RefSlotOwnIdeal.τ).loc Cert.RefSlotOwnIdeal.main_arg1) = m ((c.tc : Thread Cert.SlotOwnIdeal.nD Cert.SlotOwnIdeal.τ).loc Cert.SlotOwnIdeal.main_arg1)
      ∧ m' ((c.tc : Thread Cert.RefSlotOwnIdeal.nD Cert.RefSlotOwnIdeal.τ).loc Cert.RefSlotOwnIdeal.main_arg2) = m ((c.tc : Thread Cert.SlotOwnIdeal.nD Cert.SlotOwnIdeal.τ).loc Cert.SlotOwnIdeal.main_arg2)
      ∧ m' ((c.tc : Thread Cert.RefSlotOwnIdeal.nD Cert.RefSlotOwnIdeal.τ).loc Cert.RefSlotOwnIdeal.main_arg3) = m ((c.tc : Thread Cert.SlotOwnIdeal.nD Cert.SlotOwnIdeal.τ).loc Cert.SlotOwnIdeal.main_arg3)) →
    ∃ (v0 : (c : Dev Cert.SlotOwnIdeal.nD) → Buf (Elt Ideal) ((c.tc : Thread Cert.SlotOwnIdeal.nD Cert.SlotOwnIdeal.τ).loc Cert.SlotOwnIdeal.main_v0)),
      θ_run (Cert.SlotOwnIdeal.defs (F := Ideal)) (onTc (τ := Cert.SlotOwnIdeal.τ) (Cert.SlotOwnIdeal.main (F := Ideal))) ⟨m, fun _ => 0, g⟩ (fun r => ∀ c : Dev Cert.SlotOwnIdeal.nD,
          r.2.mem ((c.tc : Thread Cert.SlotOwnIdeal.nD Cert.SlotOwnIdeal.τ).loc Cert.SlotOwnIdeal.main_v0) = v0 c
          ∧ r.2.mem ((c.tc : Thread Cert.SlotOwnIdeal.nD Cert.SlotOwnIdeal.τ).loc Cert.SlotOwnIdeal.main_arg0) = m ((c.tc : Thread Cert.SlotOwnIdeal.nD Cert.SlotOwnIdeal.τ).loc Cert.SlotOwnIdeal.main_arg0)
          ∧ r.2.mem ((c.tc : Thread Cert.SlotOwnIdeal.nD Cert.SlotOwnIdeal.τ).loc Cert.SlotOwnIdeal.main_arg1) = m ((c.tc : Thread Cert.SlotOwnIdeal.nD Cert.SlotOwnIdeal.τ).loc Cert.SlotOwnIdeal.main_arg1)
          ∧ r.2.mem ((c.tc : Thread Cert.SlotOwnIdeal.nD Cert.SlotOwnIdeal.τ).loc Cert.SlotOwnIdeal.main_arg2) = m ((c.tc : Thread Cert.SlotOwnIdeal.nD Cert.SlotOwnIdeal.τ).loc Cert.SlotOwnIdeal.main_arg2)
          ∧ r.2.mem ((c.tc : Thread Cert.SlotOwnIdeal.nD Cert.SlotOwnIdeal.τ).loc Cert.SlotOwnIdeal.main_arg3) = m ((c.tc : Thread Cert.SlotOwnIdeal.nD Cert.SlotOwnIdeal.τ).loc Cert.SlotOwnIdeal.main_arg3))
      ∧ θ_run (Cert.RefSlotOwnIdeal.defs (F := Ideal)) (onTc (τ := Cert.RefSlotOwnIdeal.τ) (Cert.RefSlotOwnIdeal.main (F := Ideal))) ⟨m', fun _ => 0, g'⟩ (fun r => ∀ c : Dev Cert.RefSlotOwnIdeal.nD,
          r.2.mem ((c.tc : Thread Cert.RefSlotOwnIdeal.nD Cert.RefSlotOwnIdeal.τ).loc Cert.RefSlotOwnIdeal.main_v19) = v0 c
          ∧ r.2.mem ((c.tc : Thread Cert.RefSlotOwnIdeal.nD Cert.RefSlotOwnIdeal.τ).loc Cert.RefSlotOwnIdeal.main_arg0) = m' ((c.tc : Thread Cert.RefSlotOwnIdeal.nD Cert.RefSlotOwnIdeal.τ).loc Cert.RefSlotOwnIdeal.main_arg0)
          ∧ r.2.mem ((c.tc : Thread Cert.RefSlotOwnIdeal.nD Cert.RefSlotOwnIdeal.τ).loc Cert.RefSlotOwnIdeal.main_arg1) = m' ((c.tc : Thread Cert.RefSlotOwnIdeal.nD Cert.RefSlotOwnIdeal.τ).loc Cert.RefSlotOwnIdeal.main_arg1)
          ∧ r.2.mem ((c.tc : Thread Cert.RefSlotOwnIdeal.nD Cert.RefSlotOwnIdeal.τ).loc Cert.RefSlotOwnIdeal.main_arg2) = m' ((c.tc : Thread Cert.RefSlotOwnIdeal.nD Cert.RefSlotOwnIdeal.τ).loc Cert.RefSlotOwnIdeal.main_arg2)
          ∧ r.2.mem ((c.tc : Thread Cert.RefSlotOwnIdeal.nD Cert.RefSlotOwnIdeal.τ).loc Cert.RefSlotOwnIdeal.main_arg3) = m' ((c.tc : Thread Cert.RefSlotOwnIdeal.nD Cert.RefSlotOwnIdeal.τ).loc Cert.RefSlotOwnIdeal.main_arg3))

def preserves_OutProj_OutProjIdeal : Prop :=
  True

def algebraic_OutProjIdeal_RefOutProjIdeal [hOutProjIdeal : Cert.OutProjIdeal.Facts] [hRefOutProjIdeal : Cert.RefOutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.RefOutProjIdeal.nD Cert.RefOutProjIdeal.τ Cert.RefOutProjIdeal.sig) → Buf (Elt Ideal) ℓ) (g' : Dev Cert.RefOutProjIdeal.nD → PrngReg), Pre_OutProjIdeal m →
    (∀ c : Dev Cert.OutProjIdeal.nD,
      m' ((c.tc : Thread Cert.RefOutProjIdeal.nD Cert.RefOutProjIdeal.τ).loc Cert.RefOutProjIdeal.main_arg0) = m ((c.tc : Thread Cert.OutProjIdeal.nD Cert.OutProjIdeal.τ).loc Cert.OutProjIdeal.main_arg0)
      ∧ m' ((c.tc : Thread Cert.RefOutProjIdeal.nD Cert.RefOutProjIdeal.τ).loc Cert.RefOutProjIdeal.main_arg1) = m ((c.tc : Thread Cert.OutProjIdeal.nD Cert.OutProjIdeal.τ).loc Cert.OutProjIdeal.main_arg1)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1))
      ∧ θ_run (Cert.RefOutProjIdeal.defs (F := Ideal)) (onTc (τ := Cert.RefOutProjIdeal.τ) (Cert.RefOutProjIdeal.main (F := Ideal))) ⟨m', fun _ => 0, g'⟩ (fun r => ∀ c : Dev Cert.RefOutProjIdeal.nD,
          r.2.mem ((c.tc : Thread Cert.RefOutProjIdeal.nD Cert.RefOutProjIdeal.τ).loc Cert.RefOutProjIdeal.main_v2) = v0 c
          ∧ r.2.mem ((c.tc : Thread Cert.RefOutProjIdeal.nD Cert.RefOutProjIdeal.τ).loc Cert.RefOutProjIdeal.main_arg0) = m' ((c.tc : Thread Cert.RefOutProjIdeal.nD Cert.RefOutProjIdeal.τ).loc Cert.RefOutProjIdeal.main_arg0)
          ∧ r.2.mem ((c.tc : Thread Cert.RefOutProjIdeal.nD Cert.RefOutProjIdeal.τ).loc Cert.RefOutProjIdeal.main_arg1) = m' ((c.tc : Thread Cert.RefOutProjIdeal.nD Cert.RefOutProjIdeal.τ).loc Cert.RefOutProjIdeal.main_arg1))

def preserves_PreNorm_PreNormIdeal : Prop :=
  True

def algebraic_PreNormIdeal_RefPreNormIdeal [hPreNormIdeal : Cert.PreNormIdeal.Facts] [hRefPreNormIdeal : Cert.RefPreNormIdeal.Facts] [hPre_finite_rows : Cert.Pre_finite_rows.Facts] : Prop :=
  ∀ (m : (ℓ : Loc Cert.PreNormIdeal.nD Cert.PreNormIdeal.τ Cert.PreNormIdeal.sig) → Buf (Elt Ideal) ℓ) (g : Dev Cert.PreNormIdeal.nD → PrngReg)
    (m' : (ℓ : Loc Cert.RefPreNormIdeal.nD Cert.RefPreNormIdeal.τ Cert.RefPreNormIdeal.sig) → Buf (Elt Ideal) ℓ) (g' : Dev Cert.RefPreNormIdeal.nD → PrngReg), Pre_PreNormIdeal m →
    (∀ c : Dev Cert.PreNormIdeal.nD,
      m' ((c.tc : Thread Cert.RefPreNormIdeal.nD Cert.RefPreNormIdeal.τ).loc Cert.RefPreNormIdeal.main_arg0) = m ((c.tc : Thread Cert.PreNormIdeal.nD Cert.PreNormIdeal.τ).loc Cert.PreNormIdeal.main_arg0)
      ∧ m' ((c.tc : Thread Cert.RefPreNormIdeal.nD Cert.RefPreNormIdeal.τ).loc Cert.RefPreNormIdeal.main_arg1) = m ((c.tc : Thread Cert.PreNormIdeal.nD Cert.PreNormIdeal.τ).loc Cert.PreNormIdeal.main_arg1)
      ∧ m' ((c.tc : Thread Cert.RefPreNormIdeal.nD Cert.RefPreNormIdeal.τ).loc Cert.RefPreNormIdeal.main_arg2) = m ((c.tc : Thread Cert.PreNormIdeal.nD Cert.PreNormIdeal.τ).loc Cert.PreNormIdeal.main_arg2)
      ∧ m' ((c.tc : Thread Cert.RefPreNormIdeal.nD Cert.RefPreNormIdeal.τ).loc Cert.RefPreNormIdeal.main_arg3) = m ((c.tc : Thread Cert.PreNormIdeal.nD Cert.PreNormIdeal.τ).loc Cert.PreNormIdeal.main_arg3)
      ∧ m' ((c.tc : Thread Cert.RefPreNormIdeal.nD Cert.RefPreNormIdeal.τ).loc Cert.RefPreNormIdeal.main_arg4) = m ((c.tc : Thread Cert.PreNormIdeal.nD Cert.PreNormIdeal.τ).loc Cert.PreNormIdeal.main_arg4)) →
    ∃ (v0 : (c : Dev Cert.PreNormIdeal.nD) → Buf (Elt Ideal) ((c.tc : Thread Cert.PreNormIdeal.nD Cert.PreNormIdeal.τ).loc Cert.PreNormIdeal.main_v8_0)) (v1 : (c : Dev Cert.PreNormIdeal.nD) → Buf (Elt Ideal) ((c.tc : Thread Cert.PreNormIdeal.nD Cert.PreNormIdeal.τ).loc Cert.PreNormIdeal.main_v8_1)) (v2 : (c : Dev Cert.PreNormIdeal.nD) → Buf (Elt Ideal) ((c.tc : Thread Cert.PreNormIdeal.nD Cert.PreNormIdeal.τ).loc Cert.PreNormIdeal.main_v8_2)) (v3 : (c : Dev Cert.PreNormIdeal.nD) → Buf (Elt Ideal) ((c.tc : Thread Cert.PreNormIdeal.nD Cert.PreNormIdeal.τ).loc Cert.PreNormIdeal.main_v8_3)),
      θ_run (Cert.PreNormIdeal.defs (F := Ideal)) (onTc (τ := Cert.PreNormIdeal.τ) (Cert.PreNormIdeal.main (F := Ideal))) ⟨m, fun _ => 0, g⟩ (fun r => ∀ c : Dev Cert.PreNormIdeal.nD,
          r.2.mem ((c.tc : Thread Cert.PreNormIdeal.nD Cert.PreNormIdeal.τ).loc Cert.PreNormIdeal.main_v8_0) = v0 c
          ∧ r.2.mem ((c.tc : Thread Cert.PreNormIdeal.nD Cert.PreNormIdeal.τ).loc Cert.PreNormIdeal.main_v8_1) = v1 c
          ∧ r.2.mem ((c.tc : Thread Cert.PreNormIdeal.nD Cert.PreNormIdeal.τ).loc Cert.PreNormIdeal.main_v8_2) = v2 c
          ∧ r.2.mem ((c.tc : Thread Cert.PreNormIdeal.nD Cert.PreNormIdeal.τ).loc Cert.PreNormIdeal.main_v8_3) = v3 c
          ∧ r.2.mem ((c.tc : Thread Cert.PreNormIdeal.nD Cert.PreNormIdeal.τ).loc Cert.PreNormIdeal.main_arg0) = m ((c.tc : Thread Cert.PreNormIdeal.nD Cert.PreNormIdeal.τ).loc Cert.PreNormIdeal.main_arg0)
          ∧ r.2.mem ((c.tc : Thread Cert.PreNormIdeal.nD Cert.PreNormIdeal.τ).loc Cert.PreNormIdeal.main_arg1) = m ((c.tc : Thread Cert.PreNormIdeal.nD Cert.PreNormIdeal.τ).loc Cert.PreNormIdeal.main_arg1)
          ∧ r.2.mem ((c.tc : Thread Cert.PreNormIdeal.nD Cert.PreNormIdeal.τ).loc Cert.PreNormIdeal.main_arg2) = m ((c.tc : Thread Cert.PreNormIdeal.nD Cert.PreNormIdeal.τ).loc Cert.PreNormIdeal.main_arg2)
          ∧ r.2.mem ((c.tc : Thread Cert.PreNormIdeal.nD Cert.PreNormIdeal.τ).loc Cert.PreNormIdeal.main_arg3) = m ((c.tc : Thread Cert.PreNormIdeal.nD Cert.PreNormIdeal.τ).loc Cert.PreNormIdeal.main_arg3)
          ∧ r.2.mem ((c.tc : Thread Cert.PreNormIdeal.nD Cert.PreNormIdeal.τ).loc Cert.PreNormIdeal.main_arg4) = m ((c.tc : Thread Cert.PreNormIdeal.nD Cert.PreNormIdeal.τ).loc Cert.PreNormIdeal.main_arg4))
      ∧ θ_run (Cert.RefPreNormIdeal.defs (F := Ideal)) (onTc (τ := Cert.RefPreNormIdeal.τ) (Cert.RefPreNormIdeal.main (F := Ideal))) ⟨m', fun _ => 0, g'⟩ (fun r => ∀ c : Dev Cert.RefPreNormIdeal.nD,
          r.2.mem ((c.tc : Thread Cert.RefPreNormIdeal.nD Cert.RefPreNormIdeal.τ).loc Cert.RefPreNormIdeal.main_v49) = v0 c
          ∧ r.2.mem ((c.tc : Thread Cert.RefPreNormIdeal.nD Cert.RefPreNormIdeal.τ).loc Cert.RefPreNormIdeal.main_v24) = v1 c
          ∧ r.2.mem ((c.tc : Thread Cert.RefPreNormIdeal.nD Cert.RefPreNormIdeal.τ).loc Cert.RefPreNormIdeal.main_v27) = v2 c
          ∧ r.2.mem ((c.tc : Thread Cert.RefPreNormIdeal.nD Cert.RefPreNormIdeal.τ).loc Cert.RefPreNormIdeal.main_v32) = v3 c
          ∧ r.2.mem ((c.tc : Thread Cert.RefPreNormIdeal.nD Cert.RefPreNormIdeal.τ).loc Cert.RefPreNormIdeal.main_arg0) = m' ((c.tc : Thread Cert.RefPreNormIdeal.nD Cert.RefPreNormIdeal.τ).loc Cert.RefPreNormIdeal.main_arg0)
          ∧ r.2.mem ((c.tc : Thread Cert.RefPreNormIdeal.nD Cert.RefPreNormIdeal.τ).loc Cert.RefPreNormIdeal.main_arg1) = m' ((c.tc : Thread Cert.RefPreNormIdeal.nD Cert.RefPreNormIdeal.τ).loc Cert.RefPreNormIdeal.main_arg1)
          ∧ r.2.mem ((c.tc : Thread Cert.RefPreNormIdeal.nD Cert.RefPreNormIdeal.τ).loc Cert.RefPreNormIdeal.main_arg2) = m' ((c.tc : Thread Cert.RefPreNormIdeal.nD Cert.RefPreNormIdeal.τ).loc Cert.RefPreNormIdeal.main_arg2)
          ∧ r.2.mem ((c.tc : Thread Cert.RefPreNormIdeal.nD Cert.RefPreNormIdeal.τ).loc Cert.RefPreNormIdeal.main_arg3) = m' ((c.tc : Thread Cert.RefPreNormIdeal.nD Cert.RefPreNormIdeal.τ).loc Cert.RefPreNormIdeal.main_arg3)
          ∧ r.2.mem ((c.tc : Thread Cert.RefPreNormIdeal.nD Cert.RefPreNormIdeal.τ).loc Cert.RefPreNormIdeal.main_arg4) = m' ((c.tc : Thread Cert.RefPreNormIdeal.nD Cert.RefPreNormIdeal.τ).loc Cert.RefPreNormIdeal.main_arg4))

def preserves_AdamIn_AdamInIdeal : Prop :=
  True

def algebraic_AdamInIdeal_RefAdamInIdeal [hAdamInIdeal : Cert.AdamInIdeal.Facts] [hRefAdamInIdeal : Cert.RefAdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.RefAdamInIdeal.nD Cert.RefAdamInIdeal.τ Cert.RefAdamInIdeal.sig) → Buf (Elt Ideal) ℓ) (g' : Dev Cert.RefAdamInIdeal.nD → PrngReg), Pre_AdamInIdeal m →
    (∀ c : Dev Cert.AdamInIdeal.nD,
      m' ((c.tc : Thread Cert.RefAdamInIdeal.nD Cert.RefAdamInIdeal.τ).loc Cert.RefAdamInIdeal.main_arg0) = m ((c.tc : Thread Cert.AdamInIdeal.nD Cert.AdamInIdeal.τ).loc Cert.AdamInIdeal.main_arg0)
      ∧ m' ((c.tc : Thread Cert.RefAdamInIdeal.nD Cert.RefAdamInIdeal.τ).loc Cert.RefAdamInIdeal.main_arg1) = m ((c.tc : Thread Cert.AdamInIdeal.nD Cert.AdamInIdeal.τ).loc Cert.AdamInIdeal.main_arg1)
      ∧ m' ((c.tc : Thread Cert.RefAdamInIdeal.nD Cert.RefAdamInIdeal.τ).loc Cert.RefAdamInIdeal.main_arg2) = m ((c.tc : Thread Cert.AdamInIdeal.nD Cert.AdamInIdeal.τ).loc Cert.AdamInIdeal.main_arg2)
      ∧ m' ((c.tc : Thread Cert.RefAdamInIdeal.nD Cert.RefAdamInIdeal.τ).loc Cert.RefAdamInIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.RefAdamInIdeal.defs (F := Ideal)) (onTc (τ := Cert.RefAdamInIdeal.τ) (Cert.RefAdamInIdeal.main (F := Ideal))) ⟨m', fun _ => 0, g'⟩ (fun r => ∀ c : Dev Cert.RefAdamInIdeal.nD,
          r.2.mem ((c.tc : Thread Cert.RefAdamInIdeal.nD Cert.RefAdamInIdeal.τ).loc Cert.RefAdamInIdeal.main_arg1) = v0 c
          ∧ r.2.mem ((c.tc : Thread Cert.RefAdamInIdeal.nD Cert.RefAdamInIdeal.τ).loc Cert.RefAdamInIdeal.main_v23) = v1 c
          ∧ r.2.mem ((c.tc : Thread Cert.RefAdamInIdeal.nD Cert.RefAdamInIdeal.τ).loc Cert.RefAdamInIdeal.main_v4) = v2 c
          ∧ r.2.mem ((c.tc : Thread Cert.RefAdamInIdeal.nD Cert.RefAdamInIdeal.τ).loc Cert.RefAdamInIdeal.main_v10) = v3 c
          ∧ r.2.mem ((c.tc : Thread Cert.RefAdamInIdeal.nD Cert.RefAdamInIdeal.τ).loc Cert.RefAdamInIdeal.main_arg0) = m' ((c.tc : Thread Cert.RefAdamInIdeal.nD Cert.RefAdamInIdeal.τ).loc Cert.RefAdamInIdeal.main_arg0)
          ∧ r.2.mem ((c.tc : Thread Cert.RefAdamInIdeal.nD Cert.RefAdamInIdeal.τ).loc Cert.RefAdamInIdeal.main_arg1) = m' ((c.tc : Thread Cert.RefAdamInIdeal.nD Cert.RefAdamInIdeal.τ).loc Cert.RefAdamInIdeal.main_arg1)
          ∧ r.2.mem ((c.tc : Thread Cert.RefAdamInIdeal.nD Cert.RefAdamInIdeal.τ).loc Cert.RefAdamInIdeal.main_arg2) = m' ((c.tc : Thread Cert.RefAdamInIdeal.nD Cert.RefAdamInIdeal.τ).loc Cert.RefAdamInIdeal.main_arg2)
          ∧ r.2.mem ((c.tc : Thread Cert.RefAdamInIdeal.nD Cert.RefAdamInIdeal.τ).loc Cert.RefAdamInIdeal.main_arg3) = m' ((c.tc : Thread Cert.RefAdamInIdeal.nD Cert.RefAdamInIdeal.τ).loc Cert.RefAdamInIdeal.main_arg3))

def preserves_AdamOut_AdamOutIdeal : Prop :=
  True

def algebraic_AdamOutIdeal_RefAdamOutIdeal [hAdamOutIdeal : Cert.AdamOutIdeal.Facts] [hRefAdamOutIdeal : Cert.RefAdamOutIdeal.Facts] : Prop :=
  ∀ (m : (ℓ : Loc Cert.AdamOutIdeal.nD Cert.AdamOutIdeal.τ Cert.AdamOutIdeal.sig) → Buf (Elt Ideal) ℓ) (g : Dev Cert.AdamOutIdeal.nD → PrngReg)
    (m' : (ℓ : Loc Cert.RefAdamOutIdeal.nD Cert.RefAdamOutIdeal.τ Cert.RefAdamOutIdeal.sig) → Buf (Elt Ideal) ℓ) (g' : Dev Cert.RefAdamOutIdeal.nD → PrngReg), Pre_AdamOutIdeal m →
    (∀ c : Dev Cert.AdamOutIdeal.nD,
      m' ((c.tc : Thread Cert.RefAdamOutIdeal.nD Cert.RefAdamOutIdeal.τ).loc Cert.RefAdamOutIdeal.main_arg0) = m ((c.tc : Thread Cert.AdamOutIdeal.nD Cert.AdamOutIdeal.τ).loc Cert.AdamOutIdeal.main_arg0)
      ∧ m' ((c.tc : Thread Cert.RefAdamOutIdeal.nD Cert.RefAdamOutIdeal.τ).loc Cert.RefAdamOutIdeal.main_arg1) = m ((c.tc : Thread Cert.AdamOutIdeal.nD Cert.AdamOutIdeal.τ).loc Cert.AdamOutIdeal.main_arg1)
      ∧ m' ((c.tc : Thread Cert.RefAdamOutIdeal.nD Cert.RefAdamOutIdeal.τ).loc Cert.RefAdamOutIdeal.main_arg2) = m ((c.tc : Thread Cert.AdamOutIdeal.nD Cert.AdamOutIdeal.τ).loc Cert.AdamOutIdeal.main_arg2)
      ∧ m' ((c.tc : Thread Cert.RefAdamOutIdeal.nD Cert.RefAdamOutIdeal.τ).loc Cert.RefAdamOutIdeal.main_arg3) = m ((c.tc : Thread Cert.AdamOutIdeal.nD Cert.AdamOutIdeal.τ).loc Cert.AdamOutIdeal.main_arg3)) →
    ∃ (v0 : (c : Dev Cert.AdamOutIdeal.nD) → Buf (Elt Ideal) ((c.tc : Thread Cert.AdamOutIdeal.nD Cert.AdamOutIdeal.τ).loc Cert.AdamOutIdeal.main_v0_0)) (v1 : (c : Dev Cert.AdamOutIdeal.nD) → Buf (Elt Ideal) ((c.tc : Thread Cert.AdamOutIdeal.nD Cert.AdamOutIdeal.τ).loc Cert.AdamOutIdeal.main_v0_1)) (v2 : (c : Dev Cert.AdamOutIdeal.nD) → Buf (Elt Ideal) ((c.tc : Thread Cert.AdamOutIdeal.nD Cert.AdamOutIdeal.τ).loc Cert.AdamOutIdeal.main_v0_2)) (v3 : (c : Dev Cert.AdamOutIdeal.nD) → Buf (Elt Ideal) ((c.tc : Thread Cert.AdamOutIdeal.nD Cert.AdamOutIdeal.τ).loc Cert.AdamOutIdeal.main_v0_3)),
      θ_run (Cert.AdamOutIdeal.defs (F := Ideal)) (onTc (τ := Cert.AdamOutIdeal.τ) (Cert.AdamOutIdeal.main (F := Ideal))) ⟨m, fun _ => 0, g⟩ (fun r => ∀ c : Dev Cert.AdamOutIdeal.nD,
          r.2.mem ((c.tc : Thread Cert.AdamOutIdeal.nD Cert.AdamOutIdeal.τ).loc Cert.AdamOutIdeal.main_v0_0) = v0 c
          ∧ r.2.mem ((c.tc : Thread Cert.AdamOutIdeal.nD Cert.AdamOutIdeal.τ).loc Cert.AdamOutIdeal.main_v0_1) = v1 c
          ∧ r.2.mem ((c.tc : Thread Cert.AdamOutIdeal.nD Cert.AdamOutIdeal.τ).loc Cert.AdamOutIdeal.main_v0_2) = v2 c
          ∧ r.2.mem ((c.tc : Thread Cert.AdamOutIdeal.nD Cert.AdamOutIdeal.τ).loc Cert.AdamOutIdeal.main_v0_3) = v3 c
          ∧ r.2.mem ((c.tc : Thread Cert.AdamOutIdeal.nD Cert.AdamOutIdeal.τ).loc Cert.AdamOutIdeal.main_arg0) = m ((c.tc : Thread Cert.AdamOutIdeal.nD Cert.AdamOutIdeal.τ).loc Cert.AdamOutIdeal.main_arg0)
          ∧ r.2.mem ((c.tc : Thread Cert.AdamOutIdeal.nD Cert.AdamOutIdeal.τ).loc Cert.AdamOutIdeal.main_arg1) = m ((c.tc : Thread Cert.AdamOutIdeal.nD Cert.AdamOutIdeal.τ).loc Cert.AdamOutIdeal.main_arg1)
          ∧ r.2.mem ((c.tc : Thread Cert.AdamOutIdeal.nD Cert.AdamOutIdeal.τ).loc Cert.AdamOutIdeal.main_arg2) = m ((c.tc : Thread Cert.AdamOutIdeal.nD Cert.AdamOutIdeal.τ).loc Cert.AdamOutIdeal.main_arg2)
          ∧ r.2.mem ((c.tc : Thread Cert.AdamOutIdeal.nD Cert.AdamOutIdeal.τ).loc Cert.AdamOutIdeal.main_arg3) = m ((c.tc : Thread Cert.AdamOutIdeal.nD Cert.AdamOutIdeal.τ).loc Cert.AdamOutIdeal.main_arg3))
      ∧ θ_run (Cert.RefAdamOutIdeal.defs (F := Ideal)) (onTc (τ := Cert.RefAdamOutIdeal.τ) (Cert.RefAdamOutIdeal.main (F := Ideal))) ⟨m', fun _ => 0, g'⟩ (fun r => ∀ c : Dev Cert.RefAdamOutIdeal.nD,
          r.2.mem ((c.tc : Thread Cert.RefAdamOutIdeal.nD Cert.RefAdamOutIdeal.τ).loc Cert.RefAdamOutIdeal.main_arg1) = v0 c
          ∧ r.2.mem ((c.tc : Thread Cert.RefAdamOutIdeal.nD Cert.RefAdamOutIdeal.τ).loc Cert.RefAdamOutIdeal.main_v23) = v1 c
          ∧ r.2.mem ((c.tc : Thread Cert.RefAdamOutIdeal.nD Cert.RefAdamOutIdeal.τ).loc Cert.RefAdamOutIdeal.main_v4) = v2 c
          ∧ r.2.mem ((c.tc : Thread Cert.RefAdamOutIdeal.nD Cert.RefAdamOutIdeal.τ).loc Cert.RefAdamOutIdeal.main_v10) = v3 c
          ∧ r.2.mem ((c.tc : Thread Cert.RefAdamOutIdeal.nD Cert.RefAdamOutIdeal.τ).loc Cert.RefAdamOutIdeal.main_arg0) = m' ((c.tc : Thread Cert.RefAdamOutIdeal.nD Cert.RefAdamOutIdeal.τ).loc Cert.RefAdamOutIdeal.main_arg0)
          ∧ r.2.mem ((c.tc : Thread Cert.RefAdamOutIdeal.nD Cert.RefAdamOutIdeal.τ).loc Cert.RefAdamOutIdeal.main_arg1) = m' ((c.tc : Thread Cert.RefAdamOutIdeal.nD Cert.RefAdamOutIdeal.τ).loc Cert.RefAdamOutIdeal.main_arg1)
          ∧ r.2.mem ((c.tc : Thread Cert.RefAdamOutIdeal.nD Cert.RefAdamOutIdeal.τ).loc Cert.RefAdamOutIdeal.main_arg2) = m' ((c.tc : Thread Cert.RefAdamOutIdeal.nD Cert.RefAdamOutIdeal.τ).loc Cert.RefAdamOutIdeal.main_arg2)
          ∧ r.2.mem ((c.tc : Thread Cert.RefAdamOutIdeal.nD Cert.RefAdamOutIdeal.τ).loc Cert.RefAdamOutIdeal.main_arg3) = m' ((c.tc : Thread Cert.RefAdamOutIdeal.nD Cert.RefAdamOutIdeal.τ).loc Cert.RefAdamOutIdeal.main_arg3))

def preserves_AdamModel_AdamModelIdeal : Prop :=
  True

def algebraic_AdamModelIdeal_RefAdamModelIdeal [hAdamModelIdeal : Cert.AdamModelIdeal.Facts] [hRefAdamModelIdeal : Cert.RefAdamModelIdeal.Facts] : Prop :=
  ∀ (m : (ℓ : Loc Cert.AdamModelIdeal.nD Cert.AdamModelIdeal.τ Cert.AdamModelIdeal.sig) → Buf (Elt Ideal) ℓ) (g : Dev Cert.AdamModelIdeal.nD → PrngReg)
    (m' : (ℓ : Loc Cert.RefAdamModelIdeal.nD Cert.RefAdamModelIdeal.τ Cert.RefAdamModelIdeal.sig) → Buf (Elt Ideal) ℓ) (g' : Dev Cert.RefAdamModelIdeal.nD → PrngReg), Pre_AdamModelIdeal m →
    (∀ c : Dev Cert.AdamModelIdeal.nD,
      m' ((c.tc : Thread Cert.RefAdamModelIdeal.nD Cert.RefAdamModelIdeal.τ).loc Cert.RefAdamModelIdeal.main_arg0) = m ((c.tc : Thread Cert.AdamModelIdeal.nD Cert.AdamModelIdeal.τ).loc Cert.AdamModelIdeal.main_arg0)
      ∧ m' ((c.tc : Thread Cert.RefAdamModelIdeal.nD Cert.RefAdamModelIdeal.τ).loc Cert.RefAdamModelIdeal.main_arg1) = m ((c.tc : Thread Cert.AdamModelIdeal.nD Cert.AdamModelIdeal.τ).loc Cert.AdamModelIdeal.main_arg1)
      ∧ m' ((c.tc : Thread Cert.RefAdamModelIdeal.nD Cert.RefAdamModelIdeal.τ).loc Cert.RefAdamModelIdeal.main_arg2) = m ((c.tc : Thread Cert.AdamModelIdeal.nD Cert.AdamModelIdeal.τ).loc Cert.AdamModelIdeal.main_arg2)
      ∧ m' ((c.tc : Thread Cert.RefAdamModelIdeal.nD Cert.RefAdamModelIdeal.τ).loc Cert.RefAdamModelIdeal.main_arg3) = m ((c.tc : Thread Cert.AdamModelIdeal.nD Cert.AdamModelIdeal.τ).loc Cert.AdamModelIdeal.main_arg3)) →
    ∃ (v0 : (c : Dev Cert.AdamModelIdeal.nD) → Buf (Elt Ideal) ((c.tc : Thread Cert.AdamModelIdeal.nD Cert.AdamModelIdeal.τ).loc Cert.AdamModelIdeal.main_v0_0)) (v1 : (c : Dev Cert.AdamModelIdeal.nD) → Buf (Elt Ideal) ((c.tc : Thread Cert.AdamModelIdeal.nD Cert.AdamModelIdeal.τ).loc Cert.AdamModelIdeal.main_v0_1)) (v2 : (c : Dev Cert.AdamModelIdeal.nD) → Buf (Elt Ideal) ((c.tc : Thread Cert.AdamModelIdeal.nD Cert.AdamModelIdeal.τ).loc Cert.AdamModelIdeal.main_v0_2)),
      θ_run (Cert.AdamModelIdeal.defs (F := Ideal)) (onTc (τ := Cert.AdamModelIdeal.τ) (Cert.AdamModelIdeal.main (F := Ideal))) ⟨m, fun _ => 0, g⟩ (fun r => ∀ c : Dev Cert.AdamModelIdeal.nD,
          r.2.mem ((c.tc : Thread Cert.AdamModelIdeal.nD Cert.AdamModelIdeal.τ).loc Cert.AdamModelIdeal.main_v0_0) = v0 c
          ∧ r.2.mem ((c.tc : Thread Cert.AdamModelIdeal.nD Cert.AdamModelIdeal.τ).loc Cert.AdamModelIdeal.main_v0_1) = v1 c
          ∧ r.2.mem ((c.tc : Thread Cert.AdamModelIdeal.nD Cert.AdamModelIdeal.τ).loc Cert.AdamModelIdeal.main_v0_2) = v2 c
          ∧ r.2.mem ((c.tc : Thread Cert.AdamModelIdeal.nD Cert.AdamModelIdeal.τ).loc Cert.AdamModelIdeal.main_arg0) = m ((c.tc : Thread Cert.AdamModelIdeal.nD Cert.AdamModelIdeal.τ).loc Cert.AdamModelIdeal.main_arg0)
          ∧ r.2.mem ((c.tc : Thread Cert.AdamModelIdeal.nD Cert.AdamModelIdeal.τ).loc Cert.AdamModelIdeal.main_arg1) = m ((c.tc : Thread Cert.AdamModelIdeal.nD Cert.AdamModelIdeal.τ).loc Cert.AdamModelIdeal.main_arg1)
          ∧ r.2.mem ((c.tc : Thread Cert.AdamModelIdeal.nD Cert.AdamModelIdeal.τ).loc Cert.AdamModelIdeal.main_arg2) = m ((c.tc : Thread Cert.AdamModelIdeal.nD Cert.AdamModelIdeal.τ).loc Cert.AdamModelIdeal.main_arg2)
          ∧ r.2.mem ((c.tc : Thread Cert.AdamModelIdeal.nD Cert.AdamModelIdeal.τ).loc Cert.AdamModelIdeal.main_arg3) = m ((c.tc : Thread Cert.AdamModelIdeal.nD Cert.AdamModelIdeal.τ).loc Cert.AdamModelIdeal.main_arg3))
      ∧ θ_run (Cert.RefAdamModelIdeal.defs (F := Ideal)) (onTc (τ := Cert.RefAdamModelIdeal.τ) (Cert.RefAdamModelIdeal.main (F := Ideal))) ⟨m', fun _ => 0, g'⟩ (fun r => ∀ c : Dev Cert.RefAdamModelIdeal.nD,
          r.2.mem ((c.tc : Thread Cert.RefAdamModelIdeal.nD Cert.RefAdamModelIdeal.τ).loc Cert.RefAdamModelIdeal.main_v23) = v0 c
          ∧ r.2.mem ((c.tc : Thread Cert.RefAdamModelIdeal.nD Cert.RefAdamModelIdeal.τ).loc Cert.RefAdamModelIdeal.main_v4) = v1 c
          ∧ r.2.mem ((c.tc : Thread Cert.RefAdamModelIdeal.nD Cert.RefAdamModelIdeal.τ).loc Cert.RefAdamModelIdeal.main_v10) = v2 c
          ∧ r.2.mem ((c.tc : Thread Cert.RefAdamModelIdeal.nD Cert.RefAdamModelIdeal.τ).loc Cert.RefAdamModelIdeal.main_arg0) = m' ((c.tc : Thread Cert.RefAdamModelIdeal.nD Cert.RefAdamModelIdeal.τ).loc Cert.RefAdamModelIdeal.main_arg0)
          ∧ r.2.mem ((c.tc : Thread Cert.RefAdamModelIdeal.nD Cert.RefAdamModelIdeal.τ).loc Cert.RefAdamModelIdeal.main_arg1) = m' ((c.tc : Thread Cert.RefAdamModelIdeal.nD Cert.RefAdamModelIdeal.τ).loc Cert.RefAdamModelIdeal.main_arg1)
          ∧ r.2.mem ((c.tc : Thread Cert.RefAdamModelIdeal.nD Cert.RefAdamModelIdeal.τ).loc Cert.RefAdamModelIdeal.main_arg2) = m' ((c.tc : Thread Cert.RefAdamModelIdeal.nD Cert.RefAdamModelIdeal.τ).loc Cert.RefAdamModelIdeal.main_arg2)
          ∧ r.2.mem ((c.tc : Thread Cert.RefAdamModelIdeal.nD Cert.RefAdamModelIdeal.τ).loc Cert.RefAdamModelIdeal.main_arg3) = m' ((c.tc : Thread Cert.RefAdamModelIdeal.nD Cert.RefAdamModelIdeal.τ).loc Cert.RefAdamModelIdeal.main_arg3))

def preserves_AdamMod_AdamModIdeal : Prop :=
  True

def algebraic_AdamModIdeal_RefAdamModIdeal [hAdamModIdeal : Cert.AdamModIdeal.Facts] [hRefAdamModIdeal : Cert.RefAdamModIdeal.Facts] : Prop :=
  ∀ (m : (ℓ : Loc Cert.AdamModIdeal.nD Cert.AdamModIdeal.τ Cert.AdamModIdeal.sig) → Buf (Elt Ideal) ℓ) (g : Dev Cert.AdamModIdeal.nD → PrngReg)
    (m' : (ℓ : Loc Cert.RefAdamModIdeal.nD Cert.RefAdamModIdeal.τ Cert.RefAdamModIdeal.sig) → Buf (Elt Ideal) ℓ) (g' : Dev Cert.RefAdamModIdeal.nD → PrngReg), Pre_AdamModIdeal m →
    (∀ c : Dev Cert.AdamModIdeal.nD,
      m' ((c.tc : Thread Cert.RefAdamModIdeal.nD Cert.RefAdamModIdeal.τ).loc Cert.RefAdamModIdeal.main_arg0) = m ((c.tc : Thread Cert.AdamModIdeal.nD Cert.AdamModIdeal.τ).loc Cert.AdamModIdeal.main_arg0)
      ∧ m' ((c.tc : Thread Cert.RefAdamModIdeal.nD Cert.RefAdamModIdeal.τ).loc Cert.RefAdamModIdeal.main_arg1) = m ((c.tc : Thread Cert.AdamModIdeal.nD Cert.AdamModIdeal.τ).loc Cert.AdamModIdeal.main_arg1)
      ∧ m' ((c.tc : Thread Cert.RefAdamModIdeal.nD Cert.RefAdamModIdeal.τ).loc Cert.RefAdamModIdeal.main_arg2) = m ((c.tc : Thread Cert.AdamModIdeal.nD Cert.AdamModIdeal.τ).loc Cert.AdamModIdeal.main_arg2)
      ∧ m' ((c.tc : Thread Cert.RefAdamModIdeal.nD Cert.RefAdamModIdeal.τ).loc Cert.RefAdamModIdeal.main_arg3) = m ((c.tc : Thread Cert.AdamModIdeal.nD Cert.AdamModIdeal.τ).loc Cert.AdamModIdeal.main_arg3)) →
    ∃ (v0 : (c : Dev Cert.AdamModIdeal.nD) → Buf (Elt Ideal) ((c.tc : Thread Cert.AdamModIdeal.nD Cert.AdamModIdeal.τ).loc Cert.AdamModIdeal.main_v0_0)) (v1 : (c : Dev Cert.AdamModIdeal.nD) → Buf (Elt Ideal) ((c.tc : Thread Cert.AdamModIdeal.nD Cert.AdamModIdeal.τ).loc Cert.AdamModIdeal.main_v0_1)) (v2 : (c : Dev Cert.AdamModIdeal.nD) → Buf (Elt Ideal) ((c.tc : Thread Cert.AdamModIdeal.nD Cert.AdamModIdeal.τ).loc Cert.AdamModIdeal.main_v0_2)),
      θ_run (Cert.AdamModIdeal.defs (F := Ideal)) (onTc (τ := Cert.AdamModIdeal.τ) (Cert.AdamModIdeal.main (F := Ideal))) ⟨m, fun _ => 0, g⟩ (fun r => ∀ c : Dev Cert.AdamModIdeal.nD,
          r.2.mem ((c.tc : Thread Cert.AdamModIdeal.nD Cert.AdamModIdeal.τ).loc Cert.AdamModIdeal.main_v0_0) = v0 c
          ∧ r.2.mem ((c.tc : Thread Cert.AdamModIdeal.nD Cert.AdamModIdeal.τ).loc Cert.AdamModIdeal.main_v0_1) = v1 c
          ∧ r.2.mem ((c.tc : Thread Cert.AdamModIdeal.nD Cert.AdamModIdeal.τ).loc Cert.AdamModIdeal.main_v0_2) = v2 c
          ∧ r.2.mem ((c.tc : Thread Cert.AdamModIdeal.nD Cert.AdamModIdeal.τ).loc Cert.AdamModIdeal.main_arg0) = m ((c.tc : Thread Cert.AdamModIdeal.nD Cert.AdamModIdeal.τ).loc Cert.AdamModIdeal.main_arg0)
          ∧ r.2.mem ((c.tc : Thread Cert.AdamModIdeal.nD Cert.AdamModIdeal.τ).loc Cert.AdamModIdeal.main_arg1) = m ((c.tc : Thread Cert.AdamModIdeal.nD Cert.AdamModIdeal.τ).loc Cert.AdamModIdeal.main_arg1)
          ∧ r.2.mem ((c.tc : Thread Cert.AdamModIdeal.nD Cert.AdamModIdeal.τ).loc Cert.AdamModIdeal.main_arg2) = m ((c.tc : Thread Cert.AdamModIdeal.nD Cert.AdamModIdeal.τ).loc Cert.AdamModIdeal.main_arg2)
          ∧ r.2.mem ((c.tc : Thread Cert.AdamModIdeal.nD Cert.AdamModIdeal.τ).loc Cert.AdamModIdeal.main_arg3) = m ((c.tc : Thread Cert.AdamModIdeal.nD Cert.AdamModIdeal.τ).loc Cert.AdamModIdeal.main_arg3))
      ∧ θ_run (Cert.RefAdamModIdeal.defs (F := Ideal)) (onTc (τ := Cert.RefAdamModIdeal.τ) (Cert.RefAdamModIdeal.main (F := Ideal))) ⟨m', fun _ => 0, g'⟩ (fun r => ∀ c : Dev Cert.RefAdamModIdeal.nD,
          r.2.mem ((c.tc : Thread Cert.RefAdamModIdeal.nD Cert.RefAdamModIdeal.τ).loc Cert.RefAdamModIdeal.main_v23) = v0 c
          ∧ r.2.mem ((c.tc : Thread Cert.RefAdamModIdeal.nD Cert.RefAdamModIdeal.τ).loc Cert.RefAdamModIdeal.main_v4) = v1 c
          ∧ r.2.mem ((c.tc : Thread Cert.RefAdamModIdeal.nD Cert.RefAdamModIdeal.τ).loc Cert.RefAdamModIdeal.main_v10) = v2 c
          ∧ r.2.mem ((c.tc : Thread Cert.RefAdamModIdeal.nD Cert.RefAdamModIdeal.τ).loc Cert.RefAdamModIdeal.main_arg0) = m' ((c.tc : Thread Cert.RefAdamModIdeal.nD Cert.RefAdamModIdeal.τ).loc Cert.RefAdamModIdeal.main_arg0)
          ∧ r.2.mem ((c.tc : Thread Cert.RefAdamModIdeal.nD Cert.RefAdamModIdeal.τ).loc Cert.RefAdamModIdeal.main_arg1) = m' ((c.tc : Thread Cert.RefAdamModIdeal.nD Cert.RefAdamModIdeal.τ).loc Cert.RefAdamModIdeal.main_arg1)
          ∧ r.2.mem ((c.tc : Thread Cert.RefAdamModIdeal.nD Cert.RefAdamModIdeal.τ).loc Cert.RefAdamModIdeal.main_arg2) = m' ((c.tc : Thread Cert.RefAdamModIdeal.nD Cert.RefAdamModIdeal.τ).loc Cert.RefAdamModIdeal.main_arg2)
          ∧ r.2.mem ((c.tc : Thread Cert.RefAdamModIdeal.nD Cert.RefAdamModIdeal.τ).loc Cert.RefAdamModIdeal.main_arg3) = m' ((c.tc : Thread Cert.RefAdamModIdeal.nD Cert.RefAdamModIdeal.τ).loc Cert.RefAdamModIdeal.main_arg3))

def preserves_AdamTapsA_AdamTapsAIdeal : Prop :=
  True

def algebraic_AdamTapsAIdeal_RefAdamTapsAIdeal [hAdamTapsAIdeal : Cert.AdamTapsAIdeal.Facts] [hRefAdamTapsAIdeal : Cert.RefAdamTapsAIdeal.Facts] : Prop :=
  ∀ (m : (ℓ : Loc Cert.AdamTapsAIdeal.nD Cert.AdamTapsAIdeal.τ Cert.AdamTapsAIdeal.sig) → Buf (Elt Ideal) ℓ) (g : Dev Cert.AdamTapsAIdeal.nD → PrngReg)
    (m' : (ℓ : Loc Cert.RefAdamTapsAIdeal.nD Cert.RefAdamTapsAIdeal.τ Cert.RefAdamTapsAIdeal.sig) → Buf (Elt Ideal) ℓ) (g' : Dev Cert.RefAdamTapsAIdeal.nD → PrngReg), Pre_AdamTapsAIdeal m →
    (∀ c : Dev Cert.AdamTapsAIdeal.nD,
      m' ((c.tc : Thread Cert.RefAdamTapsAIdeal.nD Cert.RefAdamTapsAIdeal.τ).loc Cert.RefAdamTapsAIdeal.main_arg0) = m ((c.tc : Thread Cert.AdamTapsAIdeal.nD Cert.AdamTapsAIdeal.τ).loc Cert.AdamTapsAIdeal.main_arg0)
      ∧ m' ((c.tc : Thread Cert.RefAdamTapsAIdeal.nD Cert.RefAdamTapsAIdeal.τ).loc Cert.RefAdamTapsAIdeal.main_arg1) = m ((c.tc : Thread Cert.AdamTapsAIdeal.nD Cert.AdamTapsAIdeal.τ).loc Cert.AdamTapsAIdeal.main_arg1)
      ∧ m' ((c.tc : Thread Cert.RefAdamTapsAIdeal.nD Cert.RefAdamTapsAIdeal.τ).loc Cert.RefAdamTapsAIdeal.main_arg2) = m ((c.tc : Thread Cert.AdamTapsAIdeal.nD Cert.AdamTapsAIdeal.τ).loc Cert.AdamTapsAIdeal.main_arg2)
      ∧ m' ((c.tc : Thread Cert.RefAdamTapsAIdeal.nD Cert.RefAdamTapsAIdeal.τ).loc Cert.RefAdamTapsAIdeal.main_arg3) = m ((c.tc : Thread Cert.AdamTapsAIdeal.nD Cert.AdamTapsAIdeal.τ).loc Cert.AdamTapsAIdeal.main_arg3)) →
    ∃ (v0 : (c : Dev Cert.AdamTapsAIdeal.nD) → Buf (Elt Ideal) ((c.tc : Thread Cert.AdamTapsAIdeal.nD Cert.AdamTapsAIdeal.τ).loc Cert.AdamTapsAIdeal.main_v0_0)) (v1 : (c : Dev Cert.AdamTapsAIdeal.nD) → Buf (Elt Ideal) ((c.tc : Thread Cert.AdamTapsAIdeal.nD Cert.AdamTapsAIdeal.τ).loc Cert.AdamTapsAIdeal.main_v0_1)) (v2 : (c : Dev Cert.AdamTapsAIdeal.nD) → Buf (Elt Ideal) ((c.tc : Thread Cert.AdamTapsAIdeal.nD Cert.AdamTapsAIdeal.τ).loc Cert.AdamTapsAIdeal.main_v0_2)),
      θ_run (Cert.AdamTapsAIdeal.defs (F := Ideal)) (onTc (τ := Cert.AdamTapsAIdeal.τ) (Cert.AdamTapsAIdeal.main (F := Ideal))) ⟨m, fun _ => 0, g⟩ (fun r => ∀ c : Dev Cert.AdamTapsAIdeal.nD,
          r.2.mem ((c.tc : Thread Cert.AdamTapsAIdeal.nD Cert.AdamTapsAIdeal.τ).loc Cert.AdamTapsAIdeal.main_v0_0) = v0 c
          ∧ r.2.mem ((c.tc : Thread Cert.AdamTapsAIdeal.nD Cert.AdamTapsAIdeal.τ).loc Cert.AdamTapsAIdeal.main_v0_1) = v1 c
          ∧ r.2.mem ((c.tc : Thread Cert.AdamTapsAIdeal.nD Cert.AdamTapsAIdeal.τ).loc Cert.AdamTapsAIdeal.main_v0_2) = v2 c
          ∧ r.2.mem ((c.tc : Thread Cert.AdamTapsAIdeal.nD Cert.AdamTapsAIdeal.τ).loc Cert.AdamTapsAIdeal.main_arg0) = m ((c.tc : Thread Cert.AdamTapsAIdeal.nD Cert.AdamTapsAIdeal.τ).loc Cert.AdamTapsAIdeal.main_arg0)
          ∧ r.2.mem ((c.tc : Thread Cert.AdamTapsAIdeal.nD Cert.AdamTapsAIdeal.τ).loc Cert.AdamTapsAIdeal.main_arg1) = m ((c.tc : Thread Cert.AdamTapsAIdeal.nD Cert.AdamTapsAIdeal.τ).loc Cert.AdamTapsAIdeal.main_arg1)
          ∧ r.2.mem ((c.tc : Thread Cert.AdamTapsAIdeal.nD Cert.AdamTapsAIdeal.τ).loc Cert.AdamTapsAIdeal.main_arg2) = m ((c.tc : Thread Cert.AdamTapsAIdeal.nD Cert.AdamTapsAIdeal.τ).loc Cert.AdamTapsAIdeal.main_arg2)
          ∧ r.2.mem ((c.tc : Thread Cert.AdamTapsAIdeal.nD Cert.AdamTapsAIdeal.τ).loc Cert.AdamTapsAIdeal.main_arg3) = m ((c.tc : Thread Cert.AdamTapsAIdeal.nD Cert.AdamTapsAIdeal.τ).loc Cert.AdamTapsAIdeal.main_arg3))
      ∧ θ_run (Cert.RefAdamTapsAIdeal.defs (F := Ideal)) (onTc (τ := Cert.RefAdamTapsAIdeal.τ) (Cert.RefAdamTapsAIdeal.main (F := Ideal))) ⟨m', fun _ => 0, g'⟩ (fun r => ∀ c : Dev Cert.RefAdamTapsAIdeal.nD,
          r.2.mem ((c.tc : Thread Cert.RefAdamTapsAIdeal.nD Cert.RefAdamTapsAIdeal.τ).loc Cert.RefAdamTapsAIdeal.main_v23) = v0 c
          ∧ r.2.mem ((c.tc : Thread Cert.RefAdamTapsAIdeal.nD Cert.RefAdamTapsAIdeal.τ).loc Cert.RefAdamTapsAIdeal.main_v4) = v1 c
          ∧ r.2.mem ((c.tc : Thread Cert.RefAdamTapsAIdeal.nD Cert.RefAdamTapsAIdeal.τ).loc Cert.RefAdamTapsAIdeal.main_v10) = v2 c
          ∧ r.2.mem ((c.tc : Thread Cert.RefAdamTapsAIdeal.nD Cert.RefAdamTapsAIdeal.τ).loc Cert.RefAdamTapsAIdeal.main_arg0) = m' ((c.tc : Thread Cert.RefAdamTapsAIdeal.nD Cert.RefAdamTapsAIdeal.τ).loc Cert.RefAdamTapsAIdeal.main_arg0)
          ∧ r.2.mem ((c.tc : Thread Cert.RefAdamTapsAIdeal.nD Cert.RefAdamTapsAIdeal.τ).loc Cert.RefAdamTapsAIdeal.main_arg1) = m' ((c.tc : Thread Cert.RefAdamTapsAIdeal.nD Cert.RefAdamTapsAIdeal.τ).loc Cert.RefAdamTapsAIdeal.main_arg1)
          ∧ r.2.mem ((c.tc : Thread Cert.RefAdamTapsAIdeal.nD Cert.RefAdamTapsAIdeal.τ).loc Cert.RefAdamTapsAIdeal.main_arg2) = m' ((c.tc : Thread Cert.RefAdamTapsAIdeal.nD Cert.RefAdamTapsAIdeal.τ).loc Cert.RefAdamTapsAIdeal.main_arg2)
          ∧ r.2.mem ((c.tc : Thread Cert.RefAdamTapsAIdeal.nD Cert.RefAdamTapsAIdeal.τ).loc Cert.RefAdamTapsAIdeal.main_arg3) = m' ((c.tc : Thread Cert.RefAdamTapsAIdeal.nD Cert.RefAdamTapsAIdeal.τ).loc Cert.RefAdamTapsAIdeal.main_arg3))

def preserves_AdamTapsB_AdamTapsBIdeal : Prop :=
  True

def algebraic_AdamTapsBIdeal_RefAdamTapsBIdeal [hAdamTapsBIdeal : Cert.AdamTapsBIdeal.Facts] [hRefAdamTapsBIdeal : Cert.RefAdamTapsBIdeal.Facts] : Prop :=
  ∀ (m : (ℓ : Loc Cert.AdamTapsBIdeal.nD Cert.AdamTapsBIdeal.τ Cert.AdamTapsBIdeal.sig) → Buf (Elt Ideal) ℓ) (g : Dev Cert.AdamTapsBIdeal.nD → PrngReg)
    (m' : (ℓ : Loc Cert.RefAdamTapsBIdeal.nD Cert.RefAdamTapsBIdeal.τ Cert.RefAdamTapsBIdeal.sig) → Buf (Elt Ideal) ℓ) (g' : Dev Cert.RefAdamTapsBIdeal.nD → PrngReg), Pre_AdamTapsBIdeal m →
    (∀ c : Dev Cert.AdamTapsBIdeal.nD,
      m' ((c.tc : Thread Cert.RefAdamTapsBIdeal.nD Cert.RefAdamTapsBIdeal.τ).loc Cert.RefAdamTapsBIdeal.main_arg0) = m ((c.tc : Thread Cert.AdamTapsBIdeal.nD Cert.AdamTapsBIdeal.τ).loc Cert.AdamTapsBIdeal.main_arg0)
      ∧ m' ((c.tc : Thread Cert.RefAdamTapsBIdeal.nD Cert.RefAdamTapsBIdeal.τ).loc Cert.RefAdamTapsBIdeal.main_arg1) = m ((c.tc : Thread Cert.AdamTapsBIdeal.nD Cert.AdamTapsBIdeal.τ).loc Cert.AdamTapsBIdeal.main_arg1)
      ∧ m' ((c.tc : Thread Cert.RefAdamTapsBIdeal.nD Cert.RefAdamTapsBIdeal.τ).loc Cert.RefAdamTapsBIdeal.main_arg2) = m ((c.tc : Thread Cert.AdamTapsBIdeal.nD Cert.AdamTapsBIdeal.τ).loc Cert.AdamTapsBIdeal.main_arg2)
      ∧ m' ((c.tc : Thread Cert.RefAdamTapsBIdeal.nD Cert.RefAdamTapsBIdeal.τ).loc Cert.RefAdamTapsBIdeal.main_arg3) = m ((c.tc : Thread Cert.AdamTapsBIdeal.nD Cert.AdamTapsBIdeal.τ).loc Cert.AdamTapsBIdeal.main_arg3)) →
    ∃ (v0 : (c : Dev Cert.AdamTapsBIdeal.nD) → Buf (Elt Ideal) ((c.tc : Thread Cert.AdamTapsBIdeal.nD Cert.AdamTapsBIdeal.τ).loc Cert.AdamTapsBIdeal.main_v0_0)) (v1 : (c : Dev Cert.AdamTapsBIdeal.nD) → Buf (Elt Ideal) ((c.tc : Thread Cert.AdamTapsBIdeal.nD Cert.AdamTapsBIdeal.τ).loc Cert.AdamTapsBIdeal.main_v0_1)) (v2 : (c : Dev Cert.AdamTapsBIdeal.nD) → Buf (Elt Ideal) ((c.tc : Thread Cert.AdamTapsBIdeal.nD Cert.AdamTapsBIdeal.τ).loc Cert.AdamTapsBIdeal.main_v0_2)),
      θ_run (Cert.AdamTapsBIdeal.defs (F := Ideal)) (onTc (τ := Cert.AdamTapsBIdeal.τ) (Cert.AdamTapsBIdeal.main (F := Ideal))) ⟨m, fun _ => 0, g⟩ (fun r => ∀ c : Dev Cert.AdamTapsBIdeal.nD,
          r.2.mem ((c.tc : Thread Cert.AdamTapsBIdeal.nD Cert.AdamTapsBIdeal.τ).loc Cert.AdamTapsBIdeal.main_v0_0) = v0 c
          ∧ r.2.mem ((c.tc : Thread Cert.AdamTapsBIdeal.nD Cert.AdamTapsBIdeal.τ).loc Cert.AdamTapsBIdeal.main_v0_1) = v1 c
          ∧ r.2.mem ((c.tc : Thread Cert.AdamTapsBIdeal.nD Cert.AdamTapsBIdeal.τ).loc Cert.AdamTapsBIdeal.main_v0_2) = v2 c
          ∧ r.2.mem ((c.tc : Thread Cert.AdamTapsBIdeal.nD Cert.AdamTapsBIdeal.τ).loc Cert.AdamTapsBIdeal.main_arg0) = m ((c.tc : Thread Cert.AdamTapsBIdeal.nD Cert.AdamTapsBIdeal.τ).loc Cert.AdamTapsBIdeal.main_arg0)
          ∧ r.2.mem ((c.tc : Thread Cert.AdamTapsBIdeal.nD Cert.AdamTapsBIdeal.τ).loc Cert.AdamTapsBIdeal.main_arg1) = m ((c.tc : Thread Cert.AdamTapsBIdeal.nD Cert.AdamTapsBIdeal.τ).loc Cert.AdamTapsBIdeal.main_arg1)
          ∧ r.2.mem ((c.tc : Thread Cert.AdamTapsBIdeal.nD Cert.AdamTapsBIdeal.τ).loc Cert.AdamTapsBIdeal.main_arg2) = m ((c.tc : Thread Cert.AdamTapsBIdeal.nD Cert.AdamTapsBIdeal.τ).loc Cert.AdamTapsBIdeal.main_arg2)
          ∧ r.2.mem ((c.tc : Thread Cert.AdamTapsBIdeal.nD Cert.AdamTapsBIdeal.τ).loc Cert.AdamTapsBIdeal.main_arg3) = m ((c.tc : Thread Cert.AdamTapsBIdeal.nD Cert.AdamTapsBIdeal.τ).loc Cert.AdamTapsBIdeal.main_arg3))
      ∧ θ_run (Cert.RefAdamTapsBIdeal.defs (F := Ideal)) (onTc (τ := Cert.RefAdamTapsBIdeal.τ) (Cert.RefAdamTapsBIdeal.main (F := Ideal))) ⟨m', fun _ => 0, g'⟩ (fun r => ∀ c : Dev Cert.RefAdamTapsBIdeal.nD,
          r.2.mem ((c.tc : Thread Cert.RefAdamTapsBIdeal.nD Cert.RefAdamTapsBIdeal.τ).loc Cert.RefAdamTapsBIdeal.main_v23) = v0 c
          ∧ r.2.mem ((c.tc : Thread Cert.RefAdamTapsBIdeal.nD Cert.RefAdamTapsBIdeal.τ).loc Cert.RefAdamTapsBIdeal.main_v4) = v1 c
          ∧ r.2.mem ((c.tc : Thread Cert.RefAdamTapsBIdeal.nD Cert.RefAdamTapsBIdeal.τ).loc Cert.RefAdamTapsBIdeal.main_v10) = v2 c
          ∧ r.2.mem ((c.tc : Thread Cert.RefAdamTapsBIdeal.nD Cert.RefAdamTapsBIdeal.τ).loc Cert.RefAdamTapsBIdeal.main_arg0) = m' ((c.tc : Thread Cert.RefAdamTapsBIdeal.nD Cert.RefAdamTapsBIdeal.τ).loc Cert.RefAdamTapsBIdeal.main_arg0)
          ∧ r.2.mem ((c.tc : Thread Cert.RefAdamTapsBIdeal.nD Cert.RefAdamTapsBIdeal.τ).loc Cert.RefAdamTapsBIdeal.main_arg1) = m' ((c.tc : Thread Cert.RefAdamTapsBIdeal.nD Cert.RefAdamTapsBIdeal.τ).loc Cert.RefAdamTapsBIdeal.main_arg1)
          ∧ r.2.mem ((c.tc : Thread Cert.RefAdamTapsBIdeal.nD Cert.RefAdamTapsBIdeal.τ).loc Cert.RefAdamTapsBIdeal.main_arg2) = m' ((c.tc : Thread Cert.RefAdamTapsBIdeal.nD Cert.RefAdamTapsBIdeal.τ).loc Cert.RefAdamTapsBIdeal.main_arg2)
          ∧ r.2.mem ((c.tc : Thread Cert.RefAdamTapsBIdeal.nD Cert.RefAdamTapsBIdeal.τ).loc Cert.RefAdamTapsBIdeal.main_arg3) = m' ((c.tc : Thread Cert.RefAdamTapsBIdeal.nD Cert.RefAdamTapsBIdeal.τ).loc Cert.RefAdamTapsBIdeal.main_arg3))

def preserves_AdamMixer_AdamMixerIdeal : Prop :=
  True

def algebraic_AdamMixerIdeal_RefAdamMixerIdeal [hAdamMixerIdeal : Cert.AdamMixerIdeal.Facts] [hRefAdamMixerIdeal : Cert.RefAdamMixerIdeal.Facts] : Prop :=
  ∀ (m : (ℓ : Loc Cert.AdamMixerIdeal.nD Cert.AdamMixerIdeal.τ Cert.AdamMixerIdeal.sig) → Buf (Elt Ideal) ℓ) (g : Dev Cert.AdamMixerIdeal.nD → PrngReg)
    (m' : (ℓ : Loc Cert.RefAdamMixerIdeal.nD Cert.RefAdamMixerIdeal.τ Cert.RefAdamMixerIdeal.sig) → Buf (Elt Ideal) ℓ) (g' : Dev Cert.RefAdamMixerIdeal.nD → PrngReg), Pre_AdamMixerIdeal m →
    (∀ c : Dev Cert.AdamMixerIdeal.nD,
      m' ((c.tc : Thread Cert.RefAdamMixerIdeal.nD Cert.RefAdamMixerIdeal.τ).loc Cert.RefAdamMixerIdeal.main_arg0) = m ((c.tc : Thread Cert.AdamMixerIdeal.nD Cert.AdamMixerIdeal.τ).loc Cert.AdamMixerIdeal.main_arg0)
      ∧ m' ((c.tc : Thread Cert.RefAdamMixerIdeal.nD Cert.RefAdamMixerIdeal.τ).loc Cert.RefAdamMixerIdeal.main_arg1) = m ((c.tc : Thread Cert.AdamMixerIdeal.nD Cert.AdamMixerIdeal.τ).loc Cert.AdamMixerIdeal.main_arg1)
      ∧ m' ((c.tc : Thread Cert.RefAdamMixerIdeal.nD Cert.RefAdamMixerIdeal.τ).loc Cert.RefAdamMixerIdeal.main_arg2) = m ((c.tc : Thread Cert.AdamMixerIdeal.nD Cert.AdamMixerIdeal.τ).loc Cert.AdamMixerIdeal.main_arg2)
      ∧ m' ((c.tc : Thread Cert.RefAdamMixerIdeal.nD Cert.RefAdamMixerIdeal.τ).loc Cert.RefAdamMixerIdeal.main_arg3) = m ((c.tc : Thread Cert.AdamMixerIdeal.nD Cert.AdamMixerIdeal.τ).loc Cert.AdamMixerIdeal.main_arg3)) →
    ∃ (v0 : (c : Dev Cert.AdamMixerIdeal.nD) → Buf (Elt Ideal) ((c.tc : Thread Cert.AdamMixerIdeal.nD Cert.AdamMixerIdeal.τ).loc Cert.AdamMixerIdeal.main_v0_0)) (v1 : (c : Dev Cert.AdamMixerIdeal.nD) → Buf (Elt Ideal) ((c.tc : Thread Cert.AdamMixerIdeal.nD Cert.AdamMixerIdeal.τ).loc Cert.AdamMixerIdeal.main_v0_1)) (v2 : (c : Dev Cert.AdamMixerIdeal.nD) → Buf (Elt Ideal) ((c.tc : Thread Cert.AdamMixerIdeal.nD Cert.AdamMixerIdeal.τ).loc Cert.AdamMixerIdeal.main_v0_2)),
      θ_run (Cert.AdamMixerIdeal.defs (F := Ideal)) (onTc (τ := Cert.AdamMixerIdeal.τ) (Cert.AdamMixerIdeal.main (F := Ideal))) ⟨m, fun _ => 0, g⟩ (fun r => ∀ c : Dev Cert.AdamMixerIdeal.nD,
          r.2.mem ((c.tc : Thread Cert.AdamMixerIdeal.nD Cert.AdamMixerIdeal.τ).loc Cert.AdamMixerIdeal.main_v0_0) = v0 c
          ∧ r.2.mem ((c.tc : Thread Cert.AdamMixerIdeal.nD Cert.AdamMixerIdeal.τ).loc Cert.AdamMixerIdeal.main_v0_1) = v1 c
          ∧ r.2.mem ((c.tc : Thread Cert.AdamMixerIdeal.nD Cert.AdamMixerIdeal.τ).loc Cert.AdamMixerIdeal.main_v0_2) = v2 c
          ∧ r.2.mem ((c.tc : Thread Cert.AdamMixerIdeal.nD Cert.AdamMixerIdeal.τ).loc Cert.AdamMixerIdeal.main_arg0) = m ((c.tc : Thread Cert.AdamMixerIdeal.nD Cert.AdamMixerIdeal.τ).loc Cert.AdamMixerIdeal.main_arg0)
          ∧ r.2.mem ((c.tc : Thread Cert.AdamMixerIdeal.nD Cert.AdamMixerIdeal.τ).loc Cert.AdamMixerIdeal.main_arg1) = m ((c.tc : Thread Cert.AdamMixerIdeal.nD Cert.AdamMixerIdeal.τ).loc Cert.AdamMixerIdeal.main_arg1)
          ∧ r.2.mem ((c.tc : Thread Cert.AdamMixerIdeal.nD Cert.AdamMixerIdeal.τ).loc Cert.AdamMixerIdeal.main_arg2) = m ((c.tc : Thread Cert.AdamMixerIdeal.nD Cert.AdamMixerIdeal.τ).loc Cert.AdamMixerIdeal.main_arg2)
          ∧ r.2.mem ((c.tc : Thread Cert.AdamMixerIdeal.nD Cert.AdamMixerIdeal.τ).loc Cert.AdamMixerIdeal.main_arg3) = m ((c.tc : Thread Cert.AdamMixerIdeal.nD Cert.AdamMixerIdeal.τ).loc Cert.AdamMixerIdeal.main_arg3))
      ∧ θ_run (Cert.RefAdamMixerIdeal.defs (F := Ideal)) (onTc (τ := Cert.RefAdamMixerIdeal.τ) (Cert.RefAdamMixerIdeal.main (F := Ideal))) ⟨m', fun _ => 0, g'⟩ (fun r => ∀ c : Dev Cert.RefAdamMixerIdeal.nD,
          r.2.mem ((c.tc : Thread Cert.RefAdamMixerIdeal.nD Cert.RefAdamMixerIdeal.τ).loc Cert.RefAdamMixerIdeal.main_v23) = v0 c
          ∧ r.2.mem ((c.tc : Thread Cert.RefAdamMixerIdeal.nD Cert.RefAdamMixerIdeal.τ).loc Cert.RefAdamMixerIdeal.main_v4) = v1 c
          ∧ r.2.mem ((c.tc : Thread Cert.RefAdamMixerIdeal.nD Cert.RefAdamMixerIdeal.τ).loc Cert.RefAdamMixerIdeal.main_v10) = v2 c
          ∧ r.2.mem ((c.tc : Thread Cert.RefAdamMixerIdeal.nD Cert.RefAdamMixerIdeal.τ).loc Cert.RefAdamMixerIdeal.main_arg0) = m' ((c.tc : Thread Cert.RefAdamMixerIdeal.nD Cert.RefAdamMixerIdeal.τ).loc Cert.RefAdamMixerIdeal.main_arg0)
          ∧ r.2.mem ((c.tc : Thread Cert.RefAdamMixerIdeal.nD Cert.RefAdamMixerIdeal.τ).loc Cert.RefAdamMixerIdeal.main_arg1) = m' ((c.tc : Thread Cert.RefAdamMixerIdeal.nD Cert.RefAdamMixerIdeal.τ).loc Cert.RefAdamMixerIdeal.main_arg1)
          ∧ r.2.mem ((c.tc : Thread Cert.RefAdamMixerIdeal.nD Cert.RefAdamMixerIdeal.τ).loc Cert.RefAdamMixerIdeal.main_arg2) = m' ((c.tc : Thread Cert.RefAdamMixerIdeal.nD Cert.RefAdamMixerIdeal.τ).loc Cert.RefAdamMixerIdeal.main_arg2)
          ∧ r.2.mem ((c.tc : Thread Cert.RefAdamMixerIdeal.nD Cert.RefAdamMixerIdeal.τ).loc Cert.RefAdamMixerIdeal.main_arg3) = m' ((c.tc : Thread Cert.RefAdamMixerIdeal.nD Cert.RefAdamMixerIdeal.τ).loc Cert.RefAdamMixerIdeal.main_arg3))

def preserves_AdamAda_AdamAdaIdeal : Prop :=
  True

def algebraic_AdamAdaIdeal_RefAdamAdaIdeal [hAdamAdaIdeal : Cert.AdamAdaIdeal.Facts] [hRefAdamAdaIdeal : Cert.RefAdamAdaIdeal.Facts] : Prop :=
  ∀ (m : (ℓ : Loc Cert.AdamAdaIdeal.nD Cert.AdamAdaIdeal.τ Cert.AdamAdaIdeal.sig) → Buf (Elt Ideal) ℓ) (g : Dev Cert.AdamAdaIdeal.nD → PrngReg)
    (m' : (ℓ : Loc Cert.RefAdamAdaIdeal.nD Cert.RefAdamAdaIdeal.τ Cert.RefAdamAdaIdeal.sig) → Buf (Elt Ideal) ℓ) (g' : Dev Cert.RefAdamAdaIdeal.nD → PrngReg), Pre_AdamAdaIdeal m →
    (∀ c : Dev Cert.AdamAdaIdeal.nD,
      m' ((c.tc : Thread Cert.RefAdamAdaIdeal.nD Cert.RefAdamAdaIdeal.τ).loc Cert.RefAdamAdaIdeal.main_arg0) = m ((c.tc : Thread Cert.AdamAdaIdeal.nD Cert.AdamAdaIdeal.τ).loc Cert.AdamAdaIdeal.main_arg0)
      ∧ m' ((c.tc : Thread Cert.RefAdamAdaIdeal.nD Cert.RefAdamAdaIdeal.τ).loc Cert.RefAdamAdaIdeal.main_arg1) = m ((c.tc : Thread Cert.AdamAdaIdeal.nD Cert.AdamAdaIdeal.τ).loc Cert.AdamAdaIdeal.main_arg1)
      ∧ m' ((c.tc : Thread Cert.RefAdamAdaIdeal.nD Cert.RefAdamAdaIdeal.τ).loc Cert.RefAdamAdaIdeal.main_arg2) = m ((c.tc : Thread Cert.AdamAdaIdeal.nD Cert.AdamAdaIdeal.τ).loc Cert.AdamAdaIdeal.main_arg2)
      ∧ m' ((c.tc : Thread Cert.RefAdamAdaIdeal.nD Cert.RefAdamAdaIdeal.τ).loc Cert.RefAdamAdaIdeal.main_arg3) = m ((c.tc : Thread Cert.AdamAdaIdeal.nD Cert.AdamAdaIdeal.τ).loc Cert.AdamAdaIdeal.main_arg3)
      ∧ m' ((c.tc : Thread Cert.RefAdamAdaIdeal.nD Cert.RefAdamAdaIdeal.τ).loc Cert.RefAdamAdaIdeal.main_arg4) = m ((c.tc : Thread Cert.AdamAdaIdeal.nD Cert.AdamAdaIdeal.τ).loc Cert.AdamAdaIdeal.main_arg4)) →
    ∃ (v0 : (c : Dev Cert.AdamAdaIdeal.nD) → Buf (Elt Ideal) ((c.tc : Thread Cert.AdamAdaIdeal.nD Cert.AdamAdaIdeal.τ).loc Cert.AdamAdaIdeal.main_v1_0)) (v1 : (c : Dev Cert.AdamAdaIdeal.nD) → Buf (Elt Ideal) ((c.tc : Thread Cert.AdamAdaIdeal.nD Cert.AdamAdaIdeal.τ).loc Cert.AdamAdaIdeal.main_v1_1)) (v2 : (c : Dev Cert.AdamAdaIdeal.nD) → Buf (Elt Ideal) ((c.tc : Thread Cert.AdamAdaIdeal.nD Cert.AdamAdaIdeal.τ).loc Cert.AdamAdaIdeal.main_v1_2)) (v3 : (c : Dev Cert.AdamAdaIdeal.nD) → Buf (Elt Ideal) ((c.tc : Thread Cert.AdamAdaIdeal.nD Cert.AdamAdaIdeal.τ).loc Cert.AdamAdaIdeal.main_v1_3)),
      θ_run (Cert.AdamAdaIdeal.defs (F := Ideal)) (onTc (τ := Cert.AdamAdaIdeal.τ) (Cert.AdamAdaIdeal.main (F := Ideal))) ⟨m, fun _ => 0, g⟩ (fun r => ∀ c : Dev Cert.AdamAdaIdeal.nD,
          r.2.mem ((c.tc : Thread Cert.AdamAdaIdeal.nD Cert.AdamAdaIdeal.τ).loc Cert.AdamAdaIdeal.main_v1_0) = v0 c
          ∧ r.2.mem ((c.tc : Thread Cert.AdamAdaIdeal.nD Cert.AdamAdaIdeal.τ).loc Cert.AdamAdaIdeal.main_v1_1) = v1 c
          ∧ r.2.mem ((c.tc : Thread Cert.AdamAdaIdeal.nD Cert.AdamAdaIdeal.τ).loc Cert.AdamAdaIdeal.main_v1_2) = v2 c
          ∧ r.2.mem ((c.tc : Thread Cert.AdamAdaIdeal.nD Cert.AdamAdaIdeal.τ).loc Cert.AdamAdaIdeal.main_v1_3) = v3 c
          ∧ r.2.mem ((c.tc : Thread Cert.AdamAdaIdeal.nD Cert.AdamAdaIdeal.τ).loc Cert.AdamAdaIdeal.main_arg0) = m ((c.tc : Thread Cert.AdamAdaIdeal.nD Cert.AdamAdaIdeal.τ).loc Cert.AdamAdaIdeal.main_arg0)
          ∧ r.2.mem ((c.tc : Thread Cert.AdamAdaIdeal.nD Cert.AdamAdaIdeal.τ).loc Cert.AdamAdaIdeal.main_arg1) = m ((c.tc : Thread Cert.AdamAdaIdeal.nD Cert.AdamAdaIdeal.τ).loc Cert.AdamAdaIdeal.main_arg1)
          ∧ r.2.mem ((c.tc : Thread Cert.AdamAdaIdeal.nD Cert.AdamAdaIdeal.τ).loc Cert.AdamAdaIdeal.main_arg2) = m ((c.tc : Thread Cert.AdamAdaIdeal.nD Cert.AdamAdaIdeal.τ).loc Cert.AdamAdaIdeal.main_arg2)
          ∧ r.2.mem ((c.tc : Thread Cert.AdamAdaIdeal.nD Cert.AdamAdaIdeal.τ).loc Cert.AdamAdaIdeal.main_arg3) = m ((c.tc : Thread Cert.AdamAdaIdeal.nD Cert.AdamAdaIdeal.τ).loc Cert.AdamAdaIdeal.main_arg3)
          ∧ r.2.mem ((c.tc : Thread Cert.AdamAdaIdeal.nD Cert.AdamAdaIdeal.τ).loc Cert.AdamAdaIdeal.main_arg4) = m ((c.tc : Thread Cert.AdamAdaIdeal.nD Cert.AdamAdaIdeal.τ).loc Cert.AdamAdaIdeal.main_arg4))
      ∧ θ_run (Cert.RefAdamAdaIdeal.defs (F := Ideal)) (onTc (τ := Cert.RefAdamAdaIdeal.τ) (Cert.RefAdamAdaIdeal.main (F := Ideal))) ⟨m', fun _ => 0, g'⟩ (fun r => ∀ c : Dev Cert.RefAdamAdaIdeal.nD,
          r.2.mem ((c.tc : Thread Cert.RefAdamAdaIdeal.nD Cert.RefAdamAdaIdeal.τ).loc Cert.RefAdamAdaIdeal.main_v3) = v0 c
          ∧ r.2.mem ((c.tc : Thread Cert.RefAdamAdaIdeal.nD Cert.RefAdamAdaIdeal.τ).loc Cert.RefAdamAdaIdeal.main_v27) = v1 c
          ∧ r.2.mem ((c.tc : Thread Cert.RefAdamAdaIdeal.nD Cert.RefAdamAdaIdeal.τ).loc Cert.RefAdamAdaIdeal.main_v8) = v2 c
          ∧ r.2.mem ((c.tc : Thread Cert.RefAdamAdaIdeal.nD Cert.RefAdamAdaIdeal.τ).loc Cert.RefAdamAdaIdeal.main_v14) = v3 c
          ∧ r.2.mem ((c.tc : Thread Cert.RefAdamAdaIdeal.nD Cert.RefAdamAdaIdeal.τ).loc Cert.RefAdamAdaIdeal.main_arg0) = m' ((c.tc : Thread Cert.RefAdamAdaIdeal.nD Cert.RefAdamAdaIdeal.τ).loc Cert.RefAdamAdaIdeal.main_arg0)
          ∧ r.2.mem ((c.tc : Thread Cert.RefAdamAdaIdeal.nD Cert.RefAdamAdaIdeal.τ).loc Cert.RefAdamAdaIdeal.main_arg1) = m' ((c.tc : Thread Cert.RefAdamAdaIdeal.nD Cert.RefAdamAdaIdeal.τ).loc Cert.RefAdamAdaIdeal.main_arg1)
          ∧ r.2.mem ((c.tc : Thread Cert.RefAdamAdaIdeal.nD Cert.RefAdamAdaIdeal.τ).loc Cert.RefAdamAdaIdeal.main_arg2) = m' ((c.tc : Thread Cert.RefAdamAdaIdeal.nD Cert.RefAdamAdaIdeal.τ).loc Cert.RefAdamAdaIdeal.main_arg2)
          ∧ r.2.mem ((c.tc : Thread Cert.RefAdamAdaIdeal.nD Cert.RefAdamAdaIdeal.τ).loc Cert.RefAdamAdaIdeal.main_arg3) = m' ((c.tc : Thread Cert.RefAdamAdaIdeal.nD Cert.RefAdamAdaIdeal.τ).loc Cert.RefAdamAdaIdeal.main_arg3)
          ∧ r.2.mem ((c.tc : Thread Cert.RefAdamAdaIdeal.nD Cert.RefAdamAdaIdeal.τ).loc Cert.RefAdamAdaIdeal.main_arg4) = m' ((c.tc : Thread Cert.RefAdamAdaIdeal.nD Cert.RefAdamAdaIdeal.τ).loc Cert.RefAdamAdaIdeal.main_arg4))

def preserves_Gate_GateIdeal : Prop :=
  True

def algebraic_GateIdeal_RefGateIdeal [hGateIdeal : Cert.GateIdeal.Facts] [hRefGateIdeal : Cert.RefGateIdeal.Facts] [hPre_finite_gate : Cert.Pre_finite_gate.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.RefGateIdeal.nD Cert.RefGateIdeal.τ Cert.RefGateIdeal.sig) → Buf (Elt Ideal) ℓ) (g' : Dev Cert.RefGateIdeal.nD → PrngReg), Pre_GateIdeal m →
    (∀ c : Dev Cert.GateIdeal.nD,
      m' ((c.tc : Thread Cert.RefGateIdeal.nD Cert.RefGateIdeal.τ).loc Cert.RefGateIdeal.main_arg0) = m ((c.tc : Thread Cert.GateIdeal.nD Cert.GateIdeal.τ).loc Cert.GateIdeal.main_arg0)
      ∧ m' ((c.tc : Thread Cert.RefGateIdeal.nD Cert.RefGateIdeal.τ).loc Cert.RefGateIdeal.main_arg1) = m ((c.tc : Thread Cert.GateIdeal.nD Cert.GateIdeal.τ).loc Cert.GateIdeal.main_arg1)
      ∧ m' ((c.tc : Thread Cert.RefGateIdeal.nD Cert.RefGateIdeal.τ).loc Cert.RefGateIdeal.main_arg2) = m ((c.tc : Thread Cert.GateIdeal.nD Cert.GateIdeal.τ).loc Cert.GateIdeal.main_arg2)
      ∧ m' ((c.tc : Thread Cert.RefGateIdeal.nD Cert.RefGateIdeal.τ).loc Cert.RefGateIdeal.main_arg3) = m ((c.tc : Thread Cert.GateIdeal.nD Cert.GateIdeal.τ).loc Cert.GateIdeal.main_arg3)
      ∧ m' ((c.tc : Thread Cert.RefGateIdeal.nD Cert.RefGateIdeal.τ).loc Cert.RefGateIdeal.main_arg4) = m ((c.tc : Thread Cert.GateIdeal.nD Cert.GateIdeal.τ).loc Cert.GateIdeal.main_arg4)
      ∧ m' ((c.tc : Thread Cert.RefGateIdeal.nD Cert.RefGateIdeal.τ).loc Cert.RefGateIdeal.main_arg5) = m ((c.tc : Thread Cert.GateIdeal.nD Cert.GateIdeal.τ).loc Cert.GateIdeal.main_arg5)) →
    ∃ (v0 : (c : Dev Cert.GateIdeal.nD) → Buf (Elt Ideal) ((c.tc : Thread Cert.GateIdeal.nD Cert.GateIdeal.τ).loc Cert.GateIdeal.main_v0_0)) (v1 : (c : Dev Cert.GateIdeal.nD) → Buf (Elt Ideal) ((c.tc : Thread Cert.GateIdeal.nD Cert.GateIdeal.τ).loc Cert.GateIdeal.main_v0_1)) (v2 : (c : Dev Cert.GateIdeal.nD) → Buf (Elt Ideal) ((c.tc : Thread Cert.GateIdeal.nD Cert.GateIdeal.τ).loc Cert.GateIdeal.main_v0_2)) (v3 : (c : Dev Cert.GateIdeal.nD) → Buf (Elt Ideal) ((c.tc : Thread Cert.GateIdeal.nD Cert.GateIdeal.τ).loc Cert.GateIdeal.main_v0_3)) (v4 : (c : Dev Cert.GateIdeal.nD) → Buf (Elt Ideal) ((c.tc : Thread Cert.GateIdeal.nD Cert.GateIdeal.τ).loc Cert.GateIdeal.main_v0_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0_0) = v0 c
          ∧ r.2.mem ((c.tc : Thread Cert.GateIdeal.nD Cert.GateIdeal.τ).loc Cert.GateIdeal.main_v0_1) = v1 c
          ∧ r.2.mem ((c.tc : Thread Cert.GateIdeal.nD Cert.GateIdeal.τ).loc Cert.GateIdeal.main_v0_2) = v2 c
          ∧ r.2.mem ((c.tc : Thread Cert.GateIdeal.nD Cert.GateIdeal.τ).loc Cert.GateIdeal.main_v0_3) = v3 c
          ∧ r.2.mem ((c.tc : Thread Cert.GateIdeal.nD Cert.GateIdeal.τ).loc Cert.GateIdeal.main_v0_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5))
      ∧ θ_run (Cert.RefGateIdeal.defs (F := Ideal)) (onTc (τ := Cert.RefGateIdeal.τ) (Cert.RefGateIdeal.main (F := Ideal))) ⟨m', fun _ => 0, g'⟩ (fun r => ∀ c : Dev Cert.RefGateIdeal.nD,
          r.2.mem ((c.tc : Thread Cert.RefGateIdeal.nD Cert.RefGateIdeal.τ).loc Cert.RefGateIdeal.main_v68) = v0 c
          ∧ r.2.mem ((c.tc : Thread Cert.RefGateIdeal.nD Cert.RefGateIdeal.τ).loc Cert.RefGateIdeal.main_v64) = v1 c
          ∧ r.2.mem ((c.tc : Thread Cert.RefGateIdeal.nD Cert.RefGateIdeal.τ).loc Cert.RefGateIdeal.main_v40) = v2 c
          ∧ r.2.mem ((c.tc : Thread Cert.RefGateIdeal.nD Cert.RefGateIdeal.τ).loc Cert.RefGateIdeal.main_v37) = v3 c
          ∧ r.2.mem ((c.tc : Thread Cert.RefGateIdeal.nD Cert.RefGateIdeal.τ).loc Cert.RefGateIdeal.main_v66) = v4 c
          ∧ r.2.mem ((c.tc : Thread Cert.RefGateIdeal.nD Cert.RefGateIdeal.τ).loc Cert.RefGateIdeal.main_arg0) = m' ((c.tc : Thread Cert.RefGateIdeal.nD Cert.RefGateIdeal.τ).loc Cert.RefGateIdeal.main_arg0)
          ∧ r.2.mem ((c.tc : Thread Cert.RefGateIdeal.nD Cert.RefGateIdeal.τ).loc Cert.RefGateIdeal.main_arg1) = m' ((c.tc : Thread Cert.RefGateIdeal.nD Cert.RefGateIdeal.τ).loc Cert.RefGateIdeal.main_arg1)
          ∧ r.2.mem ((c.tc : Thread Cert.RefGateIdeal.nD Cert.RefGateIdeal.τ).loc Cert.RefGateIdeal.main_arg2) = m' ((c.tc : Thread Cert.RefGateIdeal.nD Cert.RefGateIdeal.τ).loc Cert.RefGateIdeal.main_arg2)
          ∧ r.2.mem ((c.tc : Thread Cert.RefGateIdeal.nD Cert.RefGateIdeal.τ).loc Cert.RefGateIdeal.main_arg3) = m' ((c.tc : Thread Cert.RefGateIdeal.nD Cert.RefGateIdeal.τ).loc Cert.RefGateIdeal.main_arg3)
          ∧ r.2.mem ((c.tc : Thread Cert.RefGateIdeal.nD Cert.RefGateIdeal.τ).loc Cert.RefGateIdeal.main_arg4) = m' ((c.tc : Thread Cert.RefGateIdeal.nD Cert.RefGateIdeal.τ).loc Cert.RefGateIdeal.main_arg4)
          ∧ r.2.mem ((c.tc : Thread Cert.RefGateIdeal.nD Cert.RefGateIdeal.τ).loc Cert.RefGateIdeal.main_arg5) = m' ((c.tc : Thread Cert.RefGateIdeal.nD Cert.RefGateIdeal.τ).loc Cert.RefGateIdeal.main_arg5))

def Claim : Prop :=
  ∃ (hMixerA : Cert.MixerA.Facts) (hMixerAIdeal : Cert.MixerAIdeal.Facts) (hRefAIdeal : Cert.RefAIdeal.Facts) (hDy : Cert.Dy.Facts) (hDyIdeal : Cert.DyIdeal.Facts) (hRefDyIdeal : Cert.RefDyIdeal.Facts) (hGradWOut : Cert.GradWOut.Facts) (hGradWOutIdeal : Cert.GradWOutIdeal.Facts) (hRefGradWOutIdeal : Cert.RefGradWOutIdeal.Facts) (hDh : Cert.Dh.Facts) (hDhIdeal : Cert.DhIdeal.Facts) (hRefDhIdeal : Cert.RefDhIdeal.Facts) (hSlot : Cert.Slot.Facts) (hSlotIdeal : Cert.SlotIdeal.Facts) (hRefSlotIdeal : Cert.RefSlotIdeal.Facts) (hSlotSecond : Cert.SlotSecond.Facts) (hSlotSecondIdeal : Cert.SlotSecondIdeal.Facts) (hRefSlotSecondIdeal : Cert.RefSlotSecondIdeal.Facts) (hSlotOwn : Cert.SlotOwn.Facts) (hSlotOwnIdeal : Cert.SlotOwnIdeal.Facts) (hRefSlotOwnIdeal : Cert.RefSlotOwnIdeal.Facts) (hOutProj : Cert.OutProj.Facts) (hOutProjIdeal : Cert.OutProjIdeal.Facts) (hRefOutProjIdeal : Cert.RefOutProjIdeal.Facts) (hPreNorm : Cert.PreNorm.Facts) (hPreNormIdeal : Cert.PreNormIdeal.Facts) (hRefPreNormIdeal : Cert.RefPreNormIdeal.Facts) (hAdamIn : Cert.AdamIn.Facts) (hAdamInIdeal : Cert.AdamInIdeal.Facts) (hRefAdamInIdeal : Cert.RefAdamInIdeal.Facts) (hAdamOut : Cert.AdamOut.Facts) (hAdamOutIdeal : Cert.AdamOutIdeal.Facts) (hRefAdamOutIdeal : Cert.RefAdamOutIdeal.Facts) (hAdamModel : Cert.AdamModel.Facts) (hAdamModelIdeal : Cert.AdamModelIdeal.Facts) (hRefAdamModelIdeal : Cert.RefAdamModelIdeal.Facts) (hAdamMod : Cert.AdamMod.Facts) (hAdamModIdeal : Cert.AdamModIdeal.Facts) (hRefAdamModIdeal : Cert.RefAdamModIdeal.Facts) (hAdamTapsA : Cert.AdamTapsA.Facts) (hAdamTapsAIdeal : Cert.AdamTapsAIdeal.Facts) (hRefAdamTapsAIdeal : Cert.RefAdamTapsAIdeal.Facts) (hAdamTapsB : Cert.AdamTapsB.Facts) (hAdamTapsBIdeal : Cert.AdamTapsBIdeal.Facts) (hRefAdamTapsBIdeal : Cert.RefAdamTapsBIdeal.Facts) (hAdamMixer : Cert.AdamMixer.Facts) (hAdamMixerIdeal : Cert.AdamMixerIdeal.Facts) (hRefAdamMixerIdeal : Cert.RefAdamMixerIdeal.Facts) (hAdamAda : Cert.AdamAda.Facts) (hAdamAdaIdeal : Cert.AdamAdaIdeal.Facts) (hRefAdamAdaIdeal : Cert.RefAdamAdaIdeal.Facts) (hGate : Cert.Gate.Facts) (hGateIdeal : Cert.GateIdeal.Facts) (hRefGateIdeal : Cert.RefGateIdeal.Facts) (hPre_finite : Cert.Pre_finite.Facts) (hPre_in_range : Cert.Pre_in_range.Facts) (hPre_in_range_added : Cert.Pre_in_range_added.Facts) (hPre_finite_rows : Cert.Pre_finite_rows.Facts) (hPre_finite_gate : Cert.Pre_finite_gate.Facts) (hOn_mixer_a_columns : Cert.On_mixer_a_columns.Facts),
    quiescent_MixerA (hMixerA := hMixerA)
    ∧ quiescent_MixerAIdeal (hMixerAIdeal := hMixerAIdeal)
    ∧ quiescent_MixerAIdeal_pre_finite (hMixerAIdeal := hMixerAIdeal) (hPre_finite := hPre_finite)
    ∧ quiescent_RefAIdeal (hRefAIdeal := hRefAIdeal)
    ∧ quiescent_RefAIdeal_pre_finite (hRefAIdeal := hRefAIdeal) (hPre_finite := hPre_finite)
    ∧ quiescent_Dy (hDy := hDy)
    ∧ quiescent_DyIdeal (hDyIdeal := hDyIdeal)
    ∧ quiescent_RefDyIdeal (hRefDyIdeal := hRefDyIdeal)
    ∧ quiescent_GradWOut (hGradWOut := hGradWOut)
    ∧ quiescent_GradWOutIdeal (hGradWOutIdeal := hGradWOutIdeal)
    ∧ quiescent_RefGradWOutIdeal (hRefGradWOutIdeal := hRefGradWOutIdeal)
    ∧ quiescent_Dh (hDh := hDh)
    ∧ quiescent_DhIdeal (hDhIdeal := hDhIdeal)
    ∧ quiescent_RefDhIdeal (hRefDhIdeal := hRefDhIdeal)
    ∧ quiescent_Slot (hSlot := hSlot) (hPre_in_range := hPre_in_range)
    ∧ quiescent_SlotIdeal (hSlotIdeal := hSlotIdeal) (hPre_in_range := hPre_in_range)
    ∧ quiescent_RefSlotIdeal (hRefSlotIdeal := hRefSlotIdeal)
    ∧ quiescent_RefSlotIdeal_pre_in_range (hRefSlotIdeal := hRefSlotIdeal) (hPre_in_range := hPre_in_range)
    ∧ quiescent_SlotSecond (hSlotSecond := hSlotSecond) (hPre_in_range_added := hPre_in_range_added)
    ∧ quiescent_SlotSecondIdeal (hSlotSecondIdeal := hSlotSecondIdeal) (hPre_in_range_added := hPre_in_range_added)
    ∧ quiescent_RefSlotSecondIdeal (hRefSlotSecondIdeal := hRefSlotSecondIdeal)
    ∧ quiescent_RefSlotSecondIdeal_pre_in_range_added (hRefSlotSecondIdeal := hRefSlotSecondIdeal) (hPre_in_range_added := hPre_in_range_added)
    ∧ quiescent_SlotOwn (hSlotOwn := hSlotOwn) (hPre_in_range_added := hPre_in_range_added)
    ∧ quiescent_SlotOwnIdeal (hSlotOwnIdeal := hSlotOwnIdeal) (hPre_in_range_added := hPre_in_range_added)
    ∧ quiescent_RefSlotOwnIdeal (hRefSlotOwnIdeal := hRefSlotOwnIdeal)
    ∧ quiescent_RefSlotOwnIdeal_pre_in_range_added (hRefSlotOwnIdeal := hRefSlotOwnIdeal) (hPre_in_range_added := hPre_in_range_added)
    ∧ quiescent_OutProj (hOutProj := hOutProj)
    ∧ quiescent_OutProjIdeal (hOutProjIdeal := hOutProjIdeal)
    ∧ quiescent_RefOutProjIdeal (hRefOutProjIdeal := hRefOutProjIdeal)
    ∧ quiescent_PreNorm (hPreNorm := hPreNorm) (hPre_finite_rows := hPre_finite_rows)
    ∧ quiescent_PreNormIdeal (hPreNormIdeal := hPreNormIdeal) (hPre_finite_rows := hPre_finite_rows)
    ∧ quiescent_RefPreNormIdeal (hRefPreNormIdeal := hRefPreNormIdeal)
    ∧ quiescent_RefPreNormIdeal_pre_finite_rows (hRefPreNormIdeal := hRefPreNormIdeal) (hPre_finite_rows := hPre_finite_rows)
    ∧ quiescent_AdamIn (hAdamIn := hAdamIn)
    ∧ quiescent_AdamInIdeal (hAdamInIdeal := hAdamInIdeal)
    ∧ quiescent_RefAdamInIdeal (hRefAdamInIdeal := hRefAdamInIdeal)
    ∧ quiescent_AdamOut (hAdamOut := hAdamOut)
    ∧ quiescent_AdamOutIdeal (hAdamOutIdeal := hAdamOutIdeal)
    ∧ quiescent_RefAdamOutIdeal (hRefAdamOutIdeal := hRefAdamOutIdeal)
    ∧ quiescent_AdamModel (hAdamModel := hAdamModel)
    ∧ quiescent_AdamModelIdeal (hAdamModelIdeal := hAdamModelIdeal)
    ∧ quiescent_RefAdamModelIdeal (hRefAdamModelIdeal := hRefAdamModelIdeal)
    ∧ quiescent_AdamMod (hAdamMod := hAdamMod)
    ∧ quiescent_AdamModIdeal (hAdamModIdeal := hAdamModIdeal)
    ∧ quiescent_RefAdamModIdeal (hRefAdamModIdeal := hRefAdamModIdeal)
    ∧ quiescent_AdamTapsA (hAdamTapsA := hAdamTapsA)
    ∧ quiescent_AdamTapsAIdeal (hAdamTapsAIdeal := hAdamTapsAIdeal)
    ∧ quiescent_RefAdamTapsAIdeal (hRefAdamTapsAIdeal := hRefAdamTapsAIdeal)
    ∧ quiescent_AdamTapsB (hAdamTapsB := hAdamTapsB)
    ∧ quiescent_AdamTapsBIdeal (hAdamTapsBIdeal := hAdamTapsBIdeal)
    ∧ quiescent_RefAdamTapsBIdeal (hRefAdamTapsBIdeal := hRefAdamTapsBIdeal)
    ∧ quiescent_AdamMixer (hAdamMixer := hAdamMixer)
    ∧ quiescent_AdamMixerIdeal (hAdamMixerIdeal := hAdamMixerIdeal)
    ∧ quiescent_RefAdamMixerIdeal (hRefAdamMixerIdeal := hRefAdamMixerIdeal)
    ∧ quiescent_AdamAda (hAdamAda := hAdamAda)
    ∧ quiescent_AdamAdaIdeal (hAdamAdaIdeal := hAdamAdaIdeal)
    ∧ quiescent_RefAdamAdaIdeal (hRefAdamAdaIdeal := hRefAdamAdaIdeal)
    ∧ quiescent_Gate (hGate := hGate) (hPre_finite_gate := hPre_finite_gate)
    ∧ quiescent_GateIdeal (hGateIdeal := hGateIdeal) (hPre_finite_gate := hPre_finite_gate)
    ∧ quiescent_RefGateIdeal (hRefGateIdeal := hRefGateIdeal)
    ∧ quiescent_RefGateIdeal_pre_finite_gate (hRefGateIdeal := hRefGateIdeal) (hPre_finite_gate := hPre_finite_gate)
    ∧ preserves_MixerA_MixerAIdeal
    ∧ algebraic_MixerAIdeal_RefAIdeal_on_mixer_a_columns_pre_finite (hMixerAIdeal := hMixerAIdeal) (hRefAIdeal := hRefAIdeal) (hPre_finite := hPre_finite) (hOn_mixer_a_columns := hOn_mixer_a_columns)
    ∧ preserves_Dy_DyIdeal
    ∧ algebraic_DyIdeal_RefDyIdeal (hDyIdeal := hDyIdeal) (hRefDyIdeal := hRefDyIdeal)
    ∧ preserves_GradWOut_GradWOutIdeal
    ∧ algebraic_GradWOutIdeal_RefGradWOutIdeal (hGradWOutIdeal := hGradWOutIdeal) (hRefGradWOutIdeal := hRefGradWOutIdeal)
    ∧ preserves_Dh_DhIdeal
    ∧ algebraic_DhIdeal_RefDhIdeal (hDhIdeal := hDhIdeal) (hRefDhIdeal := hRefDhIdeal)
    ∧ preserves_Slot_SlotIdeal
    ∧ algebraic_SlotIdeal_RefSlotIdeal (hSlotIdeal := hSlotIdeal) (hRefSlotIdeal := hRefSlotIdeal) (hPre_in_range := hPre_in_range)
    ∧ preserves_SlotSecond_SlotSecondIdeal
    ∧ algebraic_SlotSecondIdeal_RefSlotSecondIdeal (hSlotSecondIdeal := hSlotSecondIdeal) (hRefSlotSecondIdeal := hRefSlotSecondIdeal) (hPre_in_range_added := hPre_in_range_added)
    ∧ preserves_SlotOwn_SlotOwnIdeal
    ∧ algebraic_SlotOwnIdeal_RefSlotOwnIdeal (hSlotOwnIdeal := hSlotOwnIdeal) (hRefSlotOwnIdeal := hRefSlotOwnIdeal) (hPre_in_range_added := hPre_in_range_added)
    ∧ preserves_OutProj_OutProjIdeal
    ∧ algebraic_OutProjIdeal_RefOutProjIdeal (hOutProjIdeal := hOutProjIdeal) (hRefOutProjIdeal := hRefOutProjIdeal)
    ∧ preserves_PreNorm_PreNormIdeal
    ∧ algebraic_PreNormIdeal_RefPreNormIdeal (hPreNormIdeal := hPreNormIdeal) (hRefPreNormIdeal := hRefPreNormIdeal) (hPre_finite_rows := hPre_finite_rows)
    ∧ preserves_AdamIn_AdamInIdeal
    ∧ algebraic_AdamInIdeal_RefAdamInIdeal (hAdamInIdeal := hAdamInIdeal) (hRefAdamInIdeal := hRefAdamInIdeal)
    ∧ preserves_AdamOut_AdamOutIdeal
    ∧ algebraic_AdamOutIdeal_RefAdamOutIdeal (hAdamOutIdeal := hAdamOutIdeal) (hRefAdamOutIdeal := hRefAdamOutIdeal)
    ∧ preserves_AdamModel_AdamModelIdeal
    ∧ algebraic_AdamModelIdeal_RefAdamModelIdeal (hAdamModelIdeal := hAdamModelIdeal) (hRefAdamModelIdeal := hRefAdamModelIdeal)
    ∧ preserves_AdamMod_AdamModIdeal
    ∧ algebraic_AdamModIdeal_RefAdamModIdeal (hAdamModIdeal := hAdamModIdeal) (hRefAdamModIdeal := hRefAdamModIdeal)
    ∧ preserves_AdamTapsA_AdamTapsAIdeal
    ∧ algebraic_AdamTapsAIdeal_RefAdamTapsAIdeal (hAdamTapsAIdeal := hAdamTapsAIdeal) (hRefAdamTapsAIdeal := hRefAdamTapsAIdeal)
    ∧ preserves_AdamTapsB_AdamTapsBIdeal
    ∧ algebraic_AdamTapsBIdeal_RefAdamTapsBIdeal (hAdamTapsBIdeal := hAdamTapsBIdeal) (hRefAdamTapsBIdeal := hRefAdamTapsBIdeal)
    ∧ preserves_AdamMixer_AdamMixerIdeal
    ∧ algebraic_AdamMixerIdeal_RefAdamMixerIdeal (hAdamMixerIdeal := hAdamMixerIdeal) (hRefAdamMixerIdeal := hRefAdamMixerIdeal)
    ∧ preserves_AdamAda_AdamAdaIdeal
    ∧ algebraic_AdamAdaIdeal_RefAdamAdaIdeal (hAdamAdaIdeal := hAdamAdaIdeal) (hRefAdamAdaIdeal := hRefAdamAdaIdeal)
    ∧ preserves_Gate_GateIdeal
    ∧ algebraic_GateIdeal_RefGateIdeal (hGateIdeal := hGateIdeal) (hRefGateIdeal := hRefGateIdeal) (hPre_finite_gate := hPre_finite_gate)
-- ==== On_mixer_a_columns.lean ====
abbrev S4096x14336 : Shape := ⟨2, ![4096, 14336]⟩
abbrev S4096x4096 : Shape := ⟨2, ![4096, 4096]⟩
abbrev S3x2048 : Shape := ⟨2, ![3, 2048]⟩
abbrev S_ : Shape := ⟨0, ![]⟩
abbrev S8x2048 : Shape := ⟨2, ![8, 2048]⟩

class Facts : Prop where
  bcast_S_S4096x14336 : S_.BroadcastsInDim S4096x14336 (![] : Fin 0 → Fin S4096x14336.rank)
  bcast_S_S8x2048 : S_.BroadcastsInDim S8x2048 (![] : Fin 0 → Fin S8x2048.rank)

variable [Facts]

def fn {F : FTy → Type} [FloatOps F] (main_arg0 : FVec F S4096x14336 .bf16) (main_arg1 : FVec F S4096x4096 .f32) (main_arg2 : FVec F S3x2048 .f32) : IVec S4096x14336 1 × IVec S8x2048 1 :=
  let main_v0 : IVec S4096x14336 32 := iotaInDim S4096x14336 32 1
  let main_c : IVec S_ 32 := constantI S_ 32 8192#32
  let main_v1 : IVec S4096x14336 32 := broadcastInDim S4096x14336 ![] bcast_S_S4096x14336 main_c
  let main_v2 : IVec S4096x14336 1 := cmpi .slt main_v0 main_v1
  let main_c_0 : IVec S_ 1 := constantI S_ 1 1#1
  let main_v3 : IVec S8x2048 1 := broadcastInDim S8x2048 ![] bcast_S_S8x2048 main_c_0
  (main_v2, main_v3)
-- ==== Pre_finite.lean ====
abbrev S4096x14336 : Shape := ⟨2, ![4096, 14336]⟩
abbrev S4096x4096 : Shape := ⟨2, ![4096, 4096]⟩
abbrev S3x2048 : Shape := ⟨2, ![3, 2048]⟩
abbrev S_ : Shape := ⟨0, ![]⟩

class Facts : Prop where
  bitsLt_bf16_f32 : FTy.bits .bf16 < FTy.bits .f32
  bcast_S_S4096x14336 : S_.BroadcastsInDim S4096x14336 (![] : Fin 0 → Fin S4096x14336.rank)
  reducesTo_S4096x14336_S_d0_1 : S4096x14336.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S3x2048 : S_.BroadcastsInDim S3x2048 (![] : Fin 0 → Fin S3x2048.rank)
  reducesTo_S3x2048_S_d0_1 : S3x2048.ReducesTo [0, 1] S_

variable [Facts]

def fn {F : FTy → Type} [FloatOps F] (main_arg0 : FVec F S4096x14336 .bf16) (main_arg1 : FVec F S4096x4096 .f32) (main_arg2 : FVec F S3x2048 .f32) : IVec S_ 1 :=
  let main_v0 : FVec F S4096x14336 .f32 := (extf .f32 · bitsLt_bf16_f32) main_arg0
  let main_v1 : FVec F S4096x14336 .f32 := Host.absf main_v0
  let main_cst : FVec F S_ .f32 := constant S_ .f32 0x7F800000#32
  let main_v2 : FVec F S4096x14336 .f32 := broadcastInDim S4096x14336 ![] bcast_S_S4096x14336 main_cst
  let main_v3 : IVec S4096x14336 1 := cmpf .olt main_v1 main_v2
  let main_c : IVec S_ 1 := constantI S_ 1 1#1
  let main_v4 : IVec S_ 1 := (fun x v => Host.reduce IntOp.andi x v reducesTo_S4096x14336_S_d0_1 h_S_) main_v3 main_c
  let main_v5 : FVec F S4096x4096 .f32 := Host.absf main_arg1
  let main_cst_0 : FVec F S_ .f32 := constant S_ .f32 0x7F800000#32
  let main_v6 : FVec F S4096x4096 .f32 := broadcastInDim S4096x4096 ![] bcast_S_S4096x4096 main_cst_0
  let main_v7 : IVec S4096x4096 1 := cmpf .olt main_v5 main_v6
  let main_c_1 : IVec S_ 1 := constantI S_ 1 1#1
  let main_v8 : IVec S_ 1 := (fun x v => Host.reduce IntOp.andi x v reducesTo_S4096x4096_S_d0_1 h_S_) main_v7 main_c_1
  let main_v9 : IVec S_ 1 := andi main_v4 main_v8
  let main_v10 : FVec F S3x2048 .f32 := Host.absf main_arg2
  let main_cst_2 : FVec F S_ .f32 := constant S_ .f32 0x7F800000#32
  let main_v11 : FVec F S3x2048 .f32 := broadcastInDim S3x2048 ![] bcast_S_S3x2048 main_cst_2
  let main_v12 : IVec S3x2048 1 := cmpf .olt main_v10 main_v11
  let main_c_3 : IVec S_ 1 := constantI S_ 1 1#1
  let main_v13 : IVec S_ 1 := (fun x v => Host.reduce IntOp.andi x v reducesTo_S3x2048_S_d0_1 h_S_) main_v12 main_c_3
  let main_v14 : IVec S_ 1 := andi main_v9 main_v13
  main_v14
-- ==== Pre_finite_gate.lean ====
abbrev S4096x14336 : Shape := ⟨2, ![4096, 14336]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bitsLt_bf16_f32 : FTy.bits .bf16 < FTy.bits .f32
  bcast_S_S4096x14336 : S_.BroadcastsInDim S4096x14336 (![] : Fin 0 → Fin S4096x14336.rank)
  reducesTo_S4096x14336_S_d0_1 : S4096x14336.ReducesTo [0, 1] S_
  bcast_S_S1x2048 : S_.BroadcastsInDim S1x2048 (![] : Fin 0 → Fin S1x2048.rank)
  reducesTo_S1x2048_S_d0_1 : S1x2048.ReducesTo [0, 1] S_

variable [Facts]

def fn_part1 {F : FTy → Type} [FloatOps F] (main_arg5 : FVec F S1x2048 .f32) (main_v14 : IVec S_ 1) (main_v15 : FVec F S1x2048 .f32) (main_v16 : FVec F S1x2048 .f32) : IVec S_ 1 :=
  let main_v17 : IVec S1x2048 1 := cmpf .olt main_v15 main_v16
  let main_c_5 : IVec S_ 1 := constantI S_ 1 1#1
  let main_v18 : IVec S_ 1 := (fun x v => Host.reduce IntOp.andi x v reducesTo_S1x2048_S_d0_1 h_S_) main_v17 main_c_5
  let main_v19 : IVec S_ 1 := andi main_v14 main_v18
  let main_v20 : FVec F S1x2048 .f32 := Host.absf main_arg5
  let main_cst_6 : FVec F S_ .f32 := constant S_ .f32 0x7F800000#32
  let main_v21 : FVec F S1x2048 .f32 := broadcastInDim S1x2048 ![] bcast_S_S1x2048 main_cst_6
  let main_v22 : IVec S1x2048 1 := cmpf .olt main_v20 main_v21
  let main_c_7 : IVec S_ 1 := constantI S_ 1 1#1
  let main_v23 : IVec S_ 1 := (fun x v => Host.reduce IntOp.andi x v reducesTo_S1x2048_S_d0_1 h_S_) main_v22 main_c_7
  let main_v24 : IVec S_ 1 := andi main_v19 main_v23
  main_v24

def fn {F : FTy → Type} [FloatOps F] (main_arg0 : FVec F S4096x14336 .bf16) (main_arg1 : FVec F S4096x4096 .f32) (main_arg2 : FVec F S4096x2048 .f32) (main_arg3 : FVec F S4096x14336 .bf16) (main_arg4 : FVec F S1x2048 .f32) (main_arg5 : FVec F S1x2048 .f32) : IVec S_ 1 :=
  let main_v0 : FVec F S4096x4096 .f32 := Host.absf main_arg1
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x14336 .f32 := (extf .f32 · bitsLt_bf16_f32) main_arg3
  let main_v10 : FVec F S4096x14336 .f32 := Host.absf main_v9
  let main_cst_2 : FVec F S_ .f32 := constant S_ .f32 0x7F800000#32
  let main_v11 : FVec F S4096x14336 .f32 := broadcastInDim S4096x14336 ![] bcast_S_S4096x14336 main_cst_2
  let main_v12 : IVec S4096x14336 1 := cmpf .olt main_v10 main_v11
  let main_c_3 : IVec S_ 1 := constantI S_ 1 1#1
  let main_v13 : IVec S_ 1 := (fun x v => Host.reduce IntOp.andi x v reducesTo_S4096x14336_S_d0_1 h_S_) main_v12 main_c_3
  let main_v14 : IVec S_ 1 := andi main_v8 main_v13
  let main_v15 : FVec F S1x2048 .f32 := Host.absf main_arg4
  let main_cst_4 : FVec F S_ .f32 := constant S_ .f32 0x7F800000#32
  let main_v16 : FVec F S1x2048 .f32 := broadcastInDim S1x2048 ![] bcast_S_S1x2048 main_cst_4
  fn_part1 (F := F) main_arg5 main_v14 main_v15 main_v16
-- ==== Pre_finite_rows.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096 : S_.BroadcastsInDim S1x4096 (![] : Fin 0 → Fin S1x4096.rank)
  reducesTo_S1x4096_S_d0_1 : S1x4096.ReducesTo [0, 1] S_

variable [Facts]

def fn_part1 {F : FTy → Type} [FloatOps F] (main_v13 : IVec S_ 1) (main_v16 : IVec S1x4096 1) : IVec S_ 1 :=
  let main_c_5 : IVec S_ 1 := constantI S_ 1 1#1
  let main_v17 : IVec S_ 1 := (fun x v => Host.reduce IntOp.andi x v reducesTo_S1x4096_S_d0_1 h_S_) main_v16 main_c_5
  let main_v18 : IVec S_ 1 := andi main_v13 main_v17
  main_v18

def fn {F : FTy → Type} [FloatOps F] (main_arg0 : FVec F S4096x4096 .f32) (main_arg1 : FVec F S4096x4096 .f32) (main_arg2 : FVec F S4096x4096 .f32) (main_arg3 : FVec F S1x4096 .f32) (main_arg4 : FVec F S1x4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  let main_v14 : FVec F S1x4096 .f32 := Host.absf main_arg4
  let main_cst_4 : FVec F S_ .f32 := constant S_ .f32 0x7F800000#32
  let main_v15 : FVec F S1x4096 .f32 := broadcastInDim S1x4096 ![] bcast_S_S1x4096 main_cst_4
  let main_v16 : IVec S1x4096 1 := cmpf .olt main_v14 main_v15
  fn_part1 (F := F) main_v13 main_v16
-- ==== Pre_in_range.lean ====
abbrev S2 : Shape := ⟨1, ![2]⟩
abbrev S4096x4096 : Shape := ⟨2, ![4096, 4096]⟩
abbrev S4096x14336 : Shape := ⟨2, ![4096, 14336]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4096x4096 .bf16) (main_arg2 : FVec F S4096x14336 .bf16) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== Pre_in_range_added.lean ====
abbrev S2 : Shape := ⟨1, ![2]⟩
abbrev S4096x4096 : Shape := ⟨2, ![4096, 4096]⟩
abbrev S4096x14336 : Shape := ⟨2, ![4096, 14336]⟩
abbrev S2048x3584 : Shape := ⟨2, ![2048, 3584]⟩
abbrev S1 : Shape := ⟨1, ![1]⟩
abbrev S_ : Shape := ⟨0, ![]⟩

class Facts : Prop where
  slices_S2_S1_0 : S2.Slices ![0] S1
  shapeCasts_S1_S_ : S1.ShapeCasts S_
  slices_S2_S1_1 : S2.Slices ![1] S1

variable [Facts]

def fn {F : FTy → Type} [FloatOps F] (main_arg0 : IVec S2 32) (main_arg1 : FVec F S4096x4096 .bf16) (main_arg2 : FVec F S4096x14336 .bf16) (main_arg3 : FVec F S2048x3584 .f32) : IVec S_ 1 :=
  let main_v0 : IVec S1 32 := (extractStridedSlice S1 ![0] · slices_S2_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S2_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S2_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S_ 1 := andi main_v6 main_v9
  let main_v11 : IVec S1 32 := (extractStridedSlice S1 ![1] · slices_S2_S1_1) main_arg0
  let main_v12 : IVec S_ 32 := shapeCast S_ main_v11 shapeCasts_S1_S_
  let main_c_2 : IVec S_ 32 := constantI S_ 32 2#32
  let main_v13 : IVec S_ 1 := cmpi .slt main_v12 main_c_2
  let main_v14 : IVec S_ 1 := andi main_v10 main_v13
  main_v14
-- ==== MixerA.lean ====
abbrev S4096x14336 : Shape := ⟨2, ![4096, 14336]⟩
abbrev S4096x4096 : Shape := ⟨2, ![4096, 4096]⟩
abbrev S3x2048 : Shape := ⟨2, ![3, 2048]⟩
abbrev S_ : Shape := ⟨0, ![]⟩
abbrev S8x2048 : Shape := ⟨2, ![8, 2048]⟩
abbrev S128x2048 : Shape := ⟨2, ![128, 2048]⟩
abbrev S16x2048 : Shape := ⟨2, ![16, 2048]⟩
abbrev S128x8192 : Shape := ⟨2, ![128, 8192]⟩
abbrev S136x2048 : Shape := ⟨2, ![136, 2048]⟩
abbrev S1x2048 : Shape := ⟨2, ![1, 2048]⟩
abbrev S2048 : Shape := ⟨1, ![2048]⟩

abbrev nBuf : Space → Nat
  | .hbm => 8
  | .vmem => 20
  | .smem => 0
  | _ => 0

abbrev bufTy : (tb : Table) → Fin (tcTables nBuf tb) → BufTy
  | .hbm, ⟨0, _⟩ => ⟨S4096x14336, .bf16⟩
  | .hbm, ⟨1, _⟩ => ⟨S4096x4096, .f32⟩
  | .hbm, ⟨2, _⟩ => ⟨S3x2048, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S4096x14336, .bf16⟩
  | .hbm, ⟨7, _⟩ => ⟨S8x2048, .f32⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S16x2048, .bf16⟩
  | .local _ .vmem, ⟨9, _⟩ => ⟨S16x2048, .bf16⟩
  | .local _ .vmem, ⟨10, _⟩ => ⟨S16x2048, .bf16⟩
  | .local _ .vmem, ⟨11, _⟩ => ⟨S16x2048, .bf16⟩
  | .local _ .vmem, ⟨12, _⟩ => ⟨S128x2048, .f32⟩
  | .local _ .vmem, ⟨13, _⟩ => ⟨S128x2048, .f32⟩
  | .local _ .vmem, ⟨14, _⟩ => ⟨S8x2048, .f32⟩
  | .local _ .vmem, ⟨15, _⟩ => ⟨S128x8192, .bf16⟩
  | .local _ .vmem, ⟨16, _⟩ => ⟨S128x8192, .bf16⟩
  | .local _ .vmem, ⟨17, _⟩ => ⟨S8x2048, .f32⟩
  | .local _ .vmem, ⟨18, _⟩ => ⟨S136x2048, .f32⟩
  | .local _ .vmem, ⟨19, _⟩ => ⟨S136x2048, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.subi c31_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c31_i32 : BitVec 32 := 31#32
  let v0 : BitVec 32 := Scalar.subi c31_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c31_i32 : BitVec 32 := 31#32
  let v0 : BitVec 32 := Scalar.subi c31_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c1_i32_0 : BitVec 32 := 1#32
  let c0_i32_1 : BitVec 32 := 0#32
  ![v3.toNat, c1_i32_0.toNat]

def cc0_transform_5 (i : grid0.Coords) : Fin 2 → Nat :=
  let arg0 : BitVec 32 := BitVec.ofNat 32 (i 0).val
  let c31_i32 : BitVec 32 := 31#32
  let v0 : BitVec 32 := Scalar.subi c31_i32 arg0
  let c8_i32 : BitVec 32 := 8#32
  let v1 : BitVec 32 := Scalar.muli v0 c8_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  ![v3.toNat, c2_i32.toNat]

def cc0_transform_6 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefAIdeal.lean ====
abbrev S4096x14336 : Shape := ⟨2, ![4096, 14336]⟩
abbrev S4096x4096 : Shape := ⟨2, ![4096, 4096]⟩
abbrev S3x2048 : Shape := ⟨2, ![3, 2048]⟩
abbrev S4096x8192 : Shape := ⟨2, ![4096, 8192]⟩
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S2x2048 : Shape := ⟨2, ![2, 2048]⟩
abbrev S4094x2048 : Shape := ⟨2, ![4094, 2048]⟩
abbrev S4095x2048 : Shape := ⟨2, ![4095, 2048]⟩
abbrev S8x2048 : Shape := ⟨2, ![8, 2048]⟩

abbrev nBuf : Space → Nat
  | .hbm => 120
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x4096, .f32⟩
  | .hbm, ⟨2, _⟩ => ⟨S3x2048, .f32⟩
  | .hbm, ⟨3, _⟩ => ⟨S4096x8192, .bf16⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .hbm, ⟨10, _⟩ => ⟨S1x2048, .f32⟩
  | .hbm, ⟨11, _⟩ => ⟨S2048, .f32⟩
  | .hbm, ⟨12, _⟩ => ⟨S_, .f32⟩
  | .hbm, ⟨13, _⟩ => ⟨S2x2048, .f32⟩
  | .hbm, ⟨14, _⟩ => ⟨S4094x2048, .f32⟩
  | .hbm, ⟨15, _⟩ => ⟨S4096x2048, .f32⟩
  | .hbm, ⟨16, _⟩ => ⟨S_, .f32⟩
  | .hbm, ⟨17, _⟩ => ⟨S2x2048, .f32⟩
  | .hbm, ⟨18, _⟩ => ⟨S1x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S2048, .f32⟩
  | .hbm, ⟨26, _⟩ => ⟨S_, .f32⟩
  | .hbm, ⟨27, _⟩ => ⟨S1x2048, .f32⟩
  | .hbm, ⟨28, _⟩ => ⟨S4095x2048, .f32⟩
  | .hbm, ⟨29, _⟩ => ⟨S4096x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S4096x2048, .f32⟩
  | .hbm, ⟨34, _⟩ => ⟨S4096x2048, .f32⟩
  | .hbm, ⟨35, _⟩ => ⟨S4096x2048, .f32⟩
  | .hbm, ⟨36, _⟩ => ⟨S1x2048, .f32⟩
  | .hbm, ⟨37, _⟩ => ⟨S2048, .f32⟩
  | .hbm, ⟨38, _⟩ => ⟨S1x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S4096x2048, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S_, .f32⟩
  | .hbm, ⟨70, _⟩ => ⟨S2048, .f32⟩
  | .hbm, ⟨71, _⟩ => ⟨S1x2048, .f32⟩
  | .hbm, ⟨72, _⟩ => ⟨S_, .f32⟩
  | .hbm, ⟨73, _⟩ => ⟨S2048, .f32⟩
  | .hbm, ⟨74, _⟩ => ⟨S1x2048, .f32⟩
  | .hbm, ⟨75, _⟩ => ⟨S_, .f32⟩
  | .hbm, ⟨76, _⟩ => ⟨S3x2048, .f32⟩
  | .hbm, ⟨77, _⟩ => ⟨S4096x2048, .f32⟩
  | .hbm, ⟨78, _⟩ => ⟨S4096x2048, .f32⟩
  | .hbm, ⟨79, _⟩ => ⟨S4096x2048, .f32⟩
  | .hbm, ⟨80, _⟩ => ⟨S_, .f32⟩
  | .hbm, ⟨81, _⟩ => ⟨S2048, .f32⟩
  | .hbm, ⟨82, _⟩ => ⟨S1x2048, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S4095x2048, .f32⟩
  | .hbm, ⟨87, _⟩ => ⟨S_, .f32⟩
  | .hbm, ⟨88, _⟩ => ⟨S4096x2048, .f32⟩
  | .hbm, ⟨89, _⟩ => ⟨S4096x2048, .f32⟩
  | .hbm, ⟨90, _⟩ => ⟨S1x2048, .f32⟩
  | .hbm, ⟨91, _⟩ => ⟨S_, .f32⟩
  | .hbm, ⟨92, _⟩ => ⟨S3x2048, .f32⟩
  | .hbm, ⟨93, _⟩ => ⟨S3x2048, .f32⟩
  | .hbm, ⟨94, _⟩ => ⟨S4096x2048, .f32⟩
  | .hbm, ⟨95, _⟩ => ⟨S4096x2048, .f32⟩
  | .hbm, ⟨96, _⟩ => ⟨S4096x2048, .f32⟩
  | .hbm, ⟨97, _⟩ => ⟨S_, .f32⟩
  | .hbm, ⟨98, _⟩ => ⟨S2048, .f32⟩
  | .hbm, ⟨99, _⟩ => ⟨S1x2048, .f32⟩
  | .hbm, ⟨100, _⟩ => ⟨S_, .f32⟩
  | .hbm, ⟨101, _⟩ => ⟨S2048, .f32⟩
  | .hbm, ⟨102, _⟩ => ⟨S2x2048, .f32⟩
  | .hbm, ⟨103, _⟩ => ⟨S4094x2048, .f32⟩
  | .hbm, ⟨104, _⟩ => ⟨S_, .f32⟩
  | .hbm, ⟨105, _⟩ => ⟨S4096x2048, .f32⟩
  | .hbm, ⟨106, _⟩ => ⟨S4096x2048, .f32⟩
  | .hbm, ⟨107, _⟩ => ⟨S1x2048, .f32⟩
  | .hbm, ⟨108, _⟩ => ⟨S_, .f32⟩
  | .hbm, ⟨109, _⟩ => ⟨S3x2048, .f32⟩
  | .hbm, ⟨110, _⟩ => ⟨S3x2048, .f32⟩
  | .hbm, ⟨111, _⟩ => ⟨S4096x2048, .f32⟩
  | .hbm, ⟨112, _⟩ => ⟨S4096x2048, .f32⟩
  | .hbm, ⟨113, _⟩ => ⟨S4096x8192, .f32⟩
  | .hbm, ⟨114, _⟩ => ⟨S4096x8192, .bf16⟩
  | .hbm, ⟨115, _⟩ => ⟨S_, .bf16⟩
  | .hbm, ⟨116, _⟩ => ⟨S4096x14336, .bf16⟩
  | .hbm, ⟨117, _⟩ => ⟨S_, .i32⟩
  | .hbm, ⟨118, _⟩ => ⟨S_, .f32⟩
  | .hbm, ⟨119, _⟩ => ⟨S8x2048, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_v35_2 : Ref sig .tc := ⟨.hbm, 50, rfl⟩
abbrev main_call0_cst_1 : Ref sig .tc := ⟨.hbm, 51, rfl⟩
abbrev main_call0_v6 : Ref sig .tc := ⟨.hbm, 52, rfl⟩
abbrev main_call0_v7 : Ref sig .tc := ⟨.hbm, 53, rfl⟩
abbrev main_v35_1 : Ref sig .tc := ⟨.hbm, 54, rfl⟩
abbrev main_v35_0 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_4 : Ref sig .tc := ⟨.hbm, 69, rfl⟩
abbrev main_v46 : Ref sig .tc := ⟨.hbm, 70, rfl⟩
abbrev main_v47 : Ref sig .tc := ⟨.hbm, 71, rfl⟩
abbrev main_cst_5 : Ref sig .tc := ⟨.hbm, 72, rfl⟩
abbrev main_v48 : Ref sig .tc := ⟨.hbm, 73, rfl⟩
abbrev main_v49 : Ref sig .tc := ⟨.hbm, 74, rfl⟩
abbrev main_cst_6 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_7 : Ref sig .tc := ⟨.hbm, 80, rfl⟩
abbrev main_v54 : Ref sig .tc := ⟨.hbm, 81, rfl⟩
abbrev main_v55 : Ref sig .tc := ⟨.hbm, 82, rfl⟩
abbrev main_cst_8 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_9 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_10 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_11 : Ref sig .tc := ⟨.hbm, 97, rfl⟩
abbrev main_v67 : Ref sig .tc := ⟨.hbm, 98, rfl⟩
abbrev main_v68 : Ref sig .tc := ⟨.hbm, 99, rfl⟩
abbrev main_cst_12 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_cst_13 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_14 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_cst_15 : Ref sig .tc := ⟨.hbm, 115, rfl⟩
abbrev main_v81 : Ref sig .tc := ⟨.hbm, 116, rfl⟩
abbrev main_c : Ref sig .tc := ⟨.hbm, 117, rfl⟩
abbrev main_call2_v0 : Ref sig .tc := ⟨.hbm, 118, rfl⟩
abbrev main_v82 : Ref sig .tc := ⟨.hbm, 119, rfl⟩

abbrev nD : Nat := 1
abbrev τ : Topo := Topo.v7x

variable {F : FTy → Type} [FloatOps F]
-- ==== Dy.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDyIdeal.lean ====
abbrev S4096x4096 : Shape := ⟨2, ![4096, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== GradWOut.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefGradWOutIdeal.lean ====
abbrev S4096x4096 : Shape := ⟨2, ![4096, 4096]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Dh.lean ====
abbrev S4096x14336 : Shape := ⟨2, ![4096, 14336]⟩
abbrev S8x4096x1792 : Shape := ⟨3, ![8, 4096, 1792]⟩
abbrev S4096x4096 : Shape := ⟨2, ![4096, 4096]⟩
abbrev S1024x3584 : Shape := ⟨2, ![1024, 3584]⟩
abbrev S2x1024x1792 : Shape := ⟨3, ![2, 1024, 1792]⟩
abbrev S1024x1024 : Shape := ⟨2, ![1024, 1024]⟩
abbrev S1024x1792 : Shape := ⟨2, ![1024, 1792]⟩
abbrev S1x1024x1792 : Shape := ⟨3, ![1, 1024, 1792]⟩

abbrev nBuf : Space → Nat
  | .hbm => 3
  | .vmem => 7
  | .smem => 0
  | _ => 0

abbrev bufTy : (tb : Table) → Fin (tcTables nBuf tb) → BufTy
  | .hbm, ⟨0, _⟩ => ⟨S4096x14336, .bf16⟩
  | .hbm, ⟨1, _⟩ => ⟨S8x4096x1792, .bf16⟩
  | .hbm, ⟨2, _⟩ => ⟨S4096x4096, .f32⟩
  | .local _ .vmem, ⟨0, _⟩ => ⟨S1024x3584, .bf16⟩
  | .local _ .vmem, ⟨1, _⟩ => ⟨S1024x3584, .bf16⟩
  | .local _ .vmem, ⟨2, _⟩ => ⟨S2x1024x1792, .bf16⟩
  | .local _ .vmem, ⟨3, _⟩ => ⟨S2x1024x1792, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_11 : BitVec 32 := 0#32
  let v17 : BitVec 1 := Scalar.cmpi .ne v16 c0_i32_11
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefDhIdeal.lean ====
abbrev S4096x14336 : Shape := ⟨2, ![4096, 14336]⟩
abbrev S8x4096x1792 : Shape := ⟨3, ![8, 4096, 1792]⟩
abbrev S1x4096x1792 : Shape := ⟨3, ![1, 4096, 1792]⟩
abbrev S4096x1792 : Shape := ⟨2, ![4096, 1792]⟩
abbrev S_ : Shape := ⟨0, ![]⟩
abbrev S4096x4096 : Shape := ⟨2, ![4096, 4096]⟩

abbrev nBuf : Space → Nat
  | .hbm => 25
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S8x4096x1792, .bf16⟩
  | .hbm, ⟨2, _⟩ => ⟨S1x4096x1792, .bf16⟩
  | .hbm, ⟨3, _⟩ => ⟨S4096x1792, .bf16⟩
  | .hbm, ⟨4, _⟩ => ⟨S1x4096x1792, .bf16⟩
  | .hbm, ⟨5, _⟩ => ⟨S4096x1792, .bf16⟩
  | .hbm, ⟨6, _⟩ => ⟨S1x4096x1792, .bf16⟩
  | .hbm, ⟨7, _⟩ => ⟨S4096x1792, .bf16⟩
  | .hbm, ⟨8, _⟩ => ⟨S1x4096x1792, .bf16⟩
  | .hbm, ⟨9, _⟩ => ⟨S4096x1792, .bf16⟩
  | .hbm, ⟨10, _⟩ => ⟨S1x4096x1792, .bf16⟩
  | .hbm, ⟨11, _⟩ => ⟨S4096x1792, .bf16⟩
  | .hbm, ⟨12, _⟩ => ⟨S1x4096x1792, .bf16⟩
  | .hbm, ⟨13, _⟩ => ⟨S4096x1792, .bf16⟩
  | .hbm, ⟨14, _⟩ => ⟨S1x4096x1792, .bf16⟩
  | .hbm, ⟨15, _⟩ => ⟨S4096x1792, .bf16⟩
  | .hbm, ⟨16, _⟩ => ⟨S1x4096x1792, .bf16⟩
  | .hbm, ⟨17, _⟩ => ⟨S4096x1792, .bf16⟩
  | .hbm, ⟨18, _⟩ => ⟨S4096x14336, .bf16⟩
  | .hbm, ⟨19, _⟩ => ⟨S4096x14336, .f32⟩
  | .hbm, ⟨20, _⟩ => ⟨S_, .f32⟩
  | .hbm, ⟨21, _⟩ => ⟨S4096x4096, .f32⟩
  | .hbm, ⟨22, _⟩ => ⟨S4096x14336, .f32⟩
  | .hbm, ⟨23, _⟩ => ⟨S4096x14336, .f32⟩
  | .hbm, ⟨24, _⟩ => ⟨S4096x4096, .f32⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_cst : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Slot.lean ====
abbrev S2 : Shape := ⟨1, ![2]⟩
abbrev S4096x4096 : Shape := ⟨2, ![4096, 4096]⟩
abbrev S4096x14336 : Shape := ⟨2, ![4096, 14336]⟩
abbrev S2048x3584 : Shape := ⟨2, ![2048, 3584]⟩
abbrev S4096x512 : Shape := ⟨2, ![4096, 512]⟩
abbrev S1 : Shape := ⟨1, ![1]⟩
abbrev S4096x1792 : Shape := ⟨2, ![4096, 1792]⟩
abbrev S512x1792 : Shape := ⟨2, ![512, 1792]⟩

abbrev nBuf : Space → Nat
  | .hbm => 3
  | .vmem => 6
  | .smem => 1
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S2048x3584, .f32⟩
  | .local _ .vmem, ⟨0, _⟩ => ⟨S4096x512, .bf16⟩
  | .local _ .vmem, ⟨1, _⟩ => ⟨S4096x512, .bf16⟩
  | .local _ .vmem, ⟨2, _⟩ => ⟨S4096x1792, .bf16⟩
  | .local _ .vmem, ⟨3, _⟩ => ⟨S4096x1792, .bf16⟩
  | .local _ .vmem, ⟨4, _⟩ => ⟨S512x1792, .f32⟩
  | .local _ .vmem, ⟨5, _⟩ => ⟨S512x1792, .f32⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![c0_i32.toNat, v2.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefSlotIdeal.lean ====
abbrev S2 : Shape := ⟨1, ![2]⟩
abbrev S4096x4096 : Shape := ⟨2, ![4096, 4096]⟩
abbrev S4096x14336 : Shape := ⟨2, ![4096, 14336]⟩
abbrev S_ : Shape := ⟨0, ![]⟩
abbrev S14336x4096 : Shape := ⟨2, ![14336, 4096]⟩
abbrev S1 : Shape := ⟨1, ![1]⟩
abbrev S2048x3584 : Shape := ⟨2, ![2048, 3584]⟩

abbrev nBuf : Space → Nat
  | .hbm => 29
  | .vmem => 0
  | .smem => 0
  | _ => 0

abbrev bufTy : (tb : Table) → Fin (tcTables nBuf tb) → BufTy
  | .hbm, ⟨0, _⟩ => ⟨S2, .i32⟩
  | .hbm, ⟨1, _⟩ => ⟨S4096x4096, .bf16⟩
  | .hbm, ⟨2, _⟩ => ⟨S4096x14336, .bf16⟩
  | .hbm, ⟨3, _⟩ => ⟨S_, .f32⟩
  | .hbm, ⟨4, _⟩ => ⟨S4096x14336, .f32⟩
  | .hbm, ⟨5, _⟩ => ⟨S4096x4096, .f32⟩
  | .hbm, ⟨6, _⟩ => ⟨S4096x14336, .f32⟩
  | .hbm, ⟨7, _⟩ => ⟨S4096x14336, .f32⟩
  | .hbm, ⟨8, _⟩ => ⟨S14336x4096, .f32⟩
  | .hbm, ⟨9, _⟩ => ⟨S4096x14336, .f32⟩
  | .hbm, ⟨10, _⟩ => ⟨S1, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i1⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i1⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S2048x3584, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c_0 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_c_2 : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_c_4 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== SlotSecond.lean ====
abbrev S2 : Shape := ⟨1, ![2]⟩
abbrev S4096x4096 : Shape := ⟨2, ![4096, 4096]⟩
abbrev S4096x14336 : Shape := ⟨2, ![4096, 14336]⟩
abbrev S2048x3584 : Shape := ⟨2, ![2048, 3584]⟩
abbrev S4096x512 : Shape := ⟨2, ![4096, 512]⟩
abbrev S1 : Shape := ⟨1, ![1]⟩
abbrev S4096x1792 : Shape := ⟨2, ![4096, 1792]⟩
abbrev S512x1792 : Shape := ⟨2, ![512, 1792]⟩

abbrev nBuf : Space → Nat
  | .hbm => 4
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S2048x3584, .f32⟩
  | .hbm, ⟨3, _⟩ => ⟨S2048x3584, .bf16⟩
  | .local _ .vmem, ⟨0, _⟩ => ⟨S4096x512, .bf16⟩
  | .local _ .vmem, ⟨1, _⟩ => ⟨S4096x512, .bf16⟩
  | .local _ .vmem, ⟨2, _⟩ => ⟨S4096x1792, .bf16⟩
  | .local _ .vmem, ⟨3, _⟩ => ⟨S4096x1792, .bf16⟩
  | .local _ .vmem, ⟨4, _⟩ => ⟨S512x1792, .f32⟩
  | .local _ .vmem, ⟨5, _⟩ => ⟨S512x1792, .f32⟩
  | .local _ .vmem, ⟨6, _⟩ => ⟨S512x1792, .bf16⟩
  | .local _ .vmem, ⟨7, _⟩ => ⟨S512x1792, .bf16⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![c0_i32.toNat, v2.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1792 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefSlotSecondIdeal.lean ====
abbrev S2 : Shape := ⟨1, ![2]⟩
abbrev S4096x4096 : Shape := ⟨2, ![4096, 4096]⟩
abbrev S4096x14336 : Shape := ⟨2, ![4096, 14336]⟩
abbrev S2048x3584 : Shape := ⟨2, ![2048, 3584]⟩
abbrev S_ : Shape := ⟨0, ![]⟩
abbrev S14336x4096 : Shape := ⟨2, ![14336, 4096]⟩
abbrev S1 : Shape := ⟨1, ![1]⟩

abbrev nBuf : Space → Nat
  | .hbm => 32
  | .vmem => 0
  | .smem => 0
  | _ => 0

abbrev bufTy : (tb : Table) → Fin (tcTables nBuf tb) → BufTy
  | .hbm, ⟨0, _⟩ => ⟨S2, .i32⟩
  | .hbm, ⟨1, _⟩ => ⟨S4096x4096, .bf16⟩
  | .hbm, ⟨2, _⟩ => ⟨S4096x14336, .bf16⟩
  | .hbm, ⟨3, _⟩ => ⟨S2048x3584, .f32⟩
  | .hbm, ⟨4, _⟩ => ⟨S_, .f32⟩
  | .hbm, ⟨5, _⟩ => ⟨S4096x14336, .f32⟩
  | .hbm, ⟨6, _⟩ => ⟨S4096x4096, .f32⟩
  | .hbm, ⟨7, _⟩ => ⟨S4096x14336, .f32⟩
  | .hbm, ⟨8, _⟩ => ⟨S4096x14336, .f32⟩
  | .hbm, ⟨9, _⟩ => ⟨S14336x4096, .f32⟩
  | .hbm, ⟨10, _⟩ => ⟨S4096x14336, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2048x3584, .f32⟩
  | .hbm, ⟨30, _⟩ => ⟨S2048x3584, .f32⟩
  | .hbm, ⟨31, _⟩ => ⟨S2048x3584, .bf16⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩

abbrev nD : Nat := 1
abbrev τ : Topo := Topo.v7x

variable {F : FTy → Type} [FloatOps F]
-- ==== SlotOwn.lean ====
abbrev S2 : Shape := ⟨1, ![2]⟩
abbrev S4096x4096 : Shape := ⟨2, ![4096, 4096]⟩
abbrev S4096x14336 : Shape := ⟨2, ![4096, 14336]⟩
abbrev S2048x3584 : Shape := ⟨2, ![2048, 3584]⟩
abbrev S4096x512 : Shape := ⟨2, ![4096, 512]⟩
abbrev S1 : Shape := ⟨1, ![1]⟩
abbrev S4096x1792 : Shape := ⟨2, ![4096, 1792]⟩
abbrev S512x1792 : Shape := ⟨2, ![512, 1792]⟩

abbrev nBuf : Space → Nat
  | .hbm => 4
  | .vmem => 8
  | .smem => 1
  | _ => 0

abbrev bufTy : (tb : Table) → Fin (tcTables nBuf tb) → BufTy
  | .hbm, ⟨0, _⟩ => ⟨S4096x4096, .bf16⟩
  | .hbm, ⟨1, _⟩ => ⟨S4096x14336, .bf16⟩
  | .hbm, ⟨2, _⟩ => ⟨S2048x3584, .f32⟩
  | .hbm, ⟨3, _⟩ => ⟨S2048x3584, .f32⟩
  | .local _ .vmem, ⟨0, _⟩ => ⟨S4096x512, .bf16⟩
  | .local _ .vmem, ⟨1, _⟩ => ⟨S4096x512, .bf16⟩
  | .local _ .vmem, ⟨2, _⟩ => ⟨S4096x1792, .bf16⟩
  | .local _ .vmem, ⟨3, _⟩ => ⟨S4096x1792, .bf16⟩
  | .local _ .vmem, ⟨4, _⟩ => ⟨S512x1792, .f32⟩
  | .local _ .vmem, ⟨5, _⟩ => ⟨S512x1792, .f32⟩
  | .local _ .vmem, ⟨6, _⟩ => ⟨S512x1792, .f32⟩
  | .local _ .vmem, ⟨7, _⟩ => ⟨S512x1792, .f32⟩
  | .local _ .smem, ⟨0, _⟩ => ⟨S2, .i32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c4_i32 : BitVec 32 := 4#32
  let v1 : BitVec 32 := Scalar.muli v0 c4_i32
  let v2 : BitVec 32 := Scalar.addi v1 arg1
  let c0_i32 : BitVec 32 := 0#32
  let c0_i32_0 : BitVec 32 := 0#32
  ![c0_i32.toNat, v2.toNat]

def cc0_transform_1 (inb_S2_S1_0 : ∀ a, (![0] : Fin 1 → Nat) a + S1.size a ≤ S2.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 0 (Rect.unit (s := S2) ![0] S1.size inb_S2_S1_0) numel1_S1
  let c2_i32 : BitVec 32 := 2#32
  let v1 : BitVec 32 := Scalar.muli v0 c2_i32
  let v2 : BitVec 32 := Scalar.addi v1 arg0
  let c0_i32 : BitVec 32 := 0#32
  let c0_i32_0 : BitVec 32 := 0#32
  ![c0_i32.toNat, v2.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== RefSlotOwnIdeal.lean ====
abbrev S2 : Shape := ⟨1, ![2]⟩
abbrev S4096x4096 : Shape := ⟨2, ![4096, 4096]⟩
abbrev S4096x14336 : Shape := ⟨2, ![4096, 14336]⟩
abbrev S2048x3584 : Shape := ⟨2, ![2048, 3584]⟩
abbrev S_ : Shape := ⟨0, ![]⟩
abbrev S14336x4096 : Shape := ⟨2, ![14336, 4096]⟩
abbrev S1 : Shape := ⟨1, ![1]⟩

abbrev nBuf : Space → Nat
  | .hbm => 31
  | .vmem => 0
  | .smem => 0
  | _ => 0

abbrev bufTy : (tb : Table) → Fin (tcTables nBuf tb) → BufTy
  | .hbm, ⟨0, _⟩ => ⟨S2, .i32⟩
  | .hbm, ⟨1, _⟩ => ⟨S4096x4096, .bf16⟩
  | .hbm, ⟨2, _⟩ => ⟨S4096x14336, .bf16⟩
  | .hbm, ⟨3, _⟩ => ⟨S2048x3584, .f32⟩
  | .hbm, ⟨4, _⟩ => ⟨S_, .f32⟩
  | .hbm, ⟨5, _⟩ => ⟨S4096x14336, .f32⟩
  | .hbm, ⟨6, _⟩ => ⟨S4096x4096, .f32⟩
  | .hbm, ⟨7, _⟩ => ⟨S4096x14336, .f32⟩
  | .hbm, ⟨8, _⟩ => ⟨S4096x14336, .f32⟩
  | .hbm, ⟨9, _⟩ => ⟨S14336x4096, .f32⟩
  | .hbm, ⟨10, _⟩ => ⟨S4096x14336, .f32⟩
  | .hbm, ⟨11, _⟩ => ⟨S1, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S2048x3584, .f32⟩
  | .hbm, ⟨30, _⟩ => ⟨S2048x3584, .f32⟩
  | _, _ => ⟨S2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_v11 : Ref sig .tc := ⟨.hbm, 18, rfl⟩
abbrev main_c_1 : Ref sig .tc := ⟨.hbm, 19, rfl⟩
abbrev main_v12 : Ref sig .tc := ⟨.hbm, 20, rfl⟩
abbrev main_c_2 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_c_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== OutProj.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RefOutProjIdeal.lean ====
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .hbm, ⟨4, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== PreNorm.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩
abbrev S128x4096 : Shape := ⟨2, ![128, 4096]⟩
abbrev S128x1 : Shape := ⟨2, ![128, 1]⟩
abbrev S128 : Shape := ⟨1, ![128]⟩

abbrev nBuf : Space → Nat
  | .hbm => 20
  | .vmem => 15
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S1x4096, .f32⟩
  | .hbm, ⟨18, _⟩ => ⟨S1x4096, .f32⟩
  | .hbm, ⟨19, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x1, .f32⟩
  | .local _ .vmem, ⟨3, _⟩ => ⟨S128x1, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S1x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S1x4096, .f32⟩
  | .local _ .vmem, ⟨13, _⟩ => ⟨S1x4096, .f32⟩
  | .local _ .vmem, ⟨14, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefPreNormIdeal.lean ====
abbrev S4096x4096 : Shape := ⟨2, ![4096, 4096]⟩
abbrev S1x4096 : Shape := ⟨2, ![1, 4096]⟩
abbrev S_ : Shape := ⟨0, ![]⟩
abbrev S4096 : Shape := ⟨1, ![4096]⟩
abbrev S4096x1 : Shape := ⟨2, ![4096, 1]⟩

abbrev nBuf : Space → Nat
  | .hbm => 67
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S_, .f32⟩
  | .hbm, ⟨6, _⟩ => ⟨S1x4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S1x4096, .f32⟩
  | .hbm, ⟨37, _⟩ => ⟨S4096x4096, .f32⟩
  | .hbm, ⟨38, _⟩ => ⟨S_, .f32⟩
  | .hbm, ⟨39, _⟩ => ⟨S4096, .f32⟩
  | .hbm, ⟨40, _⟩ => ⟨S1x4096, .f32⟩
  | .hbm, ⟨41, _⟩ => ⟨S4096x4096, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096, .f32⟩
  | .hbm, ⟨46, _⟩ => ⟨S1x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S4096x1, .f32⟩
  | .hbm, ⟨53, _⟩ => ⟨S4096x4096, .f32⟩
  | .hbm, ⟨54, _⟩ => ⟨S4096x4096, .f32⟩
  | .hbm, ⟨55, _⟩ => ⟨S4096x1, .f32⟩
  | .hbm, ⟨56, _⟩ => ⟨S_, .f32⟩
  | .hbm, ⟨57, _⟩ => ⟨S4096x1, .f32⟩
  | .hbm, ⟨58, _⟩ => ⟨S4096x1, .f32⟩
  | .hbm, ⟨59, _⟩ => ⟨S_, .f32⟩
  | .hbm, ⟨60, _⟩ => ⟨S4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S4096x4096, .f32⟩
  | .hbm, ⟨66, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== AdamIn.lean ====
abbrev S4096x3584 : Shape := ⟨2, ![4096, 3584]⟩
abbrev S128x3584 : Shape := ⟨2, ![128, 3584]⟩

abbrev nBuf : Space → Nat
  | .hbm => 8
  | .vmem => 16
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S4096x3584, .f32⟩
  | .hbm, ⟨5, _⟩ => ⟨S4096x3584, .f32⟩
  | .hbm, ⟨6, _⟩ => ⟨S4096x3584, .f32⟩
  | .hbm, ⟨7, _⟩ => ⟨S4096x3584, .f32⟩
  | .local _ .vmem, ⟨0, _⟩ => ⟨S128x3584, .f32⟩
  | .local _ .vmem, ⟨1, _⟩ => ⟨S128x3584, .f32⟩
  | .local _ .vmem, ⟨2, _⟩ => ⟨S128x3584, .f32⟩
  | .local _ .vmem, ⟨3, _⟩ => ⟨S128x3584, .f32⟩
  | .local _ .vmem, ⟨4, _⟩ => ⟨S128x3584, .f32⟩
  | .local _ .vmem, ⟨5, _⟩ => ⟨S128x3584, .f32⟩
  | .local _ .vmem, ⟨6, _⟩ => ⟨S128x3584, .f32⟩
  | .local _ .vmem, ⟨7, _⟩ => ⟨S128x3584, .f32⟩
  | .local _ .vmem, ⟨8, _⟩ => ⟨S128x3584, .f32⟩
  | .local _ .vmem, ⟨9, _⟩ => ⟨S128x3584, .f32⟩
  | .local _ .vmem, ⟨10, _⟩ => ⟨S128x3584, .f32⟩
  | .local _ .vmem, ⟨11, _⟩ => ⟨S128x3584, .f32⟩
  | .local _ .vmem, ⟨12, _⟩ => ⟨S128x3584, .f32⟩
  | .local _ .vmem, ⟨13, _⟩ => ⟨S128x3584, .f32⟩
  | .local _ .vmem, ⟨14, _⟩ => ⟨S128x3584, .f32⟩
  | .local _ .vmem, ⟨15, _⟩ => ⟨S128x3584, .f32⟩
  | _, _ => ⟨S4096x3584, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x3584 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x3584 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3584 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3584 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3584 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3584 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3584 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamInIdeal.lean ====
abbrev S4096x3584 : Shape := ⟨2, ![4096, 3584]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x3584, .f32⟩
  | .hbm, ⟨1, _⟩ => ⟨S4096x3584, .f32⟩
  | .hbm, ⟨2, _⟩ => ⟨S4096x3584, .f32⟩
  | .hbm, ⟨3, _⟩ => ⟨S4096x3584, .f32⟩
  | .hbm, ⟨4, _⟩ => ⟨S_, .f32⟩
  | .hbm, ⟨5, _⟩ => ⟨S4096x3584, .f32⟩
  | .hbm, ⟨6, _⟩ => ⟨S4096x3584, .f32⟩
  | .hbm, ⟨7, _⟩ => ⟨S_, .f32⟩
  | .hbm, ⟨8, _⟩ => ⟨S4096x3584, .f32⟩
  | .hbm, ⟨9, _⟩ => ⟨S4096x3584, .f32⟩
  | .hbm, ⟨10, _⟩ => ⟨S4096x3584, .f32⟩
  | .hbm, ⟨11, _⟩ => ⟨S_, .f32⟩
  | .hbm, ⟨12, _⟩ => ⟨S4096x3584, .f32⟩
  | .hbm, ⟨13, _⟩ => ⟨S4096x3584, .f32⟩
  | .hbm, ⟨14, _⟩ => ⟨S4096x3584, .f32⟩
  | .hbm, ⟨15, _⟩ => ⟨S_, .f32⟩
  | .hbm, ⟨16, _⟩ => ⟨S4096x3584, .f32⟩
  | .hbm, ⟨17, _⟩ => ⟨S4096x3584, .f32⟩
  | .hbm, ⟨18, _⟩ => ⟨S4096x3584, .f32⟩
  | .hbm, ⟨19, _⟩ => ⟨S_, .f32⟩
  | .hbm, ⟨20, _⟩ => ⟨S4096x3584, .f32⟩
  | .hbm, ⟨21, _⟩ => ⟨S4096x3584, .f32⟩
  | .hbm, ⟨22, _⟩ => ⟨S_, .f32⟩
  | .hbm, ⟨23, _⟩ => ⟨S4096x3584, .f32⟩
  | .hbm, ⟨24, _⟩ => ⟨S4096x3584, .f32⟩
  | .hbm, ⟨25, _⟩ => ⟨S4096x3584, .f32⟩
  | .hbm, ⟨26, _⟩ => ⟨S_, .f32⟩
  | .hbm, ⟨27, _⟩ => ⟨S4096x3584, .f32⟩
  | .hbm, ⟨28, _⟩ => ⟨S4096x3584, .f32⟩
  | .hbm, ⟨29, _⟩ => ⟨S4096x3584, .f32⟩
  | .hbm, ⟨30, _⟩ => ⟨S_, .f32⟩
  | .hbm, ⟨31, _⟩ => ⟨S4096x3584, .f32⟩
  | .hbm, ⟨32, _⟩ => ⟨S4096x3584, .f32⟩
  | .hbm, ⟨33, _⟩ => ⟨S4096x3584, .f32⟩
  | .hbm, ⟨34, _⟩ => ⟨S_, .f32⟩
  | .hbm, ⟨35, _⟩ => ⟨S4096x3584, .f32⟩
  | .hbm, ⟨36, _⟩ => ⟨S4096x3584, .f32⟩
  | _, _ => ⟨S4096x3584, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamOut.lean ====
abbrev S1024x4096 : Shape := ⟨2, ![1024, 4096]⟩
abbrev S128x4096 : Shape := ⟨2, ![128, 4096]⟩

abbrev nBuf : Space → Nat
  | .hbm => 8
  | .vmem => 16
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== RefAdamOutIdeal.lean ====
abbrev S1024x4096 : Shape := ⟨2, ![1024, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x4096, .f32⟩
  | .hbm, ⟨2, _⟩ => ⟨S1024x4096, .f32⟩
  | .hbm, ⟨3, _⟩ => ⟨S1024x4096, .f32⟩
  | .hbm, ⟨4, _⟩ => ⟨S_, .f32⟩
  | .hbm, ⟨5, _⟩ => ⟨S1024x4096, .f32⟩
  | .hbm, ⟨6, _⟩ => ⟨S1024x4096, .f32⟩
  | .hbm, ⟨7, _⟩ => ⟨S_, .f32⟩
  | .hbm, ⟨8, _⟩ => ⟨S1024x4096, .f32⟩
  | .hbm, ⟨9, _⟩ => ⟨S1024x4096, .f32⟩
  | .hbm, ⟨10, _⟩ => ⟨S1024x4096, .f32⟩
  | .hbm, ⟨11, _⟩ => ⟨S_, .f32⟩
  | .hbm, ⟨12, _⟩ => ⟨S1024x4096, .f32⟩
  | .hbm, ⟨13, _⟩ => ⟨S1024x4096, .f32⟩
  | .hbm, ⟨14, _⟩ => ⟨S1024x4096, .f32⟩
  | .hbm, ⟨15, _⟩ => ⟨S_, .f32⟩
  | .hbm, ⟨16, _⟩ => ⟨S1024x4096, .f32⟩
  | .hbm, ⟨17, _⟩ => ⟨S1024x4096, .f32⟩
  | .hbm, ⟨18, _⟩ => ⟨S1024x4096, .f32⟩
  | .hbm, ⟨19, _⟩ => ⟨S_, .f32⟩
  | .hbm, ⟨20, _⟩ => ⟨S1024x4096, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S_, .f32⟩
  | .hbm, ⟨27, _⟩ => ⟨S1024x4096, .f32⟩
  | .hbm, ⟨28, _⟩ => ⟨S1024x4096, .f32⟩
  | .hbm, ⟨29, _⟩ => ⟨S1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1024x4096, .f32⟩
  | .hbm, ⟨34, _⟩ => ⟨S_, .f32⟩
  | .hbm, ⟨35, _⟩ => ⟨S1024x4096, .f32⟩
  | .hbm, ⟨36, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamModel.lean ====
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamModelIdeal.lean ====
abbrev S1x4096 : Shape := ⟨2, ![1, 4096]⟩

abbrev nBuf : Space → Nat
  | .hbm => 7
  | .vmem => 7
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S1x4096, .f32⟩
  | .hbm, ⟨5, _⟩ => ⟨S1x4096, .f32⟩
  | .hbm, ⟨6, _⟩ => ⟨S1x4096, .f32⟩
  | .local _ .vmem, ⟨0, _⟩ => ⟨S1x4096, .f32⟩
  | .local _ .vmem, ⟨1, _⟩ => ⟨S1x4096, .f32⟩
  | .local _ .vmem, ⟨2, _⟩ => ⟨S1x4096, .f32⟩
  | .local _ .vmem, ⟨3, _⟩ => ⟨S1x4096, .f32⟩
  | .local _ .vmem, ⟨4, _⟩ => ⟨S1x4096, .f32⟩
  | .local _ .vmem, ⟨5, _⟩ => ⟨S1x4096, .f32⟩
  | .local _ .vmem, ⟨6, _⟩ => ⟨S1x4096, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamModelIdeal.lean ====
abbrev S1x4096 : Shape := ⟨2, ![1, 4096]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S1x4096, .f32⟩
  | .hbm, ⟨2, _⟩ => ⟨S1x4096, .f32⟩
  | .hbm, ⟨3, _⟩ => ⟨S1x4096, .f32⟩
  | .hbm, ⟨4, _⟩ => ⟨S_, .f32⟩
  | .hbm, ⟨5, _⟩ => ⟨S1x4096, .f32⟩
  | .hbm, ⟨6, _⟩ => ⟨S1x4096, .f32⟩
  | .hbm, ⟨7, _⟩ => ⟨S_, .f32⟩
  | .hbm, ⟨8, _⟩ => ⟨S1x4096, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S_, .f32⟩
  | .hbm, ⟨16, _⟩ => ⟨S1x4096, .f32⟩
  | .hbm, ⟨17, _⟩ => ⟨S1x4096, .f32⟩
  | .hbm, ⟨18, _⟩ => ⟨S1x4096, .f32⟩
  | .hbm, ⟨19, _⟩ => ⟨S_, .f32⟩
  | .hbm, ⟨20, _⟩ => ⟨S1x4096, .f32⟩
  | .hbm, ⟨21, _⟩ => ⟨S1x4096, .f32⟩
  | .hbm, ⟨22, _⟩ => ⟨S_, .f32⟩
  | .hbm, ⟨23, _⟩ => ⟨S1x4096, .f32⟩
  | .hbm, ⟨24, _⟩ => ⟨S1x4096, .f32⟩
  | .hbm, ⟨25, _⟩ => ⟨S1x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S1x4096, .f32⟩
  | .hbm, ⟨30, _⟩ => ⟨S_, .f32⟩
  | .hbm, ⟨31, _⟩ => ⟨S1x4096, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S1x4096, .f32⟩
  | .hbm, ⟨36, _⟩ => ⟨S1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMod.lean ====
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamModIdeal.lean ====
abbrev S1x12288 : Shape := ⟨2, ![1, 12288]⟩

abbrev nBuf : Space → Nat
  | .hbm => 7
  | .vmem => 7
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S1x12288, .f32⟩
  | .hbm, ⟨5, _⟩ => ⟨S1x12288, .f32⟩
  | .hbm, ⟨6, _⟩ => ⟨S1x12288, .f32⟩
  | .local _ .vmem, ⟨0, _⟩ => ⟨S1x12288, .f32⟩
  | .local _ .vmem, ⟨1, _⟩ => ⟨S1x12288, .f32⟩
  | .local _ .vmem, ⟨2, _⟩ => ⟨S1x12288, .f32⟩
  | .local _ .vmem, ⟨3, _⟩ => ⟨S1x12288, .f32⟩
  | .local _ .vmem, ⟨4, _⟩ => ⟨S1x12288, .f32⟩
  | .local _ .vmem, ⟨5, _⟩ => ⟨S1x12288, .f32⟩
  | .local _ .vmem, ⟨6, _⟩ => ⟨S1x12288, .f32⟩
  | _, _ => ⟨S1x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x12288 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x12288 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x12288 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x12288 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x12288 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x12288 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x12288 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamModIdeal.lean ====
abbrev S1x12288 : Shape := ⟨2, ![1, 12288]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x12288, .f32⟩
  | .hbm, ⟨1, _⟩ => ⟨S1x12288, .f32⟩
  | .hbm, ⟨2, _⟩ => ⟨S1x12288, .f32⟩
  | .hbm, ⟨3, _⟩ => ⟨S1x12288, .f32⟩
  | .hbm, ⟨4, _⟩ => ⟨S_, .f32⟩
  | .hbm, ⟨5, _⟩ => ⟨S1x12288, .f32⟩
  | .hbm, ⟨6, _⟩ => ⟨S1x12288, .f32⟩
  | .hbm, ⟨7, _⟩ => ⟨S_, .f32⟩
  | .hbm, ⟨8, _⟩ => ⟨S1x12288, .f32⟩
  | .hbm, ⟨9, _⟩ => ⟨S1x12288, .f32⟩
  | .hbm, ⟨10, _⟩ => ⟨S1x12288, .f32⟩
  | .hbm, ⟨11, _⟩ => ⟨S_, .f32⟩
  | .hbm, ⟨12, _⟩ => ⟨S1x12288, .f32⟩
  | .hbm, ⟨13, _⟩ => ⟨S1x12288, .f32⟩
  | .hbm, ⟨14, _⟩ => ⟨S1x12288, .f32⟩
  | .hbm, ⟨15, _⟩ => ⟨S_, .f32⟩
  | .hbm, ⟨16, _⟩ => ⟨S1x12288, .f32⟩
  | .hbm, ⟨17, _⟩ => ⟨S1x12288, .f32⟩
  | .hbm, ⟨18, _⟩ => ⟨S1x12288, .f32⟩
  | .hbm, ⟨19, _⟩ => ⟨S_, .f32⟩
  | .hbm, ⟨20, _⟩ => ⟨S1x12288, .f32⟩
  | .hbm, ⟨21, _⟩ => ⟨S1x12288, .f32⟩
  | .hbm, ⟨22, _⟩ => ⟨S_, .f32⟩
  | .hbm, ⟨23, _⟩ => ⟨S1x12288, .f32⟩
  | .hbm, ⟨24, _⟩ => ⟨S1x12288, .f32⟩
  | .hbm, ⟨25, _⟩ => ⟨S1x12288, .f32⟩
  | .hbm, ⟨26, _⟩ => ⟨S_, .f32⟩
  | .hbm, ⟨27, _⟩ => ⟨S1x12288, .f32⟩
  | .hbm, ⟨28, _⟩ => ⟨S1x12288, .f32⟩
  | .hbm, ⟨29, _⟩ => ⟨S1x12288, .f32⟩
  | .hbm, ⟨30, _⟩ => ⟨S_, .f32⟩
  | .hbm, ⟨31, _⟩ => ⟨S1x12288, .f32⟩
  | .hbm, ⟨32, _⟩ => ⟨S1x12288, .f32⟩
  | .hbm, ⟨33, _⟩ => ⟨S1x12288, .f32⟩
  | .hbm, ⟨34, _⟩ => ⟨S_, .f32⟩
  | .hbm, ⟨35, _⟩ => ⟨S1x12288, .f32⟩
  | .hbm, ⟨36, _⟩ => ⟨S1x12288, .f32⟩
  | _, _ => ⟨S1x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTapsA.lean ====
abbrev S3x512 : Shape := ⟨2, ![3, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3x512, .f32⟩
  | .hbm, ⟨5, _⟩ => ⟨S3x512, .f32⟩
  | .hbm, ⟨6, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsAIdeal.lean ====
abbrev S3x512 : Shape := ⟨2, ![3, 512]⟩

abbrev nBuf : Space → Nat
  | .hbm => 7
  | .vmem => 7
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S3x512, .f32⟩
  | .hbm, ⟨5, _⟩ => ⟨S3x512, .f32⟩
  | .hbm, ⟨6, _⟩ => ⟨S3x512, .f32⟩
  | .local _ .vmem, ⟨0, _⟩ => ⟨S3x512, .f32⟩
  | .local _ .vmem, ⟨1, _⟩ => ⟨S3x512, .f32⟩
  | .local _ .vmem, ⟨2, _⟩ => ⟨S3x512, .f32⟩
  | .local _ .vmem, ⟨3, _⟩ => ⟨S3x512, .f32⟩
  | .local _ .vmem, ⟨4, _⟩ => ⟨S3x512, .f32⟩
  | .local _ .vmem, ⟨5, _⟩ => ⟨S3x512, .f32⟩
  | .local _ .vmem, ⟨6, _⟩ => ⟨S3x512, .f32⟩
  | _, _ => ⟨S3x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamTapsAIdeal.lean ====
abbrev S3x512 : Shape := ⟨2, ![3, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x512, .f32⟩
  | .hbm, ⟨1, _⟩ => ⟨S3x512, .f32⟩
  | .hbm, ⟨2, _⟩ => ⟨S3x512, .f32⟩
  | .hbm, ⟨3, _⟩ => ⟨S3x512, .f32⟩
  | .hbm, ⟨4, _⟩ => ⟨S_, .f32⟩
  | .hbm, ⟨5, _⟩ => ⟨S3x512, .f32⟩
  | .hbm, ⟨6, _⟩ => ⟨S3x512, .f32⟩
  | .hbm, ⟨7, _⟩ => ⟨S_, .f32⟩
  | .hbm, ⟨8, _⟩ => ⟨S3x512, .f32⟩
  | .hbm, ⟨9, _⟩ => ⟨S3x512, .f32⟩
  | .hbm, ⟨10, _⟩ => ⟨S3x512, .f32⟩
  | .hbm, ⟨11, _⟩ => ⟨S_, .f32⟩
  | .hbm, ⟨12, _⟩ => ⟨S3x512, .f32⟩
  | .hbm, ⟨13, _⟩ => ⟨S3x512, .f32⟩
  | .hbm, ⟨14, _⟩ => ⟨S3x512, .f32⟩
  | .hbm, ⟨15, _⟩ => ⟨S_, .f32⟩
  | .hbm, ⟨16, _⟩ => ⟨S3x512, .f32⟩
  | .hbm, ⟨17, _⟩ => ⟨S3x512, .f32⟩
  | .hbm, ⟨18, _⟩ => ⟨S3x512, .f32⟩
  | .hbm, ⟨19, _⟩ => ⟨S_, .f32⟩
  | .hbm, ⟨20, _⟩ => ⟨S3x512, .f32⟩
  | .hbm, ⟨21, _⟩ => ⟨S3x512, .f32⟩
  | .hbm, ⟨22, _⟩ => ⟨S_, .f32⟩
  | .hbm, ⟨23, _⟩ => ⟨S3x512, .f32⟩
  | .hbm, ⟨24, _⟩ => ⟨S3x512, .f32⟩
  | .hbm, ⟨25, _⟩ => ⟨S3x512, .f32⟩
  | .hbm, ⟨26, _⟩ => ⟨S_, .f32⟩
  | .hbm, ⟨27, _⟩ => ⟨S3x512, .f32⟩
  | .hbm, ⟨28, _⟩ => ⟨S3x512, .f32⟩
  | .hbm, ⟨29, _⟩ => ⟨S3x512, .f32⟩
  | .hbm, ⟨30, _⟩ => ⟨S_, .f32⟩
  | .hbm, ⟨31, _⟩ => ⟨S3x512, .f32⟩
  | .hbm, ⟨32, _⟩ => ⟨S3x512, .f32⟩
  | .hbm, ⟨33, _⟩ => ⟨S3x512, .f32⟩
  | .hbm, ⟨34, _⟩ => ⟨S_, .f32⟩
  | .hbm, ⟨35, _⟩ => ⟨S3x512, .f32⟩
  | .hbm, ⟨36, _⟩ => ⟨S3x512, .f32⟩
  | _, _ => ⟨S3x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamTapsB.lean ====
abbrev S31x512 : Shape := ⟨2, ![31, 512]⟩

abbrev nBuf : Space → Nat
  | .hbm => 7
  | .vmem => 7
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .local _ .vmem, ⟨0, _⟩ => ⟨S31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | _, _ => ⟨S31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamTapsBIdeal.lean ====
abbrev S31x512 : Shape := ⟨2, ![31, 512]⟩

abbrev nBuf : Space → Nat
  | .hbm => 7
  | .vmem => 7
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S31x512, .f32⟩
  | .hbm, ⟨5, _⟩ => ⟨S31x512, .f32⟩
  | .hbm, ⟨6, _⟩ => ⟨S31x512, .f32⟩
  | .local _ .vmem, ⟨0, _⟩ => ⟨S31x512, .f32⟩
  | .local _ .vmem, ⟨1, _⟩ => ⟨S31x512, .f32⟩
  | .local _ .vmem, ⟨2, _⟩ => ⟨S31x512, .f32⟩
  | .local _ .vmem, ⟨3, _⟩ => ⟨S31x512, .f32⟩
  | .local _ .vmem, ⟨4, _⟩ => ⟨S31x512, .f32⟩
  | .local _ .vmem, ⟨5, _⟩ => ⟨S31x512, .f32⟩
  | .local _ .vmem, ⟨6, _⟩ => ⟨S31x512, .f32⟩
  | _, _ => ⟨S31x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S31x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S31x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S31x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S31x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S31x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S31x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S31x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamTapsBIdeal.lean ====
abbrev S31x512 : Shape := ⟨2, ![31, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S31x512, .f32⟩
  | .hbm, ⟨1, _⟩ => ⟨S31x512, .f32⟩
  | .hbm, ⟨2, _⟩ => ⟨S31x512, .f32⟩
  | .hbm, ⟨3, _⟩ => ⟨S31x512, .f32⟩
  | .hbm, ⟨4, _⟩ => ⟨S_, .f32⟩
  | .hbm, ⟨5, _⟩ => ⟨S31x512, .f32⟩
  | .hbm, ⟨6, _⟩ => ⟨S31x512, .f32⟩
  | .hbm, ⟨7, _⟩ => ⟨S_, .f32⟩
  | .hbm, ⟨8, _⟩ => ⟨S31x512, .f32⟩
  | .hbm, ⟨9, _⟩ => ⟨S31x512, .f32⟩
  | .hbm, ⟨10, _⟩ => ⟨S31x512, .f32⟩
  | .hbm, ⟨11, _⟩ => ⟨S_, .f32⟩
  | .hbm, ⟨12, _⟩ => ⟨S31x512, .f32⟩
  | .hbm, ⟨13, _⟩ => ⟨S31x512, .f32⟩
  | .hbm, ⟨14, _⟩ => ⟨S31x512, .f32⟩
  | .hbm, ⟨15, _⟩ => ⟨S_, .f32⟩
  | .hbm, ⟨16, _⟩ => ⟨S31x512, .f32⟩
  | .hbm, ⟨17, _⟩ => ⟨S31x512, .f32⟩
  | .hbm, ⟨18, _⟩ => ⟨S31x512, .f32⟩
  | .hbm, ⟨19, _⟩ => ⟨S_, .f32⟩
  | .hbm, ⟨20, _⟩ => ⟨S31x512, .f32⟩
  | .hbm, ⟨21, _⟩ => ⟨S31x512, .f32⟩
  | .hbm, ⟨22, _⟩ => ⟨S_, .f32⟩
  | .hbm, ⟨23, _⟩ => ⟨S31x512, .f32⟩
  | .hbm, ⟨24, _⟩ => ⟨S31x512, .f32⟩
  | .hbm, ⟨25, _⟩ => ⟨S31x512, .f32⟩
  | .hbm, ⟨26, _⟩ => ⟨S_, .f32⟩
  | .hbm, ⟨27, _⟩ => ⟨S31x512, .f32⟩
  | .hbm, ⟨28, _⟩ => ⟨S31x512, .f32⟩
  | .hbm, ⟨29, _⟩ => ⟨S31x512, .f32⟩
  | .hbm, ⟨30, _⟩ => ⟨S_, .f32⟩
  | .hbm, ⟨31, _⟩ => ⟨S31x512, .f32⟩
  | .hbm, ⟨32, _⟩ => ⟨S31x512, .f32⟩
  | .hbm, ⟨33, _⟩ => ⟨S31x512, .f32⟩
  | .hbm, ⟨34, _⟩ => ⟨S_, .f32⟩
  | .hbm, ⟨35, _⟩ => ⟨S31x512, .f32⟩
  | .hbm, ⟨36, _⟩ => ⟨S31x512, .f32⟩
  | _, _ => ⟨S31x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamMixer.lean ====
abbrev S1x2048 : Shape := ⟨2, ![1, 2048]⟩

abbrev nBuf : Space → Nat
  | .hbm => 7
  | .vmem => 7
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== RefAdamMixerIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamAda.lean ====
abbrev S8x4096 : Shape := ⟨2, ![8, 4096]⟩
abbrev S8x3072 : Shape := ⟨2, ![8, 3072]⟩
abbrev S4096x3072 : Shape := ⟨2, ![4096, 3072]⟩
abbrev S4096x8 : Shape := ⟨2, ![4096, 8]⟩
abbrev S128x8 : Shape := ⟨2, ![128, 8]⟩
abbrev S128x3072 : Shape := ⟨2, ![128, 3072]⟩
abbrev S128x1 : Shape := ⟨2, ![128, 1]⟩
abbrev S1x3072 : Shape := ⟨2, ![1, 3072]⟩

abbrev nBuf : Space → Nat
  | .hbm => 10
  | .vmem => 17
  | .smem => 0
  | _ => 0

abbrev bufTy : (tb : Table) → Fin (tcTables nBuf tb) → BufTy
  | .hbm, ⟨0, _⟩ => ⟨S8x4096, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S4096x8, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .local _ .vmem, ⟨0, _⟩ => ⟨S128x8, .f32⟩
  | .local _ .vmem, ⟨1, _⟩ => ⟨S128x8, .f32⟩
  | .local _ .vmem, ⟨2, _⟩ => ⟨S8x3072, .f32⟩
  | .local _ .vmem, ⟨3, _⟩ => ⟨S128x3072, .f32⟩
  | .local _ .vmem, ⟨4, _⟩ => ⟨S128x3072, .f32⟩
  | .local _ .vmem, ⟨5, _⟩ => ⟨S128x3072, .f32⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x3072 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== RefAdamAdaIdeal.lean ====
abbrev S8x4096 : Shape := ⟨2, ![8, 4096]⟩
abbrev S8x3072 : Shape := ⟨2, ![8, 3072]⟩
abbrev S4096x3072 : Shape := ⟨2, ![4096, 3072]⟩
abbrev S_ : Shape := ⟨0, ![]⟩
abbrev S3072x4096 : Shape := ⟨2, ![3072, 4096]⟩

abbrev nBuf : Space → Nat
  | .hbm => 50
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S8x3072, .f32⟩
  | .hbm, ⟨2, _⟩ => ⟨S4096x3072, .f32⟩
  | .hbm, ⟨3, _⟩ => ⟨S4096x3072, .f32⟩
  | .hbm, ⟨4, _⟩ => ⟨S4096x3072, .f32⟩
  | .hbm, ⟨5, _⟩ => ⟨S8x4096, .f32⟩
  | .hbm, ⟨6, _⟩ => ⟨S8x4096, .f32⟩
  | .hbm, ⟨7, _⟩ => ⟨S_, .f32⟩
  | .hbm, ⟨8, _⟩ => ⟨S8x4096, .f32⟩
  | .hbm, ⟨9, _⟩ => ⟨S8x4096, .f32⟩
  | .hbm, ⟨10, _⟩ => ⟨S_, .f32⟩
  | .hbm, ⟨11, _⟩ => ⟨S8x4096, .f32⟩
  | .hbm, ⟨12, _⟩ => ⟨S8x4096, .f32⟩
  | .hbm, ⟨13, _⟩ => ⟨S8x4096, .f32⟩
  | .hbm, ⟨14, _⟩ => ⟨S8x3072, .f32⟩
  | .hbm, ⟨15, _⟩ => ⟨S3072x4096, .f32⟩
  | .hbm, ⟨16, _⟩ => ⟨S4096x3072, .f32⟩
  | .hbm, ⟨17, _⟩ => ⟨S_, .f32⟩
  | .hbm, ⟨18, _⟩ => ⟨S4096x3072, .f32⟩
  | .hbm, ⟨19, _⟩ => ⟨S4096x3072, .f32⟩
  | .hbm, ⟨20, _⟩ => ⟨S_, .f32⟩
  | .hbm, ⟨21, _⟩ => ⟨S4096x3072, .f32⟩
  | .hbm, ⟨22, _⟩ => ⟨S4096x3072, .f32⟩
  | .hbm, ⟨23, _⟩ => ⟨S4096x3072, .f32⟩
  | .hbm, ⟨24, _⟩ => ⟨S_, .f32⟩
  | .hbm, ⟨25, _⟩ => ⟨S4096x3072, .f32⟩
  | .hbm, ⟨26, _⟩ => ⟨S4096x3072, .f32⟩
  | .hbm, ⟨27, _⟩ => ⟨S4096x3072, .f32⟩
  | .hbm, ⟨28, _⟩ => ⟨S_, .f32⟩
  | .hbm, ⟨29, _⟩ => ⟨S4096x3072, .f32⟩
  | .hbm, ⟨30, _⟩ => ⟨S4096x3072, .f32⟩
  | .hbm, ⟨31, _⟩ => ⟨S4096x3072, .f32⟩
  | .hbm, ⟨32, _⟩ => ⟨S_, .f32⟩
  | .hbm, ⟨33, _⟩ => ⟨S4096x3072, .f32⟩
  | .hbm, ⟨34, _⟩ => ⟨S4096x3072, .f32⟩
  | .hbm, ⟨35, _⟩ => ⟨S_, .f32⟩
  | .hbm, ⟨36, _⟩ => ⟨S4096x3072, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_2 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_3 : Ref sig .tc := ⟨.hbm, 32, rfl⟩
abbrev main_v15 : Ref sig .tc := ⟨.hbm, 33, rfl⟩
abbrev main_v16 : Ref sig .tc := ⟨.hbm, 34, rfl⟩
abbrev main_cst_4 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_5 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_6 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_7 : Ref sig .tc := ⟨.hbm, 47, rfl⟩
abbrev main_v26 : Ref sig .tc := ⟨.hbm, 48, rfl⟩
abbrev main_v27 : Ref sig .tc := ⟨.hbm, 49, rfl⟩

abbrev nD : Nat := 1
abbrev τ : Topo := Topo.v7x

variable {F : FTy → Type} [FloatOps F]
-- ==== Gate.lean ====
abbrev S4096x14336 : Shape := ⟨2, ![4096, 14336]⟩
abbrev S4096x4096 : Shape := ⟨2, ![4096, 4096]⟩
abbrev S4096x2048 : Shape := ⟨2, ![4096, 2048]⟩
abbrev S1x2048 : Shape := ⟨2, ![1, 2048]⟩
abbrev S128x2048 : Shape := ⟨2, ![128, 2048]⟩
abbrev S128 : Shape := ⟨1, ![128]⟩
abbrev S128x1 : Shape := ⟨2, ![128, 1]⟩
abbrev S2048 : Shape := ⟨1, ![2048]⟩

abbrev nBuf : Space → Nat
  | .hbm => 11
  | .vmem => 15
  | .smem => 0
  | _ => 0

abbrev bufTy : (tb : Table) → Fin (tcTables nBuf tb) → BufTy
  | .hbm, ⟨0, _⟩ => ⟨S4096x14336, .bf16⟩
  | .hbm, ⟨1, _⟩ => ⟨S4096x4096, .f32⟩
  | .hbm, ⟨2, _⟩ => ⟨S4096x2048, .f32⟩
  | .hbm, ⟨3, _⟩ => ⟨S4096x14336, .bf16⟩
  | .hbm, ⟨4, _⟩ => ⟨S1x2048, .f32⟩
  | .hbm, ⟨5, _⟩ => ⟨S1x2048, .f32⟩
  | .hbm, ⟨6, _⟩ => ⟨S4096x14336, .bf16⟩
  | .hbm, ⟨7, _⟩ => ⟨S4096x2048, .f32⟩
  | .hbm, ⟨8, _⟩ => ⟨S1x2048, .f32⟩
  | .hbm, ⟨9, _⟩ => ⟨S1x2048, .f32⟩
  | .hbm, ⟨10, _⟩ => ⟨S1x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .bf16⟩
  | .local _ .vmem, ⟨5, _⟩ => ⟨S128x2048, .bf16⟩
  | .local _ .vmem, ⟨6, _⟩ => ⟨S1x2048, .f32⟩
  | .local _ .vmem, ⟨7, _⟩ => ⟨S1x2048, .f32⟩
  | .local _ .vmem, ⟨8, _⟩ => ⟨S128x2048, .bf16⟩
  | .local _ .vmem, ⟨9, _⟩ => ⟨S128x2048, .bf16⟩
  | .local _ .vmem, ⟨10, _⟩ => ⟨S128x2048, .f32⟩
  | .local _ .vmem, ⟨11, _⟩ => ⟨S128x2048, .f32⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S4096x14336, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_1 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== RefGateIdeal.lean ====
abbrev S4096x14336 : Shape := ⟨2, ![4096, 14336]⟩
abbrev S4096x4096 : Shape := ⟨2, ![4096, 4096]⟩
abbrev S4096x2048 : Shape := ⟨2, ![4096, 2048]⟩
abbrev S1x2048 : Shape := ⟨2, ![1, 2048]⟩
abbrev S_ : Shape := ⟨0, ![]⟩
abbrev S4096 : Shape := ⟨1, ![4096]⟩
abbrev S4096x1 : Shape := ⟨2, ![4096, 1]⟩
abbrev S2048 : Shape := ⟨1, ![2048]⟩

abbrev nBuf : Space → Nat
  | .hbm => 123
  | .vmem => 0
  | .smem => 0
  | _ => 0

abbrev bufTy : (tb : Table) → Fin (tcTables nBuf tb) → BufTy
  | .hbm, ⟨0, _⟩ => ⟨S4096x14336, .bf16⟩
  | .hbm, ⟨1, _⟩ => ⟨S4096x4096, .f32⟩
  | .hbm, ⟨2, _⟩ => ⟨S4096x2048, .f32⟩
  | .hbm, ⟨3, _⟩ => ⟨S4096x14336, .bf16⟩
  | .hbm, ⟨4, _⟩ => ⟨S1x2048, .f32⟩
  | .hbm, ⟨5, _⟩ => ⟨S1x2048, .f32⟩
  | .hbm, ⟨6, _⟩ => ⟨S4096x2048, .bf16⟩
  | .hbm, ⟨7, _⟩ => ⟨S4096x2048, .f32⟩
  | .hbm, ⟨8, _⟩ => ⟨S_, .f32⟩
  | .hbm, ⟨9, _⟩ => ⟨S1x2048, .f32⟩
  | .hbm, ⟨10, _⟩ => ⟨S4096x2048, .f32⟩
  | .hbm, ⟨11, _⟩ => ⟨S4096x2048, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x2048, .f32⟩
  | .hbm, ⟨19, _⟩ => ⟨S4096x2048, .f32⟩
  | .hbm, ⟨20, _⟩ => ⟨S4096x2048, .f32⟩
  | .hbm, ⟨21, _⟩ => ⟨S_, .f32⟩
  | .hbm, ⟨22, _⟩ => ⟨S4096, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x2048, .f32⟩
  | .hbm, ⟨36, _⟩ => ⟨S4096x2048, .f32⟩
  | .hbm, ⟨37, _⟩ => ⟨S4096x2048, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S_, .f32⟩
  | .hbm, ⟨47, _⟩ => ⟨S4096x2048, .f32⟩
  | .hbm, ⟨48, _⟩ => ⟨S4096x2048, .f32⟩
  | .hbm, ⟨49, _⟩ => ⟨S_, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S_, .f32⟩
  | .hbm, ⟨57, _⟩ => ⟨S4096x2048, .f32⟩
  | .hbm, ⟨58, _⟩ => ⟨S4096x2048, .f32⟩
  | .hbm, ⟨59, _⟩ => ⟨S_, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S4096x2048, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S4096x2048, .f32⟩
  | .hbm, ⟨73, _⟩ => ⟨S4096x2048, .f32⟩
  | .hbm, ⟨74, _⟩ => ⟨S4096x2048, .f32⟩
  | .hbm, ⟨75, _⟩ => ⟨S4096x2048, .f32⟩
  | .hbm, ⟨76, _⟩ => ⟨S4096x2048, .f32⟩
  | .hbm, ⟨77, _⟩ => ⟨S4096x2048, .f32⟩
  | .hbm, ⟨78, _⟩ => ⟨S4096x2048, .f32⟩
  | .hbm, ⟨79, _⟩ => ⟨S_, .f32⟩
  | .hbm, ⟨80, _⟩ => ⟨S2048, .f32⟩
  | .hbm, ⟨81, _⟩ => ⟨S1x2048, .f32⟩
  | .hbm, ⟨82, _⟩ => ⟨S4096x2048, .f32⟩
  | .hbm, ⟨83, _⟩ => ⟨S_, .f32⟩
  | .hbm, ⟨84, _⟩ => ⟨S2048, .f32⟩
  | .hbm, ⟨85, _⟩ => ⟨S1x2048, .f32⟩
  | .hbm, ⟨86, _⟩ => ⟨S4096x2048, .f32⟩
  | .hbm, ⟨87, _⟩ => ⟨S4096x2048, .f32⟩
  | .hbm, ⟨88, _⟩ => ⟨S4096x2048, .f32⟩
  | .hbm, ⟨89, _⟩ => ⟨S_, .f32⟩
  | .hbm, ⟨90, _⟩ => ⟨S4096, .f32⟩
  | .hbm, ⟨91, _⟩ => ⟨S4096x1, .f32⟩
  | .hbm, ⟨92, _⟩ => ⟨S4096x2048, .f32⟩
  | .hbm, ⟨93, _⟩ => ⟨S4096x2048, .f32⟩
  | .hbm, ⟨94, _⟩ => ⟨S4096x1, .f32⟩
  | .hbm, ⟨95, _⟩ => ⟨S_, .f32⟩
  | .hbm, ⟨96, _⟩ => ⟨S4096x1, .f32⟩
  | .hbm, ⟨97, _⟩ => ⟨S4096x1, .f32⟩
  | .hbm, ⟨98, _⟩ => ⟨S_, .f32⟩
  | .hbm, ⟨99, _⟩ => ⟨S4096, .f32⟩
  | .hbm, ⟨100, _⟩ => ⟨S4096x2048, .f32⟩
  | .hbm, ⟨101, _⟩ => ⟨S4096x2048, .f32⟩
  | .hbm, ⟨102, _⟩ => ⟨S4096x2048, .f32⟩
  | .hbm, ⟨103, _⟩ => ⟨S4096x2048, .f32⟩
  | .hbm, ⟨104, _⟩ => ⟨S4096x2048, .f32⟩
  | .hbm, ⟨105, _⟩ => ⟨S4096x2048, .f32⟩
  | .hbm, ⟨106, _⟩ => ⟨S_, .f32⟩
  | .hbm, ⟨107, _⟩ => ⟨S4096, .f32⟩
  | .hbm, ⟨108, _⟩ => ⟨S4096x1, .f32⟩
  | .hbm, ⟨109, _⟩ => ⟨S_, .f32⟩
  | .hbm, ⟨110, _⟩ => ⟨S4096x1, .f32⟩
  | .hbm, ⟨111, _⟩ => ⟨S4096x1, .f32⟩
  | .hbm, ⟨112, _⟩ => ⟨S_, .f32⟩
  | .hbm, ⟨113, _⟩ => ⟨S4096, .f32⟩
  | .hbm, ⟨114, _⟩ => ⟨S4096x2048, .f32⟩
  | .hbm, ⟨115, _⟩ => ⟨S4096x2048, .f32⟩
  | .hbm, ⟨116, _⟩ => ⟨S_, .f32⟩
  | .hbm, ⟨117, _⟩ => ⟨S2048, .f32⟩
  | .hbm, ⟨118, _⟩ => ⟨S1x2048, .f32⟩
  | .hbm, ⟨119, _⟩ => ⟨S4096x2048, .bf16⟩
  | .hbm, ⟨120, _⟩ => ⟨S_, .i32⟩
  | .hbm, ⟨121, _⟩ => ⟨S_, .i32⟩
  | .hbm, ⟨122, _⟩ => ⟨S4096x14336, .bf16⟩
  | _, _ => ⟨S4096x14336, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_cst_4 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_v28_2 : Ref sig .tc := ⟨.hbm, 48, rfl⟩
abbrev main_call0_cst_1 : Ref sig .tc := ⟨.hbm, 49, rfl⟩
abbrev main_call0_v6 : Ref sig .tc := ⟨.hbm, 50, rfl⟩
abbrev main_call0_v7 : Ref sig .tc := ⟨.hbm, 51, rfl⟩
abbrev main_v28_1 : Ref sig .tc := ⟨.hbm, 52, rfl⟩
abbrev main_v28_0 : Ref sig .tc := ⟨.hbm, 53, rfl⟩
abbrev main_call1_v0 : Ref sig .tc := ⟨.hbm, 54, rfl⟩
abbrev main_call1_v1 : Ref sig .tc := ⟨.hbm, 55, rfl⟩
abbrev main_call1_cst : Ref sig .tc := ⟨.hbm, 56, rfl⟩
abbrev main_call1_v2 : Ref sig .tc := ⟨.hbm, 57, rfl⟩
abbrev main_call1_v3 : Ref sig .tc := ⟨.hbm, 58, rfl⟩
abbrev main_call1_cst_0 : Ref sig .tc := ⟨.hbm, 59, rfl⟩
abbrev main_call1_v4 : Ref sig .tc := ⟨.hbm, 60, rfl⟩
abbrev main_v29_2 : Ref sig .tc := ⟨.hbm, 61, rfl⟩
abbrev main_call1_cst_1 : Ref sig .tc := ⟨.hbm, 62, rfl⟩
abbrev main_call1_v6 : Ref sig .tc := ⟨.hbm, 63, rfl⟩
abbrev main_call1_v7 : Ref sig .tc := ⟨.hbm, 64, rfl⟩
abbrev main_v29_1 : Ref sig .tc := ⟨.hbm, 65, rfl⟩
abbrev main_v29_0 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_call2_v0 : Ref sig .tc := ⟨.hbm, 71, rfl⟩
abbrev main_call2_v1 : Ref sig .tc := ⟨.hbm, 72, rfl⟩
abbrev main_call2_v2 : Ref sig .tc := ⟨.hbm, 73, rfl⟩
abbrev main_v34 : Ref sig .tc := ⟨.hbm, 74, rfl⟩
abbrev main_call3_v0 : Ref sig .tc := ⟨.hbm, 75, rfl⟩
abbrev main_call3_v1 : Ref sig .tc := ⟨.hbm, 76, rfl⟩
abbrev main_call3_v2 : Ref sig .tc := ⟨.hbm, 77, rfl⟩
abbrev main_v35 : Ref sig .tc := ⟨.hbm, 78, rfl⟩
abbrev main_cst_6 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_cst_7 : Ref sig .tc := ⟨.hbm, 83, rfl⟩
abbrev main_v39 : Ref sig .tc := ⟨.hbm, 84, rfl⟩
abbrev main_v40 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_cst_8 : Ref sig .tc := ⟨.hbm, 89, rfl⟩
abbrev main_v44 : Ref sig .tc := ⟨.hbm, 90, rfl⟩
abbrev main_v45 : Ref sig .tc := ⟨.hbm, 91, rfl⟩
abbrev main_v46 : Ref sig .tc := ⟨.hbm, 92, rfl⟩
abbrev main_v47 : Ref sig .tc := ⟨.hbm, 93, rfl⟩
abbrev main_v48 : Ref sig .tc := ⟨.hbm, 94, rfl⟩
abbrev main_cst_9 : Ref sig .tc := ⟨.hbm, 95, rfl⟩
abbrev main_v49 : Ref sig .tc := ⟨.hbm, 96, rfl⟩
abbrev main_v50 : Ref sig .tc := ⟨.hbm, 97, rfl⟩
abbrev main_cst_10 : Ref sig .tc := ⟨.hbm, 98, rfl⟩
abbrev main_v51 : Ref sig .tc := ⟨.hbm, 99, rfl⟩
abbrev main_v52 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_11 : Ref sig .tc := ⟨.hbm, 106, rfl⟩
abbrev main_v58 : Ref sig .tc := ⟨.hbm, 107, rfl⟩
abbrev main_v59 : Ref sig .tc := ⟨.hbm, 108, rfl⟩
abbrev main_cst_12 : Ref sig .tc := ⟨.hbm, 109, rfl⟩
abbrev main_v60 : Ref sig .tc := ⟨.hbm, 110, rfl⟩
abbrev main_v61 : Ref sig .tc := ⟨.hbm, 111, rfl⟩
abbrev main_cst_13 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_cst_14 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_c : Ref sig .tc := ⟨.hbm, 120, rfl⟩
abbrev main_c_15 : Ref sig .tc := ⟨.hbm, 121, rfl⟩
abbrev main_v68 : Ref sig .tc := ⟨.hbm, 122, rfl⟩

abbrev nD : Nat := 1
abbrev τ : Topo := Topo.v7x

variable {F : FTy → Type} [FloatOps F]
-- ==== Proof.DyValue.lean ====
module

public import proofs.«01_k».proof.Proof.Gen.DyIdeal.Value
public import proofs.«01_k».proof.Defs
public import proofs.«01_k».proof.Proof.Gen.RefDyIdeal.Run
public import Idealize.ShloMosaic.Lib.Quiescent
public import Idealize.ShloMosaic.Lib.Pointwise
public import Idealize.ShloMosaic.Lib.Pipeline.Value

@[expose] public section

set_option maxRecDepth 16384

noncomputable section

namespace Cert.DyIdeal.Product

open Cert.DyIdeal Cert.DyIdeal.Gen Idealize.ShloMosaic Idealize.ShloMosaic.TcCoe Idealize.SL.Sem
open Idealize.ShloMosaic.Pipeline (Dat)

variable (m : (ℓ : Loc nD τ sig) → Buf (Elt Ideal) ℓ)

/-- The product of the rows of `a` with the rows of `b`. -/
def rows (a b : Vec Ideal S4096x4096 .bf16) : Vec Ideal S4096x4096 .f32 :=
  fun i => ∑ k : Fin 4096, a (ix2 (i 0) k) * b (ix2 (i 1) k)

/-- What the kernel's result array holds in the end. -/
abbrev result (c : Dev nD) : Buf (Elt Ideal) ((c : Thread nD τ).loc main_v0) :=
  rows (m ((c : Thread nD τ).loc main_arg0)) (m ((c : Thread nD τ).loc main_arg1))

theorem zeros : (![0, 0] : Fin 2 → Nat) = fun _ => 0 := funext fun a => by fin_cases a <;> rfl

/-- The block positions of the three windows at a point. -/
theorem positions : ∀ t : Fin cfg0.N,
    win0_0.index t (0 : Fin 2) = win0_2.index t (0 : Fin 2) ∧ win0_0.index t (1 : Fin 2) = 0
    ∧ win0_1.index t (0 : Fin 2) = win0_2.index t (1 : Fin 2) ∧ win0_1.index t (1 : Fin 2) = 0 :=
  (by decide +kernel : ∀ t : Fin grid0.N, _)

/-- Every block of the result is written at some point. -/
theorem positions_onto : ∀ p : Fin 4, ∀ q : Fin 4, ∃ t : Fin cfg0.N,
    win0_2.index t (0 : Fin 2) = p.val ∧ win0_2.index t (1 : Fin 2) = q.val :=
  (by decide +kernel : ∀ p : Fin 4, ∀ q : Fin 4, ∃ t : Fin grid0.N, _)

/-- The body's product at an index. -/
theorem product_apply (x w : Vec Ideal S1024x4096 .bf16) (y : S1024x1024.Idx) :
    k0_pay1 x w y = ∑ k : Fin 4096, x (ix2 (y 0) k) * w (ix2 (y 1) k) := by
  pointwise [k0_pay1]

/-- What a point writes back is its block of the product. -/
theorem flushed_eq (c : Dev nD) (t : Fin cfg0.N) :
    (dats m 0 c).flushed 2 t = ((cfg0.win 2).blk t).view.read (Elt Ideal) (result m c) := by
  obtain ⟨h0, h1, h2, h3⟩ := positions t
  rw [Value.flushed2]
  funext y
  unfold out0_2
  rw [View.canon_unit_zero zeros, View.ld_unit_zero (S := S1024x4096) zeros, View.ld_unit_zero (S := S1024x4096) zeros]
  show k0_pay1 (F := Ideal) (iblk m c 0 t) (iblk m c 1 t) y = rows _ _ (((cfg0.win 2).blk t).view.emb y)
  rw [product_apply]
  unfold rows
  refine Finset.sum_congr rfl fun k _ => ?_
  congr 1
  · show V m c main_arg0 _ = _
    rw [V_main_arg0]
    congr 1
    funext a
    apply Fin.ext
    match a with
    | ⟨0, _⟩ => show win0_0.index t 0 * 1024 + 1 * (y 0).val = win0_2.index t 0 * 1024 + 1 * (y 0).val; rw [h0]
    | ⟨1, _⟩ => show win0_0.index t 1 * 4096 + 1 * k.val = k.val; rw [h1]; omega
  · show V m c main_arg1 _ = _
    rw [V_main_arg1]
    congr 1
    funext a
    apply Fin.ext
    match a with
    | ⟨0, _⟩ => show win0_1.index t 0 * 1024 + 1 * (y 1).val = win0_2.index t 1 * 1024 + 1 * (y 1).val; rw [h2]
    | ⟨1, _⟩ => show win0_1.index t 1 * 4096 + 1 * k.val = k.val; rw [h3]; omega

theorem mem_block (t : Fin cfg0.N) (i : S4096x4096.Idx) : i ∈ ((cfg0.win 2).blk t).view.set ↔
    ∀ a : Fin 2, win0_2.index t a * S1024x1024.size a ≤ (i a : Nat)
      ∧ (i a : Nat) < win0_2.index t a * S1024x1024.size a + S1024x1024.size a := by
  show i ∈ ((View.whole main_v0).slice (win0_2.rect t)).set ↔ _
  rw [View.set_slice_whole, Rect.mem_set_unit]
  exact Iff.rfl

theorem final (c : Dev nD) : (dats m 0 c).arrAt 2 cfg0.N = result m c :=
  (dats m 0 c).arrAt_eq_of_cover 2 (result m c) (fun t _ => flushed_eq m c t) fun i => by
    have h0 : (i 0 : Nat) < 4096 := (i 0).isLt
    have h1 : (i 1 : Nat) < 4096 := (i 1).isLt
    obtain ⟨t, e0, e1⟩ := positions_onto ⟨(i 0 : Nat) / 1024, by omega⟩ ⟨(i 1 : Nat) / 1024, by omega⟩
    refine ⟨t, flush0_2 t, ?_⟩
    rw [mem_block]
    intro a
    match a with
    | ⟨0, _⟩ =>
      show win0_2.index t 0 * 1024 ≤ (i 0 : Nat) ∧ (i 0 : Nat) < win0_2.index t 0 * 1024 + 1024
      rw [e0]; dsimp only; omega
    | ⟨1, _⟩ =>
      show win0_2.index t 1 * 1024 ≤ (i 1 : Nat) ∧ (i 1 : Nat) < win0_2.index t 1 * 1024 + 1024
      rw [e1]; dsimp only; omega

end Cert.DyIdeal.Product

/-! ## The claim -/

namespace Cert.Dy.Claims

open Idealize.ShloMosaic Idealize.ShloMosaic.TcCoe Idealize.SL.Sem

/-- The reference's product, element by element. -/
theorem reference_eq (a b : Vec Ideal Cert.DyIdeal.S4096x4096 .bf16) (h : FTy.bits .bf16 < FTy.bits .f32) :
    (Host.dotGeneral Cert.RefDyIdeal.dot_S4096x4096_S4096x4096_S4096x4096_1_1_0_0_n_n none
      (extf (F := Ideal) .f32 a h) (extf (F := Ideal) .f32 b h) : Vec Ideal Cert.DyIdeal.S4096x4096 .f32)
      = Cert.DyIdeal.Product.rows a b := by
  funext i
  pointwise [Cert.DyIdeal.Product.rows]

theorem algebraic : Cert.algebraic_DyIdeal_RefDyIdeal := fun m ρ m' ρ' _ hag =>
  ⟨Cert.DyIdeal.Product.result m,
    (θ_run _ _ _).mono (fun _ h c => ⟨(h c).1.trans (Cert.DyIdeal.Product.final m c), (h c).2⟩)
      (Cert.DyIdeal.Value.run_blocks m ρ),
    (θ_run _ _ _).mono (fun _ h c => ⟨(h c).1.trans (by rw [(hag c).1, (hag c).2]; exact reference_eq _ _ _), (h c).2⟩)
      (Cert.RefDyIdeal.Value.run m' ρ')⟩

/-- The reference ends with its arguments unchanged and every counter at zero. -/
theorem reference_quiescent : Cert.quiescent_RefDyIdeal := fun m ρ _ =>
  (θ_run _ _ _).mono (fun r h => ⟨fun c => (h c).2, sem_eq_zero_of_no_sems (by decide) r.2⟩)
    (Cert.RefDyIdeal.Value.run m ρ)

end Cert.Dy.Claims

end
-- ==== Proof.GradWOutValue.lean ====
module

public import proofs.«01_k».proof.Proof.Gen.GradWOutIdeal.Value
public import proofs.«01_k».proof.Defs
public import proofs.«01_k».proof.Proof.Gen.RefGradWOutIdeal.Run
public import Idealize.ShloMosaic.Lib.Quiescent
public import Idealize.ShloMosaic.Lib.Pointwise
public import Idealize.ShloMosaic.Lib.Pipeline.Value

@[expose] public section

set_option maxRecDepth 16384

noncomputable section

namespace Cert.GradWOutIdeal.Product

open Cert.GradWOutIdeal Cert.GradWOutIdeal.Gen Idealize.ShloMosaic Idealize.ShloMosaic.TcCoe Idealize.SL.Sem
open Idealize.ShloMosaic.Pipeline (Dat)

variable (m : (ℓ : Loc nD τ sig) → Buf (Elt Ideal) ℓ)

/-- The product of the columns of `a` with the columns of `b`. -/
def columns (a b : Vec Ideal S4096x4096 .bf16) : Vec Ideal S4096x4096 .f32 :=
  fun i => ∑ k : Fin 4096, a (ix2 k (i 0)) * b (ix2 k (i 1))

/-- What the kernel's result array holds in the end. -/
abbrev result (c : Dev nD) : Buf (Elt Ideal) ((c : Thread nD τ).loc main_v0) :=
  columns (m ((c : Thread nD τ).loc main_arg0)) (m ((c : Thread nD τ).loc main_arg1))

theorem zeros : (![0, 0] : Fin 2 → Nat) = fun _ => 0 := funext fun a => by fin_cases a <;> rfl

/-- The block positions of the three windows at a point. -/
theorem positions : ∀ t : Fin cfg0.N,
    win0_0.index t (1 : Fin 2) = win0_2.index t (0 : Fin 2) ∧ win0_0.index t (0 : Fin 2) = 0
    ∧ win0_1.index t (1 : Fin 2) = win0_2.index t (1 : Fin 2) ∧ win0_1.index t (0 : Fin 2) = 0 :=
  (by decide +kernel : ∀ t : Fin grid0.N, _)

/-- Every block of the result is written at some point. -/
theorem positions_onto : ∀ p : Fin 4, ∀ q : Fin 4, ∃ t : Fin cfg0.N,
    win0_2.index t (0 : Fin 2) = p.val ∧ win0_2.index t (1 : Fin 2) = q.val :=
  (by decide +kernel : ∀ p : Fin 4, ∀ q : Fin 4, ∃ t : Fin grid0.N, _)

/-- The body's product at an index. -/
theorem product_apply (x w : Vec Ideal S4096x1024 .bf16) (y : S1024x1024.Idx) :
    k0_pay1 x w y = ∑ k : Fin 4096, x (ix2 k (y 0)) * w (ix2 k (y 1)) := by
  pointwise [k0_pay1]

/-- What a point writes back is its block of the product. -/
theorem flushed_eq (c : Dev nD) (t : Fin cfg0.N) :
    (dats m 0 c).flushed 2 t = ((cfg0.win 2).blk t).view.read (Elt Ideal) (result m c) := by
  obtain ⟨h0, h1, h2, h3⟩ := positions t
  rw [Value.flushed2]
  funext y
  unfold out0_2
  rw [View.canon_unit_zero zeros, View.ld_unit_zero (S := S4096x1024) zeros, View.ld_unit_zero (S := S4096x1024) zeros]
  show k0_pay1 (F := Ideal) (iblk m c 0 t) (iblk m c 1 t) y = columns _ _ (((cfg0.win 2).blk t).view.emb y)
  rw [product_apply]
  unfold columns
  refine Finset.sum_congr rfl fun k _ => ?_
  congr 1
  · show V m c main_arg0 _ = _
    rw [V_main_arg0]
    congr 1
    funext a
    apply Fin.ext
    match a with
    | ⟨1, _⟩ => show win0_0.index t 1 * 1024 + 1 * (y 0).val = win0_2.index t 0 * 1024 + 1 * (y 0).val; rw [h0]
    | ⟨0, _⟩ => show win0_0.index t 0 * 4096 + 1 * k.val = k.val; rw [h1]; omega
  · show V m c main_arg1 _ = _
    rw [V_main_arg1]
    congr 1
    funext a
    apply Fin.ext
    match a with
    | ⟨1, _⟩ => show win0_1.index t 1 * 1024 + 1 * (y 1).val = win0_2.index t 1 * 1024 + 1 * (y 1).val; rw [h2]
    | ⟨0, _⟩ => show win0_1.index t 0 * 4096 + 1 * k.val = k.val; rw [h3]; omega

theorem mem_block (t : Fin cfg0.N) (i : S4096x4096.Idx) : i ∈ ((cfg0.win 2).blk t).view.set ↔
    ∀ a : Fin 2, win0_2.index t a * S1024x1024.size a ≤ (i a : Nat)
      ∧ (i a : Nat) < win0_2.index t a * S1024x1024.size a + S1024x1024.size a := by
  show i ∈ ((View.whole main_v0).slice (win0_2.rect t)).set ↔ _
  rw [View.set_slice_whole, Rect.mem_set_unit]
  exact Iff.rfl

theorem final (c : Dev nD) : (dats m 0 c).arrAt 2 cfg0.N = result m c :=
  (dats m 0 c).arrAt_eq_of_cover 2 (result m c) (fun t _ => flushed_eq m c t) fun i => by
    have h0 : (i 0 : Nat) < 4096 := (i 0).isLt
    have h1 : (i 1 : Nat) < 4096 := (i 1).isLt
    obtain ⟨t, e0, e1⟩ := positions_onto ⟨(i 0 : Nat) / 1024, by omega⟩ ⟨(i 1 : Nat) / 1024, by omega⟩
    refine ⟨t, flush0_2 t, ?_⟩
    rw [mem_block]
    intro a
    match a with
    | ⟨0, _⟩ =>
      show win0_2.index t 0 * 1024 ≤ (i 0 : Nat) ∧ (i 0 : Nat) < win0_2.index t 0 * 1024 + 1024
      rw [e0]; dsimp only; omega
    | ⟨1, _⟩ =>
      show win0_2.index t 1 * 1024 ≤ (i 1 : Nat) ∧ (i 1 : Nat) < win0_2.index t 1 * 1024 + 1024
      rw [e1]; dsimp only; omega

end Cert.GradWOutIdeal.Product

/-! ## The claim -/

namespace Cert.GradWOut.Claims

open Idealize.ShloMosaic Idealize.ShloMosaic.TcCoe Idealize.SL.Sem

/-- The reference's product, element by element. -/
theorem reference_eq (a b : Vec Ideal Cert.GradWOutIdeal.S4096x4096 .bf16) (h : FTy.bits .bf16 < FTy.bits .f32)
    (ht : Shape.Transposes Cert.RefGradWOutIdeal.S4096x4096 [1, 0] Cert.RefGradWOutIdeal.S4096x4096) :
    (transpose Cert.RefGradWOutIdeal.S4096x4096 [1, 0] (Host.dotGeneral Cert.RefGradWOutIdeal.dot_S4096x4096_S4096x4096_S4096x4096_0_0_1_1_n_n none
      (extf (F := Ideal) .f32 b h) (extf (F := Ideal) .f32 a h))
      ht : Vec Ideal Cert.GradWOutIdeal.S4096x4096 .f32)
      = Cert.GradWOutIdeal.Product.columns a b := by
  funext i
  pointwise [Cert.GradWOutIdeal.Product.columns]
  exact Finset.sum_congr rfl fun k _ => mul_comm _ _

theorem algebraic : Cert.algebraic_GradWOutIdeal_RefGradWOutIdeal := fun m ρ m' ρ' _ hag =>
  ⟨Cert.GradWOutIdeal.Product.result m,
    (θ_run _ _ _).mono (fun _ h c => ⟨(h c).1.trans (Cert.GradWOutIdeal.Product.final m c), (h c).2⟩)
      (Cert.GradWOutIdeal.Value.run_blocks m ρ),
    (θ_run _ _ _).mono (fun _ h c => ⟨(h c).1.trans (by rw [(hag c).1, (hag c).2]; exact reference_eq _ _ _ _), (h c).2⟩)
      (Cert.RefGradWOutIdeal.Value.run m' ρ')⟩

/-- The reference ends with its arguments unchanged and every counter at zero. -/
theorem reference_quiescent : Cert.quiescent_RefGradWOutIdeal := fun m ρ _ =>
  (θ_run _ _ _).mono (fun r h => ⟨fun c => (h c).2, sem_eq_zero_of_no_sems (by decide) r.2⟩)
    (Cert.RefGradWOutIdeal.Value.run m ρ)

end Cert.GradWOut.Claims

end
-- ==== Proof.DhValue.lean ====
module

public import proofs.«01_k».proof.Proof.Gen.DhIdeal.Value
public import proofs.«01_k».proof.Defs
public import proofs.«01_k».proof.Proof.Gen.RefDhIdeal.Run
public import Idealize.ShloMosaic.Lib.Quiescent
public import Idealize.ShloMosaic.Lib.Pointwise
public import Idealize.ShloMosaic.Lib.Pipeline.Value
public import Idealize.ShloMosaic.Lib.Tactic
public import Idealize.ShloMosaic.Lib.Pipeline.ValueKit.Acc

@[expose] public section

set_option maxRecDepth 16384

noncomputable section

namespace Cert.DhIdeal.Product

open Cert.DhIdeal Cert.DhIdeal.Gen Idealize.ShloMosaic Idealize.ShloMosaic.TcCoe Idealize.SL.Sem
open Idealize.ShloMosaic.Pipeline (Dat)

variable (m : (ℓ : Loc nD τ sig) → Buf (Elt Ideal) ℓ)

/-- The rows of `a` against the rows of the eight pieces `w`, the contracted axis cut into the pieces' columns. -/
def rows (a : Vec Ideal S4096x14336 .bf16) (w : Vec Ideal S8x4096x1792 .bf16) : Vec Ideal S4096x4096 .f32 :=
  fun i => ∑ d : Fin 8, ∑ k : Fin 1792, a (ix2 (i 0) ⟨d.val * 1792 + k.val, by omega⟩) * w (ix3 d (i 1) k)

abbrev result (c : Dev nD) : Buf (Elt Ideal) ((c : Thread nD τ).loc main_v0) :=
  rows (m ((c : Thread nD τ).loc main_arg0)) (m ((c : Thread nD τ).loc main_arg1))

theorem zeros : (![0, 0] : Fin 2 → Nat) = fun _ => 0 := funext fun a => by fin_cases a <;> rfl

/-- What one point adds: the products over the columns of two pieces. -/
def addend (x : Vec Ideal S1024x3584 .bf16) (w : Vec Ideal S2x1024x1792 .bf16) : Vec Ideal S1024x1024 .f32 :=
  fun y => (∑ k : Fin 1792, x (ix2 (y 0) ⟨k.val, by omega⟩) * w (ix3 0 (y 1) k))
    + ∑ k : Fin 1792, x (ix2 (y 0) ⟨1792 + k.val, by omega⟩) * w (ix3 1 (y 1) k)

theorem pay_eq (x : Vec Ideal S1024x3584 .bf16) (w : Vec Ideal S2x1024x1792 .bf16)
    (h0 : ∀ a, (![0, 0] : Fin 2 → Nat) a + S1024x1792.size a ≤ S1024x3584.size a)
    (h1 : ∀ a, (![0, 0, 0] : Fin 3 → Nat) a + S1x1024x1792.size a ≤ S2x1024x1792.size a)
    (h2 : ∀ a, (![0, 1792] : Fin 2 → Nat) a + S1024x1792.size a ≤ S1024x3584.size a)
    (h3 : ∀ a, (![1, 0, 0] : Fin 3 → Nat) a + S1x1024x1792.size a ≤ S2x1024x1792.size a) :
    k0_pay1 (F := Ideal) (View.ld x (Rect.unit ![0, 0] S1024x1792.size h0)) (View.ld w (Rect.unit ![0, 0, 0] S1x1024x1792.size h1))
      (View.ld x (Rect.unit ![0, 1792] S1024x1792.size h2)) (View.ld w (Rect.unit ![1, 0, 0] S1x1024x1792.size h3))
      = addend x w := by
  rw [View.ld_unit, View.ld_unit, View.ld_unit, View.ld_unit]
  funext y
  pointwise [k0_pay1, addend]

theorem scratch_first (c : Dev nD) (i : grid0.Coords) (a3 : Memref sig .tc .vmem S1024x3584 .bf16) (h3 : a3.IsWhole)
    (a4 : Memref sig .tc .vmem S2x1024x1792 .bf16) (h4 : a4.IsWhole) (a5 : Memref sig .tc .vmem S1024x1024 .f32) (h5 : a5.IsWhole)
    (a6 : Memref sig .tc .vmem S1024x1024 .f32) (h6 : a6.IsWhole) (hc0 : cond0_0 i) (hc1 : ¬cond0_1 i) (hc2 : ¬cond0_2 i)
    (x : Vec Ideal S1024x3584 .bf16) (w : Vec Ideal S2x1024x1792 .bf16) :
    sout0_A_0 c i a3 h3 a4 h4 a5 h5 a6 h6 hc0 hc1 hc2 x w = addend x w := by
  unfold sout0_A_0
  rw [View.read_writes_eq_canon _ _ _ (scover0_A_0 c i a3 h3 a4 h4 a5 h5 a6 h6 hc0 hc1 hc2 x w)]
  unfold kernelRun0_A
  dsimp only
  sl_unfold_words
  rw [View.canon_unit_zero zeros]
  unfold k0_pay2
  simp only [View.readAt_eq_ld, h3.read_unread, h4.read_unread, shapeCast_self]
  exact pay_eq ..

theorem scratch_next (c : Dev nD) (i : grid0.Coords) (a3 : Memref sig .tc .vmem S1024x3584 .bf16) (h3 : a3.IsWhole)
    (a4 : Memref sig .tc .vmem S2x1024x1792 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i) (hc2 : ¬cond0_2 i)
    (x : Vec Ideal S1024x3584 .bf16) (w : Vec Ideal S2x1024x1792 .bf16) (s : Vec Ideal S1024x1024 .f32) :
    sout0_B_0 c i a3 h3 a4 h4 a5 h5 a6 h6 hc0 hc1 hc2 x w s = addf (F := Ideal) (φ := .f32) s (addend x w) := by
  unfold sout0_B_0
  rw [View.read_writes_eq_canon _ _ _ (scover0_B_0 c i a3 h3 a4 h4 a5 h5 a6 h6 hc0 hc1 hc2 x w s)]
  unfold kernelRun0_B
  dsimp only
  sl_unfold_words
  rw [View.canon_unit_zero zeros]
  unfold k0_pay3
  simp only [View.readAt_eq_ld, h3.read_unread, h4.read_unread, h6.read_unread, shapeCast_self, View.ld_unit_zero (S := S1024x1024) zeros]
  exact congrArg _ (pay_eq ..)

theorem out_last (c : Dev nD) (i : grid0.Coords) (a3 : Memref sig .tc .vmem S1024x3584 .bf16) (h3 : a3.IsWhole)
    (a4 : Memref sig .tc .vmem S2x1024x1792 .bf16) (h4 : a4.IsWhole) (a5 : Memref sig .tc .vmem S1024x1024 .f32) (h5 : a5.IsWhole)
    (a6 : Memref sig .tc .vmem S1024x1024 .f32) (h6 : a6.IsWhole) (hc0 : ¬cond0_0 i) (hc1 : cond0_1 i) (hc2 : cond0_2 i)
    (x : Vec Ideal S1024x3584 .bf16) (w : Vec Ideal S2x1024x1792 .bf16) (s : Vec Ideal S1024x1024 .f32) :
    out0_C_2 c i a3 h3 a4 h4 a5 h5 a6 h6 hc0 hc1 hc2 x w s = addf (F := Ideal) (φ := .f32) s (addend x w) := by
  unfold out0_C_2
  rw [View.read_writes_eq_canon _ _ _ (cover0_C_2 c i a3 h3 a4 h4 a5 h5 a6 h6 hc0 hc1 hc2 x w s)]
  unfold kernelRun0_C
  dsimp only
  sl_unfold_words
  rw [View.canon_unit_zero zeros]
  simp only [View.readCov_unit_zero (S := S1024x1024) _ zeros]
  unfold k0_pay3
  simp only [View.readAt_eq_ld, h3.read_unread, h4.read_unread, h6.read_unread, shapeCast_self, View.ld_unit_zero (S := S1024x1024) zeros]
  exact congrArg _ (pay_eq ..)

/-- What point `n` adds, read off the arrays. -/
def term (c : Dev nD) (n : ℕ) (h : n < cfg0.N) : Vec Ideal S1024x1024 .f32 :=
  addend (iblk m c 0 ⟨n, h⟩) (iblk m c 1 ⟨n, h⟩)

/-- What the scratch holds after the points of a run. -/
theorem carried_zero (c : Dev nD) (n : ℕ) (h : n < cfg0.N) (h0 : n % 4 = 0) : (outsAt0 m c n h).2 = term m c n h := by
  rw [outsAt0_A m c ⟨n, h⟩ h0 (by dsimp only; omega) (by dsimp only; omega)]
  dsimp only
  rw [scratch_first]
  rfl

theorem carried_succ (c : Dev nD) (n : ℕ) (h : n + 1 < cfg0.N) (h0 : (n + 1) % 4 ≠ 0) (h2 : (n + 1) % 4 ≠ 3) :
    (outsAt0 m c (n + 1) h).2 = addf (F := Ideal) (φ := .f32) (outsAt0 m c n (Nat.lt_of_succ_lt h)).2 (term m c (n + 1) h) := by
  rw [outsAt0_B m c ⟨n + 1, h⟩ h0 (by dsimp only; omega) h2]
  dsimp only
  rw [scratch_next]
  rfl

theorem out_succ (c : Dev nD) (n : ℕ) (h : n + 1 < cfg0.N) (h2 : (n + 1) % 4 = 3) :
    (outsAt0 m c (n + 1) h).1 = addf (F := Ideal) (φ := .f32) (outsAt0 m c n (Nat.lt_of_succ_lt h)).2 (term m c (n + 1) h) := by
  rw [outsAt0_C m c ⟨n + 1, h⟩ (by dsimp only; omega) (by dsimp only; omega) h2]
  dsimp only
  rw [out_last]
  rfl

theorem out_run (c : Dev nD) (n : ℕ) (h : n + 1 + 1 + 1 < cfg0.N) (h0 : n % 4 = 0) :
    (outsAt0 m c (n + 1 + 1 + 1) h).1
      = addf (F := Ideal) (φ := .f32) (addf (F := Ideal) (φ := .f32) (addf (F := Ideal) (φ := .f32) (term m c n (by omega)) (term m c (n + 1) (by omega))) (term m c (n + 1 + 1) (by omega))) (term m c (n + 1 + 1 + 1) h) := by
  rw [out_succ m c (n + 1 + 1) h (by omega), carried_succ m c (n + 1) _ (by omega) (by omega), carried_succ m c n _ (by omega) (by omega),
    carried_zero m c n _ h0]

/-- The block positions of the three windows at a point. -/
theorem positions : ∀ t : Fin cfg0.N,
    win0_0.index t (0 : Fin 2) = win0_2.index t (0 : Fin 2) ∧ win0_0.index t (1 : Fin 2) = t.val % 4
    ∧ win0_1.index t (0 : Fin 3) = t.val % 4 ∧ win0_1.index t (1 : Fin 3) = win0_2.index t (1 : Fin 2) ∧ win0_1.index t (2 : Fin 3) = 0
    ∧ win0_2.index t (0 : Fin 2) = t.val / 16 ∧ win0_2.index t (1 : Fin 2) = t.val / 4 % 4 :=
  (by decide +kernel : ∀ t : Fin grid0.N, _)

theorem positions_onto : ∀ p : Fin 4, ∀ q : Fin 4, ∃ t : Fin cfg0.N,
    t.val % 4 = 3 ∧ win0_2.index t (0 : Fin 2) = p.val ∧ win0_2.index t (1 : Fin 2) = q.val :=
  (by decide +kernel : ∀ p : Fin 4, ∀ q : Fin 4, ∃ t : Fin grid0.N, _)

/-- A point's addend at an index: the columns of pieces `2 s` and `2 s + 1`. -/
theorem term_apply (c : Dev nD) (n : ℕ) (h : n < cfg0.N) (y : S1024x1024.Idx) (p q : Fin 4096) (s : ℕ) (hs : s < 4)
    (hp : p.val = n / 16 * 1024 + (y 0).val) (hq : q.val = n / 4 % 4 * 1024 + (y 1).val) (hn : n % 4 = s)
    (A : Vec Ideal S4096x14336 .bf16) (W : Vec Ideal S8x4096x1792 .bf16)
    (hA : m ((c : Thread nD τ).loc main_arg0) = A) (hW : m ((c : Thread nD τ).loc main_arg1) = W) :
    term m c n h y
      = (∑ k : Fin 1792, A (ix2 p ⟨(2 * s) * 1792 + k.val, by omega⟩) * W (ix3 ⟨2 * s, by omega⟩ q k))
        + ∑ k : Fin 1792, A (ix2 p ⟨(2 * s + 1) * 1792 + k.val, by omega⟩) * W (ix3 ⟨2 * s + 1, by omega⟩ q k) := by
  obtain ⟨e0, e1, e2, e3, e4, e5, e6⟩ := positions ⟨n, h⟩
  rw [e5] at e0
  rw [e6] at e3
  dsimp only at e0 e1 e2 e3
  have r0 : ∀ z : S1024x3584.Idx, iblk m c 0 ⟨n, h⟩ z = A
      (ix2 ⟨n / 16 * 1024 + (z 0).val, by have := (z 0).isLt; have := lt_of_lt_of_eq h N_0; change (z 0).val < 1024 at *; omega⟩ ⟨s * 3584 + (z 1).val, by have h := (z 1).isLt; change (z 1).val < 3584 at h; omega⟩) := by
    intro z
    show V m c main_arg0 _ = _
    rw [V_main_arg0, hA]
    congr 1
    funext a
    apply Fin.ext
    match a with
    | ⟨0, _⟩ => show win0_0.index ⟨n, h⟩ 0 * 1024 + 1 * (z 0).val = n / 16 * 1024 + (z 0).val; rw [e0]; omega
    | ⟨1, _⟩ => show win0_0.index ⟨n, h⟩ 1 * 3584 + 1 * (z 1).val = s * 3584 + (z 1).val; rw [e1]; omega
  have r1 : ∀ z : S2x1024x1792.Idx, iblk m c 1 ⟨n, h⟩ z = W
      (ix3 ⟨s * 2 + (z 0).val, by have h := (z 0).isLt; change (z 0).val < 2 at h; omega⟩ ⟨n / 4 % 4 * 1024 + (z 1).val, by have h := (z 1).isLt; change (z 1).val < 1024 at h; omega⟩ (z 2)) := by
    intro z
    show V m c main_arg1 _ = _
    rw [V_main_arg1, hW]
    congr 1
    funext a
    apply Fin.ext
    match a with
    | ⟨0, _⟩ => show win0_1.index ⟨n, h⟩ 0 * 2 + 1 * (z 0).val = s * 2 + (z 0).val; rw [e2]; omega
    | ⟨1, _⟩ => show win0_1.index ⟨n, h⟩ 1 * 1024 + 1 * (z 1).val = n / 4 % 4 * 1024 + (z 1).val; rw [e3]; omega
    | ⟨2, _⟩ => show win0_1.index ⟨n, h⟩ 2 * 1792 + 1 * (z 2).val = (z 2).val; rw [e4]; omega
  unfold term addend
  refine congrArg₂ _ (Finset.sum_congr rfl fun k _ => ?_) (Finset.sum_congr rfl fun k _ => ?_)
  · rw [r0, r1]
    refine congrArg₂ _ (congrArg _ (congrArg₂ _ (Fin.ext ?_) (Fin.ext ?_))) (congrArg _ ?_)
    · exact hp.symm
    · show s * 3584 + k.val = 2 * s * 1792 + k.val; omega
    · refine congrArg₂ (fun u v => ix3 u v k) (Fin.ext ?_) (Fin.ext ?_)
      · show s * 2 + 0 = 2 * s; omega
      · exact hq.symm
  · rw [r0, r1]
    refine congrArg₂ _ (congrArg _ (congrArg₂ _ (Fin.ext ?_) (Fin.ext ?_))) (congrArg _ ?_)
    · exact hp.symm
    · show s * 3584 + (1792 + k.val) = (2 * s + 1) * 1792 + k.val; omega
    · refine congrArg₂ (fun u v => ix3 u v k) (Fin.ext ?_) (Fin.ext ?_)
      · show s * 2 + 1 = 2 * s + 1; omega
      · exact hq.symm

/-- What a flushing point writes back is its block of the product. -/
theorem flushed_eq (c : Dev nD) (t : Fin cfg0.N) (hf : (cfg0.win 2).flush t = true) :
    (dats m 0 c).flushed 2 t = ((cfg0.win 2).blk t).view.read (Elt Ideal) (result m c) := by
  have h3 : t.val % 4 = 3 := (flush0_2 t).mp hf
  obtain ⟨n, hn⟩ := t
  dsimp only at h3
  obtain ⟨b, rfl⟩ : ∃ b, n = b + 1 + 1 + 1 := ⟨n - 3, by omega⟩
  obtain ⟨-, -, -, -, -, e5, e6⟩ := positions ⟨b + 1 + 1 + 1, hn⟩
  dsimp only at e5 e6
  have hN := lt_of_lt_of_eq hn N_0
  rw [Value.flushed2]
  dsimp only
  rw [out_run m c b hn (by omega)]
  funext y
  show addf (F := Ideal) (addf (addf (term m c b _) _) _) _ y = rows _ _ (((cfg0.win 2).blk _).view.emb y)
  have y0 : (y 0).val < 1024 := (y 0).isLt
  have y1 : (y 1).val < 1024 := (y 1).isLt
  have hi : ((cfg0.win 2).blk ⟨b + 1 + 1 + 1, hn⟩).view.emb y
      = ix2 ⟨b / 16 * 1024 + (y 0).val, by omega⟩ ⟨b / 4 % 4 * 1024 + (y 1).val, by omega⟩ := by
    funext a
    apply Fin.ext
    match a with
    | ⟨0, _⟩ => show win0_2.index ⟨b + 1 + 1 + 1, hn⟩ 0 * 1024 + 1 * (y 0).val = b / 16 * 1024 + (y 0).val; rw [e5]; omega
    | ⟨1, _⟩ => show win0_2.index ⟨b + 1 + 1 + 1, hn⟩ 1 * 1024 + 1 * (y 1).val = b / 4 % 4 * 1024 + (y 1).val; rw [e6]; omega
  rw [hi]
  simp only [addf_apply, Ideal.addf_def]
  rw [term_apply m c b _ y ⟨b / 16 * 1024 + (y 0).val, by omega⟩ ⟨b / 4 % 4 * 1024 + (y 1).val, by omega⟩ 0 (by omega) (by dsimp only) (by dsimp only) (by omega) _ _ rfl rfl,
    term_apply m c (b + 1) _ y ⟨b / 16 * 1024 + (y 0).val, by omega⟩ ⟨b / 4 % 4 * 1024 + (y 1).val, by omega⟩ 1 (by omega) (by dsimp only; omega) (by dsimp only; omega) (by omega) _ _ rfl rfl,
    term_apply m c (b + 1 + 1) _ y ⟨b / 16 * 1024 + (y 0).val, by omega⟩ ⟨b / 4 % 4 * 1024 + (y 1).val, by omega⟩ 2 (by omega) (by dsimp only; omega) (by dsimp only; omega) (by omega) _ _ rfl rfl,
    term_apply m c (b + 1 + 1 + 1) _ y ⟨b / 16 * 1024 + (y 0).val, by omega⟩ ⟨b / 4 % 4 * 1024 + (y 1).val, by omega⟩ 3 (by omega) (by dsimp only; omega) (by dsimp only; omega) (by omega) _ _ rfl rfl]
  unfold rows
  rw [Fin.sum_univ_eight]
  simp only [← add_assoc]
  rfl

theorem mem_block (t : Fin cfg0.N) (i : S4096x4096.Idx) : i ∈ ((cfg0.win 2).blk t).view.set ↔
    ∀ a : Fin 2, win0_2.index t a * S1024x1024.size a ≤ (i a : Nat)
      ∧ (i a : Nat) < win0_2.index t a * S1024x1024.size a + S1024x1024.size a := by
  show i ∈ ((View.whole main_v0).slice (win0_2.rect t)).set ↔ _
  rw [View.set_slice_whole, Rect.mem_set_unit]
  exact Iff.rfl

theorem final (c : Dev nD) : (dats m 0 c).arrAt 2 cfg0.N = result m c :=
  (dats m 0 c).arrAt_eq_of_cover 2 (result m c) (fun t hf => flushed_eq m c t hf) fun i => by
    have h0 : (i 0 : Nat) < 4096 := (i 0).isLt
    have h1 : (i 1 : Nat) < 4096 := (i 1).isLt
    obtain ⟨t, ht, e0, e1⟩ := positions_onto ⟨(i 0 : Nat) / 1024, by omega⟩ ⟨(i 1 : Nat) / 1024, by omega⟩
    refine ⟨t, (flush0_2 t).mpr ht, ?_⟩
    rw [mem_block]
    intro a
    match a with
    | ⟨0, _⟩ =>
      show win0_2.index t 0 * 1024 ≤ (i 0 : Nat) ∧ (i 0 : Nat) < win0_2.index t 0 * 1024 + 1024
      rw [e0]; dsimp only; omega
    | ⟨1, _⟩ =>
      show win0_2.index t 1 * 1024 ≤ (i 1 : Nat) ∧ (i 1 : Nat) < win0_2.index t 1 * 1024 + 1024
      rw [e1]; dsimp only; omega

end Cert.DhIdeal.Product

/-! ## The claim -/

namespace Cert.Dh.Claims

open Idealize.ShloMosaic Idealize.ShloMosaic.TcCoe Idealize.SL.Sem
open Cert.DhIdeal (S4096x14336 S8x4096x1792 S4096x4096)

/-- The reference ends with its arguments unchanged and every counter at zero. -/
theorem reference_quiescent : Cert.quiescent_RefDhIdeal := fun m ρ _ =>
  (θ_run _ _ _).mono (fun r h => ⟨fun c => (h c).2, sem_eq_zero_of_no_sems (by decide) r.2⟩)
    (Cert.RefDhIdeal.Value.run m ρ)

/-- A sum over the 14336 columns, cut into the eight pieces' columns. -/
theorem sum_pieces (f : Fin 14336 → EReal) :
    ∑ x, f x = ∑ d : Fin 8, ∑ k : Fin 1792, f ⟨d.val * 1792 + k.val, by omega⟩ := by
  have h := Fin.sum_univ_univ_mul_add 8 1792 fun n : ℕ => if hn : n < 14336 then f ⟨n, hn⟩ else 0
  refine Eq.trans (Finset.sum_congr rfl fun x _ => ?_) (h.symm.trans (Finset.sum_congr rfl fun d _ => Finset.sum_congr rfl fun k _ => ?_))
  · show f x = if hn : x.val < 14336 then f ⟨x.val, hn⟩ else 0
    rw [dif_pos x.isLt]
  · exact dif_pos (by omega)

theorem algebraic : Cert.algebraic_DhIdeal_RefDhIdeal := fun m ρ m' ρ' _ hag =>
  ⟨Cert.DhIdeal.Product.result m,
    (θ_run _ _ _).mono (fun _ h c => ⟨(h c).1.trans (Cert.DhIdeal.Product.final m c), (h c).2⟩)
      (Cert.DhIdeal.Value.run_blocks m ρ),
    (θ_run _ _ _).mono (fun _ h c => ⟨(h c).1.trans (by
      rw [(hag c).1, (hag c).2]
      funext i
      pointwise [Cert.DhIdeal.Product.rows]
      refine (sum_pieces _).trans (Finset.sum_congr rfl fun d _ => Finset.sum_congr rfl fun k _ => congrArg _ ?_)
      dsimp only
      split_ifs <;> first | (exfalso; omega) | skip
      all_goals exact congrArg _ (congrArg₂ (fun u v => ix3 u (i 1) v) (Fin.ext (by first | omega | (dsimp only; omega) | (simp only [Fin.isValue, Fin.val_ofNat]; omega) | (norm_num; omega))) (Fin.ext (by first | omega | (dsimp only; omega))))), (h c).2⟩)
      (Cert.RefDhIdeal.Value.run m' ρ')⟩

end Cert.Dh.Claims

end
-- ==== Proof.MixerAIdealLaunch.lean ====
/- What the kernel leaves, point by point, in the projection's gradient, in the tap gradients and in the rows it carries,
   and the launch of the whole grid over that description. -/
module

public import proofs.«01_k».proof.Proof.Gen.MixerAIdeal.Frame.RunB
public import Idealize.ShloMosaic.Lib.Claim
public import Idealize.ShloMosaic.Lib.Pipeline.Value

@[expose] public section

set_option maxRecDepth 16384

noncomputable section

namespace Cert.MixerAIdeal.Rows

open Cert.MixerAIdeal Cert.MixerAIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What one point leaves: the block of the projection's gradient, the tap gradients, the carried rows. -/
abbrev Left (F : FTy → Type) : Type := Vec F S128x8192 .bf16 × Vec F S8x2048 .f32 × Vec F S136x2048 .f32

/-- The body's run at the first point. -/
abbrev firstRun (c : Dev nD) (t : Fin cfg0.N) (h0 : t.val % 32 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) (iblk m c 7 t)

/-- The body's run at a later point, over what the point before left. -/
abbrev laterRun (c : Dev nD) (t : Fin cfg0.N) (h0 : ¬t.val % 32 = 0) (p : Left F) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) p.2.1 p.2.2

theorem firstCovers_columns (c : Dev nD) (t : Fin cfg0.N) (h0 : t.val % 32 = 0) (y : S128x8192.Idx) :
    ∃ pc ∈ (firstRun m c t h0).1, y ∈ pc.1.set :=
  View.cover_of_tiledL (firstRun m c t h0).1 S128x2048.size (by sl_kernel_rfl) y

theorem firstCovers_taps (c : Dev nD) (t : Fin cfg0.N) (h0 : t.val % 32 = 0) (y : S8x2048.Idx) :
    ∃ pc ∈ (firstRun m c t h0).2.1, y ∈ pc.1.set :=
  View.cover_of_tiledBy (firstRun m c t h0).2.1 ![1, 2048] (by sl_kernel_rfl) y

theorem firstCovers_carry (c : Dev nD) (t : Fin cfg0.N) (h0 : t.val % 32 = 0) (y : S136x2048.Idx) :
    ∃ pc ∈ (firstRun m c t h0).2.2.1, y ∈ pc.1.set :=
  View.cover_of_tiledBy (firstRun m c t h0).2.2.1 ![8, 2048] (by sl_kernel_rfl) y

theorem laterCovers_columns (c : Dev nD) (t : Fin cfg0.N) (h0 : ¬t.val % 32 = 0) (p : Left F) (y : S128x8192.Idx) :
    ∃ pc ∈ (laterRun m c t h0 p).1, y ∈ pc.1.set :=
  View.cover_of_tiledL (laterRun m c t h0 p).1 S128x2048.size (by sl_kernel_rfl) y

theorem laterCovers_carry (c : Dev nD) (t : Fin cfg0.N) (h0 : ¬t.val % 32 = 0) (p : Left F) (y : S136x2048.Idx) :
    ∃ pc ∈ (laterRun m c t h0 p).2.2.1, y ∈ pc.1.set :=
  View.cover_of_tiledBy (laterRun m c t h0 p).2.2.1 ![8, 2048] (by sl_kernel_rfl) y

/-- What the first point leaves. -/
def first (c : Dev nD) (t : Fin cfg0.N) (h0 : t.val % 32 = 0) : Left F :=
  (VO0_8.read (Elt F) (VO0_8.writes (Elt F) VO0_8.junk (firstRun m c t h0).1),
   VO0_9.read (Elt F) (VO0_9.writes (Elt F) VO0_9.junk (firstRun m c t h0).2.1),
   VS0_1.read (Elt F) (VS0_1.writes (Elt F) VS0_1.junk (firstRun m c t h0).2.2.1))

/-- What a later point leaves over what the point before left. -/
def later (c : Dev nD) (t : Fin cfg0.N) (h0 : ¬t.val % 32 = 0) (p : Left F) : Left F :=
  (VO0_8.read (Elt F) (VO0_8.writes (Elt F) VO0_8.junk (laterRun m c t h0 p).1),
   (ms0_9 t).view.read (Elt F) ((ms0_9 t).view.writes (Elt F) ((hs0_9 t).unread p.2.1) (laterRun m c t h0 p).2.1),
   VS0_1.read (Elt F) (VS0_1.writes (Elt F) VS0_1.junk (laterRun m c t h0 p).2.2.1))

/-- What is left after each point, the points taken in order. -/
def left (c : Dev nD) : (n : ℕ) → n < cfg0.N → Left F
  | 0, hn => first m c ⟨0, hn⟩ (Nat.zero_mod _)
  | n + 1, hn =>
    if h0 : (n + 1) % 32 = 0 then first m c ⟨n + 1, hn⟩ h0
    else later m c ⟨n + 1, hn⟩ h0 (left c n (Nat.lt_of_succ_lt hn))

theorem left_first (c : Dev nD) (t : Fin cfg0.N) (h0 : t.val % 32 = 0) : left m c t.val t.isLt = first m c t h0 := by
  obtain ⟨n, hn⟩ := t
  cases n with
  | zero => rfl
  | succ n => rw [left]; exact dif_pos h0

theorem left_later (c : Dev nD) (t : Fin cfg0.N) (h0 : ¬t.val % 32 = 0) :
    left m c t.val t.isLt = later m c t h0 (left m c (t.val - 1) (Nat.lt_of_le_of_lt (Nat.sub_le _ _) t.isLt)) := by
  obtain ⟨n, hn⟩ := t
  cases n with
  | zero => exact absurd (Nat.zero_mod _) h0
  | succ n => rw [left]; exact dif_neg h0

/-- What is held between points: nothing known before the first, then the carried rows. -/
def held (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare ((left m c n hn).2.2)) ∗ (∃ r, prngReg c r))

theorem held_zero (c : Dev nD) (n : ℕ) (h : n ≤ cfg0.N) (hz : n = 0) : held m c n h = Pipeline.ΦA spec0 c := by
  subst hz; rfl

theorem held_succ (c : Dev nD) (n : ℕ) (hn : n < cfg0.N) :
    held m c (n + 1) hn = iprop(iprop((∃ d, owns (c : Thread nD τ) scM0_0 fullShare d) ∗ owns (c : Thread nD τ) scM0_1 fullShare ((left m c n hn).2.2)) ∗ (∃ r, prngReg c r)) := rfl

theorem held_pos (c : Dev nD) (n : ℕ) (h : n ≤ cfg0.N) (hz : n ≠ 0) :
    held m c n h = iprop(iprop((∃ d, owns (c : Thread nD τ) scM0_0 fullShare d) ∗ owns (c : Thread nD τ) scM0_1 fullShare ((left m c (n - 1) (by omega)).2.2)) ∗ (∃ r, prngReg c r)) := by
  cases n with
  | zero => exact absurd rfl hz
  | succ n => rfl

/-- The description of the whole grid's run on one device. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (left m c t.val t.isLt).1
    | ⟨9, _⟩ => (left m c t.val t.isLt).2.1
  Φ t := held m c t.val (Nat.le_of_lt_succ t.isLt)
  q w := Pipeline.shareOf spec0 w
  owed _ := 0

theorem data_array (c : Dev nD) (w : Fin cfg0.W) : (data m 0 c).A w = V m c (Pipeline.arrRef spec0 w) := by
  dsimp only [data]

theorem data_held (c : Dev nD) (t : Fin cfg0.N) :
    (data m 0 c).Φ t.castSucc = held m c t.val (Nat.le_of_lt t.isLt) := by
  dsimp only [data]; exact Pipeline.Dat.Φ_castSucc (held m c) t

theorem kept_0 (c : Dev nD) (t : Fin cfg0.N) : (data m 0 c).after 0 t = iblk m c 0 t := by dsimp only [data]
theorem kept_1 (c : Dev nD) (t : Fin cfg0.N) : (data m 0 c).after 1 t = iblk m c 1 t := by dsimp only [data]
theorem kept_2 (c : Dev nD) (t : Fin cfg0.N) : (data m 0 c).after 2 t = iblk m c 2 t := by dsimp only [data]
theorem kept_3 (c : Dev nD) (t : Fin cfg0.N) : (data m 0 c).after 3 t = iblk m c 3 t := by dsimp only [data]
theorem kept_4 (c : Dev nD) (t : Fin cfg0.N) : (data m 0 c).after 4 t = iblk m c 4 t := by dsimp only [data]
theorem kept_5 (c : Dev nD) (t : Fin cfg0.N) : (data m 0 c).after 5 t = iblk m c 5 t := by dsimp only [data]
theorem kept_6 (c : Dev nD) (t : Fin cfg0.N) : (data m 0 c).after 6 t = iblk m c 6 t := by dsimp only [data]
theorem kept_7 (c : Dev nD) (t : Fin cfg0.N) : (data m 0 c).after 7 t = iblk m c 7 t := by dsimp only [data]
theorem kept_8 (c : Dev nD) (t : Fin cfg0.N) : (data m 0 c).after 8 t = (left m c t.val t.isLt).1 := by dsimp only [data]
theorem kept_9 (c : Dev nD) (t : Fin cfg0.N) : (data m 0 c).after 9 t = (left m c t.val t.isLt).2.1 := by dsimp only [data]

theorem staged_0 (c : Dev nD) (t : Fin cfg0.N) (d) : (data m 0 c).before 0 t d = iblk m c 0 t :=
  before0_0_of m (data m 0 c) (data_array m c 0) (kept_0 m c) t d
theorem staged_1 (c : Dev nD) (t : Fin cfg0.N) (d) : (data m 0 c).before 1 t d = iblk m c 1 t :=
  before0_1_of m (data m 0 c) (data_array m c 1) (kept_1 m c) t d
theorem staged_2 (c : Dev nD) (t : Fin cfg0.N) (d) : (data m 0 c).before 2 t d = iblk m c 2 t :=
  before0_2_of m (data m 0 c) (data_array m c 2) (kept_2 m c) t d
theorem staged_3 (c : Dev nD) (t : Fin cfg0.N) (d) : (data m 0 c).before 3 t d = iblk m c 3 t :=
  before0_3_of m (data m 0 c) (data_array m c 3) (kept_3 m c) t d
theorem staged_4 (c : Dev nD) (t : Fin cfg0.N) (d) : (data m 0 c).before 4 t d = iblk m c 4 t :=
  before0_4_of m (data m 0 c) (data_array m c 4) (kept_4 m c) t d
theorem staged_5 (c : Dev nD) (t : Fin cfg0.N) (d) : (data m 0 c).before 5 t d = iblk m c 5 t :=
  before0_5_of m (data m 0 c) (data_array m c 5) (kept_5 m c) t d
theorem staged_6 (c : Dev nD) (t : Fin cfg0.N) (d) : (data m 0 c).before 6 t d = iblk m c 6 t :=
  before0_6_of m (data m 0 c) (data_array m c 6) (kept_6 m c) t d
theorem staged_7 (c : Dev nD) (t : Fin cfg0.N) (d) : (data m 0 c).before 7 t d = iblk m c 7 t :=
  before0_7_of m (data m 0 c) (data_array m c 7) (kept_7 m c) t d
/-- The tap gradients' block is not written back between points: a later point finds what the one before left. -/
theorem staged_9 (c : Dev nD) (t : Fin cfg0.N) (h0 : ¬t.val % 32 = 0) (d) :
    (data m 0 c).before 9 t d = (left m c (t.val - 1) (Nat.lt_of_le_of_lt (Nat.sub_le _ _) t.isLt)).2.1 := by
  have hN : t.val < 32 := lt_of_lt_of_eq t.isLt (show cfg0.N = 32 from N_0)
  rw [Dat.before_out_kept _ 9 rfl t (by omega) (Bool.eq_false_iff.mpr fun h => by have := (flush0_9 _).mp h; dsimp only at this; omega)
    (fun _ => rfl) (fun _ _ => rfl)]
  dsimp only [data]

/-- What the body starts from at point `t`. -/
def entering (c : Dev nD) (t : Fin cfg0.N) : sProp 𝕄 :=
  iprop((data m 0 c).Φ t.castSucc ∗ (data m 0 c).owesAt () t.castSucc
    ∗ (∃ d, owns (c : Thread nD τ) (ms0_0 t) fullShare ((data m 0 c).before 0 t d))
    ∗ (∃ d, owns (c : Thread nD τ) (ms0_1 t) fullShare ((data m 0 c).before 1 t d))
    ∗ (∃ d, owns (c : Thread nD τ) (ms0_2 t) fullShare ((data m 0 c).before 2 t d))
    ∗ (∃ d, owns (c : Thread nD τ) (ms0_3 t) fullShare ((data m 0 c).before 3 t d))
    ∗ (∃ d, owns (c : Thread nD τ) (ms0_4 t) fullShare ((data m 0 c).before 4 t d))
    ∗ (∃ d, owns (c : Thread nD τ) (ms0_5 t) fullShare ((data m 0 c).before 5 t d))
    ∗ (∃ d, owns (c : Thread nD τ) (ms0_6 t) fullShare ((data m 0 c).before 6 t d))
    ∗ (∃ d, owns (c : Thread nD τ) (ms0_7 t) fullShare ((data m 0 c).before 7 t d))
    ∗ (∃ d, owns (c : Thread nD τ) (ms0_8 t) fullShare ((data m 0 c).before 8 t d))
    ∗ (∃ d, owns (c : Thread nD τ) (ms0_9 t) fullShare ((data m 0 c).before 9 t d)))

/-- What the body ends with at point `t`. -/
def leaving (c : Dev nD) (t : Fin cfg0.N) : sProp 𝕄 :=
  iprop((data m 0 c).Φ t.succ ∗ (data m 0 c).owesAt () t.succ
    ∗ owns (c : Thread nD τ) (ms0_0 t) fullShare ((data m 0 c).after 0 t)
    ∗ owns (c : Thread nD τ) (ms0_1 t) fullShare ((data m 0 c).after 1 t)
    ∗ owns (c : Thread nD τ) (ms0_2 t) fullShare ((data m 0 c).after 2 t)
    ∗ owns (c : Thread nD τ) (ms0_3 t) fullShare ((data m 0 c).after 3 t)
    ∗ owns (c : Thread nD τ) (ms0_4 t) fullShare ((data m 0 c).after 4 t)
    ∗ owns (c : Thread nD τ) (ms0_5 t) fullShare ((data m 0 c).after 5 t)
    ∗ owns (c : Thread nD τ) (ms0_6 t) fullShare ((data m 0 c).after 6 t)
    ∗ owns (c : Thread nD τ) (ms0_7 t) fullShare ((data m 0 c).after 7 t)
    ∗ owns (c : Thread nD τ) (ms0_8 t) fullShare ((data m 0 c).after 8 t)
    ∗ owns (c : Thread nD τ) (ms0_9 t) fullShare ((data m 0 c).after 9 t))

set_option maxHeartbeats 9600000 in
/-- The body at any point takes what it starts from to what it ends with. -/
theorem body_sound (c : Dev nD) (t : Fin cfg0.N) :
    entering m c t ⊢ wp frame (wpE (defs₀ (F := F)) Variants.none c none) Set.univ (bodyAt0 t) (fun _ => leaving m c t) := by
  unfold entering leaving bodyAt0
  simp only [staged_0, staged_1, staged_2, staged_3, staged_4, staged_5, staged_6, staged_7]
  rw [show (data m 0 c).owesAt () t.succ = (data m 0 c).owesAt () t.castSucc from rfl,
    kept_0, kept_1, kept_2, kept_3, kept_4, kept_5, kept_6, kept_7, kept_8, kept_9]
  rw [show (data m 0 c).Φ t.succ = held m c (t.val + 1) t.isLt from rfl, held_succ]
  have hN : t.val < 32 := lt_of_lt_of_eq t.isLt (show cfg0.N = 32 from N_0)
  by_cases h0 : t.val % 32 = 0
  · by_cases hz : t.val = 0
    · rw [data_held m c t, held_zero m c _ _ hz, PhiA0_eq]
      rw [left_first m c t h0]
      unfold first; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((firstRun m c t h0).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [HS0]; · iexact HS0
      isplitl [HS1]; · iexact HS1
      iintro ⟨H0, H1, H2, H3, H4, H5, H6, H7, ⟨%e8, H8⟩, ⟨%e9, H9⟩, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (firstCovers_carry m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (firstCovers_columns m c t h0)
      unfold owns; iexists _; isplitr
      swap; · iexact H9
      ipureintro; exact View.read_writes_of_cover _ _ _ _ _ (firstCovers_taps m c t h0)
    · exfalso; omega
  · by_cases hz : t.val = 0
    · exfalso; omega
    · rw [data_held m c t, held_pos m c _ _ hz]
      rw [left_later m c t h0]
      simp only [staged_9 m c t h0]
      unfold later; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply ((laterRun m c t h0 (left m c (t.val - 1) (Nat.lt_of_le_of_lt (Nat.sub_le _ _) t.isLt))).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexact H9
      isplitl [HS0]; · iexact HS0
      isplitl [HS1]; · iexact HS1
      iintro ⟨H0, H1, H2, H3, H4, H5, H6, H7, ⟨%e8, H8⟩, H9, ⟨%fT0, HS0⟩, ⟨%es1, HS1⟩⟩
      isplitl [HS0 HS1 Hg]
      · isplitl [HS0 HS1]
        · isplitl [HS0]
          · iexists _; unfold owns; iexists _; isplitr
            swap; · iexact HS0
            ipureintro; rfl
          unfold owns; iexists _; isplitr
          swap; · iexact HS1
          ipureintro; exact View.read_writes_of_cover _ _ _ _ _ (laterCovers_carry m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (laterCovers_columns m c t h0 _)
      unfold owns; iexists _; isplitr
      swap; · iexact H9
      ipureintro; rfl

theorem body_row (t : Fin cfg0.N) :
    defs₀ (F := F) .tc cfg0.body (cfg0.bodyArgs t (cfg0.slots t)) = bodyAt0 t := by
  unfold defs₀; rw [Defs.onTc_tc]

theorem body_meets (c : Dev nD) : BodyObligation (data (F := F) m 0 c) (defs₀ (F := F)) Variants.none () Set.univ := fun t => by
  rw [bigSep_W0, bigSep_W0, body_row]
  exact triple_restated (body_sound m c t) rfl .rfl fun _ => .rfl

theorem starts (c : Dev nD) : Pipeline.ΦA spec0 c ⊢ (data m 0 c).Φ 0 := by
  rw [show (data m 0 c).Φ 0 = held m c 0 (Nat.zero_le _) from rfl, held_zero m c 0 _ rfl]

theorem ends_at (c : Dev nD) (t : Fin (cfg0.N + 1)) (ht : t.val ≠ 0) : (data m 0 c).Φ t ⊢ Pipeline.ΦA spec0 c := by
  rw [show (data m 0 c).Φ t = held m c t.val (Nat.le_of_lt_succ t.isLt) from rfl, held_pos m c _ _ ht, PhiA0_eq]
  iintro ⟨⟨HS0, HS1⟩, Hg⟩
  isplitl [HS0 HS1]
  · isplitl [HS0]
    · iexact HS0
    iexists _; iexact HS1
  iexact Hg

theorem ends (c : Dev nD) : (data m 0 c).Φ (Fin.last cfg0.N) ⊢ Pipeline.ΦA spec0 c :=
  ends_at m c _ (by rw [Fin.val_last]; have : cfg0.N = 32 := N_0; omega)

set_option backward.isDefEq.respectTransparency.types false in
/-- The whole program runs, ends, and leaves each array at what the points wrote back; the counters end at zero. -/
theorem run_quiescent : θ_run defs (onTc (τ := τ) (main (F := F))) (s₀ m ρ) (fun r => (Pipeline.FramePost cfgs (data m) 0 (V m)) r ∧ r.2.sem = fun _ => 0) :=
  Pipeline.θ_run_frame_track_shared (Q' := _) cfgs (data m) (0 : Fin 1) launch₀0 defs₀ Variants.none m ρ main
    (hbody := fun c => (body_meets m c).loose) (hq := fun _ _ _ => rfl)
    (howed := fun _ _ => rfl) (V := V m) (hmain := hmain m Variants.none) (hA := data_array m) (hin := starts m) (hout := ends m)

theorem run_arrays : θ_run defs (onTc (τ := τ) (main (F := F))) (s₀ m ρ) (Pipeline.FramePost cfgs (data m) 0 (V m)) :=
  (θ_run defs _ _).mono (fun _ h => h.1) (run_quiescent m ρ)

/-- The arguments end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (data m) (data_array m) (run_arrays m ρ)

/-- The arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_quiescent m ρ))

/-- The run with both results named by what the points wrote back. -/
theorem run_results : θ_run defs (onTc (τ := τ) (main (F := F))) ⟨m, fun _ => 0, ρ⟩ fun r => ∀ c : Dev nD,
      r.2.mem ((c : Thread nD τ).loc main_v1_0) = (data m 0 c).arrAt 8 cfg0.N
      ∧ r.2.mem ((c : Thread nD τ).loc main_v1_1) = (data m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c =>
    ⟨(h c).1 8, (h c).1 9,
      ((h c).1 5).trans (((data m 0 c).arrAt_in 5 rfl _).trans ((data_array m c 5).trans (V_main_arg0 m c))),
      ((h c).1 6).trans (((data m 0 c).arrAt_in 6 rfl _).trans ((data_array m c 6).trans (V_main_arg1 m c))),
      ((h c).2 main_arg2 (Pipeline.mem_restRefs_of main_arg2 (by decide) (by decide))).trans (V_main_arg2 m c)⟩)
    (run_arrays m ρ)

end Cert.MixerAIdeal.Rows

end
-- ==== Proof.MixerAPieces.lean ====
/- The mathematics one point of the kernel computes, and what the pieces it stores hold at each index. -/
module

public import proofs.«01_k».proof.Proof.MixerAIdealLaunch
public import Idealize.ShloMosaic.Lib.Pipeline.ValueKit.Acc
public import proofs.«01_k».proof.Defs
public import Idealize.ShloMosaic.Lib.Pointwise
public import Idealize.ShloMosaic.Lib.Tactic

@[expose] public section

set_option maxRecDepth 16384

noncomputable section

namespace Cert.MixerAIdeal.Rows

open Cert.MixerAIdeal Cert.MixerAIdeal.Gen
open Idealize.ShloMosaic Idealize.ShloMosaic.TcCoe Idealize.ShloMosaic.Tactic Idealize.SL.Sem

/-! ## The mathematics, at plain row and column numbers -/

/-- The entry of `A` at a row and a column, and zero outside the array. -/
def look {R C : ℕ} (A : (⟨2, ![R, C]⟩ : Shape).Idx → EReal) (r c : ℕ) : EReal :=
  if h : r < R ∧ c < C then A (ix2 ⟨r, h.1⟩ ⟨c, h.2⟩) else 0

theorem look_ix {R C : ℕ} (A : (⟨2, ![R, C]⟩ : Shape).Idx → EReal) (r c : ℕ) (hr : r < R) (hc : c < C) :
    A (ix2 ⟨r, hr⟩ ⟨c, hc⟩) = look A r c := by
  unfold look; rw [dif_pos ⟨hr, hc⟩]

theorem look_beyond {R C : ℕ} (A : (⟨2, ![R, C]⟩ : Shape).Idx → EReal) (r c : ℕ) (hr : R ≤ r) : look A r c = 0 :=
  dif_neg fun h => absurd h.1 (by omega)

variable (A : Vec Ideal S4096x14336 .bf16) (D : Vec Ideal S4096x4096 .f32) (W : Vec Ideal S3x2048 .f32)

/-- The product the convolution runs over. -/
def prod (r j : ℕ) : EReal := look A r (2048 + j) * look A r (4096 + j)

/-- The same eight rows earlier, zero before the sequence begins. -/
def past (n j : ℕ) : EReal := if n < 8 then 0 else prod A (n - 8) j

/-- The convolution with its three taps. -/
def conv (r j : ℕ) : EReal :=
  look W 2 j * prod A r j + look W 0 j * past A (r + 6) j + look W 1 j * past A (r + 7) j

/-- The gate and the gate times its own sigmoid. -/
def gate (r j : ℕ) : EReal := look A r (6144 + j)
def act (r j : ℕ) : EReal := gate A r j * Ideal.logistic (gate A r j)

/-- The gradient of the convolution's output; it is zero past the end of the sequence. -/
def dconv (r j : ℕ) : EReal := look D r j * look A r j * act A r j

/-- The gradient of the convolution's input. -/
def dprod (r j : ℕ) : EReal :=
  look W 2 j * dconv A D r j + look W 0 j * dconv A D (r + 2) j + look W 1 j * dconv A D (r + 1) j

/-- The gradient of the projection, its four groups of columns side by side. -/
def grad (r c : ℕ) : EReal :=
  if c < 2048 then look D r c * conv A W r c * act A r c
  else if c < 4096 then dprod A D W r (c - 2048) * look A r (4096 + (c - 2048))
  else if c < 6144 then dprod A D W r (c - 4096) * look A r (2048 + (c - 4096))
  else look D r (c - 6144) * look A r (c - 6144) * conv A W r (c - 6144)
    * (Ideal.logistic (gate A r (c - 6144)) * (1 + gate A r (c - 6144) * (1 - Ideal.logistic (gate A r (c - 6144)))))

/-- What the 128 rows from row `b` add to tap `k`'s gradient. -/
def tapTerm (b k j : ℕ) : EReal := ∑ x : Fin 128, dconv A D (b + x.val) j * past A (b + x.val + 6 + k) j

theorem dconv_beyond (r j : ℕ) (hr : 4096 ≤ r) : dconv A D r j = 0 := by
  unfold dconv; rw [look_beyond D r j hr, zero_mul, zero_mul]

/-! ## The stored values at an index -/

theorem conv_apply (x1 x2 : Vec Ideal S128x2048 .bf16) (w2 w1 w0 : Vec Ideal S1x2048 .f32) (q0 q1 : Vec Ideal S128x2048 .f32) (r : Fin 128) (l : Fin 2048) :
    k0_pay13 (F := Ideal) (k0_pay11 x1 x2 w2) (k0_pay12 w0 q0) w1 q1 (ix2 r l)
      = w2 (ix2 0 l) * (x1 (ix2 r l) * x2 (ix2 r l)) + w0 (ix2 0 l) * q0 (ix2 r l) + w1 (ix2 0 l) * q1 (ix2 r l) := by
  pointwise [k0_pay13, k0_pay11, k0_pay12, k0_pay9, k0_pay7, k0_pay8]

theorem dconv_apply (x3 x0 : Vec Ideal S128x2048 .bf16) (x6 : Vec Ideal S128x2048 .f32) (r : Fin 128) (l : Fin 2048) :
    k0_pay20 (F := Ideal) x3 x0 x6 (ix2 r l) = x6 (ix2 r l) * x0 (ix2 r l) * (x3 (ix2 r l) * Ideal.logistic (x3 (ix2 r l))) := by
  pointwise [k0_pay20, k0_pay17, k0_pay16, k0_pay14, k0_pay15]

theorem dab_apply (u v : FVec Ideal S128x2048 .f32) (w1 : Vec Ideal S1x2048 .f32) (q1 : Vec Ideal S128x2048 .f32) (x3 : Vec Ideal S128x2048 .bf16)
    (x6 : Vec Ideal S128x2048 .f32) (r : Fin 128) (l : Fin 2048) :
    k0_pay18 (F := Ideal) u v w1 q1 x3 x6 (ix2 r l)
      = x6 (ix2 r l) * k0_pay13 (F := Ideal) u v w1 q1 (ix2 r l) * (x3 (ix2 r l) * Ideal.logistic (x3 (ix2 r l))) := by
  pointwise [k0_pay18, k0_pay17, k0_pay16, k0_pay14]

theorem dz_apply (u v : FVec Ideal S128x2048 .f32) (w1 : Vec Ideal S1x2048 .f32) (q1 : Vec Ideal S128x2048 .f32) (x3 x0 : Vec Ideal S128x2048 .bf16)
    (x6 : Vec Ideal S128x2048 .f32) (r : Fin 128) (l : Fin 2048) :
    k0_pay19 (F := Ideal) u v w1 q1 x3 x0 x6 (ix2 r l) = x6 (ix2 r l) * x0 (ix2 r l) * k0_pay13 (F := Ideal) u v w1 q1 (ix2 r l)
      * (Ideal.logistic (x3 (ix2 r l)) * (1 + x3 (ix2 r l) * (1 - Ideal.logistic (x3 (ix2 r l))))) := by
  pointwise [k0_pay19, k0_pay16, k0_pay14, k0_pay15]

theorem dprod_apply (d : FVec Ideal S128x2048 .f32) (w2 w1 w0 : Vec Ideal S1x2048 .f32) (d2 d1 : Vec Ideal S128x2048 .f32) (r : Fin 128) (l : Fin 2048) :
    k0_pay23 (F := Ideal) d (k0_pay22 w2) w0 d2 w1 d1 (ix2 r l)
      = w2 (ix2 0 l) * d (ix2 r l) + w0 (ix2 0 l) * d2 (ix2 r l) + w1 (ix2 0 l) * d1 (ix2 r l) := by
  pointwise [k0_pay23, k0_pay22]

theorem dac_apply (x : Vec Ideal S128x2048 .bf16) (d e : FVec Ideal S128x2048 .f32) (w1 w0 : Vec Ideal S1x2048 .f32) (d2 d1 : Vec Ideal S128x2048 .f32) (r : Fin 128) (l : Fin 2048) :
    k0_pay24 (F := Ideal) (k0_pay8 x) d e w0 d2 w1 d1 (ix2 r l) = k0_pay23 (F := Ideal) d e w0 d2 w1 d1 (ix2 r l) * x (ix2 r l) := by
  pointwise [k0_pay24, k0_pay8]

theorem dax_apply (x : Vec Ideal S128x2048 .bf16) (d e : FVec Ideal S128x2048 .f32) (w1 w0 : Vec Ideal S1x2048 .f32) (d2 d1 : Vec Ideal S128x2048 .f32) (r : Fin 128) (l : Fin 2048) :
    k0_pay25 (F := Ideal) (k0_pay7 x) d e w0 d2 w1 d1 (ix2 r l) = k0_pay23 (F := Ideal) d e w0 d2 w1 d1 (ix2 r l) * x (ix2 r l) := by
  pointwise [k0_pay25, k0_pay7]

theorem tap0_apply (d : FVec Ideal S128x2048 .f32) (o : Vec Ideal S1x2048 .f32) (q : Vec Ideal S128x2048 .f32) (r : Fin 1) (l : Fin 2048) :
    k0_pay26 (F := Ideal) d o q (ix2 r l) = o (ix2 r l) + ∑ k : Fin 128, d (ix2 k l) * q (ix2 k l) := by
  pointwise [k0_pay26]

theorem tap1_apply (d : FVec Ideal S128x2048 .f32) (o : Vec Ideal S1x2048 .f32) (q : Vec Ideal S128x2048 .f32) (r : Fin 1) (l : Fin 2048) :
    k0_pay1 (F := Ideal) (k0_pay27 o) (k0_pay28 d q) (ix2 r l) = o (ix2 r l) + ∑ k : Fin 128, d (ix2 k l) * q (ix2 k l) := by
  pointwise [k0_pay1, k0_pay27, k0_pay28]

theorem tap2_apply (d : FVec Ideal S128x2048 .f32) (o : Vec Ideal S1x2048 .f32) (q : Vec Ideal S128x2048 .f32) (r : Fin 1) (l : Fin 2048) :
    k0_pay2 (F := Ideal) d o q (ix2 r l) = o (ix2 r l) + ∑ k : Fin 128, d (ix2 k l) * q (ix2 k l) := by
  pointwise [k0_pay2]

theorem halo_apply (i : grid0.Coords) (x4 x5 : Vec Ideal S16x2048 .bf16) (r : Fin 8) (l : Fin 2048) :
    k0_pay6 (F := Ideal) i x4 x5 (ix2 r l)
      = if (i 0).val = 31 then 0 else x4 (ix2 ⟨8 + r.val, by omega⟩ l) * x5 (ix2 ⟨8 + r.val, by omega⟩ l) := by
  pointwise [k0_pay6]
  have hi : (i 0).val < 32 := (i 0).isLt
  by_cases h : (i 0).val = 31
  · rw [h, if_pos rfl]; rfl
  · rw [if_neg h]
    have : (BitVec.ofNat 32 (i 0).val == 31#32) = false := by
      rw [beq_eq_false_iff_ne]
      intro e
      have e' := congrArg BitVec.toNat e
      simp only [BitVec.toNat_ofNat] at e'
      omega
    simp only [Scalar.select, Scalar.cmpi, IntOp.cmpi, this]
    rfl

/-! ## Reading buffers written piece by piece -/

section Read

variable {sig' : RefSig} {κ : Kind} {sp : Space} {s : Shape} {e : EltTy} {Val : EltTy → Type}

/-- Where every piece stored holds the entries of `g` at its place, and the rest held `g` before, `g` is read. -/
theorem read_pieces (v : View sig' κ sp s e) (f : v.ty.Contents Val) (g : s.Idx → Val e) (z : s.Idx) :
    ∀ L : List (View.Piece Val s e), (∀ p ∈ L, ∀ x : p.1.shape.Idx, p.2 x = g (p.1.emb x)) →
      ((∀ p ∈ L, z ∉ p.1.set) → v.read Val f z = g z) → v.read Val (v.writes Val f L) z = g z
  | [], _, h => h (by simp)
  | p :: L, hL, h => by
    by_cases hz : z ∈ p.1.set
    · obtain ⟨r, w⟩ := p
      obtain ⟨x, rfl⟩ : ∃ x, r.emb x = z := r.exists_idx_of_mem hz
      rw [View.read_writes_cons_emb]
      exact hL _ List.mem_cons_self x
    · have hz' : z ∉ Finset.univ.map p.1.emb := by rwa [Rect.map_emb_univ]
      rw [View.writes_cons, View.read_slice_write_of_not_mem p.1 _ _ _ hz']
      refine read_pieces v f g z L (fun q hq => hL q (List.mem_cons_of_mem _ hq)) fun hq => h fun q hq' => ?_
      rcases List.mem_cons.mp hq' with rfl | hq''
      · exact hz
      · exact hq q hq''

theorem readCov_pieces [∀ e, Nonempty (Val e)] (v : View sig' κ sp s e) (L : List (View.Piece Val s e)) (g : s.Idx → Val e)
    (hL : ∀ p ∈ L, ∀ x : p.1.shape.Idx, p.2 x = g (p.1.emb x)) (B : LoadRect s) (hc : ∀ j : B.shape.Idx, ∃ p ∈ L, B.idx j ∈ p.1.set) :
    v.readCov L B = fun j => g (B.idx j) := by
  rw [View.readCov_eq_canon']
  exact funext fun j => View.canon_apply_of_pieces g L hL _ (hc j)

end Read

theorem zeros : (![0, 0] : Fin 2 → Nat) = fun _ => 0 := funext fun a => by fin_cases a <;> rfl

/-- Two pieces, eight rows and then 128 rows, cover the 136 rows. -/
theorem rows_136 (z : S136x2048.Idx) (h8 h0) :
    z ∈ (Rect.unit (s := S136x2048) ![8, 0] ![128, 2048] h8).set ∨ z ∈ (Rect.unit (s := S136x2048) ![0, 0] ![8, 2048] h0).set := by
  have z0 : (z 0).val < 136 := (z 0).isLt
  have z1 : (z 1).val < 2048 := (z 1).isLt
  by_cases h : (z 0).val < 8
  · refine .inr (Rect.mem_set_unit.mpr fun a => ?_)
    match a with
    | ⟨0, _⟩ => show 0 ≤ (z 0).val ∧ (z 0).val < 0 + 8; omega
    | ⟨1, _⟩ => show 0 ≤ (z 1).val ∧ (z 1).val < 0 + 2048; omega
  · refine .inl (Rect.mem_set_unit.mpr fun a => ?_)
    match a with
    | ⟨0, _⟩ => show 8 ≤ (z 0).val ∧ (z 0).val < 8 + 128; omega
    | ⟨1, _⟩ => show 0 ≤ (z 1).val ∧ (z 1).val < 0 + 2048; omega

theorem rows_136' (z : S136x2048.Idx) (h0 h8) :
    z ∈ (Rect.unit (s := S136x2048) ![0, 0] ![128, 2048] h0).set ∨ z ∈ (Rect.unit (s := S136x2048) ![128, 0] ![8, 2048] h8).set := by
  have z0 : (z 0).val < 136 := (z 0).isLt
  have z1 : (z 1).val < 2048 := (z 1).isLt
  by_cases h : (z 0).val < 128
  · refine .inl (Rect.mem_set_unit.mpr fun a => ?_)
    match a with
    | ⟨0, _⟩ => show 0 ≤ (z 0).val ∧ (z 0).val < 0 + 128; omega
    | ⟨1, _⟩ => show 0 ≤ (z 1).val ∧ (z 1).val < 0 + 2048; omega
  · refine .inr (Rect.mem_set_unit.mpr fun a => ?_)
    match a with
    | ⟨0, _⟩ => show 128 ≤ (z 0).val ∧ (z 0).val < 128 + 8; omega
    | ⟨1, _⟩ => show 0 ≤ (z 1).val ∧ (z 1).val < 0 + 2048; omega

end Cert.MixerAIdeal.Rows

end
-- ==== Proof.MixerAPoints.lean ====
/- What a point leaves, in closed form: the block of the projection's gradient, the tap gradients and the carried rows. -/
module

public import proofs.«01_k».proof.Proof.MixerAPieces

@[expose] public section

set_option maxRecDepth 16384

noncomputable section

namespace Cert.MixerAIdeal.Rows

open Cert.MixerAIdeal Cert.MixerAIdeal.Gen
open Idealize.ShloMosaic Idealize.ShloMosaic.TcCoe Idealize.ShloMosaic.Tactic Idealize.SL.Sem

variable {A : Vec Ideal S4096x14336 .bf16} {D : Vec Ideal S4096x4096 .f32} {W : Vec Ideal S3x2048 .f32}

/-- The blocks a point reads are the arrays' rows from row `b`. -/
structure Blocks (A : Vec Ideal S4096x14336 .bf16) (D : Vec Ideal S4096x4096 .f32) (W : Vec Ideal S3x2048 .f32) (b : ℕ) (i : grid0.Coords)
    (x0 x1 x2 x3 : Vec Ideal S128x2048 .bf16) (x4 x5 : Vec Ideal S16x2048 .bf16) (x6 : Vec Ideal S128x2048 .f32) (x7 : Vec Ideal S8x2048 .f32) : Prop where
  ab : ∀ (r : Fin 128) (l : Fin 2048), x0 (ix2 r l) = look A (b + r.val) l.val
  ac : ∀ (r : Fin 128) (l : Fin 2048), x1 (ix2 r l) = look A (b + r.val) (2048 + l.val)
  ax : ∀ (r : Fin 128) (l : Fin 2048), x2 (ix2 r l) = look A (b + r.val) (4096 + l.val)
  az : ∀ (r : Fin 128) (l : Fin 2048), x3 (ix2 r l) = look A (b + r.val) (6144 + l.val)
  halo : ∀ (r : Fin 8) (l : Fin 2048), k0_pay6 (F := Ideal) i x4 x5 (ix2 r l) = past A (b + r.val) l.val
  dy : ∀ (r : Fin 128) (l : Fin 2048), x6 (ix2 r l) = look D (b + r.val) l.val
  taps : ∀ (k : Fin 8) (l : Fin 2048), k.val < 3 → x7 (ix2 k l) = look W k.val l.val

namespace Blocks

variable {b : ℕ} {i : grid0.Coords} {x0 x1 x2 x3 : Vec Ideal S128x2048 .bf16} {x4 x5 : Vec Ideal S16x2048 .bf16} {x6 : Vec Ideal S128x2048 .f32}
  {x7 : Vec Ideal S8x2048 .f32} (H : Blocks A D W b i x0 x1 x2 x3 x4 x5 x6 x7)

include H

theorem tap (k : ℕ) (hk : k < 3) (h) (l : Fin 2048) :
    View.ld (Val := Elt Ideal) (e' := .f32) x7 (Rect.unit (s := S8x2048) ![k, 0] ![1, 2048] h) (ix2 0 l) = look W k l.val := by
  refine Eq.trans (congrArg x7 ?_) (H.taps ⟨k, by omega⟩ l hk)
  funext a
  apply Fin.ext
  match a with
  | ⟨0, _⟩ => show k + 1 * 0 = k; omega
  | ⟨1, _⟩ => show 0 + 1 * l.val = l.val; omega

/-- The rows before and in the block, read at a shift. -/
theorem past_read {κ : Kind} {sp : Space} (v : View sig κ sp S136x2048 .f32) (off : ℕ) (h8 h0 h) :
    v.readCov (Val := Elt Ideal) [⟨Rect.unit (s := S136x2048) ![8, 0] ![128, 2048] h8, k0_pay10 (F := Ideal) x1 x2⟩,
        ⟨Rect.unit (s := S136x2048) ![0, 0] ![8, 2048] h0, k0_pay6 (F := Ideal) i x4 x5⟩]
      (Rect.unit (s := S136x2048) ![off, 0] ![128, 2048] h).toLoadRect
      = fun y : S128x2048.Idx => past A (b + off + (y 0).val) (y 1).val := by
  rw [readCov_pieces v _ (fun z => past A (b + (z 0).val) (z 1).val)]
  · funext y
    show past A (b + (off + 1 * (y 0).val)) (0 + 1 * (y 1).val) = _
    congr 1 <;> omega
  · intro p hp x
    rcases List.mem_cons.mp hp with rfl | hp
    · obtain ⟨r, l, rfl⟩ : ∃ (r : Fin 128) (l : Fin 2048), x = ix2 r l := ⟨x 0, x 1, eq_ix2 x⟩
      show k0_pay10 (F := Ideal) x1 x2 (ix2 r l) = past A (b + (8 + 1 * r.val)) (0 + 1 * l.val)
      have e : k0_pay10 (F := Ideal) x1 x2 (ix2 r l) = x1 (ix2 r l) * x2 (ix2 r l) := by
        pointwise [k0_pay10, k0_pay9, k0_pay7, k0_pay8]
      rw [e, H.ac, H.ax]
      unfold past prod
      rw [if_neg (by omega), show b + (8 + 1 * r.val) - 8 = b + r.val by omega, show 0 + 1 * l.val = l.val by omega]
    · obtain rfl := List.mem_singleton.mp hp
      obtain ⟨r, l, rfl⟩ : ∃ (r : Fin 8) (l : Fin 2048), x = ix2 r l := ⟨x 0, x 1, eq_ix2 x⟩
      show k0_pay6 (F := Ideal) i x4 x5 (ix2 r l) = past A (b + (0 + 1 * r.val)) (0 + 1 * l.val)
      rw [H.halo, show 0 + 1 * r.val = r.val by omega, show 0 + 1 * l.val = l.val by omega]
  · intro j
    rcases rows_136 ((Rect.unit (s := S136x2048) ![off, 0] ![128, 2048] h).toLoadRect.idx j) h8 h0 with hz | hz
    · exact ⟨_, List.mem_cons_self, hz⟩
    · exact ⟨_, List.mem_cons_of_mem _ List.mem_cons_self, hz⟩

theorem dconv_eq (r : Fin 128) (l : Fin 2048) : k0_pay20 (F := Ideal) x3 x0 x6 (ix2 r l) = dconv A D (b + r.val) l.val := by
  rw [dconv_apply, H.dy, H.ab, H.az]; rfl

theorem dconv_eq' (r : Fin 128) (l : Fin 2048) : k0_pay21 (F := Ideal) x3 x0 x6 (ix2 r l) = dconv A D (b + r.val) l.val := by
  have e : k0_pay21 (F := Ideal) x3 x0 x6 (ix2 r l) = k0_pay20 (F := Ideal) x3 x0 x6 (ix2 r l) := by pointwise [k0_pay21]
  rw [e, H.dconv_eq]

theorem conv_eq (h2 h1 h0) (r : Fin 128) (l : Fin 2048) (q0 q1 : Vec Ideal S128x2048 .f32)
    (hq0 : q0 = fun y => past A (b + 6 + (y 0).val) (y 1).val) (hq1 : q1 = fun y => past A (b + 7 + (y 0).val) (y 1).val) :
    k0_pay13 (F := Ideal) (k0_pay11 x1 x2 (View.ld x7 (Rect.unit (s := S8x2048) ![2, 0] ![1, 2048] h2)))
        (k0_pay12 (View.ld x7 (Rect.unit (s := S8x2048) ![0, 0] ![1, 2048] h0)) q0)
        (View.ld x7 (Rect.unit (s := S8x2048) ![1, 0] ![1, 2048] h1)) q1 (ix2 r l)
      = conv A W (b + r.val) l.val := by
  rw [conv_apply, H.tap 2 (by omega), H.tap 1 (by omega), H.tap 0 (by omega), H.ac, H.ax, hq0, hq1]
  show _ + _ * past A (b + 6 + r.val) l.val + _ * past A (b + 7 + r.val) l.val = _
  unfold conv
  rw [show b + 6 + r.val = b + r.val + 6 by omega, show b + 7 + r.val = b + r.val + 7 by omega]
  rfl

theorem dprod_eq (h2 h1 h0) (r : Fin 128) (l : Fin 2048) (d2 d1 : Vec Ideal S128x2048 .f32)
    (hd2 : d2 = fun y => dconv A D (b + 2 + (y 0).val) (y 1).val) (hd1 : d1 = fun y => dconv A D (b + 1 + (y 0).val) (y 1).val) :
    k0_pay23 (F := Ideal) (k0_pay20 x3 x0 x6) (k0_pay22 (View.ld x7 (Rect.unit (s := S8x2048) ![2, 0] ![1, 2048] h2)))
        (View.ld x7 (Rect.unit (s := S8x2048) ![0, 0] ![1, 2048] h0)) d2
        (View.ld x7 (Rect.unit (s := S8x2048) ![1, 0] ![1, 2048] h1)) d1 (ix2 r l)
      = dprod A D W (b + r.val) l.val := by
  rw [dprod_apply, H.tap 2 (by omega), H.tap 1 (by omega), H.tap 0 (by omega), H.dconv_eq, hd2, hd1]
  show _ + _ * dconv A D (b + 2 + r.val) l.val + _ * dconv A D (b + 1 + r.val) l.val = _
  unfold dprod
  rw [show b + 2 + r.val = b + r.val + 2 by omega, show b + 1 + r.val = b + r.val + 1 by omega]

/-- The block of the projection's gradient. -/
theorem columns (h2 h1 h0 g0 g1 g2 g3) (q0 q1 d2 d1 : Vec Ideal S128x2048 .f32)
    (hq0 : q0 = fun y => past A (b + 6 + (y 0).val) (y 1).val) (hq1 : q1 = fun y => past A (b + 7 + (y 0).val) (y 1).val)
    (hd2 : d2 = fun y => dconv A D (b + 2 + (y 0).val) (y 1).val) (hd1 : d1 = fun y => dconv A D (b + 1 + (y 0).val) (y 1).val)
    (hc : ∀ y : S128x8192.Idx, ∃ p ∈ ([⟨Rect.unit (s := S128x8192) ![0, 4096] ![128, 2048] g2,
          k0_pay25 (F := Ideal) (k0_pay7 x1) (k0_pay20 x3 x0 x6) (k0_pay22 (View.ld x7 (Rect.unit (s := S8x2048) ![2, 0] ![1, 2048] h2)))
            (View.ld x7 (Rect.unit (s := S8x2048) ![0, 0] ![1, 2048] h0)) d2 (View.ld x7 (Rect.unit (s := S8x2048) ![1, 0] ![1, 2048] h1)) d1⟩,
        ⟨Rect.unit (s := S128x8192) ![0, 2048] ![128, 2048] g1,
          k0_pay24 (F := Ideal) (k0_pay8 x2) (k0_pay20 x3 x0 x6) (k0_pay22 (View.ld x7 (Rect.unit (s := S8x2048) ![2, 0] ![1, 2048] h2)))
            (View.ld x7 (Rect.unit (s := S8x2048) ![0, 0] ![1, 2048] h0)) d2 (View.ld x7 (Rect.unit (s := S8x2048) ![1, 0] ![1, 2048] h1)) d1⟩,
        ⟨Rect.unit (s := S128x8192) ![0, 6144] ![128, 2048] g3,
          k0_pay19 (F := Ideal) (k0_pay11 x1 x2 (View.ld x7 (Rect.unit (s := S8x2048) ![2, 0] ![1, 2048] h2)))
            (k0_pay12 (View.ld x7 (Rect.unit (s := S8x2048) ![0, 0] ![1, 2048] h0)) q0)
            (View.ld x7 (Rect.unit (s := S8x2048) ![1, 0] ![1, 2048] h1)) q1 x3 x0 x6⟩,
        ⟨Rect.unit (s := S128x8192) ![0, 0] ![128, 2048] g0,
          k0_pay18 (F := Ideal) (k0_pay11 x1 x2 (View.ld x7 (Rect.unit (s := S8x2048) ![2, 0] ![1, 2048] h2)))
            (k0_pay12 (View.ld x7 (Rect.unit (s := S8x2048) ![0, 0] ![1, 2048] h0)) q0)
            (View.ld x7 (Rect.unit (s := S8x2048) ![1, 0] ![1, 2048] h1)) q1 x3 x6⟩] : List (View.Piece (Elt Ideal) S128x8192 .bf16)), y ∈ p.1.set) :
    View.canon ([⟨Rect.unit (s := S128x8192) ![0, 4096] ![128, 2048] g2,
          k0_pay25 (F := Ideal) (k0_pay7 x1) (k0_pay20 x3 x0 x6) (k0_pay22 (View.ld x7 (Rect.unit (s := S8x2048) ![2, 0] ![1, 2048] h2)))
            (View.ld x7 (Rect.unit (s := S8x2048) ![0, 0] ![1, 2048] h0)) d2 (View.ld x7 (Rect.unit (s := S8x2048) ![1, 0] ![1, 2048] h1)) d1⟩,
        ⟨Rect.unit (s := S128x8192) ![0, 2048] ![128, 2048] g1,
          k0_pay24 (F := Ideal) (k0_pay8 x2) (k0_pay20 x3 x0 x6) (k0_pay22 (View.ld x7 (Rect.unit (s := S8x2048) ![2, 0] ![1, 2048] h2)))
            (View.ld x7 (Rect.unit (s := S8x2048) ![0, 0] ![1, 2048] h0)) d2 (View.ld x7 (Rect.unit (s := S8x2048) ![1, 0] ![1, 2048] h1)) d1⟩,
        ⟨Rect.unit (s := S128x8192) ![0, 6144] ![128, 2048] g3,
          k0_pay19 (F := Ideal) (k0_pay11 x1 x2 (View.ld x7 (Rect.unit (s := S8x2048) ![2, 0] ![1, 2048] h2)))
            (k0_pay12 (View.ld x7 (Rect.unit (s := S8x2048) ![0, 0] ![1, 2048] h0)) q0)
            (View.ld x7 (Rect.unit (s := S8x2048) ![1, 0] ![1, 2048] h1)) q1 x3 x0 x6⟩,
        ⟨Rect.unit (s := S128x8192) ![0, 0] ![128, 2048] g0,
          k0_pay18 (F := Ideal) (k0_pay11 x1 x2 (View.ld x7 (Rect.unit (s := S8x2048) ![2, 0] ![1, 2048] h2)))
            (k0_pay12 (View.ld x7 (Rect.unit (s := S8x2048) ![0, 0] ![1, 2048] h0)) q0)
            (View.ld x7 (Rect.unit (s := S8x2048) ![1, 0] ![1, 2048] h1)) q1 x3 x6⟩] : List (View.Piece (Elt Ideal) S128x8192 .bf16))
      = fun y => grad A D W (b + (y 0).val) (y 1).val := by
  funext y
  refine View.canon_apply_of_pieces (Val := Elt Ideal) (fun y => grad A D W (b + (y 0).val) (y 1).val) _ ?_ y (hc y)
  intro p hp x
  have hl : ∀ l : Fin 2048, l.val < 2048 := fun l => l.isLt
  rcases List.mem_cons.mp hp with rfl | hp
  · obtain ⟨r, l, rfl⟩ : ∃ (r : Fin 128) (l : Fin 2048), x = ix2 r l := ⟨x 0, x 1, eq_ix2 x⟩
    have := hl l
    show k0_pay25 (F := Ideal) _ _ _ _ _ _ _ (ix2 r l) = grad A D W (b + (0 + 1 * r.val)) (4096 + 1 * l.val)
    rw [dax_apply, H.dprod_eq _ _ _ _ _ _ _ hd2 hd1, H.ac]
    unfold grad
    rw [if_neg (by omega), if_neg (by omega), if_pos (by omega), show 0 + 1 * r.val = r.val by omega, show 4096 + 1 * l.val - 4096 = l.val by omega]
  rcases List.mem_cons.mp hp with rfl | hp
  · obtain ⟨r, l, rfl⟩ : ∃ (r : Fin 128) (l : Fin 2048), x = ix2 r l := ⟨x 0, x 1, eq_ix2 x⟩
    have := hl l
    show k0_pay24 (F := Ideal) _ _ _ _ _ _ _ (ix2 r l) = grad A D W (b + (0 + 1 * r.val)) (2048 + 1 * l.val)
    rw [dac_apply, H.dprod_eq _ _ _ _ _ _ _ hd2 hd1, H.ax]
    unfold grad
    rw [if_neg (by omega), if_pos (by omega), show 0 + 1 * r.val = r.val by omega, show 2048 + 1 * l.val - 2048 = l.val by omega]
  rcases List.mem_cons.mp hp with rfl | hp
  · obtain ⟨r, l, rfl⟩ : ∃ (r : Fin 128) (l : Fin 2048), x = ix2 r l := ⟨x 0, x 1, eq_ix2 x⟩
    have := hl l
    show k0_pay19 (F := Ideal) _ _ _ _ _ _ _ (ix2 r l) = grad A D W (b + (0 + 1 * r.val)) (6144 + 1 * l.val)
    rw [dz_apply, H.conv_eq _ _ _ _ _ _ _ hq0 hq1, H.az, H.ab, H.dy]
    unfold grad
    rw [if_neg (by omega), if_neg (by omega), if_neg (by omega), show 0 + 1 * r.val = r.val by omega, show 6144 + 1 * l.val - 6144 = l.val by omega]
    rfl
  obtain rfl := List.mem_singleton.mp hp
  obtain ⟨r, l, rfl⟩ : ∃ (r : Fin 128) (l : Fin 2048), x = ix2 r l := ⟨x 0, x 1, eq_ix2 x⟩
  have := hl l
  show k0_pay18 (F := Ideal) _ _ _ _ _ _ (ix2 r l) = grad A D W (b + (0 + 1 * r.val)) (0 + 1 * l.val)
  rw [dab_apply, H.conv_eq _ _ _ _ _ _ _ hq0 hq1, H.az, H.dy]
  unfold grad
  rw [if_pos (by omega), show 0 + 1 * r.val = r.val by omega, show 0 + 1 * l.val = l.val by omega]
  rfl

/-- A tap's row of what this point adds. -/
theorem tap_sum (k : ℕ) (l : Fin 2048) (q : Vec Ideal S128x2048 .f32) (hq : q = fun y => past A (b + (6 + k) + (y 0).val) (y 1).val) :
    ∑ x : Fin 128, k0_pay20 (F := Ideal) x3 x0 x6 (ix2 x l) * q (ix2 x l) = tapTerm A D b k l.val := by
  unfold tapTerm
  refine Finset.sum_congr rfl fun x _ => ?_
  rw [H.dconv_eq, hq]
  show _ * past A (b + (6 + k) + x.val) l.val = _
  rw [show b + (6 + k) + x.val = b + x.val + 6 + k by omega]

/-- The 136 rows of the convolution's gradient: the block's and, after them, the eight carried. -/
theorem dconv_later {κ : Kind} {sp : Space} (v : View sig κ sp S136x2048 .f32) (off : ℕ) (h0 h) (f : v.ty.Contents (Elt Ideal))
    (hf : ∀ z : S136x2048.Idx, 128 ≤ (z 0).val → v.read (Elt Ideal) f z = dconv A D (b + (z 0).val) (z 1).val) :
    View.ld (Val := Elt Ideal) (e' := .f32) (v.read (Elt Ideal) (v.writes (Elt Ideal) f [⟨Rect.unit (s := S136x2048) ![0, 0] ![128, 2048] h0, k0_pay21 (F := Ideal) x3 x0 x6⟩]))
        (Rect.unit (s := S136x2048) ![off, 0] ![128, 2048] h)
      = fun y : S128x2048.Idx => dconv A D (b + off + (y 0).val) (y 1).val := by
  funext y
  refine Eq.trans (read_pieces v f (fun z => dconv A D (b + (z 0).val) (z 1).val) _ _ ?_ fun hz => hf _ ?_) ?_
  · intro p hp x
    obtain rfl := List.mem_singleton.mp hp
    obtain ⟨r, l, rfl⟩ : ∃ (r : Fin 128) (l : Fin 2048), x = ix2 r l := ⟨x 0, x 1, eq_ix2 x⟩
    show k0_pay21 (F := Ideal) x3 x0 x6 (ix2 r l) = dconv A D (b + (0 + 1 * r.val)) (0 + 1 * l.val)
    rw [H.dconv_eq', show 0 + 1 * r.val = r.val by omega, show 0 + 1 * l.val = l.val by omega]
  · have hz' := hz _ (List.mem_singleton.mpr rfl)
    have y1 : (y 1).val < 2048 := (y 1).isLt
    by_contra hlt
    have hm : (Rect.unit (s := S136x2048) ![off, 0] ![128, 2048] h).idx y ∈ (Rect.unit (s := S136x2048) ![0, 0] ![128, 2048] h0).set := ?_
    · exact hz' hm
    refine Rect.mem_set_unit.mpr fun a => ?_
    match a with
    | ⟨0, _⟩ =>
      change ¬128 ≤ off + 1 * (y 0).val at hlt
      show 0 ≤ off + 1 * (y 0).val ∧ off + 1 * (y 0).val < 0 + 128; omega
    | ⟨1, _⟩ => show 0 ≤ 0 + 1 * (y 1).val ∧ 0 + 1 * (y 1).val < 0 + 2048; omega
  · show dconv A D (b + (off + 1 * (y 0).val)) (0 + 1 * (y 1).val) = _
    congr 1 <;> omega

theorem dconv_first {κ : Kind} {sp : Space} (v : View sig κ sp S136x2048 .f32) (off : ℕ) (h0 h8 h) (hb : 3968 ≤ b) :
    v.readCov (Val := Elt Ideal) [⟨Rect.unit (s := S136x2048) ![0, 0] ![128, 2048] h0, k0_pay21 (F := Ideal) x3 x0 x6⟩,
        ⟨Rect.unit (s := S136x2048) ![128, 0] ![8, 2048] h8, k0_pay4 (F := Ideal)⟩]
      (Rect.unit (s := S136x2048) ![off, 0] ![128, 2048] h).toLoadRect
      = fun y : S128x2048.Idx => dconv A D (b + off + (y 0).val) (y 1).val := by
  rw [readCov_pieces v _ (fun z => dconv A D (b + (z 0).val) (z 1).val)]
  · funext y
    show dconv A D (b + (off + 1 * (y 0).val)) (0 + 1 * (y 1).val) = _
    congr 1 <;> omega
  · intro p hp x
    rcases List.mem_cons.mp hp with rfl | hp
    · obtain ⟨r, l, rfl⟩ : ∃ (r : Fin 128) (l : Fin 2048), x = ix2 r l := ⟨x 0, x 1, eq_ix2 x⟩
      show k0_pay21 (F := Ideal) x3 x0 x6 (ix2 r l) = dconv A D (b + (0 + 1 * r.val)) (0 + 1 * l.val)
      rw [H.dconv_eq', show 0 + 1 * r.val = r.val by omega, show 0 + 1 * l.val = l.val by omega]
    · obtain rfl := List.mem_singleton.mp hp
      obtain ⟨r, l, rfl⟩ : ∃ (r : Fin 8) (l : Fin 2048), x = ix2 r l := ⟨x 0, x 1, eq_ix2 x⟩
      show k0_pay4 (F := Ideal) (ix2 r l) = dconv A D (b + (128 + 1 * r.val)) (0 + 1 * l.val)
      rw [dconv_beyond _ _ _ _ (by omega)]
      pointwise [k0_pay4]
  · intro j
    rcases rows_136' ((Rect.unit (s := S136x2048) ![off, 0] ![128, 2048] h).toLoadRect.idx j) h0 h8 with hz | hz
    · exact ⟨_, List.mem_cons_self, hz⟩
    · exact ⟨_, List.mem_cons_of_mem _ List.mem_cons_self, hz⟩

/-- The eight rows carried on are the block's first ones. -/
theorem carried_row (L : List (View.Piece (Elt Ideal) S136x2048 .f32)) {κ : Kind} {sp : Space} (v : View sig κ sp S136x2048 .f32) (h8 h0 h)
    (z : S136x2048.Idx) (hz : 128 ≤ (z 0).val) :
    View.canon (⟨Rect.unit (s := S136x2048) ![128, 0] ![8, 2048] h8, k0_pay3 (F := Ideal)
        (v.readCov (Val := Elt Ideal) (⟨Rect.unit (s := S136x2048) ![0, 0] ![128, 2048] h0, k0_pay21 (F := Ideal) x3 x0 x6⟩ :: L)
          (Rect.unit (s := S136x2048) ![0, 0] ![8, 2048] h).toLoadRect)⟩ :: ⟨Rect.unit (s := S136x2048) ![0, 0] ![128, 2048] h0, k0_pay21 (F := Ideal) x3 x0 x6⟩ :: L) z
      = dconv A D (b + ((z 0).val - 128)) (z 1).val := by
  have z0 : (z 0).val < 136 := (z 0).isLt
  have z1 : (z 1).val < 2048 := (z 1).isLt
  have e : z = (Rect.unit (s := S136x2048) ![128, 0] ![8, 2048] h8).emb (ix2 (⟨(z 0).val - 128, by omega⟩ : Fin 8) (⟨(z 1).val, z1⟩ : Fin 2048)) := by
    funext a
    apply Fin.ext
    match a with
    | ⟨0, _⟩ => show (z 0).val = 128 + 1 * ((z 0).val - 128); omega
    | ⟨1, _⟩ => show (z 1).val = 0 + 1 * (z 1).val; omega
  conv_lhs => rw [e]
  rw [View.canon_cons_emb]
  have e3 : ∀ (u : Vec Ideal S8x2048 .f32) (r : Fin 8) (l : Fin 2048), k0_pay3 (F := Ideal) u (ix2 r l) = u (ix2 r l) := by
    intro u r l; pointwise [k0_pay3]
  rw [e3, View.readCov_eq_canon']
  show View.canon _ _ = _
  have e' : (Rect.unit (s := S136x2048) ![0, 0] ![8, 2048] h).toLoadRect.idx (ix2 (⟨(z 0).val - 128, by omega⟩ : Fin 8) (⟨(z 1).val, z1⟩ : Fin 2048))
      = (Rect.unit (s := S136x2048) ![0, 0] ![128, 2048] h0).emb (ix2 (⟨(z 0).val - 128, by omega⟩ : Fin 128) (⟨(z 1).val, z1⟩ : Fin 2048)) := by
    funext a
    apply Fin.ext
    match a with
    | ⟨0, _⟩ => rfl
    | ⟨1, _⟩ => rfl
  rw [e', View.canon_cons_emb, H.dconv_eq']

end Blocks

end Cert.MixerAIdeal.Rows

end
-- ==== Proof.MixerABlocks.lean ====
/- The blocks each point reads, as rows of the arrays, and what a point leaves. -/
module

public import proofs.«01_k».proof.Proof.MixerAPoints

@[expose] public section

set_option maxRecDepth 16384

noncomputable section

namespace Cert.MixerAIdeal.Rows

open Cert.MixerAIdeal Cert.MixerAIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- The saved projection, the incoming gradient and the taps. -/
abbrev argA (c : Dev nD) : Vec Ideal S4096x14336 .bf16 := m ((c : Thread nD τ).loc main_arg0)
abbrev argD (c : Dev nD) : Vec Ideal S4096x4096 .f32 := m ((c : Thread nD τ).loc main_arg1)
abbrev argW (c : Dev nD) : Vec Ideal S3x2048 .f32 := m ((c : Thread nD τ).loc main_arg2)

/-- The first row of a point's block: the blocks are taken from the last to the first. -/
def base (t : ℕ) : ℕ := (31 - t) * 128

theorem point_lt (t : Fin cfg0.N) : t.val < 32 := lt_of_lt_of_eq t.isLt (show cfg0.N = 32 from N_0)

/-- The block positions of the windows at a point. -/
theorem positions : ∀ t : Fin cfg0.N,
    (win0_0.index t (0 : Fin 2) = 31 - t.val ∧ win0_0.index t (1 : Fin 2) = 0)
    ∧ (win0_1.index t (0 : Fin 2) = 31 - t.val ∧ win0_1.index t (1 : Fin 2) = 1)
    ∧ (win0_2.index t (0 : Fin 2) = 31 - t.val ∧ win0_2.index t (1 : Fin 2) = 2)
    ∧ (win0_3.index t (0 : Fin 2) = 31 - t.val ∧ win0_3.index t (1 : Fin 2) = 3)
    ∧ (win0_4.index t (0 : Fin 2) = (31 - t.val) * 8 - 1 ∧ win0_4.index t (1 : Fin 2) = 1)
    ∧ (win0_5.index t (0 : Fin 2) = (31 - t.val) * 8 - 1 ∧ win0_5.index t (1 : Fin 2) = 2)
    ∧ (win0_6.index t (0 : Fin 2) = 31 - t.val ∧ win0_6.index t (1 : Fin 2) = 0)
    ∧ (win0_7.index t (0 : Fin 2) = 0 ∧ win0_7.index t (1 : Fin 2) = 0)
    ∧ (win0_8.index t (0 : Fin 2) = 31 - t.val ∧ win0_8.index t (1 : Fin 2) = 0)
    ∧ (win0_9.index t (0 : Fin 2) = 0 ∧ win0_9.index t (1 : Fin 2) = 0)
    ∧ (grid0.coords t 0).val = t.val :=
  (by decide +kernel : ∀ t : Fin grid0.N, _)

theorem taps_host (c : Dev nD) : ∃ v, (V m c main_v0 : Vec Ideal S8x2048 .f32)
    = pad (u := S_) (s := S3x2048) S8x2048 (![0, 0] : Fin 2 → Nat) ![5, 0] ![0, 0] (argW m c) v pads_S3x2048_S8x2048_050_000 h_S_ := by
  refine ⟨?_, ?_⟩
  rotate_left 1
  · unfold V
    simp only [hostOps0, hostOps0_1, List.flatten_cons, List.flatten_nil, List.append_nil, List.cons_append, List.nil_append]
    after_results_simp
    rfl

/-- The taps' array holds the three taps in its first rows. -/
theorem taps_array (c : Dev nD) (k : Fin 8) (l : Fin 2048) (hk : k.val < 3) :
    (V m c main_v0 : Vec Ideal S8x2048 .f32) (ix2 k l) = look (argW m c) k.val l.val := by
  obtain ⟨v, e⟩ := taps_host m c
  rw [e]
  have hl : l.val < 2048 := l.isLt
  rw [show look (argW m c) k.val l.val = argW m c (ix2 ⟨k.val, hk⟩ ⟨l.val, hl⟩) from (look_ix _ _ _ hk hl).symm]
  rw [pad_apply, dif_pos (fun a => by
    match a with
    | ⟨0, _⟩ => show 0 ≤ k.val ∧ (k.val - 0) % 1 = 0 ∧ (k.val - 0) / 1 < 3; omega
    | ⟨1, _⟩ => show 0 ≤ l.val ∧ (l.val - 0) % 1 = 0 ∧ (l.val - 0) / 1 < 2048; omega)]
  congr 1
  funext a
  apply Fin.ext
  match a with
  | ⟨0, _⟩ => show (k.val - 0) / 1 = k.val; omega
  | ⟨1, _⟩ => show (l.val - 0) / 1 = l.val; omega

set_option maxHeartbeats 2000000 in
theorem blocks (c : Dev nD) (t : Fin cfg0.N) :
    Blocks (argA m c) (argD m c) (argW m c) (base t.val) (grid0.coords t) (iblk m c 0 t) (iblk m c 1 t) (iblk m c 2 t) (iblk m c 3 t)
      (iblk m c 4 t) (iblk m c 5 t) (iblk m c 6 t) (iblk m c 7 t) := by
  obtain ⟨⟨a0, b0⟩, ⟨a1, b1⟩, ⟨a2, b2⟩, ⟨a3, b3⟩, ⟨a4, b4⟩, ⟨a5, b5⟩, ⟨a6, b6⟩, ⟨a7, b7⟩, -, -, ht⟩ := positions t
  have hN := point_lt t
  unfold base
  refine ⟨?_, ?_, ?_, ?_, ?_, ?_, ?_⟩
  · intro r l
    have hr := r.isLt; have hl := l.isLt
    rw [← look_ix (argA m c) ((31 - t.val) * 128 + r.val) l.val (by omega) (by omega)]
    show V m c main_arg0 _ = _
    rw [V_main_arg0]
    congr 1
    funext a
    apply Fin.ext
    match a with
    | ⟨0, _⟩ => show win0_0.index t 0 * 128 + 1 * r.val = (31 - t.val) * 128 + r.val; rw [a0]; omega
    | ⟨1, _⟩ => show win0_0.index t 1 * 2048 + 1 * l.val = l.val; rw [b0]; omega
  · intro r l
    have hr := r.isLt; have hl := l.isLt
    rw [← look_ix (argA m c) ((31 - t.val) * 128 + r.val) (2048 + l.val) (by omega) (by omega)]
    show V m c main_arg0 _ = _
    rw [V_main_arg0]
    congr 1
    funext a
    apply Fin.ext
    match a with
    | ⟨0, _⟩ => show win0_1.index t 0 * 128 + 1 * r.val = (31 - t.val) * 128 + r.val; rw [a1]; omega
    | ⟨1, _⟩ => show win0_1.index t 1 * 2048 + 1 * l.val = 2048 + l.val; rw [b1]; omega
  · intro r l
    have hr := r.isLt; have hl := l.isLt
    rw [← look_ix (argA m c) ((31 - t.val) * 128 + r.val) (4096 + l.val) (by omega) (by omega)]
    show V m c main_arg0 _ = _
    rw [V_main_arg0]
    congr 1
    funext a
    apply Fin.ext
    match a with
    | ⟨0, _⟩ => show win0_2.index t 0 * 128 + 1 * r.val = (31 - t.val) * 128 + r.val; rw [a2]; omega
    | ⟨1, _⟩ => show win0_2.index t 1 * 2048 + 1 * l.val = 4096 + l.val; rw [b2]; omega
  · intro r l
    have hr := r.isLt; have hl := l.isLt
    rw [← look_ix (argA m c) ((31 - t.val) * 128 + r.val) (6144 + l.val) (by omega) (by omega)]
    show V m c main_arg0 _ = _
    rw [V_main_arg0]
    congr 1
    funext a
    apply Fin.ext
    match a with
    | ⟨0, _⟩ => show win0_3.index t 0 * 128 + 1 * r.val = (31 - t.val) * 128 + r.val; rw [a3]; omega
    | ⟨1, _⟩ => show win0_3.index t 1 * 2048 + 1 * l.val = 6144 + l.val; rw [b3]; omega
  · intro r l
    have hr := r.isLt; have hl := l.isLt
    rw [halo_apply, ht]
    unfold past
    by_cases h : t.val = 31
    · rw [if_pos h, if_pos (by omega)]
    · rw [if_neg h, if_neg (by omega)]
      unfold prod
      rw [← look_ix (argA m c) ((31 - t.val) * 128 + r.val - 8) (2048 + l.val) (by omega) (by omega),
        ← look_ix (argA m c) ((31 - t.val) * 128 + r.val - 8) (4096 + l.val) (by omega) (by omega)]
      congr 1
      · show V m c main_arg0 _ = _
        rw [V_main_arg0]
        congr 1
        funext a
        apply Fin.ext
        match a with
        | ⟨0, _⟩ => show win0_4.index t 0 * 16 + 1 * (8 + r.val) = (31 - t.val) * 128 + r.val - 8; rw [a4]; omega
        | ⟨1, _⟩ => show win0_4.index t 1 * 2048 + 1 * l.val = 2048 + l.val; rw [b4]; omega
      · show V m c main_arg0 _ = _
        rw [V_main_arg0]
        congr 1
        funext a
        apply Fin.ext
        match a with
        | ⟨0, _⟩ => show win0_5.index t 0 * 16 + 1 * (8 + r.val) = (31 - t.val) * 128 + r.val - 8; rw [a5]; omega
        | ⟨1, _⟩ => show win0_5.index t 1 * 2048 + 1 * l.val = 4096 + l.val; rw [b5]; omega
  · intro r l
    have hr := r.isLt; have hl := l.isLt
    rw [← look_ix (argD m c) ((31 - t.val) * 128 + r.val) l.val (by omega) (by omega)]
    show V m c main_arg1 _ = _
    rw [V_main_arg1]
    congr 1
    funext a
    apply Fin.ext
    match a with
    | ⟨0, _⟩ => show win0_6.index t 0 * 128 + 1 * r.val = (31 - t.val) * 128 + r.val; rw [a6]; omega
    | ⟨1, _⟩ => show win0_6.index t 1 * 2048 + 1 * l.val = l.val; rw [b6]; omega
  · intro k l hk
    rw [← taps_array m c k l hk]
    show V m c main_v0 _ = _
    congr 1
    funext a
    apply Fin.ext
    match a with
    | ⟨0, _⟩ => show win0_7.index t 0 * 8 + 1 * k.val = k.val; rw [a7]; omega
    | ⟨1, _⟩ => show win0_7.index t 1 * 2048 + 1 * l.val = l.val; rw [b7]; omega

end Cert.MixerAIdeal.Rows

end
-- ==== Proof.MixerATaps.lean ====
/- The tap gradients' rows a point stores, over the rows it found. -/
module

public import proofs.«01_k».proof.Proof.MixerAPoints

@[expose] public section

set_option maxRecDepth 16384

noncomputable section

namespace Cert.MixerAIdeal.Rows

open Cert.MixerAIdeal Cert.MixerAIdeal.Gen
open Idealize.ShloMosaic Idealize.ShloMosaic.TcCoe Idealize.ShloMosaic.Tactic Idealize.SL.Sem

variable {A : Vec Ideal S4096x14336 .bf16} {D : Vec Ideal S4096x4096 .f32} {W : Vec Ideal S3x2048 .f32}

theorem row_index (k : ℕ) (h) (z : S8x2048.Idx) (hz : (z 0).val = k) :
    (Rect.unit (s := S8x2048) ![k, 0] ![1, 2048] h).emb (ix2 (0 : Fin 1) (⟨(z 1).val, (z 1).isLt⟩ : Fin 2048)) = z := by
  funext a
  apply Fin.ext
  match a with
  | ⟨0, _⟩ => show k + 1 * 0 = (z 0).val; omega
  | ⟨1, _⟩ => show 0 + 1 * (z 1).val = (z 1).val; omega

theorem row_hit (k : ℕ) (h) (w : Vec Ideal S1x2048 .f32) (L : List (View.Piece (Elt Ideal) S8x2048 .f32)) (z : S8x2048.Idx) (hz : (z 0).val = k) :
    View.canon (⟨Rect.unit (s := S8x2048) ![k, 0] ![1, 2048] h, w⟩ :: L) z = w (ix2 (0 : Fin 1) (⟨(z 1).val, (z 1).isLt⟩ : Fin 2048)) := by
  conv_lhs => rw [← row_index k h z hz]
  rw [View.canon_cons_emb]

theorem row_miss (k : ℕ) (h) (w : Vec Ideal S1x2048 .f32) (L : List (View.Piece (Elt Ideal) S8x2048 .f32)) (z : S8x2048.Idx) (hz : (z 0).val ≠ k) :
    View.canon (⟨Rect.unit (s := S8x2048) ![k, 0] ![1, 2048] h, w⟩ :: L) z = View.canon L z := by
  refine View.canon_cons_of_not_mem _ _ fun hm => ?_
  have hm' : z ∈ (Rect.unit (s := S8x2048) ![k, 0] ![1, 2048] h).set := hm
  have := Rect.mem_set_unit.mp hm' 0
  change k ≤ (z 0).val ∧ (z 0).val < k + 1 at this
  omega

theorem row_read {κ : Kind} {sp : Space} (v : View sig κ sp S8x2048 .f32) (L : List (View.Piece (Elt Ideal) S8x2048 .f32)) (k : ℕ) (hk : k < 8) (h) (l : Fin 2048) :
    v.readCov (Val := Elt Ideal) L (Rect.unit (s := S8x2048) ![k, 0] ![1, 2048] h).toLoadRect (ix2 (0 : Fin 1) l) = View.canon L (ix2 (⟨k, hk⟩ : Fin 8) l) := by
  rw [View.readCov_eq_canon']
  show View.canon L _ = _
  congr 1
  funext a
  apply Fin.ext
  match a with
  | ⟨0, _⟩ => show k + 1 * 0 = k; omega
  | ⟨1, _⟩ => show 0 + 1 * l.val = l.val; omega

theorem cleared (h) (z : S8x2048.Idx) :
    View.canon ([⟨Rect.unit (s := S8x2048) ![0, 0] ![8, 2048] h, k0_pay5 (F := Ideal)⟩] : List (View.Piece (Elt Ideal) S8x2048 .f32)) z = 0 := by
  have e : View.canon ([⟨Rect.unit (s := S8x2048) ![0, 0] ![8, 2048] h, k0_pay5 (F := Ideal)⟩] : List (View.Piece (Elt Ideal) S8x2048 .f32)) = k0_pay5 (F := Ideal) :=
    View.canon_unit_zero (S := S8x2048) zeros _ _
  rw [e]
  pointwise [k0_pay5]

namespace Blocks

variable {b : ℕ} {i : grid0.Coords} {x0 x1 x2 x3 : Vec Ideal S128x2048 .bf16} {x4 x5 : Vec Ideal S16x2048 .bf16} {x6 : Vec Ideal S128x2048 .f32}
  {x7 : Vec Ideal S8x2048 .f32} (H : Blocks A D W b i x0 x1 x2 x3 x4 x5 x6 x7)

include H

theorem taps_later {κ : Kind} {sp : Space} (v : View sig κ sp S8x2048 .f32) (o : Vec Ideal S8x2048 .f32) (f : v.ty.Contents (Elt Ideal))
    (hf : v.read (Elt Ideal) f = o) (h2 h1 h0) (q2 q1 q0 : Vec Ideal S128x2048 .f32)
    (hq2 : q2 = fun y => past A (b + 8 + (y 0).val) (y 1).val) (hq1 : q1 = fun y => past A (b + 7 + (y 0).val) (y 1).val)
    (hq0 : q0 = fun y => past A (b + 6 + (y 0).val) (y 1).val) (z : S8x2048.Idx) :
    v.read (Elt Ideal) (v.writes (Elt Ideal) f
      [⟨Rect.unit (s := S8x2048) ![2, 0] ![1, 2048] h2, k0_pay2 (F := Ideal) (k0_pay20 x3 x0 x6) (View.ld o (Rect.unit (s := S8x2048) ![2, 0] ![1, 2048] h2)) q2⟩,
       ⟨Rect.unit (s := S8x2048) ![1, 0] ![1, 2048] h1, k0_pay1 (F := Ideal) (k0_pay27 (View.ld o (Rect.unit (s := S8x2048) ![1, 0] ![1, 2048] h1))) (k0_pay28 (k0_pay20 x3 x0 x6) q1)⟩,
       ⟨Rect.unit (s := S8x2048) ![0, 0] ![1, 2048] h0, k0_pay26 (F := Ideal) (k0_pay20 x3 x0 x6) (View.ld o (Rect.unit (s := S8x2048) ![0, 0] ![1, 2048] h0)) q0⟩]) z
      = if (z 0).val < 3 then o z + tapTerm A D b (z 0).val (z 1).val else o z := by
  refine read_pieces v f (fun z => if (z 0).val < 3 then o z + tapTerm A D b (z 0).val (z 1).val else o z) z _ ?_ fun hz => ?_
  · have key : ∀ (k : ℕ) (hk : k < 3) (h : ∀ a : Fin S8x2048.rank, (![k, 0] : Fin 2 → ℕ) a + (![1, 2048] : Fin 2 → ℕ) a ≤ S8x2048.size a) (r : Fin 1) (l : Fin 2048),
        View.ld (Val := Elt Ideal) (e' := .f32) o (Rect.unit (s := S8x2048) ![k, 0] ![1, 2048] h) (ix2 r l) + tapTerm A D b k l.val
          = (fun z : S8x2048.Idx => if (z 0).val < 3 then o z + tapTerm A D b (z 0).val (z 1).val else o z) ((Rect.unit (s := S8x2048) ![k, 0] ![1, 2048] h).emb (ix2 r l)) := by
      intro k hk h r l
      have hr : r.val = 0 := by have := r.isLt; omega
      show o ((Rect.unit (s := S8x2048) ![k, 0] ![1, 2048] h).emb (ix2 r l)) + _
        = if k + 1 * r.val < 3 then o ((Rect.unit (s := S8x2048) ![k, 0] ![1, 2048] h).emb (ix2 r l)) + tapTerm A D b (k + 1 * r.val) (0 + 1 * l.val) else _
      rw [if_pos (by omega), show k + 1 * r.val = k by omega, show 0 + 1 * l.val = l.val by omega]
    intro p hp x
    rcases List.mem_cons.mp hp with rfl | hp
    · obtain ⟨r, l, rfl⟩ : ∃ (r : Fin 1) (l : Fin 2048), x = ix2 r l := ⟨x 0, x 1, eq_ix2 x⟩
      refine Eq.trans ?_ (key 2 (by omega) h2 r l)
      show k0_pay2 (F := Ideal) _ _ _ (ix2 r l) = _
      rw [tap2_apply, H.tap_sum 2 l q2 hq2]
    rcases List.mem_cons.mp hp with rfl | hp
    · obtain ⟨r, l, rfl⟩ : ∃ (r : Fin 1) (l : Fin 2048), x = ix2 r l := ⟨x 0, x 1, eq_ix2 x⟩
      refine Eq.trans ?_ (key 1 (by omega) h1 r l)
      show k0_pay1 (F := Ideal) _ _ (ix2 r l) = _
      rw [tap1_apply, H.tap_sum 1 l q1 hq1]
    obtain rfl := List.mem_singleton.mp hp
    obtain ⟨r, l, rfl⟩ : ∃ (r : Fin 1) (l : Fin 2048), x = ix2 r l := ⟨x 0, x 1, eq_ix2 x⟩
    refine Eq.trans ?_ (key 0 (by omega) h0 r l)
    show k0_pay26 (F := Ideal) _ _ _ (ix2 r l) = _
    rw [tap0_apply, H.tap_sum 0 l q0 hq0]
  · have z1 : (z 1).val < 2048 := (z 1).isLt
    have miss : ∀ (k : ℕ) (h : ∀ a : Fin S8x2048.rank, (![k, 0] : Fin 2 → ℕ) a + (![1, 2048] : Fin 2 → ℕ) a ≤ S8x2048.size a),
        z ∉ (Rect.unit (s := S8x2048) ![k, 0] ![1, 2048] h).set → (z 0).val ≠ k := by
      intro k h hn e
      refine hn (Rect.mem_set_unit.mpr fun a => ?_)
      match a with
      | ⟨0, _⟩ => show k ≤ (z 0).val ∧ (z 0).val < k + 1; omega
      | ⟨1, _⟩ => show 0 ≤ (z 1).val ∧ (z 1).val < 0 + 2048; omega
    have m2 := List.forall_mem_cons.mp hz
    have m1 := List.forall_mem_cons.mp m2.2
    have m0 := List.forall_mem_cons.mp m1.2
    have n2 := miss 2 h2 m2.1
    have n1 := miss 1 h1 m1.1
    have n0 := miss 0 h0 m0.1
    rw [hf]
    dsimp only
    rw [if_neg (by omega)]

theorem taps_first {κ : Kind} {sp : Space} (v : View sig κ sp S8x2048 .f32)
    (h2 h1 h0 hw) (q2 q1 q0 : Vec Ideal S128x2048 .f32)
    (hq2 : q2 = fun y => past A (b + 8 + (y 0).val) (y 1).val) (hq1 : q1 = fun y => past A (b + 7 + (y 0).val) (y 1).val)
    (hq0 : q0 = fun y => past A (b + 6 + (y 0).val) (y 1).val) (L0 L1 L2 : List (View.Piece (Elt Ideal) S8x2048 .f32))
    (e0 : L0 = [⟨Rect.unit (s := S8x2048) ![0, 0] ![8, 2048] hw, k0_pay5 (F := Ideal)⟩])
    (e1 : L1 = ⟨Rect.unit (s := S8x2048) ![0, 0] ![1, 2048] h0, k0_pay26 (F := Ideal) (k0_pay20 x3 x0 x6) (v.readCov L0 (Rect.unit (s := S8x2048) ![0, 0] ![1, 2048] h0).toLoadRect) q0⟩ :: L0)
    (e2 : L2 = ⟨Rect.unit (s := S8x2048) ![1, 0] ![1, 2048] h1, k0_pay1 (F := Ideal) (k0_pay27 (v.readCov L1 (Rect.unit (s := S8x2048) ![1, 0] ![1, 2048] h1).toLoadRect)) (k0_pay28 (k0_pay20 x3 x0 x6) q1)⟩ :: L1)
    (z : S8x2048.Idx) :
    View.canon (⟨Rect.unit (s := S8x2048) ![2, 0] ![1, 2048] h2, k0_pay2 (F := Ideal) (k0_pay20 x3 x0 x6) (v.readCov L2 (Rect.unit (s := S8x2048) ![2, 0] ![1, 2048] h2).toLoadRect) q2⟩ :: L2) z
      = if (z 0).val < 3 then 0 + tapTerm A D b (z 0).val (z 1).val else 0 := by
  have c0 : ∀ z, View.canon L0 z = 0 := fun z => by rw [e0]; exact cleared hw z
  have c1 : ∀ z : S8x2048.Idx, View.canon L1 z = if (z 0).val < 1 then 0 + tapTerm A D b (z 0).val (z 1).val else 0 := by
    intro z
    by_cases hz : (z 0).val = 0
    · rw [e1, row_hit 0 h0 _ _ z hz, if_pos (by omega), tap0_apply, H.tap_sum 0 _ q0 hq0, row_read v L0 0 (by omega), c0, hz]
    · rw [e1, row_miss 0 h0 _ _ z hz, if_neg (by omega), c0]
  have n1 : ∀ z : S8x2048.Idx, 1 ≤ (z 0).val → View.canon L1 z = 0 := fun z h => by rw [c1, if_neg (by omega)]
  have c2 : ∀ z : S8x2048.Idx, View.canon L2 z = if (z 0).val < 2 then 0 + tapTerm A D b (z 0).val (z 1).val else 0 := by
    intro z
    by_cases hz : (z 0).val = 1
    · rw [e2, row_hit 1 h1 _ _ z hz, if_pos (by omega), tap1_apply, H.tap_sum 1 _ q1 hq1, row_read v L1 1 (by omega), n1 _ (show 1 ≤ 1 from le_rfl), hz]
    · rw [e2, row_miss 1 h1 _ _ z hz, c1]
      by_cases h : (z 0).val < 1
      · rw [if_pos h, if_pos (by omega)]
      · rw [if_neg h, if_neg (by omega)]
  have n2 : ∀ z : S8x2048.Idx, 2 ≤ (z 0).val → View.canon L2 z = 0 := fun z h => by rw [c2, if_neg (by omega)]
  by_cases hz : (z 0).val = 2
  · rw [row_hit 2 h2 _ _ z hz, if_pos (by omega), tap2_apply, H.tap_sum 2 _ q2 hq2, row_read v L2 2 (by omega), n2 _ (show 2 ≤ 2 from le_rfl), hz]
  · rw [row_miss 2 h2 _ _ z hz, c2]
    by_cases h : (z 0).val < 2
    · rw [if_pos h, if_pos (by omega)]
    · rw [if_neg h, if_neg (by omega)]

end Blocks

end Cert.MixerAIdeal.Rows

end
-- ==== Proof.MixerALeft.lean ====
/- What the first and the later points leave, in closed form. -/
module

public import proofs.«01_k».proof.Proof.MixerATaps

@[expose] public section

set_option maxRecDepth 16384

noncomputable section

namespace Cert.MixerAIdeal.Rows

open Idealize.ShloMosaic Idealize.ShloMosaic.TcCoe Idealize.ShloMosaic.Tactic
open Cert.MixerAIdeal Cert.MixerAIdeal.Gen Idealize.SL.Sem

variable (m : (ℓ : Loc nD τ sig) → Buf (Elt Ideal) ℓ)
variable {A : Vec Ideal S4096x14336 .bf16} {D : Vec Ideal S4096x4096 .f32} {W : Vec Ideal S3x2048 .f32}

set_option maxHeartbeats 2000000 in
theorem first_columns (c : Dev nD) (t : Fin cfg0.N) (h0 : t.val % 32 = 0) (b : ℕ)
    (H : Blocks A D W b (grid0.coords t) (iblk m c 0 t) (iblk m c 1 t) (iblk m c 2 t) (iblk m c 3 t)
      (iblk m c 4 t) (iblk m c 5 t) (iblk m c 6 t) (iblk m c 7 t))
    (hb : 3968 ≤ b) :
    (first m c t h0).1 = fun y => grad A D W (b + (y 0).val) (y 1).val := by
  unfold first
  dsimp only
  have hc := firstCovers_columns m c t h0
  rw [View.read_writes_eq_canon _ _ _ hc]
  revert hc
  unfold firstRun
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  revert H
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  intro H hc
  simp only [View.ld_unit_zero (S := S128x2048) zeros, View.ld_unit_zero (S := S16x2048) zeros] at hc ⊢
  refine H.columns _ _ _ _ _ _ _ _ _ _ _ ?_ ?_ ?_ ?_ hc
  · exact H.past_read _ 6 _ _ _
  · exact H.past_read _ 7 _ _ _
  · exact H.dconv_first _ 2 _ _ _ hb
  · exact H.dconv_first _ 1 _ _ _ hb

set_option maxHeartbeats 2000000 in
theorem later_columns (c : Dev nD) (t : Fin cfg0.N) (h0 : ¬t.val % 32 = 0) (p : Left Ideal) (b : ℕ)
    (H : Blocks A D W b (grid0.coords t) (iblk m c 0 t) (iblk m c 1 t) (iblk m c 2 t) (iblk m c 3 t)
      (iblk m c 4 t) (iblk m c 5 t) (iblk m c 6 t) (iblk m c 7 t))
    (hp : ∀ z : S136x2048.Idx, 128 ≤ (z 0).val → p.2.2 z = dconv A D (b + (z 0).val) (z 1).val) :
    (later m c t h0 p).1 = fun y => grad A D W (b + (y 0).val) (y 1).val := by
  unfold later
  dsimp only
  have hc := laterCovers_columns m c t h0 p
  rw [View.read_writes_eq_canon _ _ _ hc]
  revert hc
  unfold laterRun
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  revert H
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  intro H hc
  simp only [View.ld_unit_zero (S := S128x2048) zeros, View.ld_unit_zero (S := S16x2048) zeros] at hc ⊢
  refine H.columns _ _ _ _ _ _ _ _ _ _ _ ?_ ?_ ?_ ?_ hc
  · exact H.past_read _ 6 _ _ _
  · exact H.past_read _ 7 _ _ _
  · exact H.dconv_later _ 2 _ _ _ fun z hz => (congrFun ((Memref.isWhole_whole cc0_scratch1).read_unread p.2.2) z).trans (hp z hz)
  · exact H.dconv_later _ 1 _ _ _ fun z hz => (congrFun ((Memref.isWhole_whole cc0_scratch1).read_unread p.2.2) z).trans (hp z hz)

set_option maxHeartbeats 2000000 in
theorem first_carry (c : Dev nD) (t : Fin cfg0.N) (h0 : t.val % 32 = 0) (b : ℕ)
    (H : Blocks A D W b (grid0.coords t) (iblk m c 0 t) (iblk m c 1 t) (iblk m c 2 t) (iblk m c 3 t)
      (iblk m c 4 t) (iblk m c 5 t) (iblk m c 6 t) (iblk m c 7 t))
    (z : S136x2048.Idx) (hz : 128 ≤ (z 0).val) :
    (first m c t h0).2.2 z = dconv A D (b + ((z 0).val - 128)) (z 1).val := by
  unfold first
  dsimp only
  have hc := firstCovers_carry m c t h0
  rw [View.read_writes_eq_canon _ _ _ hc]
  clear hc
  unfold firstRun
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  revert H
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  intro H
  simp only [View.ld_unit_zero (S := S128x2048) zeros, View.ld_unit_zero (S := S16x2048) zeros]
  exact H.carried_row _ _ _ _ _ z hz

set_option maxHeartbeats 2000000 in
theorem later_carry (c : Dev nD) (t : Fin cfg0.N) (h0 : ¬t.val % 32 = 0) (p : Left Ideal) (b : ℕ)
    (H : Blocks A D W b (grid0.coords t) (iblk m c 0 t) (iblk m c 1 t) (iblk m c 2 t) (iblk m c 3 t)
      (iblk m c 4 t) (iblk m c 5 t) (iblk m c 6 t) (iblk m c 7 t))
    (z : S136x2048.Idx) (hz : 128 ≤ (z 0).val) :
    (later m c t h0 p).2.2 z = dconv A D (b + ((z 0).val - 128)) (z 1).val := by
  unfold later
  dsimp only
  have hc := laterCovers_carry m c t h0 p
  rw [View.read_writes_eq_canon _ _ _ hc]
  clear hc
  unfold laterRun
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  revert H
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  intro H
  simp only [View.ld_unit_zero (S := S128x2048) zeros, View.ld_unit_zero (S := S16x2048) zeros]
  exact H.carried_row _ _ _ _ _ z hz

set_option maxHeartbeats 2000000 in
theorem first_taps (c : Dev nD) (t : Fin cfg0.N) (h0 : t.val % 32 = 0) (b : ℕ)
    (H : Blocks A D W b (grid0.coords t) (iblk m c 0 t) (iblk m c 1 t) (iblk m c 2 t) (iblk m c 3 t)
      (iblk m c 4 t) (iblk m c 5 t) (iblk m c 6 t) (iblk m c 7 t))
    (z : S8x2048.Idx) :
    (first m c t h0).2.1 z = if (z 0).val < 3 then 0 + tapTerm A D b (z 0).val (z 1).val else 0 := by
  unfold first
  dsimp only
  have hc := firstCovers_taps m c t h0
  rw [View.read_writes_eq_canon _ _ _ hc]
  clear hc
  unfold firstRun
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  revert H
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  intro H
  simp only [View.ld_unit_zero (S := S128x2048) zeros, View.ld_unit_zero (S := S16x2048) zeros]
  exact H.taps_first _ _ _ _ _ _ _ _ (H.past_read _ 8 _ _ _) (H.past_read _ 7 _ _ _) (H.past_read _ 6 _ _ _) _ _ _ rfl rfl rfl z

set_option maxHeartbeats 2000000 in
theorem later_taps (c : Dev nD) (t : Fin cfg0.N) (h0 : ¬t.val % 32 = 0) (p : Left Ideal) (b : ℕ)
    (H : Blocks A D W b (grid0.coords t) (iblk m c 0 t) (iblk m c 1 t) (iblk m c 2 t) (iblk m c 3 t)
      (iblk m c 4 t) (iblk m c 5 t) (iblk m c 6 t) (iblk m c 7 t))
    (z : S8x2048.Idx) :
    (later m c t h0 p).2.1 z = if (z 0).val < 3 then p.2.1 z + tapTerm A D b (z 0).val (z 1).val else p.2.1 z := by
  unfold later
  dsimp only
  unfold laterRun
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_9 t).read_unread]
  revert H
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  intro H
  simp only [View.ld_unit_zero (S := S128x2048) zeros, View.ld_unit_zero (S := S16x2048) zeros]
  exact H.taps_later _ p.2.1 _ ((hs0_9 t).read_unread p.2.1) _ _ _ _ _ _ (H.past_read _ 8 _ _ _) (H.past_read _ 7 _ _ _) (H.past_read _ 6 _ _ _) z

end Cert.MixerAIdeal.Rows

end
-- ==== Proof.MixerAValue.lean ====
/- The arrays the kernel leaves after all points. -/
module

public import proofs.«01_k».proof.Proof.MixerABlocks
public import proofs.«01_k».proof.Proof.MixerALeft
public import Idealize.ShloMosaic.Lib.Pipeline.Value

@[expose] public section

set_option maxRecDepth 16384

noncomputable section

namespace Cert.MixerAIdeal.Rows

open Cert.MixerAIdeal Cert.MixerAIdeal.Gen
open Idealize.ShloMosaic Idealize.ShloMosaic.TcCoe Idealize.ShloMosaic.Tactic Idealize.SL.Sem
open Idealize.ShloMosaic.Pipeline (Dat)

variable (m : (ℓ : Loc nD τ sig) → Buf (Elt Ideal) ℓ)

/-- What every point leaves. -/
theorem left_eq (c : Dev nD) : ∀ (n : ℕ) (hn : n < cfg0.N),
    (left m c n hn).1 = (fun y => grad (argA m c) (argD m c) (argW m c) (base n + (y 0).val) (y 1).val)
    ∧ (∀ z : S136x2048.Idx, 128 ≤ (z 0).val → (left m c n hn).2.2 z = dconv (argA m c) (argD m c) (base n + ((z 0).val - 128)) (z 1).val)
    ∧ ∀ z : S8x2048.Idx, (left m c n hn).2.1 z
        = if (z 0).val < 3 then ∑ s ∈ Finset.range (n + 1), tapTerm (argA m c) (argD m c) (base s) (z 0).val (z 1).val else 0 := by
  intro n
  induction n with
  | zero =>
    intro hn
    have h0 : (⟨0, hn⟩ : Fin cfg0.N).val % 32 = 0 := Nat.zero_mod _
    have e : left m c 0 hn = first m c ⟨0, hn⟩ h0 := rfl
    have H := blocks m c ⟨0, hn⟩
    have hb : 3968 ≤ base (⟨0, hn⟩ : Fin cfg0.N).val := by show 3968 ≤ (31 - 0) * 128; omega
    rw [e]
    refine ⟨first_columns m c _ h0 _ H hb, fun z hz => first_carry m c _ h0 _ H z hz, fun z => ?_⟩
    rw [first_taps m c _ h0 _ H z, Finset.sum_range_one, zero_add]
  | succ n ih =>
    intro hn
    obtain ⟨-, ihc, iht⟩ := ih (Nat.lt_of_succ_lt hn)
    have hN : n + 1 < 32 := point_lt ⟨n + 1, hn⟩
    have h0 : ¬(⟨n + 1, hn⟩ : Fin cfg0.N).val % 32 = 0 := by show ¬(n + 1) % 32 = 0; omega
    have e : left m c (n + 1) hn = later m c ⟨n + 1, hn⟩ h0 (left m c n (Nat.lt_of_succ_lt hn)) := left_later m c ⟨n + 1, hn⟩ h0
    have H := blocks m c ⟨n + 1, hn⟩
    rw [e]
    refine ⟨later_columns m c _ h0 _ _ H fun z hz => ?_, fun z hz => later_carry m c _ h0 _ _ H z hz, fun z => ?_⟩
    · rw [ihc z hz]
      congr 1
      show (31 - n) * 128 + ((z 0).val - 128) = (31 - (n + 1)) * 128 + (z 0).val
      omega
    · rw [later_taps m c _ h0 _ _ H z, iht z, Finset.sum_range_succ _ (n + 1)]
      by_cases hz : (z 0).val < 3
      · rw [if_pos hz, if_pos hz, if_pos hz]
      · rw [if_neg hz, if_neg hz, if_neg hz]

/-- The projection's gradient, on the columns the kernel fills. -/
def gradArray (c : Dev nD) : Vec Ideal S4096x14336 .bf16 := fun i => grad (argA m c) (argD m c) (argW m c) (i 0).val (i 1).val

/-- The tap gradients. -/
def tapArray (c : Dev nD) : Vec Ideal S8x2048 .f32 := fun z =>
  if (z 0).val < 3 then ∑ s ∈ Finset.range 32, tapTerm (argA m c) (argD m c) (base s) (z 0).val (z 1).val else 0

/-- Every block of the projection's gradient lies inside the array. -/
theorem sizes_8 : ∀ t : Fin cfg0.N, win0_8.xsize (grid0.coords t) (0 : Fin 2) = 128 ∧ win0_8.xsize (grid0.coords t) (1 : Fin 2) = 8192 :=
  (by decide +kernel : ∀ t : Fin grid0.N, _)

theorem written_columns (c : Dev nD) (t : Fin cfg0.N) :
    (data m 0 c).flushed 8 t = ((cfg0.win 8).blk t).view.read (Elt Ideal) (gradArray m c) := by
  obtain ⟨-, -, -, -, -, -, -, -, ⟨a8, b8⟩, -, -⟩ := positions t
  show (cfg0.win 8).cut (grid0.coords t) ((data m 0 c).after 8 t) = _
  rw [kept_8, (left_eq m c t.val t.isLt).1]
  funext y
  have e0 : ((((cfg0.win 8).blk t).view.emb y (0 : Fin 2) : Fin _) : ℕ) = base t.val + (y (0 : Fin 2)).val := by
    refine (Pipeline.Window.rect_emb_val win0_8 t y (0 : Fin 2)).trans ?_
    rw [a8]; rfl
  have e1 : ((((cfg0.win 8).blk t).view.emb y (1 : Fin 2) : Fin _) : ℕ) = (y (1 : Fin 2)).val := by
    refine (Pipeline.Window.rect_emb_val win0_8 t y (1 : Fin 2)).trans ?_
    rw [b8, Nat.zero_mul, Nat.zero_add]
  show _ = gradArray m c (((cfg0.win 8).blk t).view.emb y)
  unfold gradArray
  rw [e0, e1]

theorem columns_apply (c : Dev nD) (i : S4096x14336.Idx) (hi : (i 1).val < 8192) :
    (data m 0 c).arrAt 8 cfg0.N i = gradArray m c i := by
  have i0 : (i 0).val < 4096 := (i 0).isLt
  have hN : cfg0.N = 32 := N_0
  have ht : 31 - (i 0).val / 128 < cfg0.N := by omega
  obtain ⟨-, -, -, -, -, -, -, -, ⟨a8, b8⟩, -, -⟩ := positions ⟨31 - (i 0).val / 128, ht⟩
  refine (data m 0 c).arrAt_apply_of_mem 8 (gradArray m c) (fun t _ => written_columns m c t) cfg0.N ⟨31 - (i 0).val / 128, ht⟩ i ht (flush0_8 _) ?_
  show i ∈ ((View.whole main_v1_0).slice (win0_8.rect ⟨31 - (i 0).val / 128, ht⟩)).set
  rw [View.set_slice_whole, Rect.mem_set_unit]
  obtain ⟨s0, s1⟩ := sizes_8 ⟨31 - (i 0).val / 128, ht⟩
  intro a
  match a with
  | ⟨0, _⟩ =>
    show win0_8.index ⟨31 - (i 0).val / 128, ht⟩ 0 * 128 ≤ (i 0).val
      ∧ (i 0).val < win0_8.index ⟨31 - (i 0).val / 128, ht⟩ 0 * 128 + win0_8.xsize (grid0.coords ⟨31 - (i 0).val / 128, ht⟩) (0 : Fin 2)
    rw [a8, s0]; dsimp only; omega
  | ⟨1, _⟩ =>
    show win0_8.index ⟨31 - (i 0).val / 128, ht⟩ 1 * 8192 ≤ (i 1).val
      ∧ (i 1).val < win0_8.index ⟨31 - (i 0).val / 128, ht⟩ 1 * 8192 + win0_8.xsize (grid0.coords ⟨31 - (i 0).val / 128, ht⟩) (1 : Fin 2)
    rw [b8, s1]; omega

theorem written_taps (c : Dev nD) (t : Fin cfg0.N) (hf : (cfg0.win 9).flush t = true) :
    (data m 0 c).flushed 9 t = ((cfg0.win 9).blk t).view.read (Elt Ideal) (tapArray m c) := by
  obtain ⟨-, -, -, -, -, -, -, -, -, ⟨a9, b9⟩, -⟩ := positions t
  have hN := point_lt t
  have h31 : t.val = 31 := by have := (flush0_9 t).mp hf; omega
  show (cfg0.win 9).cut (grid0.coords t) ((data m 0 c).after 9 t) = _
  rw [kept_9]
  funext y
  show (left m c t.val t.isLt).2.1 y = tapArray m c (((cfg0.win 9).blk t).view.emb y)
  rw [(left_eq m c t.val t.isLt).2.2 y]
  have ey : ((cfg0.win 9).blk t).view.emb y = y := by
    funext a
    apply Fin.ext
    match a with
    | ⟨0, _⟩ => show win0_9.index t 0 * 8 + 1 * (y 0).val = (y 0).val; rw [a9]; omega
    | ⟨1, _⟩ => show win0_9.index t 1 * 2048 + 1 * (y 1).val = (y 1).val; rw [b9]; omega
  rw [ey]
  unfold tapArray
  rw [h31]

theorem taps_apply (c : Dev nD) (i : S8x2048.Idx) : (data m 0 c).arrAt 9 cfg0.N i = tapArray m c i := by
  have i0 : (i 0).val < 8 := (i 0).isLt
  have i1 : (i 1).val < 2048 := (i 1).isLt
  have hN : cfg0.N = 32 := N_0
  have ht : 31 < cfg0.N := by omega
  obtain ⟨-, -, -, -, -, -, -, -, -, ⟨a9, b9⟩, -⟩ := positions ⟨31, ht⟩
  refine (data m 0 c).arrAt_apply_of_mem 9 (tapArray m c) (fun t hf => written_taps m c t hf) cfg0.N ⟨31, ht⟩ i ht ((flush0_9 _).mpr rfl) ?_
  show i ∈ ((View.whole main_v1_1).slice (win0_9.rect ⟨31, ht⟩)).set
  rw [View.set_slice_whole, Rect.mem_set_unit]
  intro a
  match a with
  | ⟨0, _⟩ =>
    show win0_9.index _ 0 * 8 ≤ (i 0).val ∧ (i 0).val < win0_9.index _ 0 * 8 + 8
    rw [a9]; omega
  | ⟨1, _⟩ =>
    show win0_9.index _ 1 * 2048 ≤ (i 1).val ∧ (i 1).val < win0_9.index _ 1 * 2048 + 2048
    rw [b9]; omega

end Cert.MixerAIdeal.Rows

end
-- ==== Proof.MixerARef.lean ====
/- The reference's gradients, entry by entry, in the mathematics the kernel's points compute. -/
module

public import proofs.«01_k».proof.Proof.MixerAPieces
public import proofs.«01_k».proof.Proof.Gen.RefAIdeal.Run

@[expose] public section

set_option maxRecDepth 16384

noncomputable section

namespace Cert.RefAIdeal.Entries

open Cert.RefAIdeal Cert.RefAIdeal.Gen
open Idealize.ShloMosaic Idealize.ShloMosaic.TcCoe Idealize.ShloMosaic.Tactic Idealize.SL.Sem
open Cert.MixerAIdeal.Rows (look look_ix look_beyond prod past conv gate act dconv dprod grad tapTerm dconv_beyond)

variable (A : Vec Ideal S4096x14336 .bf16) (D : Vec Ideal S4096x4096 .f32) (W : Vec Ideal S3x2048 .f32)

/-! ## The intermediate arrays -/

def wide : FVec Ideal S4096x8192 .f32 := extf .f32 (extractStridedSlice S4096x8192 ![0, 0] A slices_S4096x14336_S4096x8192_0_0) bitsLt_bf16_f32
def part0 : FVec Ideal S4096x2048 .f32 := extractStridedSlice S4096x2048 ![0, 0] (wide A) slices_S4096x8192_S4096x2048_0_0
def part1 : FVec Ideal S4096x2048 .f32 := extractStridedSlice S4096x2048 ![0, 2048] (wide A) slices_S4096x8192_S4096x2048_0_2048
def part2 : FVec Ideal S4096x2048 .f32 := extractStridedSlice S4096x2048 ![0, 4096] (wide A) slices_S4096x8192_S4096x2048_0_4096
def part3 : FVec Ideal S4096x2048 .f32 := extractStridedSlice S4096x2048 ![0, 6144] (wide A) slices_S4096x8192_S4096x2048_0_6144
def ones : FVec Ideal S4096x2048 .f32 := broadcastInDim S4096x2048 ![] bcast_S_S4096x2048 (constant S_ .f32 0x3F800000#32)
def sigm : FVec Ideal S4096x2048 .f32 := Host.divf ones (addf ones (Host.exp (Host.negf (part3 A))))
def incoming : FVec Ideal S4096x2048 .f32 := extractStridedSlice S4096x2048 ![0, 0] D slices_S4096x4096_S4096x2048_0_0
def product : FVec Ideal S4096x2048 .f32 := mulf (part1 A) (part2 A)
def dconvs : FVec Ideal S4096x2048 .f32 := mulf (part0 A) (mulf (incoming D) (mulf (part3 A) (sigm A)))
def tap0 : FVec Ideal S4096x2048 .f32 := broadcastInDim S4096x2048 ![0, 1] bcast_S1x2048_S4096x2048_0_1 (broadcastInDim S1x2048 ![1] bcast_S2048_S1x2048_1 (shapeCast _ (extractStridedSlice S1x2048 ![0, 0] W slices_S3x2048_S1x2048_0_0) shapeCasts_S1x2048_S2048))
def tap1 : FVec Ideal S4096x2048 .f32 := broadcastInDim S4096x2048 ![0, 1] bcast_S1x2048_S4096x2048_0_1 (broadcastInDim S1x2048 ![1] bcast_S2048_S1x2048_1 (shapeCast _ (extractStridedSlice S1x2048 ![1, 0] W slices_S3x2048_S1x2048_1_0) shapeCasts_S1x2048_S2048))
def tap2 : FVec Ideal S4096x2048 .f32 := broadcastInDim S4096x2048 ![0, 1] bcast_S1x2048_S4096x2048_0_1 (broadcastInDim S1x2048 ![1] bcast_S2048_S1x2048_1 (shapeCast _ (extractStridedSlice S1x2048 ![2, 0] W slices_S3x2048_S1x2048_2_0) shapeCasts_S1x2048_S2048))
/-- The product two rows and one row earlier. -/
def earlier2 : FVec Ideal S4096x2048 .f32 := concatenate S4096x2048 0 [⟨S2x2048, (broadcastInDim S2x2048 ![] bcast_S_S2x2048 (constant (F := Ideal) S_ .f32 0x00000000#32))⟩, ⟨S4094x2048, (extractStridedSlice S4094x2048 ![0, 0] (product A) slices_S4096x2048_S4094x2048_0_0)⟩] concatenates_S2x2048_S4094x2048_S4096x2048_d0
def earlier1 : FVec Ideal S4096x2048 .f32 := concatenate S4096x2048 0 [⟨S1x2048, (broadcastInDim S1x2048 ![] bcast_S_S1x2048 (constant (F := Ideal) S_ .f32 0x00000000#32))⟩, ⟨S4095x2048, (extractStridedSlice S4095x2048 ![0, 0] (product A) slices_S4096x2048_S4095x2048_0_0)⟩] concatenates_S1x2048_S4095x2048_S4096x2048_d0
def convs : FVec Ideal S4096x2048 .f32 :=
  addf (addf (addf (broadcastInDim S4096x2048 ![] bcast_S_S4096x2048 (constant S_ .f32 0x00000000#32)) (mulf (tap0 W) (earlier2 A))) (mulf (tap1 W) (earlier1 A))) (mulf (tap2 W) (product A))
def dprods : FVec Ideal S4096x2048 .f32 :=
  addf (addf (mulf (tap2 W) (dconvs A D))
      (pad S4096x2048 ![0, 0] ![1, 0] ![0, 0] (extractStridedSlice S4095x2048 ![1, 0] (mulf (tap1 W) (dconvs A D)) slices_S4096x2048_S4095x2048_1_0) (constant (F := Ideal) S_ .f32 0x00000000#32) pads_S4095x2048_S4096x2048_010_000 h_S_))
    (pad S4096x2048 ![0, 0] ![2, 0] ![0, 0] (extractStridedSlice S4094x2048 ![2, 0] (mulf (tap0 W) (dconvs A D)) slices_S4096x2048_S4094x2048_2_0) (constant (F := Ideal) S_ .f32 0x00000000#32) pads_S4094x2048_S4096x2048_020_000 h_S_)
def dgate : FVec Ideal S4096x2048 .f32 :=
  addf (mulf (mulf (mulf (part0 A) (convs A W)) (incoming D)) (sigm A))
    (mulf (mulf (part3 A) (mulf (mulf (part0 A) (convs A W)) (incoming D))) (mulf (sigm A) (subf ones (sigm A))))
/-- The four groups of columns. -/
def dab : FVec Ideal S4096x2048 .f32 := mulf (mulf (incoming D) (mulf (part3 A) (sigm A))) (convs A W)
def dac : FVec Ideal S4096x2048 .f32 := mulf (dprods A D W) (part2 A)
def dax : FVec Ideal S4096x2048 .f32 := mulf (part1 A) (dprods A D W)

def columns : FVec Ideal S4096x14336 .bf16 :=
  pad S4096x14336 ![0, 0] ![0, 6144] ![0, 0] (truncf .bf16 (concatenate S4096x8192 1 [⟨S4096x2048, dab A D W⟩, ⟨S4096x2048, dac A D W⟩, ⟨S4096x2048, dax A D W⟩, ⟨S4096x2048, dgate A D W⟩]
    concatenates_S4096x2048_S4096x2048_S4096x2048_S4096x2048_S4096x8192_d1) bitsLt_bf16_f32) (constant (F := Ideal) S_ .bf16 0x0000#16) pads_S4096x8192_S4096x14336_000_061440 h_S_

theorem columns_eq (m : (ℓ : Loc nD τ sig) → Buf (Elt Ideal) ℓ) (c : Dev nD) :
    Value.res_out0 m c = columns (m ((c : Thread nD τ).loc main_arg0)) (m ((c : Thread nD τ).loc main_arg1)) (m ((c : Thread nD τ).loc main_arg2)) := rfl

/-- A row sum, kept as one row. -/
def rowSum (x : FVec Ideal S4096x2048 .f32) : FVec Ideal S1x2048 .f32 :=
  broadcastInDim S1x2048 ![1] bcast_S2048_S1x2048_1 (Host.reduceAdd (shapeCast _ (Host.reduceAdd x (constant S_ .f32 0x00000000#32) reducesTo_S4096x2048_S2048_d0 h_S_) shapeCasts_S2048_S1x2048) (constant S_ .f32 0x00000000#32) reducesTo_S1x2048_S2048_d0 h_S_)

def taps : FVec Ideal S8x2048 .f32 :=
  pad S8x2048 ![0, 0] ![5, 0] ![0, 0] (addf (addf
      (pad S3x2048 ![2, 0] ![0, 0] ![0, 0] (rowSum (mulf (dconvs A D) (product A))) (constant (F := Ideal) S_ .f32 0x00000000#32) pads_S1x2048_S3x2048_200_000 h_S_)
      (pad S3x2048 ![1, 0] ![1, 0] ![0, 0] (rowSum (mulf (dconvs A D) (earlier1 A))) (constant (F := Ideal) S_ .f32 0x00000000#32) pads_S1x2048_S3x2048_110_000 h_S_))
      (pad S3x2048 ![0, 0] ![2, 0] ![0, 0] (rowSum (mulf (dconvs A D) (earlier2 A))) (constant (F := Ideal) S_ .f32 0x00000000#32) pads_S1x2048_S3x2048_020_000 h_S_))
    (sitofp (F := Ideal) .f32 (constantI S_ 32 0#32)) pads_S3x2048_S8x2048_050_000 h_S_

theorem taps_eq (m : (ℓ : Loc nD τ sig) → Buf (Elt Ideal) ℓ) (c : Dev nD) :
    Value.res_out1 m c = taps (m ((c : Thread nD τ).loc main_arg0)) (m ((c : Thread nD τ).loc main_arg1)) := rfl

/-! ## Their entries -/

theorem part0_apply (r : Fin 4096) (l : Fin 2048) : part0 A (ix2 r l) = look A r.val l.val := by
  have hl := l.isLt
  rw [← look_ix A r.val l.val r.isLt (by omega)]
  pointwise [part0, wide]
theorem part1_apply (r : Fin 4096) (l : Fin 2048) : part1 A (ix2 r l) = look A r.val (2048 + l.val) := by
  have hl := l.isLt
  rw [← look_ix A r.val (2048 + l.val) r.isLt (by omega)]
  pointwise [part1, wide]
theorem part2_apply (r : Fin 4096) (l : Fin 2048) : part2 A (ix2 r l) = look A r.val (4096 + l.val) := by
  have hl := l.isLt
  rw [← look_ix A r.val (4096 + l.val) r.isLt (by omega)]
  pointwise [part2, wide]
theorem part3_apply (r : Fin 4096) (l : Fin 2048) : part3 A (ix2 r l) = gate A r.val l.val := by
  have hl := l.isLt
  unfold gate
  rw [← look_ix A r.val (6144 + l.val) r.isLt (by omega)]
  pointwise [part3, wide]
theorem incoming_apply (r : Fin 4096) (l : Fin 2048) : incoming D (ix2 r l) = look D r.val l.val := by
  have hl := l.isLt
  rw [← look_ix D r.val l.val r.isLt (by omega)]
  pointwise [incoming]
theorem tap0_apply (r : Fin 4096) (l : Fin 2048) : tap0 W (ix2 r l) = look W 0 l.val := by
  rw [← look_ix W 0 l.val (by omega) l.isLt]
  pointwise [tap0]
theorem tap1_apply (r : Fin 4096) (l : Fin 2048) : tap1 W (ix2 r l) = look W 1 l.val := by
  rw [← look_ix W 1 l.val (by omega) l.isLt]
  pointwise [tap1]
theorem tap2_apply (r : Fin 4096) (l : Fin 2048) : tap2 W (ix2 r l) = look W 2 l.val := by
  rw [← look_ix W 2 l.val (by omega) l.isLt]
  pointwise [tap2]
theorem ones_apply (r : Fin 4096) (l : Fin 2048) : ones (ix2 r l) = 1 := by
  pointwise [ones]
theorem sigm_apply (r : Fin 4096) (l : Fin 2048) : sigm A (ix2 r l) = Ideal.logistic (gate A r.val l.val) := by
  rw [← part3_apply]
  pointwise [sigm, ones]
  rfl
theorem product_apply (r : Fin 4096) (l : Fin 2048) : product A (ix2 r l) = prod A r.val l.val := by
  show part1 A (ix2 r l) * part2 A (ix2 r l) = _
  rw [part1_apply, part2_apply]; rfl
theorem dconvs_apply (r : Fin 4096) (l : Fin 2048) : dconvs A D (ix2 r l) = dconv A D r.val l.val := by
  show part0 A (ix2 r l) * (incoming D (ix2 r l) * (part3 A (ix2 r l) * sigm A (ix2 r l))) = _
  rw [part0_apply, incoming_apply, part3_apply, sigm_apply]
  unfold dconv act
  rw [← mul_assoc, mul_comm (look A _ _) (look D _ _)]
theorem earlier2_apply (r : Fin 4096) (l : Fin 2048) : earlier2 A (ix2 r l) = past A (r.val + 6) l.val := by
  have hr := r.isLt
  unfold past
  by_cases h : r.val < 2
  · rw [if_pos (by omega)]
    pointwise [earlier2]
    rw [dif_pos h]
  · rw [if_neg (by omega), show r.val + 6 - 8 = r.val - 2 by omega]
    rw [show prod A (r.val - 2) l.val = product A (ix2 ⟨r.val - 2, by omega⟩ l) from (product_apply A ⟨r.val - 2, by omega⟩ l).symm]
    pointwise [earlier2]
    rw [dif_neg h]
theorem earlier1_apply (r : Fin 4096) (l : Fin 2048) : earlier1 A (ix2 r l) = past A (r.val + 7) l.val := by
  have hr := r.isLt
  unfold past
  by_cases h : r.val < 1
  · rw [if_pos (by omega)]
    pointwise [earlier1]
    rw [dif_pos h]
  · rw [if_neg (by omega), show r.val + 7 - 8 = r.val - 1 by omega]
    rw [show prod A (r.val - 1) l.val = product A (ix2 ⟨r.val - 1, by omega⟩ l) from (product_apply A ⟨r.val - 1, by omega⟩ l).symm]
    pointwise [earlier1]
    rw [dif_neg h]

theorem convs_apply (r : Fin 4096) (l : Fin 2048) : convs A W (ix2 r l) = conv A W r.val l.val := by
  have e : convs A W (ix2 r l) = (0 : EReal) + tap0 W (ix2 r l) * earlier2 A (ix2 r l) + tap1 W (ix2 r l) * earlier1 A (ix2 r l) + tap2 W (ix2 r l) * product A (ix2 r l) := by
    pointwise [convs]
  rw [e, tap0_apply, tap1_apply, tap2_apply, earlier2_apply, earlier1_apply, product_apply, zero_add]
  unfold conv
  rw [add_comm, ← add_assoc]

theorem dprods_apply (r : Fin 4096) (l : Fin 2048) : dprods A D W (ix2 r l) = dprod A D W r.val l.val := by
  have hr := r.isLt
  have e1 : (pad S4096x2048 ![0, 0] ![1, 0] ![0, 0] (extractStridedSlice S4095x2048 ![1, 0] (mulf (tap1 W) (dconvs A D)) slices_S4096x2048_S4095x2048_1_0) (constant (F := Ideal) S_ .f32 0x00000000#32) pads_S4095x2048_S4096x2048_010_000 h_S_ : FVec Ideal S4096x2048 .f32) (ix2 r l)
      = look W 1 l.val * dconv A D (r.val + 1) l.val := by
    by_cases h : r.val < 4095
    · rw [show dconv A D (r.val + 1) l.val = dconvs A D (ix2 ⟨r.val + 1, by omega⟩ l) from (dconvs_apply A D ⟨r.val + 1, by omega⟩ l).symm,
        show look W 1 l.val = tap1 W (ix2 ⟨r.val + 1, by omega⟩ l) from (tap1_apply W ⟨r.val + 1, by omega⟩ l).symm]
      pointwise
      simp only [dif_pos h, add_comm 1 r.val]
    · rw [dconv_beyond A D _ _ (by omega), mul_zero]
      pointwise
      rw [dif_neg h]
  have e2 : (pad S4096x2048 ![0, 0] ![2, 0] ![0, 0] (extractStridedSlice S4094x2048 ![2, 0] (mulf (tap0 W) (dconvs A D)) slices_S4096x2048_S4094x2048_2_0) (constant (F := Ideal) S_ .f32 0x00000000#32) pads_S4094x2048_S4096x2048_020_000 h_S_ : FVec Ideal S4096x2048 .f32) (ix2 r l)
      = look W 0 l.val * dconv A D (r.val + 2) l.val := by
    by_cases h : r.val < 4094
    · rw [show dconv A D (r.val + 2) l.val = dconvs A D (ix2 ⟨r.val + 2, by omega⟩ l) from (dconvs_apply A D ⟨r.val + 2, by omega⟩ l).symm,
        show look W 0 l.val = tap0 W (ix2 ⟨r.val + 2, by omega⟩ l) from (tap0_apply W ⟨r.val + 2, by omega⟩ l).symm]
      pointwise
      simp only [dif_pos h, add_comm 2 r.val]
    · rw [dconv_beyond A D _ _ (by omega), mul_zero]
      pointwise
      rw [dif_neg h]
  have e3 : (mulf (tap2 W) (dconvs A D)) (ix2 r l) = look W 2 l.val * dconv A D r.val l.val := by
    show tap2 W (ix2 r l) * dconvs A D (ix2 r l) = _
    rw [tap2_apply, dconvs_apply]
  refine Eq.trans (congrArg₂ (· + ·) (congrArg₂ (· + ·) e3 e1) e2) ?_
  unfold dprod
  rw [add_assoc, add_assoc, add_comm (look W 1 _ * _)]

theorem rowSum_apply (x : FVec Ideal S4096x2048 .f32) (r : Fin 1) (l : Fin 2048) : rowSum x (ix2 r l) = ∑ k : Fin 4096, x (ix2 k l) := by
  pointwise [rowSum]
  exact Fin.sum_univ_one _

theorem sum_blocks (f : ℕ → EReal) : ∑ s ∈ Finset.range 32, ∑ x : Fin 128, f ((31 - s) * 128 + x.val) = ∑ r : Fin 4096, f r.val := by
  have step : ∀ n : ℕ, ∑ s ∈ Finset.range n, ∑ x : Fin 128, f (s * 128 + x.val) = ∑ r ∈ Finset.range (n * 128), f r := by
    intro n
    induction n with
    | zero => simp
    | succ n ih =>
      rw [Finset.sum_range_succ, ih, Nat.succ_mul, Finset.sum_range_add, Finset.sum_range (fun x => f (n * 128 + x))]
  rw [Finset.sum_range_reflect (fun s => ∑ x : Fin 128, f (s * 128 + x.val)) 32, step, Finset.sum_range]

/-- A real number among the extended ones. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.zero : Real' 0 := ⟨0, rfl⟩
theorem Real'.look {R C : ℕ} {X : (⟨2, ![R, C]⟩ : Shape).Idx → EReal} (h : ∀ i, Real' (X i)) (r c : ℕ) : Real' (look X r c) := by
  unfold Cert.MixerAIdeal.Rows.look
  split
  · exact h _
  · exact Real'.zero

variable {A D W}

theorem real_prod (hA : ∀ i, Real' (A i)) (r j : ℕ) : Real' (prod A r j) := (Real'.look hA _ _).mul (Real'.look hA _ _)
theorem real_past (hA : ∀ i, Real' (A i)) (n j : ℕ) : Real' (past A n j) := by
  unfold past
  split
  · exact Real'.zero
  · exact real_prod hA _ _
theorem real_conv (hA : ∀ i, Real' (A i)) (hW : ∀ i, Real' (W i)) (r j : ℕ) : Real' (conv A W r j) :=
  (((Real'.look hW _ _).mul (real_prod hA _ _)).add ((Real'.look hW _ _).mul (real_past hA _ _))).add ((Real'.look hW _ _).mul (real_past hA _ _))

/-- The gate's derivative: the two ways of writing it agree on reals. -/
theorem gate_slope {p z : EReal} (hp : Real' p) (hz : Real' z) :
    p * Ideal.logistic z + z * p * (Ideal.logistic z * (1 - Ideal.logistic z)) = p * (Ideal.logistic z * (1 + z * (1 - Ideal.logistic z))) := by
  obtain ⟨p, rfl⟩ := hp
  obtain ⟨z, rfl⟩ := hz
  rw [Ideal.logistic_coe]
  norm_cast
  ring

theorem columns_apply (hA : ∀ i, Real' (A i)) (hD : ∀ i, Real' (D i)) (hW : ∀ i, Real' (W i)) (i : S4096x14336.Idx) (hi : (i 1).val < 8192) :
    columns A D W i = grad A D W (i 0).val (i 1).val := by
  obtain ⟨r, l, rfl⟩ : ∃ (r : Fin 4096) (l : Fin 14336), i = ix2 r l := ⟨i 0, i 1, eq_ix2 i⟩
  change l.val < 8192 at hi
  show _ = grad A D W r.val l.val
  have dgate_eq : ∀ q : Fin 2048, dgate A D W (ix2 r q) = look D r.val q.val * look A r.val q.val * conv A W r.val q.val
      * (Ideal.logistic (gate A r.val q.val) * (1 + gate A r.val q.val * (1 - Ideal.logistic (gate A r.val q.val)))) := by
    intro q
    show part0 A (ix2 r q) * convs A W (ix2 r q) * incoming D (ix2 r q) * sigm A (ix2 r q)
      + part3 A (ix2 r q) * (part0 A (ix2 r q) * convs A W (ix2 r q) * incoming D (ix2 r q)) * (sigm A (ix2 r q) * (ones (ix2 r q) - sigm A (ix2 r q))) = _
    rw [part0_apply, convs_apply, incoming_apply, sigm_apply, part3_apply, ones_apply,
      gate_slope (((Real'.look hA _ _).mul (real_conv hA hW _ _)).mul (Real'.look hD _ _)) (show Real' (gate A r.val q.val) from Real'.look hA _ _),
      mul_comm (look A r.val q.val * conv A W r.val q.val), ← mul_assoc (look D r.val q.val)]
  have dab_eq : ∀ q : Fin 2048, dab A D W (ix2 r q) = look D r.val q.val * conv A W r.val q.val * act A r.val q.val := by
    intro q
    show incoming D (ix2 r q) * (part3 A (ix2 r q) * sigm A (ix2 r q)) * convs A W (ix2 r q) = _
    rw [incoming_apply, convs_apply, sigm_apply, part3_apply]
    unfold act
    rw [mul_assoc, mul_comm (gate A _ _ * _), ← mul_assoc]
  have dac_eq : ∀ q : Fin 2048, dac A D W (ix2 r q) = dprod A D W r.val q.val * look A r.val (4096 + q.val) := by
    intro q
    show dprods A D W (ix2 r q) * part2 A (ix2 r q) = _
    rw [dprods_apply, part2_apply]
  have dax_eq : ∀ q : Fin 2048, dax A D W (ix2 r q) = dprod A D W r.val q.val * look A r.val (2048 + q.val) := by
    intro q
    show part1 A (ix2 r q) * dprods A D W (ix2 r q) = _
    rw [dprods_apply, part1_apply, mul_comm]
  unfold grad
  by_cases h0 : l.val < 2048
  · rw [if_pos h0, ← dab_eq ⟨l.val, h0⟩]
    pointwise [columns]
    rw [dif_pos hi, dif_pos h0]
  by_cases h1 : l.val < 4096
  · rw [if_neg h0, if_pos h1, ← dac_eq ⟨l.val - 2048, by omega⟩]
    pointwise [columns]
    rw [dif_pos hi, dif_neg h0, dif_pos (show l.val - 2048 < 2048 by omega)]
  by_cases h2 : l.val < 6144
  · rw [if_neg h0, if_neg h1, if_pos h2, ← dax_eq ⟨l.val - 4096, by omega⟩]
    pointwise [columns]
    rw [dif_pos hi, dif_neg h0, dif_neg (show ¬ l.val - 2048 < 2048 by omega), dif_pos (show l.val - 2048 - 2048 < 2048 by omega)]
    exact congrArg (fun z => dax A D W (ix2 r z)) (Fin.ext (show l.val - 2048 - 2048 = l.val - 4096 by omega))
  · rw [if_neg h0, if_neg h1, if_neg h2, ← dgate_eq ⟨l.val - 6144, by omega⟩]
    pointwise [columns]
    rw [dif_pos hi, dif_neg h0, dif_neg (show ¬ l.val - 2048 < 2048 by omega), dif_neg (show ¬ l.val - 2048 - 2048 < 2048 by omega)]
    exact congrArg (fun z => dgate A D W (ix2 r z)) (Fin.ext (show l.val - 2048 - 2048 - 2048 = l.val - 6144 by omega))

theorem taps_apply (i : S8x2048.Idx) : taps A D i
    = if (i 0).val < 3 then ∑ s ∈ Finset.range 32, tapTerm A D ((31 - s) * 128) (i 0).val (i 1).val else 0 := by
  obtain ⟨k, l, rfl⟩ : ∃ (k : Fin 8) (l : Fin 2048), i = ix2 k l := ⟨i 0, i 1, eq_ix2 i⟩
  have hk := k.isLt
  show _ = if k.val < 3 then ∑ s ∈ Finset.range 32, tapTerm A D ((31 - s) * 128) k.val l.val else 0
  have total : ∀ n : ℕ, ∑ s ∈ Finset.range 32, tapTerm A D ((31 - s) * 128) n l.val = ∑ r : Fin 4096, dconv A D r.val l.val * past A (r.val + 6 + n) l.val :=
    fun n => sum_blocks fun r => dconv A D r l.val * past A (r + 6 + n) l.val
  have s2 : rowSum (mulf (dconvs A D) (product A)) (ix2 0 l) = ∑ r : Fin 4096, dconv A D r.val l.val * past A (r.val + 6 + 2) l.val := by
    rw [rowSum_apply]
    refine Finset.sum_congr rfl fun r _ => ?_
    show dconvs A D (ix2 r l) * product A (ix2 r l) = _
    rw [dconvs_apply, product_apply]
    unfold past
    rw [if_neg (by omega), show r.val + 6 + 2 - 8 = r.val by omega]
  have s1 : rowSum (mulf (dconvs A D) (earlier1 A)) (ix2 0 l) = ∑ r : Fin 4096, dconv A D r.val l.val * past A (r.val + 6 + 1) l.val := by
    rw [rowSum_apply]
    refine Finset.sum_congr rfl fun r _ => ?_
    show dconvs A D (ix2 r l) * earlier1 A (ix2 r l) = _
    rw [dconvs_apply, earlier1_apply]
  have s0 : rowSum (mulf (dconvs A D) (earlier2 A)) (ix2 0 l) = ∑ r : Fin 4096, dconv A D r.val l.val * past A (r.val + 6 + 0) l.val := by
    rw [rowSum_apply]
    refine Finset.sum_congr rfl fun r _ => ?_
    show dconvs A D (ix2 r l) * earlier2 A (ix2 r l) = _
    rw [dconvs_apply, earlier2_apply]
  by_cases h : k.val < 3
  · rw [if_pos h, total]
    obtain h | h | h : k.val = 0 ∨ k.val = 1 ∨ k.val = 2 := by omega
    · obtain rfl : k = 0 := Fin.ext h
      rw [show ((0 : Fin 8) : ℕ) = 0 from rfl, ← s0]
      pointwise [taps]
    · obtain rfl : k = 1 := Fin.ext h
      rw [show ((1 : Fin 8) : ℕ) = 1 from rfl, ← s1]
      pointwise [taps]
    · obtain rfl : k = 2 := Fin.ext h
      rw [show ((2 : Fin 8) : ℕ) = 2 from rfl, ← s2]
      pointwise [taps]
  · rw [if_neg h]
    pointwise [taps]
    rw [dif_neg h]
    exact EReal.coe_eq_zero.mpr Int.cast_zero

end Cert.RefAIdeal.Entries

end
-- ==== Proof.MixerAClaims.lean ====
/- The mixer's gradients: the kernel's own columns against the reference's, for arguments that are finite. -/
module

public import proofs.«01_k».proof.Proof.MixerALaunch
public import proofs.«01_k».proof.Proof.MixerAValue
public import proofs.«01_k».proof.Proof.MixerARef
public import proofs.«01_k».proof.Proof.Gen.MixerA
public import proofs.«01_k».proof.Proof.Gen.MixerAIdeal
public import proofs.«01_k».proof.Proof.Gen.RefAIdeal
public import proofs.«01_k».proof.Proof.Gen.Pre_finite
public import proofs.«01_k».proof.Proof.Gen.On_mixer_a_columns
public import Idealize.ShloMosaic.Lib.ReduceAll
public import Idealize.ShloMosaic.Lib.Quiescent

@[expose] public section

set_option maxRecDepth 16384

noncomputable section

namespace Cert.MixerA.Claims

open Idealize.ShloMosaic Idealize.ShloMosaic.TcCoe Idealize.ShloMosaic.Tactic Idealize.SL.Sem
open Cert.RefAIdeal.Entries (Real')
open Cert.MixerAIdeal.Rows (gradArray tapArray argA argD argW)

/-- A value whose magnitude is below infinity is a real number. -/
theorem real_of_below (x : EReal) (h : Ideal.cmp .olt (max x (-x)) (Ideal.ofBits .f32 0x7F800000#32) = 1#1) : Real' x := by
  rw [show Ideal.ofBits .f32 0x7F800000#32 = ⊤ by simp [Ideal.ofBits, Ideal.ieee]] at h
  have lt : max x (-x) < ⊤ := by
    by_contra hn
    have : Ideal.cmp .olt (max x (-x)) ⊤ = 0#1 := by simp only [Ideal.cmp, decide_eq_false hn]; rfl
    rw [this] at h
    exact absurd h (by decide)
  refine ⟨x.toReal, (EReal.coe_toReal (fun e => ?_) (fun e => ?_)).symm⟩
  · rw [e] at lt
    exact absurd lt (by simp)
  · rw [e] at lt
    exact absurd lt (by simp)

theorem real_args (A : FVec Ideal Cert.Pre_finite.S4096x14336 .bf16) (D : FVec Ideal Cert.Pre_finite.S4096x4096 .f32) (W : FVec Ideal Cert.Pre_finite.S3x2048 .f32)
    (h : Cert.Pre_finite.fn (F := Ideal) A D W = fun _ => 1#1) : (∀ i, Real' (A i)) ∧ (∀ i, Real' (D i)) ∧ (∀ i, Real' (W i)) := by
  have h0 := congrFun h (fun a => a.elim0)
  unfold Cert.Pre_finite.fn at h0
  dsimp only at h0
  rw [andi_apply, IntOp.andi_eq_one, andi_apply, IntOp.andi_eq_one] at h0
  obtain ⟨⟨hA, hD⟩, hW⟩ := h0
  haveI : Subsingleton Cert.Pre_finite.S_.Idx := ⟨fun i j => funext fun a => a.elim0⟩
  refine ⟨fun i => real_of_below _ (Host.reduce_andi_all _ _ _ _ _ hA i), fun i => real_of_below _ (Host.reduce_andi_all _ _ _ _ _ hD i),
    fun i => real_of_below _ (Host.reduce_andi_all _ _ _ _ _ hW i)⟩

/-- Where the mask is set, the column is below 8192. -/
theorem mask_columns (A : FVec Ideal Cert.On_mixer_a_columns.S4096x14336 .bf16) (D : FVec Ideal Cert.On_mixer_a_columns.S4096x4096 .f32) (W : FVec Ideal Cert.On_mixer_a_columns.S3x2048 .f32)
    (i : Cert.On_mixer_a_columns.S4096x14336.Idx) (h : (Cert.On_mixer_a_columns.fn (F := Ideal) A D W).1 i = 1#1) : (i 1).val < 8192 := by
  have hi : (i 1).val < 14336 := (i 1).isLt
  change IntOp.cmpi .slt (BitVec.ofNat 32 (i 1).val) 8192#32 = 1#1 at h
  rw [IntOp.cmpi_slt] at h
  rw [BitVec.toInt_eq_toNat_of_lt (by rw [BitVec.toNat_ofNat]; omega), BitVec.toNat_ofNat, Nat.mod_eq_of_lt (by omega)] at h
  have : (8192#32 : BitVec 32).toInt = 8192 := by decide
  omega

theorem algebraic : Cert.algebraic_MixerAIdeal_RefAIdeal_on_mixer_a_columns_pre_finite := fun m ρ m' ρ' hpre hag =>
  ⟨gradArray m, tapArray m,
    (θ_run _ _ _).mono (fun _ h c => ⟨fun i hi => (congrFun (h c).1 i).trans (Cert.MixerAIdeal.Rows.columns_apply m c i (mask_columns _ _ _ i hi)),
      fun i _ => (congrFun (h c).2.1 i).trans (Cert.MixerAIdeal.Rows.taps_apply m c i), (h c).2.2⟩)
      (Cert.MixerAIdeal.Rows.run_results m ρ),
    (θ_run _ _ _).mono (fun _ h c => by
      obtain ⟨hA, hD, hW⟩ := real_args _ _ _ (hpre c)
      refine ⟨fun i hi => ?_, fun i _ => ?_, (h c).2.2⟩
      · refine (congrFun (h c).1 i).trans ((congrFun (Cert.RefAIdeal.Entries.columns_eq m' c) i).trans ?_)
        rw [show m' ((c : Thread Cert.RefAIdeal.nD Cert.RefAIdeal.τ).loc Cert.RefAIdeal.main_arg0) = _ from (hag c).1,
          show m' ((c : Thread Cert.RefAIdeal.nD Cert.RefAIdeal.τ).loc Cert.RefAIdeal.main_arg1) = _ from (hag c).2.1,
          show m' ((c : Thread Cert.RefAIdeal.nD Cert.RefAIdeal.τ).loc Cert.RefAIdeal.main_arg2) = _ from (hag c).2.2]
        exact Cert.RefAIdeal.Entries.columns_apply hA hD hW i (mask_columns _ _ _ i hi)
      · refine (congrFun (h c).2.1 i).trans ((congrFun (Cert.RefAIdeal.Entries.taps_eq m' c) i).trans ?_)
        rw [show m' ((c : Thread Cert.RefAIdeal.nD Cert.RefAIdeal.τ).loc Cert.RefAIdeal.main_arg0) = _ from (hag c).1,
          show m' ((c : Thread Cert.RefAIdeal.nD Cert.RefAIdeal.τ).loc Cert.RefAIdeal.main_arg1) = _ from (hag c).2.1]
        exact Cert.RefAIdeal.Entries.taps_apply i)
      (Cert.RefAIdeal.Value.run m' ρ')⟩

/-- The reference ends with its arguments unchanged and every counter at zero. -/
theorem reference_quiescent : Cert.quiescent_RefAIdeal := fun m ρ _ =>
  (θ_run _ _ _).mono (fun r h => ⟨fun c => (h c).2.2, sem_eq_zero_of_no_sems (by decide) r.2⟩)
    (Cert.RefAIdeal.Value.run m ρ)

theorem reference_quiescent_finite : Cert.quiescent_RefAIdeal_pre_finite := fun m ρ _ => reference_quiescent m ρ trivial

theorem quiescent_ideal : Cert.quiescent_MixerAIdeal := fun m ρ _ => Cert.MixerAIdeal.Rows.frame m ρ
theorem quiescent_ideal_finite : Cert.quiescent_MixerAIdeal_pre_finite := fun m ρ _ => Cert.MixerAIdeal.Rows.frame m ρ
theorem quiescent : Cert.quiescent_MixerA := fun m ρ _ => Cert.MixerA.Rows.frame m ρ

end Cert.MixerA.Claims

end
-- ==== Proof.SlotSecondReference.lean ====
module

public import proofs.«01_k».proof.Proof.Gen.RefSlotSecondIdeal
public import Idealize.ShloMosaic.Lib.StableHlo.Run
public import Idealize.ShloMosaic.Lib.StableHlo.RunClose

@[expose] public section

set_option maxRecDepth 16384

noncomputable section

namespace Cert.RefSlotSecondIdeal.Ran

open Cert.RefSlotSecondIdeal Cert.RefSlotSecondIdeal.Gen Idealize.ShloMosaic Idealize.ShloMosaic.TcCoe Idealize.SL.Sem Idealize.ShloMosaic.StableHlo

variable {F : FTy → Type} [FloatOps F]

/-- The reference's operations, in order. -/
abbrev ops : List (HloOp τ sig (Elt F)) :=
  [ nullary main_cst (constant S_ .f32 0x00000000#32),
    unary main_cst main_v0 (broadcastInDim S4096x14336 ![] bcast_S_S4096x14336 : (⟨S_, .f32⟩ : BufTy).Contents (Elt F) → (⟨S4096x14336, .f32⟩ : BufTy).Contents (Elt F)),
    unary main_arg1 main_v1 ((extf .f32 · bitsLt_bf16_f32) : (⟨S4096x4096, .bf16⟩ : BufTy).Contents (Elt F) → (⟨S4096x4096, .f32⟩ : BufTy).Contents (Elt F)),
    binary main_v1 main_v0 main_v2 ((fun l r => Host.dotGeneral dot_S4096x4096_S4096x14336_S4096x14336_1_0_0_1_n_n none l r) : (⟨S4096x4096, .f32⟩ : BufTy).Contents (Elt F) → (⟨S4096x14336, .f32⟩ : BufTy).Contents (Elt F) → (⟨S4096x14336, .f32⟩ : BufTy).Contents (Elt F)),
    unary main_arg2 main_v3 ((extf .f32 · bitsLt_bf16_f32) : (⟨S4096x14336, .bf16⟩ : BufTy).Contents (Elt F) → (⟨S4096x14336, .f32⟩ : BufTy).Contents (Elt F)),
    binary main_v3 main_v1 main_v4 ((fun l r => Host.dotGeneral dot_S4096x14336_S4096x4096_S14336x4096_0_0_1_1_n_n none l r) : (⟨S4096x14336, .f32⟩ : BufTy).Contents (Elt F) → (⟨S4096x4096, .f32⟩ : BufTy).Contents (Elt F) → (⟨S14336x4096, .f32⟩ : BufTy).Contents (Elt F)),
    unary main_v4 main_v5 ((transpose S4096x14336 [1, 0] · transposes_S14336x4096_S4096x14336_1_0) : (⟨S14336x4096, .f32⟩ : BufTy).Contents (Elt F) → (⟨S4096x14336, .f32⟩ : BufTy).Contents (Elt F)),
    unary main_arg0 main_v6 ((extractStridedSlice S1 ![1] · slices_S2_S1_1) : (⟨S2, .i32⟩ : BufTy).Contents (Elt F) → (⟨S1, .i32⟩ : BufTy).Contents (Elt F)),
    reshape main_v6 main_v7 (rfl : (.i32 : EltTy) = .i32) shapeCasts_S1_S_,
    nullary main_c (constantI S_ 32 2048#32),
    binary main_v7 main_c main_v8 (muli : (⟨S_, .i32⟩ : BufTy).Contents (Elt F) → (⟨S_, .i32⟩ : BufTy).Contents (Elt F) → (⟨S_, .i32⟩ : BufTy).Contents (Elt F)),
    unary main_arg0 main_v9 ((extractStridedSlice S1 ![0] · slices_S2_S1_0) : (⟨S2, .i32⟩ : BufTy).Contents (Elt F) → (⟨S1, .i32⟩ : BufTy).Contents (Elt F)),
    reshape main_v9 main_v10 (rfl : (.i32 : EltTy) = .i32) shapeCasts_S1_S_,
    nullary main_c_0 (constantI S_ 32 3584#32),
    binary main_v10 main_c_0 main_v11 (muli : (⟨S_, .i32⟩ : BufTy).Contents (Elt F) → (⟨S_, .i32⟩ : BufTy).Contents (Elt F) → (⟨S_, .i32⟩ : BufTy).Contents (Elt F)),
    nullary main_c_1 (constantI S_ 32 0#32),
    binary main_v8 main_c_1 main_v12 (cmpi .slt : (⟨S_, .i32⟩ : BufTy).Contents (Elt F) → (⟨S_, .i32⟩ : BufTy).Contents (Elt F) → (⟨S_, .i1⟩ : BufTy).Contents (Elt F)),
    nullary main_c_2 (constantI S_ 32 4096#32),
    binary main_v8 main_c_2 main_v13 (addi : (⟨S_, .i32⟩ : BufTy).Contents (Elt F) → (⟨S_, .i32⟩ : BufTy).Contents (Elt F) → (⟨S_, .i32⟩ : BufTy).Contents (Elt F)),
    ternary main_v12 main_v13 main_v8 main_v14 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_3 (constantI S_ 32 0#32),
    binary main_v11 main_c_3 main_v15 (cmpi .slt : (⟨S_, .i32⟩ : BufTy).Contents (Elt F) → (⟨S_, .i32⟩ : BufTy).Contents (Elt F) → (⟨S_, .i1⟩ : BufTy).Contents (Elt F)),
    nullary main_c_4 (constantI S_ 32 14336#32),
    binary main_v11 main_c_4 main_v16 (addi : (⟨S_, .i32⟩ : BufTy).Contents (Elt F) → (⟨S_, .i32⟩ : BufTy).Contents (Elt F) → (⟨S_, .i32⟩ : BufTy).Contents (Elt F)),
    ternary main_v15 main_v16 main_v11 main_v17 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v5 ![main_v14, main_v17] ⟨S_, .i32⟩ main_v18 ((fun x i => Host.dynamicSlice S2048x3584 x (fun k => (i k (Shape.Idx.first h_S_)).toInt) sliceFits_S4096x14336_S2048x3584) : (⟨S4096x14336, .f32⟩ : BufTy).Contents (Elt F) → (Fin 2 → (⟨S_, .i32⟩ : BufTy).Contents (Elt F)) → (⟨S2048x3584, .f32⟩ : BufTy).Contents (Elt F)),
    binary main_v18 main_arg3 main_v19 (addf : (⟨S2048x3584, .f32⟩ : BufTy).Contents (Elt F) → (⟨S2048x3584, .f32⟩ : BufTy).Contents (Elt F) → (⟨S2048x3584, .f32⟩ : BufTy).Contents (Elt F)),
    unary main_v19 main_v20 ((truncf .bf16 · bitsLt_bf16_f32) : (⟨S2048x3584, .f32⟩ : BufTy).Contents (Elt F) → (⟨S2048x3584, .bf16⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., binary_bufs_sub .., unary_bufs_sub .., unary_bufs_sub .., reshape_bufs_sub .., nullary_bufs_sub .., binary_bufs_sub .., unary_bufs_sub .., reshape_bufs_sub .., nullary_bufs_sub .., binary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., binary_bufs_sub .., unary_bufs_sub ..⟩

set_option maxHeartbeats 2000000 in
/-- What the reference leaves in its result, and that its arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = truncf .bf16 (addf (Host.dynamicSlice S2048x3584 (transpose S4096x14336 [1, 0] (Host.dotGeneral dot_S4096x14336_S4096x4096_S14336x4096_0_0_1_1_n_n none (extf .f32 (m ((c.tc : Thread nD τ).loc main_arg2)) bitsLt_bf16_f32) (extf .f32 (m ((c.tc : Thread nD τ).loc main_arg1)) bitsLt_bf16_f32)) transposes_S14336x4096_S4096x14336_1_0) (fun k => (((![select (cmpi .slt (muli (shapeCast _ (extractStridedSlice S1 ![1] (m ((c.tc : Thread nD τ).loc main_arg0)) slices_S2_S1_1) shapeCasts_S1_S_) (constantI S_ 32 2048#32)) (constantI S_ 32 0#32)) (addi (muli (shapeCast _ (extractStridedSlice S1 ![1] (m ((c.tc : Thread nD τ).loc main_arg0)) slices_S2_S1_1) shapeCasts_S1_S_) (constantI S_ 32 2048#32)) (constantI S_ 32 4096#32)) (muli (shapeCast _ (extractStridedSlice S1 ![1] (m ((c.tc : Thread nD τ).loc main_arg0)) slices_S2_S1_1) shapeCasts_S1_S_) (constantI S_ 32 2048#32)), select (cmpi .slt (muli (shapeCast _ (extractStridedSlice S1 ![0] (m ((c.tc : Thread nD τ).loc main_arg0)) slices_S2_S1_0) shapeCasts_S1_S_) (constantI S_ 32 3584#32)) (constantI S_ 32 0#32)) (addi (muli (shapeCast _ (extractStridedSlice S1 ![0] (m ((c.tc : Thread nD τ).loc main_arg0)) slices_S2_S1_0) shapeCasts_S1_S_) (constantI S_ 32 3584#32)) (constantI S_ 32 14336#32)) (muli (shapeCast _ (extractStridedSlice S1 ![0] (m ((c.tc : Thread nD τ).loc main_arg0)) slices_S2_S1_0) shapeCasts_S1_S_) (constantI S_ 32 3584#32))] : Fin 2 → (⟨S_, .i32⟩ : BufTy).Contents (Elt F))) k (Shape.Idx.first h_S_)).toInt) sliceFits_S4096x14336_S2048x3584) (m ((c.tc : Thread nD τ).loc main_arg3))) bitsLt_bf16_f32
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v20).trans (by after_results_simp_entrywise; all_goals rfl),
      (h c main_arg0).trans (by after_results_simp_entrywise; all_goals rfl),
      (h c main_arg1).trans (by after_results_simp_entrywise; all_goals rfl),
      (h c main_arg2).trans (by after_results_simp_entrywise; all_goals rfl),
      (h c main_arg3).trans (by after_results_simp_entrywise; all_goals rfl)⟩)
    (run_seq scopedRefs_eq scopedSems_eq defs main (fun _ => ops) main_eq (fun _ => ops_sub) m ρ)

end Cert.RefSlotSecondIdeal.Ran

end
-- ==== Proof.SlotOwnReference.lean ====
module

public import proofs.«01_k».proof.Proof.Gen.RefSlotOwnIdeal
public import Idealize.ShloMosaic.Lib.StableHlo.Run
public import Idealize.ShloMosaic.Lib.StableHlo.RunClose

@[expose] public section

set_option maxRecDepth 16384

noncomputable section

namespace Cert.RefSlotOwnIdeal.Ran

open Cert.RefSlotOwnIdeal Cert.RefSlotOwnIdeal.Gen Idealize.ShloMosaic Idealize.ShloMosaic.TcCoe Idealize.SL.Sem Idealize.ShloMosaic.StableHlo

variable {F : FTy → Type} [FloatOps F]

/-- The reference's operations, in order. -/
abbrev ops : List (HloOp τ sig (Elt F)) :=
  [ nullary main_cst (constant S_ .f32 0x00000000#32),
    unary main_cst main_v0 (broadcastInDim S4096x14336 ![] bcast_S_S4096x14336 : (⟨S_, .f32⟩ : BufTy).Contents (Elt F) → (⟨S4096x14336, .f32⟩ : BufTy).Contents (Elt F)),
    unary main_arg1 main_v1 ((extf .f32 · bitsLt_bf16_f32) : (⟨S4096x4096, .bf16⟩ : BufTy).Contents (Elt F) → (⟨S4096x4096, .f32⟩ : BufTy).Contents (Elt F)),
    binary main_v1 main_v0 main_v2 ((fun l r => Host.dotGeneral dot_S4096x4096_S4096x14336_S4096x14336_1_0_0_1_n_n none l r) : (⟨S4096x4096, .f32⟩ : BufTy).Contents (Elt F) → (⟨S4096x14336, .f32⟩ : BufTy).Contents (Elt F) → (⟨S4096x14336, .f32⟩ : BufTy).Contents (Elt F)),
    unary main_arg2 main_v3 ((extf .f32 · bitsLt_bf16_f32) : (⟨S4096x14336, .bf16⟩ : BufTy).Contents (Elt F) → (⟨S4096x14336, .f32⟩ : BufTy).Contents (Elt F)),
    binary main_v3 main_v1 main_v4 ((fun l r => Host.dotGeneral dot_S4096x14336_S4096x4096_S14336x4096_0_0_1_1_n_n none l r) : (⟨S4096x14336, .f32⟩ : BufTy).Contents (Elt F) → (⟨S4096x4096, .f32⟩ : BufTy).Contents (Elt F) → (⟨S14336x4096, .f32⟩ : BufTy).Contents (Elt F)),
    unary main_v4 main_v5 ((transpose S4096x14336 [1, 0] · transposes_S14336x4096_S4096x14336_1_0) : (⟨S14336x4096, .f32⟩ : BufTy).Contents (Elt F) → (⟨S4096x14336, .f32⟩ : BufTy).Contents (Elt F)),
    unary main_arg0 main_v6 ((extractStridedSlice S1 ![1] · slices_S2_S1_1) : (⟨S2, .i32⟩ : BufTy).Contents (Elt F) → (⟨S1, .i32⟩ : BufTy).Contents (Elt F)),
    reshape main_v6 main_v7 (rfl : (.i32 : EltTy) = .i32) shapeCasts_S1_S_,
    nullary main_c (constantI S_ 32 2048#32),
    binary main_v7 main_c main_v8 (muli : (⟨S_, .i32⟩ : BufTy).Contents (Elt F) → (⟨S_, .i32⟩ : BufTy).Contents (Elt F) → (⟨S_, .i32⟩ : BufTy).Contents (Elt F)),
    unary main_arg0 main_v9 ((extractStridedSlice S1 ![0] · slices_S2_S1_0) : (⟨S2, .i32⟩ : BufTy).Contents (Elt F) → (⟨S1, .i32⟩ : BufTy).Contents (Elt F)),
    reshape main_v9 main_v10 (rfl : (.i32 : EltTy) = .i32) shapeCasts_S1_S_,
    nullary main_c_0 (constantI S_ 32 3584#32),
    binary main_v10 main_c_0 main_v11 (muli : (⟨S_, .i32⟩ : BufTy).Contents (Elt F) → (⟨S_, .i32⟩ : BufTy).Contents (Elt F) → (⟨S_, .i32⟩ : BufTy).Contents (Elt F)),
    nullary main_c_1 (constantI S_ 32 0#32),
    binary main_v8 main_c_1 main_v12 (cmpi .slt : (⟨S_, .i32⟩ : BufTy).Contents (Elt F) → (⟨S_, .i32⟩ : BufTy).Contents (Elt F) → (⟨S_, .i1⟩ : BufTy).Contents (Elt F)),
    nullary main_c_2 (constantI S_ 32 4096#32),
    binary main_v8 main_c_2 main_v13 (addi : (⟨S_, .i32⟩ : BufTy).Contents (Elt F) → (⟨S_, .i32⟩ : BufTy).Contents (Elt F) → (⟨S_, .i32⟩ : BufTy).Contents (Elt F)),
    ternary main_v12 main_v13 main_v8 main_v14 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_3 (constantI S_ 32 0#32),
    binary main_v11 main_c_3 main_v15 (cmpi .slt : (⟨S_, .i32⟩ : BufTy).Contents (Elt F) → (⟨S_, .i32⟩ : BufTy).Contents (Elt F) → (⟨S_, .i1⟩ : BufTy).Contents (Elt F)),
    nullary main_c_4 (constantI S_ 32 14336#32),
    binary main_v11 main_c_4 main_v16 (addi : (⟨S_, .i32⟩ : BufTy).Contents (Elt F) → (⟨S_, .i32⟩ : BufTy).Contents (Elt F) → (⟨S_, .i32⟩ : BufTy).Contents (Elt F)),
    ternary main_v15 main_v16 main_v11 main_v17 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unaryIndexed main_v5 ![main_v14, main_v17] ⟨S_, .i32⟩ main_v18 ((fun x i => Host.dynamicSlice S2048x3584 x (fun k => (i k (Shape.Idx.first h_S_)).toInt) sliceFits_S4096x14336_S2048x3584) : (⟨S4096x14336, .f32⟩ : BufTy).Contents (Elt F) → (Fin 2 → (⟨S_, .i32⟩ : BufTy).Contents (Elt F)) → (⟨S2048x3584, .f32⟩ : BufTy).Contents (Elt F)),
    binary main_v18 main_arg3 main_v19 (addf : (⟨S2048x3584, .f32⟩ : BufTy).Contents (Elt F) → (⟨S2048x3584, .f32⟩ : BufTy).Contents (Elt F) → (⟨S2048x3584, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., unary_bufs_sub .., binary_bufs_sub .., unary_bufs_sub .., binary_bufs_sub .., unary_bufs_sub .., unary_bufs_sub .., reshape_bufs_sub .., nullary_bufs_sub .., binary_bufs_sub .., unary_bufs_sub .., reshape_bufs_sub .., nullary_bufs_sub .., binary_bufs_sub .., nullary_bufs_sub .., binary_bufs_sub .., nullary_bufs_sub .., binary_bufs_sub .., ternary_bufs_sub .., nullary_bufs_sub .., binary_bufs_sub .., nullary_bufs_sub .., binary_bufs_sub .., ternary_bufs_sub .., unaryIndexed_bufs_sub .., binary_bufs_sub ..⟩

set_option maxHeartbeats 2000000 in
/-- What the reference leaves in its result, and that its arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v19) = addf (Host.dynamicSlice S2048x3584 (transpose S4096x14336 [1, 0] (Host.dotGeneral dot_S4096x14336_S4096x4096_S14336x4096_0_0_1_1_n_n none (extf .f32 (m ((c.tc : Thread nD τ).loc main_arg2)) bitsLt_bf16_f32) (extf .f32 (m ((c.tc : Thread nD τ).loc main_arg1)) bitsLt_bf16_f32)) transposes_S14336x4096_S4096x14336_1_0) (fun k => (((![select (cmpi .slt (muli (shapeCast _ (extractStridedSlice S1 ![1] (m ((c.tc : Thread nD τ).loc main_arg0)) slices_S2_S1_1) shapeCasts_S1_S_) (constantI S_ 32 2048#32)) (constantI S_ 32 0#32)) (addi (muli (shapeCast _ (extractStridedSlice S1 ![1] (m ((c.tc : Thread nD τ).loc main_arg0)) slices_S2_S1_1) shapeCasts_S1_S_) (constantI S_ 32 2048#32)) (constantI S_ 32 4096#32)) (muli (shapeCast _ (extractStridedSlice S1 ![1] (m ((c.tc : Thread nD τ).loc main_arg0)) slices_S2_S1_1) shapeCasts_S1_S_) (constantI S_ 32 2048#32)), select (cmpi .slt (muli (shapeCast _ (extractStridedSlice S1 ![0] (m ((c.tc : Thread nD τ).loc main_arg0)) slices_S2_S1_0) shapeCasts_S1_S_) (constantI S_ 32 3584#32)) (constantI S_ 32 0#32)) (addi (muli (shapeCast _ (extractStridedSlice S1 ![0] (m ((c.tc : Thread nD τ).loc main_arg0)) slices_S2_S1_0) shapeCasts_S1_S_) (constantI S_ 32 3584#32)) (constantI S_ 32 14336#32)) (muli (shapeCast _ (extractStridedSlice S1 ![0] (m ((c.tc : Thread nD τ).loc main_arg0)) slices_S2_S1_0) shapeCasts_S1_S_) (constantI S_ 32 3584#32))] : Fin 2 → (⟨S_, .i32⟩ : BufTy).Contents (Elt F))) k (Shape.Idx.first h_S_)).toInt) sliceFits_S4096x14336_S2048x3584) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v19).trans (by after_results_simp_entrywise; all_goals rfl),
      (h c main_arg0).trans (by after_results_simp_entrywise; all_goals rfl),
      (h c main_arg1).trans (by after_results_simp_entrywise; all_goals rfl),
      (h c main_arg2).trans (by after_results_simp_entrywise; all_goals rfl),
      (h c main_arg3).trans (by after_results_simp_entrywise; all_goals rfl)⟩)
    (run_seq scopedRefs_eq scopedSems_eq defs main (fun _ => ops) main_eq (fun _ => ops_sub) m ρ)

end Cert.RefSlotOwnIdeal.Ran

end
-- ==== Proof.SlotPlace.lean ====
module

public import proofs.«01_k».proof.Proof.Gen.Pre_in_range
public import proofs.«01_k».proof.Proof.Gen.Pre_in_range_added
public import proofs.«01_k».proof.Proof.Gen.RefSlotIdeal.Run
public import Idealize.ShloMosaic.Lib.Pointwise
public import Idealize.ShloMosaic.Lib.DynamicIndex
public import Idealize.ShloMosaic.Lib.Tactic

@[expose] public section

set_option maxRecDepth 16384

noncomputable section

namespace Cert.SlotPlace

open Idealize.ShloMosaic

abbrev Words : Shape := ⟨1, ![2]⟩
abbrev Rows : Shape := ⟨2, ![4096, 4096]⟩
abbrev Columns : Shape := ⟨2, ![4096, 14336]⟩
abbrev Slab : Shape := ⟨2, ![2048, 3584]⟩

/-- The first word names one of four groups of columns, the second one of two halves of the rows. -/
def Inside (w : IVec Words 32) : Prop := (w (ix1 0)).toNat < 4 ∧ (w (ix1 1)).toNat < 2

theorem toNat_lt_of_range (x : BitVec 32) (n : Nat) (hn : n < 2 ^ 31) (h0 : IntOp.cmpi .sge x 0#32 = 1#1)
    (h1 : IntOp.cmpi .slt x (BitVec.ofNat 32 n) = 1#1) : x.toNat < n := by
  rw [IntOp.cmpi_sge] at h0
  rw [IntOp.cmpi_slt] at h1
  have e : (BitVec.ofNat 32 n).toInt = n := by
    rw [BitVec.toInt_eq_toNat_of_lt (by rw [BitVec.toNat_ofNat]; omega), BitVec.toNat_ofNat]
    congr 1; omega
  rw [e] at h1
  have h2 := BitVec.toInt_eq_toNat_cond x
  have h3 : (0#32 : BitVec 32).toInt = 0 := rfl
  rw [h3] at h0
  have := x.isLt
  split at h2 <;> omega

/-- A one-word slice, reshaped to a scalar, is that word. -/
theorem word_at (w : IVec Words 32) (o : Fin 1 → Nat) (k : Fin 2) (ho : o 0 = k.val) (hs : Words.Slices o ⟨1, ![1]⟩)
    (hc : (⟨1, ![1]⟩ : Shape).ShapeCasts ⟨0, ![]⟩) (j : (⟨0, ![]⟩ : Shape).Idx) :
    shapeCast ⟨0, ![]⟩ (extractStridedSlice ⟨1, ![1]⟩ o w hs) hc j = w (ix1 k) := by
  obtain ⟨i, hi⟩ : ∃ i, shapeCast ⟨0, ![]⟩ (extractStridedSlice ⟨1, ![1]⟩ o w hs) hc j
      = extractStridedSlice ⟨1, ![1]⟩ o w hs i := ⟨_, rfl⟩
  rw [hi]
  show w _ = w _
  congr 1
  funext a
  apply Fin.ext
  match a with
  | ⟨0, _⟩ =>
    show o 0 + (i 0).val = k.val
    have : (i 0).val < 1 := (i 0).isLt
    omega

theorem inside_of_range [Cert.Pre_in_range.Facts] {F : FTy → Type} [FloatOps F] (w : IVec Words 32) (h : FVec F Rows .bf16)
    (d : FVec F Columns .bf16) (hp : Cert.Pre_in_range.fn w h d = fun _ => 1#1) : Inside w := by
  have e := congrFun hp (Shape.Idx.first (s := ⟨0, ![]⟩) (by decide))
  unfold Cert.Pre_in_range.fn at e
  dsimp only at e
  simp only [andi_apply, IntOp.andi_eq_one] at e
  obtain ⟨⟨⟨a, b⟩, c⟩, d⟩ := e
  unfold Inside
  rw [← word_at w ![0] 0 rfl (by decide) (by decide) (Shape.Idx.first (by decide)),
    ← word_at w ![1] 1 rfl (by decide) (by decide) (Shape.Idx.first (by decide))]
  exact ⟨toNat_lt_of_range _ 4 (by decide) a b, toNat_lt_of_range _ 2 (by decide) c d⟩

theorem inside_of_range_added [Cert.Pre_in_range_added.Facts] {F : FTy → Type} [FloatOps F] (w : IVec Words 32)
    (h : FVec F Rows .bf16) (d : FVec F Columns .bf16) (s : FVec F Slab .f32)
    (hp : Cert.Pre_in_range_added.fn w h d s = fun _ => 1#1) : Inside w := by
  have e := congrFun hp (Shape.Idx.first (s := ⟨0, ![]⟩) (by decide))
  unfold Cert.Pre_in_range_added.fn at e
  dsimp only at e
  simp only [andi_apply, IntOp.andi_eq_one] at e
  obtain ⟨⟨⟨a, b⟩, c⟩, d⟩ := e
  unfold Inside
  rw [← word_at w ![0] 0 rfl (by decide) (by decide) (Shape.Idx.first (by decide)),
    ← word_at w ![1] 1 rfl (by decide) (by decide) (Shape.Idx.first (by decide))]
  exact ⟨toNat_lt_of_range _ 4 (by decide) a b, toNat_lt_of_range _ 2 (by decide) c d⟩

/-- The block number an index map computes from a word and a grid coordinate. -/
theorem block_number (x : BitVec 32) (n j : Nat) (hx : x.toNat < 4) (hn : n ≤ 4) (hj : j < 4) :
    (Scalar.addi (Scalar.muli x (BitVec.ofNat 32 n)) (BitVec.ofNat 32 j)).toNat = x.toNat * n + j := by
  show (x * BitVec.ofNat 32 n + BitVec.ofNat 32 j).toNat = _
  have : x.toNat * n ≤ 4 * 4 := Nat.mul_le_mul (by omega) hn
  rw [BitVec.toNat_add, BitVec.toNat_mul, BitVec.toNat_ofNat, BitVec.toNat_ofNat]
  rw [Nat.mod_eq_of_lt (a := n) (by omega), Nat.mod_eq_of_lt (a := j) (by omega), Nat.mod_eq_of_lt (a := x.toNat * n) (by omega)]
  omega

/-- A row of the half the second word names. -/
def rowAt (w : IVec Words 32) (r : Fin 2048) : Fin 4096 := ⟨(w (ix1 1)).toNat % 2 * 2048 + r.val, by omega⟩
/-- A column of the group the first word names. -/
def columnAt (w : IVec Words 32) (l : Fin 3584) : Fin 14336 := ⟨(w (ix1 0)).toNat % 4 * 3584 + l.val, by omega⟩

/-- The named block of the product of the columns of `h` with the columns of `d`. -/
def slab (w : IVec Words 32) (h : Vec Ideal Rows .bf16) (d : Vec Ideal Columns .bf16) : Vec Ideal Slab .f32 :=
  fun i => ∑ k : Fin 4096, h (ix2 k (rowAt w (i 0))) * d (ix2 k (columnAt w (i 1)))

/-- A word times a width, read signed, is the number: it is small and not negative. -/
theorem start_toInt (x : BitVec 32) (n : Nat) (hx : x.toNat < 4) (hn : n ≤ 4096) :
    (IntOp.muli x (BitVec.ofNat 32 n)).toInt = ((x.toNat * n : Nat) : Int) := by
  have : x.toNat * n ≤ 4 * 4096 := Nat.mul_le_mul (by omega) hn
  have e : (IntOp.muli x (BitVec.ofNat 32 n)).toNat = x.toNat * n := by
    show (x * BitVec.ofNat 32 n).toNat = _
    rw [BitVec.toNat_mul, BitVec.toNat_ofNat, Nat.mod_eq_of_lt (a := n) (by omega), Nat.mod_eq_of_lt (by omega)]
  rw [BitVec.toInt_eq_toNat_of_lt (by omega), e]

/-- The start a block is read at: the word times the width, the branch for a negative start never taken. -/
theorem start_eq (w : IVec Words 32) (o : Fin 1 → Nat) (k : Fin 2) (ho : o 0 = k.val) (hs : Words.Slices o ⟨1, ![1]⟩)
    (hc : (⟨1, ![1]⟩ : Shape).ShapeCasts ⟨0, ![]⟩) (j : (⟨0, ![]⟩ : Shape).Idx) (n : Nat) (hk : (w (ix1 k)).toNat < 4)
    (hn : n ≤ 4096) (z : IVec ⟨0, ![]⟩ 32) :
    (select (cmpi .slt (muli (shapeCast ⟨0, ![]⟩ (extractStridedSlice ⟨1, ![1]⟩ o w hs) hc)
        (constantI ⟨0, ![]⟩ 32 (BitVec.ofNat 32 n))) (constantI ⟨0, ![]⟩ 32 0#32)) z
      (muli (shapeCast ⟨0, ![]⟩ (extractStridedSlice ⟨1, ![1]⟩ o w hs) hc)
        (constantI ⟨0, ![]⟩ 32 (BitVec.ofNat 32 n))) j).toInt = (((w (ix1 k)).toNat * n : Nat) : Int) := by
  have e : (muli (shapeCast ⟨0, ![]⟩ (extractStridedSlice ⟨1, ![1]⟩ o w hs) hc)
      (constantI ⟨0, ![]⟩ 32 (BitVec.ofNat 32 n)) j).toInt = (((w (ix1 k)).toNat * n : Nat) : Int) := by
    show (IntOp.muli (shapeCast ⟨0, ![]⟩ (extractStridedSlice ⟨1, ![1]⟩ o w hs) hc j) (BitVec.ofNat 32 n)).toInt = _
    rw [word_at w o k ho hs hc j]
    exact start_toInt _ n hk hn
  rw [select_slt_zero_of_nonneg _ _ _ _ (by rw [e]; exact Int.natCast_nonneg _), e]

open Cert.RefSlotIdeal Cert.RefSlotIdeal.Gen in
/-- The reference: the block of the whole product at the starts the words give. -/
theorem reference_eq (w : IVec Words 32) (h : Vec Ideal Rows .bf16) (d : Vec Ideal Columns .bf16) (hw : Inside w)
    (start : Fin 2 → Int) (h0 : start 0 = (((w (ix1 1)).toNat * 2048 : Nat) : Int))
    (h1 : start 1 = (((w (ix1 0)).toNat * 3584 : Nat) : Int)) :
    (Host.dynamicSlice S2048x3584 (transpose S4096x14336 [1, 0]
      (Host.dotGeneral dot_S4096x14336_S4096x4096_S14336x4096_0_0_1_1_n_n none
        (extf (F := Ideal) .f32 d Cert.RefSlotIdeal.Facts₀.bitsLt_bf16_f32)
        (extf (F := Ideal) .f32 h Cert.RefSlotIdeal.Facts₀.bitsLt_bf16_f32)) Cert.RefSlotIdeal.Facts₀.transposes_S14336x4096_S4096x14336_1_0)
      start Cert.RefSlotIdeal.Facts₀.sliceFits_S4096x14336_S2048x3584 : Vec Ideal Slab .f32) = slab w h d := by
  obtain ⟨a, b⟩ := hw
  rw [Host.dynamicSlice_eq_extractStridedSlice (s := S4096x14336) S2048x3584 _ start
    ![(w (ix1 1)).toNat * 2048, (w (ix1 0)).toNat * 3584] _ ⟨rfl, fun k => by
      match k with
      | ⟨0, _⟩ => show (w (ix1 1)).toNat * 2048 + 2048 ≤ 4096; omega
      | ⟨1, _⟩ => show (w (ix1 0)).toNat * 3584 + 3584 ≤ 14336; omega⟩ (fun k => by
      match k with
      | ⟨0, _⟩ => exact h0
      | ⟨1, _⟩ => exact h1)]
  funext i
  pointwise [slab]
  refine Finset.sum_congr rfl fun k _ => ?_
  rw [mul_comm]
  congr 1
  · exact congrArg (fun z => h (ix2 k z)) (Fin.ext (show (w (ix1 1)).toNat * 2048 + (i 0).val
      = (w (ix1 1)).toNat % 2 * 2048 + (i 0).val by rw [Nat.mod_eq_of_lt b]))
  · exact congrArg (fun z => d (ix2 k z)) (Fin.ext (show (w (ix1 0)).toNat * 3584 + (i 1).val
      = (w (ix1 0)).toNat % 4 * 3584 + (i 1).val by rw [Nat.mod_eq_of_lt a]))

end Cert.SlotPlace

end
-- ==== Proof.SlotValue.lean ====
module

public import proofs.«01_k».proof.Defs
public import proofs.«01_k».proof.Proof.SlotPlace
public import proofs.«01_k».proof.Proof.Gen.Slot.Frame
public import proofs.«01_k».proof.Proof.Gen.SlotIdeal.Frame
public import proofs.«01_k».proof.Proof.Gen.RefSlotIdeal.Run
public import Idealize.ShloMosaic.Lib.Quiescent
public import Idealize.ShloMosaic.Lib.Pointwise
public import Idealize.ShloMosaic.Lib.Pipeline.Value
public import Idealize.ShloMosaic.Lib.Tactic

@[expose] public section

set_option maxRecDepth 16384

noncomputable section

namespace Cert.Slot.Claims

open Cert.Slot Cert.Slot.Gen Idealize.ShloMosaic Idealize.ShloMosaic.TcCoe Idealize.SL.Sem

variable {F : FTy → Type} [FloatOps F]

/-- The first window's block number on a table inside the range. -/
theorem left_index (pf : pre0.Contents (Elt F)) (hw : Cert.SlotPlace.Inside (pf 0)) (i : grid0.Coords) :
    cc0_transform_0 inb_S2_S1_1 numel1_S1 pf i = ![0, (pf 0 (ix1 1)).toNat * 4 + (i 1).val] := by
  have e : pf.at 0 (Rect.unit (s := S2) ![1] S1.size inb_S2_S1_1) numel1_S1 = pf 0 (ix1 1) := by
    show pf 0 _ = pf 0 _
    congr 1
    funext a
    match a with
    | ⟨0, _⟩ => rfl
  unfold cc0_transform_0
  dsimp only
  rw [e]
  exact congrArg (fun z => (![0, z] : Fin 2 → Nat))
    (Cert.SlotPlace.block_number _ 4 _ (Nat.lt_trans hw.2 (by decide)) (by decide) (i 1).isLt)

/-- The second window's. -/
theorem right_index (pf : pre0.Contents (Elt F)) (hw : Cert.SlotPlace.Inside (pf 0)) (i : grid0.Coords) :
    cc0_transform_1 inb_S2_S1_0 numel1_S1 pf i = ![0, (pf 0 (ix1 0)).toNat * 2 + (i 0).val] := by
  have e : pf.at 0 (Rect.unit (s := S2) ![0] S1.size inb_S2_S1_0) numel1_S1 = pf 0 (ix1 0) := by
    show pf 0 _ = pf 0 _
    congr 1
    funext a
    match a with
    | ⟨0, _⟩ => rfl
  have h0 : (i 0).val < 2 := (i 0).isLt
  unfold cc0_transform_1
  dsimp only
  rw [e]
  exact congrArg (fun z => (![0, z] : Fin 2 → Nat))
    (Cert.SlotPlace.block_number _ 2 _ hw.1 (by decide) (Nat.lt_trans h0 (by decide)))

/-- On a table inside the range every block lies in its array. -/
theorem ok_of_inside (pf : pre0.Contents (Elt F)) (hw : Cert.SlotPlace.Inside (pf 0)) : ok0 pf := by
  obtain ⟨a, b⟩ := hw
  refine ⟨fun i => ⟨fun k => ?_, .inr (Affine.block_words_dvd (of_decide_eq_true rfl) (by decide))⟩,
    fun i => ⟨fun k => ?_, .inr (Affine.block_words_dvd (of_decide_eq_true rfl) (by decide))⟩⟩
  · rw [left_index pf ⟨a, b⟩ i]
    have h1 : (i 1).val < 4 := (i 1).isLt
    match k with
    | ⟨0, _⟩ => show (0 + 1) * 4096 ≤ 4096; omega
    | ⟨1, _⟩ => show ((pf 0 (ix1 1)).toNat * 4 + (i 1).val + 1) * 512 ≤ 4096; omega
  · rw [right_index pf ⟨a, b⟩ i]
    have h0 : (i 0).val < 2 := (i 0).isLt
    match k with
    | ⟨0, _⟩ => show (0 + 1) * 4096 ≤ 4096; omega
    | ⟨1, _⟩ => show ((pf 0 (ix1 0)).toNat * 2 + (i 0).val + 1) * 1792 ≤ 14336; omega

theorem quiescent : Cert.quiescent_Slot := fun m ρ hp =>
  Cert.Slot.Gen.frame m ρ (ok_of_inside (tbl m) (Cert.SlotPlace.inside_of_range _ _ _ (hp 0)))

end Cert.Slot.Claims

namespace Cert.SlotIdeal.Product

open Cert.SlotIdeal Cert.SlotIdeal.Gen Idealize.ShloMosaic Idealize.ShloMosaic.TcCoe Idealize.SL.Sem
open Idealize.ShloMosaic.Pipeline (Dat)

section
variable {F : FTy → Type} [FloatOps F]

/-- The first window's block number on a table inside the range. -/
theorem left_index (pf : pre0.Contents (Elt F)) (hw : Cert.SlotPlace.Inside (pf 0)) (i : grid0.Coords) :
    cc0_transform_0 inb_S2_S1_1 numel1_S1 pf i = ![0, (pf 0 (ix1 1)).toNat * 4 + (i 1).val] := by
  have e : pf.at 0 (Rect.unit (s := S2) ![1] S1.size inb_S2_S1_1) numel1_S1 = pf 0 (ix1 1) := by
    show pf 0 _ = pf 0 _
    congr 1
    funext a
    match a with
    | ⟨0, _⟩ => rfl
  unfold cc0_transform_0
  dsimp only
  rw [e]
  exact congrArg (fun z => (![0, z] : Fin 2 → Nat))
    (Cert.SlotPlace.block_number _ 4 _ (Nat.lt_trans hw.2 (by decide)) (by decide) (i 1).isLt)

/-- The second window's. -/
theorem right_index (pf : pre0.Contents (Elt F)) (hw : Cert.SlotPlace.Inside (pf 0)) (i : grid0.Coords) :
    cc0_transform_1 inb_S2_S1_0 numel1_S1 pf i = ![0, (pf 0 (ix1 0)).toNat * 2 + (i 0).val] := by
  have e : pf.at 0 (Rect.unit (s := S2) ![0] S1.size inb_S2_S1_0) numel1_S1 = pf 0 (ix1 0) := by
    show pf 0 _ = pf 0 _
    congr 1
    funext a
    match a with
    | ⟨0, _⟩ => rfl
  have h0 : (i 0).val < 2 := (i 0).isLt
  unfold cc0_transform_1
  dsimp only
  rw [e]
  exact congrArg (fun z => (![0, z] : Fin 2 → Nat))
    (Cert.SlotPlace.block_number _ 2 _ hw.1 (by decide) (Nat.lt_trans h0 (by decide)))

/-- On a table inside the range every block lies in its array. -/
theorem ok_of_inside (pf : pre0.Contents (Elt F)) (hw : Cert.SlotPlace.Inside (pf 0)) : ok0 pf := by
  obtain ⟨a, b⟩ := hw
  refine ⟨fun i => ⟨fun k => ?_, .inr (Affine.block_words_dvd (of_decide_eq_true rfl) (by decide))⟩,
    fun i => ⟨fun k => ?_, .inr (Affine.block_words_dvd (of_decide_eq_true rfl) (by decide))⟩⟩
  · rw [left_index pf ⟨a, b⟩ i]
    have h1 : (i 1).val < 4 := (i 1).isLt
    match k with
    | ⟨0, _⟩ => show (0 + 1) * 4096 ≤ 4096; omega
    | ⟨1, _⟩ => show ((pf 0 (ix1 1)).toNat * 4 + (i 1).val + 1) * 512 ≤ 4096; omega
  · rw [right_index pf ⟨a, b⟩ i]
    have h0 : (i 0).val < 2 := (i 0).isLt
    match k with
    | ⟨0, _⟩ => show (0 + 1) * 4096 ≤ 4096; omega
    | ⟨1, _⟩ => show ((pf 0 (ix1 0)).toNat * 2 + (i 0).val + 1) * 1792 ≤ 14336; omega

end

variable (m : (ℓ : Loc nD τ sig) → Buf (Elt Ideal) ℓ)

/-- The words the launch hands the kernel. -/
abbrev words : IVec Cert.SlotPlace.Words 32 := tbl m 0

/-- What the kernel's result array holds in the end. -/
abbrev result (c : Dev nD) : Buf (Elt Ideal) ((c : Thread nD τ).loc main_v0) :=
  Cert.SlotPlace.slab (m ((c : Thread nD τ).loc main_arg0)) (m ((c : Thread nD τ).loc main_arg1)) (m ((c : Thread nD τ).loc main_arg2))

theorem zeros : (![0, 0] : Fin 2 → Nat) = fun _ => 0 := funext fun a => by fin_cases a <;> rfl

/-- The body's product at an index. -/
theorem product_apply (x : Vec Ideal S4096x512 .bf16) (w : Vec Ideal S4096x1792 .bf16) (y : S512x1792.Idx) :
    k0_pay1 x w y = ∑ k : Fin 4096, x (ix2 k (y 0)) * w (ix2 k (y 1)) := by
  pointwise [k0_pay1]

/-- What one run of the body leaves in the result's block. -/
theorem out_eq (c : Dev nD) (i : grid0.Coords) (a3 : Memref sig .tc .vmem S4096x512 .bf16) (h3 : a3.IsWhole)
    (a4 : Memref sig .tc .vmem S4096x1792 .bf16) (h4 : a4.IsWhole) (a5 : Memref sig .tc .vmem S512x1792 .f32) (h5 : a5.IsWhole)
    (x : Vec Ideal S4096x512 .bf16) (w : Vec Ideal S4096x1792 .bf16) (z : TbBuf0 (F := Ideal) c tbM0_0) :
    out0_A_2 c i a3 h3 a4 h4 a5 h5 x w z = k0_pay1 (F := Ideal) x w := by
  unfold out0_A_2
  rw [View.read_writes_eq_canon _ _ _ (cover0_A_2 c i a3 h3 a4 h4 a5 h5 x w z)]
  unfold kernelRun0_A
  dsimp only
  sl_unfold_words
  rw [View.canon_unit_zero zeros]
  simp only [View.readAt_eq_ld, h3.read_unread, h4.read_unread, shapeCast_self, View.ld_unit_zero (S := S4096x512) zeros,
    View.ld_unit_zero (S := S4096x1792) zeros]

/-- The result's block number at a point. -/
theorem out_positions : ∀ t : Fin grid0.N,
    cc0_transform_2 (grid0.coords t) = ![((grid0.coords t) 1).val, ((grid0.coords t) 0).val] :=
  (by decide +kernel : ∀ t : Fin grid0.N, _)

/-- Every block of the result is written at some point. -/
theorem positions_onto : ∀ p : Fin 4, ∀ q : Fin 2, ∃ t : Fin grid0.N,
    ((grid0.coords t) 1).val = p.val ∧ ((grid0.coords t) 0).val = q.val :=
  (by decide +kernel : ∀ p : Fin 4, ∀ q : Fin 2, ∃ t : Fin grid0.N, _)

variable (hw : Cert.SlotPlace.Inside (words m))

abbrev hok : Ok m := ok_of_inside (tbl m) hw

theorem out_at (c : Dev nD) (t : Fin (cfgM m (hok m hw)).N) :
    outsAt0 m (hok m hw) c t = k0_pay1 (F := Ideal) (iblk m (hok m hw) c 0 t) (iblk m (hok m hw) c 1 t) :=
  out_eq ..

/-- What a point writes back is its block of the product. -/
theorem flushed_eq (c : Dev nD) (t : Fin (cfgM m (hok m hw)).N) :
    (dats m (hok m hw) 0 c).flushed 2 t = (((cfgM m (hok m hw)).win 2).blk t).view.read (Elt Ideal) (result m c) := by
  obtain rfl : c = 0 := Subsingleton.elim _ _
  show ((cfgM m (hok m hw)).win 2).cut (grid0.coords t) ((dats m (hok m hw) 0 0).after 2 t) = _
  rw [after0_2]
  rw [out_at m hw]
  funext (y : S512x1792.Idx)
  show k0_pay1 (F := Ideal) (iblk m (hok m hw) 0 0 t) (iblk m (hok m hw) 0 1 t) y
    = Cert.SlotPlace.slab _ _ _ ((((cfgM m (hok m hw)).win 2).blk t).view.emb y)
  refine (product_apply _ _ y).trans ?_
  have hp := out_positions t
  have hl := left_index (tbl m) hw (grid0.coords t)
  have hr := right_index (tbl m) hw (grid0.coords t)
  have l0 := congrFun hl 0
  have l1 := congrFun hl 1
  have r0 := congrFun hr 0
  have r1 := congrFun hr 1
  have p0 := congrFun hp 0
  have p1 := congrFun hp 1
  unfold Cert.SlotPlace.slab
  refine Finset.sum_congr rfl fun k _ => ?_
  congr 1
  · show V m 0 main_arg1 _ = m _ _
    rw [V_main_arg1]
    congr 1
    funext a
    apply Fin.ext
    match a with
    | ⟨0, _⟩ =>
      show cc0_transform_0 inb_S2_S1_1 numel1_S1 (tbl m) (grid0.coords t) 0 * 4096 + 1 * k.val = k.val
      rw [l0]; show 0 * 4096 + 1 * k.val = k.val; omega
    | ⟨1, _⟩ =>
      show cc0_transform_0 inb_S2_S1_1 numel1_S1 (tbl m) (grid0.coords t) 1 * 512 + 1 * (y 0).val
        = (words m (ix1 1)).toNat % 2 * 2048 + (cc0_transform_2 (grid0.coords t) 0 * 512 + 1 * (y 0).val)
      rw [l1, p0, Nat.mod_eq_of_lt hw.2]
      show ((words m (ix1 1)).toNat * 4 + ((grid0.coords t) 1).val) * 512 + 1 * (y 0).val
        = (words m (ix1 1)).toNat * 2048 + (((grid0.coords t) 1).val * 512 + 1 * (y 0).val)
      omega
  · show V m 0 main_arg2 _ = m _ _
    rw [V_main_arg2]
    congr 1
    funext a
    apply Fin.ext
    match a with
    | ⟨0, _⟩ =>
      show cc0_transform_1 inb_S2_S1_0 numel1_S1 (tbl m) (grid0.coords t) 0 * 4096 + 1 * k.val = k.val
      rw [r0]; show 0 * 4096 + 1 * k.val = k.val; omega
    | ⟨1, _⟩ =>
      show cc0_transform_1 inb_S2_S1_0 numel1_S1 (tbl m) (grid0.coords t) 1 * 1792 + 1 * (y 1).val
        = (words m (ix1 0)).toNat % 4 * 3584 + (cc0_transform_2 (grid0.coords t) 1 * 1792 + 1 * (y 1).val)
      rw [r1, p1, Nat.mod_eq_of_lt hw.1]
      show ((words m (ix1 0)).toNat * 2 + ((grid0.coords t) 0).val) * 1792 + 1 * (y 1).val
        = (words m (ix1 0)).toNat * 3584 + (((grid0.coords t) 0).val * 1792 + 1 * (y 1).val)
      omega

theorem mem_block (t : Fin (cfgM m (hok m hw)).N) (i : S2048x3584.Idx) :
    i ∈ (((cfgM m (hok m hw)).win 2).blk t).view.set ↔
    ∀ a : Fin 2, cc0_transform_2 (grid0.coords t) a * S512x1792.size a ≤ (i a : Nat)
      ∧ (i a : Nat) < cc0_transform_2 (grid0.coords t) a * S512x1792.size a + S512x1792.size a := by
  show i ∈ ((View.whole main_v0).slice
    (Rect.block (s := S2048x3584) S512x1792.size (cc0_transform_2 (grid0.coords t)) (hinb0_2 (grid0.coords t)))).set ↔ _
  rw [View.set_slice_whole, Rect.mem_set_unit]
  exact Iff.rfl

theorem final (c : Dev nD) : (dats m (hok m hw) 0 c).arrAt 2 (cfgM m (hok m hw)).N = result m c :=
  (dats m (hok m hw) 0 c).arrAt_eq_of_cover 2 (result m c) (fun t _ => flushed_eq m hw c t) fun (i : S2048x3584.Idx) => by
    have h0 : (i 0 : Nat) < 2048 := (i 0).isLt
    have h1 : (i 1 : Nat) < 3584 := (i 1).isLt
    obtain ⟨t, e0, e1⟩ := positions_onto ⟨(i 0 : Nat) / 512, by omega⟩ ⟨(i 1 : Nat) / 1792, by omega⟩
    have hp := out_positions t
    refine ⟨t, flush0_2 (adm m (hok m hw)) t, (mem_block m hw t i).mpr fun a => ?_⟩
    rw [hp]
    match a with
    | ⟨0, _⟩ =>
      show ((grid0.coords t) 1).val * 512 ≤ (i 0 : Nat) ∧ (i 0 : Nat) < ((grid0.coords t) 1).val * 512 + 512
      rw [e0]; dsimp only; omega
    | ⟨1, _⟩ =>
      show ((grid0.coords t) 0).val * 1792 ≤ (i 1 : Nat) ∧ (i 1 : Nat) < ((grid0.coords t) 0).val * 1792 + 1792
      rw [e1]; dsimp only; omega

end Cert.SlotIdeal.Product

namespace Cert.Slot.Claims

open Idealize.ShloMosaic Idealize.ShloMosaic.TcCoe Idealize.SL.Sem

theorem quiescent_ideal : Cert.quiescent_SlotIdeal := fun m ρ hp =>
  Cert.SlotIdeal.Gen.frame m ρ (Cert.SlotIdeal.Product.ok_of_inside (Cert.SlotIdeal.Gen.tbl m) (Cert.SlotPlace.inside_of_range _ _ _ (hp 0)))

/-- The reference ends with its arguments unchanged and every counter at zero. -/
theorem reference_quiescent : Cert.quiescent_RefSlotIdeal := fun m ρ _ =>
  (θ_run _ _ _).mono (fun r h => ⟨fun c => (h c).2, sem_eq_zero_of_no_sems (by decide) r.2⟩)
    (Cert.RefSlotIdeal.Value.run m ρ)

theorem reference_quiescent_in_range : Cert.quiescent_RefSlotIdeal_pre_in_range := fun m ρ _ =>
  (θ_run _ _ _).mono (fun r h => ⟨fun c => (h c).2, sem_eq_zero_of_no_sems (by decide) r.2⟩)
    (Cert.RefSlotIdeal.Value.run m ρ)

theorem algebraic : Cert.algebraic_SlotIdeal_RefSlotIdeal := fun m ρ m' ρ' hp hag => by
  have hw : Cert.SlotPlace.Inside (Cert.SlotIdeal.Product.words m) := Cert.SlotPlace.inside_of_range _ _ _ (hp 0)
  refine ⟨Cert.SlotIdeal.Product.result m,
    (θ_run _ _ _).mono (fun r h c => ⟨((h.1 c).1 2).trans (Cert.SlotIdeal.Product.final m hw c), h.2 c⟩)
      (θ_run_and (Cert.SlotIdeal.Gen.run_main m ρ (Cert.SlotIdeal.Product.hok m hw))
        (Cert.SlotIdeal.Gen.unchanged m ρ (Cert.SlotIdeal.Product.hok m hw))),
    (θ_run _ _ _).mono (fun r h c => ⟨(h c).1.trans ?_, (h c).2⟩) (Cert.RefSlotIdeal.Value.run m' ρ')⟩
  obtain rfl : c = 0 := Subsingleton.elim _ _
  rw [(hag 0).1, (hag 0).2.1, (hag 0).2.2]
  exact Cert.SlotPlace.reference_eq _ _ _ hw _
    (Cert.SlotPlace.start_eq _ ![1] 1 rfl _ _ _ 2048 (Nat.lt_trans hw.2 (by decide)) (by decide) _)
    (Cert.SlotPlace.start_eq _ ![0] 0 rfl _ _ _ 3584 hw.1 (by decide) _)

end Cert.Slot.Claims

end
-- ==== Proof.SlotSecondValue.lean ====
module

public import proofs.«01_k».proof.Defs
public import proofs.«01_k».proof.Proof.SlotPlace
public import proofs.«01_k».proof.Proof.Gen.SlotSecond.Frame
public import proofs.«01_k».proof.Proof.Gen.SlotSecondIdeal.Frame
public import proofs.«01_k».proof.Proof.SlotSecondReference
public import Idealize.ShloMosaic.Lib.Quiescent
public import Idealize.ShloMosaic.Lib.Pointwise
public import Idealize.ShloMosaic.Lib.Pipeline.Value
public import Idealize.ShloMosaic.Lib.Tactic

@[expose] public section

set_option maxRecDepth 16384

noncomputable section

namespace Cert.SlotSecond.Claims

open Cert.SlotSecond Cert.SlotSecond.Gen Idealize.ShloMosaic Idealize.ShloMosaic.TcCoe Idealize.SL.Sem

variable {F : FTy → Type} [FloatOps F]

/-- The first window's block number on a table inside the range. -/
theorem left_index (pf : pre0.Contents (Elt F)) (hw : Cert.SlotPlace.Inside (pf 0)) (i : grid0.Coords) :
    cc0_transform_0 inb_S2_S1_1 numel1_S1 pf i = ![0, (pf 0 (ix1 1)).toNat * 4 + (i 1).val] := by
  have e : pf.at 0 (Rect.unit (s := S2) ![1] S1.size inb_S2_S1_1) numel1_S1 = pf 0 (ix1 1) := by
    show pf 0 _ = pf 0 _
    congr 1
    funext a
    match a with
    | ⟨0, _⟩ => rfl
  unfold cc0_transform_0
  dsimp only
  rw [e]
  exact congrArg (fun z => (![0, z] : Fin 2 → Nat))
    (Cert.SlotPlace.block_number _ 4 _ (Nat.lt_trans hw.2 (by decide)) (by decide) (i 1).isLt)

/-- The second window's. -/
theorem right_index (pf : pre0.Contents (Elt F)) (hw : Cert.SlotPlace.Inside (pf 0)) (i : grid0.Coords) :
    cc0_transform_1 inb_S2_S1_0 numel1_S1 pf i = ![0, (pf 0 (ix1 0)).toNat * 2 + (i 0).val] := by
  have e : pf.at 0 (Rect.unit (s := S2) ![0] S1.size inb_S2_S1_0) numel1_S1 = pf 0 (ix1 0) := by
    show pf 0 _ = pf 0 _
    congr 1
    funext a
    match a with
    | ⟨0, _⟩ => rfl
  have h0 : (i 0).val < 2 := (i 0).isLt
  unfold cc0_transform_1
  dsimp only
  rw [e]
  exact congrArg (fun z => (![0, z] : Fin 2 → Nat))
    (Cert.SlotPlace.block_number _ 2 _ hw.1 (by decide) (Nat.lt_trans h0 (by decide)))

/-- On a table inside the range every block lies in its array. -/
theorem ok_of_inside (pf : pre0.Contents (Elt F)) (hw : Cert.SlotPlace.Inside (pf 0)) : ok0 pf := by
  obtain ⟨a, b⟩ := hw
  refine ⟨fun i => ⟨fun k => ?_, .inr (Affine.block_words_dvd (of_decide_eq_true rfl) (by decide))⟩,
    fun i => ⟨fun k => ?_, .inr (Affine.block_words_dvd (of_decide_eq_true rfl) (by decide))⟩⟩
  · rw [left_index pf ⟨a, b⟩ i]
    have h1 : (i 1).val < 4 := (i 1).isLt
    match k with
    | ⟨0, _⟩ => show (0 + 1) * 4096 ≤ 4096; omega
    | ⟨1, _⟩ => show ((pf 0 (ix1 1)).toNat * 4 + (i 1).val + 1) * 512 ≤ 4096; omega
  · rw [right_index pf ⟨a, b⟩ i]
    have h0 : (i 0).val < 2 := (i 0).isLt
    match k with
    | ⟨0, _⟩ => show (0 + 1) * 4096 ≤ 4096; omega
    | ⟨1, _⟩ => show ((pf 0 (ix1 0)).toNat * 2 + (i 0).val + 1) * 1792 ≤ 14336; omega

theorem quiescent : Cert.quiescent_SlotSecond := fun m ρ hp =>
  Cert.SlotSecond.Gen.frame m ρ (ok_of_inside (tbl m) (Cert.SlotPlace.inside_of_range_added _ _ _ _ (hp 0)))

end Cert.SlotSecond.Claims

namespace Cert.SlotSecondIdeal.Product

open Cert.SlotSecondIdeal Cert.SlotSecondIdeal.Gen Idealize.ShloMosaic Idealize.ShloMosaic.TcCoe Idealize.SL.Sem
open Idealize.ShloMosaic.Pipeline (Dat)

section
variable {F : FTy → Type} [FloatOps F]

/-- The first window's block number on a table inside the range. -/
theorem left_index (pf : pre0.Contents (Elt F)) (hw : Cert.SlotPlace.Inside (pf 0)) (i : grid0.Coords) :
    cc0_transform_0 inb_S2_S1_1 numel1_S1 pf i = ![0, (pf 0 (ix1 1)).toNat * 4 + (i 1).val] := by
  have e : pf.at 0 (Rect.unit (s := S2) ![1] S1.size inb_S2_S1_1) numel1_S1 = pf 0 (ix1 1) := by
    show pf 0 _ = pf 0 _
    congr 1
    funext a
    match a with
    | ⟨0, _⟩ => rfl
  unfold cc0_transform_0
  dsimp only
  rw [e]
  exact congrArg (fun z => (![0, z] : Fin 2 → Nat))
    (Cert.SlotPlace.block_number _ 4 _ (Nat.lt_trans hw.2 (by decide)) (by decide) (i 1).isLt)

/-- The second window's. -/
theorem right_index (pf : pre0.Contents (Elt F)) (hw : Cert.SlotPlace.Inside (pf 0)) (i : grid0.Coords) :
    cc0_transform_1 inb_S2_S1_0 numel1_S1 pf i = ![0, (pf 0 (ix1 0)).toNat * 2 + (i 0).val] := by
  have e : pf.at 0 (Rect.unit (s := S2) ![0] S1.size inb_S2_S1_0) numel1_S1 = pf 0 (ix1 0) := by
    show pf 0 _ = pf 0 _
    congr 1
    funext a
    match a with
    | ⟨0, _⟩ => rfl
  have h0 : (i 0).val < 2 := (i 0).isLt
  unfold cc0_transform_1
  dsimp only
  rw [e]
  exact congrArg (fun z => (![0, z] : Fin 2 → Nat))
    (Cert.SlotPlace.block_number _ 2 _ hw.1 (by decide) (Nat.lt_trans h0 (by decide)))

/-- On a table inside the range every block lies in its array. -/
theorem ok_of_inside (pf : pre0.Contents (Elt F)) (hw : Cert.SlotPlace.Inside (pf 0)) : ok0 pf := by
  obtain ⟨a, b⟩ := hw
  refine ⟨fun i => ⟨fun k => ?_, .inr (Affine.block_words_dvd (of_decide_eq_true rfl) (by decide))⟩,
    fun i => ⟨fun k => ?_, .inr (Affine.block_words_dvd (of_decide_eq_true rfl) (by decide))⟩⟩
  · rw [left_index pf ⟨a, b⟩ i]
    have h1 : (i 1).val < 4 := (i 1).isLt
    match k with
    | ⟨0, _⟩ => show (0 + 1) * 4096 ≤ 4096; omega
    | ⟨1, _⟩ => show ((pf 0 (ix1 1)).toNat * 4 + (i 1).val + 1) * 512 ≤ 4096; omega
  · rw [right_index pf ⟨a, b⟩ i]
    have h0 : (i 0).val < 2 := (i 0).isLt
    match k with
    | ⟨0, _⟩ => show (0 + 1) * 4096 ≤ 4096; omega
    | ⟨1, _⟩ => show ((pf 0 (ix1 0)).toNat * 2 + (i 0).val + 1) * 1792 ≤ 14336; omega

end

variable (m : (ℓ : Loc nD τ sig) → Buf (Elt Ideal) ℓ)

/-- The words the launch hands the kernel. -/
abbrev words : IVec Cert.SlotPlace.Words 32 := tbl m 0

/-- The block of the product with the neighbour's block added. -/
def added (p s : Vec Ideal Cert.SlotPlace.Slab .f32) : Vec Ideal Cert.SlotPlace.Slab .bf16 := fun i => p i + s i

/-- What the kernel's result array holds in the end. -/
abbrev result (c : Dev nD) : Buf (Elt Ideal) ((c : Thread nD τ).loc main_v0) :=
  added (Cert.SlotPlace.slab (m ((c : Thread nD τ).loc main_arg0)) (m ((c : Thread nD τ).loc main_arg1)) (m ((c : Thread nD τ).loc main_arg2)))
    (m ((c : Thread nD τ).loc main_arg3))

theorem zeros : (![0, 0] : Fin 2 → Nat) = fun _ => 0 := funext fun a => by fin_cases a <;> rfl

/-- The body's product at an index. -/
theorem product_apply (x : Vec Ideal S4096x512 .bf16) (w : Vec Ideal S4096x1792 .bf16) (s : Vec Ideal S512x1792 .f32) (y : S512x1792.Idx) :
    k0_pay1 x w s y = (∑ k : Fin 4096, x (ix2 k (y 0)) * w (ix2 k (y 1))) + s y := by
  pointwise [k0_pay1]

/-- What one run of the body leaves in the result's block. -/
theorem out_eq (c : Dev nD) (i : grid0.Coords) (a3 : Memref sig .tc .vmem S4096x512 .bf16) (h3 : a3.IsWhole)
    (a4 : Memref sig .tc .vmem S4096x1792 .bf16) (h4 : a4.IsWhole) (a5 : Memref sig .tc .vmem S512x1792 .f32) (h5 : a5.IsWhole)
    (a6 : Memref sig .tc .vmem S512x1792 .bf16) (h6 : a6.IsWhole)
    (x : Vec Ideal S4096x512 .bf16) (w : Vec Ideal S4096x1792 .bf16) (s : Vec Ideal S512x1792 .f32) (z : TbBuf0 (F := Ideal) c tbM0_0) :
    out0_A_3 c i a3 h3 a4 h4 a5 h5 a6 h6 x w s z = k0_pay1 (F := Ideal) x w s := by
  unfold out0_A_3
  rw [View.read_writes_eq_canon _ _ _ (cover0_A_3 c i a3 h3 a4 h4 a5 h5 a6 h6 x w s z)]
  unfold kernelRun0_A
  dsimp only
  sl_unfold_words
  rw [View.canon_unit_zero zeros]
  simp only [View.readAt_eq_ld, h3.read_unread, h4.read_unread, h5.read_unread, shapeCast_self, View.ld_unit_zero (S := S4096x512) zeros,
    View.ld_unit_zero (S := S4096x1792) zeros, View.ld_unit_zero (S := S512x1792) zeros]

/-- The result's block number at a point. -/
theorem out_positions : ∀ t : Fin grid0.N,
    cc0_transform_3 (grid0.coords t) = ![((grid0.coords t) 1).val, ((grid0.coords t) 0).val] :=
  (by decide +kernel : ∀ t : Fin grid0.N, _)

/-- Every block of the result is written at some point. -/
theorem positions_onto : ∀ p : Fin 4, ∀ q : Fin 2, ∃ t : Fin grid0.N,
    ((grid0.coords t) 1).val = p.val ∧ ((grid0.coords t) 0).val = q.val :=
  (by decide +kernel : ∀ p : Fin 4, ∀ q : Fin 2, ∃ t : Fin grid0.N, _)

variable (hw : Cert.SlotPlace.Inside (words m))

abbrev hok : Ok m := ok_of_inside (tbl m) hw

theorem out_at (c : Dev nD) (t : Fin (cfgM m (hok m hw)).N) :
    outsAt0 m (hok m hw) c t = k0_pay1 (F := Ideal) (iblk m (hok m hw) c 0 t) (iblk m (hok m hw) c 1 t)
      (iblk m (hok m hw) c 2 t) :=
  out_eq ..

/-- What a point writes back is its block of the product. -/
theorem flushed_eq (c : Dev nD) (t : Fin (cfgM m (hok m hw)).N) :
    (dats m (hok m hw) 0 c).flushed 3 t = (((cfgM m (hok m hw)).win 3).blk t).view.read (Elt Ideal) (result m c) := by
  obtain rfl : c = 0 := Subsingleton.elim _ _
  show ((cfgM m (hok m hw)).win 3).cut (grid0.coords t) ((dats m (hok m hw) 0 0).after 3 t) = _
  rw [after0_3]
  rw [out_at m hw]
  funext (y : S512x1792.Idx)
  show k0_pay1 (F := Ideal) (iblk m (hok m hw) 0 0 t) (iblk m (hok m hw) 0 1 t) (iblk m (hok m hw) 0 2 t) y
    = added _ _ ((((cfgM m (hok m hw)).win 3).blk t).view.emb y)
  refine (product_apply _ _ _ y).trans ?_
  have hp := out_positions t
  have hl := left_index (tbl m) hw (grid0.coords t)
  have hr := right_index (tbl m) hw (grid0.coords t)
  have l0 := congrFun hl 0
  have l1 := congrFun hl 1
  have r0 := congrFun hr 0
  have r1 := congrFun hr 1
  have p0 := congrFun hp 0
  have p1 := congrFun hp 1
  unfold added
  refine congrArg₂ (· + ·) ?_ ?_
  swap
  · show V m 0 main_arg3 _ = m _ _
    rw [V_main_arg3]
    congr 1
  unfold Cert.SlotPlace.slab
  refine Finset.sum_congr rfl fun k _ => ?_
  congr 1
  · show V m 0 main_arg1 _ = m _ _
    rw [V_main_arg1]
    congr 1
    funext a
    apply Fin.ext
    match a with
    | ⟨0, _⟩ =>
      show cc0_transform_0 inb_S2_S1_1 numel1_S1 (tbl m) (grid0.coords t) 0 * 4096 + 1 * k.val = k.val
      rw [l0]; show 0 * 4096 + 1 * k.val = k.val; omega
    | ⟨1, _⟩ =>
      show cc0_transform_0 inb_S2_S1_1 numel1_S1 (tbl m) (grid0.coords t) 1 * 512 + 1 * (y 0).val
        = (words m (ix1 1)).toNat % 2 * 2048 + (cc0_transform_3 (grid0.coords t) 0 * 512 + 1 * (y 0).val)
      rw [l1, p0, Nat.mod_eq_of_lt hw.2]
      show ((words m (ix1 1)).toNat * 4 + ((grid0.coords t) 1).val) * 512 + 1 * (y 0).val
        = (words m (ix1 1)).toNat * 2048 + (((grid0.coords t) 1).val * 512 + 1 * (y 0).val)
      omega
  · show V m 0 main_arg2 _ = m _ _
    rw [V_main_arg2]
    congr 1
    funext a
    apply Fin.ext
    match a with
    | ⟨0, _⟩ =>
      show cc0_transform_1 inb_S2_S1_0 numel1_S1 (tbl m) (grid0.coords t) 0 * 4096 + 1 * k.val = k.val
      rw [r0]; show 0 * 4096 + 1 * k.val = k.val; omega
    | ⟨1, _⟩ =>
      show cc0_transform_1 inb_S2_S1_0 numel1_S1 (tbl m) (grid0.coords t) 1 * 1792 + 1 * (y 1).val
        = (words m (ix1 0)).toNat % 4 * 3584 + (cc0_transform_3 (grid0.coords t) 1 * 1792 + 1 * (y 1).val)
      rw [r1, p1, Nat.mod_eq_of_lt hw.1]
      show ((words m (ix1 0)).toNat * 2 + ((grid0.coords t) 0).val) * 1792 + 1 * (y 1).val
        = (words m (ix1 0)).toNat * 3584 + (((grid0.coords t) 0).val * 1792 + 1 * (y 1).val)
      omega

theorem mem_block (t : Fin (cfgM m (hok m hw)).N) (i : S2048x3584.Idx) :
    i ∈ (((cfgM m (hok m hw)).win 3).blk t).view.set ↔
    ∀ a : Fin 2, cc0_transform_3 (grid0.coords t) a * S512x1792.size a ≤ (i a : Nat)
      ∧ (i a : Nat) < cc0_transform_3 (grid0.coords t) a * S512x1792.size a + S512x1792.size a := by
  show i ∈ ((View.whole main_v0).slice
    (Rect.block (s := S2048x3584) S512x1792.size (cc0_transform_3 (grid0.coords t)) (hinb0_3 (grid0.coords t)))).set ↔ _
  rw [View.set_slice_whole, Rect.mem_set_unit]
  exact Iff.rfl

theorem final (c : Dev nD) : (dats m (hok m hw) 0 c).arrAt 3 (cfgM m (hok m hw)).N = result m c :=
  (dats m (hok m hw) 0 c).arrAt_eq_of_cover 3 (result m c) (fun t _ => flushed_eq m hw c t) fun (i : S2048x3584.Idx) => by
    have h0 : (i 0 : Nat) < 2048 := (i 0).isLt
    have h1 : (i 1 : Nat) < 3584 := (i 1).isLt
    obtain ⟨t, e0, e1⟩ := positions_onto ⟨(i 0 : Nat) / 512, by omega⟩ ⟨(i 1 : Nat) / 1792, by omega⟩
    have hp := out_positions t
    refine ⟨t, flush0_3 (adm m (hok m hw)) t, (mem_block m hw t i).mpr fun a => ?_⟩
    rw [hp]
    match a with
    | ⟨0, _⟩ =>
      show ((grid0.coords t) 1).val * 512 ≤ (i 0 : Nat) ∧ (i 0 : Nat) < ((grid0.coords t) 1).val * 512 + 512
      rw [e0]; dsimp only; omega
    | ⟨1, _⟩ =>
      show ((grid0.coords t) 0).val * 1792 ≤ (i 1 : Nat) ∧ (i 1 : Nat) < ((grid0.coords t) 0).val * 1792 + 1792
      rw [e1]; dsimp only; omega

end Cert.SlotSecondIdeal.Product

namespace Cert.SlotSecond.Claims

open Idealize.ShloMosaic Idealize.ShloMosaic.TcCoe Idealize.SL.Sem

theorem quiescent_ideal : Cert.quiescent_SlotSecondIdeal := fun m ρ hp =>
  Cert.SlotSecondIdeal.Gen.frame m ρ (Cert.SlotSecondIdeal.Product.ok_of_inside (Cert.SlotSecondIdeal.Gen.tbl m) (Cert.SlotPlace.inside_of_range_added _ _ _ _ (hp 0)))

/-- The reference ends with its arguments unchanged and every counter at zero. -/
theorem reference_quiescent : Cert.quiescent_RefSlotSecondIdeal := fun m ρ _ =>
  (θ_run _ _ _).mono (fun r h => ⟨fun c => (h c).2, sem_eq_zero_of_no_sems (by decide) r.2⟩)
    (Cert.RefSlotSecondIdeal.Ran.run m ρ)

theorem reference_quiescent_in_range : Cert.quiescent_RefSlotSecondIdeal_pre_in_range_added := fun m ρ _ =>
  (θ_run _ _ _).mono (fun r h => ⟨fun c => (h c).2, sem_eq_zero_of_no_sems (by decide) r.2⟩)
    (Cert.RefSlotSecondIdeal.Ran.run m ρ)

theorem algebraic : Cert.algebraic_SlotSecondIdeal_RefSlotSecondIdeal := fun m ρ m' ρ' hp hag => by
  have hw : Cert.SlotPlace.Inside (Cert.SlotSecondIdeal.Product.words m) := Cert.SlotPlace.inside_of_range_added _ _ _ _ (hp 0)
  refine ⟨Cert.SlotSecondIdeal.Product.result m,
    (θ_run _ _ _).mono (fun r h c => ⟨((h.1 c).1 3).trans (Cert.SlotSecondIdeal.Product.final m hw c), h.2 c⟩)
      (θ_run_and (Cert.SlotSecondIdeal.Gen.run_main m ρ (Cert.SlotSecondIdeal.Product.hok m hw))
        (Cert.SlotSecondIdeal.Gen.unchanged m ρ (Cert.SlotSecondIdeal.Product.hok m hw))),
    (θ_run _ _ _).mono (fun r h c => ⟨(h c).1.trans ?_, (h c).2⟩) (Cert.RefSlotSecondIdeal.Ran.run m' ρ')⟩
  obtain rfl : c = 0 := Subsingleton.elim _ _
  rw [(hag 0).1, (hag 0).2.1, (hag 0).2.2.1, (hag 0).2.2.2]
  exact congrArg (fun p => Cert.SlotSecondIdeal.Product.added p _) (Cert.SlotPlace.reference_eq _ _ _ hw _
    (Cert.SlotPlace.start_eq _ ![1] 1 rfl _ _ _ 2048 (Nat.lt_trans hw.2 (by decide)) (by decide) _)
    (Cert.SlotPlace.start_eq _ ![0] 0 rfl _ _ _ 3584 hw.1 (by decide) _))

end Cert.SlotSecond.Claims

end
-- ==== Proof.SlotOwnValue.lean ====
module

public import proofs.«01_k».proof.Defs
public import proofs.«01_k».proof.Proof.SlotPlace
public import proofs.«01_k».proof.Proof.Gen.SlotOwn.Frame
public import proofs.«01_k».proof.Proof.Gen.SlotOwnIdeal.Frame
public import proofs.«01_k».proof.Proof.SlotOwnReference
public import Idealize.ShloMosaic.Lib.Quiescent
public import Idealize.ShloMosaic.Lib.Pointwise
public import Idealize.ShloMosaic.Lib.Pipeline.Value
public import Idealize.ShloMosaic.Lib.Tactic

@[expose] public section

set_option maxRecDepth 16384

noncomputable section

namespace Cert.SlotOwn.Claims

open Cert.SlotOwn Cert.SlotOwn.Gen Idealize.ShloMosaic Idealize.ShloMosaic.TcCoe Idealize.SL.Sem

variable {F : FTy → Type} [FloatOps F]

/-- The first window's block number on a table inside the range. -/
theorem left_index (pf : pre0.Contents (Elt F)) (hw : Cert.SlotPlace.Inside (pf 0)) (i : grid0.Coords) :
    cc0_transform_0 inb_S2_S1_1 numel1_S1 pf i = ![0, (pf 0 (ix1 1)).toNat * 4 + (i 1).val] := by
  have e : pf.at 0 (Rect.unit (s := S2) ![1] S1.size inb_S2_S1_1) numel1_S1 = pf 0 (ix1 1) := by
    show pf 0 _ = pf 0 _
    congr 1
    funext a
    match a with
    | ⟨0, _⟩ => rfl
  unfold cc0_transform_0
  dsimp only
  rw [e]
  exact congrArg (fun z => (![0, z] : Fin 2 → Nat))
    (Cert.SlotPlace.block_number _ 4 _ (Nat.lt_trans hw.2 (by decide)) (by decide) (i 1).isLt)

/-- The second window's. -/
theorem right_index (pf : pre0.Contents (Elt F)) (hw : Cert.SlotPlace.Inside (pf 0)) (i : grid0.Coords) :
    cc0_transform_1 inb_S2_S1_0 numel1_S1 pf i = ![0, (pf 0 (ix1 0)).toNat * 2 + (i 0).val] := by
  have e : pf.at 0 (Rect.unit (s := S2) ![0] S1.size inb_S2_S1_0) numel1_S1 = pf 0 (ix1 0) := by
    show pf 0 _ = pf 0 _
    congr 1
    funext a
    match a with
    | ⟨0, _⟩ => rfl
  have h0 : (i 0).val < 2 := (i 0).isLt
  unfold cc0_transform_1
  dsimp only
  rw [e]
  exact congrArg (fun z => (![0, z] : Fin 2 → Nat))
    (Cert.SlotPlace.block_number _ 2 _ hw.1 (by decide) (Nat.lt_trans h0 (by decide)))

/-- On a table inside the range every block lies in its array. -/
theorem ok_of_inside (pf : pre0.Contents (Elt F)) (hw : Cert.SlotPlace.Inside (pf 0)) : ok0 pf := by
  obtain ⟨a, b⟩ := hw
  refine ⟨fun i => ⟨fun k => ?_, .inr (Affine.block_words_dvd (of_decide_eq_true rfl) (by decide))⟩,
    fun i => ⟨fun k => ?_, .inr (Affine.block_words_dvd (of_decide_eq_true rfl) (by decide))⟩⟩
  · rw [left_index pf ⟨a, b⟩ i]
    have h1 : (i 1).val < 4 := (i 1).isLt
    match k with
    | ⟨0, _⟩ => show (0 + 1) * 4096 ≤ 4096; omega
    | ⟨1, _⟩ => show ((pf 0 (ix1 1)).toNat * 4 + (i 1).val + 1) * 512 ≤ 4096; omega
  · rw [right_index pf ⟨a, b⟩ i]
    have h0 : (i 0).val < 2 := (i 0).isLt
    match k with
    | ⟨0, _⟩ => show (0 + 1) * 4096 ≤ 4096; omega
    | ⟨1, _⟩ => show ((pf 0 (ix1 0)).toNat * 2 + (i 0).val + 1) * 1792 ≤ 14336; omega

theorem quiescent : Cert.quiescent_SlotOwn := fun m ρ hp =>
  Cert.SlotOwn.Gen.frame m ρ (ok_of_inside (tbl m) (Cert.SlotPlace.inside_of_range_added _ _ _ _ (hp 0)))

end Cert.SlotOwn.Claims

namespace Cert.SlotOwnIdeal.Product

open Cert.SlotOwnIdeal Cert.SlotOwnIdeal.Gen Idealize.ShloMosaic Idealize.ShloMosaic.TcCoe Idealize.SL.Sem
open Idealize.ShloMosaic.Pipeline (Dat)

section
variable {F : FTy → Type} [FloatOps F]

/-- The first window's block number on a table inside the range. -/
theorem left_index (pf : pre0.Contents (Elt F)) (hw : Cert.SlotPlace.Inside (pf 0)) (i : grid0.Coords) :
    cc0_transform_0 inb_S2_S1_1 numel1_S1 pf i = ![0, (pf 0 (ix1 1)).toNat * 4 + (i 1).val] := by
  have e : pf.at 0 (Rect.unit (s := S2) ![1] S1.size inb_S2_S1_1) numel1_S1 = pf 0 (ix1 1) := by
    show pf 0 _ = pf 0 _
    congr 1
    funext a
    match a with
    | ⟨0, _⟩ => rfl
  unfold cc0_transform_0
  dsimp only
  rw [e]
  exact congrArg (fun z => (![0, z] : Fin 2 → Nat))
    (Cert.SlotPlace.block_number _ 4 _ (Nat.lt_trans hw.2 (by decide)) (by decide) (i 1).isLt)

/-- The second window's. -/
theorem right_index (pf : pre0.Contents (Elt F)) (hw : Cert.SlotPlace.Inside (pf 0)) (i : grid0.Coords) :
    cc0_transform_1 inb_S2_S1_0 numel1_S1 pf i = ![0, (pf 0 (ix1 0)).toNat * 2 + (i 0).val] := by
  have e : pf.at 0 (Rect.unit (s := S2) ![0] S1.size inb_S2_S1_0) numel1_S1 = pf 0 (ix1 0) := by
    show pf 0 _ = pf 0 _
    congr 1
    funext a
    match a with
    | ⟨0, _⟩ => rfl
  have h0 : (i 0).val < 2 := (i 0).isLt
  unfold cc0_transform_1
  dsimp only
  rw [e]
  exact congrArg (fun z => (![0, z] : Fin 2 → Nat))
    (Cert.SlotPlace.block_number _ 2 _ hw.1 (by decide) (Nat.lt_trans h0 (by decide)))

/-- On a table inside the range every block lies in its array. -/
theorem ok_of_inside (pf : pre0.Contents (Elt F)) (hw : Cert.SlotPlace.Inside (pf 0)) : ok0 pf := by
  obtain ⟨a, b⟩ := hw
  refine ⟨fun i => ⟨fun k => ?_, .inr (Affine.block_words_dvd (of_decide_eq_true rfl) (by decide))⟩,
    fun i => ⟨fun k => ?_, .inr (Affine.block_words_dvd (of_decide_eq_true rfl) (by decide))⟩⟩
  · rw [left_index pf ⟨a, b⟩ i]
    have h1 : (i 1).val < 4 := (i 1).isLt
    match k with
    | ⟨0, _⟩ => show (0 + 1) * 4096 ≤ 4096; omega
    | ⟨1, _⟩ => show ((pf 0 (ix1 1)).toNat * 4 + (i 1).val + 1) * 512 ≤ 4096; omega
  · rw [right_index pf ⟨a, b⟩ i]
    have h0 : (i 0).val < 2 := (i 0).isLt
    match k with
    | ⟨0, _⟩ => show (0 + 1) * 4096 ≤ 4096; omega
    | ⟨1, _⟩ => show ((pf 0 (ix1 0)).toNat * 2 + (i 0).val + 1) * 1792 ≤ 14336; omega

end

variable (m : (ℓ : Loc nD τ sig) → Buf (Elt Ideal) ℓ)

/-- The words the launch hands the kernel. -/
abbrev words : IVec Cert.SlotPlace.Words 32 := tbl m 0

/-- The block of the product with the neighbour's block added. -/
def added (p s : Vec Ideal Cert.SlotPlace.Slab .f32) : Vec Ideal Cert.SlotPlace.Slab .f32 := fun i => p i + s i

/-- What the kernel's result array holds in the end. -/
abbrev result (c : Dev nD) : Buf (Elt Ideal) ((c : Thread nD τ).loc main_v0) :=
  added (Cert.SlotPlace.slab (m ((c : Thread nD τ).loc main_arg0)) (m ((c : Thread nD τ).loc main_arg1)) (m ((c : Thread nD τ).loc main_arg2)))
    (m ((c : Thread nD τ).loc main_arg3))

theorem zeros : (![0, 0] : Fin 2 → Nat) = fun _ => 0 := funext fun a => by fin_cases a <;> rfl

/-- The body's product at an index. -/
theorem product_apply (x : Vec Ideal S4096x512 .bf16) (w : Vec Ideal S4096x1792 .bf16) (s : Vec Ideal S512x1792 .f32) (y : S512x1792.Idx) :
    k0_pay1 x w s y = (∑ k : Fin 4096, x (ix2 k (y 0)) * w (ix2 k (y 1))) + s y := by
  pointwise [k0_pay1]

/-- What one run of the body leaves in the result's block. -/
theorem out_eq (c : Dev nD) (i : grid0.Coords) (a3 : Memref sig .tc .vmem S4096x512 .bf16) (h3 : a3.IsWhole)
    (a4 : Memref sig .tc .vmem S4096x1792 .bf16) (h4 : a4.IsWhole) (a5 : Memref sig .tc .vmem S512x1792 .f32) (h5 : a5.IsWhole)
    (a6 : Memref sig .tc .vmem S512x1792 .f32) (h6 : a6.IsWhole)
    (x : Vec Ideal S4096x512 .bf16) (w : Vec Ideal S4096x1792 .bf16) (s : Vec Ideal S512x1792 .f32) (z : TbBuf0 (F := Ideal) c tbM0_0) :
    out0_A_3 c i a3 h3 a4 h4 a5 h5 a6 h6 x w s z = k0_pay1 (F := Ideal) x w s := by
  unfold out0_A_3
  rw [View.read_writes_eq_canon _ _ _ (cover0_A_3 c i a3 h3 a4 h4 a5 h5 a6 h6 x w s z)]
  unfold kernelRun0_A
  dsimp only
  sl_unfold_words
  rw [View.canon_unit_zero zeros]
  simp only [View.readAt_eq_ld, h3.read_unread, h4.read_unread, h5.read_unread, shapeCast_self, View.ld_unit_zero (S := S4096x512) zeros,
    View.ld_unit_zero (S := S4096x1792) zeros, View.ld_unit_zero (S := S512x1792) zeros]

/-- The result's block number at a point. -/
theorem out_positions : ∀ t : Fin grid0.N,
    cc0_transform_3 (grid0.coords t) = ![((grid0.coords t) 1).val, ((grid0.coords t) 0).val] :=
  (by decide +kernel : ∀ t : Fin grid0.N, _)

/-- Every block of the result is written at some point. -/
theorem positions_onto : ∀ p : Fin 4, ∀ q : Fin 2, ∃ t : Fin grid0.N,
    ((grid0.coords t) 1).val = p.val ∧ ((grid0.coords t) 0).val = q.val :=
  (by decide +kernel : ∀ p : Fin 4, ∀ q : Fin 2, ∃ t : Fin grid0.N, _)

variable (hw : Cert.SlotPlace.Inside (words m))

abbrev hok : Ok m := ok_of_inside (tbl m) hw

theorem out_at (c : Dev nD) (t : Fin (cfgM m (hok m hw)).N) :
    outsAt0 m (hok m hw) c t = k0_pay1 (F := Ideal) (iblk m (hok m hw) c 0 t) (iblk m (hok m hw) c 1 t)
      (iblk m (hok m hw) c 2 t) :=
  out_eq ..

/-- What a point writes back is its block of the product. -/
theorem flushed_eq (c : Dev nD) (t : Fin (cfgM m (hok m hw)).N) :
    (dats m (hok m hw) 0 c).flushed 3 t = (((cfgM m (hok m hw)).win 3).blk t).view.read (Elt Ideal) (result m c) := by
  obtain rfl : c = 0 := Subsingleton.elim _ _
  show ((cfgM m (hok m hw)).win 3).cut (grid0.coords t) ((dats m (hok m hw) 0 0).after 3 t) = _
  rw [after0_3]
  rw [out_at m hw]
  funext (y : S512x1792.Idx)
  show k0_pay1 (F := Ideal) (iblk m (hok m hw) 0 0 t) (iblk m (hok m hw) 0 1 t) (iblk m (hok m hw) 0 2 t) y
    = added _ _ ((((cfgM m (hok m hw)).win 3).blk t).view.emb y)
  refine (product_apply _ _ _ y).trans ?_
  have hp := out_positions t
  have hl := left_index (tbl m) hw (grid0.coords t)
  have hr := right_index (tbl m) hw (grid0.coords t)
  have l0 := congrFun hl 0
  have l1 := congrFun hl 1
  have r0 := congrFun hr 0
  have r1 := congrFun hr 1
  have p0 := congrFun hp 0
  have p1 := congrFun hp 1
  unfold added
  refine congrArg₂ (· + ·) ?_ ?_
  swap
  · show V m 0 main_arg3 _ = m _ _
    rw [V_main_arg3]
    congr 1
  unfold Cert.SlotPlace.slab
  refine Finset.sum_congr rfl fun k _ => ?_
  congr 1
  · show V m 0 main_arg1 _ = m _ _
    rw [V_main_arg1]
    congr 1
    funext a
    apply Fin.ext
    match a with
    | ⟨0, _⟩ =>
      show cc0_transform_0 inb_S2_S1_1 numel1_S1 (tbl m) (grid0.coords t) 0 * 4096 + 1 * k.val = k.val
      rw [l0]; show 0 * 4096 + 1 * k.val = k.val; omega
    | ⟨1, _⟩ =>
      show cc0_transform_0 inb_S2_S1_1 numel1_S1 (tbl m) (grid0.coords t) 1 * 512 + 1 * (y 0).val
        = (words m (ix1 1)).toNat % 2 * 2048 + (cc0_transform_3 (grid0.coords t) 0 * 512 + 1 * (y 0).val)
      rw [l1, p0, Nat.mod_eq_of_lt hw.2]
      show ((words m (ix1 1)).toNat * 4 + ((grid0.coords t) 1).val) * 512 + 1 * (y 0).val
        = (words m (ix1 1)).toNat * 2048 + (((grid0.coords t) 1).val * 512 + 1 * (y 0).val)
      omega
  · show V m 0 main_arg2 _ = m _ _
    rw [V_main_arg2]
    congr 1
    funext a
    apply Fin.ext
    match a with
    | ⟨0, _⟩ =>
      show cc0_transform_1 inb_S2_S1_0 numel1_S1 (tbl m) (grid0.coords t) 0 * 4096 + 1 * k.val = k.val
      rw [r0]; show 0 * 4096 + 1 * k.val = k.val; omega
    | ⟨1, _⟩ =>
      show cc0_transform_1 inb_S2_S1_0 numel1_S1 (tbl m) (grid0.coords t) 1 * 1792 + 1 * (y 1).val
        = (words m (ix1 0)).toNat % 4 * 3584 + (cc0_transform_3 (grid0.coords t) 1 * 1792 + 1 * (y 1).val)
      rw [r1, p1, Nat.mod_eq_of_lt hw.1]
      show ((words m (ix1 0)).toNat * 2 + ((grid0.coords t) 0).val) * 1792 + 1 * (y 1).val
        = (words m (ix1 0)).toNat * 3584 + (((grid0.coords t) 0).val * 1792 + 1 * (y 1).val)
      omega

theorem mem_block (t : Fin (cfgM m (hok m hw)).N) (i : S2048x3584.Idx) :
    i ∈ (((cfgM m (hok m hw)).win 3).blk t).view.set ↔
    ∀ a : Fin 2, cc0_transform_3 (grid0.coords t) a * S512x1792.size a ≤ (i a : Nat)
      ∧ (i a : Nat) < cc0_transform_3 (grid0.coords t) a * S512x1792.size a + S512x1792.size a := by
  show i ∈ ((View.whole main_v0).slice
    (Rect.block (s := S2048x3584) S512x1792.size (cc0_transform_3 (grid0.coords t)) (hinb0_3 (grid0.coords t)))).set ↔ _
  rw [View.set_slice_whole, Rect.mem_set_unit]
  exact Iff.rfl

theorem final (c : Dev nD) : (dats m (hok m hw) 0 c).arrAt 3 (cfgM m (hok m hw)).N = result m c :=
  (dats m (hok m hw) 0 c).arrAt_eq_of_cover 3 (result m c) (fun t _ => flushed_eq m hw c t) fun (i : S2048x3584.Idx) => by
    have h0 : (i 0 : Nat) < 2048 := (i 0).isLt
    have h1 : (i 1 : Nat) < 3584 := (i 1).isLt
    obtain ⟨t, e0, e1⟩ := positions_onto ⟨(i 0 : Nat) / 512, by omega⟩ ⟨(i 1 : Nat) / 1792, by omega⟩
    have hp := out_positions t
    refine ⟨t, flush0_3 (adm m (hok m hw)) t, (mem_block m hw t i).mpr fun a => ?_⟩
    rw [hp]
    match a with
    | ⟨0, _⟩ =>
      show ((grid0.coords t) 1).val * 512 ≤ (i 0 : Nat) ∧ (i 0 : Nat) < ((grid0.coords t) 1).val * 512 + 512
      rw [e0]; dsimp only; omega
    | ⟨1, _⟩ =>
      show ((grid0.coords t) 0).val * 1792 ≤ (i 1 : Nat) ∧ (i 1 : Nat) < ((grid0.coords t) 0).val * 1792 + 1792
      rw [e1]; dsimp only; omega

end Cert.SlotOwnIdeal.Product

namespace Cert.SlotOwn.Claims

open Idealize.ShloMosaic Idealize.ShloMosaic.TcCoe Idealize.SL.Sem

theorem quiescent_ideal : Cert.quiescent_SlotOwnIdeal := fun m ρ hp =>
  Cert.SlotOwnIdeal.Gen.frame m ρ (Cert.SlotOwnIdeal.Product.ok_of_inside (Cert.SlotOwnIdeal.Gen.tbl m) (Cert.SlotPlace.inside_of_range_added _ _ _ _ (hp 0)))

/-- The reference ends with its arguments unchanged and every counter at zero. -/
theorem reference_quiescent : Cert.quiescent_RefSlotOwnIdeal := fun m ρ _ =>
  (θ_run _ _ _).mono (fun r h => ⟨fun c => (h c).2, sem_eq_zero_of_no_sems (by decide) r.2⟩)
    (Cert.RefSlotOwnIdeal.Ran.run m ρ)

theorem reference_quiescent_in_range : Cert.quiescent_RefSlotOwnIdeal_pre_in_range_added := fun m ρ _ =>
  (θ_run _ _ _).mono (fun r h => ⟨fun c => (h c).2, sem_eq_zero_of_no_sems (by decide) r.2⟩)
    (Cert.RefSlotOwnIdeal.Ran.run m ρ)

theorem algebraic : Cert.algebraic_SlotOwnIdeal_RefSlotOwnIdeal := fun m ρ m' ρ' hp hag => by
  have hw : Cert.SlotPlace.Inside (Cert.SlotOwnIdeal.Product.words m) := Cert.SlotPlace.inside_of_range_added _ _ _ _ (hp 0)
  refine ⟨Cert.SlotOwnIdeal.Product.result m,
    (θ_run _ _ _).mono (fun r h c => ⟨((h.1 c).1 3).trans (Cert.SlotOwnIdeal.Product.final m hw c), h.2 c⟩)
      (θ_run_and (Cert.SlotOwnIdeal.Gen.run_main m ρ (Cert.SlotOwnIdeal.Product.hok m hw))
        (Cert.SlotOwnIdeal.Gen.unchanged m ρ (Cert.SlotOwnIdeal.Product.hok m hw))),
    (θ_run _ _ _).mono (fun r h c => ⟨(h c).1.trans ?_, (h c).2⟩) (Cert.RefSlotOwnIdeal.Ran.run m' ρ')⟩
  obtain rfl : c = 0 := Subsingleton.elim _ _
  rw [(hag 0).1, (hag 0).2.1, (hag 0).2.2.1, (hag 0).2.2.2]
  exact congrArg (fun p => Cert.SlotOwnIdeal.Product.added p _) (Cert.SlotPlace.reference_eq _ _ _ hw _
    (Cert.SlotPlace.start_eq _ ![1] 1 rfl _ _ _ 2048 (Nat.lt_trans hw.2 (by decide)) (by decide) _)
    (Cert.SlotPlace.start_eq _ ![0] 0 rfl _ _ _ 3584 hw.1 (by decide) _))

end Cert.SlotOwn.Claims

end
-- ==== Proof.OutProjValue.lean ====
module

public import proofs.«01_k».proof.Proof.Gen.OutProjIdeal.Value
public import proofs.«01_k».proof.Defs
public import proofs.«01_k».proof.Proof.Gen.RefOutProjIdeal.Run
public import Idealize.ShloMosaic.Lib.Quiescent
public import Idealize.ShloMosaic.Lib.Pointwise
public import Idealize.ShloMosaic.Lib.Pipeline.Value

@[expose] public section

set_option maxRecDepth 16384

noncomputable section

namespace Cert.OutProjIdeal.Product

open Cert.OutProjIdeal Cert.OutProjIdeal.Gen Idealize.ShloMosaic Idealize.ShloMosaic.TcCoe Idealize.SL.Sem
open Idealize.ShloMosaic.Pipeline (Dat)

variable (m : (ℓ : Loc nD τ sig) → Buf (Elt Ideal) ℓ)

/-- The product of the product of `a` with the columns of `b`. -/
def product (a b : Vec Ideal S4096x4096 .bf16) : Vec Ideal S4096x4096 .f32 :=
  fun i => ∑ k : Fin 4096, a (ix2 (i 0) k) * b (ix2 k (i 1))

/-- What the kernel's result array holds in the end. -/
abbrev result (c : Dev nD) : Buf (Elt Ideal) ((c : Thread nD τ).loc main_v0) :=
  product (m ((c : Thread nD τ).loc main_arg0)) (m ((c : Thread nD τ).loc main_arg1))

theorem zeros : (![0, 0] : Fin 2 → Nat) = fun _ => 0 := funext fun a => by fin_cases a <;> rfl

/-- The block positions of the three windows at a point. -/
theorem positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = win0_2.index t (1 : Fin 2) :=
  (by decide +kernel : ∀ t : Fin grid0.N, _)

/-- Every block of the result is written at some point. -/
theorem positions_onto : ∀ p : Fin 4, ∀ q : Fin 4, ∃ t : Fin cfg0.N,
    win0_2.index t (0 : Fin 2) = p.val ∧ win0_2.index t (1 : Fin 2) = q.val :=
  (by decide +kernel : ∀ p : Fin 4, ∀ q : Fin 4, ∃ t : Fin grid0.N, _)

/-- The body's product at an index. -/
theorem product_apply (x : Vec Ideal S1024x4096 .bf16) (w : Vec Ideal S4096x1024 .bf16) (y : S1024x1024.Idx) :
    k0_pay1 x w y = ∑ k : Fin 4096, x (ix2 (y 0) k) * w (ix2 k (y 1)) := by
  pointwise [k0_pay1]

/-- What a point writes back is its block of the product. -/
theorem flushed_eq (c : Dev nD) (t : Fin cfg0.N) :
    (dats m 0 c).flushed 2 t = ((cfg0.win 2).blk t).view.read (Elt Ideal) (result m c) := by
  obtain ⟨h0, h1, h2, h3⟩ := positions t
  rw [Value.flushed2]
  funext y
  unfold out0_2
  rw [View.canon_unit_zero zeros, View.ld_unit_zero (S := S1024x4096) zeros, View.ld_unit_zero (S := S4096x1024) zeros]
  show k0_pay1 (F := Ideal) (iblk m c 0 t) (iblk m c 1 t) y = product _ _ (((cfg0.win 2).blk t).view.emb y)
  rw [product_apply]
  unfold product
  refine Finset.sum_congr rfl fun k _ => ?_
  congr 1
  · show V m c main_arg0 _ = _
    rw [V_main_arg0]
    congr 1
    funext a
    apply Fin.ext
    match a with
    | ⟨0, _⟩ => show win0_0.index t 0 * 1024 + 1 * (y 0).val = win0_2.index t 0 * 1024 + 1 * (y 0).val; rw [h0]
    | ⟨1, _⟩ => show win0_0.index t 1 * 4096 + 1 * k.val = k.val; rw [h1]; omega
  · show V m c main_arg1 _ = _
    rw [V_main_arg1]
    congr 1
    funext a
    apply Fin.ext
    match a with
    | ⟨0, _⟩ => show win0_1.index t 0 * 4096 + 1 * k.val = k.val; rw [h2]; omega
    | ⟨1, _⟩ => show win0_1.index t 1 * 1024 + 1 * (y 1).val = win0_2.index t 1 * 1024 + 1 * (y 1).val; rw [h3]

theorem mem_block (t : Fin cfg0.N) (i : S4096x4096.Idx) : i ∈ ((cfg0.win 2).blk t).view.set ↔
    ∀ a : Fin 2, win0_2.index t a * S1024x1024.size a ≤ (i a : Nat)
      ∧ (i a : Nat) < win0_2.index t a * S1024x1024.size a + S1024x1024.size a := by
  show i ∈ ((View.whole main_v0).slice (win0_2.rect t)).set ↔ _
  rw [View.set_slice_whole, Rect.mem_set_unit]
  exact Iff.rfl

theorem final (c : Dev nD) : (dats m 0 c).arrAt 2 cfg0.N = result m c :=
  (dats m 0 c).arrAt_eq_of_cover 2 (result m c) (fun t _ => flushed_eq m c t) fun i => by
    have h0 : (i 0 : Nat) < 4096 := (i 0).isLt
    have h1 : (i 1 : Nat) < 4096 := (i 1).isLt
    obtain ⟨t, e0, e1⟩ := positions_onto ⟨(i 0 : Nat) / 1024, by omega⟩ ⟨(i 1 : Nat) / 1024, by omega⟩
    refine ⟨t, flush0_2 t, ?_⟩
    rw [mem_block]
    intro a
    match a with
    | ⟨0, _⟩ =>
      show win0_2.index t 0 * 1024 ≤ (i 0 : Nat) ∧ (i 0 : Nat) < win0_2.index t 0 * 1024 + 1024
      rw [e0]; dsimp only; omega
    | ⟨1, _⟩ =>
      show win0_2.index t 1 * 1024 ≤ (i 1 : Nat) ∧ (i 1 : Nat) < win0_2.index t 1 * 1024 + 1024
      rw [e1]; dsimp only; omega

end Cert.OutProjIdeal.Product

/-! ## The claim -/

namespace Cert.OutProj.Claims

open Idealize.ShloMosaic Idealize.ShloMosaic.TcCoe Idealize.SL.Sem

/-- The reference's product, element by element. -/
theorem reference_eq (a b : Vec Ideal Cert.OutProjIdeal.S4096x4096 .bf16) (h : FTy.bits .bf16 < FTy.bits .f32) :
    (Host.dotGeneral Cert.RefOutProjIdeal.dot_S4096x4096_S4096x4096_S4096x4096_1_0_0_1_n_n none
      (extf (F := Ideal) .f32 a h) (extf (F := Ideal) .f32 b h) : Vec Ideal Cert.OutProjIdeal.S4096x4096 .f32)
      = Cert.OutProjIdeal.Product.product a b := by
  funext i
  pointwise [Cert.OutProjIdeal.Product.product]

theorem algebraic : Cert.algebraic_OutProjIdeal_RefOutProjIdeal := fun m ρ m' ρ' _ hag =>
  ⟨Cert.OutProjIdeal.Product.result m,
    (θ_run _ _ _).mono (fun _ h c => ⟨(h c).1.trans (Cert.OutProjIdeal.Product.final m c), (h c).2⟩)
      (Cert.OutProjIdeal.Value.run_blocks m ρ),
    (θ_run _ _ _).mono (fun _ h c => ⟨(h c).1.trans (by rw [(hag c).1, (hag c).2]; exact reference_eq _ _ _), (h c).2⟩)
      (Cert.RefOutProjIdeal.Value.run m' ρ')⟩

/-- The reference ends with its arguments unchanged and every counter at zero. -/
theorem reference_quiescent : Cert.quiescent_RefOutProjIdeal := fun m ρ _ =>
  (θ_run _ _ _).mono (fun r h => ⟨fun c => (h c).2, sem_eq_zero_of_no_sems (by decide) r.2⟩)
    (Cert.RefOutProjIdeal.Value.run m ρ)

end Cert.OutProj.Claims

end
-- ==== Proof.PreNormBody.lean ====
/- What the adaptive normalisation's backward kernel leaves: the input's gradient row by row, and the column sums
   that its grid points add up. -/
module

public import proofs.«01_k».proof.Proof.Gen.PreNormIdeal.Value
public import proofs.«01_k».proof.Defs
public import Idealize.ShloMosaic.Lib.Pointwise
public import Idealize.ShloMosaic.Lib.Tactic
public import Idealize.ShloMosaic.Lib.Pipeline.Value
public import Idealize.ShloMosaic.Lib.Pipeline.ValueKit.Acc

@[expose] public section

set_option maxRecDepth 16384

noncomputable section

namespace Cert.PreNormIdeal.Rows

open Cert.PreNormIdeal Cert.PreNormIdeal.Gen Idealize.ShloMosaic Idealize.ShloMosaic.TcCoe Idealize.ShloMosaic.Tactic Idealize.SL.Sem
open Idealize.ShloMosaic.Pipeline (Dat)

theorem zeros : (![0, 0] : Fin 2 → Nat) = fun _ => 0 := funext fun a => by fin_cases a <;> rfl

/-! ## What one run of the body leaves in each output -/

section
variable (c : Dev nD) (i : grid0.Coords) (arg1 : Memref sig .tc .vmem S128x4096 .f32) (harg1 : arg1.IsWhole) (arg2 : Memref sig .tc .vmem S128x1 .f32) (harg2 : arg2.IsWhole) (arg3 : Memref sig .tc .vmem S128x4096 .f32) (harg3 : arg3.IsWhole) (arg4 : Memref sig .tc .vmem S128x4096 .f32) (harg4 : arg4.IsWhole) (arg5 : Memref sig .tc .vmem S1x4096 .f32) (harg5 : arg5.IsWhole) (arg6 : Memref sig .tc .vmem S1x4096 .f32) (harg6 : arg6.IsWhole) (arg7 : Memref sig .tc .vmem S128x4096 .f32) (harg7 : arg7.IsWhole) (arg8 : Memref sig .tc .vmem S1x4096 .f32) (harg8 : arg8.IsWhole) (arg9 : Memref sig .tc .vmem S1x4096 .f32) (harg9 : arg9.IsWhole) (arg10 : Memref sig .tc .vmem S1x4096 .f32) (harg10 : arg10.IsWhole)

theorem rows_first (hc : cond0_0 i) (x0 x2 x3 : Vec Ideal S128x4096 .f32) (x1 : Vec Ideal S128x1 .f32) (x4 x5 : Vec Ideal S1x4096 .f32) :
    out0_A_6 c i arg1 harg1 arg2 harg2 arg3 harg3 arg4 harg4 arg5 harg5 arg6 harg6 arg7 harg7 arg8 harg8 arg9 harg9 arg10 harg10 hc x0 x1 x2 x3 x4 x5 = k0_pay6 (F := Ideal) x1 x0 x2 x5 x4 x3 := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_cons_unit_zero (S := S128x4096) zeros]
  simp only [View.readAt_eq_ld, harg1.read_unread, harg2.read_unread, harg3.read_unread, harg4.read_unread, harg5.read_unread, harg6.read_unread, View.ld_unit_zero (S := S128x4096) zeros, View.ld_unit_zero (S := S128x1) zeros, View.ld_unit_zero (S := S1x4096) zeros, View.readCov_unit_zero (S := S1x4096) _ zeros]

theorem shift_first (hc : cond0_0 i) (x0 x2 x3 : Vec Ideal S128x4096 .f32) (x1 : Vec Ideal S128x1 .f32) (x4 x5 : Vec Ideal S1x4096 .f32) :
    out0_A_7 c i arg1 harg1 arg2 harg2 arg3 harg3 arg4 harg4 arg5 harg5 arg6 harg6 arg7 harg7 arg8 harg8 arg9 harg9 arg10 harg10 hc x0 x1 x2 x3 x4 x5 = k0_pay10 (F := Ideal) x2 (k0_pay7 (F := Ideal)) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_cons_unit_zero (S := S1x4096) zeros]
  simp only [View.readAt_eq_ld, harg1.read_unread, harg2.read_unread, harg3.read_unread, harg4.read_unread, harg5.read_unread, harg6.read_unread, View.ld_unit_zero (S := S128x4096) zeros, View.ld_unit_zero (S := S128x1) zeros, View.ld_unit_zero (S := S1x4096) zeros, View.readCov_unit_zero (S := S1x4096) _ zeros]

theorem scale_first (hc : cond0_0 i) (x0 x2 x3 : Vec Ideal S128x4096 .f32) (x1 : Vec Ideal S128x1 .f32) (x4 x5 : Vec Ideal S1x4096 .f32) :
    out0_A_8 c i arg1 harg1 arg2 harg2 arg3 harg3 arg4 harg4 arg5 harg5 arg6 harg6 arg7 harg7 arg8 harg8 arg9 harg9 arg10 harg10 hc x0 x1 x2 x3 x4 x5 = k0_pay1 (F := Ideal) (k0_pay4 x1 x0) x2 (k0_pay8 (F := Ideal)) x4 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_cons_unit_zero (S := S1x4096) zeros]
  simp only [View.readAt_eq_ld, harg1.read_unread, harg2.read_unread, harg3.read_unread, harg4.read_unread, harg5.read_unread, harg6.read_unread, View.ld_unit_zero (S := S128x4096) zeros, View.ld_unit_zero (S := S128x1) zeros, View.ld_unit_zero (S := S1x4096) zeros, View.readCov_unit_zero (S := S1x4096) _ zeros]

theorem gain_first (hc : cond0_0 i) (x0 x2 x3 : Vec Ideal S128x4096 .f32) (x1 : Vec Ideal S128x1 .f32) (x4 x5 : Vec Ideal S1x4096 .f32) :
    out0_A_9 c i arg1 harg1 arg2 harg2 arg3 harg3 arg4 harg4 arg5 harg5 arg6 harg6 arg7 harg7 arg8 harg8 arg9 harg9 arg10 harg10 hc x0 x1 x2 x3 x4 x5 = k0_pay2 (F := Ideal) (k0_pay4 x1 x0) x2 (k0_pay5 x5) (k0_pay9 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 hc x0 x1 x2 x3 x4 x5)]
  unfold kernelRun0_A
  dsimp only
  sl_unfold_words
  rw [View.canon_cons_unit_zero (S := S1x4096) zeros]
  simp only [View.readAt_eq_ld, harg1.read_unread, harg2.read_unread, harg3.read_unread, harg4.read_unread, harg5.read_unread, harg6.read_unread, View.ld_unit_zero (S := S128x4096) zeros, View.ld_unit_zero (S := S128x1) zeros, View.ld_unit_zero (S := S1x4096) zeros, View.readCov_unit_zero (S := S1x4096) _ zeros]

theorem rows_later (hc : ¬cond0_0 i) (x0 x2 x3 : Vec Ideal S128x4096 .f32) (x1 : Vec Ideal S128x1 .f32) (x4 x5 : Vec Ideal S1x4096 .f32) (s7 s8 s9 : Vec Ideal S1x4096 .f32) :
    out0_B_6 c i arg1 harg1 arg2 harg2 arg3 harg3 arg4 harg4 arg5 harg5 arg6 harg6 arg7 harg7 arg8 harg8 arg9 harg9 arg10 harg10 hc x0 x1 x2 x3 x4 x5 s7 s8 s9 = k0_pay6 (F := Ideal) x1 x0 x2 x5 x4 x3 := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 hc x0 x1 x2 x3 x4 x5 s7 s8 s9)]
  unfold kernelRun0_B
  dsimp only
  sl_unfold_words
  rw [View.canon_cons_unit_zero (S := S128x4096) zeros]
  simp only [View.readAt_eq_ld, harg1.read_unread, harg2.read_unread, harg3.read_unread, harg4.read_unread, harg5.read_unread, harg6.read_unread, harg8.read_unread, harg9.read_unread, harg10.read_unread, View.ld_unit_zero (S := S128x4096) zeros, View.ld_unit_zero (S := S128x1) zeros, View.ld_unit_zero (S := S1x4096) zeros, View.readCov_unit_zero (S := S1x4096) _ zeros]

theorem shift_later (hc : ¬cond0_0 i) (x0 x2 x3 : Vec Ideal S128x4096 .f32) (x1 : Vec Ideal S128x1 .f32) (x4 x5 : Vec Ideal S1x4096 .f32) (s7 s8 s9 : Vec Ideal S1x4096 .f32) :
    out0_B_7 c i arg1 harg1 arg2 harg2 arg3 harg3 arg4 harg4 arg5 harg5 arg6 harg6 arg7 harg7 arg8 harg8 arg9 harg9 arg10 harg10 hc x0 x1 x2 x3 x4 x5 s7 s8 s9 = k0_pay10 (F := Ideal) x2 s7 := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 hc x0 x1 x2 x3 x4 x5 s7 s8 s9)]
  unfold kernelRun0_B
  dsimp only
  sl_unfold_words
  rw [View.canon_cons_unit_zero (S := S1x4096) zeros]
  simp only [View.readAt_eq_ld, harg1.read_unread, harg2.read_unread, harg3.read_unread, harg4.read_unread, harg5.read_unread, harg6.read_unread, harg8.read_unread, harg9.read_unread, harg10.read_unread, View.ld_unit_zero (S := S128x4096) zeros, View.ld_unit_zero (S := S128x1) zeros, View.ld_unit_zero (S := S1x4096) zeros, View.readCov_unit_zero (S := S1x4096) _ zeros]

theorem scale_later (hc : ¬cond0_0 i) (x0 x2 x3 : Vec Ideal S128x4096 .f32) (x1 : Vec Ideal S128x1 .f32) (x4 x5 : Vec Ideal S1x4096 .f32) (s7 s8 s9 : Vec Ideal S1x4096 .f32) :
    out0_B_8 c i arg1 harg1 arg2 harg2 arg3 harg3 arg4 harg4 arg5 harg5 arg6 harg6 arg7 harg7 arg8 harg8 arg9 harg9 arg10 harg10 hc x0 x1 x2 x3 x4 x5 s7 s8 s9 = k0_pay1 (F := Ideal) (k0_pay4 x1 x0) x2 s8 x4 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 hc x0 x1 x2 x3 x4 x5 s7 s8 s9)]
  unfold kernelRun0_B
  dsimp only
  sl_unfold_words
  rw [View.canon_cons_unit_zero (S := S1x4096) zeros]
  simp only [View.readAt_eq_ld, harg1.read_unread, harg2.read_unread, harg3.read_unread, harg4.read_unread, harg5.read_unread, harg6.read_unread, harg8.read_unread, harg9.read_unread, harg10.read_unread, View.ld_unit_zero (S := S128x4096) zeros, View.ld_unit_zero (S := S128x1) zeros, View.ld_unit_zero (S := S1x4096) zeros, View.readCov_unit_zero (S := S1x4096) _ zeros]

theorem gain_later (hc : ¬cond0_0 i) (x0 x2 x3 : Vec Ideal S128x4096 .f32) (x1 : Vec Ideal S128x1 .f32) (x4 x5 : Vec Ideal S1x4096 .f32) (s7 s8 s9 : Vec Ideal S1x4096 .f32) :
    out0_B_9 c i arg1 harg1 arg2 harg2 arg3 harg3 arg4 harg4 arg5 harg5 arg6 harg6 arg7 harg7 arg8 harg8 arg9 harg9 arg10 harg10 hc x0 x1 x2 x3 x4 x5 s7 s8 s9 = k0_pay2 (F := Ideal) (k0_pay4 x1 x0) x2 (k0_pay5 x5) s9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 hc x0 x1 x2 x3 x4 x5 s7 s8 s9)]
  unfold kernelRun0_B
  dsimp only
  sl_unfold_words
  rw [View.canon_cons_unit_zero (S := S1x4096) zeros]
  simp only [View.readAt_eq_ld, harg1.read_unread, harg2.read_unread, harg3.read_unread, harg4.read_unread, harg5.read_unread, harg6.read_unread, harg8.read_unread, harg9.read_unread, harg10.read_unread, View.ld_unit_zero (S := S128x4096) zeros, View.ld_unit_zero (S := S128x1) zeros, View.ld_unit_zero (S := S1x4096) zeros, View.readCov_unit_zero (S := S1x4096) _ zeros]

end

/-! ## The payloads, element by element -/

/-- One, as the body's constant reads. -/
abbrev one : EReal := Ideal.ofBits .f32 0x3F800000#32

/-- The number of columns, as the body's constant reads. -/
abbrev width : EReal := Ideal.ofBits .f32 0x45800000#32

theorem rows_apply (x0 x2 x3 : Vec Ideal S128x4096 .f32) (x1 : Vec Ideal S128x1 .f32) (x4 x5 : Vec Ideal S1x4096 .f32) (r : Fin 128) (l : Fin 4096) :
    k0_pay6 (F := Ideal) x1 x0 x2 x5 x4 x3 (ix2 r l)
      = x3 (ix2 r l) + x1 (ix2 r 0) * (x2 (ix2 r l) * (one + x5 (ix2 0 l)) * x4 (ix2 0 l)
        - x0 (ix2 r l) * x1 (ix2 r 0) * Ideal.div (∑ k : Fin 4096, x2 (ix2 r k) * (one + x5 (ix2 0 k)) * x4 (ix2 0 k) * (x0 (ix2 r k) * x1 (ix2 r 0))) width) := by
  pointwise [k0_pay6, k0_pay5, k0_pay4, k0_pay3, one, width]

theorem shift_apply (x2 : Vec Ideal S128x4096 .f32) (s : Vec Ideal S1x4096 .f32) (l : Fin 4096) :
    k0_pay10 (F := Ideal) x2 s (ix2 0 l) = s (ix2 0 l) + ∑ r : Fin 128, x2 (ix2 r l) := by
  pointwise [k0_pay10]

theorem scale_apply (x0 x2 : Vec Ideal S128x4096 .f32) (x1 : Vec Ideal S128x1 .f32) (x4 s : Vec Ideal S1x4096 .f32) (l : Fin 4096) :
    k0_pay1 (F := Ideal) (k0_pay4 x1 x0) x2 s x4 (ix2 0 l)
      = s (ix2 0 l) + ∑ r : Fin 128, x2 (ix2 r l) * (x0 (ix2 r l) * x1 (ix2 r 0) * x4 (ix2 0 l)) := by
  pointwise [k0_pay1, k0_pay4, k0_pay3]

theorem gain_apply (x0 x2 : Vec Ideal S128x4096 .f32) (x1 : Vec Ideal S128x1 .f32) (x5 s : Vec Ideal S1x4096 .f32) (l : Fin 4096) :
    k0_pay2 (F := Ideal) (k0_pay4 x1 x0) x2 (k0_pay5 x5) s (ix2 0 l)
      = s (ix2 0 l) + ∑ r : Fin 128, x2 (ix2 r l) * (one + x5 (ix2 0 l)) * (x0 (ix2 r l) * x1 (ix2 r 0)) := by
  pointwise [k0_pay2, k0_pay5, k0_pay4, k0_pay3, one]

theorem zero_7 (l : Fin 4096) : k0_pay7 (F := Ideal) (ix2 0 l) = 0 := by pointwise [k0_pay7]
theorem zero_8 (l : Fin 4096) : k0_pay8 (F := Ideal) (ix2 0 l) = 0 := by pointwise [k0_pay8]
theorem zero_9 (l : Fin 4096) : k0_pay9 (F := Ideal) (ix2 0 l) = 0 := by pointwise [k0_pay9]

end Cert.PreNormIdeal.Rows

end
-- ==== Proof.PreNormValue.lean ====
/- The arrays the adaptive normalisation's backward kernel leaves after all grid points. -/
module

public import proofs.«01_k».proof.Proof.PreNormBody

@[expose] public section

set_option maxRecDepth 16384

noncomputable section

namespace Cert.PreNormIdeal.Rows

open Cert.PreNormIdeal Cert.PreNormIdeal.Gen Idealize.ShloMosaic Idealize.ShloMosaic.TcCoe Idealize.ShloMosaic.Tactic Idealize.SL.Sem
open Idealize.ShloMosaic.Pipeline (Dat)

/-! ## The results as formulas in the arrays -/

/-- The input's gradient. -/
def inputGrad (X D Q : Vec Ideal S4096x4096 .f32) (R : Vec Ideal S4096x1 .f32) (G C : Vec Ideal S1x4096 .f32) : Vec Ideal S4096x4096 .f32 := fun i =>
  Q (ix2 (i 0) (i 1)) + R (ix2 (i 0) 0) * (D (ix2 (i 0) (i 1)) * (one + C (ix2 0 (i 1))) * G (ix2 0 (i 1))
    - X (ix2 (i 0) (i 1)) * R (ix2 (i 0) 0)
      * Ideal.div (∑ k : Fin 4096, D (ix2 (i 0) k) * (one + C (ix2 0 k)) * G (ix2 0 k) * (X (ix2 (i 0) k) * R (ix2 (i 0) 0))) width)

/-- One row's part of the shift's gradient. -/
abbrev shiftPart (D : Vec Ideal S4096x4096 .f32) (s l : Fin 4096) : EReal := D (ix2 s l)

/-- One row's part of the scale's gradient. -/
abbrev scalePart (X D : Vec Ideal S4096x4096 .f32) (R : Vec Ideal S4096x1 .f32) (G : Vec Ideal S1x4096 .f32) (s l : Fin 4096) : EReal :=
  D (ix2 s l) * (X (ix2 s l) * R (ix2 s 0) * G (ix2 0 l))

/-- One row's part of the gain's gradient. -/
abbrev gainPart (X D : Vec Ideal S4096x4096 .f32) (R : Vec Ideal S4096x1 .f32) (C : Vec Ideal S1x4096 .f32) (s l : Fin 4096) : EReal :=
  D (ix2 s l) * (one + C (ix2 0 l)) * (X (ix2 s l) * R (ix2 s 0))

/-- A column sum over all rows. -/
def columnSum (f : Fin 4096 → Fin 4096 → EReal) : Vec Ideal S1x4096 .f32 := fun i => ∑ s : Fin 4096, f s (i 1)

variable (m : (ℓ : Loc nD τ sig) → Buf (Elt Ideal) ℓ)

abbrev argX (c : Dev nD) : Vec Ideal S4096x4096 .f32 := m ((c : Thread nD τ).loc main_arg0)
abbrev argD (c : Dev nD) : Vec Ideal S4096x4096 .f32 := m ((c : Thread nD τ).loc main_arg1)
abbrev argQ (c : Dev nD) : Vec Ideal S4096x4096 .f32 := m ((c : Thread nD τ).loc main_arg2)
abbrev argG (c : Dev nD) : Vec Ideal S1x4096 .f32 := m ((c : Thread nD τ).loc main_arg3)
abbrev argC (c : Dev nD) : Vec Ideal S1x4096 .f32 := m ((c : Thread nD τ).loc main_arg4)
/-- The reciprocal roots the host hands to the kernel. -/
abbrev argR (c : Dev nD) : Vec Ideal S4096x1 .f32 := V m c main_v7

theorem point_lt (t : Fin cfg0.N) : t.val < 32 := Nat.lt_of_lt_of_eq t.isLt N_0

/-- Row `r` of point `n`'s block. -/
def row (n : ℕ) (hn : n < 32) (r : Fin 128) : Fin 4096 := ⟨n * 128 + r.val, by omega⟩

/-! ## The blocks -/

theorem positions : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem block_0 (c : Dev nD) (t : Fin cfg0.N) (r : Fin 128) (l : Fin 4096) :
    (iblk m c 0 t : Vec Ideal S128x4096 .f32) (ix2 r l) = argX m c (ix2 (row t.val (point_lt t) r) l) := by
  obtain ⟨⟨p, q⟩, -⟩ := positions t
  show V m c main_arg0 _ = _
  rw [V_main_arg0]
  congr 1
  funext a
  apply Fin.ext
  match a with
  | ⟨0, _⟩ => show win0_0.index t 0 * 128 + 1 * r.val = t.val * 128 + r.val; rw [p]; omega
  | ⟨1, _⟩ => show win0_0.index t 1 * 4096 + 1 * l.val = l.val; rw [q]; omega

theorem block_1 (c : Dev nD) (t : Fin cfg0.N) (r : Fin 128) :
    (iblk m c 1 t : Vec Ideal S128x1 .f32) (ix2 r 0) = argR m c (ix2 (row t.val (point_lt t) r) 0) := by
  obtain ⟨-, ⟨p, q⟩, -⟩ := positions t
  show V m c main_v7 _ = _
  congr 1
  funext a
  apply Fin.ext
  match a with
  | ⟨0, _⟩ => show win0_1.index t 0 * 128 + 1 * r.val = t.val * 128 + r.val; rw [p]; omega
  | ⟨1, _⟩ => show win0_1.index t 1 * 1 + 1 * (0 : Fin 1).val = (0 : Fin 1).val; rw [q]; omega

theorem block_2 (c : Dev nD) (t : Fin cfg0.N) (r : Fin 128) (l : Fin 4096) :
    (iblk m c 2 t : Vec Ideal S128x4096 .f32) (ix2 r l) = argD m c (ix2 (row t.val (point_lt t) r) l) := by
  obtain ⟨-, -, ⟨p, q⟩, -⟩ := positions t
  show V m c main_arg1 _ = _
  rw [V_main_arg1]
  congr 1
  funext a
  apply Fin.ext
  match a with
  | ⟨0, _⟩ => show win0_2.index t 0 * 128 + 1 * r.val = t.val * 128 + r.val; rw [p]; omega
  | ⟨1, _⟩ => show win0_2.index t 1 * 4096 + 1 * l.val = l.val; rw [q]; omega

theorem block_3 (c : Dev nD) (t : Fin cfg0.N) (r : Fin 128) (l : Fin 4096) :
    (iblk m c 3 t : Vec Ideal S128x4096 .f32) (ix2 r l) = argQ m c (ix2 (row t.val (point_lt t) r) l) := by
  obtain ⟨-, -, -, ⟨p, q⟩, -⟩ := positions t
  show V m c main_arg2 _ = _
  rw [V_main_arg2]
  congr 1
  funext a
  apply Fin.ext
  match a with
  | ⟨0, _⟩ => show win0_3.index t 0 * 128 + 1 * r.val = t.val * 128 + r.val; rw [p]; omega
  | ⟨1, _⟩ => show win0_3.index t 1 * 4096 + 1 * l.val = l.val; rw [q]; omega

theorem block_4 (c : Dev nD) (t : Fin cfg0.N) (l : Fin 4096) :
    (iblk m c 4 t : Vec Ideal S1x4096 .f32) (ix2 0 l) = argG m c (ix2 0 l) := by
  obtain ⟨-, -, -, -, ⟨p, q⟩, -⟩ := positions t
  show V m c main_arg3 _ = _
  rw [V_main_arg3]
  congr 1
  funext a
  apply Fin.ext
  match a with
  | ⟨0, _⟩ => show win0_4.index t 0 * 1 + 1 * (0 : Fin 1).val = (0 : Fin 1).val; rw [p]; omega
  | ⟨1, _⟩ => show win0_4.index t 1 * 4096 + 1 * l.val = l.val; rw [q]; omega

theorem block_5 (c : Dev nD) (t : Fin cfg0.N) (l : Fin 4096) :
    (iblk m c 5 t : Vec Ideal S1x4096 .f32) (ix2 0 l) = argC m c (ix2 0 l) := by
  obtain ⟨-, -, -, -, -, ⟨p, q⟩, -⟩ := positions t
  show V m c main_arg4 _ = _
  rw [V_main_arg4]
  congr 1
  funext a
  apply Fin.ext
  match a with
  | ⟨0, _⟩ => show win0_5.index t 0 * 1 + 1 * (0 : Fin 1).val = (0 : Fin 1).val; rw [p]; omega
  | ⟨1, _⟩ => show win0_5.index t 1 * 4096 + 1 * l.val = l.val; rw [q]; omega

/-! ## What every point leaves -/

theorem left_rows (c : Dev nD) (t : Fin cfg0.N) (r : Fin 128) (l : Fin 4096) :
    (outsAt0 m c t.val t.isLt).1 (ix2 r l)
      = inputGrad (argX m c) (argD m c) (argQ m c) (argR m c) (argG m c) (argC m c) (ix2 (row t.val (point_lt t) r) l) := by
  have e : (outsAt0 m c t.val t.isLt).1
      = k0_pay6 (F := Ideal) (iblk m c 1 t) (iblk m c 0 t) (iblk m c 2 t) (iblk m c 5 t) (iblk m c 4 t) (iblk m c 3 t) := by
    by_cases h0 : t.val % 32 = 0
    · rw [outsAt0_A m c t h0]
      dsimp only
      exact rows_first c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _
    · rw [outsAt0_B m c t h0]
      dsimp only
      exact rows_later c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _ _
  rw [e, rows_apply, block_0, block_1, block_2, block_3, block_4, block_5]
  simp only [block_0, block_2, block_4, block_5]
  rfl

theorem left_shift (c : Dev nD) (l : Fin 4096) : ∀ (n : ℕ) (hn : n < cfg0.N), (outsAt0 m c n hn).2.1 (ix2 0 l)
    = ∑ s : Fin (n + 1), ∑ r : Fin 128, shiftPart (argD m c) (row s.val (by have := point_lt ⟨n, hn⟩; have := s.isLt; dsimp only at *; omega) r) l := by
  intro n
  induction n with
  | zero =>
    intro hn
    have h0 : (⟨0, hn⟩ : Fin cfg0.N).val % 32 = 0 := Nat.zero_mod _
    have e := congrArg (fun u => u.2.1 (ix2 0 l)) (outsAt0_A m c ⟨0, hn⟩ h0)
    refine e.trans ?_
    dsimp only
    refine (congrFun (shift_first c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) _ _ _ _ _ _ _) (ix2 0 l)).trans ?_
    rw [shift_apply, zero_7, zero_add, Fin.sum_univ_one]
    refine Finset.sum_congr rfl fun r _ => ?_
    rw [block_2]
    rfl
  | succ n ih =>
    intro hn
    have hN : n + 1 < 32 := point_lt ⟨n + 1, hn⟩
    have h0 : ¬(⟨n + 1, hn⟩ : Fin cfg0.N).val % 32 = 0 := by show ¬(n + 1) % 32 = 0; omega
    have e := congrArg (fun u => u.2.1 (ix2 0 l)) (outsAt0_B m c ⟨n + 1, hn⟩ h0)
    refine e.trans ?_
    dsimp only
    refine (congrFun (shift_later c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) _ _ _ _ _ _ _ _ _ _) (ix2 0 l)).trans ?_
    rw [shift_apply]
    refine Eq.trans ?_ (Fin.sum_univ_castSucc _).symm
    refine congrArg₂ (· + ·) (ih (Nat.lt_of_succ_lt hn)) ?_
    refine Finset.sum_congr rfl fun r _ => ?_
    rw [block_2]
    rfl

theorem left_scale (c : Dev nD) (l : Fin 4096) : ∀ (n : ℕ) (hn : n < cfg0.N), (outsAt0 m c n hn).2.2.1 (ix2 0 l)
    = ∑ s : Fin (n + 1), ∑ r : Fin 128, scalePart (argX m c) (argD m c) (argR m c) (argG m c) (row s.val (by have := point_lt ⟨n, hn⟩; have := s.isLt; dsimp only at *; omega) r) l := by
  intro n
  induction n with
  | zero =>
    intro hn
    have h0 : (⟨0, hn⟩ : Fin cfg0.N).val % 32 = 0 := Nat.zero_mod _
    have e := congrArg (fun u => u.2.2.1 (ix2 0 l)) (outsAt0_A m c ⟨0, hn⟩ h0)
    refine e.trans ?_
    dsimp only
    refine (congrFun (scale_first c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) _ _ _ _ _ _ _) (ix2 0 l)).trans ?_
    rw [scale_apply, zero_8, zero_add, Fin.sum_univ_one]
    refine Finset.sum_congr rfl fun r _ => ?_
    rw [block_2, block_0, block_1, block_4]
    rfl
  | succ n ih =>
    intro hn
    have hN : n + 1 < 32 := point_lt ⟨n + 1, hn⟩
    have h0 : ¬(⟨n + 1, hn⟩ : Fin cfg0.N).val % 32 = 0 := by show ¬(n + 1) % 32 = 0; omega
    have e := congrArg (fun u => u.2.2.1 (ix2 0 l)) (outsAt0_B m c ⟨n + 1, hn⟩ h0)
    refine e.trans ?_
    dsimp only
    refine (congrFun (scale_later c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) _ _ _ _ _ _ _ _ _ _) (ix2 0 l)).trans ?_
    rw [scale_apply]
    refine Eq.trans ?_ (Fin.sum_univ_castSucc _).symm
    refine congrArg₂ (· + ·) (ih (Nat.lt_of_succ_lt hn)) ?_
    refine Finset.sum_congr rfl fun r _ => ?_
    rw [block_2, block_0, block_1, block_4]
    rfl

theorem left_gain (c : Dev nD) (l : Fin 4096) : ∀ (n : ℕ) (hn : n < cfg0.N), (outsAt0 m c n hn).2.2.2 (ix2 0 l)
    = ∑ s : Fin (n + 1), ∑ r : Fin 128, gainPart (argX m c) (argD m c) (argR m c) (argC m c) (row s.val (by have := point_lt ⟨n, hn⟩; have := s.isLt; dsimp only at *; omega) r) l := by
  intro n
  induction n with
  | zero =>
    intro hn
    have h0 : (⟨0, hn⟩ : Fin cfg0.N).val % 32 = 0 := Nat.zero_mod _
    have e := congrArg (fun u => u.2.2.2 (ix2 0 l)) (outsAt0_A m c ⟨0, hn⟩ h0)
    refine e.trans ?_
    dsimp only
    refine (congrFun (gain_first c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) _ _ _ _ _ _ _) (ix2 0 l)).trans ?_
    rw [gain_apply, zero_9, zero_add, Fin.sum_univ_one]
    refine Finset.sum_congr rfl fun r _ => ?_
    rw [block_2, block_5, block_0, block_1]
    rfl
  | succ n ih =>
    intro hn
    have hN : n + 1 < 32 := point_lt ⟨n + 1, hn⟩
    have h0 : ¬(⟨n + 1, hn⟩ : Fin cfg0.N).val % 32 = 0 := by show ¬(n + 1) % 32 = 0; omega
    have e := congrArg (fun u => u.2.2.2 (ix2 0 l)) (outsAt0_B m c ⟨n + 1, hn⟩ h0)
    refine e.trans ?_
    dsimp only
    refine (congrFun (gain_later c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) _ _ _ _ _ _ _ _ _ _) (ix2 0 l)).trans ?_
    rw [gain_apply]
    refine Eq.trans ?_ (Fin.sum_univ_castSucc _).symm
    refine congrArg₂ (· + ·) (ih (Nat.lt_of_succ_lt hn)) ?_
    refine Finset.sum_congr rfl fun r _ => ?_
    rw [block_2, block_5, block_0, block_1]
    rfl

/-- A sum over the blocks and their rows is the sum over all rows. -/
theorem sum_rows (f : Fin 4096 → EReal) : ∑ s : Fin 32, ∑ r : Fin 128, f (row s.val s.isLt r) = ∑ i : Fin 4096, f i := by
  rw [← Fintype.sum_prod_type' (fun (s : Fin 32) (r : Fin 128) => f (row s.val s.isLt r))]
  refine Fintype.sum_equiv (finProdFinEquiv (m := 32) (n := 128)) _ _ fun p => ?_
  congr 1
  apply Fin.ext
  show p.1.val * 128 + p.2.val = p.2.val + 128 * p.1.val
  omega

/-! ## The arrays in the end -/

abbrev result6 (c : Dev nD) : Vec Ideal S4096x4096 .f32 := inputGrad (argX m c) (argD m c) (argQ m c) (argR m c) (argG m c) (argC m c)
abbrev result7 (c : Dev nD) : Vec Ideal S1x4096 .f32 := columnSum (shiftPart (argD m c))
abbrev result8 (c : Dev nD) : Vec Ideal S1x4096 .f32 := columnSum (scalePart (argX m c) (argD m c) (argR m c) (argG m c))
abbrev result9 (c : Dev nD) : Vec Ideal S1x4096 .f32 := columnSum (gainPart (argX m c) (argD m c) (argR m c) (argC m c))

theorem written_6 (c : Dev nD) (t : Fin cfg0.N) : (dats m 0 c).flushed 6 t = ((cfg0.win 6).blk t).view.read (Elt Ideal) (result6 m c) := by
  obtain ⟨-, -, -, -, -, -, ⟨p, q⟩, -⟩ := positions t
  rw [Value.flushed6]
  funext y
  show (outsAt0 m c t.val t.isLt).1 y = result6 m c (((cfg0.win 6).blk t).view.emb y)
  have ey : (y : S128x4096.Idx) = ix2 (y 0) (y 1) := (ix2_eta (n0 := 128) (n1 := 4096) y).symm
  refine ((congrArg (outsAt0 m c t.val t.isLt).1 ey).trans (left_rows m c t (y 0) (y 1))).trans (congrArg (result6 m c) ?_)
  funext a
  apply Fin.ext
  match a with
  | ⟨0, _⟩ => show t.val * 128 + (y 0).val = win0_6.index t 0 * 128 + 1 * (y 0).val; rw [p]; omega
  | ⟨1, _⟩ => show (y 1).val = win0_6.index t 1 * 4096 + 1 * (y 1).val; rw [q]; omega

theorem final6 (c : Dev nD) : (dats m 0 c).arrAt 6 cfg0.N = result6 m c :=
  (dats m 0 c).arrAt_eq_of_cover 6 (result6 m c) (fun t _ => written_6 m c t) fun i => by
    have i0 : (i 0 : Nat) < 4096 := (i 0).isLt
    have i1 : (i 1 : Nat) < 4096 := (i 1).isLt
    have hN : cfg0.N = 32 := N_0
    have ht : (i 0 : Nat) / 128 < cfg0.N := by omega
    obtain ⟨-, -, -, -, -, -, ⟨p, q⟩, -⟩ := positions ⟨(i 0 : Nat) / 128, ht⟩
    refine ⟨⟨(i 0 : Nat) / 128, ht⟩, flush0_6 _, ?_⟩
    show i ∈ ((View.whole main_v8_0).slice (win0_6.rect ⟨(i 0 : Nat) / 128, ht⟩)).set
    rw [View.set_slice_whole, Rect.mem_set_unit]
    intro a
    match a with
    | ⟨0, _⟩ =>
      show win0_6.index ⟨(i 0 : Nat) / 128, ht⟩ 0 * 128 ≤ (i 0 : Nat) ∧ (i 0 : Nat) < win0_6.index ⟨(i 0 : Nat) / 128, ht⟩ 0 * 128 + 128
      rw [p]; dsimp only; omega
    | ⟨1, _⟩ =>
      show win0_6.index ⟨(i 0 : Nat) / 128, ht⟩ 1 * 4096 ≤ (i 1 : Nat) ∧ (i 1 : Nat) < win0_6.index ⟨(i 0 : Nat) / 128, ht⟩ 1 * 4096 + 4096
      rw [q]; omega

theorem last_shift (c : Dev nD) (l : Fin 4096) (n : ℕ) (hn : n < cfg0.N) (h31 : n = 31) :
    (outsAt0 m c n hn).2.1 (ix2 0 l) = result7 m c (ix2 0 l) := by
  subst h31
  exact (left_shift m c l 31 hn).trans (sum_rows fun s => shiftPart (argD m c) s l)

theorem written_7 (c : Dev nD) (t : Fin cfg0.N) (hf : (cfg0.win 7).flush t = true) :
    (dats m 0 c).flushed 7 t = ((cfg0.win 7).blk t).view.read (Elt Ideal) (result7 m c) := by
  obtain ⟨-, -, -, -, -, -, -, ⟨p, q⟩, -⟩ := positions t
  have hN := point_lt t
  have h31 : t.val = 31 := by have := (flush0_7 t).mp hf; omega
  rw [Value.flushed7]
  funext y
  show (outsAt0 m c t.val t.isLt).2.1 y = result7 m c (((cfg0.win 7).blk t).view.emb y)
  have y0 : (y 0).val < 1 := (y 0).isLt
  have ey : (y : S1x4096.Idx) = ix2 0 (y 1) := by
    funext a
    apply Fin.ext
    match a with
    | ⟨0, _⟩ => show (y 0).val = 0; omega
    | ⟨1, _⟩ => rfl
  refine ((congrArg (outsAt0 m c t.val t.isLt).2.1 ey).trans (last_shift m c (y 1) t.val t.isLt h31)).trans (congrArg (result7 m c) ?_)
  funext a
  apply Fin.ext
  match a with
  | ⟨0, _⟩ => show 0 = win0_7.index t 0 * 1 + 1 * (y 0).val; rw [p]; omega
  | ⟨1, _⟩ => show (y 1).val = win0_7.index t 1 * 4096 + 1 * (y 1).val; rw [q]; omega

theorem final7 (c : Dev nD) : (dats m 0 c).arrAt 7 cfg0.N = result7 m c :=
  (dats m 0 c).arrAt_eq_of_cover 7 (result7 m c) (fun t hf => written_7 m c t hf) fun i => by
    have i0 : (i 0 : Nat) < 1 := (i 0).isLt
    have i1 : (i 1 : Nat) < 4096 := (i 1).isLt
    have hN : cfg0.N = 32 := N_0
    have ht : 31 < cfg0.N := by omega
    obtain ⟨-, -, -, -, -, -, -, ⟨p, q⟩, -⟩ := positions ⟨31, ht⟩
    refine ⟨⟨31, ht⟩, (flush0_7 _).mpr rfl, ?_⟩
    show i ∈ ((View.whole main_v8_1).slice (win0_7.rect ⟨31, ht⟩)).set
    rw [View.set_slice_whole, Rect.mem_set_unit]
    intro a
    match a with
    | ⟨0, _⟩ =>
      show win0_7.index ⟨31, ht⟩ 0 * 1 ≤ (i 0 : Nat) ∧ (i 0 : Nat) < win0_7.index ⟨31, ht⟩ 0 * 1 + 1
      rw [p]; omega
    | ⟨1, _⟩ =>
      show win0_7.index ⟨31, ht⟩ 1 * 4096 ≤ (i 1 : Nat) ∧ (i 1 : Nat) < win0_7.index ⟨31, ht⟩ 1 * 4096 + 4096
      rw [q]; omega

theorem last_scale (c : Dev nD) (l : Fin 4096) (n : ℕ) (hn : n < cfg0.N) (h31 : n = 31) :
    (outsAt0 m c n hn).2.2.1 (ix2 0 l) = result8 m c (ix2 0 l) := by
  subst h31
  exact (left_scale m c l 31 hn).trans (sum_rows fun s => scalePart (argX m c) (argD m c) (argR m c) (argG m c) s l)

theorem written_8 (c : Dev nD) (t : Fin cfg0.N) (hf : (cfg0.win 8).flush t = true) :
    (dats m 0 c).flushed 8 t = ((cfg0.win 8).blk t).view.read (Elt Ideal) (result8 m c) := by
  obtain ⟨-, -, -, -, -, -, -, -, ⟨p, q⟩, -⟩ := positions t
  have hN := point_lt t
  have h31 : t.val = 31 := by have := (flush0_8 t).mp hf; omega
  rw [Value.flushed8]
  funext y
  show (outsAt0 m c t.val t.isLt).2.2.1 y = result8 m c (((cfg0.win 8).blk t).view.emb y)
  have y0 : (y 0).val < 1 := (y 0).isLt
  have ey : (y : S1x4096.Idx) = ix2 0 (y 1) := by
    funext a
    apply Fin.ext
    match a with
    | ⟨0, _⟩ => show (y 0).val = 0; omega
    | ⟨1, _⟩ => rfl
  refine ((congrArg (outsAt0 m c t.val t.isLt).2.2.1 ey).trans (last_scale m c (y 1) t.val t.isLt h31)).trans (congrArg (result8 m c) ?_)
  funext a
  apply Fin.ext
  match a with
  | ⟨0, _⟩ => show 0 = win0_8.index t 0 * 1 + 1 * (y 0).val; rw [p]; omega
  | ⟨1, _⟩ => show (y 1).val = win0_8.index t 1 * 4096 + 1 * (y 1).val; rw [q]; omega

theorem final8 (c : Dev nD) : (dats m 0 c).arrAt 8 cfg0.N = result8 m c :=
  (dats m 0 c).arrAt_eq_of_cover 8 (result8 m c) (fun t hf => written_8 m c t hf) fun i => by
    have i0 : (i 0 : Nat) < 1 := (i 0).isLt
    have i1 : (i 1 : Nat) < 4096 := (i 1).isLt
    have hN : cfg0.N = 32 := N_0
    have ht : 31 < cfg0.N := by omega
    obtain ⟨-, -, -, -, -, -, -, -, ⟨p, q⟩, -⟩ := positions ⟨31, ht⟩
    refine ⟨⟨31, ht⟩, (flush0_8 _).mpr rfl, ?_⟩
    show i ∈ ((View.whole main_v8_2).slice (win0_8.rect ⟨31, ht⟩)).set
    rw [View.set_slice_whole, Rect.mem_set_unit]
    intro a
    match a with
    | ⟨0, _⟩ =>
      show win0_8.index ⟨31, ht⟩ 0 * 1 ≤ (i 0 : Nat) ∧ (i 0 : Nat) < win0_8.index ⟨31, ht⟩ 0 * 1 + 1
      rw [p]; omega
    | ⟨1, _⟩ =>
      show win0_8.index ⟨31, ht⟩ 1 * 4096 ≤ (i 1 : Nat) ∧ (i 1 : Nat) < win0_8.index ⟨31, ht⟩ 1 * 4096 + 4096
      rw [q]; omega

theorem last_gain (c : Dev nD) (l : Fin 4096) (n : ℕ) (hn : n < cfg0.N) (h31 : n = 31) :
    (outsAt0 m c n hn).2.2.2 (ix2 0 l) = result9 m c (ix2 0 l) := by
  subst h31
  exact (left_gain m c l 31 hn).trans (sum_rows fun s => gainPart (argX m c) (argD m c) (argR m c) (argC m c) s l)

theorem written_9 (c : Dev nD) (t : Fin cfg0.N) (hf : (cfg0.win 9).flush t = true) :
    (dats m 0 c).flushed 9 t = ((cfg0.win 9).blk t).view.read (Elt Ideal) (result9 m c) := by
  obtain ⟨-, -, -, -, -, -, -, -, -, ⟨p, q⟩⟩ := positions t
  have hN := point_lt t
  have h31 : t.val = 31 := by have := (flush0_9 t).mp hf; omega
  rw [Value.flushed9]
  funext y
  show (outsAt0 m c t.val t.isLt).2.2.2 y = result9 m c (((cfg0.win 9).blk t).view.emb y)
  have y0 : (y 0).val < 1 := (y 0).isLt
  have ey : (y : S1x4096.Idx) = ix2 0 (y 1) := by
    funext a
    apply Fin.ext
    match a with
    | ⟨0, _⟩ => show (y 0).val = 0; omega
    | ⟨1, _⟩ => rfl
  refine ((congrArg (outsAt0 m c t.val t.isLt).2.2.2 ey).trans (last_gain m c (y 1) t.val t.isLt h31)).trans (congrArg (result9 m c) ?_)
  funext a
  apply Fin.ext
  match a with
  | ⟨0, _⟩ => show 0 = win0_9.index t 0 * 1 + 1 * (y 0).val; rw [p]; omega
  | ⟨1, _⟩ => show (y 1).val = win0_9.index t 1 * 4096 + 1 * (y 1).val; rw [q]; omega

theorem final9 (c : Dev nD) : (dats m 0 c).arrAt 9 cfg0.N = result9 m c :=
  (dats m 0 c).arrAt_eq_of_cover 9 (result9 m c) (fun t hf => written_9 m c t hf) fun i => by
    have i0 : (i 0 : Nat) < 1 := (i 0).isLt
    have i1 : (i 1 : Nat) < 4096 := (i 1).isLt
    have hN : cfg0.N = 32 := N_0
    have ht : 31 < cfg0.N := by omega
    obtain ⟨-, -, -, -, -, -, -, -, -, ⟨p, q⟩⟩ := positions ⟨31, ht⟩
    refine ⟨⟨31, ht⟩, (flush0_9 _).mpr rfl, ?_⟩
    show i ∈ ((View.whole main_v8_3).slice (win0_9.rect ⟨31, ht⟩)).set
    rw [View.set_slice_whole, Rect.mem_set_unit]
    intro a
    match a with
    | ⟨0, _⟩ =>
      show win0_9.index ⟨31, ht⟩ 0 * 1 ≤ (i 0 : Nat) ∧ (i 0 : Nat) < win0_9.index ⟨31, ht⟩ 0 * 1 + 1
      rw [p]; omega
    | ⟨1, _⟩ =>
      show win0_9.index ⟨31, ht⟩ 1 * 4096 ≤ (i 1 : Nat) ∧ (i 1 : Nat) < win0_9.index ⟨31, ht⟩ 1 * 4096 + 4096
      rw [q]; omega

end Cert.PreNormIdeal.Rows

end
-- ==== Proof.PreNormRef.lean ====
/- The adaptive normalisation's backward pass: the kernel's results against the derivative of the plain formula, for
   arguments that are finite. -/
module

public import proofs.«01_k».proof.Proof.PreNormValue
public import proofs.«01_k».proof.Proof.MixerAClaims
public import proofs.«01_k».proof.Proof.Gen.PreNorm.Frame
public import proofs.«01_k».proof.Proof.Gen.RefPreNormIdeal.Run
public import proofs.«01_k».proof.Proof.Gen.Pre_finite_rows
public import Idealize.ShloMosaic.Lib.ReduceAll
public import Idealize.ShloMosaic.Lib.Quiescent

@[expose] public section

set_option maxRecDepth 16384

noncomputable section

namespace Cert.PreNormIdeal.Rows

open Cert.PreNormIdeal Cert.PreNormIdeal.Gen Idealize.ShloMosaic Idealize.ShloMosaic.TcCoe Idealize.ShloMosaic.Tactic Idealize.SL.Sem
open Cert.RefAIdeal.Entries (Real')

/-! ## The constants -/

/-- The small number added to the mean square. -/
abbrev eps : EReal := Ideal.ofBits .f32 0x358637BD#32

/-- Minus one half, from the derivative of the reciprocal root. -/
abbrev minusHalf : EReal := Ideal.ofBits .f32 0xBF000000#32

theorem width_eq : width = ((4096 : ℝ) : EReal) := by
  simp [width, Ideal.ofBits, Ideal.ieee]
  norm_cast
  norm_num

theorem minusHalf_eq : minusHalf = ((-(1 / 2) : ℝ) : EReal) := by
  simp [minusHalf, Ideal.ofBits, Ideal.ieee]
  norm_cast
  norm_num

theorem one_eq : one = 1 := by
  simp [one, Ideal.ofBits, Ideal.ieee]
  norm_cast
  norm_num

theorem eps_pos : ∃ e : ℝ, 0 < e ∧ eps = (e : EReal) := by
  simp [eps, Ideal.ofBits, Ideal.ieee]
  refine ⟨_, ?_, rfl⟩
  positivity

/-! ## One row over the real numbers -/

theorem sum_real (f : Fin 4096 → ℝ) : ∑ k, (f k : EReal) = ((∑ k, f k : ℝ) : EReal) := by
  have step : ∀ s : Finset (Fin 4096), ∑ k ∈ s, (f k : EReal) = ((∑ k ∈ s, f k : ℝ) : EReal) := by
    intro s
    induction s using Finset.induction with
    | empty => simp
    | insert a s ha ih => rw [Finset.sum_insert ha, Finset.sum_insert ha, ih, EReal.coe_add]
  exact step Finset.univ

/-- The mean square of a row, with the small number. -/
def meanSquare (x : Fin 4096 → EReal) : EReal := Ideal.div (∑ k, x k * x k) width + eps

/-- The reciprocal root of a row's mean square. -/
def root (x : Fin 4096 → EReal) : EReal := Ideal.rsqrt (meanSquare x)

/-- The derivative of the mean square's reciprocal root, weighted by the incoming gradient and shared among the columns. -/
def shareOf (x d : Fin 4096 → EReal) : EReal :=
  Ideal.div ((∑ k, x k * d k) * (minusHalf * Ideal.div (root x) (meanSquare x))) width

/-- The kernel's expression for a row and the chain rule's agree on reals. -/
theorem row_eq (x d : Fin 4096 → EReal) (hx : ∀ k, Real' (x k)) (hd : ∀ k, Real' (d k)) (l : Fin 4096) :
    root x * (d l - x l * root x * Ideal.div (∑ k, d k * (x k * root x)) width)
      = d l * root x + x l * shareOf x d + shareOf x d * x l := by
  choose a ha using hx
  choose b hb using hd
  obtain rfl : x = fun k => (a k : EReal) := funext ha
  obtain rfl : d = fun k => (b k : EReal) := funext hb
  obtain ⟨e, he, hE⟩ := eps_pos
  have hs : 0 ≤ ∑ k, a k * a k := Finset.sum_nonneg fun k _ => mul_self_nonneg (a k)
  obtain ⟨v, hv⟩ : ∃ v : ℝ, v = (∑ k, a k * a k) * (1 / 4096) + e := ⟨_, rfl⟩
  have v0 : 0 < v := by rw [hv]; positivity
  have sq : meanSquare (fun k => (a k : EReal)) = (v : EReal) := by
    unfold meanSquare
    rw [width_eq, hE, Ideal.div_coe (by norm_num), hv]
    simp only [← EReal.coe_mul]
    rw [sum_real, ← EReal.coe_mul, ← EReal.coe_add]
  have rt : root (fun k => (a k : EReal)) = (((Real.sqrt v)⁻¹ : ℝ) : EReal) := by
    unfold root
    rw [sq, Ideal.rsqrt_coe, if_neg (not_lt.mpr v0.le), if_neg v0.ne']
  obtain ⟨r, hr⟩ : ∃ r : ℝ, r = (Real.sqrt v)⁻¹ := ⟨_, rfl⟩
  have rr : r * r = 1 / v := by
    rw [hr, ← mul_inv, Real.mul_self_sqrt v0.le, one_div]
  unfold shareOf
  rw [rt, sq, ← hr, width_eq, minusHalf_eq, Ideal.div_coe (by norm_num), Ideal.div_coe (by norm_num), Ideal.div_coe v0.ne']
  simp only [← EReal.coe_mul]
  rw [sum_real, sum_real]
  simp only [← EReal.coe_mul, ← EReal.coe_sub, ← EReal.coe_add]
  rw [EReal.coe_eq_coe_iff, ← rr]
  have hsum : ∑ k, b k * (a k * r) = (∑ k, a k * b k) * r := by
    rw [Finset.sum_mul]
    exact Finset.sum_congr rfl fun k _ => by ring
  rw [hsum]
  ring

/-! ## The host's reciprocal roots -/

variable (m : (ℓ : Loc nD τ sig) → Buf (Elt Ideal) ℓ)

theorem host_root (c : Dev nD) (i : Fin 4096) : argR m c (ix2 i 0) = root fun k => argX m c (ix2 i k) := by
  have e : argR m c = (Host.rsqrt (F := Ideal) (φ := .f32) (addf (F := Ideal) (φ := .f32) (Host.divf (F := Ideal) (φ := .f32) (broadcastInDim S4096x1 ![0] bcast_S4096_S4096x1_0
      (Host.reduceAdd (F := Ideal) (φ := .f32) (mulf (F := Ideal) (φ := .f32) (argX m c) (argX m c)) (constant (F := Ideal) S_ .f32 0x00000000#32) reducesTo_S4096x4096_S4096_d1 h_S_))
      (broadcastInDim S4096x1 ![] bcast_S_S4096x1 (constant (F := Ideal) S_ .f32 0x45800000#32)))
      (broadcastInDim S4096x1 ![] bcast_S_S4096x1 (constant (F := Ideal) S_ .f32 0x358637BD#32))) : Vec Ideal S4096x1 .f32) := by
    unfold argR V
    simp only [hostOps0, List.flatten_cons, List.flatten_nil, List.append_nil, List.cons_append, List.nil_append]
    after_results_simp
    try rfl
  rw [e]
  pointwise [width, eps, root, meanSquare]

/-- The reciprocal roots as a column. -/
def roots (X : Vec Ideal S4096x4096 .f32) : Vec Ideal S4096x1 .f32 := fun i => root fun k => X (ix2 (i 0) k)

theorem roots_eq (c : Dev nD) : argR m c = roots (argX m c) := by
  funext i
  have h1 : (i 1).val < 1 := (i 1).isLt
  have ei : i = ix2 (i 0) 0 := by
    funext a
    apply Fin.ext
    match a with
    | ⟨0, _⟩ => rfl
    | ⟨1, _⟩ => show (i 1).val = 0; omega
  exact (congrArg (argR m c) ei).trans (host_root m c (i 0))

end Cert.PreNormIdeal.Rows

namespace Cert.RefPreNormIdeal.Entries

open Cert.RefPreNormIdeal Cert.RefPreNormIdeal.Gen Idealize.ShloMosaic Idealize.ShloMosaic.TcCoe Idealize.ShloMosaic.Tactic Idealize.SL.Sem
open Cert.RefAIdeal.Entries (Real')
open Cert.PreNormIdeal.Rows (root roots meanSquare shareOf width eps one minusHalf row_eq one_eq inputGrad columnSum shiftPart scalePart gainPart)

variable (X D Q : FVec Ideal S4096x4096 .f32) (G C : FVec Ideal S1x4096 .f32)

/-- The reference's reciprocal roots. -/
def refRoots : FVec Ideal S4096x1 .f32 :=
  Host.rsqrt (addf (Host.divf (broadcastInDim S4096x1 ![0] bcast_S4096_S4096x1_0 (Host.reduceAdd (mulf X X) (constant S_ .f32 0x00000000#32) reducesTo_S4096x4096_S4096_d1 h_S_))
    (broadcastInDim S4096x1 ![] bcast_S_S4096x1 (constant S_ .f32 0x45800000#32))) (broadcastInDim S4096x1 ![] bcast_S_S4096x1 (constant S_ .f32 0x358637BD#32)))

theorem refRoots_apply (i : Fin 4096) : refRoots X (ix2 i 0) = root fun k => X (ix2 i k) := by
  pointwise [refRoots, root, meanSquare, width, eps]

/-- The incoming gradient scaled by one plus the scale. -/
def scaled : FVec Ideal S4096x4096 .f32 :=
  mulf (shapeCast _ D shapeCasts_S4096x4096_S4096x4096) (broadcastInDim S4096x4096 ![0, 1] bcast_S1x4096_S4096x4096_0_1 (addf (broadcastInDim S1x4096 ![] bcast_S_S1x4096 (constant S_ .f32 0x3F800000#32)) C))

theorem scaled_apply (i l : Fin 4096) : scaled D C (ix2 i l) = D (ix2 i l) * (one + C (ix2 0 l)) := by
  rw [one_eq]
  pointwise [scaled]

def refShift : FVec Ideal S1x4096 .f32 :=
  shapeCast _ (Host.reduceAdd D (constant S_ .f32 0x00000000#32) reducesTo_S4096x4096_S4096_d0 h_S_) shapeCasts_S4096_S1x4096

theorem refShift_apply (l : Fin 4096) : refShift D (ix2 0 l) = ∑ s : Fin 4096, D (ix2 s l) := by
  pointwise [refShift]

def refScale : FVec Ideal S1x4096 .f32 :=
  shapeCast _ (Host.reduceAdd (mulf (mulf (mulf X (broadcastInDim S4096x4096 ![0, 1] bcast_S4096x1_S4096x4096_0_1 (refRoots X))) (broadcastInDim S4096x4096 ![0, 1] bcast_S1x4096_S4096x4096_0_1 G))
    (shapeCast _ D shapeCasts_S4096x4096_S4096x4096)) (constant S_ .f32 0x00000000#32) reducesTo_S4096x4096_S4096_d0 h_S_) shapeCasts_S4096_S1x4096

theorem refScale_apply (l : Fin 4096) : refScale X D G (ix2 0 l)
    = ∑ s : Fin 4096, X (ix2 s l) * refRoots X (ix2 s 0) * G (ix2 0 l) * D (ix2 s l) := by
  pointwise [refScale]

def refGain : FVec Ideal S1x4096 .f32 :=
  shapeCast _ (Host.reduceAdd (mulf (mulf X (broadcastInDim S4096x4096 ![0, 1] bcast_S4096x1_S4096x4096_0_1 (refRoots X))) (scaled D C))
    (constant S_ .f32 0x00000000#32) reducesTo_S4096x4096_S4096_d0 h_S_) shapeCasts_S4096_S1x4096

theorem refGain_apply (l : Fin 4096) : refGain X D C (ix2 0 l)
    = ∑ s : Fin 4096, X (ix2 s l) * refRoots X (ix2 s 0) * scaled D C (ix2 s l) := by
  pointwise [refGain]

theorem column_ext {u v : FVec Ideal S1x4096 .f32} (h : ∀ l : Fin 4096, u (ix2 0 l) = v (ix2 0 l)) : u = v := by
  funext i
  have h0 : (i 0).val < 1 := (i 0).isLt
  have ei : i = ix2 0 (i 1) := by
    funext a
    apply Fin.ext
    match a with
    | ⟨0, _⟩ => show (i 0).val = 0; omega
    | ⟨1, _⟩ => rfl
  rw [ei]
  exact h (i 1)

theorem shift_eq : refShift D = columnSum (shiftPart D) := column_ext fun l => refShift_apply D l

theorem scale_eq : refScale X D G = columnSum (scalePart X D (roots X) G) := column_ext fun l => by
  rw [refScale_apply]
  refine Finset.sum_congr rfl fun s _ => ?_
  rw [refRoots_apply, mul_comm]
  rfl

theorem gain_eq : refGain X D C = columnSum (gainPart X D (roots X) C) := column_ext fun l => by
  rw [refGain_apply]
  refine Finset.sum_congr rfl fun s _ => ?_
  rw [refRoots_apply, scaled_apply, mul_comm]
  rfl

variable (m : (ℓ : Loc nD τ sig) → Buf (Elt Ideal) ℓ)

theorem input_apply (c : Dev nD) (hX : m ((c.tc : Thread nD τ).loc main_arg0) = X) (hD : m ((c.tc : Thread nD τ).loc main_arg1) = D)
    (hQ : m ((c.tc : Thread nD τ).loc main_arg2) = Q) (hG : m ((c.tc : Thread nD τ).loc main_arg3) = G) (hC : m ((c.tc : Thread nD τ).loc main_arg4) = C)
    (i l : Fin 4096) : (Value.res_main_v49 m c : FVec Ideal S4096x4096 .f32) (ix2 i l)
      = Q (ix2 i l) + (D (ix2 i l) * (1 + C (ix2 0 l)) * G (ix2 0 l) * root (fun k => X (ix2 i k))
        + X (ix2 i l) * shareOf (fun k => X (ix2 i k)) (fun k => D (ix2 i k) * (1 + C (ix2 0 k)) * G (ix2 0 k))
        + shareOf (fun k => X (ix2 i k)) (fun k => D (ix2 i k) * (1 + C (ix2 0 k)) * G (ix2 0 k)) * X (ix2 i l)) := by
  unfold Value.res_main_v49
  rw [hX, hD, hQ, hG, hC]
  pointwise [root, meanSquare, shareOf, width, eps, minusHalf]
  simp only [Fin.sum_univ_one]

theorem input_eq (c : Dev nD) (hX : m ((c.tc : Thread nD τ).loc main_arg0) = X) (hD : m ((c.tc : Thread nD τ).loc main_arg1) = D)
    (hQ : m ((c.tc : Thread nD τ).loc main_arg2) = Q) (hG : m ((c.tc : Thread nD τ).loc main_arg3) = G) (hC : m ((c.tc : Thread nD τ).loc main_arg4) = C)
    (rX : ∀ i, Real' (X i)) (rD : ∀ i, Real' (D i)) (rG : ∀ i, Real' (G i)) (rC : ∀ i, Real' (C i)) :
    (Value.res_main_v49 m c : FVec Ideal S4096x4096 .f32) = inputGrad X D Q (roots X) G C := by
  funext y
  obtain ⟨i, l, rfl⟩ : ∃ (i : Fin 4096) (l : Fin 4096), y = ix2 i l := ⟨y 0, y 1, eq_ix2 y⟩
  rw [input_apply X D Q G C m c hX hD hQ hG hC i l]
  have r1 : Real' 1 := ⟨1, rfl⟩
  rw [← row_eq (fun k => X (ix2 i k)) (fun k => D (ix2 i k) * (1 + C (ix2 0 k)) * G (ix2 0 k)) (fun k => rX _)
    (fun k => ((rD _).mul (r1.add (rC _))).mul (rG _)) l]
  show _ = Q (ix2 i l) + root (fun k => X (ix2 i k)) * (D (ix2 i l) * (one + C (ix2 0 l)) * G (ix2 0 l)
    - X (ix2 i l) * root (fun k => X (ix2 i k))
      * Ideal.div (∑ k : Fin 4096, D (ix2 i k) * (one + C (ix2 0 k)) * G (ix2 0 k) * (X (ix2 i k) * root (fun k => X (ix2 i k)))) width)
  rw [one_eq]

end Cert.RefPreNormIdeal.Entries

/-! ## The claims -/

namespace Cert.PreNorm.Claims

open Idealize.ShloMosaic Idealize.ShloMosaic.TcCoe Idealize.ShloMosaic.Tactic Idealize.SL.Sem
open Cert.RefAIdeal.Entries (Real')
open Cert.MixerA.Claims (real_of_below)
open Cert.PreNormIdeal.Rows

theorem real_args (X D Q : FVec Ideal Cert.Pre_finite_rows.S4096x4096 .f32) (G C : FVec Ideal Cert.Pre_finite_rows.S1x4096 .f32)
    (h : Cert.Pre_finite_rows.fn (F := Ideal) X D Q G C = fun _ => 1#1) :
    (∀ i, Real' (X i)) ∧ (∀ i, Real' (D i)) ∧ (∀ i, Real' (G i)) ∧ ∀ i, Real' (C i) := by
  have h0 := congrFun h (fun a => a.elim0)
  unfold Cert.Pre_finite_rows.fn Cert.Pre_finite_rows.fn_part1 at h0
  dsimp only at h0
  rw [andi_apply, IntOp.andi_eq_one, andi_apply, IntOp.andi_eq_one, andi_apply, IntOp.andi_eq_one] at h0
  obtain ⟨⟨⟨hX, hD⟩, hG⟩, hC⟩ := h0
  haveI : Subsingleton Cert.Pre_finite_rows.S_.Idx := ⟨fun i j => funext fun a => a.elim0⟩
  exact ⟨fun i => real_of_below _ (Host.reduce_andi_all _ _ _ _ _ hX i), fun i => real_of_below _ (Host.reduce_andi_all _ _ _ _ _ hD i),
    fun i => real_of_below _ (Host.reduce_andi_all _ _ _ _ _ hG i), fun i => real_of_below _ (Host.reduce_andi_all _ _ _ _ _ hC i)⟩

theorem algebraic : Cert.algebraic_PreNormIdeal_RefPreNormIdeal := fun m ρ m' ρ' hpre hag =>
  ⟨result6 m, result7 m, result8 m, result9 m,
    (θ_run _ _ _).mono (fun _ h c => ⟨(h c).1.trans (final6 m c), (h c).2.1.trans (final7 m c), (h c).2.2.1.trans (final8 m c),
      (h c).2.2.2.1.trans (final9 m c), (h c).2.2.2.2⟩) (Cert.PreNormIdeal.Value.run_blocks m ρ),
    (θ_run _ _ _).mono (fun _ h c => by
      obtain ⟨hX, hD, hG, hC⟩ := real_args _ _ _ _ _ (hpre c)
      obtain ⟨a0, a1, a2, a3, a4⟩ := hag c
      refine ⟨(h c).1.trans ?_, (h c).2.1.trans ?_, (h c).2.2.1.trans ?_, (h c).2.2.2.1.trans ?_, (h c).2.2.2.2⟩
      · refine (Cert.RefPreNormIdeal.Entries.input_eq (argX m c) (argD m c) (argQ m c) (argG m c) (argC m c) m' c a0 a1 a2 a3 a4 hX hD hG hC).trans ?_
        show inputGrad _ _ _ (roots (argX m c)) _ _ = inputGrad _ _ _ (argR m c) _ _
        rw [roots_eq]
      · rw [a1]
        exact Cert.RefPreNormIdeal.Entries.shift_eq (argD m c)
      · rw [a0, a1, a3]
        refine (Cert.RefPreNormIdeal.Entries.scale_eq (argX m c) (argD m c) (argG m c)).trans ?_
        show columnSum (scalePart _ _ (roots (argX m c)) _) = columnSum (scalePart _ _ (argR m c) _)
        rw [roots_eq]
      · rw [a0, a1, a4]
        refine (Cert.RefPreNormIdeal.Entries.gain_eq (argX m c) (argD m c) (argC m c)).trans ?_
        show columnSum (gainPart _ _ (roots (argX m c)) _) = columnSum (gainPart _ _ (argR m c) _)
        rw [roots_eq])
      (Cert.RefPreNormIdeal.Value.run m' ρ')⟩

/-- The reference ends with its arguments unchanged and every counter at zero. -/
theorem reference_quiescent : Cert.quiescent_RefPreNormIdeal := fun m ρ _ =>
  (θ_run _ _ _).mono (fun r h => ⟨fun c => (h c).2.2.2.2, sem_eq_zero_of_no_sems (by decide) r.2⟩)
    (Cert.RefPreNormIdeal.Value.run m ρ)

theorem reference_quiescent_finite : Cert.quiescent_RefPreNormIdeal_pre_finite_rows := fun m ρ _ => reference_quiescent m ρ trivial

theorem quiescent : Cert.quiescent_PreNorm := fun m ρ _ => Cert.PreNorm.Gen.frame m ρ
theorem quiescent_ideal : Cert.quiescent_PreNormIdeal := fun m ρ _ => Cert.PreNormIdeal.Gen.frame m ρ

end Cert.PreNorm.Claims

end
-- ==== Proof.AdamStep.lean ====
module

public import proofs.«01_k».proof.Defs
public import Idealize.ShloMosaic.Lib.Pointwise

@[expose] public section

noncomputable section

/-! One element of the AdamW update, as the step's mathematics states it: the constants are the
rounded hyperparameters (decay rates, bias corrections at the tenth step, weight decay, rate). -/

namespace Cert.AdamStep

open Idealize.ShloMosaic

/-- The new first moment of a weight with gradient `g` and first moment `p`. -/
def first (g p : Ideal .f32) : Ideal .f32 :=
  Scalar.ofBits (F := Ideal) .f32 0x3F666666#32 * p + Scalar.ofBits (F := Ideal) .f32 0x3DCCCCCD#32 * g

/-- The new second moment of a weight with gradient `g` and second moment `q`. -/
def second (g q : Ideal .f32) : Ideal .f32 :=
  Scalar.ofBits (F := Ideal) .f32 0x3F7FBE77#32 * q + Scalar.ofBits (F := Ideal) .f32 0x3A83126F#32 * (g * g)

/-- The change of a weight `w` with gradient `g` and moments `p`, `q`. -/
def change (w g p q : Ideal .f32) : Ideal .f32 :=
  Scalar.ofBits (F := Ideal) .f32 0xBA83126F#32
    * (Ideal.div (Ideal.div (first g p) (Scalar.ofBits (F := Ideal) .f32 0x3F26BD02#32))
        (Ideal.sqrt (Ideal.div (second g q) (Scalar.ofBits (F := Ideal) .f32 0x3C231ACC#32)) + Scalar.ofBits (F := Ideal) .f32 0x322BCC77#32)
      + Scalar.ofBits (F := Ideal) .f32 0x3C23D70A#32 * w)

end Cert.AdamStep

end
-- ==== Proof.AdamInValue.lean ====
module

public import proofs.«01_k».proof.Proof.Gen.AdamInIdeal.Value
public import proofs.«01_k».proof.Proof.Gen.RefAdamInIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section
/-! The optimiser's update of the input projection: each element of the results is the update of that element. -/

namespace Cert.AdamInIdeal.Update

open Cert.AdamInIdeal Cert.AdamInIdeal.Gen Idealize.ShloMosaic Idealize.ShloMosaic.TcCoe Idealize.SL.Sem
open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The gradient, handed on. -/
abbrev gradient (c : Dev nD) : Buf (Elt Ideal) ((c : Thread nD τ).loc main_v0_0) :=
  (fun i => (m ((c : Thread nD τ).loc main_arg1) i) : Vec Ideal S4096x3584 .f32)

/-- The change of every weight. -/
abbrev changed (c : Dev nD) : Buf (Elt Ideal) ((c : Thread nD τ).loc main_v0_1) :=
  (fun i => change (m ((c : Thread nD τ).loc main_arg0) i) (m ((c : Thread nD τ).loc main_arg1) i) (m ((c : Thread nD τ).loc main_arg2) i) (m ((c : Thread nD τ).loc main_arg3) i) : Vec Ideal S4096x3584 .f32)

/-- The new first moments. -/
abbrev firsts (c : Dev nD) : Buf (Elt Ideal) ((c : Thread nD τ).loc main_v0_2) :=
  (fun i => first (m ((c : Thread nD τ).loc main_arg1) i) (m ((c : Thread nD τ).loc main_arg2) i) : Vec Ideal S4096x3584 .f32)

/-- The new second moments. -/
abbrev seconds (c : Dev nD) : Buf (Elt Ideal) ((c : Thread nD τ).loc main_v0_3) :=
  (fun i => second (m ((c : Thread nD τ).loc main_arg1) i) (m ((c : Thread nD τ).loc main_arg3) i) : Vec Ideal S4096x3584 .f32)

/-- Every window's block stands at the grid point's own place. -/
theorem positions : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

/-- Where an element of the block of point `t` lies in the array. -/
def place (t : Fin cfg0.N) (y : S128x3584.Idx) : S4096x3584.Idx := ((cfg0.win 5).blk t).view.emb y

/-- Argument 0's block, element by element. -/
theorem block0 (c : Dev nD) (t : Fin cfg0.N) (y : S128x3584.Idx) :
    iblk m c 0 t y = m ((c : Thread nD τ).loc main_arg0) (place t y) := by
  show V m c main_arg0 _ = _
  rw [V_main_arg0]
  rfl

/-- Argument 1's block, element by element. -/
theorem block1 (c : Dev nD) (t : Fin cfg0.N) (y : S128x3584.Idx) :
    iblk m c 1 t y = m ((c : Thread nD τ).loc main_arg1) (place t y) := by
  show V m c main_arg1 _ = _
  rw [V_main_arg1]
  rfl

/-- Argument 2's block, element by element. -/
theorem block2 (c : Dev nD) (t : Fin cfg0.N) (y : S128x3584.Idx) :
    iblk m c 2 t y = m ((c : Thread nD τ).loc main_arg2) (place t y) := by
  show V m c main_arg2 _ = _
  rw [V_main_arg2]
  rfl

/-- Argument 3's block, element by element. -/
theorem block3 (c : Dev nD) (t : Fin cfg0.N) (y : S128x3584.Idx) :
    iblk m c 3 t y = m ((c : Thread nD τ).loc main_arg3) (place t y) := by
  show V m c main_arg3 _ = _
  rw [V_main_arg3]
  rfl

theorem place4 (t : Fin cfg0.N) (y : S128x3584.Idx) : ((cfg0.win 4).blk t).view.emb y = place t y := by
  obtain ⟨p0, q0, p1, q1, p2, q2, p3, q3, p4, q4, p5, q5, p6, q6, p7, q7⟩ := positions t
  funext a
  apply Fin.ext
  match a with
  | ⟨0, _⟩ => show win0_4.index t 0 * 128 + 1 * (y 0).val = win0_5.index t 0 * 128 + 1 * (y 0).val; rw [p4, p5]
  | ⟨1, _⟩ => show win0_4.index t 1 * 3584 + 1 * (y 1).val = win0_5.index t 1 * 3584 + 1 * (y 1).val; rw [q4, q5]

theorem flushed_eq4 (c : Dev nD) (t : Fin cfg0.N) :
    (dats m 0 c).flushed 4 t = ((cfg0.win 4).blk t).view.read (Elt Ideal) (gradient m c) := by
  rw [Value.flushed4]
  funext y
  unfold out0_4
  rw [View.canon_unit_zero zeros, View.ld_unit_zero (S := S128x3584) zeros]
  show iblk m c 1 t y = gradient m c (((cfg0.win 4).blk t).view.emb y)
  rw [place4]
  rw [block1]

theorem mem_block4 (t : Fin cfg0.N) (i : S4096x3584.Idx) : i ∈ ((cfg0.win 4).blk t).view.set ↔
    ∀ a : Fin 2, win0_4.index t a * S128x3584.size a ≤ (i a : Nat)
      ∧ (i a : Nat) < win0_4.index t a * S128x3584.size a + S128x3584.size a := by
  show i ∈ ((View.whole main_v0_0).slice (win0_4.rect t)).set ↔ _
  rw [View.set_slice_whole, Rect.mem_set_unit]
  exact Iff.rfl

theorem final4 (c : Dev nD) : (dats m 0 c).arrAt 4 cfg0.N = gradient m c :=
  (dats m 0 c).arrAt_eq_of_cover 4 (gradient m c) (fun t _ => flushed_eq4 m c t) fun i => by
    have h0 : (i 0 : Nat) < 4096 := (i 0).isLt
    have h1 : (i 1 : Nat) < 3584 := (i 1).isLt
    have hN : cfg0.N = 32 := by decide
    refine ⟨⟨(i 0 : Nat) / 128, by omega⟩, flush0_4 _, ?_⟩
    obtain ⟨p0, q0, p1, q1, p2, q2, p3, q3, p4, q4, p5, q5, p6, q6, p7, q7⟩ := positions ⟨(i 0 : Nat) / 128, by omega⟩
    rw [mem_block4]
    intro a
    match a with
    | ⟨0, _⟩ =>
      show win0_4.index _ 0 * 128 ≤ (i 0 : Nat) ∧ (i 0 : Nat) < win0_4.index _ 0 * 128 + 128
      rw [p4]; dsimp only; omega
    | ⟨1, _⟩ =>
      show win0_4.index _ 1 * 3584 ≤ (i 1 : Nat) ∧ (i 1 : Nat) < win0_4.index _ 1 * 3584 + 3584
      rw [q4]; dsimp only; omega

theorem flushed_eq5 (c : Dev nD) (t : Fin cfg0.N) :
    (dats m 0 c).flushed 5 t = ((cfg0.win 5).blk t).view.read (Elt Ideal) (changed m c) := by
  rw [Value.flushed5]
  funext y
  unfold out0_5
  rw [View.canon_unit_zero zeros, View.ld_unit_zero (S := S128x3584) zeros, View.ld_unit_zero (S := S128x3584) zeros, View.ld_unit_zero (S := S128x3584) zeros, View.ld_unit_zero (S := S128x3584) zeros]
  show change (iblk m c 0 t y) (iblk m c 1 t y) (iblk m c 2 t y) (iblk m c 3 t y) = changed m c (((cfg0.win 5).blk t).view.emb y)
  rw [block0, block1, block2, block3]
  rfl

theorem mem_block5 (t : Fin cfg0.N) (i : S4096x3584.Idx) : i ∈ ((cfg0.win 5).blk t).view.set ↔
    ∀ a : Fin 2, win0_5.index t a * S128x3584.size a ≤ (i a : Nat)
      ∧ (i a : Nat) < win0_5.index t a * S128x3584.size a + S128x3584.size a := by
  show i ∈ ((View.whole main_v0_1).slice (win0_5.rect t)).set ↔ _
  rw [View.set_slice_whole, Rect.mem_set_unit]
  exact Iff.rfl

theorem final5 (c : Dev nD) : (dats m 0 c).arrAt 5 cfg0.N = changed m c :=
  (dats m 0 c).arrAt_eq_of_cover 5 (changed m c) (fun t _ => flushed_eq5 m c t) fun i => by
    have h0 : (i 0 : Nat) < 4096 := (i 0).isLt
    have h1 : (i 1 : Nat) < 3584 := (i 1).isLt
    have hN : cfg0.N = 32 := by decide
    refine ⟨⟨(i 0 : Nat) / 128, by omega⟩, flush0_5 _, ?_⟩
    obtain ⟨p0, q0, p1, q1, p2, q2, p3, q3, p4, q4, p5, q5, p6, q6, p7, q7⟩ := positions ⟨(i 0 : Nat) / 128, by omega⟩
    rw [mem_block5]
    intro a
    match a with
    | ⟨0, _⟩ =>
      show win0_5.index _ 0 * 128 ≤ (i 0 : Nat) ∧ (i 0 : Nat) < win0_5.index _ 0 * 128 + 128
      rw [p5]; dsimp only; omega
    | ⟨1, _⟩ =>
      show win0_5.index _ 1 * 3584 ≤ (i 1 : Nat) ∧ (i 1 : Nat) < win0_5.index _ 1 * 3584 + 3584
      rw [q5]; dsimp only; omega

theorem place6 (t : Fin cfg0.N) (y : S128x3584.Idx) : ((cfg0.win 6).blk t).view.emb y = place t y := by
  obtain ⟨p0, q0, p1, q1, p2, q2, p3, q3, p4, q4, p5, q5, p6, q6, p7, q7⟩ := positions t
  funext a
  apply Fin.ext
  match a with
  | ⟨0, _⟩ => show win0_6.index t 0 * 128 + 1 * (y 0).val = win0_5.index t 0 * 128 + 1 * (y 0).val; rw [p6, p5]
  | ⟨1, _⟩ => show win0_6.index t 1 * 3584 + 1 * (y 1).val = win0_5.index t 1 * 3584 + 1 * (y 1).val; rw [q6, q5]

theorem flushed_eq6 (c : Dev nD) (t : Fin cfg0.N) :
    (dats m 0 c).flushed 6 t = ((cfg0.win 6).blk t).view.read (Elt Ideal) (firsts m c) := by
  rw [Value.flushed6]
  funext y
  unfold out0_6
  rw [View.canon_unit_zero zeros, View.ld_unit_zero (S := S128x3584) zeros, View.ld_unit_zero (S := S128x3584) zeros]
  show first (iblk m c 1 t y) (iblk m c 2 t y) = firsts m c (((cfg0.win 6).blk t).view.emb y)
  rw [place6]
  rw [block1, block2]

theorem mem_block6 (t : Fin cfg0.N) (i : S4096x3584.Idx) : i ∈ ((cfg0.win 6).blk t).view.set ↔
    ∀ a : Fin 2, win0_6.index t a * S128x3584.size a ≤ (i a : Nat)
      ∧ (i a : Nat) < win0_6.index t a * S128x3584.size a + S128x3584.size a := by
  show i ∈ ((View.whole main_v0_2).slice (win0_6.rect t)).set ↔ _
  rw [View.set_slice_whole, Rect.mem_set_unit]
  exact Iff.rfl

theorem final6 (c : Dev nD) : (dats m 0 c).arrAt 6 cfg0.N = firsts m c :=
  (dats m 0 c).arrAt_eq_of_cover 6 (firsts m c) (fun t _ => flushed_eq6 m c t) fun i => by
    have h0 : (i 0 : Nat) < 4096 := (i 0).isLt
    have h1 : (i 1 : Nat) < 3584 := (i 1).isLt
    have hN : cfg0.N = 32 := by decide
    refine ⟨⟨(i 0 : Nat) / 128, by omega⟩, flush0_6 _, ?_⟩
    obtain ⟨p0, q0, p1, q1, p2, q2, p3, q3, p4, q4, p5, q5, p6, q6, p7, q7⟩ := positions ⟨(i 0 : Nat) / 128, by omega⟩
    rw [mem_block6]
    intro a
    match a with
    | ⟨0, _⟩ =>
      show win0_6.index _ 0 * 128 ≤ (i 0 : Nat) ∧ (i 0 : Nat) < win0_6.index _ 0 * 128 + 128
      rw [p6]; dsimp only; omega
    | ⟨1, _⟩ =>
      show win0_6.index _ 1 * 3584 ≤ (i 1 : Nat) ∧ (i 1 : Nat) < win0_6.index _ 1 * 3584 + 3584
      rw [q6]; dsimp only; omega

theorem place7 (t : Fin cfg0.N) (y : S128x3584.Idx) : ((cfg0.win 7).blk t).view.emb y = place t y := by
  obtain ⟨p0, q0, p1, q1, p2, q2, p3, q3, p4, q4, p5, q5, p6, q6, p7, q7⟩ := positions t
  funext a
  apply Fin.ext
  match a with
  | ⟨0, _⟩ => show win0_7.index t 0 * 128 + 1 * (y 0).val = win0_5.index t 0 * 128 + 1 * (y 0).val; rw [p7, p5]
  | ⟨1, _⟩ => show win0_7.index t 1 * 3584 + 1 * (y 1).val = win0_5.index t 1 * 3584 + 1 * (y 1).val; rw [q7, q5]

theorem flushed_eq7 (c : Dev nD) (t : Fin cfg0.N) :
    (dats m 0 c).flushed 7 t = ((cfg0.win 7).blk t).view.read (Elt Ideal) (seconds m c) := by
  rw [Value.flushed7]
  funext y
  unfold out0_7
  rw [View.canon_unit_zero zeros, View.ld_unit_zero (S := S128x3584) zeros, View.ld_unit_zero (S := S128x3584) zeros]
  show second (iblk m c 1 t y) (iblk m c 3 t y) = seconds m c (((cfg0.win 7).blk t).view.emb y)
  rw [place7]
  rw [block1, block3]

theorem mem_block7 (t : Fin cfg0.N) (i : S4096x3584.Idx) : i ∈ ((cfg0.win 7).blk t).view.set ↔
    ∀ a : Fin 2, win0_7.index t a * S128x3584.size a ≤ (i a : Nat)
      ∧ (i a : Nat) < win0_7.index t a * S128x3584.size a + S128x3584.size a := by
  show i ∈ ((View.whole main_v0_3).slice (win0_7.rect t)).set ↔ _
  rw [View.set_slice_whole, Rect.mem_set_unit]
  exact Iff.rfl

theorem final7 (c : Dev nD) : (dats m 0 c).arrAt 7 cfg0.N = seconds m c :=
  (dats m 0 c).arrAt_eq_of_cover 7 (seconds m c) (fun t _ => flushed_eq7 m c t) fun i => by
    have h0 : (i 0 : Nat) < 4096 := (i 0).isLt
    have h1 : (i 1 : Nat) < 3584 := (i 1).isLt
    have hN : cfg0.N = 32 := by decide
    refine ⟨⟨(i 0 : Nat) / 128, by omega⟩, flush0_7 _, ?_⟩
    obtain ⟨p0, q0, p1, q1, p2, q2, p3, q3, p4, q4, p5, q5, p6, q6, p7, q7⟩ := positions ⟨(i 0 : Nat) / 128, by omega⟩
    rw [mem_block7]
    intro a
    match a with
    | ⟨0, _⟩ =>
      show win0_7.index _ 0 * 128 ≤ (i 0 : Nat) ∧ (i 0 : Nat) < win0_7.index _ 0 * 128 + 128
      rw [p7]; dsimp only; omega
    | ⟨1, _⟩ =>
      show win0_7.index _ 1 * 3584 ≤ (i 1 : Nat) ∧ (i 1 : Nat) < win0_7.index _ 1 * 3584 + 3584
      rw [q7]; dsimp only; omega

end Cert.AdamInIdeal.Update

/-! ## The claims -/

namespace Cert.AdamIn.Claims

open Idealize.ShloMosaic Idealize.ShloMosaic.TcCoe Idealize.SL.Sem
open Cert.AdamInIdeal.Update

theorem algebraic : Cert.algebraic_AdamInIdeal_RefAdamInIdeal := fun m ρ m' ρ' _ hag =>
  ⟨gradient m, changed m, firsts m, seconds m,
    (θ_run _ _ _).mono (fun _ h c => ⟨((h c).1).trans (final4 m c), ((h c).2.1).trans (final5 m c), ((h c).2.2.1).trans (final6 m c), ((h c).2.2.2.1).trans (final7 m c), (h c).2.2.2.2⟩)
      (Cert.AdamInIdeal.Value.run_blocks m ρ),
    (θ_run _ _ _).mono (fun _ h c => by
        obtain ⟨e0, e1, e2, e3⟩ := hag c
        exact ⟨(h c).1.trans (by rw [e1]), (h c).2.1.trans (by rw [e1, e3, e2, e0]; rfl), (h c).2.2.1.trans (by rw [e2, e1]; rfl), (h c).2.2.2.1.trans (by rw [e3, e1]; rfl), (h c).2.2.2.2⟩)
      (Cert.RefAdamInIdeal.Value.run m' ρ')⟩

/-- The reference ends with its arguments unchanged and every counter at zero. -/
theorem reference_quiescent : Cert.quiescent_RefAdamInIdeal := fun m ρ _ =>
  (θ_run _ _ _).mono (fun r h => ⟨fun c => (h c).2.2.2.2, sem_eq_zero_of_no_sems (by decide) r.2⟩)
    (Cert.RefAdamInIdeal.Value.run m ρ)

end Cert.AdamIn.Claims

end
-- ==== Proof.AdamOutValue.lean ====
module

public import proofs.«01_k».proof.Proof.Gen.AdamOutIdeal.Value
public import proofs.«01_k».proof.Proof.Gen.RefAdamOutIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section
/-! The optimiser's update of the output projection: each element of the results is the update of that element. -/

namespace Cert.AdamOutIdeal.Update

open Cert.AdamOutIdeal Cert.AdamOutIdeal.Gen Idealize.ShloMosaic Idealize.ShloMosaic.TcCoe Idealize.SL.Sem
open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The gradient, handed on. -/
abbrev gradient (c : Dev nD) : Buf (Elt Ideal) ((c : Thread nD τ).loc main_v0_0) :=
  (fun i => (m ((c : Thread nD τ).loc main_arg1) i) : Vec Ideal S1024x4096 .f32)

/-- The change of every weight. -/
abbrev changed (c : Dev nD) : Buf (Elt Ideal) ((c : Thread nD τ).loc main_v0_1) :=
  (fun i => change (m ((c : Thread nD τ).loc main_arg0) i) (m ((c : Thread nD τ).loc main_arg1) i) (m ((c : Thread nD τ).loc main_arg2) i) (m ((c : Thread nD τ).loc main_arg3) i) : Vec Ideal S1024x4096 .f32)

/-- The new first moments. -/
abbrev firsts (c : Dev nD) : Buf (Elt Ideal) ((c : Thread nD τ).loc main_v0_2) :=
  (fun i => first (m ((c : Thread nD τ).loc main_arg1) i) (m ((c : Thread nD τ).loc main_arg2) i) : Vec Ideal S1024x4096 .f32)

/-- The new second moments. -/
abbrev seconds (c : Dev nD) : Buf (Elt Ideal) ((c : Thread nD τ).loc main_v0_3) :=
  (fun i => second (m ((c : Thread nD τ).loc main_arg1) i) (m ((c : Thread nD τ).loc main_arg3) i) : Vec Ideal S1024x4096 .f32)

/-- Every window's block stands at the grid point's own place. -/
theorem positions : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0
    ∧ win0_7.index t (0 : Fin 2) = t.val
    ∧ win0_7.index t (1 : Fin 2) = 0 :=
  (by decide +kernel : ∀ t : Fin grid0.N, _)

/-- Where an element of the block of point `t` lies in the array. -/
def place (t : Fin cfg0.N) (y : S128x4096.Idx) : S1024x4096.Idx := ((cfg0.win 5).blk t).view.emb y

/-- Argument 0's block, element by element. -/
theorem block0 (c : Dev nD) (t : Fin cfg0.N) (y : S128x4096.Idx) :
    iblk m c 0 t y = m ((c : Thread nD τ).loc main_arg0) (place t y) := by
  show V m c main_arg0 _ = _
  rw [V_main_arg0]
  rfl

/-- Argument 1's block, element by element. -/
theorem block1 (c : Dev nD) (t : Fin cfg0.N) (y : S128x4096.Idx) :
    iblk m c 1 t y = m ((c : Thread nD τ).loc main_arg1) (place t y) := by
  show V m c main_arg1 _ = _
  rw [V_main_arg1]
  rfl

/-- Argument 2's block, element by element. -/
theorem block2 (c : Dev nD) (t : Fin cfg0.N) (y : S128x4096.Idx) :
    iblk m c 2 t y = m ((c : Thread nD τ).loc main_arg2) (place t y) := by
  show V m c main_arg2 _ = _
  rw [V_main_arg2]
  rfl

/-- Argument 3's block, element by element. -/
theorem block3 (c : Dev nD) (t : Fin cfg0.N) (y : S128x4096.Idx) :
    iblk m c 3 t y = m ((c : Thread nD τ).loc main_arg3) (place t y) := by
  show V m c main_arg3 _ = _
  rw [V_main_arg3]
  rfl

theorem place4 (t : Fin cfg0.N) (y : S128x4096.Idx) : ((cfg0.win 4).blk t).view.emb y = place t y := by
  obtain ⟨p0, q0, p1, q1, p2, q2, p3, q3, p4, q4, p5, q5, p6, q6, p7, q7⟩ := positions t
  funext a
  apply Fin.ext
  match a with
  | ⟨0, _⟩ => show win0_4.index t 0 * 128 + 1 * (y 0).val = win0_5.index t 0 * 128 + 1 * (y 0).val; rw [p4, p5]
  | ⟨1, _⟩ => show win0_4.index t 1 * 4096 + 1 * (y 1).val = win0_5.index t 1 * 4096 + 1 * (y 1).val; rw [q4, q5]

theorem flushed_eq4 (c : Dev nD) (t : Fin cfg0.N) :
    (dats m 0 c).flushed 4 t = ((cfg0.win 4).blk t).view.read (Elt Ideal) (gradient m c) := by
  rw [Value.flushed4]
  funext y
  unfold out0_4
  rw [View.canon_unit_zero zeros, View.ld_unit_zero (S := S128x4096) zeros]
  show iblk m c 1 t y = gradient m c (((cfg0.win 4).blk t).view.emb y)
  rw [place4]
  rw [block1]

theorem mem_block4 (t : Fin cfg0.N) (i : S1024x4096.Idx) : i ∈ ((cfg0.win 4).blk t).view.set ↔
    ∀ a : Fin 2, win0_4.index t a * S128x4096.size a ≤ (i a : Nat)
      ∧ (i a : Nat) < win0_4.index t a * S128x4096.size a + S128x4096.size a := by
  show i ∈ ((View.whole main_v0_0).slice (win0_4.rect t)).set ↔ _
  rw [View.set_slice_whole, Rect.mem_set_unit]
  exact Iff.rfl

theorem final4 (c : Dev nD) : (dats m 0 c).arrAt 4 cfg0.N = gradient m c :=
  (dats m 0 c).arrAt_eq_of_cover 4 (gradient m c) (fun t _ => flushed_eq4 m c t) fun i => by
    have h0 : (i 0 : Nat) < 1024 := (i 0).isLt
    have h1 : (i 1 : Nat) < 4096 := (i 1).isLt
    have hN : cfg0.N = 8 := by decide
    refine ⟨⟨(i 0 : Nat) / 128, by omega⟩, flush0_4 _, ?_⟩
    obtain ⟨p0, q0, p1, q1, p2, q2, p3, q3, p4, q4, p5, q5, p6, q6, p7, q7⟩ := positions ⟨(i 0 : Nat) / 128, by omega⟩
    rw [mem_block4]
    intro a
    match a with
    | ⟨0, _⟩ =>
      show win0_4.index _ 0 * 128 ≤ (i 0 : Nat) ∧ (i 0 : Nat) < win0_4.index _ 0 * 128 + 128
      rw [p4]; dsimp only; omega
    | ⟨1, _⟩ =>
      show win0_4.index _ 1 * 4096 ≤ (i 1 : Nat) ∧ (i 1 : Nat) < win0_4.index _ 1 * 4096 + 4096
      rw [q4]; dsimp only; omega

theorem flushed_eq5 (c : Dev nD) (t : Fin cfg0.N) :
    (dats m 0 c).flushed 5 t = ((cfg0.win 5).blk t).view.read (Elt Ideal) (changed m c) := by
  rw [Value.flushed5]
  funext y
  unfold out0_5
  rw [View.canon_unit_zero zeros, View.ld_unit_zero (S := S128x4096) zeros, View.ld_unit_zero (S := S128x4096) zeros, View.ld_unit_zero (S := S128x4096) zeros, View.ld_unit_zero (S := S128x4096) zeros]
  show change (iblk m c 0 t y) (iblk m c 1 t y) (iblk m c 2 t y) (iblk m c 3 t y) = changed m c (((cfg0.win 5).blk t).view.emb y)
  rw [block0, block1, block2, block3]
  rfl

theorem mem_block5 (t : Fin cfg0.N) (i : S1024x4096.Idx) : i ∈ ((cfg0.win 5).blk t).view.set ↔
    ∀ a : Fin 2, win0_5.index t a * S128x4096.size a ≤ (i a : Nat)
      ∧ (i a : Nat) < win0_5.index t a * S128x4096.size a + S128x4096.size a := by
  show i ∈ ((View.whole main_v0_1).slice (win0_5.rect t)).set ↔ _
  rw [View.set_slice_whole, Rect.mem_set_unit]
  exact Iff.rfl

theorem final5 (c : Dev nD) : (dats m 0 c).arrAt 5 cfg0.N = changed m c :=
  (dats m 0 c).arrAt_eq_of_cover 5 (changed m c) (fun t _ => flushed_eq5 m c t) fun i => by
    have h0 : (i 0 : Nat) < 1024 := (i 0).isLt
    have h1 : (i 1 : Nat) < 4096 := (i 1).isLt
    have hN : cfg0.N = 8 := by decide
    refine ⟨⟨(i 0 : Nat) / 128, by omega⟩, flush0_5 _, ?_⟩
    obtain ⟨p0, q0, p1, q1, p2, q2, p3, q3, p4, q4, p5, q5, p6, q6, p7, q7⟩ := positions ⟨(i 0 : Nat) / 128, by omega⟩
    rw [mem_block5]
    intro a
    match a with
    | ⟨0, _⟩ =>
      show win0_5.index _ 0 * 128 ≤ (i 0 : Nat) ∧ (i 0 : Nat) < win0_5.index _ 0 * 128 + 128
      rw [p5]; dsimp only; omega
    | ⟨1, _⟩ =>
      show win0_5.index _ 1 * 4096 ≤ (i 1 : Nat) ∧ (i 1 : Nat) < win0_5.index _ 1 * 4096 + 4096
      rw [q5]; dsimp only; omega

theorem place6 (t : Fin cfg0.N) (y : S128x4096.Idx) : ((cfg0.win 6).blk t).view.emb y = place t y := by
  obtain ⟨p0, q0, p1, q1, p2, q2, p3, q3, p4, q4, p5, q5, p6, q6, p7, q7⟩ := positions t
  funext a
  apply Fin.ext
  match a with
  | ⟨0, _⟩ => show win0_6.index t 0 * 128 + 1 * (y 0).val = win0_5.index t 0 * 128 + 1 * (y 0).val; rw [p6, p5]
  | ⟨1, _⟩ => show win0_6.index t 1 * 4096 + 1 * (y 1).val = win0_5.index t 1 * 4096 + 1 * (y 1).val; rw [q6, q5]

theorem flushed_eq6 (c : Dev nD) (t : Fin cfg0.N) :
    (dats m 0 c).flushed 6 t = ((cfg0.win 6).blk t).view.read (Elt Ideal) (firsts m c) := by
  rw [Value.flushed6]
  funext y
  unfold out0_6
  rw [View.canon_unit_zero zeros, View.ld_unit_zero (S := S128x4096) zeros, View.ld_unit_zero (S := S128x4096) zeros]
  show first (iblk m c 1 t y) (iblk m c 2 t y) = firsts m c (((cfg0.win 6).blk t).view.emb y)
  rw [place6]
  rw [block1, block2]

theorem mem_block6 (t : Fin cfg0.N) (i : S1024x4096.Idx) : i ∈ ((cfg0.win 6).blk t).view.set ↔
    ∀ a : Fin 2, win0_6.index t a * S128x4096.size a ≤ (i a : Nat)
      ∧ (i a : Nat) < win0_6.index t a * S128x4096.size a + S128x4096.size a := by
  show i ∈ ((View.whole main_v0_2).slice (win0_6.rect t)).set ↔ _
  rw [View.set_slice_whole, Rect.mem_set_unit]
  exact Iff.rfl

theorem final6 (c : Dev nD) : (dats m 0 c).arrAt 6 cfg0.N = firsts m c :=
  (dats m 0 c).arrAt_eq_of_cover 6 (firsts m c) (fun t _ => flushed_eq6 m c t) fun i => by
    have h0 : (i 0 : Nat) < 1024 := (i 0).isLt
    have h1 : (i 1 : Nat) < 4096 := (i 1).isLt
    have hN : cfg0.N = 8 := by decide
    refine ⟨⟨(i 0 : Nat) / 128, by omega⟩, flush0_6 _, ?_⟩
    obtain ⟨p0, q0, p1, q1, p2, q2, p3, q3, p4, q4, p5, q5, p6, q6, p7, q7⟩ := positions ⟨(i 0 : Nat) / 128, by omega⟩
    rw [mem_block6]
    intro a
    match a with
    | ⟨0, _⟩ =>
      show win0_6.index _ 0 * 128 ≤ (i 0 : Nat) ∧ (i 0 : Nat) < win0_6.index _ 0 * 128 + 128
      rw [p6]; dsimp only; omega
    | ⟨1, _⟩ =>
      show win0_6.index _ 1 * 4096 ≤ (i 1 : Nat) ∧ (i 1 : Nat) < win0_6.index _ 1 * 4096 + 4096
      rw [q6]; dsimp only; omega

theorem place7 (t : Fin cfg0.N) (y : S128x4096.Idx) : ((cfg0.win 7).blk t).view.emb y = place t y := by
  obtain ⟨p0, q0, p1, q1, p2, q2, p3, q3, p4, q4, p5, q5, p6, q6, p7, q7⟩ := positions t
  funext a
  apply Fin.ext
  match a with
  | ⟨0, _⟩ => show win0_7.index t 0 * 128 + 1 * (y 0).val = win0_5.index t 0 * 128 + 1 * (y 0).val; rw [p7, p5]
  | ⟨1, _⟩ => show win0_7.index t 1 * 4096 + 1 * (y 1).val = win0_5.index t 1 * 4096 + 1 * (y 1).val; rw [q7, q5]

theorem flushed_eq7 (c : Dev nD) (t : Fin cfg0.N) :
    (dats m 0 c).flushed 7 t = ((cfg0.win 7).blk t).view.read (Elt Ideal) (seconds m c) := by
  rw [Value.flushed7]
  funext y
  unfold out0_7
  rw [View.canon_unit_zero zeros, View.ld_unit_zero (S := S128x4096) zeros, View.ld_unit_zero (S := S128x4096) zeros]
  show second (iblk m c 1 t y) (iblk m c 3 t y) = seconds m c (((cfg0.win 7).blk t).view.emb y)
  rw [place7]
  rw [block1, block3]

theorem mem_block7 (t : Fin cfg0.N) (i : S1024x4096.Idx) : i ∈ ((cfg0.win 7).blk t).view.set ↔
    ∀ a : Fin 2, win0_7.index t a * S128x4096.size a ≤ (i a : Nat)
      ∧ (i a : Nat) < win0_7.index t a * S128x4096.size a + S128x4096.size a := by
  show i ∈ ((View.whole main_v0_3).slice (win0_7.rect t)).set ↔ _
  rw [View.set_slice_whole, Rect.mem_set_unit]
  exact Iff.rfl

theorem final7 (c : Dev nD) : (dats m 0 c).arrAt 7 cfg0.N = seconds m c :=
  (dats m 0 c).arrAt_eq_of_cover 7 (seconds m c) (fun t _ => flushed_eq7 m c t) fun i => by
    have h0 : (i 0 : Nat) < 1024 := (i 0).isLt
    have h1 : (i 1 : Nat) < 4096 := (i 1).isLt
    have hN : cfg0.N = 8 := by decide
    refine ⟨⟨(i 0 : Nat) / 128, by omega⟩, flush0_7 _, ?_⟩
    obtain ⟨p0, q0, p1, q1, p2, q2, p3, q3, p4, q4, p5, q5, p6, q6, p7, q7⟩ := positions ⟨(i 0 : Nat) / 128, by omega⟩
    rw [mem_block7]
    intro a
    match a with
    | ⟨0, _⟩ =>
      show win0_7.index _ 0 * 128 ≤ (i 0 : Nat) ∧ (i 0 : Nat) < win0_7.index _ 0 * 128 + 128
      rw [p7]; dsimp only; omega
    | ⟨1, _⟩ =>
      show win0_7.index _ 1 * 4096 ≤ (i 1 : Nat) ∧ (i 1 : Nat) < win0_7.index _ 1 * 4096 + 4096
      rw [q7]; dsimp only; omega

end Cert.AdamOutIdeal.Update

/-! ## The claims -/

namespace Cert.AdamOut.Claims

open Idealize.ShloMosaic Idealize.ShloMosaic.TcCoe Idealize.SL.Sem
open Cert.AdamOutIdeal.Update

theorem algebraic : Cert.algebraic_AdamOutIdeal_RefAdamOutIdeal := fun m ρ m' ρ' _ hag =>
  ⟨gradient m, changed m, firsts m, seconds m,
    (θ_run _ _ _).mono (fun _ h c => ⟨((h c).1).trans (final4 m c), ((h c).2.1).trans (final5 m c), ((h c).2.2.1).trans (final6 m c), ((h c).2.2.2.1).trans (final7 m c), (h c).2.2.2.2⟩)
      (Cert.AdamOutIdeal.Value.run_blocks m ρ),
    (θ_run _ _ _).mono (fun _ h c => by
        obtain ⟨e0, e1, e2, e3⟩ := hag c
        exact ⟨(h c).1.trans (by rw [e1]), (h c).2.1.trans (by rw [e1, e3, e2, e0]; rfl), (h c).2.2.1.trans (by rw [e2, e1]; rfl), (h c).2.2.2.1.trans (by rw [e3, e1]; rfl), (h c).2.2.2.2⟩)
      (Cert.RefAdamOutIdeal.Value.run m' ρ')⟩

/-- The reference ends with its arguments unchanged and every counter at zero. -/
theorem reference_quiescent : Cert.quiescent_RefAdamOutIdeal := fun m ρ _ =>
  (θ_run _ _ _).mono (fun r h => ⟨fun c => (h c).2.2.2.2, sem_eq_zero_of_no_sems (by decide) r.2⟩)
    (Cert.RefAdamOutIdeal.Value.run m ρ)

end Cert.AdamOut.Claims

end
-- ==== Proof.AdamModelValue.lean ====
module

public import proofs.«01_k».proof.Proof.Gen.AdamModelIdeal.Value
public import proofs.«01_k».proof.Proof.Gen.RefAdamModelIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section
/-! The optimiser's update of a gain of the model width: each element of the results is the update of that element. -/

namespace Cert.AdamModelIdeal.Update

open Cert.AdamModelIdeal Cert.AdamModelIdeal.Gen Idealize.ShloMosaic Idealize.ShloMosaic.TcCoe Idealize.SL.Sem
open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The change of every weight. -/
abbrev changed (c : Dev nD) : Buf (Elt Ideal) ((c : Thread nD τ).loc main_v0_0) :=
  (fun i => change (m ((c : Thread nD τ).loc main_arg0) i) (m ((c : Thread nD τ).loc main_arg1) i) (m ((c : Thread nD τ).loc main_arg2) i) (m ((c : Thread nD τ).loc main_arg3) i) : Vec Ideal S1x4096 .f32)

/-- The new first moments. -/
abbrev firsts (c : Dev nD) : Buf (Elt Ideal) ((c : Thread nD τ).loc main_v0_1) :=
  (fun i => first (m ((c : Thread nD τ).loc main_arg1) i) (m ((c : Thread nD τ).loc main_arg2) i) : Vec Ideal S1x4096 .f32)

/-- The new second moments. -/
abbrev seconds (c : Dev nD) : Buf (Elt Ideal) ((c : Thread nD τ).loc main_v0_2) :=
  (fun i => second (m ((c : Thread nD τ).loc main_arg1) i) (m ((c : Thread nD τ).loc main_arg3) i) : Vec Ideal S1x4096 .f32)

/-- Every window's block stands at the grid point's own place. -/
theorem positions : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- Where an element of the block of point `t` lies in the array. -/
def place (t : Fin cfg0.N) (y : S1x4096.Idx) : S1x4096.Idx := ((cfg0.win 4).blk t).view.emb y

/-- Argument 0's block, element by element. -/
theorem block0 (c : Dev nD) (t : Fin cfg0.N) (y : S1x4096.Idx) :
    iblk m c 0 t y = m ((c : Thread nD τ).loc main_arg0) (place t y) := by
  show V m c main_arg0 _ = _
  rw [V_main_arg0]
  rfl

/-- Argument 1's block, element by element. -/
theorem block1 (c : Dev nD) (t : Fin cfg0.N) (y : S1x4096.Idx) :
    iblk m c 1 t y = m ((c : Thread nD τ).loc main_arg1) (place t y) := by
  show V m c main_arg1 _ = _
  rw [V_main_arg1]
  rfl

/-- Argument 2's block, element by element. -/
theorem block2 (c : Dev nD) (t : Fin cfg0.N) (y : S1x4096.Idx) :
    iblk m c 2 t y = m ((c : Thread nD τ).loc main_arg2) (place t y) := by
  show V m c main_arg2 _ = _
  rw [V_main_arg2]
  rfl

/-- Argument 3's block, element by element. -/
theorem block3 (c : Dev nD) (t : Fin cfg0.N) (y : S1x4096.Idx) :
    iblk m c 3 t y = m ((c : Thread nD τ).loc main_arg3) (place t y) := by
  show V m c main_arg3 _ = _
  rw [V_main_arg3]
  rfl

theorem flushed_eq4 (c : Dev nD) (t : Fin cfg0.N) :
    (dats m 0 c).flushed 4 t = ((cfg0.win 4).blk t).view.read (Elt Ideal) (changed m c) := by
  rw [Value.flushed4]
  funext y
  unfold out0_4
  rw [View.canon_unit_zero zeros, View.ld_unit_zero (S := S1x4096) zeros, View.ld_unit_zero (S := S1x4096) zeros, View.ld_unit_zero (S := S1x4096) zeros, View.ld_unit_zero (S := S1x4096) zeros]
  show change (iblk m c 0 t y) (iblk m c 1 t y) (iblk m c 2 t y) (iblk m c 3 t y) = changed m c (((cfg0.win 4).blk t).view.emb y)
  rw [block0, block1, block2, block3]
  rfl

theorem mem_block4 (t : Fin cfg0.N) (i : S1x4096.Idx) : i ∈ ((cfg0.win 4).blk t).view.set ↔
    ∀ a : Fin 2, win0_4.index t a * S1x4096.size a ≤ (i a : Nat)
      ∧ (i a : Nat) < win0_4.index t a * S1x4096.size a + S1x4096.size a := by
  show i ∈ ((View.whole main_v0_0).slice (win0_4.rect t)).set ↔ _
  rw [View.set_slice_whole, Rect.mem_set_unit]
  exact Iff.rfl

theorem final4 (c : Dev nD) : (dats m 0 c).arrAt 4 cfg0.N = changed m c :=
  (dats m 0 c).arrAt_eq_of_cover 4 (changed m c) (fun t _ => flushed_eq4 m c t) fun i => by
    have h0 : (i 0 : Nat) < 1 := (i 0).isLt
    have h1 : (i 1 : Nat) < 4096 := (i 1).isLt
    have hN : cfg0.N = 1 := by decide
    refine ⟨⟨(i 0 : Nat) / 1, by omega⟩, flush0_4 _, ?_⟩
    obtain ⟨p0, q0, p1, q1, p2, q2, p3, q3, p4, q4, p5, q5, p6, q6⟩ := positions ⟨(i 0 : Nat) / 1, by omega⟩
    rw [mem_block4]
    intro a
    match a with
    | ⟨0, _⟩ =>
      show win0_4.index _ 0 * 1 ≤ (i 0 : Nat) ∧ (i 0 : Nat) < win0_4.index _ 0 * 1 + 1
      rw [p4]; dsimp only; omega
    | ⟨1, _⟩ =>
      show win0_4.index _ 1 * 4096 ≤ (i 1 : Nat) ∧ (i 1 : Nat) < win0_4.index _ 1 * 4096 + 4096
      rw [q4]; dsimp only; omega

theorem place5 (t : Fin cfg0.N) (y : S1x4096.Idx) : ((cfg0.win 5).blk t).view.emb y = place t y := by
  obtain ⟨p0, q0, p1, q1, p2, q2, p3, q3, p4, q4, p5, q5, p6, q6⟩ := positions t
  funext a
  apply Fin.ext
  match a with
  | ⟨0, _⟩ => show win0_5.index t 0 * 1 + 1 * (y 0).val = win0_4.index t 0 * 1 + 1 * (y 0).val; rw [p5, p4]
  | ⟨1, _⟩ => show win0_5.index t 1 * 4096 + 1 * (y 1).val = win0_4.index t 1 * 4096 + 1 * (y 1).val; rw [q5, q4]

theorem flushed_eq5 (c : Dev nD) (t : Fin cfg0.N) :
    (dats m 0 c).flushed 5 t = ((cfg0.win 5).blk t).view.read (Elt Ideal) (firsts m c) := by
  rw [Value.flushed5]
  funext y
  unfold out0_5
  rw [View.canon_unit_zero zeros, View.ld_unit_zero (S := S1x4096) zeros, View.ld_unit_zero (S := S1x4096) zeros]
  show first (iblk m c 1 t y) (iblk m c 2 t y) = firsts m c (((cfg0.win 5).blk t).view.emb y)
  rw [place5]
  rw [block1, block2]

theorem mem_block5 (t : Fin cfg0.N) (i : S1x4096.Idx) : i ∈ ((cfg0.win 5).blk t).view.set ↔
    ∀ a : Fin 2, win0_5.index t a * S1x4096.size a ≤ (i a : Nat)
      ∧ (i a : Nat) < win0_5.index t a * S1x4096.size a + S1x4096.size a := by
  show i ∈ ((View.whole main_v0_1).slice (win0_5.rect t)).set ↔ _
  rw [View.set_slice_whole, Rect.mem_set_unit]
  exact Iff.rfl

theorem final5 (c : Dev nD) : (dats m 0 c).arrAt 5 cfg0.N = firsts m c :=
  (dats m 0 c).arrAt_eq_of_cover 5 (firsts m c) (fun t _ => flushed_eq5 m c t) fun i => by
    have h0 : (i 0 : Nat) < 1 := (i 0).isLt
    have h1 : (i 1 : Nat) < 4096 := (i 1).isLt
    have hN : cfg0.N = 1 := by decide
    refine ⟨⟨(i 0 : Nat) / 1, by omega⟩, flush0_5 _, ?_⟩
    obtain ⟨p0, q0, p1, q1, p2, q2, p3, q3, p4, q4, p5, q5, p6, q6⟩ := positions ⟨(i 0 : Nat) / 1, by omega⟩
    rw [mem_block5]
    intro a
    match a with
    | ⟨0, _⟩ =>
      show win0_5.index _ 0 * 1 ≤ (i 0 : Nat) ∧ (i 0 : Nat) < win0_5.index _ 0 * 1 + 1
      rw [p5]; dsimp only; omega
    | ⟨1, _⟩ =>
      show win0_5.index _ 1 * 4096 ≤ (i 1 : Nat) ∧ (i 1 : Nat) < win0_5.index _ 1 * 4096 + 4096
      rw [q5]; dsimp only; omega

theorem place6 (t : Fin cfg0.N) (y : S1x4096.Idx) : ((cfg0.win 6).blk t).view.emb y = place t y := by
  obtain ⟨p0, q0, p1, q1, p2, q2, p3, q3, p4, q4, p5, q5, p6, q6⟩ := positions t
  funext a
  apply Fin.ext
  match a with
  | ⟨0, _⟩ => show win0_6.index t 0 * 1 + 1 * (y 0).val = win0_4.index t 0 * 1 + 1 * (y 0).val; rw [p6, p4]
  | ⟨1, _⟩ => show win0_6.index t 1 * 4096 + 1 * (y 1).val = win0_4.index t 1 * 4096 + 1 * (y 1).val; rw [q6, q4]

theorem flushed_eq6 (c : Dev nD) (t : Fin cfg0.N) :
    (dats m 0 c).flushed 6 t = ((cfg0.win 6).blk t).view.read (Elt Ideal) (seconds m c) := by
  rw [Value.flushed6]
  funext y
  unfold out0_6
  rw [View.canon_unit_zero zeros, View.ld_unit_zero (S := S1x4096) zeros, View.ld_unit_zero (S := S1x4096) zeros]
  show second (iblk m c 1 t y) (iblk m c 3 t y) = seconds m c (((cfg0.win 6).blk t).view.emb y)
  rw [place6]
  rw [block1, block3]

theorem mem_block6 (t : Fin cfg0.N) (i : S1x4096.Idx) : i ∈ ((cfg0.win 6).blk t).view.set ↔
    ∀ a : Fin 2, win0_6.index t a * S1x4096.size a ≤ (i a : Nat)
      ∧ (i a : Nat) < win0_6.index t a * S1x4096.size a + S1x4096.size a := by
  show i ∈ ((View.whole main_v0_2).slice (win0_6.rect t)).set ↔ _
  rw [View.set_slice_whole, Rect.mem_set_unit]
  exact Iff.rfl

theorem final6 (c : Dev nD) : (dats m 0 c).arrAt 6 cfg0.N = seconds m c :=
  (dats m 0 c).arrAt_eq_of_cover 6 (seconds m c) (fun t _ => flushed_eq6 m c t) fun i => by
    have h0 : (i 0 : Nat) < 1 := (i 0).isLt
    have h1 : (i 1 : Nat) < 4096 := (i 1).isLt
    have hN : cfg0.N = 1 := by decide
    refine ⟨⟨(i 0 : Nat) / 1, by omega⟩, flush0_6 _, ?_⟩
    obtain ⟨p0, q0, p1, q1, p2, q2, p3, q3, p4, q4, p5, q5, p6, q6⟩ := positions ⟨(i 0 : Nat) / 1, by omega⟩
    rw [mem_block6]
    intro a
    match a with
    | ⟨0, _⟩ =>
      show win0_6.index _ 0 * 1 ≤ (i 0 : Nat) ∧ (i 0 : Nat) < win0_6.index _ 0 * 1 + 1
      rw [p6]; dsimp only; omega
    | ⟨1, _⟩ =>
      show win0_6.index _ 1 * 4096 ≤ (i 1 : Nat) ∧ (i 1 : Nat) < win0_6.index _ 1 * 4096 + 4096
      rw [q6]; dsimp only; omega

end Cert.AdamModelIdeal.Update

/-! ## The claims -/

namespace Cert.AdamModel.Claims

open Idealize.ShloMosaic Idealize.ShloMosaic.TcCoe Idealize.SL.Sem
open Cert.AdamModelIdeal.Update

theorem algebraic : Cert.algebraic_AdamModelIdeal_RefAdamModelIdeal := fun m ρ m' ρ' _ hag =>
  ⟨changed m, firsts m, seconds m,
    (θ_run _ _ _).mono (fun _ h c => ⟨((h c).1).trans (final4 m c), ((h c).2.1).trans (final5 m c), ((h c).2.2.1).trans (final6 m c), (h c).2.2.2⟩)
      (Cert.AdamModelIdeal.Value.run_blocks m ρ),
    (θ_run _ _ _).mono (fun _ h c => by
        obtain ⟨e0, e1, e2, e3⟩ := hag c
        exact ⟨(h c).1.trans (by rw [e1, e3, e2, e0]; rfl), (h c).2.1.trans (by rw [e2, e1]; rfl), (h c).2.2.1.trans (by rw [e3, e1]; rfl), (h c).2.2.2⟩)
      (Cert.RefAdamModelIdeal.Value.run m' ρ')⟩

/-- The reference ends with its arguments unchanged and every counter at zero. -/
theorem reference_quiescent : Cert.quiescent_RefAdamModelIdeal := fun m ρ _ =>
  (θ_run _ _ _).mono (fun r h => ⟨fun c => (h c).2.2.2, sem_eq_zero_of_no_sems (by decide) r.2⟩)
    (Cert.RefAdamModelIdeal.Value.run m ρ)

end Cert.AdamModel.Claims

end
-- ==== Proof.AdamModValue.lean ====
module

public import proofs.«01_k».proof.Proof.Gen.AdamModIdeal.Value
public import proofs.«01_k».proof.Proof.Gen.RefAdamModIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section
/-! The optimiser's update of the modulation bias: each element of the results is the update of that element. -/

namespace Cert.AdamModIdeal.Update

open Cert.AdamModIdeal Cert.AdamModIdeal.Gen Idealize.ShloMosaic Idealize.ShloMosaic.TcCoe Idealize.SL.Sem
open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The change of every weight. -/
abbrev changed (c : Dev nD) : Buf (Elt Ideal) ((c : Thread nD τ).loc main_v0_0) :=
  (fun i => change (m ((c : Thread nD τ).loc main_arg0) i) (m ((c : Thread nD τ).loc main_arg1) i) (m ((c : Thread nD τ).loc main_arg2) i) (m ((c : Thread nD τ).loc main_arg3) i) : Vec Ideal S1x12288 .f32)

/-- The new first moments. -/
abbrev firsts (c : Dev nD) : Buf (Elt Ideal) ((c : Thread nD τ).loc main_v0_1) :=
  (fun i => first (m ((c : Thread nD τ).loc main_arg1) i) (m ((c : Thread nD τ).loc main_arg2) i) : Vec Ideal S1x12288 .f32)

/-- The new second moments. -/
abbrev seconds (c : Dev nD) : Buf (Elt Ideal) ((c : Thread nD τ).loc main_v0_2) :=
  (fun i => second (m ((c : Thread nD τ).loc main_arg1) i) (m ((c : Thread nD τ).loc main_arg3) i) : Vec Ideal S1x12288 .f32)

/-- Every window's block stands at the grid point's own place. -/
theorem positions : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- Where an element of the block of point `t` lies in the array. -/
def place (t : Fin cfg0.N) (y : S1x12288.Idx) : S1x12288.Idx := ((cfg0.win 4).blk t).view.emb y

/-- Argument 0's block, element by element. -/
theorem block0 (c : Dev nD) (t : Fin cfg0.N) (y : S1x12288.Idx) :
    iblk m c 0 t y = m ((c : Thread nD τ).loc main_arg0) (place t y) := by
  show V m c main_arg0 _ = _
  rw [V_main_arg0]
  rfl

/-- Argument 1's block, element by element. -/
theorem block1 (c : Dev nD) (t : Fin cfg0.N) (y : S1x12288.Idx) :
    iblk m c 1 t y = m ((c : Thread nD τ).loc main_arg1) (place t y) := by
  show V m c main_arg1 _ = _
  rw [V_main_arg1]
  rfl

/-- Argument 2's block, element by element. -/
theorem block2 (c : Dev nD) (t : Fin cfg0.N) (y : S1x12288.Idx) :
    iblk m c 2 t y = m ((c : Thread nD τ).loc main_arg2) (place t y) := by
  show V m c main_arg2 _ = _
  rw [V_main_arg2]
  rfl

/-- Argument 3's block, element by element. -/
theorem block3 (c : Dev nD) (t : Fin cfg0.N) (y : S1x12288.Idx) :
    iblk m c 3 t y = m ((c : Thread nD τ).loc main_arg3) (place t y) := by
  show V m c main_arg3 _ = _
  rw [V_main_arg3]
  rfl

theorem flushed_eq4 (c : Dev nD) (t : Fin cfg0.N) :
    (dats m 0 c).flushed 4 t = ((cfg0.win 4).blk t).view.read (Elt Ideal) (changed m c) := by
  rw [Value.flushed4]
  funext y
  unfold out0_4
  rw [View.canon_unit_zero zeros, View.ld_unit_zero (S := S1x12288) zeros, View.ld_unit_zero (S := S1x12288) zeros, View.ld_unit_zero (S := S1x12288) zeros, View.ld_unit_zero (S := S1x12288) zeros]
  show change (iblk m c 0 t y) (iblk m c 1 t y) (iblk m c 2 t y) (iblk m c 3 t y) = changed m c (((cfg0.win 4).blk t).view.emb y)
  rw [block0, block1, block2, block3]
  rfl

theorem mem_block4 (t : Fin cfg0.N) (i : S1x12288.Idx) : i ∈ ((cfg0.win 4).blk t).view.set ↔
    ∀ a : Fin 2, win0_4.index t a * S1x12288.size a ≤ (i a : Nat)
      ∧ (i a : Nat) < win0_4.index t a * S1x12288.size a + S1x12288.size a := by
  show i ∈ ((View.whole main_v0_0).slice (win0_4.rect t)).set ↔ _
  rw [View.set_slice_whole, Rect.mem_set_unit]
  exact Iff.rfl

theorem final4 (c : Dev nD) : (dats m 0 c).arrAt 4 cfg0.N = changed m c :=
  (dats m 0 c).arrAt_eq_of_cover 4 (changed m c) (fun t _ => flushed_eq4 m c t) fun i => by
    have h0 : (i 0 : Nat) < 1 := (i 0).isLt
    have h1 : (i 1 : Nat) < 12288 := (i 1).isLt
    have hN : cfg0.N = 1 := by decide
    refine ⟨⟨(i 0 : Nat) / 1, by omega⟩, flush0_4 _, ?_⟩
    obtain ⟨p0, q0, p1, q1, p2, q2, p3, q3, p4, q4, p5, q5, p6, q6⟩ := positions ⟨(i 0 : Nat) / 1, by omega⟩
    rw [mem_block4]
    intro a
    match a with
    | ⟨0, _⟩ =>
      show win0_4.index _ 0 * 1 ≤ (i 0 : Nat) ∧ (i 0 : Nat) < win0_4.index _ 0 * 1 + 1
      rw [p4]; dsimp only; omega
    | ⟨1, _⟩ =>
      show win0_4.index _ 1 * 12288 ≤ (i 1 : Nat) ∧ (i 1 : Nat) < win0_4.index _ 1 * 12288 + 12288
      rw [q4]; dsimp only; omega

theorem place5 (t : Fin cfg0.N) (y : S1x12288.Idx) : ((cfg0.win 5).blk t).view.emb y = place t y := by
  obtain ⟨p0, q0, p1, q1, p2, q2, p3, q3, p4, q4, p5, q5, p6, q6⟩ := positions t
  funext a
  apply Fin.ext
  match a with
  | ⟨0, _⟩ => show win0_5.index t 0 * 1 + 1 * (y 0).val = win0_4.index t 0 * 1 + 1 * (y 0).val; rw [p5, p4]
  | ⟨1, _⟩ => show win0_5.index t 1 * 12288 + 1 * (y 1).val = win0_4.index t 1 * 12288 + 1 * (y 1).val; rw [q5, q4]

theorem flushed_eq5 (c : Dev nD) (t : Fin cfg0.N) :
    (dats m 0 c).flushed 5 t = ((cfg0.win 5).blk t).view.read (Elt Ideal) (firsts m c) := by
  rw [Value.flushed5]
  funext y
  unfold out0_5
  rw [View.canon_unit_zero zeros, View.ld_unit_zero (S := S1x12288) zeros, View.ld_unit_zero (S := S1x12288) zeros]
  show first (iblk m c 1 t y) (iblk m c 2 t y) = firsts m c (((cfg0.win 5).blk t).view.emb y)
  rw [place5]
  rw [block1, block2]

theorem mem_block5 (t : Fin cfg0.N) (i : S1x12288.Idx) : i ∈ ((cfg0.win 5).blk t).view.set ↔
    ∀ a : Fin 2, win0_5.index t a * S1x12288.size a ≤ (i a : Nat)
      ∧ (i a : Nat) < win0_5.index t a * S1x12288.size a + S1x12288.size a := by
  show i ∈ ((View.whole main_v0_1).slice (win0_5.rect t)).set ↔ _
  rw [View.set_slice_whole, Rect.mem_set_unit]
  exact Iff.rfl

theorem final5 (c : Dev nD) : (dats m 0 c).arrAt 5 cfg0.N = firsts m c :=
  (dats m 0 c).arrAt_eq_of_cover 5 (firsts m c) (fun t _ => flushed_eq5 m c t) fun i => by
    have h0 : (i 0 : Nat) < 1 := (i 0).isLt
    have h1 : (i 1 : Nat) < 12288 := (i 1).isLt
    have hN : cfg0.N = 1 := by decide
    refine ⟨⟨(i 0 : Nat) / 1, by omega⟩, flush0_5 _, ?_⟩
    obtain ⟨p0, q0, p1, q1, p2, q2, p3, q3, p4, q4, p5, q5, p6, q6⟩ := positions ⟨(i 0 : Nat) / 1, by omega⟩
    rw [mem_block5]
    intro a
    match a with
    | ⟨0, _⟩ =>
      show win0_5.index _ 0 * 1 ≤ (i 0 : Nat) ∧ (i 0 : Nat) < win0_5.index _ 0 * 1 + 1
      rw [p5]; dsimp only; omega
    | ⟨1, _⟩ =>
      show win0_5.index _ 1 * 12288 ≤ (i 1 : Nat) ∧ (i 1 : Nat) < win0_5.index _ 1 * 12288 + 12288
      rw [q5]; dsimp only; omega

theorem place6 (t : Fin cfg0.N) (y : S1x12288.Idx) : ((cfg0.win 6).blk t).view.emb y = place t y := by
  obtain ⟨p0, q0, p1, q1, p2, q2, p3, q3, p4, q4, p5, q5, p6, q6⟩ := positions t
  funext a
  apply Fin.ext
  match a with
  | ⟨0, _⟩ => show win0_6.index t 0 * 1 + 1 * (y 0).val = win0_4.index t 0 * 1 + 1 * (y 0).val; rw [p6, p4]
  | ⟨1, _⟩ => show win0_6.index t 1 * 12288 + 1 * (y 1).val = win0_4.index t 1 * 12288 + 1 * (y 1).val; rw [q6, q4]

theorem flushed_eq6 (c : Dev nD) (t : Fin cfg0.N) :
    (dats m 0 c).flushed 6 t = ((cfg0.win 6).blk t).view.read (Elt Ideal) (seconds m c) := by
  rw [Value.flushed6]
  funext y
  unfold out0_6
  rw [View.canon_unit_zero zeros, View.ld_unit_zero (S := S1x12288) zeros, View.ld_unit_zero (S := S1x12288) zeros]
  show second (iblk m c 1 t y) (iblk m c 3 t y) = seconds m c (((cfg0.win 6).blk t).view.emb y)
  rw [place6]
  rw [block1, block3]

theorem mem_block6 (t : Fin cfg0.N) (i : S1x12288.Idx) : i ∈ ((cfg0.win 6).blk t).view.set ↔
    ∀ a : Fin 2, win0_6.index t a * S1x12288.size a ≤ (i a : Nat)
      ∧ (i a : Nat) < win0_6.index t a * S1x12288.size a + S1x12288.size a := by
  show i ∈ ((View.whole main_v0_2).slice (win0_6.rect t)).set ↔ _
  rw [View.set_slice_whole, Rect.mem_set_unit]
  exact Iff.rfl

theorem final6 (c : Dev nD) : (dats m 0 c).arrAt 6 cfg0.N = seconds m c :=
  (dats m 0 c).arrAt_eq_of_cover 6 (seconds m c) (fun t _ => flushed_eq6 m c t) fun i => by
    have h0 : (i 0 : Nat) < 1 := (i 0).isLt
    have h1 : (i 1 : Nat) < 12288 := (i 1).isLt
    have hN : cfg0.N = 1 := by decide
    refine ⟨⟨(i 0 : Nat) / 1, by omega⟩, flush0_6 _, ?_⟩
    obtain ⟨p0, q0, p1, q1, p2, q2, p3, q3, p4, q4, p5, q5, p6, q6⟩ := positions ⟨(i 0 : Nat) / 1, by omega⟩
    rw [mem_block6]
    intro a
    match a with
    | ⟨0, _⟩ =>
      show win0_6.index _ 0 * 1 ≤ (i 0 : Nat) ∧ (i 0 : Nat) < win0_6.index _ 0 * 1 + 1
      rw [p6]; dsimp only; omega
    | ⟨1, _⟩ =>
      show win0_6.index _ 1 * 12288 ≤ (i 1 : Nat) ∧ (i 1 : Nat) < win0_6.index _ 1 * 12288 + 12288
      rw [q6]; dsimp only; omega

end Cert.AdamModIdeal.Update

/-! ## The claims -/

namespace Cert.AdamMod.Claims

open Idealize.ShloMosaic Idealize.ShloMosaic.TcCoe Idealize.SL.Sem
open Cert.AdamModIdeal.Update

theorem algebraic : Cert.algebraic_AdamModIdeal_RefAdamModIdeal := fun m ρ m' ρ' _ hag =>
  ⟨changed m, firsts m, seconds m,
    (θ_run _ _ _).mono (fun _ h c => ⟨((h c).1).trans (final4 m c), ((h c).2.1).trans (final5 m c), ((h c).2.2.1).trans (final6 m c), (h c).2.2.2⟩)
      (Cert.AdamModIdeal.Value.run_blocks m ρ),
    (θ_run _ _ _).mono (fun _ h c => by
        obtain ⟨e0, e1, e2, e3⟩ := hag c
        exact ⟨(h c).1.trans (by rw [e1, e3, e2, e0]; rfl), (h c).2.1.trans (by rw [e2, e1]; rfl), (h c).2.2.1.trans (by rw [e3, e1]; rfl), (h c).2.2.2⟩)
      (Cert.RefAdamModIdeal.Value.run m' ρ')⟩

/-- The reference ends with its arguments unchanged and every counter at zero. -/
theorem reference_quiescent : Cert.quiescent_RefAdamModIdeal := fun m ρ _ =>
  (θ_run _ _ _).mono (fun r h => ⟨fun c => (h c).2.2.2, sem_eq_zero_of_no_sems (by decide) r.2⟩)
    (Cert.RefAdamModIdeal.Value.run m ρ)

end Cert.AdamMod.Claims

end
-- ==== Proof.AdamTapsAValue.lean ====
module

public import proofs.«01_k».proof.Proof.Gen.AdamTapsAIdeal.Value
public import proofs.«01_k».proof.Proof.Gen.RefAdamTapsAIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section
/-! The optimiser's update of the first mixer's taps: each element of the results is the update of that element. -/

namespace Cert.AdamTapsAIdeal.Update

open Cert.AdamTapsAIdeal Cert.AdamTapsAIdeal.Gen Idealize.ShloMosaic Idealize.ShloMosaic.TcCoe Idealize.SL.Sem
open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The change of every weight. -/
abbrev changed (c : Dev nD) : Buf (Elt Ideal) ((c : Thread nD τ).loc main_v0_0) :=
  (fun i => change (m ((c : Thread nD τ).loc main_arg0) i) (m ((c : Thread nD τ).loc main_arg1) i) (m ((c : Thread nD τ).loc main_arg2) i) (m ((c : Thread nD τ).loc main_arg3) i) : Vec Ideal S3x512 .f32)

/-- The new first moments. -/
abbrev firsts (c : Dev nD) : Buf (Elt Ideal) ((c : Thread nD τ).loc main_v0_1) :=
  (fun i => first (m ((c : Thread nD τ).loc main_arg1) i) (m ((c : Thread nD τ).loc main_arg2) i) : Vec Ideal S3x512 .f32)

/-- The new second moments. -/
abbrev seconds (c : Dev nD) : Buf (Elt Ideal) ((c : Thread nD τ).loc main_v0_2) :=
  (fun i => second (m ((c : Thread nD τ).loc main_arg1) i) (m ((c : Thread nD τ).loc main_arg3) i) : Vec Ideal S3x512 .f32)

/-- Every window's block stands at the grid point's own place. -/
theorem positions : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- Where an element of the block of point `t` lies in the array. -/
def place (t : Fin cfg0.N) (y : S3x512.Idx) : S3x512.Idx := ((cfg0.win 4).blk t).view.emb y

/-- Argument 0's block, element by element. -/
theorem block0 (c : Dev nD) (t : Fin cfg0.N) (y : S3x512.Idx) :
    iblk m c 0 t y = m ((c : Thread nD τ).loc main_arg0) (place t y) := by
  show V m c main_arg0 _ = _
  rw [V_main_arg0]
  rfl

/-- Argument 1's block, element by element. -/
theorem block1 (c : Dev nD) (t : Fin cfg0.N) (y : S3x512.Idx) :
    iblk m c 1 t y = m ((c : Thread nD τ).loc main_arg1) (place t y) := by
  show V m c main_arg1 _ = _
  rw [V_main_arg1]
  rfl

/-- Argument 2's block, element by element. -/
theorem block2 (c : Dev nD) (t : Fin cfg0.N) (y : S3x512.Idx) :
    iblk m c 2 t y = m ((c : Thread nD τ).loc main_arg2) (place t y) := by
  show V m c main_arg2 _ = _
  rw [V_main_arg2]
  rfl

/-- Argument 3's block, element by element. -/
theorem block3 (c : Dev nD) (t : Fin cfg0.N) (y : S3x512.Idx) :
    iblk m c 3 t y = m ((c : Thread nD τ).loc main_arg3) (place t y) := by
  show V m c main_arg3 _ = _
  rw [V_main_arg3]
  rfl

theorem flushed_eq4 (c : Dev nD) (t : Fin cfg0.N) :
    (dats m 0 c).flushed 4 t = ((cfg0.win 4).blk t).view.read (Elt Ideal) (changed m c) := by
  rw [Value.flushed4]
  funext y
  unfold out0_4
  rw [View.canon_unit_zero zeros, View.ld_unit_zero (S := S3x512) zeros, View.ld_unit_zero (S := S3x512) zeros, View.ld_unit_zero (S := S3x512) zeros, View.ld_unit_zero (S := S3x512) zeros]
  show change (iblk m c 0 t y) (iblk m c 1 t y) (iblk m c 2 t y) (iblk m c 3 t y) = changed m c (((cfg0.win 4).blk t).view.emb y)
  rw [block0, block1, block2, block3]
  rfl

theorem mem_block4 (t : Fin cfg0.N) (i : S3x512.Idx) : i ∈ ((cfg0.win 4).blk t).view.set ↔
    ∀ a : Fin 2, win0_4.index t a * S3x512.size a ≤ (i a : Nat)
      ∧ (i a : Nat) < win0_4.index t a * S3x512.size a + S3x512.size a := by
  show i ∈ ((View.whole main_v0_0).slice (win0_4.rect t)).set ↔ _
  rw [View.set_slice_whole, Rect.mem_set_unit]
  exact Iff.rfl

theorem final4 (c : Dev nD) : (dats m 0 c).arrAt 4 cfg0.N = changed m c :=
  (dats m 0 c).arrAt_eq_of_cover 4 (changed m c) (fun t _ => flushed_eq4 m c t) fun i => by
    have h0 : (i 0 : Nat) < 3 := (i 0).isLt
    have h1 : (i 1 : Nat) < 512 := (i 1).isLt
    have hN : cfg0.N = 1 := by decide
    refine ⟨⟨(i 0 : Nat) / 3, by omega⟩, flush0_4 _, ?_⟩
    obtain ⟨p0, q0, p1, q1, p2, q2, p3, q3, p4, q4, p5, q5, p6, q6⟩ := positions ⟨(i 0 : Nat) / 3, by omega⟩
    rw [mem_block4]
    intro a
    match a with
    | ⟨0, _⟩ =>
      show win0_4.index _ 0 * 3 ≤ (i 0 : Nat) ∧ (i 0 : Nat) < win0_4.index _ 0 * 3 + 3
      rw [p4]; dsimp only; omega
    | ⟨1, _⟩ =>
      show win0_4.index _ 1 * 512 ≤ (i 1 : Nat) ∧ (i 1 : Nat) < win0_4.index _ 1 * 512 + 512
      rw [q4]; dsimp only; omega

theorem place5 (t : Fin cfg0.N) (y : S3x512.Idx) : ((cfg0.win 5).blk t).view.emb y = place t y := by
  obtain ⟨p0, q0, p1, q1, p2, q2, p3, q3, p4, q4, p5, q5, p6, q6⟩ := positions t
  funext a
  apply Fin.ext
  match a with
  | ⟨0, _⟩ => show win0_5.index t 0 * 3 + 1 * (y 0).val = win0_4.index t 0 * 3 + 1 * (y 0).val; rw [p5, p4]
  | ⟨1, _⟩ => show win0_5.index t 1 * 512 + 1 * (y 1).val = win0_4.index t 1 * 512 + 1 * (y 1).val; rw [q5, q4]

theorem flushed_eq5 (c : Dev nD) (t : Fin cfg0.N) :
    (dats m 0 c).flushed 5 t = ((cfg0.win 5).blk t).view.read (Elt Ideal) (firsts m c) := by
  rw [Value.flushed5]
  funext y
  unfold out0_5
  rw [View.canon_unit_zero zeros, View.ld_unit_zero (S := S3x512) zeros, View.ld_unit_zero (S := S3x512) zeros]
  show first (iblk m c 1 t y) (iblk m c 2 t y) = firsts m c (((cfg0.win 5).blk t).view.emb y)
  rw [place5]
  rw [block1, block2]

theorem mem_block5 (t : Fin cfg0.N) (i : S3x512.Idx) : i ∈ ((cfg0.win 5).blk t).view.set ↔
    ∀ a : Fin 2, win0_5.index t a * S3x512.size a ≤ (i a : Nat)
      ∧ (i a : Nat) < win0_5.index t a * S3x512.size a + S3x512.size a := by
  show i ∈ ((View.whole main_v0_1).slice (win0_5.rect t)).set ↔ _
  rw [View.set_slice_whole, Rect.mem_set_unit]
  exact Iff.rfl

theorem final5 (c : Dev nD) : (dats m 0 c).arrAt 5 cfg0.N = firsts m c :=
  (dats m 0 c).arrAt_eq_of_cover 5 (firsts m c) (fun t _ => flushed_eq5 m c t) fun i => by
    have h0 : (i 0 : Nat) < 3 := (i 0).isLt
    have h1 : (i 1 : Nat) < 512 := (i 1).isLt
    have hN : cfg0.N = 1 := by decide
    refine ⟨⟨(i 0 : Nat) / 3, by omega⟩, flush0_5 _, ?_⟩
    obtain ⟨p0, q0, p1, q1, p2, q2, p3, q3, p4, q4, p5, q5, p6, q6⟩ := positions ⟨(i 0 : Nat) / 3, by omega⟩
    rw [mem_block5]
    intro a
    match a with
    | ⟨0, _⟩ =>
      show win0_5.index _ 0 * 3 ≤ (i 0 : Nat) ∧ (i 0 : Nat) < win0_5.index _ 0 * 3 + 3
      rw [p5]; dsimp only; omega
    | ⟨1, _⟩ =>
      show win0_5.index _ 1 * 512 ≤ (i 1 : Nat) ∧ (i 1 : Nat) < win0_5.index _ 1 * 512 + 512
      rw [q5]; dsimp only; omega

theorem place6 (t : Fin cfg0.N) (y : S3x512.Idx) : ((cfg0.win 6).blk t).view.emb y = place t y := by
  obtain ⟨p0, q0, p1, q1, p2, q2, p3, q3, p4, q4, p5, q5, p6, q6⟩ := positions t
  funext a
  apply Fin.ext
  match a with
  | ⟨0, _⟩ => show win0_6.index t 0 * 3 + 1 * (y 0).val = win0_4.index t 0 * 3 + 1 * (y 0).val; rw [p6, p4]
  | ⟨1, _⟩ => show win0_6.index t 1 * 512 + 1 * (y 1).val = win0_4.index t 1 * 512 + 1 * (y 1).val; rw [q6, q4]

theorem flushed_eq6 (c : Dev nD) (t : Fin cfg0.N) :
    (dats m 0 c).flushed 6 t = ((cfg0.win 6).blk t).view.read (Elt Ideal) (seconds m c) := by
  rw [Value.flushed6]
  funext y
  unfold out0_6
  rw [View.canon_unit_zero zeros, View.ld_unit_zero (S := S3x512) zeros, View.ld_unit_zero (S := S3x512) zeros]
  show second (iblk m c 1 t y) (iblk m c 3 t y) = seconds m c (((cfg0.win 6).blk t).view.emb y)
  rw [place6]
  rw [block1, block3]

theorem mem_block6 (t : Fin cfg0.N) (i : S3x512.Idx) : i ∈ ((cfg0.win 6).blk t).view.set ↔
    ∀ a : Fin 2, win0_6.index t a * S3x512.size a ≤ (i a : Nat)
      ∧ (i a : Nat) < win0_6.index t a * S3x512.size a + S3x512.size a := by
  show i ∈ ((View.whole main_v0_2).slice (win0_6.rect t)).set ↔ _
  rw [View.set_slice_whole, Rect.mem_set_unit]
  exact Iff.rfl

theorem final6 (c : Dev nD) : (dats m 0 c).arrAt 6 cfg0.N = seconds m c :=
  (dats m 0 c).arrAt_eq_of_cover 6 (seconds m c) (fun t _ => flushed_eq6 m c t) fun i => by
    have h0 : (i 0 : Nat) < 3 := (i 0).isLt
    have h1 : (i 1 : Nat) < 512 := (i 1).isLt
    have hN : cfg0.N = 1 := by decide
    refine ⟨⟨(i 0 : Nat) / 3, by omega⟩, flush0_6 _, ?_⟩
    obtain ⟨p0, q0, p1, q1, p2, q2, p3, q3, p4, q4, p5, q5, p6, q6⟩ := positions ⟨(i 0 : Nat) / 3, by omega⟩
    rw [mem_block6]
    intro a
    match a with
    | ⟨0, _⟩ =>
      show win0_6.index _ 0 * 3 ≤ (i 0 : Nat) ∧ (i 0 : Nat) < win0_6.index _ 0 * 3 + 3
      rw [p6]; dsimp only; omega
    | ⟨1, _⟩ =>
      show win0_6.index _ 1 * 512 ≤ (i 1 : Nat) ∧ (i 1 : Nat) < win0_6.index _ 1 * 512 + 512
      rw [q6]; dsimp only; omega

end Cert.AdamTapsAIdeal.Update

/-! ## The claims -/

namespace Cert.AdamTapsA.Claims

open Idealize.ShloMosaic Idealize.ShloMosaic.TcCoe Idealize.SL.Sem
open Cert.AdamTapsAIdeal.Update

theorem algebraic : Cert.algebraic_AdamTapsAIdeal_RefAdamTapsAIdeal := fun m ρ m' ρ' _ hag =>
  ⟨changed m, firsts m, seconds m,
    (θ_run _ _ _).mono (fun _ h c => ⟨((h c).1).trans (final4 m c), ((h c).2.1).trans (final5 m c), ((h c).2.2.1).trans (final6 m c), (h c).2.2.2⟩)
      (Cert.AdamTapsAIdeal.Value.run_blocks m ρ),
    (θ_run _ _ _).mono (fun _ h c => by
        obtain ⟨e0, e1, e2, e3⟩ := hag c
        exact ⟨(h c).1.trans (by rw [e1, e3, e2, e0]; rfl), (h c).2.1.trans (by rw [e2, e1]; rfl), (h c).2.2.1.trans (by rw [e3, e1]; rfl), (h c).2.2.2⟩)
      (Cert.RefAdamTapsAIdeal.Value.run m' ρ')⟩

/-- The reference ends with its arguments unchanged and every counter at zero. -/
theorem reference_quiescent : Cert.quiescent_RefAdamTapsAIdeal := fun m ρ _ =>
  (θ_run _ _ _).mono (fun r h => ⟨fun c => (h c).2.2.2, sem_eq_zero_of_no_sems (by decide) r.2⟩)
    (Cert.RefAdamTapsAIdeal.Value.run m ρ)

end Cert.AdamTapsA.Claims

end
-- ==== Proof.AdamTapsBValue.lean ====
module

public import proofs.«01_k».proof.Proof.Gen.AdamTapsBIdeal.Value
public import proofs.«01_k».proof.Proof.Gen.RefAdamTapsBIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section
/-! The optimiser's update of the second mixer's taps: each element of the results is the update of that element. -/

namespace Cert.AdamTapsBIdeal.Update

open Cert.AdamTapsBIdeal Cert.AdamTapsBIdeal.Gen Idealize.ShloMosaic Idealize.ShloMosaic.TcCoe Idealize.SL.Sem
open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The change of every weight. -/
abbrev changed (c : Dev nD) : Buf (Elt Ideal) ((c : Thread nD τ).loc main_v0_0) :=
  (fun i => change (m ((c : Thread nD τ).loc main_arg0) i) (m ((c : Thread nD τ).loc main_arg1) i) (m ((c : Thread nD τ).loc main_arg2) i) (m ((c : Thread nD τ).loc main_arg3) i) : Vec Ideal S31x512 .f32)

/-- The new first moments. -/
abbrev firsts (c : Dev nD) : Buf (Elt Ideal) ((c : Thread nD τ).loc main_v0_1) :=
  (fun i => first (m ((c : Thread nD τ).loc main_arg1) i) (m ((c : Thread nD τ).loc main_arg2) i) : Vec Ideal S31x512 .f32)

/-- The new second moments. -/
abbrev seconds (c : Dev nD) : Buf (Elt Ideal) ((c : Thread nD τ).loc main_v0_2) :=
  (fun i => second (m ((c : Thread nD τ).loc main_arg1) i) (m ((c : Thread nD τ).loc main_arg3) i) : Vec Ideal S31x512 .f32)

/-- Every window's block stands at the grid point's own place. -/
theorem positions : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- Where an element of the block of point `t` lies in the array. -/
def place (t : Fin cfg0.N) (y : S31x512.Idx) : S31x512.Idx := ((cfg0.win 4).blk t).view.emb y

/-- Argument 0's block, element by element. -/
theorem block0 (c : Dev nD) (t : Fin cfg0.N) (y : S31x512.Idx) :
    iblk m c 0 t y = m ((c : Thread nD τ).loc main_arg0) (place t y) := by
  show V m c main_arg0 _ = _
  rw [V_main_arg0]
  rfl

/-- Argument 1's block, element by element. -/
theorem block1 (c : Dev nD) (t : Fin cfg0.N) (y : S31x512.Idx) :
    iblk m c 1 t y = m ((c : Thread nD τ).loc main_arg1) (place t y) := by
  show V m c main_arg1 _ = _
  rw [V_main_arg1]
  rfl

/-- Argument 2's block, element by element. -/
theorem block2 (c : Dev nD) (t : Fin cfg0.N) (y : S31x512.Idx) :
    iblk m c 2 t y = m ((c : Thread nD τ).loc main_arg2) (place t y) := by
  show V m c main_arg2 _ = _
  rw [V_main_arg2]
  rfl

/-- Argument 3's block, element by element. -/
theorem block3 (c : Dev nD) (t : Fin cfg0.N) (y : S31x512.Idx) :
    iblk m c 3 t y = m ((c : Thread nD τ).loc main_arg3) (place t y) := by
  show V m c main_arg3 _ = _
  rw [V_main_arg3]
  rfl

theorem flushed_eq4 (c : Dev nD) (t : Fin cfg0.N) :
    (dats m 0 c).flushed 4 t = ((cfg0.win 4).blk t).view.read (Elt Ideal) (changed m c) := by
  rw [Value.flushed4]
  funext y
  unfold out0_4
  rw [View.canon_unit_zero zeros, View.ld_unit_zero (S := S31x512) zeros, View.ld_unit_zero (S := S31x512) zeros, View.ld_unit_zero (S := S31x512) zeros, View.ld_unit_zero (S := S31x512) zeros]
  show change (iblk m c 0 t y) (iblk m c 1 t y) (iblk m c 2 t y) (iblk m c 3 t y) = changed m c (((cfg0.win 4).blk t).view.emb y)
  rw [block0, block1, block2, block3]
  rfl

theorem mem_block4 (t : Fin cfg0.N) (i : S31x512.Idx) : i ∈ ((cfg0.win 4).blk t).view.set ↔
    ∀ a : Fin 2, win0_4.index t a * S31x512.size a ≤ (i a : Nat)
      ∧ (i a : Nat) < win0_4.index t a * S31x512.size a + S31x512.size a := by
  show i ∈ ((View.whole main_v0_0).slice (win0_4.rect t)).set ↔ _
  rw [View.set_slice_whole, Rect.mem_set_unit]
  exact Iff.rfl

theorem final4 (c : Dev nD) : (dats m 0 c).arrAt 4 cfg0.N = changed m c :=
  (dats m 0 c).arrAt_eq_of_cover 4 (changed m c) (fun t _ => flushed_eq4 m c t) fun i => by
    have h0 : (i 0 : Nat) < 31 := (i 0).isLt
    have h1 : (i 1 : Nat) < 512 := (i 1).isLt
    have hN : cfg0.N = 1 := by decide
    refine ⟨⟨(i 0 : Nat) / 31, by omega⟩, flush0_4 _, ?_⟩
    obtain ⟨p0, q0, p1, q1, p2, q2, p3, q3, p4, q4, p5, q5, p6, q6⟩ := positions ⟨(i 0 : Nat) / 31, by omega⟩
    rw [mem_block4]
    intro a
    match a with
    | ⟨0, _⟩ =>
      show win0_4.index _ 0 * 31 ≤ (i 0 : Nat) ∧ (i 0 : Nat) < win0_4.index _ 0 * 31 + 31
      rw [p4]; dsimp only; omega
    | ⟨1, _⟩ =>
      show win0_4.index _ 1 * 512 ≤ (i 1 : Nat) ∧ (i 1 : Nat) < win0_4.index _ 1 * 512 + 512
      rw [q4]; dsimp only; omega

theorem place5 (t : Fin cfg0.N) (y : S31x512.Idx) : ((cfg0.win 5).blk t).view.emb y = place t y := by
  obtain ⟨p0, q0, p1, q1, p2, q2, p3, q3, p4, q4, p5, q5, p6, q6⟩ := positions t
  funext a
  apply Fin.ext
  match a with
  | ⟨0, _⟩ => show win0_5.index t 0 * 31 + 1 * (y 0).val = win0_4.index t 0 * 31 + 1 * (y 0).val; rw [p5, p4]
  | ⟨1, _⟩ => show win0_5.index t 1 * 512 + 1 * (y 1).val = win0_4.index t 1 * 512 + 1 * (y 1).val; rw [q5, q4]

theorem flushed_eq5 (c : Dev nD) (t : Fin cfg0.N) :
    (dats m 0 c).flushed 5 t = ((cfg0.win 5).blk t).view.read (Elt Ideal) (firsts m c) := by
  rw [Value.flushed5]
  funext y
  unfold out0_5
  rw [View.canon_unit_zero zeros, View.ld_unit_zero (S := S31x512) zeros, View.ld_unit_zero (S := S31x512) zeros]
  show first (iblk m c 1 t y) (iblk m c 2 t y) = firsts m c (((cfg0.win 5).blk t).view.emb y)
  rw [place5]
  rw [block1, block2]

theorem mem_block5 (t : Fin cfg0.N) (i : S31x512.Idx) : i ∈ ((cfg0.win 5).blk t).view.set ↔
    ∀ a : Fin 2, win0_5.index t a * S31x512.size a ≤ (i a : Nat)
      ∧ (i a : Nat) < win0_5.index t a * S31x512.size a + S31x512.size a := by
  show i ∈ ((View.whole main_v0_1).slice (win0_5.rect t)).set ↔ _
  rw [View.set_slice_whole, Rect.mem_set_unit]
  exact Iff.rfl

theorem final5 (c : Dev nD) : (dats m 0 c).arrAt 5 cfg0.N = firsts m c :=
  (dats m 0 c).arrAt_eq_of_cover 5 (firsts m c) (fun t _ => flushed_eq5 m c t) fun i => by
    have h0 : (i 0 : Nat) < 31 := (i 0).isLt
    have h1 : (i 1 : Nat) < 512 := (i 1).isLt
    have hN : cfg0.N = 1 := by decide
    refine ⟨⟨(i 0 : Nat) / 31, by omega⟩, flush0_5 _, ?_⟩
    obtain ⟨p0, q0, p1, q1, p2, q2, p3, q3, p4, q4, p5, q5, p6, q6⟩ := positions ⟨(i 0 : Nat) / 31, by omega⟩
    rw [mem_block5]
    intro a
    match a with
    | ⟨0, _⟩ =>
      show win0_5.index _ 0 * 31 ≤ (i 0 : Nat) ∧ (i 0 : Nat) < win0_5.index _ 0 * 31 + 31
      rw [p5]; dsimp only; omega
    | ⟨1, _⟩ =>
      show win0_5.index _ 1 * 512 ≤ (i 1 : Nat) ∧ (i 1 : Nat) < win0_5.index _ 1 * 512 + 512
      rw [q5]; dsimp only; omega

theorem place6 (t : Fin cfg0.N) (y : S31x512.Idx) : ((cfg0.win 6).blk t).view.emb y = place t y := by
  obtain ⟨p0, q0, p1, q1, p2, q2, p3, q3, p4, q4, p5, q5, p6, q6⟩ := positions t
  funext a
  apply Fin.ext
  match a with
  | ⟨0, _⟩ => show win0_6.index t 0 * 31 + 1 * (y 0).val = win0_4.index t 0 * 31 + 1 * (y 0).val; rw [p6, p4]
  | ⟨1, _⟩ => show win0_6.index t 1 * 512 + 1 * (y 1).val = win0_4.index t 1 * 512 + 1 * (y 1).val; rw [q6, q4]

theorem flushed_eq6 (c : Dev nD) (t : Fin cfg0.N) :
    (dats m 0 c).flushed 6 t = ((cfg0.win 6).blk t).view.read (Elt Ideal) (seconds m c) := by
  rw [Value.flushed6]
  funext y
  unfold out0_6
  rw [View.canon_unit_zero zeros, View.ld_unit_zero (S := S31x512) zeros, View.ld_unit_zero (S := S31x512) zeros]
  show second (iblk m c 1 t y) (iblk m c 3 t y) = seconds m c (((cfg0.win 6).blk t).view.emb y)
  rw [place6]
  rw [block1, block3]

theorem mem_block6 (t : Fin cfg0.N) (i : S31x512.Idx) : i ∈ ((cfg0.win 6).blk t).view.set ↔
    ∀ a : Fin 2, win0_6.index t a * S31x512.size a ≤ (i a : Nat)
      ∧ (i a : Nat) < win0_6.index t a * S31x512.size a + S31x512.size a := by
  show i ∈ ((View.whole main_v0_2).slice (win0_6.rect t)).set ↔ _
  rw [View.set_slice_whole, Rect.mem_set_unit]
  exact Iff.rfl

theorem final6 (c : Dev nD) : (dats m 0 c).arrAt 6 cfg0.N = seconds m c :=
  (dats m 0 c).arrAt_eq_of_cover 6 (seconds m c) (fun t _ => flushed_eq6 m c t) fun i => by
    have h0 : (i 0 : Nat) < 31 := (i 0).isLt
    have h1 : (i 1 : Nat) < 512 := (i 1).isLt
    have hN : cfg0.N = 1 := by decide
    refine ⟨⟨(i 0 : Nat) / 31, by omega⟩, flush0_6 _, ?_⟩
    obtain ⟨p0, q0, p1, q1, p2, q2, p3, q3, p4, q4, p5, q5, p6, q6⟩ := positions ⟨(i 0 : Nat) / 31, by omega⟩
    rw [mem_block6]
    intro a
    match a with
    | ⟨0, _⟩ =>
      show win0_6.index _ 0 * 31 ≤ (i 0 : Nat) ∧ (i 0 : Nat) < win0_6.index _ 0 * 31 + 31
      rw [p6]; dsimp only; omega
    | ⟨1, _⟩ =>
      show win0_6.index _ 1 * 512 ≤ (i 1 : Nat) ∧ (i 1 : Nat) < win0_6.index _ 1 * 512 + 512
      rw [q6]; dsimp only; omega

end Cert.AdamTapsBIdeal.Update

/-! ## The claims -/

namespace Cert.AdamTapsB.Claims

open Idealize.ShloMosaic Idealize.ShloMosaic.TcCoe Idealize.SL.Sem
open Cert.AdamTapsBIdeal.Update

theorem algebraic : Cert.algebraic_AdamTapsBIdeal_RefAdamTapsBIdeal := fun m ρ m' ρ' _ hag =>
  ⟨changed m, firsts m, seconds m,
    (θ_run _ _ _).mono (fun _ h c => ⟨((h c).1).trans (final4 m c), ((h c).2.1).trans (final5 m c), ((h c).2.2.1).trans (final6 m c), (h c).2.2.2⟩)
      (Cert.AdamTapsBIdeal.Value.run_blocks m ρ),
    (θ_run _ _ _).mono (fun _ h c => by
        obtain ⟨e0, e1, e2, e3⟩ := hag c
        exact ⟨(h c).1.trans (by rw [e1, e3, e2, e0]; rfl), (h c).2.1.trans (by rw [e2, e1]; rfl), (h c).2.2.1.trans (by rw [e3, e1]; rfl), (h c).2.2.2⟩)
      (Cert.RefAdamTapsBIdeal.Value.run m' ρ')⟩

/-- The reference ends with its arguments unchanged and every counter at zero. -/
theorem reference_quiescent : Cert.quiescent_RefAdamTapsBIdeal := fun m ρ _ =>
  (θ_run _ _ _).mono (fun r h => ⟨fun c => (h c).2.2.2, sem_eq_zero_of_no_sems (by decide) r.2⟩)
    (Cert.RefAdamTapsBIdeal.Value.run m ρ)

end Cert.AdamTapsB.Claims

end
-- ==== Proof.AdamMixerValue.lean ====
module

public import proofs.«01_k».proof.Proof.Gen.AdamMixerIdeal.Value
public import proofs.«01_k».proof.Proof.Gen.RefAdamMixerIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section
/-! The optimiser's update of a row of the second mixer: each element of the results is the update of that element. -/

namespace Cert.AdamMixerIdeal.Update

open Cert.AdamMixerIdeal Cert.AdamMixerIdeal.Gen Idealize.ShloMosaic Idealize.ShloMosaic.TcCoe Idealize.SL.Sem
open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The change of every weight. -/
abbrev changed (c : Dev nD) : Buf (Elt Ideal) ((c : Thread nD τ).loc main_v0_0) :=
  (fun i => change (m ((c : Thread nD τ).loc main_arg0) i) (m ((c : Thread nD τ).loc main_arg1) i) (m ((c : Thread nD τ).loc main_arg2) i) (m ((c : Thread nD τ).loc main_arg3) i) : Vec Ideal S1x2048 .f32)

/-- The new first moments. -/
abbrev firsts (c : Dev nD) : Buf (Elt Ideal) ((c : Thread nD τ).loc main_v0_1) :=
  (fun i => first (m ((c : Thread nD τ).loc main_arg1) i) (m ((c : Thread nD τ).loc main_arg2) i) : Vec Ideal S1x2048 .f32)

/-- The new second moments. -/
abbrev seconds (c : Dev nD) : Buf (Elt Ideal) ((c : Thread nD τ).loc main_v0_2) :=
  (fun i => second (m ((c : Thread nD τ).loc main_arg1) i) (m ((c : Thread nD τ).loc main_arg3) i) : Vec Ideal S1x2048 .f32)

/-- Every window's block stands at the grid point's own place. -/
theorem positions : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = t.val
    ∧ win0_2.index t (1 : Fin 2) = 0
    ∧ win0_3.index t (0 : Fin 2) = t.val
    ∧ win0_3.index t (1 : Fin 2) = 0
    ∧ win0_4.index t (0 : Fin 2) = t.val
    ∧ win0_4.index t (1 : Fin 2) = 0
    ∧ win0_5.index t (0 : Fin 2) = t.val
    ∧ win0_5.index t (1 : Fin 2) = 0
    ∧ win0_6.index t (0 : Fin 2) = t.val
    ∧ win0_6.index t (1 : Fin 2) = 0 :=
  (by decide +kernel : ∀ t : Fin grid0.N, _)

/-- Where an element of the block of point `t` lies in the array. -/
def place (t : Fin cfg0.N) (y : S1x2048.Idx) : S1x2048.Idx := ((cfg0.win 4).blk t).view.emb y

/-- Argument 0's block, element by element. -/
theorem block0 (c : Dev nD) (t : Fin cfg0.N) (y : S1x2048.Idx) :
    iblk m c 0 t y = m ((c : Thread nD τ).loc main_arg0) (place t y) := by
  show V m c main_arg0 _ = _
  rw [V_main_arg0]
  rfl

/-- Argument 1's block, element by element. -/
theorem block1 (c : Dev nD) (t : Fin cfg0.N) (y : S1x2048.Idx) :
    iblk m c 1 t y = m ((c : Thread nD τ).loc main_arg1) (place t y) := by
  show V m c main_arg1 _ = _
  rw [V_main_arg1]
  rfl

/-- Argument 2's block, element by element. -/
theorem block2 (c : Dev nD) (t : Fin cfg0.N) (y : S1x2048.Idx) :
    iblk m c 2 t y = m ((c : Thread nD τ).loc main_arg2) (place t y) := by
  show V m c main_arg2 _ = _
  rw [V_main_arg2]
  rfl

/-- Argument 3's block, element by element. -/
theorem block3 (c : Dev nD) (t : Fin cfg0.N) (y : S1x2048.Idx) :
    iblk m c 3 t y = m ((c : Thread nD τ).loc main_arg3) (place t y) := by
  show V m c main_arg3 _ = _
  rw [V_main_arg3]
  rfl

theorem flushed_eq4 (c : Dev nD) (t : Fin cfg0.N) :
    (dats m 0 c).flushed 4 t = ((cfg0.win 4).blk t).view.read (Elt Ideal) (changed m c) := by
  rw [Value.flushed4]
  funext y
  unfold out0_4
  rw [View.canon_unit_zero zeros, View.ld_unit_zero (S := S1x2048) zeros, View.ld_unit_zero (S := S1x2048) zeros, View.ld_unit_zero (S := S1x2048) zeros, View.ld_unit_zero (S := S1x2048) zeros]
  show change (iblk m c 0 t y) (iblk m c 1 t y) (iblk m c 2 t y) (iblk m c 3 t y) = changed m c (((cfg0.win 4).blk t).view.emb y)
  rw [block0, block1, block2, block3]
  rfl

theorem mem_block4 (t : Fin cfg0.N) (i : S1x2048.Idx) : i ∈ ((cfg0.win 4).blk t).view.set ↔
    ∀ a : Fin 2, win0_4.index t a * S1x2048.size a ≤ (i a : Nat)
      ∧ (i a : Nat) < win0_4.index t a * S1x2048.size a + S1x2048.size a := by
  show i ∈ ((View.whole main_v0_0).slice (win0_4.rect t)).set ↔ _
  rw [View.set_slice_whole, Rect.mem_set_unit]
  exact Iff.rfl

theorem final4 (c : Dev nD) : (dats m 0 c).arrAt 4 cfg0.N = changed m c :=
  (dats m 0 c).arrAt_eq_of_cover 4 (changed m c) (fun t _ => flushed_eq4 m c t) fun i => by
    have h0 : (i 0 : Nat) < 1 := (i 0).isLt
    have h1 : (i 1 : Nat) < 2048 := (i 1).isLt
    have hN : cfg0.N = 1 := by decide
    refine ⟨⟨(i 0 : Nat) / 1, by omega⟩, flush0_4 _, ?_⟩
    obtain ⟨p0, q0, p1, q1, p2, q2, p3, q3, p4, q4, p5, q5, p6, q6⟩ := positions ⟨(i 0 : Nat) / 1, by omega⟩
    rw [mem_block4]
    intro a
    match a with
    | ⟨0, _⟩ =>
      show win0_4.index _ 0 * 1 ≤ (i 0 : Nat) ∧ (i 0 : Nat) < win0_4.index _ 0 * 1 + 1
      rw [p4]; dsimp only; omega
    | ⟨1, _⟩ =>
      show win0_4.index _ 1 * 2048 ≤ (i 1 : Nat) ∧ (i 1 : Nat) < win0_4.index _ 1 * 2048 + 2048
      rw [q4]; dsimp only; omega

theorem place5 (t : Fin cfg0.N) (y : S1x2048.Idx) : ((cfg0.win 5).blk t).view.emb y = place t y := by
  obtain ⟨p0, q0, p1, q1, p2, q2, p3, q3, p4, q4, p5, q5, p6, q6⟩ := positions t
  funext a
  apply Fin.ext
  match a with
  | ⟨0, _⟩ => show win0_5.index t 0 * 1 + 1 * (y 0).val = win0_4.index t 0 * 1 + 1 * (y 0).val; rw [p5, p4]
  | ⟨1, _⟩ => show win0_5.index t 1 * 2048 + 1 * (y 1).val = win0_4.index t 1 * 2048 + 1 * (y 1).val; rw [q5, q4]

theorem flushed_eq5 (c : Dev nD) (t : Fin cfg0.N) :
    (dats m 0 c).flushed 5 t = ((cfg0.win 5).blk t).view.read (Elt Ideal) (firsts m c) := by
  rw [Value.flushed5]
  funext y
  unfold out0_5
  rw [View.canon_unit_zero zeros, View.ld_unit_zero (S := S1x2048) zeros, View.ld_unit_zero (S := S1x2048) zeros]
  show first (iblk m c 1 t y) (iblk m c 2 t y) = firsts m c (((cfg0.win 5).blk t).view.emb y)
  rw [place5]
  rw [block1, block2]

theorem mem_block5 (t : Fin cfg0.N) (i : S1x2048.Idx) : i ∈ ((cfg0.win 5).blk t).view.set ↔
    ∀ a : Fin 2, win0_5.index t a * S1x2048.size a ≤ (i a : Nat)
      ∧ (i a : Nat) < win0_5.index t a * S1x2048.size a + S1x2048.size a := by
  show i ∈ ((View.whole main_v0_1).slice (win0_5.rect t)).set ↔ _
  rw [View.set_slice_whole, Rect.mem_set_unit]
  exact Iff.rfl

theorem final5 (c : Dev nD) : (dats m 0 c).arrAt 5 cfg0.N = firsts m c :=
  (dats m 0 c).arrAt_eq_of_cover 5 (firsts m c) (fun t _ => flushed_eq5 m c t) fun i => by
    have h0 : (i 0 : Nat) < 1 := (i 0).isLt
    have h1 : (i 1 : Nat) < 2048 := (i 1).isLt
    have hN : cfg0.N = 1 := by decide
    refine ⟨⟨(i 0 : Nat) / 1, by omega⟩, flush0_5 _, ?_⟩
    obtain ⟨p0, q0, p1, q1, p2, q2, p3, q3, p4, q4, p5, q5, p6, q6⟩ := positions ⟨(i 0 : Nat) / 1, by omega⟩
    rw [mem_block5]
    intro a
    match a with
    | ⟨0, _⟩ =>
      show win0_5.index _ 0 * 1 ≤ (i 0 : Nat) ∧ (i 0 : Nat) < win0_5.index _ 0 * 1 + 1
      rw [p5]; dsimp only; omega
    | ⟨1, _⟩ =>
      show win0_5.index _ 1 * 2048 ≤ (i 1 : Nat) ∧ (i 1 : Nat) < win0_5.index _ 1 * 2048 + 2048
      rw [q5]; dsimp only; omega

theorem place6 (t : Fin cfg0.N) (y : S1x2048.Idx) : ((cfg0.win 6).blk t).view.emb y = place t y := by
  obtain ⟨p0, q0, p1, q1, p2, q2, p3, q3, p4, q4, p5, q5, p6, q6⟩ := positions t
  funext a
  apply Fin.ext
  match a with
  | ⟨0, _⟩ => show win0_6.index t 0 * 1 + 1 * (y 0).val = win0_4.index t 0 * 1 + 1 * (y 0).val; rw [p6, p4]
  | ⟨1, _⟩ => show win0_6.index t 1 * 2048 + 1 * (y 1).val = win0_4.index t 1 * 2048 + 1 * (y 1).val; rw [q6, q4]

theorem flushed_eq6 (c : Dev nD) (t : Fin cfg0.N) :
    (dats m 0 c).flushed 6 t = ((cfg0.win 6).blk t).view.read (Elt Ideal) (seconds m c) := by
  rw [Value.flushed6]
  funext y
  unfold out0_6
  rw [View.canon_unit_zero zeros, View.ld_unit_zero (S := S1x2048) zeros, View.ld_unit_zero (S := S1x2048) zeros]
  show second (iblk m c 1 t y) (iblk m c 3 t y) = seconds m c (((cfg0.win 6).blk t).view.emb y)
  rw [place6]
  rw [block1, block3]

theorem mem_block6 (t : Fin cfg0.N) (i : S1x2048.Idx) : i ∈ ((cfg0.win 6).blk t).view.set ↔
    ∀ a : Fin 2, win0_6.index t a * S1x2048.size a ≤ (i a : Nat)
      ∧ (i a : Nat) < win0_6.index t a * S1x2048.size a + S1x2048.size a := by
  show i ∈ ((View.whole main_v0_2).slice (win0_6.rect t)).set ↔ _
  rw [View.set_slice_whole, Rect.mem_set_unit]
  exact Iff.rfl

theorem final6 (c : Dev nD) : (dats m 0 c).arrAt 6 cfg0.N = seconds m c :=
  (dats m 0 c).arrAt_eq_of_cover 6 (seconds m c) (fun t _ => flushed_eq6 m c t) fun i => by
    have h0 : (i 0 : Nat) < 1 := (i 0).isLt
    have h1 : (i 1 : Nat) < 2048 := (i 1).isLt
    have hN : cfg0.N = 1 := by decide
    refine ⟨⟨(i 0 : Nat) / 1, by omega⟩, flush0_6 _, ?_⟩
    obtain ⟨p0, q0, p1, q1, p2, q2, p3, q3, p4, q4, p5, q5, p6, q6⟩ := positions ⟨(i 0 : Nat) / 1, by omega⟩
    rw [mem_block6]
    intro a
    match a with
    | ⟨0, _⟩ =>
      show win0_6.index _ 0 * 1 ≤ (i 0 : Nat) ∧ (i 0 : Nat) < win0_6.index _ 0 * 1 + 1
      rw [p6]; dsimp only; omega
    | ⟨1, _⟩ =>
      show win0_6.index _ 1 * 2048 ≤ (i 1 : Nat) ∧ (i 1 : Nat) < win0_6.index _ 1 * 2048 + 2048
      rw [q6]; dsimp only; omega

end Cert.AdamMixerIdeal.Update

/-! ## The claims -/

namespace Cert.AdamMixer.Claims

open Idealize.ShloMosaic Idealize.ShloMosaic.TcCoe Idealize.SL.Sem
open Cert.AdamMixerIdeal.Update

theorem algebraic : Cert.algebraic_AdamMixerIdeal_RefAdamMixerIdeal := fun m ρ m' ρ' _ hag =>
  ⟨changed m, firsts m, seconds m,
    (θ_run _ _ _).mono (fun _ h c => ⟨((h c).1).trans (final4 m c), ((h c).2.1).trans (final5 m c), ((h c).2.2.1).trans (final6 m c), (h c).2.2.2⟩)
      (Cert.AdamMixerIdeal.Value.run_blocks m ρ),
    (θ_run _ _ _).mono (fun _ h c => by
        obtain ⟨e0, e1, e2, e3⟩ := hag c
        exact ⟨(h c).1.trans (by rw [e1, e3, e2, e0]; rfl), (h c).2.1.trans (by rw [e2, e1]; rfl), (h c).2.2.1.trans (by rw [e3, e1]; rfl), (h c).2.2.2⟩)
      (Cert.RefAdamMixerIdeal.Value.run m' ρ')⟩

/-- The reference ends with its arguments unchanged and every counter at zero. -/
theorem reference_quiescent : Cert.quiescent_RefAdamMixerIdeal := fun m ρ _ =>
  (θ_run _ _ _).mono (fun r h => ⟨fun c => (h c).2.2.2, sem_eq_zero_of_no_sems (by decide) r.2⟩)
    (Cert.RefAdamMixerIdeal.Value.run m ρ)

end Cert.AdamMixer.Claims

end
-- ==== Proof.AdamAdaValue.lean ====
module

public import proofs.«01_k».proof.Proof.Gen.AdamAdaIdeal.Frame
public import proofs.«01_k».proof.Proof.Gen.RefAdamAdaIdeal.Run
public import proofs.«01_k».proof.Proof.AdamStep
public import proofs.«01_k».proof.Defs
public import Idealize.ShloMosaic.Lib.Quiescent
public import Idealize.ShloMosaic.Lib.Pointwise
public import Idealize.ShloMosaic.Lib.Pipeline.Value

@[expose] public section

set_option maxRecDepth 16384

noncomputable section

/-! The modulation weight's gradient: the product of the activated conditioning, over all chips' rows, with
the gradient of the modulation. -/

namespace Cert.AdamAdaIdeal.Grad

open Cert.AdamAdaIdeal Cert.AdamAdaIdeal.Gen Idealize.ShloMosaic Idealize.ShloMosaic.TcCoe Idealize.SL.Sem

/-- The activation: a value times its logistic. -/
def silu (x : Ideal .f32) : Ideal .f32 := x * Ideal.logistic x

/-- The gradient, from the conditioning rows and the gradient of the modulation. -/
def grad (C : Vec Ideal S8x4096 .f32) (D : Vec Ideal S8x3072 .f32) : Vec Ideal S4096x3072 .f32 :=
  fun i => ∑ k : Fin 8, silu (C (ix2 k (i 0))) * D (ix2 k (i 1))

/-- A point's gradient block from its block of the transposed conditioning. -/
theorem block_grad (u : Vec Ideal S128x8 .f32) (D : Vec Ideal S8x3072 .f32) (i : Fin 128) (j : Fin 3072) :
    k0_pay5 (F := Ideal) (k0_pay1 u) (k0_pay2 u (View.ld D r0_1) (View.ld D r0_2) (View.ld D r0_3) (View.ld D r0_4) (View.ld D r0_5) (View.ld D r0_6))
      (k0_pay3 u) (k0_pay4 (View.ld D r0_7)) (View.ld D r0_8) (ix2 i j)
      = ∑ k : Fin 8, silu (u (ix2 i k)) * D (ix2 k j) := by
  rw [Fin.sum_univ_eight]
  pointwise [k0_pay1, k0_pay2, k0_pay3, k0_pay4, k0_pay5, silu]

/-- The reference's gradient. -/
theorem reference_grad (C : Vec Ideal S8x4096 .f32) (D : Vec Ideal S8x3072 .f32) :
    (transpose Cert.RefAdamAdaIdeal.S4096x3072 [1, 0] (Host.dotGeneral (F := Ideal) (φ₁ := .f32) (φ₂ := .f32) Cert.RefAdamAdaIdeal.dot_S8x3072_S8x4096_S3072x4096_0_0_1_1_n_n none D
      (mulf (F := Ideal) (φ := .f32) C (Host.divf (F := Ideal) (φ := .f32) (broadcastInDim Cert.RefAdamAdaIdeal.S8x4096 ![] Cert.RefAdamAdaIdeal.Facts₀.bcast_S_S8x4096 (constant (F := Ideal) Cert.RefAdamAdaIdeal.S_ .f32 0x3F800000#32))
        (addf (F := Ideal) (φ := .f32) (broadcastInDim Cert.RefAdamAdaIdeal.S8x4096 ![] Cert.RefAdamAdaIdeal.Facts₀.bcast_S_S8x4096 (constant (F := Ideal) Cert.RefAdamAdaIdeal.S_ .f32 0x3F800000#32))
          (Host.exp (F := Ideal) (φ := .f32) (Host.negf (F := Ideal) (φ := .f32) C))))))
      Cert.RefAdamAdaIdeal.Facts₀.transposes_S3072x4096_S4096x3072_1_0 : Vec Ideal S4096x3072 .f32) = grad C D := by
  funext i
  pointwise [grad, silu]
  exact Finset.sum_congr rfl fun k _ => mul_comm _ _

/-! ## The kernel's results -/

open Idealize.ShloMosaic.Pipeline (Dat)
open Cert.AdamStep (first second change)

variable (m : (ℓ : Loc nD τ sig) → Buf (Elt Ideal) ℓ)

theorem zeros : (![0, 0] : Fin 2 → Nat) = fun _ => 0 := funext fun a => by fin_cases a <;> rfl

/-- The gradient. -/
abbrev gradient (c : Dev nD) : Buf (Elt Ideal) ((c : Thread nD τ).loc main_v1_0) :=
  grad (m ((c : Thread nD τ).loc main_arg0)) (m ((c : Thread nD τ).loc main_arg1))

/-- The change of every weight. -/
abbrev changed (c : Dev nD) : Buf (Elt Ideal) ((c : Thread nD τ).loc main_v1_1) :=
  (fun i => change (m ((c : Thread nD τ).loc main_arg2) i) (gradient m c i) (m ((c : Thread nD τ).loc main_arg3) i)
    (m ((c : Thread nD τ).loc main_arg4) i) : Vec Ideal S4096x3072 .f32)

/-- The new first moments. -/
abbrev firsts (c : Dev nD) : Buf (Elt Ideal) ((c : Thread nD τ).loc main_v1_2) :=
  (fun i => first (gradient m c i) (m ((c : Thread nD τ).loc main_arg3) i) : Vec Ideal S4096x3072 .f32)

/-- The new second moments. -/
abbrev seconds (c : Dev nD) : Buf (Elt Ideal) ((c : Thread nD τ).loc main_v1_3) :=
  (fun i => second (gradient m c i) (m ((c : Thread nD τ).loc main_arg4) i) : Vec Ideal S4096x3072 .f32)

/-- Where every window's block stands at a point. -/
theorem positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Where an element of the block of point `t` lies in the array. -/
def place (t : Fin cfg0.N) (y : S128x3072.Idx) : S4096x3072.Idx := ((cfg0.win 5).blk t).view.emb y

/-- The host's transposed conditioning. -/
theorem host_transposed (c : Dev nD) : V m c main_v0
    = transpose S4096x8 [1, 0] (m ((c : Thread nD τ).loc main_arg0)) transposes_S8x4096_S4096x8_1_0 := by
  unfold V
  simp only [hostOps0, List.flatten_cons, List.flatten_nil, List.append_nil, List.cons_append, List.nil_append]
  after_results_simp

theorem transposed_apply (C : Vec Ideal S8x4096 .f32) (i : Fin 4096) (k : Fin 8) :
    (transpose S4096x8 [1, 0] C transposes_S8x4096_S4096x8_1_0 : Vec Ideal S4096x8 .f32) (ix2 i k) = C (ix2 k i) := by
  pointwise []

/-- The conditioning's block, element by element. -/
theorem block0 (c : Dev nD) (t : Fin cfg0.N) (y : S128x3072.Idx) (k : Fin 8) :
    iblk m c 0 t (ix2 (y 0) k) = m ((c : Thread nD τ).loc main_arg0) (ix2 k (place t y 0)) := by
  obtain ⟨p0, q0, p1, q1, p2, q2, p3, q3, p4, q4, p5, q5, p6, q6, p7, q7, p8, q8⟩ := positions t
  show V m c main_v0 _ = _
  rw [host_transposed]
  refine Eq.trans ?_ (transposed_apply (m ((c : Thread nD τ).loc main_arg0)) (place t y 0) k)
  congr 1
  funext a
  apply Fin.ext
  match a with
  | ⟨0, _⟩ => show win0_0.index t 0 * 128 + 1 * (y 0).val = win0_5.index t 0 * 128 + 1 * (y 0).val; rw [p0, p5]
  | ⟨1, _⟩ => show win0_0.index t 1 * 8 + 1 * k.val = k.val; rw [q0]; omega

theorem block1 (c : Dev nD) (t : Fin cfg0.N) (y : S128x3072.Idx) (k : Fin 8) :
    iblk m c 1 t (ix2 k (y 1)) = m ((c : Thread nD τ).loc main_arg1) (ix2 k (place t y 1)) := by
  obtain ⟨p0, q0, p1, q1, p2, q2, p3, q3, p4, q4, p5, q5, p6, q6, p7, q7, p8, q8⟩ := positions t
  show V m c main_arg1 _ = _
  rw [V_main_arg1]
  congr 1
  funext a
  apply Fin.ext
  match a with
  | ⟨0, _⟩ => show win0_1.index t 0 * 8 + 1 * k.val = k.val; rw [p1]; omega
  | ⟨1, _⟩ => show win0_1.index t 1 * 3072 + 1 * (y 1).val = win0_5.index t 1 * 3072 + 1 * (y 1).val; rw [q1, q5]

/-- The gradient's block at a point. -/
theorem gradient_block (c : Dev nD) (t : Fin cfg0.N) (y : S128x3072.Idx) :
    k0_pay5 (F := Ideal) (k0_pay9 (iblk m c 0 t) (iblk m c 1 t) (iblk m c 2 t) (iblk m c 3 t) (iblk m c 4 t))
      (k0_pay10 (iblk m c 0 t) (iblk m c 1 t) (iblk m c 2 t) (iblk m c 3 t) (iblk m c 4 t))
      (k0_pay11 (iblk m c 0 t) (iblk m c 1 t) (iblk m c 2 t) (iblk m c 3 t) (iblk m c 4 t))
      (k0_pay12 (iblk m c 0 t) (iblk m c 1 t) (iblk m c 2 t) (iblk m c 3 t) (iblk m c 4 t)) (View.ld (iblk m c 1 t) r0_8) y
      = gradient m c (place t y) := by
  unfold k0_pay9 k0_pay10 k0_pay11 k0_pay12
  rw [View.ld_unit_zero (S := S128x8) zeros]
  obtain ⟨i, j, rfl⟩ : ∃ i j, y = ix2 i j := ⟨y 0, y 1, eq_ix2 y⟩
  refine (block_grad (iblk m c 0 t) (iblk m c 1 t) i j).trans ?_
  show _ = ∑ k : Fin 8, _
  refine Finset.sum_congr rfl fun k _ => ?_
  exact congrArg₂ (fun a b => silu a * b) (block0 m c t (ix2 i j) k) (block1 m c t (ix2 i j) k)

theorem block2 (c : Dev nD) (t : Fin cfg0.N) (y : S128x3072.Idx) :
    iblk m c 2 t y = m ((c : Thread nD τ).loc main_arg2) (place t y) := by
  show V m c main_arg2 _ = _
  rw [V_main_arg2]
  rfl

theorem block3 (c : Dev nD) (t : Fin cfg0.N) (y : S128x3072.Idx) :
    iblk m c 3 t y = m ((c : Thread nD τ).loc main_arg3) (place t y) := by
  show V m c main_arg3 _ = _
  rw [V_main_arg3]
  rfl

theorem block4 (c : Dev nD) (t : Fin cfg0.N) (y : S128x3072.Idx) :
    iblk m c 4 t y = m ((c : Thread nD τ).loc main_arg4) (place t y) := by
  show V m c main_arg4 _ = _
  rw [V_main_arg4]
  rfl

theorem flushed_eq5 (c : Dev nD) (t : Fin cfg0.N) :
    (dats m 0 c).flushed 5 t = ((cfg0.win 5).blk t).view.read (Elt Ideal) (gradient m c) := by
  show (cfg0.win 5).cut (grid0.coords t) ((dats m 0 c).after 5 t) = _
  rw [after0_5]
  funext y
  show out0_5 (iblk m c 0 t) (iblk m c 1 t) (iblk m c 2 t) (iblk m c 3 t) (iblk m c 4 t) y = _
  unfold out0_5
  rw [View.canon_unit_zero zeros]
  exact gradient_block m c t y

theorem mem_block5 (t : Fin cfg0.N) (i : S4096x3072.Idx) : i ∈ ((cfg0.win 5).blk t).view.set ↔
    ∀ a : Fin 2, win0_5.index t a * S128x3072.size a ≤ (i a : Nat)
      ∧ (i a : Nat) < win0_5.index t a * S128x3072.size a + S128x3072.size a := by
  show i ∈ ((View.whole main_v1_0).slice (win0_5.rect t)).set ↔ _
  rw [View.set_slice_whole, Rect.mem_set_unit]
  exact Iff.rfl

theorem final5 (c : Dev nD) : (dats m 0 c).arrAt 5 cfg0.N = gradient m c :=
  (dats m 0 c).arrAt_eq_of_cover 5 (gradient m c) (fun t _ => flushed_eq5 m c t) fun i => by
    have h0 : (i 0 : Nat) < 4096 := (i 0).isLt
    have h1 : (i 1 : Nat) < 3072 := (i 1).isLt
    have hN : cfg0.N = 32 := by decide
    refine ⟨⟨(i 0 : Nat) / 128, by omega⟩, flush0_5 _, ?_⟩
    obtain ⟨p0, q0, p1, q1, p2, q2, p3, q3, p4, q4, p5, q5, p6, q6, p7, q7, p8, q8⟩ := positions ⟨(i 0 : Nat) / 128, by omega⟩
    rw [mem_block5]
    intro a
    match a with
    | ⟨0, _⟩ =>
      show win0_5.index _ 0 * 128 ≤ (i 0 : Nat) ∧ (i 0 : Nat) < win0_5.index _ 0 * 128 + 128
      rw [p5]; dsimp only; omega
    | ⟨1, _⟩ =>
      show win0_5.index _ 1 * 3072 ≤ (i 1 : Nat) ∧ (i 1 : Nat) < win0_5.index _ 1 * 3072 + 3072
      rw [q5]; dsimp only; omega

theorem place6 (t : Fin cfg0.N) (y : S128x3072.Idx) : ((cfg0.win 6).blk t).view.emb y = place t y := by
  obtain ⟨p0, q0, p1, q1, p2, q2, p3, q3, p4, q4, p5, q5, p6, q6, p7, q7, p8, q8⟩ := positions t
  funext a
  apply Fin.ext
  match a with
  | ⟨0, _⟩ => show win0_6.index t 0 * 128 + 1 * (y 0).val = win0_5.index t 0 * 128 + 1 * (y 0).val; rw [p6, p5]
  | ⟨1, _⟩ => show win0_6.index t 1 * 3072 + 1 * (y 1).val = win0_5.index t 1 * 3072 + 1 * (y 1).val; rw [q6, q5]

theorem flushed_eq6 (c : Dev nD) (t : Fin cfg0.N) :
    (dats m 0 c).flushed 6 t = ((cfg0.win 6).blk t).view.read (Elt Ideal) (changed m c) := by
  show (cfg0.win 6).cut (grid0.coords t) ((dats m 0 c).after 6 t) = _
  rw [after0_6]
  funext y
  show out0_6 (iblk m c 0 t) (iblk m c 1 t) (iblk m c 2 t) (iblk m c 3 t) (iblk m c 4 t) y = _
  unfold out0_6
  rw [View.canon_unit_zero zeros, View.ld_unit_zero (S := S128x3072) zeros, View.ld_unit_zero (S := S128x3072) zeros, View.ld_unit_zero (S := S128x3072) zeros]
  show change (iblk m c 2 t y) (k0_pay5 (F := Ideal) (k0_pay9 (iblk m c 0 t) (iblk m c 1 t) (iblk m c 2 t) (iblk m c 3 t) (iblk m c 4 t)) (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (View.ld (iblk m c 1 t) r0_8) y) (iblk m c 3 t y) (iblk m c 4 t y) = changed m c (((cfg0.win 6).blk t).view.emb y)
  rw [place6, gradient_block, block2, block3, block4]

theorem mem_block6 (t : Fin cfg0.N) (i : S4096x3072.Idx) : i ∈ ((cfg0.win 6).blk t).view.set ↔
    ∀ a : Fin 2, win0_6.index t a * S128x3072.size a ≤ (i a : Nat)
      ∧ (i a : Nat) < win0_6.index t a * S128x3072.size a + S128x3072.size a := by
  show i ∈ ((View.whole main_v1_1).slice (win0_6.rect t)).set ↔ _
  rw [View.set_slice_whole, Rect.mem_set_unit]
  exact Iff.rfl

theorem final6 (c : Dev nD) : (dats m 0 c).arrAt 6 cfg0.N = changed m c :=
  (dats m 0 c).arrAt_eq_of_cover 6 (changed m c) (fun t _ => flushed_eq6 m c t) fun i => by
    have h0 : (i 0 : Nat) < 4096 := (i 0).isLt
    have h1 : (i 1 : Nat) < 3072 := (i 1).isLt
    have hN : cfg0.N = 32 := by decide
    refine ⟨⟨(i 0 : Nat) / 128, by omega⟩, flush0_6 _, ?_⟩
    obtain ⟨p0, q0, p1, q1, p2, q2, p3, q3, p4, q4, p5, q5, p6, q6, p7, q7, p8, q8⟩ := positions ⟨(i 0 : Nat) / 128, by omega⟩
    rw [mem_block6]
    intro a
    match a with
    | ⟨0, _⟩ =>
      show win0_6.index _ 0 * 128 ≤ (i 0 : Nat) ∧ (i 0 : Nat) < win0_6.index _ 0 * 128 + 128
      rw [p6]; dsimp only; omega
    | ⟨1, _⟩ =>
      show win0_6.index _ 1 * 3072 ≤ (i 1 : Nat) ∧ (i 1 : Nat) < win0_6.index _ 1 * 3072 + 3072
      rw [q6]; dsimp only; omega

theorem place7 (t : Fin cfg0.N) (y : S128x3072.Idx) : ((cfg0.win 7).blk t).view.emb y = place t y := by
  obtain ⟨p0, q0, p1, q1, p2, q2, p3, q3, p4, q4, p5, q5, p6, q6, p7, q7, p8, q8⟩ := positions t
  funext a
  apply Fin.ext
  match a with
  | ⟨0, _⟩ => show win0_7.index t 0 * 128 + 1 * (y 0).val = win0_5.index t 0 * 128 + 1 * (y 0).val; rw [p7, p5]
  | ⟨1, _⟩ => show win0_7.index t 1 * 3072 + 1 * (y 1).val = win0_5.index t 1 * 3072 + 1 * (y 1).val; rw [q7, q5]

theorem flushed_eq7 (c : Dev nD) (t : Fin cfg0.N) :
    (dats m 0 c).flushed 7 t = ((cfg0.win 7).blk t).view.read (Elt Ideal) (firsts m c) := by
  show (cfg0.win 7).cut (grid0.coords t) ((dats m 0 c).after 7 t) = _
  rw [after0_7]
  funext y
  show out0_7 (iblk m c 0 t) (iblk m c 1 t) (iblk m c 2 t) (iblk m c 3 t) (iblk m c 4 t) y = _
  unfold out0_7
  rw [View.canon_unit_zero zeros, View.ld_unit_zero (S := S128x3072) zeros]
  show first (k0_pay5 (F := Ideal) (k0_pay9 (iblk m c 0 t) (iblk m c 1 t) (iblk m c 2 t) (iblk m c 3 t) (iblk m c 4 t)) (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (View.ld (iblk m c 1 t) r0_8) y) (iblk m c 3 t y) = firsts m c (((cfg0.win 7).blk t).view.emb y)
  rw [place7, gradient_block, block3]

theorem mem_block7 (t : Fin cfg0.N) (i : S4096x3072.Idx) : i ∈ ((cfg0.win 7).blk t).view.set ↔
    ∀ a : Fin 2, win0_7.index t a * S128x3072.size a ≤ (i a : Nat)
      ∧ (i a : Nat) < win0_7.index t a * S128x3072.size a + S128x3072.size a := by
  show i ∈ ((View.whole main_v1_2).slice (win0_7.rect t)).set ↔ _
  rw [View.set_slice_whole, Rect.mem_set_unit]
  exact Iff.rfl

theorem final7 (c : Dev nD) : (dats m 0 c).arrAt 7 cfg0.N = firsts m c :=
  (dats m 0 c).arrAt_eq_of_cover 7 (firsts m c) (fun t _ => flushed_eq7 m c t) fun i => by
    have h0 : (i 0 : Nat) < 4096 := (i 0).isLt
    have h1 : (i 1 : Nat) < 3072 := (i 1).isLt
    have hN : cfg0.N = 32 := by decide
    refine ⟨⟨(i 0 : Nat) / 128, by omega⟩, flush0_7 _, ?_⟩
    obtain ⟨p0, q0, p1, q1, p2, q2, p3, q3, p4, q4, p5, q5, p6, q6, p7, q7, p8, q8⟩ := positions ⟨(i 0 : Nat) / 128, by omega⟩
    rw [mem_block7]
    intro a
    match a with
    | ⟨0, _⟩ =>
      show win0_7.index _ 0 * 128 ≤ (i 0 : Nat) ∧ (i 0 : Nat) < win0_7.index _ 0 * 128 + 128
      rw [p7]; dsimp only; omega
    | ⟨1, _⟩ =>
      show win0_7.index _ 1 * 3072 ≤ (i 1 : Nat) ∧ (i 1 : Nat) < win0_7.index _ 1 * 3072 + 3072
      rw [q7]; dsimp only; omega

theorem place8 (t : Fin cfg0.N) (y : S128x3072.Idx) : ((cfg0.win 8).blk t).view.emb y = place t y := by
  obtain ⟨p0, q0, p1, q1, p2, q2, p3, q3, p4, q4, p5, q5, p6, q6, p7, q7, p8, q8⟩ := positions t
  funext a
  apply Fin.ext
  match a with
  | ⟨0, _⟩ => show win0_8.index t 0 * 128 + 1 * (y 0).val = win0_5.index t 0 * 128 + 1 * (y 0).val; rw [p8, p5]
  | ⟨1, _⟩ => show win0_8.index t 1 * 3072 + 1 * (y 1).val = win0_5.index t 1 * 3072 + 1 * (y 1).val; rw [q8, q5]

theorem flushed_eq8 (c : Dev nD) (t : Fin cfg0.N) :
    (dats m 0 c).flushed 8 t = ((cfg0.win 8).blk t).view.read (Elt Ideal) (seconds m c) := by
  show (cfg0.win 8).cut (grid0.coords t) ((dats m 0 c).after 8 t) = _
  rw [after0_8]
  funext y
  show out0_8 (iblk m c 0 t) (iblk m c 1 t) (iblk m c 2 t) (iblk m c 3 t) (iblk m c 4 t) y = _
  unfold out0_8
  rw [View.canon_unit_zero zeros, View.ld_unit_zero (S := S128x3072) zeros]
  show second (k0_pay5 (F := Ideal) (k0_pay9 (iblk m c 0 t) (iblk m c 1 t) (iblk m c 2 t) (iblk m c 3 t) (iblk m c 4 t)) (k0_pay10 (iblk m c 0 t) (iblk m c 1 t) (iblk m c 2 t) (iblk m c 3 t) (iblk m c 4 t)) (k0_pay11 (iblk m c 0 t) (iblk m c 1 t) (iblk m c 2 t) (iblk m c 3 t) (iblk m c 4 t)) (k0_pay12 (iblk m c 0 t) (iblk m c 1 t) (iblk m c 2 t) (iblk m c 3 t) (iblk m c 4 t)) (View.ld (iblk m c 1 t) r0_8) y) (iblk m c 4 t y) = seconds m c (((cfg0.win 8).blk t).view.emb y)
  rw [place8, gradient_block, block4]

theorem mem_block8 (t : Fin cfg0.N) (i : S4096x3072.Idx) : i ∈ ((cfg0.win 8).blk t).view.set ↔
    ∀ a : Fin 2, win0_8.index t a * S128x3072.size a ≤ (i a : Nat)
      ∧ (i a : Nat) < win0_8.index t a * S128x3072.size a + S128x3072.size a := by
  show i ∈ ((View.whole main_v1_3).slice (win0_8.rect t)).set ↔ _
  rw [View.set_slice_whole, Rect.mem_set_unit]
  exact Iff.rfl

theorem final8 (c : Dev nD) : (dats m 0 c).arrAt 8 cfg0.N = seconds m c :=
  (dats m 0 c).arrAt_eq_of_cover 8 (seconds m c) (fun t _ => flushed_eq8 m c t) fun i => by
    have h0 : (i 0 : Nat) < 4096 := (i 0).isLt
    have h1 : (i 1 : Nat) < 3072 := (i 1).isLt
    have hN : cfg0.N = 32 := by decide
    refine ⟨⟨(i 0 : Nat) / 128, by omega⟩, flush0_8 _, ?_⟩
    obtain ⟨p0, q0, p1, q1, p2, q2, p3, q3, p4, q4, p5, q5, p6, q6, p7, q7, p8, q8⟩ := positions ⟨(i 0 : Nat) / 128, by omega⟩
    rw [mem_block8]
    intro a
    match a with
    | ⟨0, _⟩ =>
      show win0_8.index _ 0 * 128 ≤ (i 0 : Nat) ∧ (i 0 : Nat) < win0_8.index _ 0 * 128 + 128
      rw [p8]; dsimp only; omega
    | ⟨1, _⟩ =>
      show win0_8.index _ 1 * 3072 ≤ (i 1 : Nat) ∧ (i 1 : Nat) < win0_8.index _ 1 * 3072 + 3072
      rw [q8]; dsimp only; omega

/-- The kernel's run: its four results, its arguments unchanged. -/
theorem run (ρ : Dev nD → PrngReg) : θ_run defs (onTc (τ := τ) (main (F := Ideal))) ⟨m, fun _ => 0, ρ⟩ fun r => ∀ c : Dev nD,
      r.2.mem ((c : Thread nD τ).loc main_v1_0) = gradient m c
      ∧ r.2.mem ((c : Thread nD τ).loc main_v1_1) = changed m c
      ∧ r.2.mem ((c : Thread nD τ).loc main_v1_2) = firsts m c
      ∧ r.2.mem ((c : Thread nD τ).loc main_v1_3) = seconds m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h c).1 5).trans (final5 m c), ((h c).1 6).trans (final6 m c),
      ((h c).1 7).trans (final7 m c), ((h c).1 8).trans (final8 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.AdamAdaIdeal.Grad

/-! ## The claims -/

namespace Cert.AdamAda.Claims

open Idealize.ShloMosaic Idealize.ShloMosaic.TcCoe Idealize.SL.Sem
open Cert.AdamAdaIdeal.Grad

theorem algebraic : Cert.algebraic_AdamAdaIdeal_RefAdamAdaIdeal := fun m ρ m' ρ' _ hag =>
  ⟨gradient m, changed m, firsts m, seconds m, run m ρ,
    (θ_run _ _ _).mono (fun _ h c => by
        obtain ⟨e0, e1, e2, e3, e4⟩ := hag c
        refine ⟨(h c).1.trans ?_, (h c).2.1.trans ?_, (h c).2.2.1.trans ?_, (h c).2.2.2.1.trans ?_, (h c).2.2.2.2⟩
        · rw [e0, e1]; exact reference_grad _ _
        · rw [e0, e1, e2, e3, e4]; funext i
          have g := congrFun (reference_grad (m ((c.tc : Thread Cert.AdamAdaIdeal.nD Cert.AdamAdaIdeal.τ).loc Cert.AdamAdaIdeal.main_arg0))
            (m ((c.tc : Thread Cert.AdamAdaIdeal.nD Cert.AdamAdaIdeal.τ).loc Cert.AdamAdaIdeal.main_arg1))) i
          exact congrArg (fun x => Cert.AdamStep.change _ x _ _) g
        · rw [e0, e1, e3]; funext i
          have g := congrFun (reference_grad (m ((c.tc : Thread Cert.AdamAdaIdeal.nD Cert.AdamAdaIdeal.τ).loc Cert.AdamAdaIdeal.main_arg0))
            (m ((c.tc : Thread Cert.AdamAdaIdeal.nD Cert.AdamAdaIdeal.τ).loc Cert.AdamAdaIdeal.main_arg1))) i
          exact congrArg (fun x => Cert.AdamStep.first x _) g
        · rw [e0, e1, e4]; funext i
          have g := congrFun (reference_grad (m ((c.tc : Thread Cert.AdamAdaIdeal.nD Cert.AdamAdaIdeal.τ).loc Cert.AdamAdaIdeal.main_arg0))
            (m ((c.tc : Thread Cert.AdamAdaIdeal.nD Cert.AdamAdaIdeal.τ).loc Cert.AdamAdaIdeal.main_arg1))) i
          exact congrArg (fun x => Cert.AdamStep.second x _) g)
      (Cert.RefAdamAdaIdeal.Value.run m' ρ')⟩

/-- The reference ends with its arguments unchanged and every counter at zero. -/
theorem reference_quiescent : Cert.quiescent_RefAdamAdaIdeal := fun m ρ _ =>
  (θ_run _ _ _).mono (fun r h => ⟨fun c => (h c).2.2.2.2, sem_eq_zero_of_no_sems (by decide) r.2⟩)
    (Cert.RefAdamAdaIdeal.Value.run m ρ)

end Cert.AdamAda.Claims

end
-- ==== Proof.GateBody.lean ====
/- What the gated layer normalisation's backward kernel leaves: the gradients of the gate's and of the normalised
   value's input row by row, and the column sums that its grid points add up. -/
module

public import proofs.«01_k».proof.Proof.Gen.GateIdeal.Value
public import proofs.«01_k».proof.Defs
public import Idealize.ShloMosaic.Lib.Pointwise
public import Idealize.ShloMosaic.Lib.Tactic
public import Idealize.ShloMosaic.Lib.Pipeline.Value
public import Idealize.ShloMosaic.Lib.Pipeline.ValueKit.Acc

@[expose] public section

set_option maxRecDepth 16384

noncomputable section

namespace Cert.GateIdeal.Rows

open Cert.GateIdeal Cert.GateIdeal.Gen Idealize.ShloMosaic Idealize.ShloMosaic.TcCoe Idealize.ShloMosaic.Tactic Idealize.SL.Sem
open Idealize.ShloMosaic.Pipeline (Dat)

theorem zeros : (![0, 0] : Fin 2 → Nat) = fun _ => 0 := funext fun a => by fin_cases a <;> rfl

/-! ## One row -/

/-- The number of columns, as the body's constant reads. -/
abbrev width : EReal := Ideal.ofBits .f32 0x45000000#32

/-- The small number added to the variance. -/
abbrev eps : EReal := Ideal.ofBits .f32 0x358637BD#32

section
variable (x g b z d : Fin 2048 → EReal)

/-- A row's mean. -/
def mean : EReal := Ideal.div (∑ k, x k) width
/-- A row less its mean. -/
def cent (l : Fin 2048) : EReal := x l - mean x
/-- A row's variance. -/
def variance : EReal := Ideal.div (∑ k, cent x k * cent x k) width
/-- The reciprocal root of a row's variance and the small number. -/
def root : EReal := Ideal.rsqrt (variance x + eps)
/-- A row brought to mean zero and variance one. -/
def hat (l : Fin 2048) : EReal := cent x l * root x
/-- The layer normalisation of a row. -/
def norm (l : Fin 2048) : EReal := hat x l * g l + b l
/-- The gradient of the gate's input. -/
def gateGrad (l : Fin 2048) : EReal :=
  d l * (norm x g b l * Ideal.logistic (norm x g b l)) * (Ideal.logistic (z l) * (1 + z l * (1 - Ideal.logistic (z l))))
/-- The gradient of the normalised row. -/
def normGrad (l : Fin 2048) : EReal :=
  d l * (z l * Ideal.logistic (z l)) * (Ideal.logistic (norm x g b l) * (1 + norm x g b l * (1 - Ideal.logistic (norm x g b l))))
/-- The gradient of the row before gain and shift. -/
def hatGrad (l : Fin 2048) : EReal := normGrad x g b z d l * g l
/-- The gradient of the row itself. -/
def inputGrad (l : Fin 2048) : EReal :=
  root x * (hatGrad x g b z d l - Ideal.div (∑ k, hatGrad x g b z d k) width
    - hat x l * Ideal.div (∑ k, hatGrad x g b z d k * hat x k) width)
end

/-! ## What one run of the body leaves in each output -/

/-- The body's value for the normalised rows' gradient. -/
abbrev normTerm (x0 x1 : Vec Ideal S128x2048 .f32) (x2 : Vec Ideal S128x2048 .bf16) (x3 x4 : Vec Ideal S1x2048 .f32) : Vec Ideal S128x2048 .f32 :=
  k0_pay12 (F := Ideal) (k0_pay7 x1 x3 x4) (k0_pay8 x1 x3 x4) (k0_pay9 x2) (k0_pay10 x2) x0

/-- The body's value for the input's gradient. -/
abbrev inputTerm (x0 x1 : Vec Ideal S128x2048 .f32) (x2 : Vec Ideal S128x2048 .bf16) (x3 x4 : Vec Ideal S1x2048 .f32) : Vec Ideal S128x2048 .f32 :=
  k0_pay13 (F := Ideal) (k0_pay5 x1) (k0_pay6 x1) (k0_pay7 x1 x3 x4) (k0_pay8 x1 x3 x4) (k0_pay9 x2) (k0_pay10 x2) x0 x3

section
variable (c : Dev nD) (i : grid0.Coords) (arg2 : Memref sig .tc .vmem S128x2048 .f32) (harg2 : arg2.IsWhole) (arg3 : Memref sig .tc .vmem S128x2048 .f32) (harg3 : arg3.IsWhole) (arg4 : Memref sig .tc .vmem S128x2048 .bf16) (harg4 : arg4.IsWhole) (arg5 : Memref sig .tc .vmem S1x2048 .f32) (harg5 : arg5.IsWhole) (arg6 : Memref sig .tc .vmem S1x2048 .f32) (harg6 : arg6.IsWhole) (arg7 : Memref sig .tc .vmem S128x2048 .bf16) (harg7 : arg7.IsWhole) (arg8 : Memref sig .tc .vmem S128x2048 .f32) (harg8 : arg8.IsWhole) (arg9 : Memref sig .tc .vmem S1x2048 .f32) (harg9 : arg9.IsWhole) (arg10 : Memref sig .tc .vmem S1x2048 .f32) (harg10 : arg10.IsWhole) (arg11 : Memref sig .tc .vmem S1x2048 .f32) (harg11 : arg11.IsWhole)

theorem gate_first (hc : cond0_0 i) (x0 x1 : Vec Ideal S128x2048 .f32) (x2 : Vec Ideal S128x2048 .bf16) (x3 x4 : Vec Ideal S1x2048 .f32) :
    out0_A_5 c i arg2 harg2 arg3 harg3 arg4 harg4 arg5 harg5 arg6 harg6 arg7 harg7 arg8 harg8 arg9 harg9 arg10 harg10 arg11 harg11 hc x0 x1 x2 x3 x4 = k0_pay11 (F := Ideal) x1 x3 x4 x2 x0 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  rw [View.canon_cons_unit_zero (S := S128x2048) zeros]
  simp only [View.readAt_eq_ld, harg2.read_unread, harg3.read_unread, harg4.read_unread, harg5.read_unread, harg6.read_unread, View.ld_unit_zero (S := S128x2048) zeros, View.ld_unit_zero (S := S1x2048) zeros, View.readCov_unit_zero (S := S1x2048) _ zeros]

theorem input_first (hc : cond0_0 i) (x0 x1 : Vec Ideal S128x2048 .f32) (x2 : Vec Ideal S128x2048 .bf16) (x3 x4 : Vec Ideal S1x2048 .f32) :
    out0_A_6 c i arg2 harg2 arg3 harg3 arg4 harg4 arg5 harg5 arg6 harg6 arg7 harg7 arg8 harg8 arg9 harg9 arg10 harg10 arg11 harg11 hc x0 x1 x2 x3 x4 = inputTerm x0 x1 x2 x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  rw [View.canon_cons_unit_zero (S := S128x2048) zeros]
  simp only [View.readAt_eq_ld, harg2.read_unread, harg3.read_unread, harg4.read_unread, harg5.read_unread, harg6.read_unread, View.ld_unit_zero (S := S128x2048) zeros, View.ld_unit_zero (S := S1x2048) zeros, View.readCov_unit_zero (S := S1x2048) _ zeros]

theorem gain_first (hc : cond0_0 i) (x0 x1 : Vec Ideal S128x2048 .f32) (x2 : Vec Ideal S128x2048 .bf16) (x3 x4 : Vec Ideal S1x2048 .f32) :
    out0_A_7 c i arg2 harg2 arg3 harg3 arg4 harg4 arg5 harg5 arg6 harg6 arg7 harg7 arg8 harg8 arg9 harg9 arg10 harg10 arg11 harg11 hc x0 x1 x2 x3 x4 = k0_pay17 (F := Ideal) (k0_pay5 x1) (k0_pay7 x1 x3 x4) (k0_pay8 x1 x3 x4) (k0_pay9 x2) (k0_pay10 x2) x0 (k0_pay14 (F := Ideal)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  rw [View.canon_cons_unit_zero (S := S1x2048) zeros]
  simp only [View.readAt_eq_ld, harg2.read_unread, harg3.read_unread, harg4.read_unread, harg5.read_unread, harg6.read_unread, View.ld_unit_zero (S := S128x2048) zeros, View.ld_unit_zero (S := S1x2048) zeros, View.readCov_unit_zero (S := S1x2048) _ zeros]

theorem shift_first (hc : cond0_0 i) (x0 x1 : Vec Ideal S128x2048 .f32) (x2 : Vec Ideal S128x2048 .bf16) (x3 x4 : Vec Ideal S1x2048 .f32) :
    out0_A_8 c i arg2 harg2 arg3 harg3 arg4 harg4 arg5 harg5 arg6 harg6 arg7 harg7 arg8 harg8 arg9 harg9 arg10 harg10 arg11 harg11 hc x0 x1 x2 x3 x4 = k0_pay1 (F := Ideal) (normTerm x0 x1 x2 x3 x4) (k0_pay15 (F := Ideal)) := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  rw [View.canon_cons_unit_zero (S := S1x2048) zeros]
  simp only [View.readAt_eq_ld, harg2.read_unread, harg3.read_unread, harg4.read_unread, harg5.read_unread, harg6.read_unread, View.ld_unit_zero (S := S128x2048) zeros, View.ld_unit_zero (S := S1x2048) zeros, View.readCov_unit_zero (S := S1x2048) _ zeros]

theorem bias_first (hc : cond0_0 i) (x0 x1 : Vec Ideal S128x2048 .f32) (x2 : Vec Ideal S128x2048 .bf16) (x3 x4 : Vec Ideal S1x2048 .f32) :
    out0_A_9 c i arg2 harg2 arg3 harg3 arg4 harg4 arg5 harg5 arg6 harg6 arg7 harg7 arg8 harg8 arg9 harg9 arg10 harg10 arg11 harg11 hc x0 x1 x2 x3 x4 = k0_pay2 (F := Ideal) (inputTerm x0 x1 x2 x3 x4) (k0_pay16 (F := Ideal)) := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 hc x0 x1 x2 x3 x4)]
  unfold kernelRun0_A
  dsimp only
  sl_unfold_words
  rw [View.canon_cons_unit_zero (S := S1x2048) zeros]
  simp only [View.readAt_eq_ld, harg2.read_unread, harg3.read_unread, harg4.read_unread, harg5.read_unread, harg6.read_unread, View.ld_unit_zero (S := S128x2048) zeros, View.ld_unit_zero (S := S1x2048) zeros, View.readCov_unit_zero (S := S1x2048) _ zeros]

theorem gate_later (hc : ¬cond0_0 i) (x0 x1 : Vec Ideal S128x2048 .f32) (x2 : Vec Ideal S128x2048 .bf16) (x3 x4 : Vec Ideal S1x2048 .f32) (s7 s8 s9 : Vec Ideal S1x2048 .f32) :
    out0_B_5 c i arg2 harg2 arg3 harg3 arg4 harg4 arg5 harg5 arg6 harg6 arg7 harg7 arg8 harg8 arg9 harg9 arg10 harg10 arg11 harg11 hc x0 x1 x2 x3 x4 s7 s8 s9 = k0_pay11 (F := Ideal) x1 x3 x4 x2 x0 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 hc x0 x1 x2 x3 x4 s7 s8 s9)]
  unfold kernelRun0_B
  dsimp only
  sl_unfold_words
  rw [View.canon_cons_unit_zero (S := S128x2048) zeros]
  simp only [View.readAt_eq_ld, harg2.read_unread, harg3.read_unread, harg4.read_unread, harg5.read_unread, harg6.read_unread, harg9.read_unread, harg10.read_unread, harg11.read_unread, View.ld_unit_zero (S := S128x2048) zeros, View.ld_unit_zero (S := S1x2048) zeros, View.readCov_unit_zero (S := S1x2048) _ zeros]

theorem input_later (hc : ¬cond0_0 i) (x0 x1 : Vec Ideal S128x2048 .f32) (x2 : Vec Ideal S128x2048 .bf16) (x3 x4 : Vec Ideal S1x2048 .f32) (s7 s8 s9 : Vec Ideal S1x2048 .f32) :
    out0_B_6 c i arg2 harg2 arg3 harg3 arg4 harg4 arg5 harg5 arg6 harg6 arg7 harg7 arg8 harg8 arg9 harg9 arg10 harg10 arg11 harg11 hc x0 x1 x2 x3 x4 s7 s8 s9 = inputTerm x0 x1 x2 x3 x4 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 hc x0 x1 x2 x3 x4 s7 s8 s9)]
  unfold kernelRun0_B
  dsimp only
  sl_unfold_words
  rw [View.canon_cons_unit_zero (S := S128x2048) zeros]
  simp only [View.readAt_eq_ld, harg2.read_unread, harg3.read_unread, harg4.read_unread, harg5.read_unread, harg6.read_unread, harg9.read_unread, harg10.read_unread, harg11.read_unread, View.ld_unit_zero (S := S128x2048) zeros, View.ld_unit_zero (S := S1x2048) zeros, View.readCov_unit_zero (S := S1x2048) _ zeros]

theorem gain_later (hc : ¬cond0_0 i) (x0 x1 : Vec Ideal S128x2048 .f32) (x2 : Vec Ideal S128x2048 .bf16) (x3 x4 : Vec Ideal S1x2048 .f32) (s7 s8 s9 : Vec Ideal S1x2048 .f32) :
    out0_B_7 c i arg2 harg2 arg3 harg3 arg4 harg4 arg5 harg5 arg6 harg6 arg7 harg7 arg8 harg8 arg9 harg9 arg10 harg10 arg11 harg11 hc x0 x1 x2 x3 x4 s7 s8 s9 = k0_pay17 (F := Ideal) (k0_pay5 x1) (k0_pay7 x1 x3 x4) (k0_pay8 x1 x3 x4) (k0_pay9 x2) (k0_pay10 x2) x0 s7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc x0 x1 x2 x3 x4 s7 s8 s9)]
  unfold kernelRun0_B
  dsimp only
  sl_unfold_words
  rw [View.canon_cons_unit_zero (S := S1x2048) zeros]
  simp only [View.readAt_eq_ld, harg2.read_unread, harg3.read_unread, harg4.read_unread, harg5.read_unread, harg6.read_unread, harg9.read_unread, harg10.read_unread, harg11.read_unread, View.ld_unit_zero (S := S128x2048) zeros, View.ld_unit_zero (S := S1x2048) zeros, View.readCov_unit_zero (S := S1x2048) _ zeros]

theorem shift_later (hc : ¬cond0_0 i) (x0 x1 : Vec Ideal S128x2048 .f32) (x2 : Vec Ideal S128x2048 .bf16) (x3 x4 : Vec Ideal S1x2048 .f32) (s7 s8 s9 : Vec Ideal S1x2048 .f32) :
    out0_B_8 c i arg2 harg2 arg3 harg3 arg4 harg4 arg5 harg5 arg6 harg6 arg7 harg7 arg8 harg8 arg9 harg9 arg10 harg10 arg11 harg11 hc x0 x1 x2 x3 x4 s7 s8 s9 = k0_pay1 (F := Ideal) (normTerm x0 x1 x2 x3 x4) s8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 hc x0 x1 x2 x3 x4 s7 s8 s9)]
  unfold kernelRun0_B
  dsimp only
  sl_unfold_words
  rw [View.canon_cons_unit_zero (S := S1x2048) zeros]
  simp only [View.readAt_eq_ld, harg2.read_unread, harg3.read_unread, harg4.read_unread, harg5.read_unread, harg6.read_unread, harg9.read_unread, harg10.read_unread, harg11.read_unread, View.ld_unit_zero (S := S128x2048) zeros, View.ld_unit_zero (S := S1x2048) zeros, View.readCov_unit_zero (S := S1x2048) _ zeros]

theorem bias_later (hc : ¬cond0_0 i) (x0 x1 : Vec Ideal S128x2048 .f32) (x2 : Vec Ideal S128x2048 .bf16) (x3 x4 : Vec Ideal S1x2048 .f32) (s7 s8 s9 : Vec Ideal S1x2048 .f32) :
    out0_B_9 c i arg2 harg2 arg3 harg3 arg4 harg4 arg5 harg5 arg6 harg6 arg7 harg7 arg8 harg8 arg9 harg9 arg10 harg10 arg11 harg11 hc x0 x1 x2 x3 x4 s7 s8 s9 = k0_pay2 (F := Ideal) (inputTerm x0 x1 x2 x3 x4) s9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 hc x0 x1 x2 x3 x4 s7 s8 s9)]
  unfold kernelRun0_B
  dsimp only
  sl_unfold_words
  rw [View.canon_cons_unit_zero (S := S1x2048) zeros]
  simp only [View.readAt_eq_ld, harg2.read_unread, harg3.read_unread, harg4.read_unread, harg5.read_unread, harg6.read_unread, harg9.read_unread, harg10.read_unread, harg11.read_unread, View.ld_unit_zero (S := S128x2048) zeros, View.ld_unit_zero (S := S1x2048) zeros, View.readCov_unit_zero (S := S1x2048) _ zeros]

end

/-! ## The payloads, element by element -/

section
variable (x0 x1 : Vec Ideal S128x2048 .f32) (x2 : Vec Ideal S128x2048 .bf16) (x3 x4 : Vec Ideal S1x2048 .f32)

theorem gate_apply (r : Fin 128) (l : Fin 2048) : k0_pay11 (F := Ideal) x1 x3 x4 x2 x0 (ix2 r l) = gateGrad (fun k => x1 (ix2 r k)) (fun k => x3 (ix2 0 k)) (fun k => x4 (ix2 0 k)) (fun k => x2 (ix2 r k)) (fun k => x0 (ix2 r k)) l := by
  pointwise [k0_pay11, k0_pay10, k0_pay9, k0_pay8, k0_pay7, k0_pay5, k0_pay4, k0_pay3, cent, mean, variance, root, hat, norm, gateGrad, normGrad, hatGrad, inputGrad, width, eps]

theorem hat_apply (r : Fin 128) (l : Fin 2048) : k0_pay5 (F := Ideal) x1 (ix2 r l) = hat (fun k => x1 (ix2 r k)) l := by
  pointwise [k0_pay5, k0_pay4, k0_pay3, cent, mean, variance, root, hat, norm, gateGrad, normGrad, hatGrad, inputGrad, width, eps]

theorem norm_apply (r : Fin 128) (l : Fin 2048) : normTerm x0 x1 x2 x3 x4 (ix2 r l) = normGrad (fun k => x1 (ix2 r k)) (fun k => x3 (ix2 0 k)) (fun k => x4 (ix2 0 k)) (fun k => x2 (ix2 r k)) (fun k => x0 (ix2 r k)) l := by
  pointwise [normTerm, k0_pay12, k0_pay10, k0_pay9, k0_pay8, k0_pay7, k0_pay5, k0_pay4, k0_pay3, cent, mean, variance, root, hat, norm, gateGrad, normGrad, hatGrad, inputGrad, width, eps]

theorem input_apply (r : Fin 128) (l : Fin 2048) : inputTerm x0 x1 x2 x3 x4 (ix2 r l) = inputGrad (fun k => x1 (ix2 r k)) (fun k => x3 (ix2 0 k)) (fun k => x4 (ix2 0 k)) (fun k => x2 (ix2 r k)) (fun k => x0 (ix2 r k)) l := by
  have e : inputTerm x0 x1 x2 x3 x4 (ix2 r l) = k0_pay6 (F := Ideal) x1 (ix2 r 0)
      * (normTerm x0 x1 x2 x3 x4 (ix2 r l) * x3 (ix2 0 l) - Ideal.div (∑ k : Fin 2048, normTerm x0 x1 x2 x3 x4 (ix2 r k) * x3 (ix2 0 k)) width
        - k0_pay5 (F := Ideal) x1 (ix2 r l) * Ideal.div (∑ k : Fin 2048, normTerm x0 x1 x2 x3 x4 (ix2 r k) * x3 (ix2 0 k) * k0_pay5 (F := Ideal) x1 (ix2 r k)) width) := by
    pointwise [inputTerm, normTerm, k0_pay13, width]
  have e6 : k0_pay6 (F := Ideal) x1 (ix2 r 0) = root (fun k => x1 (ix2 r k)) := by
    pointwise [k0_pay6, k0_pay4, k0_pay3, cent, mean, variance, root, hat, norm, gateGrad, normGrad, hatGrad, inputGrad, width, eps]
  rw [e, e6]
  simp only [hat_apply, norm_apply]
  rfl

theorem gain_apply (s : Vec Ideal S1x2048 .f32) (l : Fin 2048) :
    k0_pay17 (F := Ideal) (k0_pay5 x1) (k0_pay7 x1 x3 x4) (k0_pay8 x1 x3 x4) (k0_pay9 x2) (k0_pay10 x2) x0 s (ix2 0 l)
      = s (ix2 0 l) + ∑ r : Fin 128, normGrad (fun k => x1 (ix2 r k)) (fun k => x3 (ix2 0 k)) (fun k => x4 (ix2 0 k)) (fun k => x2 (ix2 r k)) (fun k => x0 (ix2 r k)) l * hat (fun k => x1 (ix2 r k)) l := by
  have e : k0_pay17 (F := Ideal) (k0_pay5 x1) (k0_pay7 x1 x3 x4) (k0_pay8 x1 x3 x4) (k0_pay9 x2) (k0_pay10 x2) x0 s (ix2 0 l)
      = s (ix2 0 l) + ∑ r : Fin 128, normTerm x0 x1 x2 x3 x4 (ix2 r l) * k0_pay5 (F := Ideal) x1 (ix2 r l) := by
    pointwise [normTerm, k0_pay17]
  rw [e]
  simp only [hat_apply, norm_apply]

theorem shift_apply (s : Vec Ideal S1x2048 .f32) (l : Fin 2048) :
    k0_pay1 (F := Ideal) (normTerm x0 x1 x2 x3 x4) s (ix2 0 l) = s (ix2 0 l) + ∑ r : Fin 128, normGrad (fun k => x1 (ix2 r k)) (fun k => x3 (ix2 0 k)) (fun k => x4 (ix2 0 k)) (fun k => x2 (ix2 r k)) (fun k => x0 (ix2 r k)) l := by
  have e : k0_pay1 (F := Ideal) (normTerm x0 x1 x2 x3 x4) s (ix2 0 l) = s (ix2 0 l) + ∑ r : Fin 128, normTerm x0 x1 x2 x3 x4 (ix2 r l) := by
    pointwise [k0_pay1]
  rw [e]
  simp only [norm_apply]

theorem bias_apply (s : Vec Ideal S1x2048 .f32) (l : Fin 2048) :
    k0_pay2 (F := Ideal) (inputTerm x0 x1 x2 x3 x4) s (ix2 0 l) = s (ix2 0 l) + ∑ r : Fin 128, inputGrad (fun k => x1 (ix2 r k)) (fun k => x3 (ix2 0 k)) (fun k => x4 (ix2 0 k)) (fun k => x2 (ix2 r k)) (fun k => x0 (ix2 r k)) l := by
  have e : k0_pay2 (F := Ideal) (inputTerm x0 x1 x2 x3 x4) s (ix2 0 l) = s (ix2 0 l) + ∑ r : Fin 128, inputTerm x0 x1 x2 x3 x4 (ix2 r l) := by
    pointwise [k0_pay2]
  rw [e]
  simp only [input_apply]
end

theorem zero_7 (l : Fin 2048) : k0_pay14 (F := Ideal) (ix2 0 l) = 0 := by pointwise [k0_pay14]
theorem zero_8 (l : Fin 2048) : k0_pay15 (F := Ideal) (ix2 0 l) = 0 := by pointwise [k0_pay15]
theorem zero_9 (l : Fin 2048) : k0_pay16 (F := Ideal) (ix2 0 l) = 0 := by pointwise [k0_pay16]

end Cert.GateIdeal.Rows

end
-- ==== Proof.GateValue.lean ====
/- The arrays the gated layer normalisation's backward kernel leaves after all grid points. -/
module

public import proofs.«01_k».proof.Proof.GateBody

@[expose] public section

set_option maxRecDepth 16384

noncomputable section

namespace Cert.GateIdeal.Rows

open Cert.GateIdeal Cert.GateIdeal.Gen Idealize.ShloMosaic Idealize.ShloMosaic.TcCoe Idealize.ShloMosaic.Tactic Idealize.SL.Sem
open Idealize.ShloMosaic.Pipeline (Dat)

/-! ## The results as formulas in the arrays -/

/-- A row of the gate's input: its columns of the projection. -/
abbrev gateRow (P : Vec Ideal S4096x14336 .bf16) (s : Fin 4096) (k : Fin 2048) : EReal := P (ix2 s ⟨12288 + k.val, by omega⟩)
/-- A row of the incoming gradient: this mixer's columns. -/
abbrev incomingRow (D : Vec Ideal S4096x4096 .f32) (s : Fin 4096) (k : Fin 2048) : EReal := D (ix2 s ⟨2048 + k.val, by omega⟩)

section
variable (D : Vec Ideal S4096x4096 .f32) (U : Vec Ideal S4096x2048 .f32) (P : Vec Ideal S4096x14336 .bf16) (G B : Vec Ideal S1x2048 .f32)

/-- The gate's gradient. -/
abbrev gateAt (s : Fin 4096) (l : Fin 2048) : EReal :=
  gateGrad (fun k => U (ix2 s k)) (fun k => G (ix2 0 k)) (fun k => B (ix2 0 k)) (gateRow P s) (incomingRow D s) l
/-- The normalised rows' gradient. -/
abbrev normAt (s : Fin 4096) (l : Fin 2048) : EReal :=
  normGrad (fun k => U (ix2 s k)) (fun k => G (ix2 0 k)) (fun k => B (ix2 0 k)) (gateRow P s) (incomingRow D s) l
/-- The input's gradient. -/
abbrev inputAt (s : Fin 4096) (l : Fin 2048) : EReal :=
  inputGrad (fun k => U (ix2 s k)) (fun k => G (ix2 0 k)) (fun k => B (ix2 0 k)) (gateRow P s) (incomingRow D s) l
/-- One row's part of the gain's gradient. -/
abbrev gainAt (s : Fin 4096) (l : Fin 2048) : EReal := normAt D U P G B s l * hat (fun k => U (ix2 s k)) l
end

/-- The last columns replaced, the others kept. -/
def placed (A : Vec Ideal S4096x14336 .bf16) (f : Fin 4096 → Fin 2048 → EReal) : Vec Ideal S4096x14336 .bf16 := fun i =>
  if h : 12288 ≤ (i 1).val then f (i 0) ⟨(i 1).val - 12288, by have : (i 1).val < 14336 := (i 1).isLt; omega⟩ else A i

/-- All rows. -/
def allRows (f : Fin 4096 → Fin 2048 → EReal) : Vec Ideal S4096x2048 .f32 := fun i => f (i 0) (i 1)

/-- A column sum over all rows. -/
def columnSum (f : Fin 4096 → Fin 2048 → EReal) : Vec Ideal S1x2048 .f32 := fun i => ∑ s : Fin 4096, f s (i 1)

variable (m : (ℓ : Loc nD τ sig) → Buf (Elt Ideal) ℓ)

abbrev argA (c : Dev nD) : Vec Ideal S4096x14336 .bf16 := m ((c : Thread nD τ).loc main_arg0)
abbrev argD (c : Dev nD) : Vec Ideal S4096x4096 .f32 := m ((c : Thread nD τ).loc main_arg1)
abbrev argU (c : Dev nD) : Vec Ideal S4096x2048 .f32 := m ((c : Thread nD τ).loc main_arg2)
abbrev argP (c : Dev nD) : Vec Ideal S4096x14336 .bf16 := m ((c : Thread nD τ).loc main_arg3)
abbrev argG (c : Dev nD) : Vec Ideal S1x2048 .f32 := m ((c : Thread nD τ).loc main_arg4)
abbrev argB (c : Dev nD) : Vec Ideal S1x2048 .f32 := m ((c : Thread nD τ).loc main_arg5)

theorem point_lt (t : Fin cfg0.N) : t.val < 32 := Nat.lt_of_lt_of_eq t.isLt N_0

/-- Row `r` of point `n`'s block. -/
def row (n : ℕ) (hn : n < 32) (r : Fin 128) : Fin 4096 := ⟨n * 128 + r.val, by omega⟩

/-! ## The blocks -/

theorem positions : ∀ t : Fin cfg0.N,
    (win0_0.index t (0 : Fin 2) = t.val ∧ win0_0.index t (1 : Fin 2) = 1)
    ∧ (win0_1.index t (0 : Fin 2) = t.val ∧ win0_1.index t (1 : Fin 2) = 0)
    ∧ (win0_2.index t (0 : Fin 2) = t.val ∧ win0_2.index t (1 : Fin 2) = 6)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 6)
    ∧ (win0_6.index t (0 : Fin 2) = t.val ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

theorem block_0 (c : Dev nD) (t : Fin cfg0.N) (r : Fin 128) (l : Fin 2048) :
    (iblk m c 0 t : Vec Ideal S128x2048 .f32) (ix2 r l) = argD m c (ix2 (row t.val (point_lt t) r) ⟨2048 + l.val, by omega⟩) := by
  obtain ⟨⟨p, q⟩, -⟩ := positions t
  show V m c main_arg1 _ = _
  rw [V_main_arg1]
  congr 1
  funext a
  apply Fin.ext
  match a with
  | ⟨0, _⟩ => show win0_0.index t 0 * 128 + 1 * r.val = t.val * 128 + r.val; rw [p]; omega
  | ⟨1, _⟩ => show win0_0.index t 1 * 2048 + 1 * l.val = 2048 + l.val; rw [q]; omega

theorem block_1 (c : Dev nD) (t : Fin cfg0.N) (r : Fin 128) (l : Fin 2048) :
    (iblk m c 1 t : Vec Ideal S128x2048 .f32) (ix2 r l) = argU m c (ix2 (row t.val (point_lt t) r) l) := by
  obtain ⟨-, ⟨p, q⟩, -⟩ := positions t
  show V m c main_arg2 _ = _
  rw [V_main_arg2]
  congr 1
  funext a
  apply Fin.ext
  match a with
  | ⟨0, _⟩ => show win0_1.index t 0 * 128 + 1 * r.val = t.val * 128 + r.val; rw [p]; omega
  | ⟨1, _⟩ => show win0_1.index t 1 * 2048 + 1 * l.val = l.val; rw [q]; omega

theorem block_2 (c : Dev nD) (t : Fin cfg0.N) (r : Fin 128) (l : Fin 2048) :
    (iblk m c 2 t : Vec Ideal S128x2048 .bf16) (ix2 r l) = argP m c (ix2 (row t.val (point_lt t) r) ⟨12288 + l.val, by omega⟩) := by
  obtain ⟨-, -, ⟨p, q⟩, -⟩ := positions t
  show V m c main_arg3 _ = _
  rw [V_main_arg3]
  congr 1
  funext a
  apply Fin.ext
  match a with
  | ⟨0, _⟩ => show win0_2.index t 0 * 128 + 1 * r.val = t.val * 128 + r.val; rw [p]; omega
  | ⟨1, _⟩ => show win0_2.index t 1 * 2048 + 1 * l.val = 12288 + l.val; rw [q]; omega

theorem block_3 (c : Dev nD) (t : Fin cfg0.N) (l : Fin 2048) :
    (iblk m c 3 t : Vec Ideal S1x2048 .f32) (ix2 0 l) = argG m c (ix2 0 l) := by
  obtain ⟨-, -, -, ⟨p, q⟩, -⟩ := positions t
  show V m c main_arg4 _ = _
  rw [V_main_arg4]
  congr 1
  funext a
  apply Fin.ext
  match a with
  | ⟨0, _⟩ => show win0_3.index t 0 * 1 + 1 * (0 : Fin 1).val = (0 : Fin 1).val; rw [p]; omega
  | ⟨1, _⟩ => show win0_3.index t 1 * 2048 + 1 * l.val = l.val; rw [q]; omega

theorem block_4 (c : Dev nD) (t : Fin cfg0.N) (l : Fin 2048) :
    (iblk m c 4 t : Vec Ideal S1x2048 .f32) (ix2 0 l) = argB m c (ix2 0 l) := by
  obtain ⟨-, -, -, -, ⟨p, q⟩, -⟩ := positions t
  show V m c main_arg5 _ = _
  rw [V_main_arg5]
  congr 1
  funext a
  apply Fin.ext
  match a with
  | ⟨0, _⟩ => show win0_4.index t 0 * 1 + 1 * (0 : Fin 1).val = (0 : Fin 1).val; rw [p]; omega
  | ⟨1, _⟩ => show win0_4.index t 1 * 2048 + 1 * l.val = l.val; rw [q]; omega

/-! ## What every point leaves -/

theorem left_gate (c : Dev nD) (t : Fin cfg0.N) (r : Fin 128) (l : Fin 2048) :
    (outsAt0 m c t.val t.isLt).1 (ix2 r l) = gateAt (argD m c) (argU m c) (argP m c) (argG m c) (argB m c) (row t.val (point_lt t) r) l := by
  have e : (outsAt0 m c t.val t.isLt).1 = k0_pay11 (F := Ideal) (iblk m c 1 t) (iblk m c 3 t) (iblk m c 4 t) (iblk m c 2 t) (iblk m c 0 t) := by
    by_cases h0 : t.val % 32 = 0
    · rw [outsAt0_A m c t h0]
      dsimp only
      exact gate_first c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _
    · rw [outsAt0_B m c t h0]
      dsimp only
      exact gate_later c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _
  rw [e, gate_apply]
  simp only [block_0, block_1, block_2, block_3, block_4]

theorem left_input (c : Dev nD) (t : Fin cfg0.N) (r : Fin 128) (l : Fin 2048) :
    (outsAt0 m c t.val t.isLt).2.1 (ix2 r l) = inputAt (argD m c) (argU m c) (argP m c) (argG m c) (argB m c) (row t.val (point_lt t) r) l := by
  have e : (outsAt0 m c t.val t.isLt).2.1 = inputTerm (iblk m c 0 t) (iblk m c 1 t) (iblk m c 2 t) (iblk m c 3 t) (iblk m c 4 t) := by
    by_cases h0 : t.val % 32 = 0
    · rw [outsAt0_A m c t h0]
      dsimp only
      exact input_first c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _
    · rw [outsAt0_B m c t h0]
      dsimp only
      exact input_later c _ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) _ _ _ _ _ _ _ _ _
  rw [e, input_apply]
  simp only [block_0, block_1, block_2, block_3, block_4]

theorem left_gain (c : Dev nD) (l : Fin 2048) : ∀ (n : ℕ) (hn : n < cfg0.N), (outsAt0 m c n hn).2.2.1 (ix2 0 l)
    = ∑ s : Fin (n + 1), ∑ r : Fin 128, gainAt (argD m c) (argU m c) (argP m c) (argG m c) (argB m c) (row s.val (by have := point_lt ⟨n, hn⟩; have := s.isLt; dsimp only at *; omega) r) l := by
  intro n
  induction n with
  | zero =>
    intro hn
    have h0 : (⟨0, hn⟩ : Fin cfg0.N).val % 32 = 0 := Nat.zero_mod _
    have e := congrArg (fun u => u.2.2.1 (ix2 0 l)) (outsAt0_A m c ⟨0, hn⟩ h0)
    refine e.trans ?_
    dsimp only
    refine (congrFun (gain_first c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) _ _ _ _ _ _) (ix2 0 l)).trans ?_
    rw [gain_apply, zero_7, zero_add, Fin.sum_univ_one]
    refine Finset.sum_congr rfl fun r _ => ?_
    simp only [block_0, block_1, block_2, block_3, block_4]
    try rfl
  | succ n ih =>
    intro hn
    have hN : n + 1 < 32 := point_lt ⟨n + 1, hn⟩
    have h0 : ¬(⟨n + 1, hn⟩ : Fin cfg0.N).val % 32 = 0 := by show ¬(n + 1) % 32 = 0; omega
    have e := congrArg (fun u => u.2.2.1 (ix2 0 l)) (outsAt0_B m c ⟨n + 1, hn⟩ h0)
    refine e.trans ?_
    dsimp only
    refine (congrFun (gain_later c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) _ _ _ _ _ _ _ _ _) (ix2 0 l)).trans ?_
    rw [gain_apply]
    refine Eq.trans ?_ (Fin.sum_univ_castSucc _).symm
    refine congrArg₂ (· + ·) (ih (Nat.lt_of_succ_lt hn)) ?_
    refine Finset.sum_congr rfl fun r _ => ?_
    simp only [block_0, block_1, block_2, block_3, block_4]
    try rfl

theorem left_shift (c : Dev nD) (l : Fin 2048) : ∀ (n : ℕ) (hn : n < cfg0.N), (outsAt0 m c n hn).2.2.2.1 (ix2 0 l)
    = ∑ s : Fin (n + 1), ∑ r : Fin 128, normAt (argD m c) (argU m c) (argP m c) (argG m c) (argB m c) (row s.val (by have := point_lt ⟨n, hn⟩; have := s.isLt; dsimp only at *; omega) r) l := by
  intro n
  induction n with
  | zero =>
    intro hn
    have h0 : (⟨0, hn⟩ : Fin cfg0.N).val % 32 = 0 := Nat.zero_mod _
    have e := congrArg (fun u => u.2.2.2.1 (ix2 0 l)) (outsAt0_A m c ⟨0, hn⟩ h0)
    refine e.trans ?_
    dsimp only
    refine (congrFun (shift_first c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) _ _ _ _ _ _) (ix2 0 l)).trans ?_
    rw [shift_apply, zero_8, zero_add, Fin.sum_univ_one]
    refine Finset.sum_congr rfl fun r _ => ?_
    simp only [block_0, block_1, block_2, block_3, block_4]
    try rfl
  | succ n ih =>
    intro hn
    have hN : n + 1 < 32 := point_lt ⟨n + 1, hn⟩
    have h0 : ¬(⟨n + 1, hn⟩ : Fin cfg0.N).val % 32 = 0 := by show ¬(n + 1) % 32 = 0; omega
    have e := congrArg (fun u => u.2.2.2.1 (ix2 0 l)) (outsAt0_B m c ⟨n + 1, hn⟩ h0)
    refine e.trans ?_
    dsimp only
    refine (congrFun (shift_later c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) _ _ _ _ _ _ _ _ _) (ix2 0 l)).trans ?_
    rw [shift_apply]
    refine Eq.trans ?_ (Fin.sum_univ_castSucc _).symm
    refine congrArg₂ (· + ·) (ih (Nat.lt_of_succ_lt hn)) ?_
    refine Finset.sum_congr rfl fun r _ => ?_
    simp only [block_0, block_1, block_2, block_3, block_4]
    try rfl

theorem left_bias (c : Dev nD) (l : Fin 2048) : ∀ (n : ℕ) (hn : n < cfg0.N), (outsAt0 m c n hn).2.2.2.2 (ix2 0 l)
    = ∑ s : Fin (n + 1), ∑ r : Fin 128, inputAt (argD m c) (argU m c) (argP m c) (argG m c) (argB m c) (row s.val (by have := point_lt ⟨n, hn⟩; have := s.isLt; dsimp only at *; omega) r) l := by
  intro n
  induction n with
  | zero =>
    intro hn
    have h0 : (⟨0, hn⟩ : Fin cfg0.N).val % 32 = 0 := Nat.zero_mod _
    have e := congrArg (fun u => u.2.2.2.2 (ix2 0 l)) (outsAt0_A m c ⟨0, hn⟩ h0)
    refine e.trans ?_
    dsimp only
    refine (congrFun (bias_first c _ (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) _ _ _ _ _ _) (ix2 0 l)).trans ?_
    rw [bias_apply, zero_9, zero_add, Fin.sum_univ_one]
    refine Finset.sum_congr rfl fun r _ => ?_
    simp only [block_0, block_1, block_2, block_3, block_4]
    try rfl
  | succ n ih =>
    intro hn
    have hN : n + 1 < 32 := point_lt ⟨n + 1, hn⟩
    have h0 : ¬(⟨n + 1, hn⟩ : Fin cfg0.N).val % 32 = 0 := by show ¬(n + 1) % 32 = 0; omega
    have e := congrArg (fun u => u.2.2.2.2 (ix2 0 l)) (outsAt0_B m c ⟨n + 1, hn⟩ h0)
    refine e.trans ?_
    dsimp only
    refine (congrFun (bias_later c _ (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) _ _ _ _ _ _ _ _ _) (ix2 0 l)).trans ?_
    rw [bias_apply]
    refine Eq.trans ?_ (Fin.sum_univ_castSucc _).symm
    refine congrArg₂ (· + ·) (ih (Nat.lt_of_succ_lt hn)) ?_
    refine Finset.sum_congr rfl fun r _ => ?_
    simp only [block_0, block_1, block_2, block_3, block_4]
    try rfl

/-- A sum over the blocks and their rows is the sum over all rows. -/
theorem sum_rows (f : Fin 4096 → EReal) : ∑ s : Fin 32, ∑ r : Fin 128, f (row s.val s.isLt r) = ∑ i : Fin 4096, f i := by
  rw [← Fintype.sum_prod_type' (fun (s : Fin 32) (r : Fin 128) => f (row s.val s.isLt r))]
  refine Fintype.sum_equiv (finProdFinEquiv (m := 32) (n := 128)) _ _ fun p => ?_
  congr 1
  apply Fin.ext
  show p.1.val * 128 + p.2.val = p.2.val + 128 * p.1.val
  omega

/-! ## The arrays in the end -/

abbrev result5 (c : Dev nD) : Vec Ideal S4096x14336 .bf16 := placed (argA m c) (gateAt (argD m c) (argU m c) (argP m c) (argG m c) (argB m c))
abbrev result6 (c : Dev nD) : Vec Ideal S4096x2048 .f32 := allRows (inputAt (argD m c) (argU m c) (argP m c) (argG m c) (argB m c))
abbrev result7 (c : Dev nD) : Vec Ideal S1x2048 .f32 := columnSum (gainAt (argD m c) (argU m c) (argP m c) (argG m c) (argB m c))
abbrev result8 (c : Dev nD) : Vec Ideal S1x2048 .f32 := columnSum (normAt (argD m c) (argU m c) (argP m c) (argG m c) (argB m c))
abbrev result9 (c : Dev nD) : Vec Ideal S1x2048 .f32 := columnSum (inputAt (argD m c) (argU m c) (argP m c) (argG m c) (argB m c))

/-- The kernel starts from the array it is to complete. -/
theorem start (c : Dev nD) : V m c main_v0_0 = argA m c := by
  unfold V
  simp only [hostOps0, List.flatten_cons, List.flatten_nil, List.append_nil, List.cons_append, List.nil_append]
  after_results_simp
  try rfl

theorem placed_at (A : Vec Ideal S4096x14336 .bf16) (f : Fin 4096 → Fin 2048 → EReal) (s : Fin 4096) (l : Fin 2048) (i : S4096x14336.Idx)
    (h0 : (i 0).val = s.val) (h1 : (i 1).val = 12288 + l.val) : placed A f i = f s l := by
  unfold placed
  rw [dif_pos (by omega)]
  exact congrArg₂ f (Fin.ext h0) (Fin.ext (by show (i 1).val - 12288 = l.val; omega))

theorem written_5 (c : Dev nD) (t : Fin cfg0.N) : (dats m 0 c).flushed 5 t = ((cfg0.win 5).blk t).view.read (Elt Ideal) (result5 m c) := by
  obtain ⟨-, -, -, -, -, ⟨p, q⟩, -⟩ := positions t
  rw [Value.flushed5]
  funext y
  show (outsAt0 m c t.val t.isLt).1 y = result5 m c (((cfg0.win 5).blk t).view.emb y)
  have ey : (y : S128x2048.Idx) = ix2 (y 0) (y 1) := (ix2_eta (n0 := 128) (n1 := 2048) y).symm
  refine ((congrArg (outsAt0 m c t.val t.isLt).1 ey).trans (left_gate m c t (y 0) (y 1))).trans (placed_at _ _ _ _ _ ?_ ?_).symm
  · show win0_5.index t 0 * 128 + 1 * (y 0).val = t.val * 128 + (y 0).val; rw [p]; omega
  · show win0_5.index t 1 * 2048 + 1 * (y 1).val = 12288 + (y 1).val; rw [q]; omega

theorem mem_5 (t : Fin cfg0.N) (i : S4096x14336.Idx) : i ∈ ((cfg0.win 5).blk t).view.set
    ↔ (t.val * 128 ≤ (i 0 : Nat) ∧ (i 0 : Nat) < t.val * 128 + 128) ∧ 12288 ≤ (i 1 : Nat) := by
  obtain ⟨-, -, -, -, -, ⟨p, q⟩, -⟩ := positions t
  have i1 : (i 1 : Nat) < 14336 := (i 1).isLt
  show i ∈ ((View.whole main_v0_0).slice (win0_5.rect t)).set ↔ _
  rw [View.set_slice_whole, Rect.mem_set_unit]
  constructor
  · intro h
    have a0 : win0_5.index t 0 * 128 ≤ (i 0 : Nat) ∧ (i 0 : Nat) < win0_5.index t 0 * 128 + 128 := h 0
    have a1 : win0_5.index t 1 * 2048 ≤ (i 1 : Nat) ∧ (i 1 : Nat) < win0_5.index t 1 * 2048 + 2048 := h 1
    rw [p] at a0
    rw [q] at a1
    omega
  · intro h a
    match a with
    | ⟨0, _⟩ =>
      show win0_5.index t 0 * 128 ≤ (i 0 : Nat) ∧ (i 0 : Nat) < win0_5.index t 0 * 128 + 128
      rw [p]; omega
    | ⟨1, _⟩ =>
      show win0_5.index t 1 * 2048 ≤ (i 1 : Nat) ∧ (i 1 : Nat) < win0_5.index t 1 * 2048 + 2048
      rw [q]; omega

theorem final5 (c : Dev nD) : (dats m 0 c).arrAt 5 cfg0.N = result5 m c := by
  funext i
  have i0 : (i 0 : Nat) < 4096 := (i 0).isLt
  have hN : cfg0.N = 32 := N_0
  by_cases h : 12288 ≤ ((i : S4096x14336.Idx) 1 : Nat)
  · have ht : (i 0 : Nat) / 128 < cfg0.N := by omega
    refine (dats m 0 c).arrAt_apply_of_mem 5 (result5 m c) (fun t _ => written_5 m c t) cfg0.N ⟨(i 0 : Nat) / 128, ht⟩ i ht (flush0_5 _) ?_
    exact (mem_5 _ _).mpr ⟨by dsimp only; omega, h⟩
  · rw [Value.entry5 m c i fun t _ hi => h ((mem_5 t i).mp hi).2]
    show V m c main_v0_0 i = placed _ _ i
    rw [start]
    unfold placed
    rw [dif_neg h]

theorem written_6 (c : Dev nD) (t : Fin cfg0.N) : (dats m 0 c).flushed 6 t = ((cfg0.win 6).blk t).view.read (Elt Ideal) (result6 m c) := by
  obtain ⟨-, -, -, -, -, -, ⟨p, q⟩, -⟩ := positions t
  rw [Value.flushed6]
  funext y
  show (outsAt0 m c t.val t.isLt).2.1 y = result6 m c (((cfg0.win 6).blk t).view.emb y)
  have ey : (y : S128x2048.Idx) = ix2 (y 0) (y 1) := (ix2_eta (n0 := 128) (n1 := 2048) y).symm
  have e2 : (outsAt0 m c t.val t.isLt).2.1 (ix2 (y 0) (y 1)) = result6 m c (ix2 (row t.val (point_lt t) (y 0)) (y 1)) := left_input m c t (y 0) (y 1)
  refine ((congrArg (outsAt0 m c t.val t.isLt).2.1 ey).trans e2).trans (congrArg (result6 m c) ?_)
  funext a
  apply Fin.ext
  match a with
  | ⟨0, _⟩ => show t.val * 128 + (y 0).val = win0_6.index t 0 * 128 + 1 * (y 0).val; rw [p]; omega
  | ⟨1, _⟩ => show (y 1).val = win0_6.index t 1 * 2048 + 1 * (y 1).val; rw [q]; omega

theorem final6 (c : Dev nD) : (dats m 0 c).arrAt 6 cfg0.N = result6 m c :=
  (dats m 0 c).arrAt_eq_of_cover 6 (result6 m c) (fun t _ => written_6 m c t) fun i => by
    have i0 : (i 0 : Nat) < 4096 := (i 0).isLt
    have i1 : (i 1 : Nat) < 2048 := (i 1).isLt
    have hN : cfg0.N = 32 := N_0
    have ht : (i 0 : Nat) / 128 < cfg0.N := by omega
    obtain ⟨-, -, -, -, -, -, ⟨p, q⟩, -⟩ := positions ⟨(i 0 : Nat) / 128, ht⟩
    refine ⟨⟨(i 0 : Nat) / 128, ht⟩, flush0_6 _, ?_⟩
    show i ∈ ((View.whole main_v0_1).slice (win0_6.rect ⟨(i 0 : Nat) / 128, ht⟩)).set
    rw [View.set_slice_whole, Rect.mem_set_unit]
    intro a
    match a with
    | ⟨0, _⟩ =>
      show win0_6.index ⟨(i 0 : Nat) / 128, ht⟩ 0 * 128 ≤ (i 0 : Nat) ∧ (i 0 : Nat) < win0_6.index ⟨(i 0 : Nat) / 128, ht⟩ 0 * 128 + 128
      rw [p]; dsimp only; omega
    | ⟨1, _⟩ =>
      show win0_6.index ⟨(i 0 : Nat) / 128, ht⟩ 1 * 2048 ≤ (i 1 : Nat) ∧ (i 1 : Nat) < win0_6.index ⟨(i 0 : Nat) / 128, ht⟩ 1 * 2048 + 2048
      rw [q]; omega

theorem last_gain (c : Dev nD) (l : Fin 2048) (n : ℕ) (hn : n < cfg0.N) (h31 : n = 31) :
    (outsAt0 m c n hn).2.2.1 (ix2 0 l) = result7 m c (ix2 0 l) := by
  subst h31
  exact (left_gain m c l 31 hn).trans (sum_rows fun s => gainAt (argD m c) (argU m c) (argP m c) (argG m c) (argB m c) s l)

theorem written_7 (c : Dev nD) (t : Fin cfg0.N) (hf : (cfg0.win 7).flush t = true) :
    (dats m 0 c).flushed 7 t = ((cfg0.win 7).blk t).view.read (Elt Ideal) (result7 m c) := by
  obtain ⟨-, -, -, -, -, -, -, ⟨p, q⟩, -⟩ := positions t
  have hN := point_lt t
  have h31 : t.val = 31 := by have := (flush0_7 t).mp hf; omega
  rw [Value.flushed7]
  funext y
  show (outsAt0 m c t.val t.isLt).2.2.1 y = result7 m c (((cfg0.win 7).blk t).view.emb y)
  have y0 : (y 0).val < 1 := (y 0).isLt
  have ey : (y : S1x2048.Idx) = ix2 0 (y 1) := by
    funext a
    apply Fin.ext
    match a with
    | ⟨0, _⟩ => show (y 0).val = 0; omega
    | ⟨1, _⟩ => rfl
  refine ((congrArg (outsAt0 m c t.val t.isLt).2.2.1 ey).trans (last_gain m c (y 1) t.val t.isLt h31)).trans (congrArg (result7 m c) ?_)
  funext a
  apply Fin.ext
  match a with
  | ⟨0, _⟩ => show 0 = win0_7.index t 0 * 1 + 1 * (y 0).val; rw [p]; omega
  | ⟨1, _⟩ => show (y 1).val = win0_7.index t 1 * 2048 + 1 * (y 1).val; rw [q]; omega

theorem final7 (c : Dev nD) : (dats m 0 c).arrAt 7 cfg0.N = result7 m c :=
  (dats m 0 c).arrAt_eq_of_cover 7 (result7 m c) (fun t hf => written_7 m c t hf) fun i => by
    have i0 : (i 0 : Nat) < 1 := (i 0).isLt
    have i1 : (i 1 : Nat) < 2048 := (i 1).isLt
    have hN : cfg0.N = 32 := N_0
    have ht : 31 < cfg0.N := by omega
    obtain ⟨-, -, -, -, -, -, -, ⟨p, q⟩, -⟩ := positions ⟨31, ht⟩
    refine ⟨⟨31, ht⟩, (flush0_7 _).mpr rfl, ?_⟩
    show i ∈ ((View.whole main_v0_2).slice (win0_7.rect ⟨31, ht⟩)).set
    rw [View.set_slice_whole, Rect.mem_set_unit]
    intro a
    match a with
    | ⟨0, _⟩ =>
      show win0_7.index ⟨31, ht⟩ 0 * 1 ≤ (i 0 : Nat) ∧ (i 0 : Nat) < win0_7.index ⟨31, ht⟩ 0 * 1 + 1
      rw [p]; omega
    | ⟨1, _⟩ =>
      show win0_7.index ⟨31, ht⟩ 1 * 2048 ≤ (i 1 : Nat) ∧ (i 1 : Nat) < win0_7.index ⟨31, ht⟩ 1 * 2048 + 2048
      rw [q]; omega

theorem last_shift (c : Dev nD) (l : Fin 2048) (n : ℕ) (hn : n < cfg0.N) (h31 : n = 31) :
    (outsAt0 m c n hn).2.2.2.1 (ix2 0 l) = result8 m c (ix2 0 l) := by
  subst h31
  exact (left_shift m c l 31 hn).trans (sum_rows fun s => normAt (argD m c) (argU m c) (argP m c) (argG m c) (argB m c) s l)

theorem written_8 (c : Dev nD) (t : Fin cfg0.N) (hf : (cfg0.win 8).flush t = true) :
    (dats m 0 c).flushed 8 t = ((cfg0.win 8).blk t).view.read (Elt Ideal) (result8 m c) := by
  obtain ⟨-, -, -, -, -, -, -, -, ⟨p, q⟩, -⟩ := positions t
  have hN := point_lt t
  have h31 : t.val = 31 := by have := (flush0_8 t).mp hf; omega
  rw [Value.flushed8]
  funext y
  show (outsAt0 m c t.val t.isLt).2.2.2.1 y = result8 m c (((cfg0.win 8).blk t).view.emb y)
  have y0 : (y 0).val < 1 := (y 0).isLt
  have ey : (y : S1x2048.Idx) = ix2 0 (y 1) := by
    funext a
    apply Fin.ext
    match a with
    | ⟨0, _⟩ => show (y 0).val = 0; omega
    | ⟨1, _⟩ => rfl
  refine ((congrArg (outsAt0 m c t.val t.isLt).2.2.2.1 ey).trans (last_shift m c (y 1) t.val t.isLt h31)).trans (congrArg (result8 m c) ?_)
  funext a
  apply Fin.ext
  match a with
  | ⟨0, _⟩ => show 0 = win0_8.index t 0 * 1 + 1 * (y 0).val; rw [p]; omega
  | ⟨1, _⟩ => show (y 1).val = win0_8.index t 1 * 2048 + 1 * (y 1).val; rw [q]; omega

theorem final8 (c : Dev nD) : (dats m 0 c).arrAt 8 cfg0.N = result8 m c :=
  (dats m 0 c).arrAt_eq_of_cover 8 (result8 m c) (fun t hf => written_8 m c t hf) fun i => by
    have i0 : (i 0 : Nat) < 1 := (i 0).isLt
    have i1 : (i 1 : Nat) < 2048 := (i 1).isLt
    have hN : cfg0.N = 32 := N_0
    have ht : 31 < cfg0.N := by omega
    obtain ⟨-, -, -, -, -, -, -, -, ⟨p, q⟩, -⟩ := positions ⟨31, ht⟩
    refine ⟨⟨31, ht⟩, (flush0_8 _).mpr rfl, ?_⟩
    show i ∈ ((View.whole main_v0_3).slice (win0_8.rect ⟨31, ht⟩)).set
    rw [View.set_slice_whole, Rect.mem_set_unit]
    intro a
    match a with
    | ⟨0, _⟩ =>
      show win0_8.index ⟨31, ht⟩ 0 * 1 ≤ (i 0 : Nat) ∧ (i 0 : Nat) < win0_8.index ⟨31, ht⟩ 0 * 1 + 1
      rw [p]; omega
    | ⟨1, _⟩ =>
      show win0_8.index ⟨31, ht⟩ 1 * 2048 ≤ (i 1 : Nat) ∧ (i 1 : Nat) < win0_8.index ⟨31, ht⟩ 1 * 2048 + 2048
      rw [q]; omega

theorem last_bias (c : Dev nD) (l : Fin 2048) (n : ℕ) (hn : n < cfg0.N) (h31 : n = 31) :
    (outsAt0 m c n hn).2.2.2.2 (ix2 0 l) = result9 m c (ix2 0 l) := by
  subst h31
  exact (left_bias m c l 31 hn).trans (sum_rows fun s => inputAt (argD m c) (argU m c) (argP m c) (argG m c) (argB m c) s l)

theorem written_9 (c : Dev nD) (t : Fin cfg0.N) (hf : (cfg0.win 9).flush t = true) :
    (dats m 0 c).flushed 9 t = ((cfg0.win 9).blk t).view.read (Elt Ideal) (result9 m c) := by
  obtain ⟨-, -, -, -, -, -, -, -, -, ⟨p, q⟩⟩ := positions t
  have hN := point_lt t
  have h31 : t.val = 31 := by have := (flush0_9 t).mp hf; omega
  rw [Value.flushed9]
  funext y
  show (outsAt0 m c t.val t.isLt).2.2.2.2 y = result9 m c (((cfg0.win 9).blk t).view.emb y)
  have y0 : (y 0).val < 1 := (y 0).isLt
  have ey : (y : S1x2048.Idx) = ix2 0 (y 1) := by
    funext a
    apply Fin.ext
    match a with
    | ⟨0, _⟩ => show (y 0).val = 0; omega
    | ⟨1, _⟩ => rfl
  refine ((congrArg (outsAt0 m c t.val t.isLt).2.2.2.2 ey).trans (last_bias m c (y 1) t.val t.isLt h31)).trans (congrArg (result9 m c) ?_)
  funext a
  apply Fin.ext
  match a with
  | ⟨0, _⟩ => show 0 = win0_9.index t 0 * 1 + 1 * (y 0).val; rw [p]; omega
  | ⟨1, _⟩ => show (y 1).val = win0_9.index t 1 * 2048 + 1 * (y 1).val; rw [q]; omega

theorem final9 (c : Dev nD) : (dats m 0 c).arrAt 9 cfg0.N = result9 m c :=
  (dats m 0 c).arrAt_eq_of_cover 9 (result9 m c) (fun t hf => written_9 m c t hf) fun i => by
    have i0 : (i 0 : Nat) < 1 := (i 0).isLt
    have i1 : (i 1 : Nat) < 2048 := (i 1).isLt
    have hN : cfg0.N = 32 := N_0
    have ht : 31 < cfg0.N := by omega
    obtain ⟨-, -, -, -, -, -, -, -, -, ⟨p, q⟩⟩ := positions ⟨31, ht⟩
    refine ⟨⟨31, ht⟩, (flush0_9 _).mpr rfl, ?_⟩
    show i ∈ ((View.whole main_v0_4).slice (win0_9.rect ⟨31, ht⟩)).set
    rw [View.set_slice_whole, Rect.mem_set_unit]
    intro a
    match a with
    | ⟨0, _⟩ =>
      show win0_9.index ⟨31, ht⟩ 0 * 1 ≤ (i 0 : Nat) ∧ (i 0 : Nat) < win0_9.index ⟨31, ht⟩ 0 * 1 + 1
      rw [p]; omega
    | ⟨1, _⟩ =>
      show win0_9.index ⟨31, ht⟩ 1 * 2048 ≤ (i 1 : Nat) ∧ (i 1 : Nat) < win0_9.index ⟨31, ht⟩ 1 * 2048 + 2048
      rw [q]; omega

end Cert.GateIdeal.Rows

end
-- ==== Proof.GateRef.lean ====
/- The gated layer normalisation's backward pass: the kernel's results against the derivative of the plain formula, for
   arguments that are finite. -/
module

public import proofs.«01_k».proof.Proof.GateValue
public import proofs.«01_k».proof.Proof.MixerAClaims
public import proofs.«01_k».proof.Proof.Gen.Gate.Frame
public import proofs.«01_k».proof.Proof.Gen.RefGateIdeal.Run
public import proofs.«01_k».proof.Proof.Gen.Pre_finite_gate
public import Idealize.ShloMosaic.Lib.ReduceAll
public import Idealize.ShloMosaic.Lib.Quiescent

@[expose] public section

set_option maxRecDepth 16384

noncomputable section

namespace Cert.GateIdeal.Rows

open Idealize.ShloMosaic
open Cert.RefAIdeal.Entries (Real')

/-! ## The constants -/

/-- Minus one half, from the derivative of the reciprocal root. -/
abbrev minusHalf : EReal := Ideal.ofBits .f32 0xBF000000#32

theorem width_eq : width = ((2048 : ℝ) : EReal) := by
  simp [width, Ideal.ofBits, Ideal.ieee]
  norm_cast
  norm_num

theorem minusHalf_eq : minusHalf = ((-(1 / 2) : ℝ) : EReal) := by
  simp [minusHalf, Ideal.ofBits, Ideal.ieee]
  norm_cast
  norm_num

theorem eps_pos : ∃ e : ℝ, 0 < e ∧ eps = (e : EReal) := by
  simp [eps, Ideal.ofBits, Ideal.ieee]
  refine ⟨_, ?_, rfl⟩
  positivity

/-! ## One row over the real numbers -/

theorem sum_real (f : Fin 2048 → ℝ) : ∑ k, (f k : EReal) = ((∑ k, f k : ℝ) : EReal) := by
  have step : ∀ s : Finset (Fin 2048), ∑ k ∈ s, (f k : EReal) = ((∑ k ∈ s, f k : ℝ) : EReal) := by
    intro s
    induction s using Finset.induction with
    | empty => simp
    | insert a s ha ih => rw [Finset.sum_insert ha, Finset.sum_insert ha, ih, EReal.coe_add]
  exact step Finset.univ

/-- What a row of real numbers gives: real deviations that add up to zero, a positive variance and its reciprocal root. -/
theorem row_real (x : Fin 2048 → EReal) (hx : ∀ k, Real' (x k)) : ∃ (C : Fin 2048 → ℝ) (v r : ℝ),
    (∀ k, cent x k = (C k : EReal)) ∧ ∑ k, C k = 0 ∧ variance x + eps = (v : EReal) ∧ v ≠ 0 ∧ root x = (r : EReal) ∧ r * r = 1 / v := by
  choose a ha using hx
  obtain rfl : x = fun k => (a k : EReal) := funext ha
  obtain ⟨e, he, hE⟩ := eps_pos
  have hc : ∀ k, cent (fun k => (a k : EReal)) k = ((a k - (∑ j, a j) * (1 / 2048) : ℝ) : EReal) := fun k => by
    unfold cent mean
    rw [width_eq, Ideal.div_coe (by norm_num), sum_real, ← EReal.coe_mul, ← EReal.coe_sub]
  obtain ⟨C, hC⟩ : ∃ C : Fin 2048 → ℝ, C = fun k => a k - (∑ j, a j) * (1 / 2048) := ⟨_, rfl⟩
  have hc' : ∀ k, cent (fun k => (a k : EReal)) k = (C k : EReal) := fun k => by rw [hc, hC]
  have hs : 0 ≤ ∑ k, C k * C k := Finset.sum_nonneg fun k _ => mul_self_nonneg (C k)
  obtain ⟨v, hv⟩ : ∃ v : ℝ, v = (∑ k, C k * C k) * (1 / 2048) + e := ⟨_, rfl⟩
  have v0 : 0 < v := by rw [hv]; positivity
  have hV : variance (fun k => (a k : EReal)) + eps = (v : EReal) := by
    unfold variance
    simp only [hc']
    rw [width_eq, hE, Ideal.div_coe (by norm_num), hv]
    simp only [← EReal.coe_mul]
    rw [sum_real, ← EReal.coe_mul, ← EReal.coe_add]
  refine ⟨C, v, (Real.sqrt v)⁻¹, hc', ?_, hV, v0.ne', ?_, ?_⟩
  · rw [hC, Finset.sum_sub_distrib, Finset.sum_const, Finset.card_univ, Fintype.card_fin, nsmul_eq_mul]
    push_cast
    ring
  · unfold root
    rw [hV, Ideal.rsqrt_coe, if_neg (not_lt.mpr v0.le), if_neg v0.ne']
  · rw [← mul_inv, Real.mul_self_sqrt v0.le, one_div]

/-- The derivative of the variance's reciprocal root, weighted by the incoming gradient and shared among the columns. -/
def shareOf (x h : Fin 2048 → EReal) : EReal :=
  Ideal.div ((∑ k, cent x k * h k) * (minusHalf * Ideal.div (root x) (variance x + eps))) width

/-- The gradient of the deviations by the chain rule. -/
def deviationGrad (x h : Fin 2048 → EReal) (l : Fin 2048) : EReal :=
  h l * root x + cent x l * shareOf x h + shareOf x h * cent x l

/-- The kernel's expression for a row and the chain rule's agree on reals. -/
theorem row_eq (x h : Fin 2048 → EReal) (hx : ∀ k, Real' (x k)) (hh : ∀ k, Real' (h k)) (l : Fin 2048) :
    root x * (h l - Ideal.div (∑ k, h k) width - hat x l * Ideal.div (∑ k, h k * hat x k) width)
      = deviationGrad x h l + Ideal.div (∑ k, -deviationGrad x h k) width := by
  obtain ⟨C, v, r, hc, c0, hv, v0, hr, rr⟩ := row_real x hx
  choose b hb using hh
  obtain rfl : h = fun k => (b k : EReal) := funext hb
  obtain ⟨S, hS⟩ : ∃ S : ℝ, S = ∑ k, C k * b k := ⟨_, rfl⟩
  obtain ⟨w, hw⟩ : ∃ w : ℝ, w = S * (-(1 / 2) * (r * (1 / v))) * (1 / 2048) := ⟨_, rfl⟩
  have hshare : shareOf x (fun k => (b k : EReal)) = (w : EReal) := by
    unfold shareOf
    simp only [hc]
    rw [hv, hr, width_eq, minusHalf_eq, Ideal.div_coe (by norm_num), Ideal.div_coe v0, hw, hS]
    simp only [← EReal.coe_mul]
    rw [sum_real]
    simp only [← EReal.coe_mul]
  have hdev : ∀ k, deviationGrad x (fun k => (b k : EReal)) k = ((b k * r + C k * w + w * C k : ℝ) : EReal) := fun k => by
    unfold deviationGrad
    rw [hshare, hc, hr]
    simp only [← EReal.coe_mul, ← EReal.coe_add]
  unfold hat
  simp only [hdev, hc]
  rw [hr, width_eq, Ideal.div_coe (by norm_num), Ideal.div_coe (by norm_num), Ideal.div_coe (by norm_num)]
  simp only [← EReal.coe_mul, ← EReal.coe_neg]
  rw [sum_real, sum_real, sum_real]
  simp only [← EReal.coe_mul, ← EReal.coe_sub, ← EReal.coe_add]
  rw [EReal.coe_eq_coe_iff]
  have s1 : ∑ k, b k * (C k * r) = S * r := by
    rw [hS, Finset.sum_mul]
    exact Finset.sum_congr rfl fun k _ => by ring
  have s2 : ∑ k, -(b k * r + C k * w + w * C k) = -((∑ k, b k) * r) := by
    have e : ∀ k, -(b k * r + C k * w + w * C k) = b k * (-r) + C k * (-2 * w) := fun k => by ring
    simp only [e]
    rw [Finset.sum_add_distrib, ← Finset.sum_mul, ← Finset.sum_mul, c0]
    ring
  rw [s1, s2, hw, ← rr]
  ring

/-! ## What stays real -/

theorem real_logistic {x : EReal} (hx : Real' x) : Real' (Ideal.logistic x) := by
  obtain ⟨a, rfl⟩ := hx
  exact ⟨_, Ideal.logistic_coe a⟩

theorem real_one : Real' 1 := ⟨1, rfl⟩

theorem real_one_sub {x : EReal} (hx : Real' x) : Real' (1 - x) := by
  obtain ⟨a, rfl⟩ := hx
  exact ⟨1 - a, by norm_cast⟩

theorem real_hat {x : Fin 2048 → EReal} (hx : ∀ k, Real' (x k)) (l : Fin 2048) : Real' (hat x l) := by
  obtain ⟨C, v, r, hc, c0, hv, v0, hr, rr⟩ := row_real x hx
  unfold hat
  rw [hc, hr]
  exact ⟨_, (EReal.coe_mul _ _).symm⟩

section
variable {x g b z d : Fin 2048 → EReal} (hx : ∀ k, Real' (x k)) (hg : ∀ k, Real' (g k)) (hb : ∀ k, Real' (b k)) (hz : ∀ k, Real' (z k)) (hd : ∀ k, Real' (d k))
include hx hg hb

theorem real_norm (l : Fin 2048) : Real' (norm x g b l) := ((real_hat hx l).mul (hg l)).add (hb l)

include hz hd in
theorem real_hatGrad (l : Fin 2048) : Real' (hatGrad x g b z d l) := by
  have n := real_norm hx hg hb l
  have s := real_logistic n
  exact (((hd l).mul ((hz l).mul (real_logistic (hz l)))).mul (s.mul (real_one.add (n.mul (real_one_sub s))))).mul (hg l)
end

end Cert.GateIdeal.Rows

namespace Cert.RefGateIdeal.Entries

open Cert.RefGateIdeal Cert.RefGateIdeal.Gen Idealize.ShloMosaic Idealize.ShloMosaic.TcCoe Idealize.ShloMosaic.Tactic Idealize.SL.Sem
open Cert.RefAIdeal.Entries (Real' gate_slope)
open Cert.GateIdeal.Rows

variable (A : FVec Ideal S4096x14336 .bf16) (D : FVec Ideal S4096x4096 .f32) (U : FVec Ideal S4096x2048 .f32) (P : FVec Ideal S4096x14336 .bf16)
  (G B : FVec Ideal S1x2048 .f32)

/-! ## The reference's arrays -/

/-- The gate's input. -/
def gates : FVec Ideal S4096x2048 .f32 :=
  extf .f32 (extractStridedSlice S4096x2048 ![0, 12288] P slices_S4096x14336_S4096x2048_0_12288) bitsLt_bf16_f32
/-- The incoming gradient's columns. -/
def incoming : FVec Ideal S4096x2048 .f32 := extractStridedSlice S4096x2048 ![0, 2048] D slices_S4096x4096_S4096x2048_0_2048
/-- The input with the bias at which the derivative is taken. -/
def biased : FVec Ideal S4096x2048 .f32 :=
  addf U (broadcastInDim S4096x2048 ![0, 1] bcast_S1x2048_S4096x2048_0_1 (broadcastInDim S1x2048 ![] bcast_S_S1x2048 (constant S_ .f32 0x00000000#32)))
/-- The deviations from the rows' means. -/
def centred : FVec Ideal S4096x2048 .f32 :=
  subf (biased U) (broadcastInDim S4096x2048 ![0, 1] bcast_S4096x1_S4096x2048_0_1 (Host.divf (broadcastInDim S4096x1 ![0] bcast_S4096_S4096x1_0 (Host.reduceAdd (biased U) (constant S_ .f32 0x00000000#32) reducesTo_S4096x2048_S4096_d1 h_S_)) (broadcastInDim S4096x1 ![] bcast_S_S4096x1 (constant S_ .f32 0x45000000#32))))
/-- The variances with the small number. -/
def varied : FVec Ideal S4096x1 .f32 :=
  addf (Host.divf (broadcastInDim S4096x1 ![0] bcast_S4096_S4096x1_0 (Host.reduceAdd (mulf (centred U) (centred U)) (constant S_ .f32 0x00000000#32) reducesTo_S4096x2048_S4096_d1 h_S_)) (broadcastInDim S4096x1 ![] bcast_S_S4096x1 (constant S_ .f32 0x45000000#32))) (broadcastInDim S4096x1 ![] bcast_S_S4096x1 (constant S_ .f32 0x358637BD#32))
/-- Their reciprocal roots. -/
def roots : FVec Ideal S4096x1 .f32 := Host.rsqrt (varied U)
/-- The normalised rows. -/
def hats : FVec Ideal S4096x2048 .f32 := mulf (centred U) (broadcastInDim S4096x2048 ![0, 1] bcast_S4096x1_S4096x2048_0_1 (roots U))
/-- The layer normalisation. -/
def norms : FVec Ideal S4096x2048 .f32 :=
  addf (mulf (hats U) (broadcastInDim S4096x2048 ![0, 1] bcast_S1x2048_S4096x2048_0_1 G)) (broadcastInDim S4096x2048 ![0, 1] bcast_S1x2048_S4096x2048_0_1 B)
/-- Ones. -/
def ones : FVec Ideal S4096x2048 .f32 := broadcastInDim S4096x2048 ![] bcast_S_S4096x2048 (constant S_ .f32 0x3F800000#32)
/-- The logistic, as the reference spells it. -/
def sigm (X : FVec Ideal S4096x2048 .f32) : FVec Ideal S4096x2048 .f32 := Host.divf ones (addf ones (Host.exp (Host.negf X)))
/-- The derivative of a value times its logistic, against an incoming gradient. -/
def slope (X Y : FVec Ideal S4096x2048 .f32) : FVec Ideal S4096x2048 .f32 :=
  addf (mulf Y (sigm X)) (mulf (mulf X Y) (mulf (sigm X) (subf ones (sigm X))))
/-- The normalised rows' gradient. -/
def normGrads : FVec Ideal S4096x2048 .f32 := slope (norms U G B) (mulf (incoming D) (mulf (gates P) (sigm (gates P))))
/-- The gate's gradient. -/
def gateGrads : FVec Ideal S4096x2048 .f32 := slope (gates P) (mulf (mulf (norms U G B) (sigm (norms U G B))) (incoming D))
/-- The gradient before gain and shift. -/
def hatGrads : FVec Ideal S4096x2048 .f32 := mulf (normGrads D U P G B) (broadcastInDim S4096x2048 ![0, 1] bcast_S1x2048_S4096x2048_0_1 G)
/-- The reciprocal root's derivative, shared among the columns. -/
def shares : FVec Ideal S4096x2048 .f32 :=
  broadcastInDim S4096x2048 ![0] bcast_S4096_S4096x2048_0 (Host.reduceAdd (Host.divf (mulf (shapeCast _ (Host.reduceAdd (mulf (centred U) (hatGrads D U P G B)) (constant S_ .f32 0x00000000#32) reducesTo_S4096x2048_S4096_d1 h_S_) shapeCasts_S4096_S4096x1) (mulf (broadcastInDim S4096x1 ![] bcast_S_S4096x1 (constant S_ .f32 0xBF000000#32)) (Host.divf (roots U) (varied U)))) (broadcastInDim S4096x1 ![] bcast_S_S4096x1 (constant S_ .f32 0x45000000#32))) (constant S_ .f32 0x00000000#32) reducesTo_S4096x1_S4096_d1 h_S_)
/-- The deviations' gradient. -/
def deviations : FVec Ideal S4096x2048 .f32 :=
  addf (addf (mulf (hatGrads D U P G B) (broadcastInDim S4096x2048 ![0, 1] bcast_S4096x1_S4096x2048_0_1 (roots U))) (mulf (centred U) (shares D U P G B))) (mulf (shares D U P G B) (centred U))
/-- The input's gradient. -/
def inputs : FVec Ideal S4096x2048 .f32 :=
  addf (deviations D U P G B) (broadcastInDim S4096x2048 ![0] bcast_S4096_S4096x2048_0 (Host.reduceAdd (Host.divf (shapeCast _ (Host.reduceAdd (Host.negf (deviations D U P G B)) (constant S_ .f32 0x00000000#32) reducesTo_S4096x2048_S4096_d1 h_S_) shapeCasts_S4096_S4096x1) (broadcastInDim S4096x1 ![] bcast_S_S4096x1 (constant S_ .f32 0x45000000#32))) (constant S_ .f32 0x00000000#32) reducesTo_S4096x1_S4096_d1 h_S_))
/-- A column sum. -/
def colSum (X : FVec Ideal S4096x2048 .f32) : FVec Ideal S1x2048 .f32 :=
  shapeCast _ (Host.reduceAdd X (constant S_ .f32 0x00000000#32) reducesTo_S4096x2048_S2048_d0 h_S_) shapeCasts_S2048_S1x2048
/-- The gate's gradient put into its columns. -/
def refPlaced : FVec Ideal S4096x14336 .bf16 :=
  Host.dynamicUpdateSlice A (truncf .bf16 (gateGrads D U P G B) bitsLt_bf16_f32)
    (fun k => (((![constantI S_ 32 0#32, constantI S_ 32 12288#32] : Fin 2 → (⟨S_, .i32⟩ : BufTy).Contents (Elt Ideal))) k (Shape.Idx.first h_S_)).toInt) updateFits_S4096x14336_S4096x2048

/-! ## Their elements -/

theorem gates_apply (i : Fin 4096) (l : Fin 2048) : gates P (ix2 i l) = gateRow P i l := by
  pointwise [gates, gateRow]
theorem incoming_apply (i : Fin 4096) (l : Fin 2048) : incoming D (ix2 i l) = incomingRow D i l := by
  pointwise [incoming, incomingRow]
theorem biased_apply (i : Fin 4096) (l : Fin 2048) : biased U (ix2 i l) = U (ix2 i l) := by
  pointwise [biased]

theorem centred_apply (i : Fin 4096) (l : Fin 2048) : centred U (ix2 i l) = cent (fun k => U (ix2 i k)) l := by
  have e : centred U (ix2 i l) = biased U (ix2 i l) - Ideal.div (∑ k : Fin 2048, biased U (ix2 i k)) width := by
    pointwise [centred, width]
  rw [e]
  simp only [biased_apply]
  rfl

theorem varied_apply (i : Fin 4096) : varied U (ix2 i 0) = variance (fun k => U (ix2 i k)) + eps := by
  have e : varied U (ix2 i 0) = Ideal.div (∑ k : Fin 2048, centred U (ix2 i k) * centred U (ix2 i k)) width + eps := by
    pointwise [varied, width, eps]
  rw [e]
  simp only [centred_apply]
  rfl

theorem roots_apply (i : Fin 4096) : roots U (ix2 i 0) = root (fun k => U (ix2 i k)) := by
  show Ideal.rsqrt (varied U (ix2 i 0)) = _
  rw [varied_apply]
  rfl

theorem hats_apply (i : Fin 4096) (l : Fin 2048) : hats U (ix2 i l) = hat (fun k => U (ix2 i k)) l := by
  have e : hats U (ix2 i l) = centred U (ix2 i l) * roots U (ix2 i 0) := by
    pointwise [hats]
  rw [e, centred_apply, roots_apply]
  rfl

theorem norms_apply (i : Fin 4096) (l : Fin 2048) :
    norms U G B (ix2 i l) = norm (fun k => U (ix2 i k)) (fun k => G (ix2 0 k)) (fun k => B (ix2 0 k)) l := by
  have e : norms U G B (ix2 i l) = hats U (ix2 i l) * G (ix2 0 l) + B (ix2 0 l) := by
    pointwise [norms]
  rw [e, hats_apply]
  rfl

theorem ones_apply (i : Fin 4096) (l : Fin 2048) : ones (ix2 i l) = 1 := by
  pointwise [ones]

theorem sigm_apply (X : FVec Ideal S4096x2048 .f32) (i : Fin 4096) (l : Fin 2048) : sigm X (ix2 i l) = Ideal.logistic (X (ix2 i l)) := by
  pointwise [sigm, ones]
  rfl

theorem slope_apply (X Y : FVec Ideal S4096x2048 .f32) (i : Fin 4096) (l : Fin 2048) (hX : Real' (X (ix2 i l))) (hY : Real' (Y (ix2 i l))) :
    slope X Y (ix2 i l) = Y (ix2 i l) * (Ideal.logistic (X (ix2 i l)) * (1 + X (ix2 i l) * (1 - Ideal.logistic (X (ix2 i l))))) := by
  show Y (ix2 i l) * sigm X (ix2 i l) + X (ix2 i l) * Y (ix2 i l) * (sigm X (ix2 i l) * (ones (ix2 i l) - sigm X (ix2 i l))) = _
  rw [sigm_apply, ones_apply, gate_slope hY hX]

section
variable {D U P G B}
variable (rD : ∀ i, Real' (D i)) (rU : ∀ i, Real' (U i)) (rP : ∀ i, Real' (P i)) (rG : ∀ i, Real' (G i)) (rB : ∀ i, Real' (B i))
include rD rU rP rG rB

theorem normGrads_apply (i : Fin 4096) (l : Fin 2048) : normGrads D U P G B (ix2 i l) = normAt D U P G B i l := by
  have e : (mulf (incoming D) (mulf (gates P) (sigm (gates P))) : FVec Ideal S4096x2048 .f32) (ix2 i l)
      = incomingRow D i l * (gateRow P i l * Ideal.logistic (gateRow P i l)) := by
    show incoming D (ix2 i l) * (gates P (ix2 i l) * sigm (gates P) (ix2 i l)) = _
    rw [sigm_apply, incoming_apply, gates_apply]
  have rn := real_norm (x := fun k => U (ix2 i k)) (g := fun k => G (ix2 0 k)) (b := fun k => B (ix2 0 k)) (fun k => rU _) (fun k => rG _) (fun k => rB _) l
  unfold normGrads
  rw [slope_apply _ _ i l (by rw [norms_apply]; exact rn) (by rw [e]; exact (rD _).mul ((rP _).mul (real_logistic (rP _)))), e, norms_apply]
  rfl

theorem gateGrads_apply (i : Fin 4096) (l : Fin 2048) : gateGrads D U P G B (ix2 i l) = gateAt D U P G B i l := by
  have rn := real_norm (x := fun k => U (ix2 i k)) (g := fun k => G (ix2 0 k)) (b := fun k => B (ix2 0 k)) (fun k => rU _) (fun k => rG _) (fun k => rB _) l
  have e : (mulf (mulf (norms U G B) (sigm (norms U G B))) (incoming D) : FVec Ideal S4096x2048 .f32) (ix2 i l)
      = incomingRow D i l * (norm (fun k => U (ix2 i k)) (fun k => G (ix2 0 k)) (fun k => B (ix2 0 k)) l
        * Ideal.logistic (norm (fun k => U (ix2 i k)) (fun k => G (ix2 0 k)) (fun k => B (ix2 0 k)) l)) := by
    show norms U G B (ix2 i l) * sigm (norms U G B) (ix2 i l) * incoming D (ix2 i l) = _
    rw [sigm_apply, incoming_apply, norms_apply, mul_comm]
  unfold gateGrads
  rw [slope_apply _ _ i l (by rw [gates_apply]; exact rP _) (by rw [e]; exact (rD _).mul (rn.mul (real_logistic rn))), e, gates_apply]
  rfl

theorem hatGrads_apply (i : Fin 4096) (l : Fin 2048) : hatGrads D U P G B (ix2 i l)
    = hatGrad (fun k => U (ix2 i k)) (fun k => G (ix2 0 k)) (fun k => B (ix2 0 k)) (gateRow P i) (incomingRow D i) l := by
  have e : hatGrads D U P G B (ix2 i l) = normGrads D U P G B (ix2 i l) * G (ix2 0 l) := by
    pointwise [hatGrads]
  rw [e, normGrads_apply rD rU rP rG rB]
  rfl

theorem shares_apply (i : Fin 4096) (l : Fin 2048) : shares D U P G B (ix2 i l)
    = shareOf (fun k => U (ix2 i k)) (hatGrad (fun k => U (ix2 i k)) (fun k => G (ix2 0 k)) (fun k => B (ix2 0 k)) (gateRow P i) (incomingRow D i)) := by
  have e : shares D U P G B (ix2 i l) = Ideal.div ((∑ k : Fin 2048, centred U (ix2 i k) * hatGrads D U P G B (ix2 i k))
      * (minusHalf * Ideal.div (roots U (ix2 i 0)) (varied U (ix2 i 0)))) width := by
    pointwise [shares, width, minusHalf]
    simp only [Fin.sum_univ_one]
    try rfl
  rw [e, roots_apply, varied_apply]
  simp only [centred_apply, hatGrads_apply rD rU rP rG rB]
  rfl

theorem deviations_apply (i : Fin 4096) (l : Fin 2048) : deviations D U P G B (ix2 i l)
    = deviationGrad (fun k => U (ix2 i k)) (hatGrad (fun k => U (ix2 i k)) (fun k => G (ix2 0 k)) (fun k => B (ix2 0 k)) (gateRow P i) (incomingRow D i)) l := by
  have e : deviations D U P G B (ix2 i l) = hatGrads D U P G B (ix2 i l) * roots U (ix2 i 0) + centred U (ix2 i l) * shares D U P G B (ix2 i l)
      + shares D U P G B (ix2 i l) * centred U (ix2 i l) := by
    pointwise [deviations]
  rw [e, hatGrads_apply rD rU rP rG rB, roots_apply, centred_apply, shares_apply rD rU rP rG rB]
  rfl

theorem inputs_apply (i : Fin 4096) (l : Fin 2048) : inputs D U P G B (ix2 i l) = inputAt D U P G B i l := by
  have e : inputs D U P G B (ix2 i l) = deviations D U P G B (ix2 i l) + Ideal.div (∑ k : Fin 2048, -deviations D U P G B (ix2 i k)) width := by
    pointwise [inputs, width]
    simp only [Fin.sum_univ_one]
    try rfl
  rw [e]
  simp only [deviations_apply rD rU rP rG rB]
  exact (row_eq _ _ (fun k => rU _) (fun k => real_hatGrad (fun k => rU _) (fun k => rG _) (fun k => rB _) (fun k => rP _) (fun k => rD _) k) l).symm

theorem inputs_eq : inputs D U P G B = allRows (inputAt D U P G B) := by
  funext y
  obtain ⟨i, l, rfl⟩ : ∃ (i : Fin 4096) (l : Fin 2048), y = ix2 i l := ⟨y 0, y 1, eq_ix2 y⟩
  exact inputs_apply rD rU rP rG rB i l

omit rD rU rP rG rB in
theorem colSum_eq (X : FVec Ideal S4096x2048 .f32) (f : Fin 4096 → Fin 2048 → EReal) (h : ∀ i l, X (ix2 i l) = f i l) : colSum X = columnSum f := by
  funext i
  have h0 : (i 0).val < 1 := (i 0).isLt
  have ei : i = ix2 0 (i 1) := by
    funext a
    apply Fin.ext
    match a with
    | ⟨0, _⟩ => show (i 0).val = 0; omega
    | ⟨1, _⟩ => rfl
  have e : ∀ l : Fin 2048, colSum X (ix2 0 l) = ∑ s : Fin 4096, X (ix2 s l) := fun l => by
    pointwise [colSum]
  rw [ei]
  refine (e (i 1)).trans ?_
  exact Finset.sum_congr rfl fun s _ => h s (i 1)

theorem gain_eq : colSum (mulf (hats U) (normGrads D U P G B)) = columnSum (gainAt D U P G B) := colSum_eq _ _ fun i l => by
  show hats U (ix2 i l) * normGrads D U P G B (ix2 i l) = _
  rw [hats_apply, normGrads_apply rD rU rP rG rB, mul_comm]

theorem shift_eq : colSum (normGrads D U P G B) = columnSum (normAt D U P G B) := colSum_eq _ _ (normGrads_apply rD rU rP rG rB)

theorem bias_eq : colSum (inputs D U P G B) = columnSum (inputAt D U P G B) := colSum_eq _ _ (inputs_apply rD rU rP rG rB)

omit rD rU rP rG rB in
theorem placed_below (A : FVec Ideal S4096x14336 .bf16) (f : Fin 4096 → Fin 2048 → EReal) (i : S4096x14336.Idx) (h : ¬12288 ≤ (i 1).val) :
    placed A f i = A i := by
  unfold placed
  rw [dif_neg h]

theorem placed_eq : refPlaced A D U P G B = placed A (gateAt D U P G B) := by
  funext y
  obtain ⟨i, l, rfl⟩ : ∃ (i : Fin 4096) (l : Fin 14336), y = ix2 i l := ⟨y 0, y 1, eq_ix2 y⟩
  have slices : S4096x14336.Slices ![0, 12288] S4096x2048 := by decide
  have at' : refPlaced A D U P G B = updateSlice A (gateGrads D U P G B : S4096x2048.Idx → EReal) ![0, 12288] slices :=
    Host.dynamicUpdateSlice_eq_updateSlice (s := S4096x14336) (u := S4096x2048) A (gateGrads D U P G B : S4096x2048.Idx → EReal) _ _ ![0, 12288]
      (fun a => by match a with | ⟨0, _⟩ => rfl | ⟨1, _⟩ => rfl) slices
  rw [at']
  by_cases h : 12288 ≤ l.val
  · have l1 := l.isLt
    refine Eq.trans ?_ (placed_at A (gateAt D U P G B) i ⟨l.val - 12288, by omega⟩ (ix2 i l) rfl (by show l.val = 12288 + (l.val - 12288); omega)).symm
    refine Eq.trans ?_ (gateGrads_apply rD rU rP rG rB i ⟨l.val - 12288, by omega⟩)
    unfold updateSlice
    rw [dif_pos (fun a => by
      match a with
      | ⟨0, _⟩ => exact ⟨Nat.zero_le _, by show i.val < 0 + 4096; have := i.isLt; omega⟩
      | ⟨1, _⟩ => exact ⟨h, by show l.val < 12288 + 2048; omega⟩)]
    show gateGrads D U P G B _ = _
    congr 1
    funext a
    apply Fin.ext
    match a with
    | ⟨0, _⟩ => show i.val - 0 = i.val; omega
    | ⟨1, _⟩ => rfl
  · refine Eq.trans ?_ (placed_below A (gateAt D U P G B) (ix2 i l) h).symm
    unfold updateSlice
    rw [dif_neg (fun hin => h (hin 1).1)]
end

end Cert.RefGateIdeal.Entries

/-! ## The claims -/

namespace Cert.Gate.Claims

open Idealize.ShloMosaic Idealize.ShloMosaic.TcCoe Idealize.ShloMosaic.Tactic Idealize.SL.Sem
open Cert.RefAIdeal.Entries (Real')
open Cert.MixerA.Claims (real_of_below)
open Cert.GateIdeal.Rows

theorem real_args (A : FVec Ideal Cert.Pre_finite_gate.S4096x14336 .bf16) (D : FVec Ideal Cert.Pre_finite_gate.S4096x4096 .f32)
    (U : FVec Ideal Cert.Pre_finite_gate.S4096x2048 .f32) (P : FVec Ideal Cert.Pre_finite_gate.S4096x14336 .bf16) (G B : FVec Ideal Cert.Pre_finite_gate.S1x2048 .f32)
    (h : Cert.Pre_finite_gate.fn (F := Ideal) A D U P G B = fun _ => 1#1) :
    (∀ i, Real' (D i)) ∧ (∀ i, Real' (U i)) ∧ (∀ i, Real' (P i)) ∧ (∀ i, Real' (G i)) ∧ ∀ i, Real' (B i) := by
  have h0 := congrFun h (fun a => a.elim0)
  unfold Cert.Pre_finite_gate.fn Cert.Pre_finite_gate.fn_part1 at h0
  dsimp only at h0
  rw [andi_apply, IntOp.andi_eq_one, andi_apply, IntOp.andi_eq_one, andi_apply, IntOp.andi_eq_one, andi_apply, IntOp.andi_eq_one] at h0
  obtain ⟨⟨⟨⟨hD, hU⟩, hP⟩, hG⟩, hB⟩ := h0
  haveI : Subsingleton Cert.Pre_finite_gate.S_.Idx := ⟨fun i j => funext fun a => a.elim0⟩
  exact ⟨fun i => real_of_below _ (Host.reduce_andi_all _ _ _ _ _ hD i), fun i => real_of_below _ (Host.reduce_andi_all _ _ _ _ _ hU i),
    fun i => real_of_below _ (Host.reduce_andi_all _ _ _ _ _ hP i), fun i => real_of_below _ (Host.reduce_andi_all _ _ _ _ _ hG i),
    fun i => real_of_below _ (Host.reduce_andi_all _ _ _ _ _ hB i)⟩

theorem algebraic : Cert.algebraic_GateIdeal_RefGateIdeal := fun m ρ m' ρ' hpre hag =>
  ⟨result5 m, result6 m, result7 m, result8 m, result9 m,
    (θ_run _ _ _).mono (fun _ h c => ⟨(h c).1.trans (final5 m c), (h c).2.1.trans (final6 m c), (h c).2.2.1.trans (final7 m c),
      (h c).2.2.2.1.trans (final8 m c), (h c).2.2.2.2.1.trans (final9 m c), (h c).2.2.2.2.2⟩) (Cert.GateIdeal.Value.run_blocks m ρ),
    (θ_run _ _ _).mono (fun _ h c => by
      obtain ⟨rD, rU, rP, rG, rB⟩ := real_args _ _ _ _ _ _ (hpre c)
      obtain ⟨a0, a1, a2, a3, a4, a5⟩ := hag c
      refine ⟨(h c).1.trans ?_, (h c).2.1.trans ?_, (h c).2.2.1.trans ?_, (h c).2.2.2.1.trans ?_, (h c).2.2.2.2.1.trans ?_, (h c).2.2.2.2.2⟩
      · refine Eq.trans (b := Cert.RefGateIdeal.Entries.refPlaced (m' ((c.tc : Thread Cert.RefGateIdeal.nD Cert.RefGateIdeal.τ).loc Cert.RefGateIdeal.main_arg0)) (m' ((c.tc : Thread Cert.RefGateIdeal.nD Cert.RefGateIdeal.τ).loc Cert.RefGateIdeal.main_arg1)) (m' ((c.tc : Thread Cert.RefGateIdeal.nD Cert.RefGateIdeal.τ).loc Cert.RefGateIdeal.main_arg2)) (m' ((c.tc : Thread Cert.RefGateIdeal.nD Cert.RefGateIdeal.τ).loc Cert.RefGateIdeal.main_arg3)) (m' ((c.tc : Thread Cert.RefGateIdeal.nD Cert.RefGateIdeal.τ).loc Cert.RefGateIdeal.main_arg4)) (m' ((c.tc : Thread Cert.RefGateIdeal.nD Cert.RefGateIdeal.τ).loc Cert.RefGateIdeal.main_arg5))) rfl ?_
        rw [a0, a1, a2, a3, a4, a5]
        exact Cert.RefGateIdeal.Entries.placed_eq (argA m c) rD rU rP rG rB
      · refine Eq.trans (b := Cert.RefGateIdeal.Entries.inputs (m' ((c.tc : Thread Cert.RefGateIdeal.nD Cert.RefGateIdeal.τ).loc Cert.RefGateIdeal.main_arg1)) (m' ((c.tc : Thread Cert.RefGateIdeal.nD Cert.RefGateIdeal.τ).loc Cert.RefGateIdeal.main_arg2)) (m' ((c.tc : Thread Cert.RefGateIdeal.nD Cert.RefGateIdeal.τ).loc Cert.RefGateIdeal.main_arg3)) (m' ((c.tc : Thread Cert.RefGateIdeal.nD Cert.RefGateIdeal.τ).loc Cert.RefGateIdeal.main_arg4)) (m' ((c.tc : Thread Cert.RefGateIdeal.nD Cert.RefGateIdeal.τ).loc Cert.RefGateIdeal.main_arg5))) rfl ?_
        rw [a1, a2, a3, a4, a5]
        exact Cert.RefGateIdeal.Entries.inputs_eq rD rU rP rG rB
      · refine Eq.trans (b := Cert.RefGateIdeal.Entries.colSum (mulf (Cert.RefGateIdeal.Entries.hats (m' ((c.tc : Thread Cert.RefGateIdeal.nD Cert.RefGateIdeal.τ).loc Cert.RefGateIdeal.main_arg2))) (Cert.RefGateIdeal.Entries.normGrads (m' ((c.tc : Thread Cert.RefGateIdeal.nD Cert.RefGateIdeal.τ).loc Cert.RefGateIdeal.main_arg1)) (m' ((c.tc : Thread Cert.RefGateIdeal.nD Cert.RefGateIdeal.τ).loc Cert.RefGateIdeal.main_arg2)) (m' ((c.tc : Thread Cert.RefGateIdeal.nD Cert.RefGateIdeal.τ).loc Cert.RefGateIdeal.main_arg3)) (m' ((c.tc : Thread Cert.RefGateIdeal.nD Cert.RefGateIdeal.τ).loc Cert.RefGateIdeal.main_arg4)) (m' ((c.tc : Thread Cert.RefGateIdeal.nD Cert.RefGateIdeal.τ).loc Cert.RefGateIdeal.main_arg5))))) rfl ?_
        rw [a1, a2, a3, a4, a5]
        exact Cert.RefGateIdeal.Entries.gain_eq rD rU rP rG rB
      · refine Eq.trans (b := Cert.RefGateIdeal.Entries.colSum (Cert.RefGateIdeal.Entries.normGrads (m' ((c.tc : Thread Cert.RefGateIdeal.nD Cert.RefGateIdeal.τ).loc Cert.RefGateIdeal.main_arg1)) (m' ((c.tc : Thread Cert.RefGateIdeal.nD Cert.RefGateIdeal.τ).loc Cert.RefGateIdeal.main_arg2)) (m' ((c.tc : Thread Cert.RefGateIdeal.nD Cert.RefGateIdeal.τ).loc Cert.RefGateIdeal.main_arg3)) (m' ((c.tc : Thread Cert.RefGateIdeal.nD Cert.RefGateIdeal.τ).loc Cert.RefGateIdeal.main_arg4)) (m' ((c.tc : Thread Cert.RefGateIdeal.nD Cert.RefGateIdeal.τ).loc Cert.RefGateIdeal.main_arg5)))) rfl ?_
        rw [a1, a2, a3, a4, a5]
        exact Cert.RefGateIdeal.Entries.shift_eq rD rU rP rG rB
      · refine Eq.trans (b := Cert.RefGateIdeal.Entries.colSum (Cert.RefGateIdeal.Entries.inputs (m' ((c.tc : Thread Cert.RefGateIdeal.nD Cert.RefGateIdeal.τ).loc Cert.RefGateIdeal.main_arg1)) (m' ((c.tc : Thread Cert.RefGateIdeal.nD Cert.RefGateIdeal.τ).loc Cert.RefGateIdeal.main_arg2)) (m' ((c.tc : Thread Cert.RefGateIdeal.nD Cert.RefGateIdeal.τ).loc Cert.RefGateIdeal.main_arg3)) (m' ((c.tc : Thread Cert.RefGateIdeal.nD Cert.RefGateIdeal.τ).loc Cert.RefGateIdeal.main_arg4)) (m' ((c.tc : Thread Cert.RefGateIdeal.nD Cert.RefGateIdeal.τ).loc Cert.RefGateIdeal.main_arg5)))) rfl ?_
        rw [a1, a2, a3, a4, a5]
        exact Cert.RefGateIdeal.Entries.bias_eq rD rU rP rG rB)
      (Cert.RefGateIdeal.Value.run m' ρ')⟩

/-- The reference ends with its arguments unchanged and every counter at zero. -/
theorem reference_quiescent : Cert.quiescent_RefGateIdeal := fun m ρ _ =>
  (θ_run _ _ _).mono (fun r h => ⟨fun c => (h c).2.2.2.2.2, sem_eq_zero_of_no_sems (by decide) r.2⟩)
    (Cert.RefGateIdeal.Value.run m ρ)

theorem reference_quiescent_finite : Cert.quiescent_RefGateIdeal_pre_finite_gate := fun m ρ _ => reference_quiescent m ρ trivial

theorem quiescent : Cert.quiescent_Gate := fun m ρ _ => Cert.Gate.Gen.frame m ρ
theorem quiescent_ideal : Cert.quiescent_GateIdeal := fun m ρ _ => Cert.GateIdeal.Gen.frame m ρ

end Cert.Gate.Claims

end
-- ==== Proof.lean ====
module

public import proofs.«01_k».proof.Defs
public import proofs.«01_k».proof.Proof.Gen.Dy
public import proofs.«01_k».proof.Proof.Gen.Dy.Skeleton
public import proofs.«01_k».proof.Proof.Gen.Dy.Launch
public import proofs.«01_k».proof.Proof.Gen.Dy.Points
public import proofs.«01_k».proof.Proof.Gen.Dy.Frame
public import proofs.«01_k».proof.Proof.Gen.DyIdeal
public import proofs.«01_k».proof.Proof.Gen.DyIdeal.Skeleton
public import proofs.«01_k».proof.Proof.Gen.DyIdeal.Launch
public import proofs.«01_k».proof.Proof.Gen.DyIdeal.Points
public import proofs.«01_k».proof.Proof.Gen.DyIdeal.Frame
public import proofs.«01_k».proof.Proof.Gen.RefDyIdeal
public import proofs.«01_k».proof.Proof.Gen.GradWOut
public import proofs.«01_k».proof.Proof.Gen.GradWOut.Skeleton
public import proofs.«01_k».proof.Proof.Gen.GradWOut.Launch
public import proofs.«01_k».proof.Proof.Gen.GradWOut.Points
public import proofs.«01_k».proof.Proof.Gen.GradWOut.Frame
public import proofs.«01_k».proof.Proof.Gen.GradWOutIdeal
public import proofs.«01_k».proof.Proof.Gen.GradWOutIdeal.Skeleton
public import proofs.«01_k».proof.Proof.Gen.GradWOutIdeal.Launch
public import proofs.«01_k».proof.Proof.Gen.GradWOutIdeal.Points
public import proofs.«01_k».proof.Proof.Gen.GradWOutIdeal.Frame
public import proofs.«01_k».proof.Proof.Gen.RefGradWOutIdeal
public import proofs.«01_k».proof.Proof.Gen.Dh
public import proofs.«01_k».proof.Proof.Gen.Dh.Skeleton
public import proofs.«01_k».proof.Proof.Gen.Dh.Launch
public import proofs.«01_k».proof.Proof.Gen.Dh.Points
public import proofs.«01_k».proof.Proof.Gen.Dh.Frame
public import proofs.«01_k».proof.Proof.Gen.DhIdeal
public import proofs.«01_k».proof.Proof.Gen.DhIdeal.Skeleton
public import proofs.«01_k».proof.Proof.Gen.DhIdeal.Launch
public import proofs.«01_k».proof.Proof.Gen.DhIdeal.Points
public import proofs.«01_k».proof.Proof.Gen.DhIdeal.Frame
public import proofs.«01_k».proof.Proof.Gen.RefDhIdeal
public import proofs.«01_k».proof.Proof.Gen.DyIdeal.Value
public import proofs.«01_k».proof.Proof.Gen.RefDyIdeal.Run
public import proofs.«01_k».proof.Proof.Gen.GradWOutIdeal.Value
public import proofs.«01_k».proof.Proof.Gen.RefGradWOutIdeal.Run
public import proofs.«01_k».proof.Proof.Gen.DhIdeal.Value
public import proofs.«01_k».proof.Proof.Gen.RefDhIdeal.Run
public import proofs.«01_k».proof.Proof.DyValue
public import proofs.«01_k».proof.Proof.GradWOutValue
public import proofs.«01_k».proof.Proof.DhValue
public import proofs.«01_k».proof.Proof.MixerALaunch
public import proofs.«01_k».proof.Proof.MixerAIdealLaunch
public import proofs.«01_k».proof.Proof.MixerAClaims
public import proofs.«01_k».proof.Proof.Gen.MixerA
public import proofs.«01_k».proof.Proof.Gen.MixerAIdeal
public import proofs.«01_k».proof.Proof.Gen.RefAIdeal
public import proofs.«01_k».proof.Proof.Gen.RefAIdeal.Run
public import proofs.«01_k».proof.Proof.Gen.Pre_finite
public import proofs.«01_k».proof.Proof.Gen.On_mixer_a_columns
public import proofs.«01_k».proof.Proof.Gen.Slot
public import proofs.«01_k».proof.Proof.Gen.Slot.Skeleton
public import proofs.«01_k».proof.Proof.Gen.Slot.Launch
public import proofs.«01_k».proof.Proof.Gen.Slot.Points
public import proofs.«01_k».proof.Proof.Gen.Slot.Frame
public import proofs.«01_k».proof.Proof.Gen.SlotIdeal
public import proofs.«01_k».proof.Proof.Gen.SlotIdeal.Skeleton
public import proofs.«01_k».proof.Proof.Gen.SlotIdeal.Launch
public import proofs.«01_k».proof.Proof.Gen.SlotIdeal.Points
public import proofs.«01_k».proof.Proof.Gen.SlotIdeal.Frame
public import proofs.«01_k».proof.Proof.Gen.RefSlotIdeal
public import proofs.«01_k».proof.Proof.Gen.RefSlotIdeal.Run
public import proofs.«01_k».proof.Proof.Gen.SlotSecond
public import proofs.«01_k».proof.Proof.Gen.SlotSecond.Skeleton
public import proofs.«01_k».proof.Proof.Gen.SlotSecond.Launch
public import proofs.«01_k».proof.Proof.Gen.SlotSecond.Points
public import proofs.«01_k».proof.Proof.Gen.SlotSecond.Frame
public import proofs.«01_k».proof.Proof.Gen.SlotSecondIdeal
public import proofs.«01_k».proof.Proof.Gen.SlotSecondIdeal.Skeleton
public import proofs.«01_k».proof.Proof.Gen.SlotSecondIdeal.Launch
public import proofs.«01_k».proof.Proof.Gen.SlotSecondIdeal.Points
public import proofs.«01_k».proof.Proof.Gen.SlotSecondIdeal.Frame
public import proofs.«01_k».proof.Proof.Gen.RefSlotSecondIdeal
public import proofs.«01_k».proof.Proof.SlotSecondReference
public import proofs.«01_k».proof.Proof.Gen.SlotOwn
public import proofs.«01_k».proof.Proof.Gen.SlotOwn.Skeleton
public import proofs.«01_k».proof.Proof.Gen.SlotOwn.Launch
public import proofs.«01_k».proof.Proof.Gen.SlotOwn.Points
public import proofs.«01_k».proof.Proof.Gen.SlotOwn.Frame
public import proofs.«01_k».proof.Proof.Gen.SlotOwnIdeal
public import proofs.«01_k».proof.Proof.Gen.SlotOwnIdeal.Skeleton
public import proofs.«01_k».proof.Proof.Gen.SlotOwnIdeal.Launch
public import proofs.«01_k».proof.Proof.Gen.SlotOwnIdeal.Points
public import proofs.«01_k».proof.Proof.Gen.SlotOwnIdeal.Frame
public import proofs.«01_k».proof.Proof.Gen.RefSlotOwnIdeal
public import proofs.«01_k».proof.Proof.SlotOwnReference
public import proofs.«01_k».proof.Proof.Gen.Pre_in_range
public import proofs.«01_k».proof.Proof.Gen.Pre_in_range_added
public import proofs.«01_k».proof.Proof.SlotValue
public import proofs.«01_k».proof.Proof.SlotSecondValue
public import proofs.«01_k».proof.Proof.SlotOwnValue
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.PreNorm
public import proofs.«01_k».proof.Proof.Gen.PreNorm.Skeleton
public import proofs.«01_k».proof.Proof.Gen.PreNorm.Launch
public import proofs.«01_k».proof.Proof.Gen.PreNorm.Points
public import proofs.«01_k».proof.Proof.Gen.PreNormIdeal
public import proofs.«01_k».proof.Proof.Gen.PreNormIdeal.Skeleton
public import proofs.«01_k».proof.Proof.Gen.PreNormIdeal.Launch
public import proofs.«01_k».proof.Proof.Gen.PreNormIdeal.Points
public import proofs.«01_k».proof.Proof.Gen.OutProj.Frame
public import proofs.«01_k».proof.Proof.Gen.OutProjIdeal.Frame
public import proofs.«01_k».proof.Proof.Gen.RefOutProjIdeal
public import proofs.«01_k».proof.Proof.Gen.RefPreNormIdeal
public import proofs.«01_k».proof.Proof.Gen.Pre_finite_rows
public import proofs.«01_k».proof.Proof.OutProjValue
public import proofs.«01_k».proof.Proof.PreNormRef
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.RefAdamInIdeal
public import proofs.«01_k».proof.Proof.Gen.RefAdamInIdeal.Run
public import proofs.«01_k».proof.Proof.Gen.AdamOut
public import proofs.«01_k».proof.Proof.Gen.AdamOut.Skeleton
public import proofs.«01_k».proof.Proof.Gen.AdamOut.Launch
public import proofs.«01_k».proof.Proof.Gen.AdamOut.Points
public import proofs.«01_k».proof.Proof.Gen.AdamOut.Frame
public import proofs.«01_k».proof.Proof.Gen.AdamOutIdeal
public import proofs.«01_k».proof.Proof.Gen.AdamOutIdeal.Skeleton
public import proofs.«01_k».proof.Proof.Gen.AdamOutIdeal.Launch
public import proofs.«01_k».proof.Proof.Gen.AdamOutIdeal.Points
public import proofs.«01_k».proof.Proof.Gen.AdamOutIdeal.Frame
public import proofs.«01_k».proof.Proof.Gen.AdamOutIdeal.Value
public import proofs.«01_k».proof.Proof.Gen.RefAdamOutIdeal
public import proofs.«01_k».proof.Proof.Gen.RefAdamOutIdeal.Run
public import proofs.«01_k».proof.Proof.Gen.AdamModel
public import proofs.«01_k».proof.Proof.Gen.AdamModel.Skeleton
public import proofs.«01_k».proof.Proof.Gen.AdamModel.Launch
public import proofs.«01_k».proof.Proof.Gen.AdamModel.Points
public import proofs.«01_k».proof.Proof.Gen.AdamModel.Frame
public import proofs.«01_k».proof.Proof.Gen.AdamModelIdeal
public import proofs.«01_k».proof.Proof.Gen.AdamModelIdeal.Skeleton
public import proofs.«01_k».proof.Proof.Gen.AdamModelIdeal.Launch
public import proofs.«01_k».proof.Proof.Gen.AdamModelIdeal.Points
public import proofs.«01_k».proof.Proof.Gen.AdamModelIdeal.Frame
public import proofs.«01_k».proof.Proof.Gen.AdamModelIdeal.Value
public import proofs.«01_k».proof.Proof.Gen.RefAdamModelIdeal
public import proofs.«01_k».proof.Proof.Gen.RefAdamModelIdeal.Run
public import proofs.«01_k».proof.Proof.Gen.AdamMod
public import proofs.«01_k».proof.Proof.Gen.AdamMod.Skeleton
public import proofs.«01_k».proof.Proof.Gen.AdamMod.Launch
public import proofs.«01_k».proof.Proof.Gen.AdamMod.Points
public import proofs.«01_k».proof.Proof.Gen.AdamMod.Frame
public import proofs.«01_k».proof.Proof.Gen.AdamModIdeal
public import proofs.«01_k».proof.Proof.Gen.AdamModIdeal.Skeleton
public import proofs.«01_k».proof.Proof.Gen.AdamModIdeal.Launch
public import proofs.«01_k».proof.Proof.Gen.AdamModIdeal.Points
public import proofs.«01_k».proof.Proof.Gen.AdamModIdeal.Frame
public import proofs.«01_k».proof.Proof.Gen.AdamModIdeal.Value
public import proofs.«01_k».proof.Proof.Gen.RefAdamModIdeal
public import proofs.«01_k».proof.Proof.Gen.RefAdamModIdeal.Run
public import proofs.«01_k».proof.Proof.Gen.AdamTapsA
public import proofs.«01_k».proof.Proof.Gen.AdamTapsA.Skeleton
public import proofs.«01_k».proof.Proof.Gen.AdamTapsA.Launch
public import proofs.«01_k».proof.Proof.Gen.AdamTapsA.Points
public import proofs.«01_k».proof.Proof.Gen.AdamTapsA.Frame
public import proofs.«01_k».proof.Proof.Gen.AdamTapsAIdeal
public import proofs.«01_k».proof.Proof.Gen.AdamTapsAIdeal.Skeleton
public import proofs.«01_k».proof.Proof.Gen.AdamTapsAIdeal.Launch
public import proofs.«01_k».proof.Proof.Gen.AdamTapsAIdeal.Points
public import proofs.«01_k».proof.Proof.Gen.AdamTapsAIdeal.Frame
public import proofs.«01_k».proof.Proof.Gen.AdamTapsAIdeal.Value
public import proofs.«01_k».proof.Proof.Gen.RefAdamTapsAIdeal
public import proofs.«01_k».proof.Proof.Gen.RefAdamTapsAIdeal.Run
public import proofs.«01_k».proof.Proof.Gen.AdamTapsB
public import proofs.«01_k».proof.Proof.Gen.AdamTapsB.Skeleton
public import proofs.«01_k».proof.Proof.Gen.AdamTapsB.Launch
public import proofs.«01_k».proof.Proof.Gen.AdamTapsB.Points
public import proofs.«01_k».proof.Proof.Gen.AdamTapsB.Frame
public import proofs.«01_k».proof.Proof.Gen.AdamTapsBIdeal
public import proofs.«01_k».proof.Proof.Gen.AdamTapsBIdeal.Skeleton
public import proofs.«01_k».proof.Proof.Gen.AdamTapsBIdeal.Launch
public import proofs.«01_k».proof.Proof.Gen.AdamTapsBIdeal.Points
public import proofs.«01_k».proof.Proof.Gen.AdamTapsBIdeal.Frame
public import proofs.«01_k».proof.Proof.Gen.AdamTapsBIdeal.Value
public import proofs.«01_k».proof.Proof.Gen.RefAdamTapsBIdeal
public import proofs.«01_k».proof.Proof.Gen.RefAdamTapsBIdeal.Run
public import proofs.«01_k».proof.Proof.Gen.AdamMixer
public import proofs.«01_k».proof.Proof.Gen.AdamMixer.Skeleton
public import proofs.«01_k».proof.Proof.Gen.AdamMixer.Launch
public import proofs.«01_k».proof.Proof.Gen.AdamMixer.Points
public import proofs.«01_k».proof.Proof.Gen.AdamMixer.Frame
public import proofs.«01_k».proof.Proof.Gen.AdamMixerIdeal
public import proofs.«01_k».proof.Proof.Gen.AdamMixerIdeal.Skeleton
public import proofs.«01_k».proof.Proof.Gen.AdamMixerIdeal.Launch
public import proofs.«01_k».proof.Proof.Gen.AdamMixerIdeal.Points
public import proofs.«01_k».proof.Proof.Gen.AdamMixerIdeal.Frame
public import proofs.«01_k».proof.Proof.Gen.AdamMixerIdeal.Value
public import proofs.«01_k».proof.Proof.Gen.RefAdamMixerIdeal
public import proofs.«01_k».proof.Proof.Gen.RefAdamMixerIdeal.Run
public import proofs.«01_k».proof.Proof.Gen.AdamAda
public import proofs.«01_k».proof.Proof.Gen.AdamAda.Skeleton
public import proofs.«01_k».proof.Proof.Gen.AdamAda.Launch
public import proofs.«01_k».proof.Proof.Gen.AdamAda.Points
public import proofs.«01_k».proof.Proof.Gen.AdamAda.Frame
public import proofs.«01_k».proof.Proof.Gen.AdamAdaIdeal
public import proofs.«01_k».proof.Proof.Gen.AdamAdaIdeal.Skeleton
public import proofs.«01_k».proof.Proof.Gen.AdamAdaIdeal.Launch
public import proofs.«01_k».proof.Proof.Gen.AdamAdaIdeal.Points
public import proofs.«01_k».proof.Proof.Gen.AdamAdaIdeal.Frame
public import proofs.«01_k».proof.Proof.Gen.RefAdamAdaIdeal
public import proofs.«01_k».proof.Proof.Gen.RefAdamAdaIdeal.Run
public import proofs.«01_k».proof.Proof.AdamInValue
public import proofs.«01_k».proof.Proof.AdamOutValue
public import proofs.«01_k».proof.Proof.AdamModelValue
public import proofs.«01_k».proof.Proof.AdamModValue
public import proofs.«01_k».proof.Proof.AdamTapsAValue
public import proofs.«01_k».proof.Proof.AdamTapsBValue
public import proofs.«01_k».proof.Proof.AdamMixerValue
public import proofs.«01_k».proof.Proof.AdamAdaValue
public import proofs.«01_k».proof.Proof.GateRef
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.RefGateIdeal
public import proofs.«01_k».proof.Proof.Gen.RefGateIdeal.Run
public import proofs.«01_k».proof.Proof.Gen.Pre_finite_gate
public import Idealize.ShloMosaic.Adequacy
public import Idealize.ShloMosaic.Lib.Quiescent
public import Idealize.ShloMosaic.Init

@[expose] public section

noncomputable section

namespace Cert.Proof

open Idealize.ShloMosaic Idealize.SL.Sem

theorem claim : Cert.Claim := ⟨Cert.MixerA.Gen.facts, Cert.MixerAIdeal.Gen.facts, Cert.RefAIdeal.Gen.facts,
  Cert.Dy.Gen.facts, Cert.DyIdeal.Gen.facts, Cert.RefDyIdeal.Gen.facts, Cert.GradWOut.Gen.facts, Cert.GradWOutIdeal.Gen.facts, Cert.RefGradWOutIdeal.Gen.facts, Cert.Dh.Gen.facts, Cert.DhIdeal.Gen.facts, Cert.RefDhIdeal.Gen.facts,
  Cert.Slot.Gen.facts, Cert.SlotIdeal.Gen.facts, Cert.RefSlotIdeal.Gen.facts,
  Cert.SlotSecond.Gen.facts, Cert.SlotSecondIdeal.Gen.facts, Cert.RefSlotSecondIdeal.Gen.facts,
  Cert.SlotOwn.Gen.facts, Cert.SlotOwnIdeal.Gen.facts, Cert.RefSlotOwnIdeal.Gen.facts,
  Cert.OutProj.Gen.facts, Cert.OutProjIdeal.Gen.facts, Cert.RefOutProjIdeal.Gen.facts, Cert.PreNorm.Gen.facts, Cert.PreNormIdeal.Gen.facts, Cert.RefPreNormIdeal.Gen.facts,
  Cert.AdamIn.Gen.facts, Cert.AdamInIdeal.Gen.facts, Cert.RefAdamInIdeal.Gen.facts,
  Cert.AdamOut.Gen.facts, Cert.AdamOutIdeal.Gen.facts, Cert.RefAdamOutIdeal.Gen.facts,
  Cert.AdamModel.Gen.facts, Cert.AdamModelIdeal.Gen.facts, Cert.RefAdamModelIdeal.Gen.facts,
  Cert.AdamMod.Gen.facts, Cert.AdamModIdeal.Gen.facts, Cert.RefAdamModIdeal.Gen.facts,
  Cert.AdamTapsA.Gen.facts, Cert.AdamTapsAIdeal.Gen.facts, Cert.RefAdamTapsAIdeal.Gen.facts,
  Cert.AdamTapsB.Gen.facts, Cert.AdamTapsBIdeal.Gen.facts, Cert.RefAdamTapsBIdeal.Gen.facts,
  Cert.AdamMixer.Gen.facts, Cert.AdamMixerIdeal.Gen.facts, Cert.RefAdamMixerIdeal.Gen.facts,
  Cert.AdamAda.Gen.facts, Cert.AdamAdaIdeal.Gen.facts, Cert.RefAdamAdaIdeal.Gen.facts,
  Cert.Gate.Gen.facts, Cert.GateIdeal.Gen.facts, Cert.RefGateIdeal.Gen.facts,
  Cert.Pre_finite.Gen.facts, Cert.Pre_in_range.Gen.facts, Cert.Pre_in_range_added.Gen.facts, Cert.Pre_finite_rows.Gen.facts, Cert.Pre_finite_gate.Gen.facts, Cert.On_mixer_a_columns.Gen.facts,
  Cert.MixerA.Claims.quiescent, Cert.MixerA.Claims.quiescent_ideal, Cert.MixerA.Claims.quiescent_ideal_finite, Cert.MixerA.Claims.reference_quiescent, Cert.MixerA.Claims.reference_quiescent_finite,
  fun m ρ _ => Cert.Dy.Gen.frame m ρ, fun m ρ _ => Cert.DyIdeal.Gen.frame m ρ, Cert.Dy.Claims.reference_quiescent,
  fun m ρ _ => Cert.GradWOut.Gen.frame m ρ, fun m ρ _ => Cert.GradWOutIdeal.Gen.frame m ρ, Cert.GradWOut.Claims.reference_quiescent,
  fun m ρ _ => Cert.Dh.Gen.frame m ρ, fun m ρ _ => Cert.DhIdeal.Gen.frame m ρ, Cert.Dh.Claims.reference_quiescent,
  Cert.Slot.Claims.quiescent, Cert.Slot.Claims.quiescent_ideal, Cert.Slot.Claims.reference_quiescent, Cert.Slot.Claims.reference_quiescent_in_range,
  Cert.SlotSecond.Claims.quiescent, Cert.SlotSecond.Claims.quiescent_ideal, Cert.SlotSecond.Claims.reference_quiescent, Cert.SlotSecond.Claims.reference_quiescent_in_range,
  Cert.SlotOwn.Claims.quiescent, Cert.SlotOwn.Claims.quiescent_ideal, Cert.SlotOwn.Claims.reference_quiescent, Cert.SlotOwn.Claims.reference_quiescent_in_range,
  fun m ρ _ => Cert.OutProj.Gen.frame m ρ, fun m ρ _ => Cert.OutProjIdeal.Gen.frame m ρ, Cert.OutProj.Claims.reference_quiescent,
  Cert.PreNorm.Claims.quiescent, Cert.PreNorm.Claims.quiescent_ideal, Cert.PreNorm.Claims.reference_quiescent, Cert.PreNorm.Claims.reference_quiescent_finite,
  fun m ρ _ => Cert.AdamIn.Gen.frame m ρ, fun m ρ _ => Cert.AdamInIdeal.Gen.frame m ρ, Cert.AdamIn.Claims.reference_quiescent,
  fun m ρ _ => Cert.AdamOut.Gen.frame m ρ, fun m ρ _ => Cert.AdamOutIdeal.Gen.frame m ρ, Cert.AdamOut.Claims.reference_quiescent,
  fun m ρ _ => Cert.AdamModel.Gen.frame m ρ, fun m ρ _ => Cert.AdamModelIdeal.Gen.frame m ρ, Cert.AdamModel.Claims.reference_quiescent,
  fun m ρ _ => Cert.AdamMod.Gen.frame m ρ, fun m ρ _ => Cert.AdamModIdeal.Gen.frame m ρ, Cert.AdamMod.Claims.reference_quiescent,
  fun m ρ _ => Cert.AdamTapsA.Gen.frame m ρ, fun m ρ _ => Cert.AdamTapsAIdeal.Gen.frame m ρ, Cert.AdamTapsA.Claims.reference_quiescent,
  fun m ρ _ => Cert.AdamTapsB.Gen.frame m ρ, fun m ρ _ => Cert.AdamTapsBIdeal.Gen.frame m ρ, Cert.AdamTapsB.Claims.reference_quiescent,
  fun m ρ _ => Cert.AdamMixer.Gen.frame m ρ, fun m ρ _ => Cert.AdamMixerIdeal.Gen.frame m ρ, Cert.AdamMixer.Claims.reference_quiescent,
  fun m ρ _ => Cert.AdamAda.Gen.frame m ρ, fun m ρ _ => Cert.AdamAdaIdeal.Gen.frame m ρ, Cert.AdamAda.Claims.reference_quiescent,
  Cert.Gate.Claims.quiescent, Cert.Gate.Claims.quiescent_ideal, Cert.Gate.Claims.reference_quiescent, Cert.Gate.Claims.reference_quiescent_finite,
  trivial, Cert.MixerA.Claims.algebraic,
  trivial, Cert.Dy.Claims.algebraic, trivial, Cert.GradWOut.Claims.algebraic, trivial, Cert.Dh.Claims.algebraic,
  trivial, Cert.Slot.Claims.algebraic, trivial, Cert.SlotSecond.Claims.algebraic, trivial, Cert.SlotOwn.Claims.algebraic,
  trivial, Cert.OutProj.Claims.algebraic, trivial, Cert.PreNorm.Claims.algebraic,
  trivial, Cert.AdamIn.Claims.algebraic, trivial, Cert.AdamOut.Claims.algebraic, trivial, Cert.AdamModel.Claims.algebraic, trivial, Cert.AdamMod.Claims.algebraic, trivial, Cert.AdamTapsA.Claims.algebraic, trivial, Cert.AdamTapsB.Claims.algebraic, trivial, Cert.AdamMixer.Claims.algebraic, trivial, Cert.AdamAda.Claims.algebraic,
  trivial, Cert.Gate.Claims.algebraic⟩

end Cert.Proof

end
